-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gate [hPre_finite_gate : Cert.Pre_finite_gate.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackIdeal_finite_back [hPre_finite_back : Cert.Pre_finite_back.Facts] (m : (ℓ : Loc Cert.BackIdeal.nD Cert.BackIdeal.τ Cert.BackIdeal.sig) → Buf (Elt Ideal) ℓ) : Prop :=
  ∀ c : Dev Cert.BackIdeal.nD,
    (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6))) = (fun _ => 1#1)

def Pre_BackReferenceIdeal (m : (ℓ : Loc Cert.BackReferenceIdeal.nD Cert.BackReferenceIdeal.τ Cert.BackReferenceIdeal.sig) → Buf (Elt Ideal) ℓ) : Prop :=
  True

def Pre_BackReferenceIdeal_finite_back [hPre_finite_back : Cert.Pre_finite_back.Facts] (m : (ℓ : Loc Cert.BackReferenceIdeal.nD Cert.BackReferenceIdeal.τ Cert.BackReferenceIdeal.sig) → Buf (Elt Ideal) ℓ) : Prop :=
  ∀ c : Dev Cert.BackReferenceIdeal.nD,
    (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_finite_gate [hGateReferenceIdeal : Cert.GateReferenceIdeal.Facts] [hPre_finite_gate : Cert.Pre_finite_gate.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gate m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1)
      ∧ r.2.mem ((c.tc : Thread Cert.WIn.nD Cert.WIn.τ).loc Cert.WIn.main_arg2) = m ((c.tc : Thread Cert.WIn.nD Cert.WIn.τ).loc Cert.WIn.main_arg2)
      ∧ r.2.mem ((c.tc : Thread Cert.WIn.nD Cert.WIn.τ).loc Cert.WIn.main_arg3) = m ((c.tc : Thread Cert.WIn.nD Cert.WIn.τ).loc Cert.WIn.main_arg3)
      ∧ r.2.mem ((c.tc : Thread Cert.WIn.nD Cert.WIn.τ).loc Cert.WIn.main_arg4) = m ((c.tc : Thread Cert.WIn.nD Cert.WIn.τ).loc Cert.WIn.main_arg4)
      ∧ r.2.mem ((c.tc : Thread Cert.WIn.nD Cert.WIn.τ).loc Cert.WIn.main_arg5) = m ((c.tc : Thread Cert.WIn.nD Cert.WIn.τ).loc Cert.WIn.main_arg5)
      ∧ r.2.mem ((c.tc : Thread Cert.WIn.nD Cert.WIn.τ).loc Cert.WIn.main_arg6) = m ((c.tc : Thread Cert.WIn.nD Cert.WIn.τ).loc Cert.WIn.main_arg6))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
      ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
      ∧ r.2.mem ((c.tc : Thread Cert.WInIdeal.nD Cert.WInIdeal.τ).loc Cert.WInIdeal.main_arg3) = m ((c.tc : Thread Cert.WInIdeal.nD Cert.WInIdeal.τ).loc Cert.WInIdeal.main_arg3)
      ∧ r.2.mem ((c.tc : Thread Cert.WInIdeal.nD Cert.WInIdeal.τ).loc Cert.WInIdeal.main_arg4) = m ((c.tc : Thread Cert.WInIdeal.nD Cert.WInIdeal.τ).loc Cert.WInIdeal.main_arg4)
      ∧ r.2.mem ((c.tc : Thread Cert.WInIdeal.nD Cert.WInIdeal.τ).loc Cert.WInIdeal.main_arg5) = m ((c.tc : Thread Cert.WInIdeal.nD Cert.WInIdeal.τ).loc Cert.WInIdeal.main_arg5)
      ∧ r.2.mem ((c.tc : Thread Cert.WInIdeal.nD Cert.WInIdeal.τ).loc Cert.WInIdeal.main_arg6) = m ((c.tc : Thread Cert.WInIdeal.nD Cert.WInIdeal.τ).loc Cert.WInIdeal.main_arg6))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1)
      ∧ r.2.mem ((c.tc : Thread Cert.WInReferenceIdeal.nD Cert.WInReferenceIdeal.τ).loc Cert.WInReferenceIdeal.main_arg2) = m ((c.tc : Thread Cert.WInReferenceIdeal.nD Cert.WInReferenceIdeal.τ).loc Cert.WInReferenceIdeal.main_arg2)
      ∧ r.2.mem ((c.tc : Thread Cert.WInReferenceIdeal.nD Cert.WInReferenceIdeal.τ).loc Cert.WInReferenceIdeal.main_arg3) = m ((c.tc : Thread Cert.WInReferenceIdeal.nD Cert.WInReferenceIdeal.τ).loc Cert.WInReferenceIdeal.main_arg3)
      ∧ r.2.mem ((c.tc : Thread Cert.WInReferenceIdeal.nD Cert.WInReferenceIdeal.τ).loc Cert.WInReferenceIdeal.main_arg4) = m ((c.tc : Thread Cert.WInReferenceIdeal.nD Cert.WInReferenceIdeal.τ).loc Cert.WInReferenceIdeal.main_arg4)
      ∧ r.2.mem ((c.tc : Thread Cert.WInReferenceIdeal.nD Cert.WInReferenceIdeal.τ).loc Cert.WInReferenceIdeal.main_arg5) = m ((c.tc : Thread Cert.WInReferenceIdeal.nD Cert.WInReferenceIdeal.τ).loc Cert.WInReferenceIdeal.main_arg5)
      ∧ r.2.mem ((c.tc : Thread Cert.WInReferenceIdeal.nD Cert.WInReferenceIdeal.τ).loc Cert.WInReferenceIdeal.main_arg6) = m ((c.tc : Thread Cert.WInReferenceIdeal.nD Cert.WInReferenceIdeal.τ).loc Cert.WInReferenceIdeal.main_arg6))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1)
      ∧ r.2.mem ((c.tc : Thread Cert.WOutReferenceIdeal.nD Cert.WOutReferenceIdeal.τ).loc Cert.WOutReferenceIdeal.main_arg2) = m ((c.tc : Thread Cert.WOutReferenceIdeal.nD Cert.WOutReferenceIdeal.τ).loc Cert.WOutReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6))
      ∧ r.2.sem = fun _ => 0)

def quiescent_BackIdeal_pre_finite_back [hBackIdeal : Cert.BackIdeal.Facts] [hPre_finite_back : Cert.Pre_finite_back.Facts] : Prop :=
  ∀ (m : (ℓ : Loc Cert.BackIdeal.nD Cert.BackIdeal.τ Cert.BackIdeal.sig) → Buf (Elt Ideal) ℓ) (g : Dev Cert.BackIdeal.nD → PrngReg), Pre_BackIdeal_finite_back m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6))
      ∧ r.2.sem = fun _ => 0)

def quiescent_BackReferenceIdeal_pre_finite_back [hBackReferenceIdeal : Cert.BackReferenceIdeal.Facts] [hPre_finite_back : Cert.Pre_finite_back.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal_finite_back m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Gate_GateIdeal : Prop :=
  True

def algebraic_GateIdeal_GateReferenceIdeal_pre_finite_gate [hGateIdeal : Cert.GateIdeal.Facts] [hGateReferenceIdeal : Cert.GateReferenceIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_finite_gate m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v14) = v0 c
          ∧ r.2.mem ((c.tc : Thread Cert.GateReferenceIdeal.nD Cert.GateReferenceIdeal.τ).loc Cert.GateReferenceIdeal.main_v15) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v10) = v0 c
          ∧ r.2.mem ((c.tc : Thread Cert.FfnReferenceIdeal.nD Cert.FfnReferenceIdeal.τ).loc Cert.FfnReferenceIdeal.main_v11) = v1 c
          ∧ r.2.mem ((c.tc : Thread Cert.FfnReferenceIdeal.nD Cert.FfnReferenceIdeal.τ).loc Cert.FfnReferenceIdeal.main_v14) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v29) = v0 c
          ∧ r.2.mem ((c.tc : Thread Cert.NormReferenceIdeal.nD Cert.NormReferenceIdeal.τ).loc Cert.NormReferenceIdeal.main_v31) = v1 c
          ∧ r.2.mem ((c.tc : Thread Cert.NormReferenceIdeal.nD Cert.NormReferenceIdeal.τ).loc Cert.NormReferenceIdeal.main_v23) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v5) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v22) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_WIn_WInIdeal : Prop :=
  True

def algebraic_WInIdeal_WInReferenceIdeal [hWInIdeal : Cert.WInIdeal.Facts] [hWInReferenceIdeal : Cert.WInReferenceIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInIdeal m →
    (∀ c : Dev Cert.WInIdeal.nD,
      m' ((c.tc : Thread Cert.WInReferenceIdeal.nD Cert.WInReferenceIdeal.τ).loc Cert.WInReferenceIdeal.main_arg0) = m ((c.tc : Thread Cert.WInIdeal.nD Cert.WInIdeal.τ).loc Cert.WInIdeal.main_arg0)
      ∧ m' ((c.tc : Thread Cert.WInReferenceIdeal.nD Cert.WInReferenceIdeal.τ).loc Cert.WInReferenceIdeal.main_arg1) = m ((c.tc : Thread Cert.WInIdeal.nD Cert.WInIdeal.τ).loc Cert.WInIdeal.main_arg1)
      ∧ m' ((c.tc : Thread Cert.WInReferenceIdeal.nD Cert.WInReferenceIdeal.τ).loc Cert.WInReferenceIdeal.main_arg2) = m ((c.tc : Thread Cert.WInIdeal.nD Cert.WInIdeal.τ).loc Cert.WInIdeal.main_arg2)
      ∧ m' ((c.tc : Thread Cert.WInReferenceIdeal.nD Cert.WInReferenceIdeal.τ).loc Cert.WInReferenceIdeal.main_arg3) = m ((c.tc : Thread Cert.WInIdeal.nD Cert.WInIdeal.τ).loc Cert.WInIdeal.main_arg3)
      ∧ m' ((c.tc : Thread Cert.WInReferenceIdeal.nD Cert.WInReferenceIdeal.τ).loc Cert.WInReferenceIdeal.main_arg4) = m ((c.tc : Thread Cert.WInIdeal.nD Cert.WInIdeal.τ).loc Cert.WInIdeal.main_arg4)
      ∧ m' ((c.tc : Thread Cert.WInReferenceIdeal.nD Cert.WInReferenceIdeal.τ).loc Cert.WInReferenceIdeal.main_arg5) = m ((c.tc : Thread Cert.WInIdeal.nD Cert.WInIdeal.τ).loc Cert.WInIdeal.main_arg5)
      ∧ m' ((c.tc : Thread Cert.WInReferenceIdeal.nD Cert.WInReferenceIdeal.τ).loc Cert.WInReferenceIdeal.main_arg6) = m ((c.tc : Thread Cert.WInIdeal.nD Cert.WInIdeal.τ).loc Cert.WInIdeal.main_arg6)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
          ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
          ∧ r.2.mem ((c.tc : Thread Cert.WInIdeal.nD Cert.WInIdeal.τ).loc Cert.WInIdeal.main_arg3) = m ((c.tc : Thread Cert.WInIdeal.nD Cert.WInIdeal.τ).loc Cert.WInIdeal.main_arg3)
          ∧ r.2.mem ((c.tc : Thread Cert.WInIdeal.nD Cert.WInIdeal.τ).loc Cert.WInIdeal.main_arg4) = m ((c.tc : Thread Cert.WInIdeal.nD Cert.WInIdeal.τ).loc Cert.WInIdeal.main_arg4)
          ∧ r.2.mem ((c.tc : Thread Cert.WInIdeal.nD Cert.WInIdeal.τ).loc Cert.WInIdeal.main_arg5) = m ((c.tc : Thread Cert.WInIdeal.nD Cert.WInIdeal.τ).loc Cert.WInIdeal.main_arg5)
          ∧ r.2.mem ((c.tc : Thread Cert.WInIdeal.nD Cert.WInIdeal.τ).loc Cert.WInIdeal.main_arg6) = m ((c.tc : Thread Cert.WInIdeal.nD Cert.WInIdeal.τ).loc Cert.WInIdeal.main_arg6))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v7) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1)
          ∧ r.2.mem ((c.tc : Thread Cert.WInReferenceIdeal.nD Cert.WInReferenceIdeal.τ).loc Cert.WInReferenceIdeal.main_arg2) = m' ((c.tc : Thread Cert.WInReferenceIdeal.nD Cert.WInReferenceIdeal.τ).loc Cert.WInReferenceIdeal.main_arg2)
          ∧ r.2.mem ((c.tc : Thread Cert.WInReferenceIdeal.nD Cert.WInReferenceIdeal.τ).loc Cert.WInReferenceIdeal.main_arg3) = m' ((c.tc : Thread Cert.WInReferenceIdeal.nD Cert.WInReferenceIdeal.τ).loc Cert.WInReferenceIdeal.main_arg3)
          ∧ r.2.mem ((c.tc : Thread Cert.WInReferenceIdeal.nD Cert.WInReferenceIdeal.τ).loc Cert.WInReferenceIdeal.main_arg4) = m' ((c.tc : Thread Cert.WInReferenceIdeal.nD Cert.WInReferenceIdeal.τ).loc Cert.WInReferenceIdeal.main_arg4)
          ∧ r.2.mem ((c.tc : Thread Cert.WInReferenceIdeal.nD Cert.WInReferenceIdeal.τ).loc Cert.WInReferenceIdeal.main_arg5) = m' ((c.tc : Thread Cert.WInReferenceIdeal.nD Cert.WInReferenceIdeal.τ).loc Cert.WInReferenceIdeal.main_arg5)
          ∧ r.2.mem ((c.tc : Thread Cert.WInReferenceIdeal.nD Cert.WInReferenceIdeal.τ).loc Cert.WInReferenceIdeal.main_arg6) = m' ((c.tc : Thread Cert.WInReferenceIdeal.nD Cert.WInReferenceIdeal.τ).loc Cert.WInReferenceIdeal.main_arg6))

def preserves_WOut_WOutIdeal : Prop :=
  True

def algebraic_WOutIdeal_WOutReferenceIdeal [hWOutIdeal : Cert.WOutIdeal.Facts] [hWOutReferenceIdeal : Cert.WOutReferenceIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutIdeal m →
    (∀ c : Dev Cert.WOutIdeal.nD,
      m' ((c.tc : Thread Cert.WOutReferenceIdeal.nD Cert.WOutReferenceIdeal.τ).loc Cert.WOutReferenceIdeal.main_arg0) = m ((c.tc : Thread Cert.WOutIdeal.nD Cert.WOutIdeal.τ).loc Cert.WOutIdeal.main_arg0)
      ∧ m' ((c.tc : Thread Cert.WOutReferenceIdeal.nD Cert.WOutReferenceIdeal.τ).loc Cert.WOutReferenceIdeal.main_arg1) = m ((c.tc : Thread Cert.WOutIdeal.nD Cert.WOutIdeal.τ).loc Cert.WOutIdeal.main_arg1)
      ∧ m' ((c.tc : Thread Cert.WOutReferenceIdeal.nD Cert.WOutReferenceIdeal.τ).loc Cert.WOutReferenceIdeal.main_arg2) = m ((c.tc : Thread Cert.WOutIdeal.nD Cert.WOutIdeal.τ).loc Cert.WOutIdeal.main_arg2)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v8) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1)
          ∧ r.2.mem ((c.tc : Thread Cert.WOutReferenceIdeal.nD Cert.WOutReferenceIdeal.τ).loc Cert.WOutReferenceIdeal.main_arg2) = m' ((c.tc : Thread Cert.WOutReferenceIdeal.nD Cert.WOutReferenceIdeal.τ).loc Cert.WOutReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v29) = v0 c
          ∧ r.2.mem ((c.tc : Thread Cert.OutReferenceIdeal.nD Cert.OutReferenceIdeal.τ).loc Cert.OutReferenceIdeal.main_v31) = v1 c
          ∧ r.2.mem ((c.tc : Thread Cert.OutReferenceIdeal.nD Cert.OutReferenceIdeal.τ).loc Cert.OutReferenceIdeal.main_v23) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Back_BackIdeal : Prop :=
  True

def algebraic_BackIdeal_BackReferenceIdeal_pre_finite_back [hBackIdeal : Cert.BackIdeal.Facts] [hBackReferenceIdeal : Cert.BackReferenceIdeal.Facts] [hPre_finite_back : Cert.Pre_finite_back.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal_finite_back m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)
      ∧ m' ((c.tc : Thread Cert.BackReferenceIdeal.nD Cert.BackReferenceIdeal.τ).loc Cert.BackReferenceIdeal.main_arg6) = m ((c.tc : Thread Cert.BackIdeal.nD Cert.BackIdeal.τ).loc Cert.BackIdeal.main_arg6)) →
    ∃ (v0 : (c : Dev Cert.BackIdeal.nD) → Buf (Elt Ideal) ((c.tc : Thread Cert.BackIdeal.nD Cert.BackIdeal.τ).loc Cert.BackIdeal.main_v16_0)) (v1 : (c : Dev Cert.BackIdeal.nD) → Buf (Elt Ideal) ((c.tc : Thread Cert.BackIdeal.nD Cert.BackIdeal.τ).loc Cert.BackIdeal.main_v16_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v16_0) = v0 c
          ∧ r.2.mem ((c.tc : Thread Cert.BackIdeal.nD Cert.BackIdeal.τ).loc Cert.BackIdeal.main_v16_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v67) = v0 c
          ∧ r.2.mem ((c.tc : Thread Cert.BackReferenceIdeal.nD Cert.BackReferenceIdeal.τ).loc Cert.BackReferenceIdeal.main_v68) = v1 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hGate : Cert.Gate.Facts) (hGateIdeal : Cert.GateIdeal.Facts) (hGateReferenceIdeal : Cert.GateReferenceIdeal.Facts) (hFfn : Cert.Ffn.Facts) (hFfnIdeal : Cert.FfnIdeal.Facts) (hFfnReferenceIdeal : Cert.FfnReferenceIdeal.Facts) (hNorm : Cert.Norm.Facts) (hNormIdeal : Cert.NormIdeal.Facts) (hNormReferenceIdeal : Cert.NormReferenceIdeal.Facts) (hQkv : Cert.Qkv.Facts) (hQkvIdeal : Cert.QkvIdeal.Facts) (hQkvReferenceIdeal : Cert.QkvReferenceIdeal.Facts) (hDx : Cert.Dx.Facts) (hDxIdeal : Cert.DxIdeal.Facts) (hDxReferenceIdeal : Cert.DxReferenceIdeal.Facts) (hWIn : Cert.WIn.Facts) (hWInIdeal : Cert.WInIdeal.Facts) (hWInReferenceIdeal : Cert.WInReferenceIdeal.Facts) (hWOut : Cert.WOut.Facts) (hWOutIdeal : Cert.WOutIdeal.Facts) (hWOutReferenceIdeal : Cert.WOutReferenceIdeal.Facts) (hOut : Cert.Out.Facts) (hOutIdeal : Cert.OutIdeal.Facts) (hOutReferenceIdeal : Cert.OutReferenceIdeal.Facts) (hBack : Cert.Back.Facts) (hBackIdeal : Cert.BackIdeal.Facts) (hBackReferenceIdeal : Cert.BackReferenceIdeal.Facts) (hPre_finite : Cert.Pre_finite.Facts) (hPre_finite_gate : Cert.Pre_finite_gate.Facts) (hPre_finite_back : Cert.Pre_finite_back.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateReferenceIdeal (hGateReferenceIdeal := hGateReferenceIdeal)
    ∧ quiescent_GateReferenceIdeal_pre_finite_gate (hGateReferenceIdeal := hGateReferenceIdeal) (hPre_finite_gate := hPre_finite_gate)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Dx (hDx := hDx)
    ∧ quiescent_DxIdeal (hDxIdeal := hDxIdeal)
    ∧ quiescent_DxReferenceIdeal (hDxReferenceIdeal := hDxReferenceIdeal)
    ∧ quiescent_WIn (hWIn := hWIn)
    ∧ quiescent_WInIdeal (hWInIdeal := hWInIdeal)
    ∧ quiescent_WInReferenceIdeal (hWInReferenceIdeal := hWInReferenceIdeal)
    ∧ quiescent_WOut (hWOut := hWOut)
    ∧ quiescent_WOutIdeal (hWOutIdeal := hWOutIdeal)
    ∧ quiescent_WOutReferenceIdeal (hWOutReferenceIdeal := hWOutReferenceIdeal)
    ∧ quiescent_Out (hOut := hOut)
    ∧ quiescent_OutIdeal (hOutIdeal := hOutIdeal)
    ∧ quiescent_OutReferenceIdeal (hOutReferenceIdeal := hOutReferenceIdeal)
    ∧ quiescent_Back (hBack := hBack)
    ∧ quiescent_BackIdeal (hBackIdeal := hBackIdeal)
    ∧ quiescent_BackIdeal_pre_finite_back (hBackIdeal := hBackIdeal) (hPre_finite_back := hPre_finite_back)
    ∧ quiescent_BackReferenceIdeal (hBackReferenceIdeal := hBackReferenceIdeal)
    ∧ quiescent_BackReferenceIdeal_pre_finite_back (hBackReferenceIdeal := hBackReferenceIdeal) (hPre_finite_back := hPre_finite_back)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Gate_GateIdeal
    ∧ algebraic_GateIdeal_GateReferenceIdeal_pre_finite_gate (hGateIdeal := hGateIdeal) (hGateReferenceIdeal := hGateReferenceIdeal) (hPre_finite_gate := hPre_finite_gate)
    ∧ preserves_Ffn_FfnIdeal
    ∧ algebraic_FfnIdeal_FfnReferenceIdeal (hFfnIdeal := hFfnIdeal) (hFfnReferenceIdeal := hFfnReferenceIdeal)
    ∧ preserves_Norm_NormIdeal
    ∧ algebraic_NormIdeal_NormReferenceIdeal (hNormIdeal := hNormIdeal) (hNormReferenceIdeal := hNormReferenceIdeal)
    ∧ preserves_Qkv_QkvIdeal
    ∧ algebraic_QkvIdeal_QkvReferenceIdeal (hQkvIdeal := hQkvIdeal) (hQkvReferenceIdeal := hQkvReferenceIdeal)
    ∧ preserves_Dx_DxIdeal
    ∧ algebraic_DxIdeal_DxReferenceIdeal (hDxIdeal := hDxIdeal) (hDxReferenceIdeal := hDxReferenceIdeal)
    ∧ preserves_WIn_WInIdeal
    ∧ algebraic_WInIdeal_WInReferenceIdeal (hWInIdeal := hWInIdeal) (hWInReferenceIdeal := hWInReferenceIdeal)
    ∧ preserves_WOut_WOutIdeal
    ∧ algebraic_WOutIdeal_WOutReferenceIdeal (hWOutIdeal := hWOutIdeal) (hWOutReferenceIdeal := hWOutReferenceIdeal)
    ∧ preserves_Out_OutIdeal
    ∧ algebraic_OutIdeal_OutReferenceIdeal (hOutIdeal := hOutIdeal) (hOutReferenceIdeal := hOutReferenceIdeal)
    ∧ preserves_Back_BackIdeal
    ∧ algebraic_BackIdeal_BackReferenceIdeal_pre_finite_back (hBackIdeal := hBackIdeal) (hBackReferenceIdeal := hBackReferenceIdeal) (hPre_finite_back := hPre_finite_back)
-- ==== Pre_finite.lean ====
abbrev S8192x3072 : Shape := ⟨2, ![8192, 3072]⟩
abbrev S8x257 : Shape := ⟨2, ![8, 257]⟩
abbrev S8192x512 : Shape := ⟨2, ![8192, 512]⟩
abbrev S8192x1536 : Shape := ⟨2, ![8192, 1536]⟩
abbrev S_ : Shape := ⟨0, ![]⟩

class Facts : Prop where
  slices_S8192x3072_S8192x1536_0_1536 : S8192x3072.Slices ![0, 1536] S8192x1536
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x3072 .bf16) (main_arg1 : FVec F S8x257 .f32) (main_arg2 : FVec F S8192x512 .bf16) : IVec S_ 1 :=
  let main_v0 : FVec F S8192x1536 .bf16 := (extractStridedSlice S8192x1536 ![0, 1536] · slices_S8192x3072_S8192x1536_0_1536) main_arg0
  let main_v1 : FVec F S8192x1536 .f32 := (extf .f32 · bitsLt_bf16_f32) main_v0
  let main_v2 : FVec F S8192x1536 .f32 := Host.absf main_v1
  let main_cst : FVec F S_ .f32 := constant S_ .f32 0x7F800000#32
  let main_v3 : FVec F S8192x1536 .f32 := broadcastInDim S8192x1536 ![] bcast_S_S8192x1536 main_cst
  let main_v4 : IVec S8192x1536 1 := cmpf .olt main_v2 main_v3
  let main_c : IVec S_ 1 := constantI S_ 1 1#1
  let main_v5 : IVec S_ 1 := (fun x v => Host.reduce IntOp.andi x v reducesTo_S8192x1536_S_d0_1 h_S_) main_v4 main_c
  let main_v6 : FVec F S8x257 .f32 := Host.absf main_arg1
  let main_cst_0 : FVec F S_ .f32 := constant S_ .f32 0x7F800000#32
  let main_v7 : FVec F S8x257 .f32 := broadcastInDim S8x257 ![] bcast_S_S8x257 main_cst_0
  let main_v8 : IVec S8x257 1 := cmpf .olt main_v6 main_v7
  let main_c_1 : IVec S_ 1 := constantI S_ 1 1#1
  let main_v9 : IVec S_ 1 := (fun x v => Host.reduce IntOp.andi x v reducesTo_S8x257_S_d0_1 h_S_) main_v8 main_c_1
  let main_v10 : IVec S_ 1 := andi main_v5 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  main_v16
-- ==== Pre_finite_back.lean ====
abbrev S4x8192x704 : Shape := ⟨3, ![4, 8192, 704]⟩
abbrev S4x4x1024x704 : Shape := ⟨4, ![4, 4, 1024, 704]⟩
abbrev S8192x1024 : Shape := ⟨2, ![8192, 1024]⟩
abbrev S1x1024 : Shape := ⟨2, ![1, 1024]⟩
abbrev S_ : Shape := ⟨0, ![]⟩
abbrev S1x4x1024x704 : Shape := ⟨4, ![1, 4, 1024, 704]⟩
abbrev S4x1024x704 : Shape := ⟨3, ![4, 1024, 704]⟩

class Facts : Prop where
  bitsLt_bf16_f32 : FTy.bits .bf16 < FTy.bits .f32
  bcast_S_S4x8192x704 : S_.BroadcastsInDim S4x8192x704 (![] : Fin 0 → Fin S4x8192x704.rank)
  reducesTo_S4x8192x704_S_d0_1_2 : S4x8192x704.ReducesTo [0, 1, 2] S_
  h_S_ : 0 < S_.numel
  slices_S4x4x1024x704_S1x4x1024x704_3_0_0_0 : S4x4x1024x704.Slices ![3, 0, 0, 0] S1x4x1024x704
  shapeCasts_S1x4x1024x704_S4x1024x704 : S1x4x1024x704.ShapeCasts S4x1024x704
  bcast_S_S4x1024x704 : S_.BroadcastsInDim S4x1024x704 (![] : Fin 0 → Fin S4x1024x704.rank)
  reducesTo_S4x1024x704_S_d0_1_2 : S4x1024x704.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v31 : IVec S_ 1) (main_v35 : IVec S_ 1) : IVec S_ 1 :=
  let main_v36 : IVec S_ 1 := andi main_v31 main_v35
  main_v36

def fn_part1 {F : FTy → Type} [FloatOps F] (main_arg3 : FVec F S4x4x1024x704 .bf16) (main_arg4 : FVec F S8192x1024 .f32) (main_arg6 : FVec F S1x1024 .f32) (main_v10 : IVec S_ 1) (main_v17 : IVec S_ 1) : IVec S_ 1 :=
  let main_v18 : IVec S_ 1 := andi main_v10 main_v17
  let main_v19 : FVec F S1x4x1024x704 .bf16 := (extractStridedSlice S1x4x1024x704 ![3, 0, 0, 0] · slices_S4x4x1024x704_S1x4x1024x704_3_0_0_0) main_arg3
  let main_v20 : FVec F S4x1024x704 .bf16 := shapeCast S4x1024x704 main_v19 shapeCasts_S1x4x1024x704_S4x1024x704
  let main_v21 : FVec F S4x1024x704 .f32 := (extf .f32 · bitsLt_bf16_f32) main_v20
  let main_v22 : FVec F S4x1024x704 .f32 := Host.absf main_v21
  let main_cst_4 : FVec F S_ .f32 := constant S_ .f32 0x7F800000#32
  let main_v23 : FVec F S4x1024x704 .f32 := broadcastInDim S4x1024x704 ![] bcast_S_S4x1024x704 main_cst_4
  let main_v24 : IVec S4x1024x704 1 := cmpf .olt main_v22 main_v23
  let main_c_5 : IVec S_ 1 := constantI S_ 1 1#1
  let main_v25 : IVec S_ 1 := (fun x v => Host.reduce IntOp.andi x v reducesTo_S4x1024x704_S_d0_1_2 h_S_) main_v24 main_c_5
  let main_v26 : IVec S_ 1 := andi main_v18 main_v25
  let main_v27 : FVec F S8192x1024 .f32 := Host.absf main_arg4
  let main_cst_6 : FVec F S_ .f32 := constant S_ .f32 0x7F800000#32
  let main_v28 : FVec F S8192x1024 .f32 := broadcastInDim S8192x1024 ![] bcast_S_S8192x1024 main_cst_6
  let main_v29 : IVec S8192x1024 1 := cmpf .olt main_v27 main_v28
  let main_c_7 : IVec S_ 1 := constantI S_ 1 1#1
  let main_v30 : IVec S_ 1 := (fun x v => Host.reduce IntOp.andi x v reducesTo_S8192x1024_S_d0_1 h_S_) main_v29 main_c_7
  let main_v31 : IVec S_ 1 := andi main_v26 main_v30
  let main_v32 : FVec F S1x1024 .f32 := Host.absf main_arg6
  let main_cst_8 : FVec F S_ .f32 := constant S_ .f32 0x7F800000#32
  let main_v33 : FVec F S1x1024 .f32 := broadcastInDim S1x1024 ![] bcast_S_S1x1024 main_cst_8
  let main_v34 : IVec S1x1024 1 := cmpf .olt main_v32 main_v33
  let main_c_9 : IVec S_ 1 := constantI S_ 1 1#1
  let main_v35 : IVec S_ 1 := (fun x v => Host.reduce IntOp.andi x v reducesTo_S1x1024_S_d0_1 h_S_) main_v34 main_c_9
  fn_part2 (F := F) main_v31 main_v35

def fn {F : FTy → Type} [FloatOps F] (main_arg0 : FVec F S4x8192x704 .bf16) (main_arg1 : FVec F S4x8192x704 .bf16) (main_arg2 : FVec F S4x4x1024x704 .bf16) (main_arg3 : FVec F S4x4x1024x704 .bf16) (main_arg4 : FVec F S8192x1024 .f32) (main_arg5 : FVec F S8192x1024 .f32) (main_arg6 : FVec F S1x1024 .f32) : IVec S_ 1 :=
  let main_v0 : FVec F S4x8192x704 .f32 := (extf .f32 · bitsLt_bf16_f32) main_arg0
  let main_v1 : FVec F S4x8192x704 .f32 := Host.absf main_v0
  let main_cst : FVec F S_ .f32 := constant S_ .f32 0x7F800000#32
  let main_v2 : FVec F S4x8192x704 .f32 := broadcastInDim S4x8192x704 ![] bcast_S_S4x8192x704 main_cst
  let main_v3 : IVec S4x8192x704 1 := cmpf .olt main_v1 main_v2
  let main_c : IVec S_ 1 := constantI S_ 1 1#1
  let main_v4 : IVec S_ 1 := (fun x v => Host.reduce IntOp.andi x v reducesTo_S4x8192x704_S_d0_1_2 h_S_) main_v3 main_c
  let main_v5 : FVec F S4x8192x704 .f32 := (extf .f32 · bitsLt_bf16_f32) main_arg1
  let main_v6 : FVec F S4x8192x704 .f32 := Host.absf main_v5
  let main_cst_0 : FVec F S_ .f32 := constant S_ .f32 0x7F800000#32
  let main_v7 : FVec F S4x8192x704 .f32 := broadcastInDim S4x8192x704 ![] bcast_S_S4x8192x704 main_cst_0
  let main_v8 : IVec S4x8192x704 1 := cmpf .olt main_v6 main_v7
  let main_c_1 : IVec S_ 1 := constantI S_ 1 1#1
  let main_v9 : IVec S_ 1 := (fun x v => Host.reduce IntOp.andi x v reducesTo_S4x8192x704_S_d0_1_2 h_S_) main_v8 main_c_1
  let main_v10 : IVec S_ 1 := andi main_v4 main_v9
  let main_v11 : FVec F S1x4x1024x704 .bf16 := (extractStridedSlice S1x4x1024x704 ![3, 0, 0, 0] · slices_S4x4x1024x704_S1x4x1024x704_3_0_0_0) main_arg2
  let main_v12 : FVec F S4x1024x704 .bf16 := shapeCast S4x1024x704 main_v11 shapeCasts_S1x4x1024x704_S4x1024x704
  let main_v13 : FVec F S4x1024x704 .f32 := (extf .f32 · bitsLt_bf16_f32) main_v12
  let main_v14 : FVec F S4x1024x704 .f32 := Host.absf main_v13
  let main_cst_2 : FVec F S_ .f32 := constant S_ .f32 0x7F800000#32
  let main_v15 : FVec F S4x1024x704 .f32 := broadcastInDim S4x1024x704 ![] bcast_S_S4x1024x704 main_cst_2
  let main_v16 : IVec S4x1024x704 1 := cmpf .olt main_v14 main_v15
  let main_c_3 : IVec S_ 1 := constantI S_ 1 1#1
  let main_v17 : IVec S_ 1 := (fun x v => Host.reduce IntOp.andi x v reducesTo_S4x1024x704_S_d0_1_2 h_S_) main_v16 main_c_3
  fn_part1 (F := F) main_arg3 main_arg4 main_arg6 main_v10 main_v17
-- ==== Pre_finite_gate.lean ====
abbrev S8192x1024 : Shape := ⟨2, ![8192, 1024]⟩
abbrev S4x4x704x1024 : Shape := ⟨4, ![4, 4, 704, 1024]⟩
abbrev S4x8192x704 : Shape := ⟨3, ![4, 8192, 704]⟩
abbrev S_ : Shape := ⟨0, ![]⟩
abbrev S1x4x704x1024 : Shape := ⟨4, ![1, 4, 704, 1024]⟩
abbrev S4x704x1024 : Shape := ⟨3, ![4, 704, 1024]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S4x4x704x1024_S1x4x704x1024_3_0_0_0 : S4x4x704x1024.Slices ![3, 0, 0, 0] S1x4x704x1024
  shapeCasts_S1x4x704x1024_S4x704x1024 : S1x4x704x1024.ShapeCasts S4x704x1024
  bcast_S_S4x704x1024 : S_.BroadcastsInDim S4x704x1024 (![] : Fin 0 → Fin S4x704x1024.rank)
  reducesTo_S4x704x1024_S_d0_1_2 : S4x704x1024.ReducesTo [0, 1, 2] S_
  bcast_S_S4x8192x704 : S_.BroadcastsInDim S4x8192x704 (![] : Fin 0 → Fin S4x8192x704.rank)
  reducesTo_S4x8192x704_S_d0_1_2 : S4x8192x704.ReducesTo [0, 1, 2] S_

variable [Facts]

def fn_part1 {F : FTy → Type} [FloatOps F] (main_v12 : IVec S_ 1) (main_v17 : IVec S_ 1) : IVec S_ 1 :=
  let main_v18 : IVec S_ 1 := andi main_v12 main_v17
  main_v18

def fn {F : FTy → Type} [FloatOps F] (main_arg0 : FVec F S8192x1024 .bf16) (main_arg1 : FVec F S4x4x704x1024 .bf16) (main_arg2 : FVec F S4x8192x704 .bf16) (main_arg3 : FVec F S4x8192x704 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1x4x704x1024 .bf16 := (extractStridedSlice S1x4x704x1024 ![3, 0, 0, 0] · slices_S4x4x704x1024_S1x4x704x1024_3_0_0_0) main_arg1
  let main_v6 : FVec F S4x704x1024 .bf16 := shapeCast S4x704x1024 main_v5 shapeCasts_S1x4x704x1024_S4x704x1024
  let main_v7 : FVec F S4x704x1024 .f32 := (extf .f32 · bitsLt_bf16_f32) main_v6
  let main_v8 : FVec F S4x704x1024 .f32 := Host.absf main_v7
  let main_cst_0 : FVec F S_ .f32 := constant S_ .f32 0x7F800000#32
  let main_v9 : FVec F S4x704x1024 .f32 := broadcastInDim S4x704x1024 ![] bcast_S_S4x704x1024 main_cst_0
  let main_v10 : IVec S4x704x1024 1 := cmpf .olt main_v8 main_v9
  let main_c_1 : IVec S_ 1 := constantI S_ 1 1#1
  let main_v11 : IVec S_ 1 := (fun x v => Host.reduce IntOp.andi x v reducesTo_S4x704x1024_S_d0_1_2 h_S_) main_v10 main_c_1
  let main_v12 : IVec S_ 1 := andi main_v4 main_v11
  let main_v13 : FVec F S4x8192x704 .f32 := (extf .f32 · bitsLt_bf16_f32) main_arg3
  let main_v14 : FVec F S4x8192x704 .f32 := Host.absf main_v13
  let main_cst_2 : FVec F S_ .f32 := constant S_ .f32 0x7F800000#32
  let main_v15 : FVec F S4x8192x704 .f32 := broadcastInDim S4x8192x704 ![] bcast_S_S4x8192x704 main_cst_2
  let main_v16 : IVec S4x8192x704 1 := cmpf .olt main_v14 main_v15
  let main_c_3 : IVec S_ 1 := constantI S_ 1 1#1
  let main_v17 : IVec S_ 1 := (fun x v => Host.reduce IntOp.andi x v reducesTo_S4x8192x704_S_d0_1_2 h_S_) main_v16 main_c_3
  fn_part1 (F := F) main_v12 main_v17
-- ==== Kernel.lean ====
abbrev S8192x3072 : Shape := ⟨2, ![8192, 3072]⟩
abbrev S8x257 : Shape := ⟨2, ![8, 257]⟩
abbrev S8192x512 : Shape := ⟨2, ![8192, 512]⟩
abbrev S2x4096x8x64 : Shape := ⟨4, ![2, 4096, 8, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S8x4096x4096 : Shape := ⟨3, ![8, 4096, 4096]⟩
abbrev S2x8x4096x4096 : Shape := ⟨4, ![2, 8, 4096, 4096]⟩
abbrev S1x8x4096x4096 : Shape := ⟨4, ![1, 8, 4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S8x191 : Shape := ⟨2, ![8, 191]⟩
abbrev S8x1 : Shape := ⟨2, ![8, 1]⟩
abbrev S8x448 : Shape := ⟨2, ![8, 448]⟩
abbrev S8x639 : Shape := ⟨2, ![8, 639]⟩
abbrev S8x1x639 : Shape := ⟨3, ![8, 1, 639]⟩
abbrev S8x64x639 : Shape := ⟨3, ![8, 64, 639]⟩
abbrev S8x64x640 : Shape := ⟨3, ![8, 64, 640]⟩
abbrev S8x40960 : Shape := ⟨2, ![8, 40960]⟩
abbrev S8x40896 : Shape := ⟨2, ![8, 40896]⟩
abbrev S8x64x576 : Shape := ⟨3, ![8, 64, 576]⟩
abbrev S8x64x768 : Shape := ⟨3, ![8, 64, 768]⟩
abbrev S8x256x768 : Shape := ⟨3, ![8, 256, 768]⟩
abbrev S256x128 : Shape := ⟨2, ![256, 128]⟩
abbrev S4096x128 : Shape := ⟨2, ![4096, 128]⟩
abbrev S2x256x768 : Shape := ⟨3, ![2, 256, 768]⟩
abbrev S1x128 : Shape := ⟨2, ![1, 128]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 115
  | .vmem => 22
  | .smem => 0
  | _ => 0

abbrev bufTy : (tb : Table) → Fin (tcTables nBuf tb) → BufTy
  | .hbm, ⟨0, _⟩ => ⟨S8192x3072, .bf16⟩
  | .hbm, ⟨1, _⟩ => ⟨S8x257, .f32⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S2x4096x8x64, .f32⟩
  | .hbm, ⟨6, _⟩ => ⟨S8192x512, .bf16⟩
  | .hbm, ⟨7, _⟩ => ⟨S8192x512, .f32⟩
  | .hbm, ⟨8, _⟩ => ⟨S2x4096x8x64, .f32⟩
  | .hbm, ⟨9, _⟩ => ⟨S8192x512, .bf16⟩
  | .hbm, ⟨10, _⟩ => ⟨S8192x512, .f32⟩
  | .hbm, ⟨11, _⟩ => ⟨S2x4096x8x64, .f32⟩
  | .hbm, ⟨12, _⟩ => ⟨S4096, .i32⟩
  | .hbm, ⟨13, _⟩ => ⟨S4096x1, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i1⟩
  | .hbm, ⟨32, _⟩ => ⟨S_, .i32⟩
  | .hbm, ⟨33, _⟩ => ⟨S4096x4096, .i32⟩
  | .hbm, ⟨34, _⟩ => ⟨S4096x4096, .i32⟩
  | .hbm, ⟨35, _⟩ => ⟨S4096x4096, .i32⟩
  | .hbm, ⟨36, _⟩ => ⟨S4096x4096x1, .i32⟩
  | .hbm, ⟨37, _⟩ => ⟨S8x4096x4096, .f32⟩
  | .hbm, ⟨38, _⟩ => ⟨S2x8x4096x4096, .f32⟩
  | .hbm, ⟨39, _⟩ => ⟨S_, .f32⟩
  | .hbm, ⟨40, _⟩ => ⟨S2x8x4096x4096, .f32⟩
  | .hbm, ⟨41, _⟩ => ⟨S2x8x4096x4096, .f32⟩
  | .hbm, ⟨42, _⟩ => ⟨S1x8x4096x4096, .f32⟩
  | .hbm, ⟨43, _⟩ => ⟨S2x8x4096x4096, .f32⟩
  | .hbm, ⟨44, _⟩ => ⟨S2x8x4096x4096, .f32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S1x4096, .i32⟩
  | .hbm, ⟨49, _⟩ => ⟨S4096x1, .i32⟩
  | .hbm, ⟨50, _⟩ => ⟨S4096x4096, .i32⟩
  | .hbm, ⟨51, _⟩ => ⟨S4096x4096, .i32⟩
  | .hbm, ⟨52, _⟩ => ⟨S4096x4096, .i1⟩
  | .hbm, ⟨53, _⟩ => ⟨S1x4096, .i32⟩
  | .hbm, ⟨54, _⟩ => ⟨S4096x1, .i32⟩
  | .hbm, ⟨55, _⟩ => ⟨S_, .i32⟩
  | .hbm, ⟨56, _⟩ => ⟨S4096x1, .i32⟩
  | .hbm, ⟨57, _⟩ => ⟨S4096x1, .i32⟩
  | .hbm, ⟨58, _⟩ => ⟨S4096x4096, .i32⟩
  | .hbm, ⟨59, _⟩ => ⟨S4096x4096, .i32⟩
  | .hbm, ⟨60, _⟩ => ⟨S4096x4096, .i1⟩
  | .hbm, ⟨61, _⟩ => ⟨S4096x4096, .i1⟩
  | .hbm, ⟨62, _⟩ => ⟨S_, .f32⟩
  | .hbm, ⟨63, _⟩ => ⟨S_, .f32⟩
  | .hbm, ⟨64, _⟩ => ⟨S2x8x4096x4096, .i1⟩
  | .hbm, ⟨65, _⟩ => ⟨S2x8x4096x4096, .f32⟩
  | .hbm, ⟨66, _⟩ => ⟨S2x8x4096x4096, .f32⟩
  | .hbm, ⟨67, _⟩ => ⟨S_, .f32⟩
  | .hbm, ⟨68, _⟩ => ⟨S2x8x4096, .f32⟩
  | .hbm, ⟨69, _⟩ => ⟨S_, .f32⟩
  | .hbm, ⟨70, _⟩ => ⟨S2x8x4096, .f32⟩
  | .hbm, ⟨71, _⟩ => ⟨S2x8x4096, .f32⟩
  | .hbm, ⟨72, _⟩ => ⟨S2x8x4096x1, .f32⟩
  | .hbm, ⟨73, _⟩ => ⟨S2x8x4096x4096, .f32⟩
  | .hbm, ⟨74, _⟩ => ⟨S2x8x4096x4096, .f32⟩
  | .hbm, ⟨75, _⟩ => ⟨S2x8x4096x4096, .f32⟩
  | .hbm, ⟨76, _⟩ => ⟨S_, .f32⟩
  | .hbm, ⟨77, _⟩ => ⟨S2x8x4096, .f32⟩
  | .hbm, ⟨78, _⟩ => ⟨S2x8x4096x1, .f32⟩
  | .hbm, ⟨79, _⟩ => ⟨S2x8x4096x4096, .f32⟩
  | .hbm, ⟨80, _⟩ => ⟨S2x8x4096x4096, .f32⟩
  | .hbm, ⟨81, _⟩ => ⟨S2x8x64x4096, .f32⟩
  | .hbm, ⟨82, _⟩ => ⟨S2x4096x8x64, .f32⟩
  | .hbm, ⟨83, _⟩ => ⟨S8192x512, .f32⟩
  | .hbm, ⟨84, _⟩ => ⟨S8x191, .f32⟩
  | .hbm, ⟨85, _⟩ => ⟨S8x1, .f32⟩
  | .hbm, ⟨86, _⟩ => ⟨S8x448, .f32⟩
  | .hbm, ⟨87, _⟩ => ⟨S8x639, .f32⟩
  | .hbm, ⟨88, _⟩ => ⟨S8x639, .f32⟩
  | .hbm, ⟨89, _⟩ => ⟨S8x1x639, .f32⟩
  | .hbm, ⟨90, _⟩ => ⟨S8x64x639, .f32⟩
  | .hbm, ⟨91, _⟩ => ⟨S_, .i32⟩
  | .hbm, ⟨92, _⟩ => ⟨S_, .f32⟩
  | .hbm, ⟨93, _⟩ => ⟨S8x64x640, .f32⟩
  | .hbm, ⟨94, _⟩ => ⟨S8x40960, .f32⟩
  | .hbm, ⟨95, _⟩ => ⟨S8x40896, .f32⟩
  | .hbm, ⟨96, _⟩ => ⟨S8x64x639, .f32⟩
  | .hbm, ⟨97, _⟩ => ⟨S8x64x576, .f32⟩
  | .hbm, ⟨98, _⟩ => ⟨S_, .f32⟩
  | .hbm, ⟨99, _⟩ => ⟨S_, .f32⟩
  | .hbm, ⟨100, _⟩ => ⟨S8x64x768, .f32⟩
  | .hbm, ⟨101, _⟩ => ⟨S_, .f32⟩
  | .hbm, ⟨102, _⟩ => ⟨S_, .f32⟩
  | .hbm, ⟨103, _⟩ => ⟨S8x64x768, .f32⟩
  | .hbm, ⟨104, _⟩ => ⟨S_, .f32⟩
  | .hbm, ⟨105, _⟩ => ⟨S_, .f32⟩
  | .hbm, ⟨106, _⟩ => ⟨S8x64x768, .f32⟩
  | .hbm, ⟨107, _⟩ => ⟨S_, .f32⟩
  | .hbm, ⟨108, _⟩ => ⟨S_, .f32⟩
  | .hbm, ⟨109, _⟩ => ⟨S8x64x768, .f32⟩
  | .hbm, ⟨110, _⟩ => ⟨S8x256x768, .f32⟩
  | .hbm, ⟨111, _⟩ => ⟨S8192x512, .bf16⟩
  | .hbm, ⟨112, _⟩ => ⟨S8192x512, .bf16⟩
  | .hbm, ⟨113, _⟩ => ⟨S8192x512, .bf16⟩
  | .hbm, ⟨114, _⟩ => ⟨S8x256x768, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2x256x768, .f32⟩
  | .local _ .vmem, ⟨7, _⟩ => ⟨S2x256x768, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S2x256x768, .f32⟩
  | .local _ .vmem, ⟨19, _⟩ => ⟨S2x256x768, .f32⟩
  | .local _ .vmem, ⟨20, _⟩ => ⟨S4096x128, .f32⟩
  | .local _ .vmem, ⟨21, _⟩ => ⟨S4096x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_10 : Ref sig .tc := ⟨.hbm, 91, rfl⟩
abbrev main_call2_v0 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_call3_v0 : Ref sig .tc := ⟨.hbm, 99, rfl⟩
abbrev main_v73 : Ref sig .tc := ⟨.hbm, 100, rfl⟩
abbrev main_cst_12 : Ref sig .tc := ⟨.hbm, 101, rfl⟩
abbrev main_call4_v0 : Ref sig .tc := ⟨.hbm, 102, rfl⟩
abbrev main_v74 : Ref sig .tc := ⟨.hbm, 103, rfl⟩
abbrev main_cst_13 : Ref sig .tc := ⟨.hbm, 104, rfl⟩
abbrev main_call5_v0 : Ref sig .tc := ⟨.hbm, 105, rfl⟩
abbrev main_v75 : Ref sig .tc := ⟨.hbm, 106, rfl⟩
abbrev main_cst_14 : Ref sig .tc := ⟨.hbm, 107, rfl⟩
abbrev main_call6_v0 : Ref sig .tc := ⟨.hbm, 108, rfl⟩
abbrev main_v76 : Ref sig .tc := ⟨.hbm, 109, rfl⟩
abbrev main_v77 : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 16], ![false, false, false]⟩

def k0_mult1 (i : grid0.Coords) : BitVec 32 :=
  let arg2 : BitVec 32 := BitVec.ofNat 32 (i 2).val
  let c2_i32 : BitVec 32 := 2#32
  let v46 : BitVec 32 := Scalar.subi arg2 c2_i32
  let c0_i32_15 : BitVec 32 := 0#32
  let v47 : BitVec 32 := Scalar.addi v46 c0_i32_15
  let c0_i32_16 : BitVec 32 := 0#32
  let v48 : BitVec 32 := Scalar.maxsi v47 c0_i32_16
  let c256_i32 : BitVec 32 := 256#32
  let v49 : BitVec 32 := Scalar.muli v48 c256_i32
  v49
def k0_off1 (i : grid0.Coords) (c0_i32_15 : BitVec 32) : Fin 2 → Nat :=
  let arg2 : BitVec 32 := BitVec.ofNat 32 (i 2).val
  let c2_i32 : BitVec 32 := 2#32
  let v46 : BitVec 32 := Scalar.subi arg2 c2_i32
  let v47 : BitVec 32 := Scalar.addi v46 c0_i32_15
  let c0_i32_16 : BitVec 32 := 0#32
  let v48 : BitVec 32 := Scalar.maxsi v47 c0_i32_16
  let c256_i32 : BitVec 32 := 256#32
  let v49 : BitVec 32 := Scalar.muli v48 c256_i32
  let v50 : BitVec 32 := v49
  let v51 : Index := Scalar.indexCast v50
  let c0_17 : Index := 0#32
  ![v51.toNat, 0]
def k0_mult2 (i : grid0.Coords) : BitVec 32 :=
  let arg2 : BitVec 32 := BitVec.ofNat 32 (i 2).val
  let c2_i32_25 : BitVec 32 := 2#32
  let v62 : BitVec 32 := Scalar.subi arg2 c2_i32_25
  let c1_i32 : BitVec 32 := 1#32
  let v63 : BitVec 32 := Scalar.addi v62 c1_i32
  let c0_i32_26 : BitVec 32 := 0#32
  let v64 : BitVec 32 := Scalar.maxsi v63 c0_i32_26
  let c256_i32_27 : BitVec 32 := 256#32
  let v65 : BitVec 32 := Scalar.muli v64 c256_i32_27
  v65
def k0_mult3 (i : grid0.Coords) : BitVec 32 :=
  let arg2 : BitVec 32 := BitVec.ofNat 32 (i 2).val
  let c2_i32_35 : BitVec 32 := 2#32
  let v78 : BitVec 32 := Scalar.subi arg2 c2_i32_35
  let c2_i32_36 : BitVec 32 := 2#32
  let v79 : BitVec 32 := Scalar.addi v78 c2_i32_36
  let c0_i32_37 : BitVec 32 := 0#32
  let v80 : BitVec 32 := Scalar.maxsi v79 c0_i32_37
  let c256_i32_38 : BitVec 32 := 256#32
  let v81 : BitVec 32 := Scalar.muli v80 c256_i32_38
  v81
def k0_mult4 (i : grid0.Coords) : BitVec 32 :=
  let arg2 : BitVec 32 := BitVec.ofNat 32 (i 2).val
  let c2_i32_106 : BitVec 32 := 2#32
  let v250 : BitVec 32 := Scalar.subi arg2 c2_i32_106
  let c0_i32_107 : BitVec 32 := 0#32
  let v251 : BitVec 32 := Scalar.addi v250 c0_i32_107
  let c0_i32_108 : BitVec 32 := 0#32
  let v252 : BitVec 32 := Scalar.maxsi v251 c0_i32_108
  let c256_i32_109 : BitVec 32 := 256#32
  let v253 : BitVec 32 := Scalar.muli v252 c256_i32_109
  v253
def k0_mult5 (i : grid0.Coords) : BitVec 32 :=
  let arg2 : BitVec 32 := BitVec.ofNat 32 (i 2).val
  let c2_i32_117 : BitVec 32 := 2#32
  let v266 : BitVec 32 := Scalar.subi arg2 c2_i32_117
  let c1_i32_118 : BitVec 32 := 1#32
  let v267 : BitVec 32 := Scalar.addi v266 c1_i32_118
  let c0_i32_119 : BitVec 32 := 0#32
  let v268 : BitVec 32 := Scalar.maxsi v267 c0_i32_119
  let c256_i32_120 : BitVec 32 := 256#32
  let v269 : BitVec 32 := Scalar.muli v268 c256_i32_120
  v269
def k0_mult6 (i : grid0.Coords) : BitVec 32 :=
  let arg2 : BitVec 32 := BitVec.ofNat 32 (i 2).val
  let c2_i32_129 : BitVec 32 := 2#32
  let v282 : BitVec 32 := Scalar.subi arg2 c2_i32_129
  let c2_i32_130 : BitVec 32 := 2#32
  let v283 : BitVec 32 := Scalar.addi v282 c2_i32_130
  let c0_i32_131 : BitVec 32 := 0#32
  let v284 : BitVec 32 := Scalar.maxsi v283 c0_i32_131
  let c256_i32_132 : BitVec 32 := 256#32
  let v285 : BitVec 32 := Scalar.muli v284 c256_i32_132
  v285
def k0_cond3 (i : grid0.Coords) : BitVec 1 :=
  let arg2 : BitVec 32 := BitVec.ofNat 32 (i 2).val
  let c15_i32 : BitVec 32 := 15#32
  let v460 : BitVec 1 := Scalar.cmpi .eq arg2 c15_i32
  let v461 : BitVec 32 := Scalar.extui v460
  let c0_i32_204 : BitVec 32 := 0#32
  let v462 : BitVec 1 := Scalar.cmpi .ne v461 c0_i32_204
  v462

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c12_i32 : BitVec 32 := 12#32
  let v2 : BitVec 32 := Scalar.addi c12_i32 arg0
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8x257 : Shape := ⟨2, ![8, 257]⟩
abbrev S8192x512 : Shape := ⟨2, ![8192, 512]⟩
abbrev S2x4096x8x64 : Shape := ⟨4, ![2, 4096, 8, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S8x4096x4096 : Shape := ⟨3, ![8, 4096, 4096]⟩
abbrev S2x8x4096x4096 : Shape := ⟨4, ![2, 8, 4096, 4096]⟩
abbrev S1x8x4096x4096 : Shape := ⟨4, ![1, 8, 4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x8x4096x64 : Shape := ⟨4, ![2, 8, 4096, 64]⟩

abbrev nBuf : Space → Nat
  | .hbm => 145
  | .vmem => 0
  | .smem => 0
  | _ => 0

abbrev hbmTy0_0 (i : Nat) : BufTy := match i % 128 with
  | 0 => ⟨S8192x3072, .bf16⟩
  | 1 => ⟨S8x257, .f32⟩
  | 2 => ⟨S8192x512, .bf16⟩
  | 3 => ⟨S8192x512, .bf16⟩
  | 4 => ⟨S8192x512, .f32⟩
  | 5 => ⟨S2x4096x8x64, .f32⟩
  | 6 => ⟨S8192x512, .bf16⟩
  | 7 => ⟨S8192x512, .f32⟩
  | 8 => ⟨S2x4096x8x64, .f32⟩
  | 9 => ⟨S8192x512, .bf16⟩
  | 10 => ⟨S8192x512, .f32⟩
  | 11 => ⟨S2x4096x8x64, .f32⟩
  | 12 => ⟨S4096, .i32⟩
  | 13 => ⟨S4096x1, .i32⟩
  | 14 => ⟨S1x4096, .i32⟩
  | 15 => ⟨S4096x4096, .i32⟩
  | 16 => ⟨S4096x4096, .i32⟩
  | 17 => ⟨S4096x4096, .i32⟩
  | 18 => ⟨S_, .i32⟩
  | 19 => ⟨S_, .i32⟩
  | 20 => ⟨S_, .i32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S_, .i32⟩
  | 30 => ⟨S4096x4096, .i32⟩
  | 31 => ⟨S4096x4096, .i1⟩
  | 32 => ⟨S_, .i32⟩
  | 33 => ⟨S4096x4096, .i32⟩
  | 34 => ⟨S4096x4096, .i32⟩
  | 35 => ⟨S4096x4096, .i32⟩
  | 36 => ⟨S4096x4096x1, .i32⟩
  | 37 => ⟨S8x4096x4096, .f32⟩
  | 38 => ⟨S2x8x4096x4096, .f32⟩
  | 39 => ⟨S_, .f32⟩
  | 40 => ⟨S2x8x4096x4096, .f32⟩
  | 41 => ⟨S2x8x4096x4096, .f32⟩
  | 42 => ⟨S1x8x4096x4096, .f32⟩
  | 43 => ⟨S2x8x4096x4096, .f32⟩
  | 44 => ⟨S2x8x4096x4096, .f32⟩
  | 45 => ⟨S_, .i32⟩
  | 46 => ⟨S4096, .i32⟩
  | 47 => ⟨S4096, .i32⟩
  | 48 => ⟨S1x4096, .i32⟩
  | 49 => ⟨S4096x1, .i32⟩
  | 50 => ⟨S4096x4096, .i32⟩
  | 51 => ⟨S4096x4096, .i32⟩
  | 52 => ⟨S4096x4096, .i1⟩
  | 53 => ⟨S1x4096, .i32⟩
  | 54 => ⟨S4096x1, .i32⟩
  | 55 => ⟨S_, .i32⟩
  | 56 => ⟨S4096x1, .i32⟩
  | 57 => ⟨S4096x1, .i32⟩
  | 58 => ⟨S4096x4096, .i32⟩
  | 59 => ⟨S4096x4096, .i32⟩
  | 60 => ⟨S4096x4096, .i1⟩
  | 61 => ⟨S4096x4096, .i1⟩
  | 62 => ⟨S_, .f32⟩
  | 63 => ⟨S_, .f32⟩
  | 64 => ⟨S2x8x4096x4096, .i1⟩
  | 65 => ⟨S2x8x4096x4096, .f32⟩
  | 66 => ⟨S2x8x4096x4096, .f32⟩
  | 67 => ⟨S_, .f32⟩
  | 68 => ⟨S2x8x4096x4096, .f32⟩
  | 69 => ⟨S_, .f32⟩
  | 70 => ⟨S2x8x4096, .f32⟩
  | 71 => ⟨S2x8x4096x1, .f32⟩
  | 72 => ⟨S2x8x4096x4096, .f32⟩
  | 73 => ⟨S2x8x4096x4096, .i1⟩
  | 74 => ⟨S2x8x4096x4096, .f32⟩
  | 75 => ⟨S_, .f32⟩
  | 76 => ⟨S2x8x4096, .f32⟩
  | 77 => ⟨S_, .f32⟩
  | 78 => ⟨S2x8x4096, .f32⟩
  | 79 => ⟨S2x8x4096, .f32⟩
  | 80 => ⟨S_, .f32⟩
  | 81 => ⟨S2x8x4096, .f32⟩
  | 82 => ⟨S2x8x4096, .i1⟩
  | 83 => ⟨S_, .f32⟩
  | 84 => ⟨S2x8x4096, .f32⟩
  | 85 => ⟨S2x8x4096, .i1⟩
  | 86 => ⟨S_, .f32⟩
  | 87 => ⟨S2x8x4096, .f32⟩
  | 88 => ⟨S_, .f32⟩
  | 89 => ⟨S2x8x4096, .f32⟩
  | 90 => ⟨S_, .f32⟩
  | 91 => ⟨S2x8x4096, .f32⟩
  | 92 => ⟨S2x8x4096, .f32⟩
  | 93 => ⟨S2x8x4096, .f32⟩
  | 94 => ⟨S2x8x4096x1, .f32⟩
  | 95 => ⟨S2x8x4096x4096, .f32⟩
  | 96 => ⟨S2x8x4096x4096, .f32⟩
  | 97 => ⟨S2x8x4096x4096, .f32⟩
  | 98 => ⟨S_, .f32⟩
  | 99 => ⟨S2x8x4096, .f32⟩
  | 100 => ⟨S2x8x4096x1, .f32⟩
  | 101 => ⟨S2x8x4096x4096, .f32⟩
  | 102 => ⟨S2x8x4096x4096, .f32⟩
  | 103 => ⟨S2x8x4096x1, .f32⟩
  | 104 => ⟨S_, .f32⟩
  | 105 => ⟨S2x8x4096x1, .f32⟩
  | 106 => ⟨S2x8x4096x1, .f32⟩
  | 107 => ⟨S2x8x64x4096, .f32⟩
  | 108 => ⟨S2x4096x8x64, .f32⟩
  | 109 => ⟨S8192x512, .f32⟩
  | 110 => ⟨S2x4096x8x64, .f32⟩
  | 111 => ⟨S2x8x64x4096, .f32⟩
  | 112 => ⟨S2x8x4096x4096, .f32⟩
  | 113 => ⟨S2x8x64x4096, .f32⟩
  | 114 => ⟨S2x4096x8x64, .f32⟩
  | 115 => ⟨S2x8x4096x4096, .f32⟩
  | 116 => ⟨S2x8x4096x4096, .f32⟩
  | 117 => ⟨S2x8x4096x4096, .f32⟩
  | 118 => ⟨S_, .f32⟩
  | 119 => ⟨S2x8x4096, .f32⟩
  | 120 => ⟨S2x8x4096x1, .f32⟩
  | 121 => ⟨S2x8x4096x1, .f32⟩
  | 122 => ⟨S2x8x4096x4096, .f32⟩
  | 123 => ⟨S2x8x4096x4096, .f32⟩
  | 124 => ⟨S_, .f32⟩
  | 125 => ⟨S2x8x4096, .f32⟩
  | 126 => ⟨S2x8x4096x4096, .f32⟩
  | 127 => ⟨S2x8x4096x4096, .f32⟩
  | _ => ⟨S8192x3072, .bf16⟩

abbrev hbmTy0_1 (i : Nat) : BufTy := match i % 128 with
  | 0 => ⟨S2x8x4096x4096, .f32⟩
  | 1 => ⟨S_, .f32⟩
  | 2 => ⟨S2x8x4096x4096, .f32⟩
  | 3 => ⟨S2x8x4096x4096, .f32⟩
  | 4 => ⟨S_, .f32⟩
  | 5 => ⟨S2x8x4096x4096, .f32⟩
  | 6 => ⟨S2x8x4096x4096, .f32⟩
  | 7 => ⟨S2x8x4096x64, .f32⟩
  | 8 => ⟨S2x4096x8x64, .f32⟩
  | 9 => ⟨S2x8x4096x64, .f32⟩
  | 10 => ⟨S2x4096x8x64, .f32⟩
  | 11 => ⟨S8192x512, .f32⟩
  | 12 => ⟨S8192x512, .bf16⟩
  | 13 => ⟨S8192x512, .f32⟩
  | 14 => ⟨S8192x512, .bf16⟩
  | 15 => ⟨S8192x512, .f32⟩
  | 16 => ⟨S8192x512, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_call1_v0 : Ref sig .tc := ⟨.hbm, 63, rfl⟩
abbrev main_v46_1 : Ref sig .tc := ⟨.hbm, 64, rfl⟩
abbrev main_call1_v2 : Ref sig .tc := ⟨.hbm, 65, rfl⟩
abbrev main_v46_0 : Ref sig .tc := ⟨.hbm, 66, rfl⟩
abbrev main_call1_cst : Ref sig .tc := ⟨.hbm, 67, rfl⟩
abbrev main_v46_2 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call2_cst : Ref sig .tc := ⟨.hbm, 129, rfl⟩
abbrev main_call2_v0 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩

abbrev nD : Nat := 1
abbrev τ : Topo := Topo.v7x

variable {F : FTy → Type} [FloatOps F]
-- ==== Up.lean ====
abbrev S8192x1024 : Shape := ⟨2, ![8192, 1024]⟩
abbrev S4x8192x704 : Shape := ⟨3, ![4, 8192, 704]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x8192x704, .bf16⟩
  | .hbm, ⟨2, _⟩ => ⟨S4x1024x704, .bf16⟩
  | .local _ .vmem, ⟨0, _⟩ => ⟨S1024x1024, .f32⟩
  | .local _ .vmem, ⟨1, _⟩ => ⟨S1024x1024, .f32⟩
  | .local _ .vmem, ⟨2, _⟩ => ⟨S4x1024x704, .bf16⟩
  | .local _ .vmem, ⟨3, _⟩ => ⟨S4x1024x704, .bf16⟩
  | .local _ .vmem, ⟨4, _⟩ => ⟨S4x1024x704, .bf16⟩
  | .local _ .vmem, ⟨5, _⟩ => ⟨S4x1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v47 : BitVec 1 := Scalar.cmpi .eq arg0 c7_i32
  let v48 : BitVec 32 := Scalar.extui v47
  let c0_i32_44 : BitVec 32 := 0#32
  let v49 : BitVec 1 := Scalar.cmpi .ne v48 c0_i32_44
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== UpReferenceIdeal.lean ====
abbrev S8192x1024 : Shape := ⟨2, ![8192, 1024]⟩
abbrev S4x8192x704 : Shape := ⟨3, ![4, 8192, 704]⟩
abbrev S_ : Shape := ⟨0, ![]⟩
abbrev S4x1024x704 : Shape := ⟨3, ![4, 1024, 704]⟩
abbrev S4x704x8192 : Shape := ⟨3, ![4, 704, 8192]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x704, .bf16⟩
  | .hbm, ⟨2, _⟩ => ⟨S_, .f32⟩
  | .hbm, ⟨3, _⟩ => ⟨S4x1024x704, .f32⟩
  | .hbm, ⟨4, _⟩ => ⟨S4x704x8192, .f32⟩
  | .hbm, ⟨5, _⟩ => ⟨S4x8192x704, .f32⟩
  | .hbm, ⟨6, _⟩ => ⟨S4x8192x704, .f32⟩
  | .hbm, ⟨7, _⟩ => ⟨S4x704x8192, .f32⟩
  | .hbm, ⟨8, _⟩ => ⟨S4x704x1024, .f32⟩
  | .hbm, ⟨9, _⟩ => ⟨S4x1024x704, .f32⟩
  | .hbm, ⟨10, _⟩ => ⟨S4x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S4x8192x704 : Shape := ⟨3, ![4, 8192, 704]⟩
abbrev S8192x1024 : Shape := ⟨2, ![8192, 1024]⟩
abbrev S4x704x1024 : Shape := ⟨3, ![4, 704, 1024]⟩
abbrev S4x1024x704 : Shape := ⟨3, ![4, 1024, 704]⟩
abbrev S1024x1024 : Shape := ⟨2, ![1024, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S4x704x1024, .bf16⟩
  | .local _ .vmem, ⟨5, _⟩ => ⟨S4x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_44 : BitVec 32 := 0#32
  let v45 : BitVec 1 := Scalar.cmpi .ne v44 c0_i32_44
  v45

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DownReferenceIdeal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S4x704x1024, .f32⟩
  | .hbm, ⟨4, _⟩ => ⟨S4x8192x704, .f32⟩
  | .hbm, ⟨5, _⟩ => ⟨S8192x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gate.lean ====
abbrev S8192x1024 : Shape := ⟨2, ![8192, 1024]⟩
abbrev S4x4x704x1024 : Shape := ⟨4, ![4, 4, 704, 1024]⟩
abbrev S4x8192x704 : Shape := ⟨3, ![4, 8192, 704]⟩
abbrev S512x1024 : Shape := ⟨2, ![512, 1024]⟩
abbrev S4x512x704 : Shape := ⟨3, ![4, 512, 704]⟩
abbrev S1x4x704x1024 : Shape := ⟨4, ![1, 4, 704, 1024]⟩
abbrev S1x1x704x1024 : Shape := ⟨4, ![1, 1, 704, 1024]⟩
abbrev S704x1024 : Shape := ⟨2, ![704, 1024]⟩
abbrev S512x704 : Shape := ⟨2, ![512, 704]⟩
abbrev S128x704 : Shape := ⟨2, ![128, 704]⟩
abbrev S1x128x704 : Shape := ⟨3, ![1, 128, 704]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S4x4x704x1024, .bf16⟩
  | .hbm, ⟨2, _⟩ => ⟨S4x8192x704, .bf16⟩
  | .hbm, ⟨3, _⟩ => ⟨S4x8192x704, .bf16⟩
  | .hbm, ⟨4, _⟩ => ⟨S4x8192x704, .bf16⟩
  | .hbm, ⟨5, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S1x4x704x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateReferenceIdeal.lean ====
abbrev S8192x1024 : Shape := ⟨2, ![8192, 1024]⟩
abbrev S4x4x704x1024 : Shape := ⟨4, ![4, 4, 704, 1024]⟩
abbrev S4x8192x704 : Shape := ⟨3, ![4, 8192, 704]⟩
abbrev S1x4x704x1024 : Shape := ⟨4, ![1, 4, 704, 1024]⟩
abbrev S4x704x1024 : Shape := ⟨3, ![4, 704, 1024]⟩
abbrev S_ : Shape := ⟨0, ![]⟩
abbrev S8192x4x704 : Shape := ⟨3, ![8192, 4, 704]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x4x704x1024, .bf16⟩
  | .hbm, ⟨2, _⟩ => ⟨S4x8192x704, .bf16⟩
  | .hbm, ⟨3, _⟩ => ⟨S4x8192x704, .bf16⟩
  | .hbm, ⟨4, _⟩ => ⟨S4x8192x704, .f32⟩
  | .hbm, ⟨5, _⟩ => ⟨S4x8192x704, .f32⟩
  | .hbm, ⟨6, _⟩ => ⟨S1x4x704x1024, .bf16⟩
  | .hbm, ⟨7, _⟩ => ⟨S4x704x1024, .bf16⟩
  | .hbm, ⟨8, _⟩ => ⟨S4x704x1024, .f32⟩
  | .hbm, ⟨9, _⟩ => ⟨S4x8192x704, .f32⟩
  | .hbm, ⟨10, _⟩ => ⟨S4x8192x704, .f32⟩
  | .hbm, ⟨11, _⟩ => ⟨S_, .f32⟩
  | .hbm, ⟨12, _⟩ => ⟨S4x8192x704, .f32⟩
  | .hbm, ⟨13, _⟩ => ⟨S4x8192x704, .f32⟩
  | .hbm, ⟨14, _⟩ => ⟨S_, .f32⟩
  | .hbm, ⟨15, _⟩ => ⟨S4x8192x704, .f32⟩
  | .hbm, ⟨16, _⟩ => ⟨S4x8192x704, .f32⟩
  | .hbm, ⟨17, _⟩ => ⟨S_, .f32⟩
  | .hbm, ⟨18, _⟩ => ⟨S4x8192x704, .f32⟩
  | .hbm, ⟨19, _⟩ => ⟨S4x8192x704, .f32⟩
  | .hbm, ⟨20, _⟩ => ⟨S4x8192x704, .f32⟩
  | .hbm, ⟨21, _⟩ => ⟨S4x8192x704, .f32⟩
  | .hbm, ⟨22, _⟩ => ⟨S4x8192x704, .f32⟩
  | .hbm, ⟨23, _⟩ => ⟨S8192x1024, .f32⟩
  | .hbm, ⟨24, _⟩ => ⟨S8192x1024, .f32⟩
  | .hbm, ⟨25, _⟩ => ⟨S8192x4x704, .f32⟩
  | .hbm, ⟨26, _⟩ => ⟨S4x8192x704, .f32⟩
  | .hbm, ⟨27, _⟩ => ⟨S4x8192x704, .f32⟩
  | .hbm, ⟨28, _⟩ => ⟨S4x8192x704, .f32⟩
  | .hbm, ⟨29, _⟩ => ⟨S4x8192x704, .f32⟩
  | .hbm, ⟨30, _⟩ => ⟨S4x8192x704, .f32⟩
  | .hbm, ⟨31, _⟩ => ⟨S4x8192x704, .f32⟩
  | .hbm, ⟨32, _⟩ => ⟨S4x8192x704, .f32⟩
  | .hbm, ⟨33, _⟩ => ⟨S4x8192x704, .bf16⟩
  | .hbm, ⟨34, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Ffn.lean ====
abbrev S8192x1024 : Shape := ⟨2, ![8192, 1024]⟩
abbrev S4x4x1024x704 : Shape := ⟨4, ![4, 4, 1024, 704]⟩
abbrev S4x8192x704 : Shape := ⟨3, ![4, 8192, 704]⟩
abbrev S512x1024 : Shape := ⟨2, ![512, 1024]⟩
abbrev S1x4x1024x704 : Shape := ⟨4, ![1, 4, 1024, 704]⟩
abbrev S4x512x704 : Shape := ⟨3, ![4, 512, 704]⟩
abbrev S1x1x1024x704 : Shape := ⟨4, ![1, 1, 1024, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x4x1024x704, .bf16⟩
  | .hbm, ⟨2, _⟩ => ⟨S4x4x1024x704, .bf16⟩
  | .hbm, ⟨3, _⟩ => ⟨S4x8192x704, .bf16⟩
  | .hbm, ⟨4, _⟩ => ⟨S4x8192x704, .bf16⟩
  | .hbm, ⟨5, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S1x4x1024x704, .bf16⟩
  | .local _ .vmem, ⟨3, _⟩ => ⟨S1x4x1024x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_2 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S8192x1024 : Shape := ⟨2, ![8192, 1024]⟩
abbrev S4x4x1024x704 : Shape := ⟨4, ![4, 4, 1024, 704]⟩
abbrev S1x4x1024x704 : Shape := ⟨4, ![1, 4, 1024, 704]⟩
abbrev S4x1024x704 : Shape := ⟨3, ![4, 1024, 704]⟩
abbrev S4x704x8192 : Shape := ⟨3, ![4, 704, 8192]⟩
abbrev S4x8192x704 : Shape := ⟨3, ![4, 8192, 704]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x4x1024x704, .bf16⟩
  | .hbm, ⟨2, _⟩ => ⟨S4x4x1024x704, .bf16⟩
  | .hbm, ⟨3, _⟩ => ⟨S1x4x1024x704, .bf16⟩
  | .hbm, ⟨4, _⟩ => ⟨S4x1024x704, .bf16⟩
  | .hbm, ⟨5, _⟩ => ⟨S4x1024x704, .f32⟩
  | .hbm, ⟨6, _⟩ => ⟨S4x704x8192, .f32⟩
  | .hbm, ⟨7, _⟩ => ⟨S4x8192x704, .f32⟩
  | .hbm, ⟨8, _⟩ => ⟨S1x4x1024x704, .bf16⟩
  | .hbm, ⟨9, _⟩ => ⟨S4x1024x704, .bf16⟩
  | .hbm, ⟨10, _⟩ => ⟨S4x1024x704, .f32⟩
  | .hbm, ⟨11, _⟩ => ⟨S4x704x8192, .f32⟩
  | .hbm, ⟨12, _⟩ => ⟨S4x8192x704, .f32⟩
  | .hbm, ⟨13, _⟩ => ⟨S4x8192x704, .bf16⟩
  | .hbm, ⟨14, _⟩ => ⟨S4x8192x704, .bf16⟩
  | .hbm, ⟨15, _⟩ => ⟨S4x8192x704, .f32⟩
  | .hbm, ⟨16, _⟩ => ⟨S4x8192x704, .f32⟩
  | .hbm, ⟨17, _⟩ => ⟨S_, .f32⟩
  | .hbm, ⟨18, _⟩ => ⟨S4x8192x704, .f32⟩
  | .hbm, ⟨19, _⟩ => ⟨S4x8192x704, .f32⟩
  | .hbm, ⟨20, _⟩ => ⟨S_, .f32⟩
  | .hbm, ⟨21, _⟩ => ⟨S4x8192x704, .f32⟩
  | .hbm, ⟨22, _⟩ => ⟨S4x8192x704, .f32⟩
  | .hbm, ⟨23, _⟩ => ⟨S4x8192x704, .f32⟩
  | .hbm, ⟨24, _⟩ => ⟨S4x8192x704, .f32⟩
  | .hbm, ⟨25, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Norm.lean ====
abbrev S4x8192x704 : Shape := ⟨3, ![4, 8192, 704]⟩
abbrev S8192x1024 : Shape := ⟨2, ![8192, 1024]⟩
abbrev S4x4x704x1024 : Shape := ⟨4, ![4, 4, 704, 1024]⟩
abbrev S1x1024 : Shape := ⟨2, ![1, 1024]⟩
abbrev S8192x1 : Shape := ⟨2, ![8192, 1]⟩
abbrev S4x512x704 : Shape := ⟨3, ![4, 512, 704]⟩
abbrev S512x1024 : Shape := ⟨2, ![512, 1024]⟩
abbrev S1x4x704x1024 : Shape := ⟨4, ![1, 4, 704, 1024]⟩
abbrev S512x1 : Shape := ⟨2, ![512, 1]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .f32⟩
  | .hbm, ⟨2, _⟩ => ⟨S4x4x704x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1, .f32⟩
  | .local _ .vmem, ⟨0, _⟩ => ⟨S4x512x704, .bf16⟩
  | .local _ .vmem, ⟨1, _⟩ => ⟨S4x512x704, .bf16⟩
  | .local _ .vmem, ⟨2, _⟩ => ⟨S512x1024, .f32⟩
  | .local _ .vmem, ⟨3, _⟩ => ⟨S512x1024, .f32⟩
  | .local _ .vmem, ⟨4, _⟩ => ⟨S1x4x704x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormReferenceIdeal.lean ====
abbrev S4x8192x704 : Shape := ⟨3, ![4, 8192, 704]⟩
abbrev S8192x1024 : Shape := ⟨2, ![8192, 1024]⟩
abbrev S4x4x704x1024 : Shape := ⟨4, ![4, 4, 704, 1024]⟩
abbrev S1x1024 : Shape := ⟨2, ![1, 1024]⟩
abbrev S1x4x704x1024 : Shape := ⟨4, ![1, 4, 704, 1024]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .f32⟩
  | .hbm, ⟨2, _⟩ => ⟨S4x4x704x1024, .bf16⟩
  | .hbm, ⟨3, _⟩ => ⟨S1x1024, .f32⟩
  | .hbm, ⟨4, _⟩ => ⟨S1x1024, .f32⟩
  | .hbm, ⟨5, _⟩ => ⟨S4x8192x704, .f32⟩
  | .hbm, ⟨6, _⟩ => ⟨S1x4x704x1024, .bf16⟩
  | .hbm, ⟨7, _⟩ => ⟨S4x704x1024, .bf16⟩
  | .hbm, ⟨8, _⟩ => ⟨S4x704x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Qkv.lean ====
abbrev S8192x1024 : Shape := ⟨2, ![8192, 1024]⟩
abbrev S4x4x1024x768 : Shape := ⟨4, ![4, 4, 1024, 768]⟩
abbrev S8192x3072 : Shape := ⟨2, ![8192, 3072]⟩
abbrev S512x1024 : Shape := ⟨2, ![512, 1024]⟩
abbrev S1x4x1024x768 : Shape := ⟨4, ![1, 4, 1024, 768]⟩
abbrev S512x3072 : Shape := ⟨2, ![512, 3072]⟩
abbrev S1x1x1024x768 : Shape := ⟨4, ![1, 1, 1024, 768]⟩
abbrev S1024x768 : Shape := ⟨2, ![1024, 768]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S4x4x1024x768, .bf16⟩
  | .hbm, ⟨2, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x4x1024x768, .bf16⟩
  | .local _ .vmem, ⟨3, _⟩ => ⟨S512x3072, .bf16⟩
  | .local _ .vmem, ⟨4, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkvReferenceIdeal.lean ====
abbrev S8192x1024 : Shape := ⟨2, ![8192, 1024]⟩
abbrev S4x4x1024x768 : Shape := ⟨4, ![4, 4, 1024, 768]⟩
abbrev S1x4x1024x768 : Shape := ⟨4, ![1, 4, 1024, 768]⟩
abbrev S4x1024x768 : Shape := ⟨3, ![4, 1024, 768]⟩
abbrev S8192x4x768 : Shape := ⟨3, ![8192, 4, 768]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x4x1024x768, .bf16⟩
  | .hbm, ⟨2, _⟩ => ⟨S1x4x1024x768, .bf16⟩
  | .hbm, ⟨3, _⟩ => ⟨S4x1024x768, .bf16⟩
  | .hbm, ⟨4, _⟩ => ⟨S4x1024x768, .f32⟩
  | .hbm, ⟨5, _⟩ => ⟨S8192x4x768, .f32⟩
  | .hbm, ⟨6, _⟩ => ⟨S8192x3072, .f32⟩
  | .hbm, ⟨7, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Dx.lean ====
abbrev S4x8192x704 : Shape := ⟨3, ![4, 8192, 704]⟩
abbrev S4x4x1024x704 : Shape := ⟨4, ![4, 4, 1024, 704]⟩
abbrev S8192x1024 : Shape := ⟨2, ![8192, 1024]⟩
abbrev S4x512x704 : Shape := ⟨3, ![4, 512, 704]⟩
abbrev S512x1024 : Shape := ⟨2, ![512, 1024]⟩
abbrev S1x4x1024x704 : Shape := ⟨4, ![1, 4, 1024, 704]⟩
abbrev S1x512x704 : Shape := ⟨3, ![1, 512, 704]⟩
abbrev S512x704 : Shape := ⟨2, ![512, 704]⟩
abbrev S1x1x1024x704 : Shape := ⟨4, ![1, 1, 1024, 704]⟩
abbrev S1024x704 : Shape := ⟨2, ![1024, 704]⟩

abbrev nBuf : Space → Nat
  | .hbm => 6
  | .vmem => 10
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x4x1024x704, .bf16⟩
  | .hbm, ⟨3, _⟩ => ⟨S4x4x1024x704, .bf16⟩
  | .hbm, ⟨4, _⟩ => ⟨S8192x1024, .f32⟩
  | .hbm, ⟨5, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S1x4x1024x704, .bf16⟩
  | .local _ .vmem, ⟨7, _⟩ => ⟨S1x4x1024x704, .bf16⟩
  | .local _ .vmem, ⟨8, _⟩ => ⟨S512x1024, .f32⟩
  | .local _ .vmem, ⟨9, _⟩ => ⟨S512x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x1024x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxReferenceIdeal.lean ====
abbrev S4x8192x704 : Shape := ⟨3, ![4, 8192, 704]⟩
abbrev S4x4x1024x704 : Shape := ⟨4, ![4, 4, 1024, 704]⟩
abbrev S8192x1024 : Shape := ⟨2, ![8192, 1024]⟩
abbrev S_ : Shape := ⟨0, ![]⟩
abbrev S1x4x1024x704 : Shape := ⟨4, ![1, 4, 1024, 704]⟩
abbrev S4x1024x704 : Shape := ⟨3, ![4, 1024, 704]⟩
abbrev S4x704x8192 : Shape := ⟨3, ![4, 704, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x4x1024x704, .bf16⟩
  | .hbm, ⟨3, _⟩ => ⟨S4x4x1024x704, .bf16⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S1x4x1024x704, .bf16⟩
  | .hbm, ⟨8, _⟩ => ⟨S4x1024x704, .bf16⟩
  | .hbm, ⟨9, _⟩ => ⟨S4x1024x704, .f32⟩
  | .hbm, ⟨10, _⟩ => ⟨S4x704x8192, .f32⟩
  | .hbm, ⟨11, _⟩ => ⟨S4x8192x704, .f32⟩
  | .hbm, ⟨12, _⟩ => ⟨S1x4x1024x704, .bf16⟩
  | .hbm, ⟨13, _⟩ => ⟨S4x1024x704, .bf16⟩
  | .hbm, ⟨14, _⟩ => ⟨S4x1024x704, .f32⟩
  | .hbm, ⟨15, _⟩ => ⟨S4x704x8192, .f32⟩
  | .hbm, ⟨16, _⟩ => ⟨S4x8192x704, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S4x8192x704, .f32⟩
  | .hbm, ⟨21, _⟩ => ⟨S4x8192x704, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S4x704x8192, .f32⟩
  | .hbm, ⟨26, _⟩ => ⟨S8192x1024, .f32⟩
  | .hbm, ⟨27, _⟩ => ⟨S8192x1024, .f32⟩
  | .hbm, ⟨28, _⟩ => ⟨S4x704x8192, .f32⟩
  | .hbm, ⟨29, _⟩ => ⟨S8192x1024, .f32⟩
  | .hbm, ⟨30, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== WIn.lean ====
abbrev S8192x1024 : Shape := ⟨2, ![8192, 1024]⟩
abbrev S8192x512 : Shape := ⟨2, ![8192, 512]⟩
abbrev S4x1024x768 : Shape := ⟨3, ![4, 1024, 768]⟩
abbrev S1024x1024 : Shape := ⟨2, ![1024, 1024]⟩
abbrev S1024x512 : Shape := ⟨2, ![1024, 512]⟩
abbrev S1x1024x768 : Shape := ⟨3, ![1, 1024, 768]⟩
abbrev S1024x768 : Shape := ⟨2, ![1024, 768]⟩
abbrev S1024x256 : Shape := ⟨2, ![1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S4x1024x768, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S4x1024x768, .bf16⟩
  | .local _ .vmem, ⟨15, _⟩ => ⟨S4x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v51 : BitVec 1 := Scalar.cmpi .eq arg0 c7_i32
  let v52 : BitVec 32 := Scalar.extui v51
  let c0_i32_47 : BitVec 32 := 0#32
  let v53 : BitVec 1 := Scalar.cmpi .ne v52 c0_i32_47
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== WInReferenceIdeal.lean ====
abbrev S8192x1024 : Shape := ⟨2, ![8192, 1024]⟩
abbrev S8192x512 : Shape := ⟨2, ![8192, 512]⟩
abbrev S_ : Shape := ⟨0, ![]⟩
abbrev S4x1024x768 : Shape := ⟨3, ![4, 1024, 768]⟩
abbrev S8192x3072 : Shape := ⟨2, ![8192, 3072]⟩
abbrev S8192x4x768 : Shape := ⟨3, ![8192, 4, 768]⟩
abbrev S4x768x1024 : Shape := ⟨3, ![4, 768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S_, .f32⟩
  | .hbm, ⟨8, _⟩ => ⟨S4x1024x768, .f32⟩
  | .hbm, ⟨9, _⟩ => ⟨S8192x3072, .bf16⟩
  | .hbm, ⟨10, _⟩ => ⟨S8192x3072, .f32⟩
  | .hbm, ⟨11, _⟩ => ⟨S8192x4x768, .f32⟩
  | .hbm, ⟨12, _⟩ => ⟨S8192x4x768, .f32⟩
  | .hbm, ⟨13, _⟩ => ⟨S4x768x1024, .f32⟩
  | .hbm, ⟨14, _⟩ => ⟨S4x1024x768, .f32⟩
  | .hbm, ⟨15, _⟩ => ⟨S4x1024x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== WOut.lean ====
abbrev S8192x512 : Shape := ⟨2, ![8192, 512]⟩
abbrev S8192x1024 : Shape := ⟨2, ![8192, 1024]⟩
abbrev S4x256x1024 : Shape := ⟨3, ![4, 256, 1024]⟩
abbrev S1024x512 : Shape := ⟨2, ![1024, 512]⟩
abbrev S1024x1024 : Shape := ⟨2, ![1024, 1024]⟩
abbrev S1x256x1024 : Shape := ⟨3, ![1, 256, 1024]⟩
abbrev S256x1024 : Shape := ⟨2, ![256, 1024]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S4x256x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S4x256x1024, .bf16⟩
  | .local _ .vmem, ⟨7, _⟩ => ⟨S4x256x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v39 : BitVec 1 := Scalar.cmpi .eq arg0 c7_i32
  let v40 : BitVec 32 := Scalar.extui v39
  let c0_i32_39 : BitVec 32 := 0#32
  let v41 : BitVec 1 := Scalar.cmpi .ne v40 c0_i32_39
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WOutReferenceIdeal.lean ====
abbrev S8192x512 : Shape := ⟨2, ![8192, 512]⟩
abbrev S8192x1024 : Shape := ⟨2, ![8192, 1024]⟩
abbrev S_ : Shape := ⟨0, ![]⟩
abbrev S4x256x1024 : Shape := ⟨3, ![4, 256, 1024]⟩
abbrev S8192x4x256 : Shape := ⟨3, ![8192, 4, 256]⟩
abbrev S1024x4x256 : Shape := ⟨3, ![1024, 4, 256]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S_, .f32⟩
  | .hbm, ⟨4, _⟩ => ⟨S4x256x1024, .f32⟩
  | .hbm, ⟨5, _⟩ => ⟨S8192x1024, .bf16⟩
  | .hbm, ⟨6, _⟩ => ⟨S8192x1024, .f32⟩
  | .hbm, ⟨7, _⟩ => ⟨S8192x4x256, .f32⟩
  | .hbm, ⟨8, _⟩ => ⟨S8192x1024, .f32⟩
  | .hbm, ⟨9, _⟩ => ⟨S8192x1024, .f32⟩
  | .hbm, ⟨10, _⟩ => ⟨S1024x4x256, .f32⟩
  | .hbm, ⟨11, _⟩ => ⟨S4x256x1024, .f32⟩
  | .hbm, ⟨12, _⟩ => ⟨S4x256x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Out.lean ====
abbrev S8192x512 : Shape := ⟨2, ![8192, 512]⟩
abbrev S8192x1024 : Shape := ⟨2, ![8192, 1024]⟩
abbrev S4x4x256x1024 : Shape := ⟨4, ![4, 4, 256, 1024]⟩
abbrev S1x1024 : Shape := ⟨2, ![1, 1024]⟩
abbrev S8192x1 : Shape := ⟨2, ![8192, 1]⟩
abbrev S512x512 : Shape := ⟨2, ![512, 512]⟩
abbrev S512x1024 : Shape := ⟨2, ![512, 1024]⟩
abbrev S1x4x256x1024 : Shape := ⟨4, ![1, 4, 256, 1024]⟩
abbrev S512x1 : Shape := ⟨2, ![512, 1]⟩
abbrev S512x256 : Shape := ⟨2, ![512, 256]⟩
abbrev S1x1x256x1024 : Shape := ⟨4, ![1, 1, 256, 1024]⟩
abbrev S256x1024 : Shape := ⟨2, ![256, 1024]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S4x4x256x1024, .bf16⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x4x256x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S8192x512 : Shape := ⟨2, ![8192, 512]⟩
abbrev S8192x1024 : Shape := ⟨2, ![8192, 1024]⟩
abbrev S4x4x256x1024 : Shape := ⟨4, ![4, 4, 256, 1024]⟩
abbrev S1x1024 : Shape := ⟨2, ![1, 1024]⟩
abbrev S8192x4x256 : Shape := ⟨3, ![8192, 4, 256]⟩
abbrev S_ : Shape := ⟨0, ![]⟩
abbrev S1x4x256x1024 : Shape := ⟨4, ![1, 4, 256, 1024]⟩
abbrev S4x256x1024 : Shape := ⟨3, ![4, 256, 1024]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S4x4x256x1024, .bf16⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S8192x4x256, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x4x256x1024, .bf16⟩
  | .hbm, ⟨13, _⟩ => ⟨S4x256x1024, .bf16⟩
  | .hbm, ⟨14, _⟩ => ⟨S4x256x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Back.lean ====
abbrev S4x8192x704 : Shape := ⟨3, ![4, 8192, 704]⟩
abbrev S4x4x1024x704 : Shape := ⟨4, ![4, 4, 1024, 704]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S4x512x704 : Shape := ⟨3, ![4, 512, 704]⟩
abbrev S512x1024 : Shape := ⟨2, ![512, 1024]⟩
abbrev S512x1 : Shape := ⟨2, ![512, 1]⟩
abbrev S1x4x1024x704 : Shape := ⟨4, ![1, 4, 1024, 704]⟩
abbrev S1x512x704 : Shape := ⟨3, ![1, 512, 704]⟩
abbrev S512x704 : Shape := ⟨2, ![512, 704]⟩
abbrev S1x1x1024x704 : Shape := ⟨4, ![1, 1, 1024, 704]⟩
abbrev S1024x704 : Shape := ⟨2, ![1024, 704]⟩
abbrev S512 : Shape := ⟨1, ![512]⟩
abbrev S64x8x1024 : Shape := ⟨3, ![64, 8, 1024]⟩

abbrev nBuf : Space → Nat
  | .hbm => 32
  | .vmem => 19
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x4x1024x704, .bf16⟩
  | .hbm, ⟨3, _⟩ => ⟨S4x4x1024x704, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8x1024, .f32⟩
  | .hbm, ⟨31, _⟩ => ⟨S8x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S1x4x1024x704, .bf16⟩
  | .local _ .vmem, ⟨11, _⟩ => ⟨S1x4x1024x704, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S8x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_78 : BitVec 32 := 0#32
  let v84 : BitVec 1 := Scalar.cmpi .ne v83 c0_i32_78
  v84

def k0_cond2 (i : grid0.Coords) : BitVec 1 :=
  let arg0 : BitVec 32 := BitVec.ofNat 32 (i 0).val
  let c0_i32_79 : BitVec 32 := 0#32
  let v85 : BitVec 1 := Scalar.cmpi .sgt arg0 c0_i32_79
  let v86 : BitVec 32 := Scalar.extui v85
  let c0_i32_80 : BitVec 32 := 0#32
  let v87 : BitVec 1 := Scalar.cmpi .ne v86 c0_i32_80
  v87

def k0_cond3 (i : grid0.Coords) : BitVec 1 :=
  let arg0 : BitVec 32 := BitVec.ofNat 32 (i 0).val
  let c0_i32_82 : BitVec 32 := 0#32
  let v90 : BitVec 1 := Scalar.cmpi .eq arg0 c0_i32_82
  let v91 : BitVec 32 := Scalar.extui v90
  let c0_i32_83 : BitVec 32 := 0#32
  let v92 : BitVec 1 := Scalar.cmpi .ne v91 c0_i32_83
  v92

def k0_cond4 (i : grid0.Coords) : BitVec 1 :=
  let arg0 : BitVec 32 := BitVec.ofNat 32 (i 0).val
  let c0_i32_84 : BitVec 32 := 0#32
  let v93 : BitVec 1 := Scalar.cmpi .sgt arg0 c0_i32_84
  let v94 : BitVec 32 := Scalar.extui v93
  let c0_i32_85 : BitVec 32 := 0#32
  let v95 : BitVec 1 := Scalar.cmpi .ne v94 c0_i32_85
  v95

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_6 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== BackReferenceIdeal.lean ====
abbrev S4x8192x704 : Shape := ⟨3, ![4, 8192, 704]⟩
abbrev S4x4x1024x704 : Shape := ⟨4, ![4, 4, 1024, 704]⟩
abbrev S8192x1024 : Shape := ⟨2, ![8192, 1024]⟩
abbrev S1x1024 : Shape := ⟨2, ![1, 1024]⟩
abbrev S_ : Shape := ⟨0, ![]⟩
abbrev S1x4x1024x704 : Shape := ⟨4, ![1, 4, 1024, 704]⟩
abbrev S4x1024x704 : Shape := ⟨3, ![4, 1024, 704]⟩
abbrev S4x704x8192 : Shape := ⟨3, ![4, 704, 8192]⟩
abbrev S8192 : Shape := ⟨1, ![8192]⟩
abbrev S8192x1 : Shape := ⟨2, ![8192, 1]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x4x1024x704, .bf16⟩
  | .hbm, ⟨3, _⟩ => ⟨S4x4x1024x704, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S_, .f32⟩
  | .hbm, ⟨8, _⟩ => ⟨S8192x1024, .f32⟩
  | .hbm, ⟨9, _⟩ => ⟨S1x4x1024x704, .bf16⟩
  | .hbm, ⟨10, _⟩ => ⟨S4x1024x704, .bf16⟩
  | .hbm, ⟨11, _⟩ => ⟨S4x1024x704, .f32⟩
  | .hbm, ⟨12, _⟩ => ⟨S4x704x8192, .f32⟩
  | .hbm, ⟨13, _⟩ => ⟨S4x8192x704, .f32⟩
  | .hbm, ⟨14, _⟩ => ⟨S1x4x1024x704, .bf16⟩
  | .hbm, ⟨15, _⟩ => ⟨S4x1024x704, .bf16⟩
  | .hbm, ⟨16, _⟩ => ⟨S4x1024x704, .f32⟩
  | .hbm, ⟨17, _⟩ => ⟨S4x704x8192, .f32⟩
  | .hbm, ⟨18, _⟩ => ⟨S4x8192x704, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S4x8192x704, .f32⟩
  | .hbm, ⟨23, _⟩ => ⟨S4x8192x704, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S4x704x8192, .f32⟩
  | .hbm, ⟨28, _⟩ => ⟨S8192x1024, .f32⟩
  | .hbm, ⟨29, _⟩ => ⟨S8192x1024, .f32⟩
  | .hbm, ⟨30, _⟩ => ⟨S4x704x8192, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Proof.Tile.lean ====
module

public import proofs.«01_k».proof.Proof.Gen.KernelIdeal.Frame
public import proofs.«01_k».proof.Proof.Gen.KernelIdeal.Skeleton

@[expose] public section

noncomputable section

namespace Cert.KernelIdeal.Hand

open Cert.KernelIdeal Cert.KernelIdeal.Gen
open Idealize.ShloMosaic

variable {F : FTy → Type} [FloatOps F] [Named F]

/-! ## One grid point's arithmetic, head by head and key tile by key tile

A point handles two heads of 64 lanes each on one query tile of 256 rows and the three key tiles that reach it. Every
function below is stated once for a head `h` and a key tile `kb`. -/

/-- `w` laid over `X` on a rectangle. -/
def lay {α : Type} {s : Shape} (r : Rect s) (w : r.shape.Idx → α) (X : s.Idx → α) : s.Idx → α := fun y =>
  open Classical in if h : ∃ x, r.emb x = y then w h.choose else X y

theorem lay_emb {α : Type} {s : Shape} (r : Rect s) (w : r.shape.Idx → α) (X : s.Idx → α) (x : r.shape.Idx) :
    lay r w X (r.emb x) = w x := by
  have h : ∃ x', r.emb x' = r.emb x := ⟨x, rfl⟩
  unfold lay; rw [dif_pos h]; exact congrArg w (r.emb.injective h.choose_spec)

theorem lay_of_not {α : Type} {s : Shape} (r : Rect s) (w : r.shape.Idx → α) (X : s.Idx → α) (y : s.Idx)
    (h : ¬ ∃ x, r.emb x = y) : lay r w X y = X y := by
  unfold lay; rw [dif_neg h]

/-- What a view reads after a write: the payload laid over what it read before. -/
theorem read_writes_lay {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = lay r w (v.read Val (v.writes Val f L)) := by
  funext y
  by_cases h : ∃ x, r.emb x = y
  · obtain ⟨x, rfl⟩ := h
    rw [View.read_writes_cons_emb, lay_emb]
  · rw [lay_of_not _ _ _ _ h]
    refine View.read_writes_cons_miss v f ⟨r, w⟩ L y fun hy => h ?_
    rw [← Rect.map_emb_univ] at hy
    obtain ⟨x, -, hx⟩ := Finset.mem_map.mp hy
    exact ⟨x, hx⟩

/-! A load that an earlier write covers reads the laid payloads. -/

section Cov

variable {sig : RefSig} {κ : Kind} {sp : Space} {s : Shape} {e : EltTy} {Val : EltTy → Type} [∀ e, Nonempty (Val e)]
  (v : View sig κ sp s e) (f : v.ty.Contents Val)

theorem readCov_of (L : List (View.Piece Val s e)) (r : Rect s) (h : ∃ p ∈ L, ∀ x, r.emb x ∈ p.1.set) :
    v.readCov L r.toLoadRect = View.ld (v.read Val (v.writes Val f L)) r := by
  obtain ⟨p, hp, hr⟩ := h
  exact (View.readAt_writes_of_cover v f L r.toLoadRect fun x => ⟨p, hp, hr x⟩).symm

theorem mem_self (r : Rect s) (x : r.shape.Idx) : r.emb x ∈ r.set := by
  rw [← Rect.map_emb_univ]; exact Finset.mem_map.mpr ⟨x, Finset.mem_univ _, rfl⟩

theorem readCov_hit0 (r : Rect s) (w : r.shape.Idx → Val e) (L : List (View.Piece Val s e)) :
    v.readCov (⟨r, w⟩ :: L) r.toLoadRect = View.ld (v.read Val (v.writes Val f (⟨r, w⟩ :: L))) r :=
  readCov_of v f _ r ⟨⟨r, w⟩, by simp, mem_self r⟩
theorem readCov_hit1 (r : Rect s) (w : r.shape.Idx → Val e) (p : View.Piece Val s e) (L : List (View.Piece Val s e)) :
    v.readCov (p :: ⟨r, w⟩ :: L) r.toLoadRect = View.ld (v.read Val (v.writes Val f (p :: ⟨r, w⟩ :: L))) r :=
  readCov_of v f _ r ⟨⟨r, w⟩, by simp, mem_self r⟩
theorem readCov_hit2 (r : Rect s) (w : r.shape.Idx → Val e) (p p' : View.Piece Val s e) (L : List (View.Piece Val s e)) :
    v.readCov (p :: p' :: ⟨r, w⟩ :: L) r.toLoadRect = View.ld (v.read Val (v.writes Val f (p :: p' :: ⟨r, w⟩ :: L))) r :=
  readCov_of v f _ r ⟨⟨r, w⟩, by simp, mem_self r⟩

end Cov

/-- The rows of key tile `kb` at a point. -/
abbrev rows (i : grid0.Coords) (kb : Fin 3) : Rect S4096x128 :=
  Rect.unit (s := S4096x128) (k0_off1 i (BitVec.ofNat 32 kb.val)) S256x128.size (k0_off1_inb i kb)

/-- Head `h`'s part of the bias block that key tile `kb` meets. -/
def cols : Fin 2 → Fin 3 → Rect S2x256x768
  | 0, 0 => Rect.unit (s := S2x256x768) ![0, 0, 0] S1x256x256.size inb_S2x256x768_S1x256x256_0_0_0
  | 0, 1 => Rect.unit (s := S2x256x768) ![0, 0, 256] S1x256x256.size inb_S2x256x768_S1x256x256_0_0_256
  | 0, 2 => Rect.unit (s := S2x256x768) ![0, 0, 512] S1x256x256.size inb_S2x256x768_S1x256x256_0_0_512
  | 1, 0 => Rect.unit (s := S2x256x768) ![1, 0, 0] S1x256x256.size inb_S2x256x768_S1x256x256_1_0_0
  | 1, 1 => Rect.unit (s := S2x256x768) ![1, 0, 256] S1x256x256.size inb_S2x256x768_S1x256x256_1_0_256
  | 1, 2 => Rect.unit (s := S2x256x768) ![1, 0, 512] S1x256x256.size inb_S2x256x768_S1x256x256_1_0_512

theorem cols_shape : ∀ (h : Fin 2) (kb : Fin 3), (cols h kb).shape = S1x256x256
  | 0, 0 => rfl | 0, 1 => rfl | 0, 2 => rfl | 1, 0 => rfl | 1, 1 => rfl | 1, 2 => rfl

/-- What the point loads: the query, output-gradient and output tiles, the three key and value tiles, the bias tiles. -/
structure Loads (F : FTy → Type) where
  q : Vec F S256x128 .bf16
  d : Vec F S256x128 .bf16
  o : Vec F S256x128 .f32
  k : Fin 3 → Vec F S256x128 .bf16
  v : Fin 3 → Vec F S256x128 .bf16
  b : Fin 2 → Fin 3 → Vec F S1x256x256 .f32

/-- The first 64 lanes. -/
def lane0 : IVec S1x128 1 := cmpi .slt (iota .tc S1x128 32 [1] iota_S1x128_d1_w32) (broadcast S1x128 64#32)

/-- A head's lanes. -/
def lanes : Fin 2 → IVec S1x128 1
  | 0 => lane0
  | 1 => xori lane0 (constantI S1x128 1 1#1)

/-- A lane mask on a whole tile. -/
def wide (u : IVec S1x128 1) : IVec S256x128 1 :=
  broadcastTo S256x128 (shapeCast S1x128 u shapeCasts_S1x128_S1x128) broadcasts_S1x128_S256x128

/-- A tile with the other head's lanes put to `z`. -/
def half {φ : FTy} (h : Fin 2) (x z : FVec F S256x128 φ) : FVec F S256x128 φ :=
  match h with
  | 0 => select (wide lane0) x z
  | 1 => select (wide lane0) z x

def zeroB : FVec F S256x128 .bf16 := broadcast S256x128 (Scalar.ofBits .bf16 0x0000#16)
def zeroF : FVec F S256x128 .f32 := broadcast S256x128 (Scalar.ofBits .f32 0x00000000#32)
def eighth : FVec F S256x256 .f32 := broadcast S256x256 (Scalar.ofBits .f32 0x3E000000#32)

/-- Rows against rows: `x · yᵀ`. -/
def mulNT (x y : FVec F S256x128 .bf16) : FVec F S256x256 .f32 :=
  matmul dot_S256x128_S256x128_S256x256_1_1_0_0_n_n none x y (constant S256x256 .f32 0x00000000#32)
/-- `x · y`. -/
def mulNN (x : FVec F S256x256 .bf16) (y : FVec F S256x128 .bf16) : FVec F S256x128 .f32 :=
  matmul dot_S256x256_S256x128_S256x128_1_0_0_1_n_n none x y (constant S256x128 .f32 0x00000000#32)
/-- `xᵀ · y`. -/
def mulTN (x : FVec F S256x256 .bf16) (y : FVec F S256x128 .bf16) : FVec F S256x128 .f32 :=
  matmul dot_S256x256_S256x128_S256x128_0_0_1_1_n_n none x y (constant S256x128 .f32 0x00000000#32)

/-- The distance of key tile `kb` from the sequence's start, in tiles (negative for a tile before it). -/
def ahead (i : grid0.Coords) : Fin 3 → BitVec 32
  | 0 => Scalar.addi (Scalar.subi (BitVec.ofNat 32 (i 2).val) 2#32) 0#32
  | 1 => Scalar.addi (Scalar.subi (BitVec.ofNat 32 (i 2).val) 2#32) 1#32
  | 2 => Scalar.addi (Scalar.subi (BitVec.ofNat 32 (i 2).val) 2#32) 2#32

variable (i : grid0.Coords) (L : Loads F)

/-- The masked scores. -/
def score (h : Fin 2) (kb : Fin 3) : FVec F S256x256 .f32 :=
  Scalar.select (Scalar.cmpi .sge (ahead i kb) 0#32)
    (addf (mulf (mulNT (half h L.q zeroB) (L.k kb)) eighth) (shapeCast S256x256 (L.b h kb) shapeCasts_S1x256x256_S256x256))
    (broadcast S256x256 (Named.named κ "mask" (φ := .f32) 0xF149F2CA#32))

/-- The rows' largest scores. -/
def top (h : Fin 2) : FVec F S256x1 .f32 :=
  shapeCast S256x1 (multiReduction .maximumf [1] S256 (maximumf (maximumf (score i L h 0) (score i L h 1)) (score i L h 2))
    0xFF800000#32 reduces_S256x256_S256 (.inl rfl) rfl) shapeCasts_S256_S256x1

/-- The unnormalised weights. -/
def ex (h : Fin 2) (kb : Fin 3) : FVec F S256x256 .f32 :=
  exp (subf (score i L h kb) (broadcastTo S256x256 (top i L h) broadcasts_S256x1_S256x256))

/-- One over the rows' sums of the weights. -/
def inv (h : Fin 2) : FVec F S256x1 .f32 :=
  divf (broadcast S256x1 (Scalar.ofBits .f32 0x3F800000#32))
    (shapeCast S256x1 (multiReduction .add [1] S256 (addf (addf (ex i L h 0) (ex i L h 1)) (ex i L h 2))
      0x00000000#32 reduces_S256x256_S256 (.inl rfl) rfl) shapeCasts_S256_S256x1)

/-- The attention weights. -/
def prob (h : Fin 2) (kb : Fin 3) : FVec F S256x256 .f32 :=
  mulf (ex i L h kb) (broadcastTo S256x256 (inv i L h) broadcasts_S256x1_S256x256)

/-- The rows' products of output gradient and output. -/
def delta (h : Fin 2) : FVec F S256x1 .f32 :=
  shapeCast S256x1 (multiReduction .add [1] S256
    (half h (mulf (extf .f32 L.d bitsLt_bf16_f32) (shapeCast S256x128 L.o shapeCasts_S256x128_S256x128)) zeroF)
    0x00000000#32 reduces_S256x128_S256 (.inl rfl) rfl) shapeCasts_S256_S256x1

/-- The gradient of the scores. -/
def dscore (h : Fin 2) (kb : Fin 3) : FVec F S256x256 .f32 :=
  mulf (prob i L h kb) (subf (mulNT (half h L.d zeroB) (L.v kb)) (broadcastTo S256x256 (delta L h) broadcasts_S256x1_S256x256))

/-- The gradient of the scores before their scale, rounded. -/
def dlogit (h : Fin 2) (kb : Fin 3) : FVec F S256x256 .bf16 :=
  truncf .bf16 (mulf (dscore i L h kb) eighth) bitsLt_bf16_f32

/-- One head's query gradient. -/
def dqHead (h : Fin 2) : FVec F S256x128 .f32 :=
  addf (addf (mulNN (dlogit i L h 0) (L.k 0)) (mulNN (dlogit i L h 1) (L.k 1))) (mulNN (dlogit i L h 2) (L.k 2))

/-- The point's query gradient. -/
def dqTile : FVec F S256x128 .bf16 :=
  truncf .bf16 (select (wide lane0) (dqHead i L 0) (dqHead i L 1)) bitsLt_bf16_f32

/-- What the point adds to the key gradient's rows of tile `kb`, for head `h`. -/
def dkPart (h : Fin 2) (kb : Fin 3) : FVec F S256x128 .f32 :=
  select (wide (lanes h)) (mulTN (dlogit i L h kb) L.q) zeroF

/-- What it adds to the value gradient's. -/
def dvPart (h : Fin 2) (kb : Fin 3) : FVec F S256x128 .f32 :=
  select (wide (lanes h)) (mulTN (truncf .bf16 (prob i L h kb) bitsLt_bf16_f32) L.d) zeroF

/-- A tile added to an accumulator's rows of key tile `kb`. -/
def bump (kb : Fin 3) (w : FVec F S256x128 .f32) (X : Vec F S4096x128 .f32) : Vec F S4096x128 .f32 :=
  lay (rows i kb) (shapeCast S256x128 (addf (View.ld (Val := Elt F) (e' := .f32) X (rows i kb)) w) shapeCasts_S256x128_S256x128) X

theorem bump_fold0 (X : Vec F S4096x128 .f32) (w : FVec F S256x128 .f32) (h : ∀ a, k0_off1 i 0#32 a + (![256, 128] : Fin 2 → ℕ) a ≤ S4096x128.size a) :
    lay (Rect.unit (s := S4096x128) (k0_off1 i 0#32) ![256, 128] h)
      (shapeCast S256x128 (addf (View.ld (Val := Elt F) (e' := .f32) X (Rect.unit (s := S4096x128) (k0_off1 i 0#32) ![256, 128] h)) w)
        shapeCasts_S256x128_S256x128) X = bump i 0 w X := rfl

theorem bump_fold1 (X : Vec F S4096x128 .f32) (w : FVec F S256x128 .f32) (h : ∀ a, k0_off1 i 1#32 a + (![256, 128] : Fin 2 → ℕ) a ≤ S4096x128.size a) :
    lay (Rect.unit (s := S4096x128) (k0_off1 i 1#32) ![256, 128] h)
      (shapeCast S256x128 (addf (View.ld (Val := Elt F) (e' := .f32) X (Rect.unit (s := S4096x128) (k0_off1 i 1#32) ![256, 128] h)) w)
        shapeCasts_S256x128_S256x128) X = bump i 1 w X := rfl

theorem bump_fold2 (X : Vec F S4096x128 .f32) (w : FVec F S256x128 .f32) (h : ∀ a, k0_off1 i 2#32 a + (![256, 128] : Fin 2 → ℕ) a ≤ S4096x128.size a) :
    lay (Rect.unit (s := S4096x128) (k0_off1 i 2#32) ![256, 128] h)
      (shapeCast S256x128 (addf (View.ld (Val := Elt F) (e' := .f32) X (Rect.unit (s := S4096x128) (k0_off1 i 2#32) ![256, 128] h)) w)
        shapeCasts_S256x128_S256x128) X = bump i 2 w X := rfl

/-- All six tiles added, in the body's order. -/
def bumps (w : Fin 2 → Fin 3 → FVec F S256x128 .f32) (X : Vec F S4096x128 .f32) : Vec F S4096x128 .f32 :=
  bump i 2 (w 1 2) (bump i 1 (w 1 1) (bump i 0 (w 1 0) (bump i 2 (w 0 2) (bump i 1 (w 0 1) (bump i 0 (w 0 0) X)))))

/-- The gradient of the scores added to the bias gradient's part for head `h` and key tile `kb`, the old part taken from `X`. -/
def dbStep (X : Vec F S2x256x768 .f32) : (h : Fin 2) → (kb : Fin 3) → Vec F S2x256x768 .f32 → Vec F S2x256x768 .f32
  | 0, 0, Y => lay (cols 0 0) (shapeCast S1x256x256 (addf (shapeCast S256x256 (View.ld (Val := Elt F) (e' := .f32) X (cols 0 0)) shapeCasts_S1x256x256_S256x256) (dscore i L 0 0)) shapeCasts_S256x256_S1x256x256) Y
  | 0, 1, Y => lay (cols 0 1) (shapeCast S1x256x256 (addf (shapeCast S256x256 (View.ld (Val := Elt F) (e' := .f32) X (cols 0 1)) shapeCasts_S1x256x256_S256x256) (dscore i L 0 1)) shapeCasts_S256x256_S1x256x256) Y
  | 0, 2, Y => lay (cols 0 2) (shapeCast S1x256x256 (addf (shapeCast S256x256 (View.ld (Val := Elt F) (e' := .f32) X (cols 0 2)) shapeCasts_S1x256x256_S256x256) (dscore i L 0 2)) shapeCasts_S256x256_S1x256x256) Y
  | 1, 0, Y => lay (cols 1 0) (shapeCast S1x256x256 (addf (shapeCast S256x256 (View.ld (Val := Elt F) (e' := .f32) X (cols 1 0)) shapeCasts_S1x256x256_S256x256) (dscore i L 1 0)) shapeCasts_S256x256_S1x256x256) Y
  | 1, 1, Y => lay (cols 1 1) (shapeCast S1x256x256 (addf (shapeCast S256x256 (View.ld (Val := Elt F) (e' := .f32) X (cols 1 1)) shapeCasts_S1x256x256_S256x256) (dscore i L 1 1)) shapeCasts_S256x256_S1x256x256) Y
  | 1, 2, Y => lay (cols 1 2) (shapeCast S1x256x256 (addf (shapeCast S256x256 (View.ld (Val := Elt F) (e' := .f32) X (cols 1 2)) shapeCasts_S1x256x256_S256x256) (dscore i L 1 2)) shapeCasts_S256x256_S1x256x256) Y

/-- All six. -/
def dbAll (X : Vec F S2x256x768 .f32) : Vec F S2x256x768 .f32 :=
  dbStep i L X 1 2 (dbStep i L X 1 1 (dbStep i L X 1 0 (dbStep i L X 0 2 (dbStep i L X 0 1 (dbStep i L X 0 0 X)))))

end Cert.KernelIdeal.Hand

end
-- ==== Proof.BodyBase.lean ====
module

public import proofs.«01_k».proof.Proof.Tile
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first key row of tile `kb` at a point. -/
def tileOff (i : grid0.Coords) (kb : ℕ) : ℕ := 256 * ((i 2).val + kb - 2)

theorem off_eq (i : grid0.Coords) (kb : Fin 3) : k0_off1 i (BitVec.ofNat 32 kb.val) = ![tileOff i kb.val, 0] := by
  have key : ∀ (n : Fin 16) (kb : Fin 3), ((Scalar.indexCast (Scalar.muli (Scalar.maxsi (Scalar.addi (Scalar.subi (BitVec.ofNat 32 n.val) 2#32) (BitVec.ofNat 32 kb.val)) 0#32) 256#32 : BitVec 32)) : Index).toNat = 256 * (n.val + kb.val - 2) := by
    decide +kernel
  unfold k0_off1 tileOff
  funext a
  fin_cases a
  · exact key (i 2) kb
  · rfl

theorem tileOff_eq (i : grid0.Coords) (kb : ℕ) : tileOff i kb = 256 * ((i 2).val + kb - 2) := rfl

attribute [irreducible] tileOff

instance (i : grid0.Coords) : ClosedOff (k0_off1 i 0#32) := ⟨![tileOff i 0, 0], off_eq i 0⟩
instance (i : grid0.Coords) : ClosedOff (k0_off1 i 1#32) := ⟨![tileOff i 1, 0], off_eq i 1⟩
instance (i : grid0.Coords) : ClosedOff (k0_off1 i 2#32) := ⟨![tileOff i 2, 0], off_eq i 2⟩

/-- The point's loads off the blocks it is handed. -/
def loadsOf (i : grid0.Coords) (x3 : Vec F S256x128 .bf16) (x4 x5 : Vec F S4096x128 .bf16) (x6 : Vec F S2x256x768 .f32)
    (x7 : Vec F S256x128 .f32) (x8 : Vec F S256x128 .bf16) : Loads F where
  q := View.ld (Val := Elt F) (e' := .bf16) x3 (Rect.unit (s := S256x128) ![0, 0] S256x128.size inb_S256x128_S256x128_0_0)
  d := View.ld (Val := Elt F) (e' := .bf16) x8 (Rect.unit (s := S256x128) ![0, 0] S256x128.size inb_S256x128_S256x128_0_0)
  o := View.ld (Val := Elt F) (e' := .f32) x7 (Rect.unit (s := S256x128) ![0, 0] S256x128.size inb_S256x128_S256x128_0_0)
  k kb := View.ld (Val := Elt F) (e' := .bf16) x4 (rows i kb)
  v kb := View.ld (Val := Elt F) (e' := .bf16) x5 (rows i kb)
  b h kb := match h, kb with
    | 0, 0 => View.ld (Val := Elt F) (e' := .f32) x6 (cols 0 0)
    | 0, 1 => View.ld (Val := Elt F) (e' := .f32) x6 (cols 0 1)
    | 0, 2 => View.ld (Val := Elt F) (e' := .f32) x6 (cols 0 2)
    | 1, 0 => View.ld (Val := Elt F) (e' := .f32) x6 (cols 1 0)
    | 1, 1 => View.ld (Val := Elt F) (e' := .f32) x6 (cols 1 1)
    | 1, 2 => View.ld (Val := Elt F) (e' := .f32) x6 (cols 1 2)

/-- The body's test for the first query tile of a sequence, -/
abbrev first (i : grid0.Coords) : Prop :=
  Scalar.cmpi .ne (Scalar.extui (Scalar.cmpi .eq (BitVec.ofNat 32 (i 2).val) 0#32)) (0#32 : BitVec 32) = 1#1
/-- and for the first of the first sequence. -/
abbrev start (i : grid0.Coords) : Prop :=
  Scalar.cmpi .ne (Scalar.extui (Scalar.andi (Scalar.cmpi .eq (BitVec.ofNat 32 (i 2).val) 0#32) (Scalar.cmpi .eq (BitVec.ofNat 32 (i 1).val) 0#32))) (0#32 : BitVec 32) = 1#1

def zeroAcc : Vec F S4096x128 .f32 := broadcast S4096x128 (Scalar.ofBits .f32 0x00000000#32)
def zeroTab : Vec F S2x256x768 .f32 := broadcast S2x256x768 (Scalar.ofBits .f32 0x00000000#32)

/-- All six, each old part read after the parts before it were written. -/
def dbChain (i : grid0.Coords) (L : Loads F) (X : Vec F S2x256x768 .f32) : Vec F S2x256x768 .f32 :=
  (fun Y => dbStep i L Y 1 2 Y) ((fun Y => dbStep i L Y 1 1 Y) ((fun Y => dbStep i L Y 1 0 Y) ((fun Y => dbStep i L Y 0 2 Y) ((fun Y => dbStep i L Y 0 1 Y) (dbStep i L X 0 0 X)))))

/-- The key gradient's accumulator after the point, the value gradient's, and the bias gradient's block. -/
def dkAcc (i : grid0.Coords) (L : Loads F) (X : Vec F S4096x128 .f32) : Vec F S4096x128 .f32 :=
  bumps i (dkPart i L) (if first i then zeroAcc else X)
def dvAcc (i : grid0.Coords) (L : Loads F) (X : Vec F S4096x128 .f32) : Vec F S4096x128 .f32 :=
  bumps i (dvPart i L) (if first i then zeroAcc else X)
/-- The bias gradient's table after the point. -/
def dbAcc (i : grid0.Coords) (L : Loads F) (X : Vec F S2x256x768 .f32) : Vec F S2x256x768 .f32 := if start i then dbChain i L zeroTab else dbAll i L X

theorem lay_full2 {α : Type} {d : Fin 2 → ℕ} (inb : ∀ a, (![0, 0] : Fin 2 → ℕ) a + d a ≤ d a) (w : (⟨2, d⟩ : Shape).Idx → α) (X : (⟨2, d⟩ : Shape).Idx → α) :
    lay (Rect.unit (s := ⟨2, d⟩) ![0, 0] d inb) w X = w := by
  funext y
  have h : (Rect.unit (s := ⟨2, d⟩) ![0, 0] d inb).emb y = y := by
    funext a; apply Fin.ext; show ![0, 0] a + 1 * (y a).val = (y a).val
    fin_cases a <;> simp
  calc lay _ w X y = lay (Rect.unit (s := ⟨2, d⟩) ![0, 0] d inb) w X ((Rect.unit (s := ⟨2, d⟩) ![0, 0] d inb).emb y) := by rw [h]
    _ = w y := lay_emb _ _ _ _

theorem lay_full3 {α : Type} {d : Fin 3 → ℕ} (inb : ∀ a, (![0, 0, 0] : Fin 3 → ℕ) a + d a ≤ d a) (w : (⟨3, d⟩ : Shape).Idx → α) (X : (⟨3, d⟩ : Shape).Idx → α) :
    lay (Rect.unit (s := ⟨3, d⟩) ![0, 0, 0] d inb) w X = w := by
  funext y
  have h : (Rect.unit (s := ⟨3, d⟩) ![0, 0, 0] d inb).emb y = y := by
    funext a; apply Fin.ext; show ![0, 0, 0] a + 1 * (y a).val = (y a).val
    fin_cases a <;> simp
  calc lay _ w X y = lay (Rect.unit (s := ⟨3, d⟩) ![0, 0, 0] d inb) w X ((Rect.unit (s := ⟨3, d⟩) ![0, 0, 0] d inb).emb y) := by rw [h]
    _ = w y := lay_emb _ _ _ _

theorem ld_lay_ne {Val : EltTy → Type} {e : EltTy} {a b c a' b' c' : ℕ} (inb : ∀ x, (![a, b, c] : Fin 3 → ℕ) x + ![1, 256, 256] x ≤ S2x256x768.size x) (inb' : ∀ x, (![a', b', c'] : Fin 3 → ℕ) x + ![1, 256, 256] x ≤ S2x256x768.size x)
    (h : a ≠ a' ∨ c + 256 ≤ c' ∨ c' + 256 ≤ c) (w : (Rect.unit (s := S2x256x768) ![a, b, c] ![1, 256, 256] inb).shape.Idx → Val e) (X : S2x256x768.Idx → Val e) :
    View.ld (Val := Val) (e' := e) (lay (Rect.unit (s := S2x256x768) ![a, b, c] ![1, 256, 256] inb) w X) (Rect.unit (s := S2x256x768) ![a', b', c'] ![1, 256, 256] inb')
      = View.ld (Val := Val) (e' := e) X (Rect.unit (s := S2x256x768) ![a', b', c'] ![1, 256, 256] inb') := by
  funext y
  refine lay_of_not _ _ _ _ fun ⟨z, hz⟩ => ?_
  have h0 : a + 1 * (z 0).val = a' + 1 * (y 0).val := congrArg Fin.val (congrFun hz 0)
  have h2 : c + 1 * (z 2).val = c' + 1 * (y 2).val := congrArg Fin.val (congrFun hz 2)
  have z0 : (z 0).val < 1 := (z 0).isLt
  have y0 : (y 0).val < 1 := (y 0).isLt
  have z2 : (z 2).val < 256 := (z 2).isLt
  have y2 : (y 2).val < 256 := (y 2).isLt
  omega

theorem ld_full2 {Val : EltTy → Type} {e : EltTy} {d : Fin 2 → ℕ} (inb : ∀ a, (![0, 0] : Fin 2 → ℕ) a + d a ≤ d a) (X : (⟨2, d⟩ : Shape).Idx → Val e) :
    View.ld (Val := Val) (e' := e) X (Rect.unit (s := ⟨2, d⟩) ![0, 0] d inb) = X := by
  funext y
  show X _ = X y
  congr 1
  funext a; apply Fin.ext; show ![0, 0] a + 1 * (y a).val = (y a).val
  fin_cases a <;> simp

section Cov

variable {sig : RefSig} {κ : Kind} {sp : Space} {e : EltTy} {Val : EltTy → Type} [∀ e, Nonempty (Val e)]

theorem mem_full2 {d : Fin 2 → ℕ} (inb : ∀ a, (![0, 0] : Fin 2 → ℕ) a + d a ≤ d a) (y : (⟨2, d⟩ : Shape).Idx) :
    y ∈ (Rect.unit (s := ⟨2, d⟩) ![0, 0] d inb).set := by
  have h : (Rect.unit (s := ⟨2, d⟩) ![0, 0] d inb).emb y = y := by
    funext a; apply Fin.ext; show ![0, 0] a + 1 * (y a).val = (y a).val
    fin_cases a <;> simp
  have := mem_self (Rect.unit (s := ⟨2, d⟩) ![0, 0] d inb) y
  rwa [h] at this

theorem readCov_full20 {d : Fin 2 → ℕ} (v : View sig κ sp (⟨2, d⟩ : Shape) e) (f : v.ty.Contents Val) (inb : ∀ a, (![0, 0] : Fin 2 → ℕ) a + d a ≤ d a)
    (w : (Rect.unit (s := ⟨2, d⟩) ![0, 0] d inb).shape.Idx → Val e) (r : Rect (⟨2, d⟩ : Shape)) :
    v.readCov ([⟨Rect.unit (s := ⟨2, d⟩) ![0, 0] d inb, w⟩]) r.toLoadRect
      = View.ld (v.read Val (v.writes Val f ([⟨Rect.unit (s := ⟨2, d⟩) ![0, 0] d inb, w⟩]))) r :=
  readCov_of v f _ r ⟨⟨_, w⟩, by simp, fun x => mem_full2 inb _⟩

theorem readCov_full21 {d : Fin 2 → ℕ} (v : View sig κ sp (⟨2, d⟩ : Shape) e) (f : v.ty.Contents Val) (inb : ∀ a, (![0, 0] : Fin 2 → ℕ) a + d a ≤ d a)
    (w : (Rect.unit (s := ⟨2, d⟩) ![0, 0] d inb).shape.Idx → Val e) (p : View.Piece Val (⟨2, d⟩ : Shape) e) (r : Rect (⟨2, d⟩ : Shape)) :
    v.readCov (p :: [⟨Rect.unit (s := ⟨2, d⟩) ![0, 0] d inb, w⟩]) r.toLoadRect
      = View.ld (v.read Val (v.writes Val f (p :: [⟨Rect.unit (s := ⟨2, d⟩) ![0, 0] d inb, w⟩]))) r :=
  readCov_of v f _ r ⟨⟨_, w⟩, by simp, fun x => mem_full2 inb _⟩

theorem readCov_full22 {d : Fin 2 → ℕ} (v : View sig κ sp (⟨2, d⟩ : Shape) e) (f : v.ty.Contents Val) (inb : ∀ a, (![0, 0] : Fin 2 → ℕ) a + d a ≤ d a)
    (w : (Rect.unit (s := ⟨2, d⟩) ![0, 0] d inb).shape.Idx → Val e) (p p' : View.Piece Val (⟨2, d⟩ : Shape) e) (r : Rect (⟨2, d⟩ : Shape)) :
    v.readCov (p :: p' :: [⟨Rect.unit (s := ⟨2, d⟩) ![0, 0] d inb, w⟩]) r.toLoadRect
      = View.ld (v.read Val (v.writes Val f (p :: p' :: [⟨Rect.unit (s := ⟨2, d⟩) ![0, 0] d inb, w⟩]))) r :=
  readCov_of v f _ r ⟨⟨_, w⟩, by simp, fun x => mem_full2 inb _⟩

theorem mem_full3 {d : Fin 3 → ℕ} (inb : ∀ a, (![0, 0, 0] : Fin 3 → ℕ) a + d a ≤ d a) (y : (⟨3, d⟩ : Shape).Idx) :
    y ∈ (Rect.unit (s := ⟨3, d⟩) ![0, 0, 0] d inb).set := by
  have h : (Rect.unit (s := ⟨3, d⟩) ![0, 0, 0] d inb).emb y = y := by
    funext a; apply Fin.ext; show ![0, 0, 0] a + 1 * (y a).val = (y a).val
    fin_cases a <;> simp
  have := mem_self (Rect.unit (s := ⟨3, d⟩) ![0, 0, 0] d inb) y
  rwa [h] at this

theorem readCov_full30 {d : Fin 3 → ℕ} (v : View sig κ sp (⟨3, d⟩ : Shape) e) (f : v.ty.Contents Val) (inb : ∀ a, (![0, 0, 0] : Fin 3 → ℕ) a + d a ≤ d a)
    (w : (Rect.unit (s := ⟨3, d⟩) ![0, 0, 0] d inb).shape.Idx → Val e) (r : Rect (⟨3, d⟩ : Shape)) :
    v.readCov ([⟨Rect.unit (s := ⟨3, d⟩) ![0, 0, 0] d inb, w⟩]) r.toLoadRect
      = View.ld (v.read Val (v.writes Val f ([⟨Rect.unit (s := ⟨3, d⟩) ![0, 0, 0] d inb, w⟩]))) r :=
  readCov_of v f _ r ⟨⟨_, w⟩, by simp, fun x => mem_full3 inb _⟩

theorem readCov_full31 {d : Fin 3 → ℕ} (v : View sig κ sp (⟨3, d⟩ : Shape) e) (f : v.ty.Contents Val) (inb : ∀ a, (![0, 0, 0] : Fin 3 → ℕ) a + d a ≤ d a)
    (w : (Rect.unit (s := ⟨3, d⟩) ![0, 0, 0] d inb).shape.Idx → Val e) (p : View.Piece Val (⟨3, d⟩ : Shape) e) (r : Rect (⟨3, d⟩ : Shape)) :
    v.readCov (p :: [⟨Rect.unit (s := ⟨3, d⟩) ![0, 0, 0] d inb, w⟩]) r.toLoadRect
      = View.ld (v.read Val (v.writes Val f (p :: [⟨Rect.unit (s := ⟨3, d⟩) ![0, 0, 0] d inb, w⟩]))) r :=
  readCov_of v f _ r ⟨⟨_, w⟩, by simp, fun x => mem_full3 inb _⟩

theorem readCov_full32 {d : Fin 3 → ℕ} (v : View sig κ sp (⟨3, d⟩ : Shape) e) (f : v.ty.Contents Val) (inb : ∀ a, (![0, 0, 0] : Fin 3 → ℕ) a + d a ≤ d a)
    (w : (Rect.unit (s := ⟨3, d⟩) ![0, 0, 0] d inb).shape.Idx → Val e) (p p' : View.Piece Val (⟨3, d⟩ : Shape) e) (r : Rect (⟨3, d⟩ : Shape)) :
    v.readCov (p :: p' :: [⟨Rect.unit (s := ⟨3, d⟩) ![0, 0, 0] d inb, w⟩]) r.toLoadRect
      = View.ld (v.read Val (v.writes Val f (p :: p' :: [⟨Rect.unit (s := ⟨3, d⟩) ![0, 0, 0] d inb, w⟩]))) r :=
  readCov_of v f _ r ⟨⟨_, w⟩, by simp, fun x => mem_full3 inb _⟩

theorem readCov_full33 {d : Fin 3 → ℕ} (v : View sig κ sp (⟨3, d⟩ : Shape) e) (f : v.ty.Contents Val) (inb : ∀ a, (![0, 0, 0] : Fin 3 → ℕ) a + d a ≤ d a)
    (w : (Rect.unit (s := ⟨3, d⟩) ![0, 0, 0] d inb).shape.Idx → Val e) (p p' p2 : View.Piece Val (⟨3, d⟩ : Shape) e) (r : Rect (⟨3, d⟩ : Shape)) :
    v.readCov (p :: p' :: p2 :: [⟨Rect.unit (s := ⟨3, d⟩) ![0, 0, 0] d inb, w⟩]) r.toLoadRect
      = View.ld (v.read Val (v.writes Val f (p :: p' :: p2 :: [⟨Rect.unit (s := ⟨3, d⟩) ![0, 0, 0] d inb, w⟩]))) r :=
  readCov_of v f _ r ⟨⟨_, w⟩, by simp, fun x => mem_full3 inb _⟩

theorem readCov_full34 {d : Fin 3 → ℕ} (v : View sig κ sp (⟨3, d⟩ : Shape) e) (f : v.ty.Contents Val) (inb : ∀ a, (![0, 0, 0] : Fin 3 → ℕ) a + d a ≤ d a)
    (w : (Rect.unit (s := ⟨3, d⟩) ![0, 0, 0] d inb).shape.Idx → Val e) (p p' p2 p3 : View.Piece Val (⟨3, d⟩ : Shape) e) (r : Rect (⟨3, d⟩ : Shape)) :
    v.readCov (p :: p' :: p2 :: p3 :: [⟨Rect.unit (s := ⟨3, d⟩) ![0, 0, 0] d inb, w⟩]) r.toLoadRect
      = View.ld (v.read Val (v.writes Val f (p :: p' :: p2 :: p3 :: [⟨Rect.unit (s := ⟨3, d⟩) ![0, 0, 0] d inb, w⟩]))) r :=
  readCov_of v f _ r ⟨⟨_, w⟩, by simp, fun x => mem_full3 inb _⟩

theorem readCov_full35 {d : Fin 3 → ℕ} (v : View sig κ sp (⟨3, d⟩ : Shape) e) (f : v.ty.Contents Val) (inb : ∀ a, (![0, 0, 0] : Fin 3 → ℕ) a + d a ≤ d a)
    (w : (Rect.unit (s := ⟨3, d⟩) ![0, 0, 0] d inb).shape.Idx → Val e) (p p' p2 p3 p4 : View.Piece Val (⟨3, d⟩ : Shape) e) (r : Rect (⟨3, d⟩ : Shape)) :
    v.readCov (p :: p' :: p2 :: p3 :: p4 :: [⟨Rect.unit (s := ⟨3, d⟩) ![0, 0, 0] d inb, w⟩]) r.toLoadRect
      = View.ld (v.read Val (v.writes Val f (p :: p' :: p2 :: p3 :: p4 :: [⟨Rect.unit (s := ⟨3, d⟩) ![0, 0, 0] d inb, w⟩]))) r :=
  readCov_of v f _ r ⟨⟨_, w⟩, by simp, fun x => mem_full3 inb _⟩

end Cov

end Cert.KernelIdeal.Hand

end
-- ==== Proof.BodyMid.lean ====
module

public import proofs.«01_k».proof.Proof.BodyBase
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
set_option maxRecDepth 65536 in

/-- The body at a point that is neither the first nor the last query tile of a sequence. -/
theorem kernel_mid (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x256x768 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S2x256x768 .f32) (harg12 : arg12.IsWhole) (arg13 : Memref sig .tc .vmem S4096x128 .f32) (harg13 : arg13.IsWhole) (arg14 : Memref sig .tc .vmem S4096x128 .f32) (harg14 : arg14.IsWhole)
    (x3 : Vec F S256x128 .bf16) (x4 : Vec F S4096x128 .bf16) (x5 : Vec F S4096x128 .bf16) (x6 : Vec F S2x256x768 .f32) (x7 : Vec F S256x128 .f32) (x8 : Vec F S256x128 .bf16) (x9 : Vec F S256x128 .bf16) (x10 : Vec F S4096x128 .bf16) (x11 : Vec F S4096x128 .bf16) (x12 : Vec F S2x256x768 .f32) (x13 : Vec F S4096x128 .f32) (x14 : Vec F S4096x128 .f32) (K : PUnit → sProp 𝕄) (h1 : ¬ first i) (h2 : ¬ start i) (h3 : ¬ k0_cond3 i = 1#1) (P : sProp 𝕄) (hP : iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (dqTile i (loadsOf i x3 x4 x5 x6 x7 x8))
          ∗ owns (c : Thread nD τ) arg10 fullShare (if k0_cond3 i = 1#1 then truncf .bf16 (dkAcc i (loadsOf i x3 x4 x5 x6 x7 x8) x13) bitsLt_bf16_f32 else x10)
          ∗ owns (c : Thread nD τ) arg11 fullShare (if k0_cond3 i = 1#1 then truncf .bf16 (dvAcc i (loadsOf i x3 x4 x5 x6 x7 x8) x14) bitsLt_bf16_f32 else x11)
          ∗ owns (c : Thread nD τ) arg12 fullShare (dbAcc i (loadsOf i x3 x4 x5 x6 x7 x8) x12)
          ∗ owns (c : Thread nD τ) arg13 fullShare (dkAcc i (loadsOf i x3 x4 x5 x6 x7 x8) x13)
          ∗ owns (c : Thread nD τ) arg14 fullShare (dvAcc i (loadsOf i x3 x4 x5 x6 x7 x8) x14)) ⊢ P) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (P -∗ K ⟨⟩))
      ⊢ wp frame (wpE (defs₀ (F := F)) Variants.none c none) Set.univ
        (cc0_ca_bwd i arg3 harg3 arg4 harg4 arg5 harg5 arg6 harg6 arg7 harg7 arg8 harg8 arg9 harg9 arg10 harg10 arg11 harg11 arg12 harg12 arg13 harg13 arg14 harg14) K := by
  rw [cc0_ca_bwd_eq_skeleton]
  unfold cc0_ca_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf3 hf4 hf5 hf6 hf7 hf8 hf9 hf10 hf11 hf12 hf13 hf14
  sl_exec
  sl_step
  iapply Hk
  iapply hP
  unfold owns
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, View.readAt_eq_ld, read_writes_lay, View.writes_nil, lay_full2, lay_full3, Scalar.ofBits]
    rfl
  isplitl [H10]
  · iexists f10; isplitr; · ipureintro; rw [if_neg h3]
    iexact H10
  isplitl [H11]
  · iexists f11; isplitr; · ipureintro; rw [if_neg h3]
    iexact H11
  isplitl [H12]
  · iexists _; isplitr
    swap; · iexact H12
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, readCov_full30 arg12.view f12, readCov_full31 arg12.view f12, readCov_full32 arg12.view f12, readCov_full33 arg12.view f12, readCov_full34 arg12.view f12, readCov_full35 arg12.view f12, View.readAt_eq_ld, read_writes_lay, View.writes_nil, lay_full2, lay_full3, Scalar.ofBits]
    rfl
  isplitl [H13]
  · iexists _; isplitr
    swap; · iexact H13
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, readCov_hit0 arg13.view f13, readCov_hit1 arg13.view f13, readCov_hit2 arg13.view f13, readCov_full20 arg13.view f13, readCov_full21 arg13.view f13, readCov_full22 arg13.view f13, View.readAt_eq_ld, read_writes_lay, View.writes_nil, lay_full2, lay_full3, Scalar.ofBits]
    rfl
  iexists _; isplitr
  swap; · iexact H14
  ipureintro
  sl_unfold_run_names
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, readCov_hit0 arg14.view f14, readCov_hit1 arg14.view f14, readCov_hit2 arg14.view f14, readCov_full20 arg14.view f14, readCov_full21 arg14.view f14, readCov_full22 arg14.view f14, View.readAt_eq_ld, read_writes_lay, View.writes_nil, lay_full2, lay_full3, Scalar.ofBits]
  rfl

end Cert.KernelIdeal.Hand

end
-- ==== Proof.BodyLast.lean ====
module

public import proofs.«01_k».proof.Proof.BodyBase
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
set_option maxRecDepth 65536 in

/-- The body at a last query tile. -/
theorem kernel_last (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x256x768 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S2x256x768 .f32) (harg12 : arg12.IsWhole) (arg13 : Memref sig .tc .vmem S4096x128 .f32) (harg13 : arg13.IsWhole) (arg14 : Memref sig .tc .vmem S4096x128 .f32) (harg14 : arg14.IsWhole)
    (x3 : Vec F S256x128 .bf16) (x4 : Vec F S4096x128 .bf16) (x5 : Vec F S4096x128 .bf16) (x6 : Vec F S2x256x768 .f32) (x7 : Vec F S256x128 .f32) (x8 : Vec F S256x128 .bf16) (x9 : Vec F S256x128 .bf16) (x10 : Vec F S4096x128 .bf16) (x11 : Vec F S4096x128 .bf16) (x12 : Vec F S2x256x768 .f32) (x13 : Vec F S4096x128 .f32) (x14 : Vec F S4096x128 .f32) (K : PUnit → sProp 𝕄) (h1 : ¬ first i) (h2 : ¬ start i) (h3 : k0_cond3 i = 1#1) (P : sProp 𝕄) (hP : iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (dqTile i (loadsOf i x3 x4 x5 x6 x7 x8))
          ∗ owns (c : Thread nD τ) arg10 fullShare (if k0_cond3 i = 1#1 then truncf .bf16 (dkAcc i (loadsOf i x3 x4 x5 x6 x7 x8) x13) bitsLt_bf16_f32 else x10)
          ∗ owns (c : Thread nD τ) arg11 fullShare (if k0_cond3 i = 1#1 then truncf .bf16 (dvAcc i (loadsOf i x3 x4 x5 x6 x7 x8) x14) bitsLt_bf16_f32 else x11)
          ∗ owns (c : Thread nD τ) arg12 fullShare (dbAcc i (loadsOf i x3 x4 x5 x6 x7 x8) x12)
          ∗ owns (c : Thread nD τ) arg13 fullShare (dkAcc i (loadsOf i x3 x4 x5 x6 x7 x8) x13)
          ∗ owns (c : Thread nD τ) arg14 fullShare (dvAcc i (loadsOf i x3 x4 x5 x6 x7 x8) x14)) ⊢ P) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (P -∗ K ⟨⟩))
      ⊢ wp frame (wpE (defs₀ (F := F)) Variants.none c none) Set.univ
        (cc0_ca_bwd i arg3 harg3 arg4 harg4 arg5 harg5 arg6 harg6 arg7 harg7 arg8 harg8 arg9 harg9 arg10 harg10 arg11 harg11 arg12 harg12 arg13 harg13 arg14 harg14) K := by
  rw [cc0_ca_bwd_eq_skeleton]
  unfold cc0_ca_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf3 hf4 hf5 hf6 hf7 hf8 hf9 hf10 hf11 hf12 hf13 hf14
  sl_exec
  sl_step
  iapply Hk
  iapply hP
  unfold owns
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, View.readAt_eq_ld, read_writes_lay, View.writes_nil, lay_full2, lay_full3, Scalar.ofBits]
    rfl
  isplitl [H10]
  · iexists _; isplitr
    swap; · iexact H10
    ipureintro
    rw [if_pos h3]
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, readCov_hit0 arg13.view f13, readCov_hit1 arg13.view f13, readCov_hit2 arg13.view f13, readCov_full20 arg13.view f13, readCov_full21 arg13.view f13, readCov_full22 arg13.view f13, View.readAt_eq_ld, read_writes_lay, View.writes_nil, lay_full2, lay_full3, ld_full2, Scalar.ofBits]
    rfl
  isplitl [H11]
  · iexists _; isplitr
    swap; · iexact H11
    ipureintro
    rw [if_pos h3]
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, readCov_hit0 arg14.view f14, readCov_hit1 arg14.view f14, readCov_hit2 arg14.view f14, readCov_full20 arg14.view f14, readCov_full21 arg14.view f14, readCov_full22 arg14.view f14, View.readAt_eq_ld, read_writes_lay, View.writes_nil, lay_full2, lay_full3, ld_full2, Scalar.ofBits]
    rfl
  isplitl [H12]
  · iexists _; isplitr
    swap; · iexact H12
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, readCov_full30 arg12.view f12, readCov_full31 arg12.view f12, readCov_full32 arg12.view f12, readCov_full33 arg12.view f12, readCov_full34 arg12.view f12, readCov_full35 arg12.view f12, View.readAt_eq_ld, read_writes_lay, View.writes_nil, lay_full2, lay_full3, Scalar.ofBits]
    rfl
  isplitl [H13]
  · iexists _; isplitr
    swap; · iexact H13
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, readCov_hit0 arg13.view f13, readCov_hit1 arg13.view f13, readCov_hit2 arg13.view f13, readCov_full20 arg13.view f13, readCov_full21 arg13.view f13, readCov_full22 arg13.view f13, View.readAt_eq_ld, read_writes_lay, View.writes_nil, lay_full2, lay_full3, Scalar.ofBits]
    rfl
  iexists _; isplitr
  swap; · iexact H14
  ipureintro
  sl_unfold_run_names
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_neg h1, if_neg h2, readCov_hit0 arg14.view f14, readCov_hit1 arg14.view f14, readCov_hit2 arg14.view f14, readCov_full20 arg14.view f14, readCov_full21 arg14.view f14, readCov_full22 arg14.view f14, View.readAt_eq_ld, read_writes_lay, View.writes_nil, lay_full2, lay_full3, Scalar.ofBits]
  rfl

end Cert.KernelIdeal.Hand

end
-- ==== Proof.BodyFirst.lean ====
module

public import proofs.«01_k».proof.Proof.BodyBase
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
set_option maxRecDepth 65536 in

/-- The body at a first query tile, but not of the first sequence. -/
theorem kernel_first (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x256x768 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S2x256x768 .f32) (harg12 : arg12.IsWhole) (arg13 : Memref sig .tc .vmem S4096x128 .f32) (harg13 : arg13.IsWhole) (arg14 : Memref sig .tc .vmem S4096x128 .f32) (harg14 : arg14.IsWhole)
    (x3 : Vec F S256x128 .bf16) (x4 : Vec F S4096x128 .bf16) (x5 : Vec F S4096x128 .bf16) (x6 : Vec F S2x256x768 .f32) (x7 : Vec F S256x128 .f32) (x8 : Vec F S256x128 .bf16) (x9 : Vec F S256x128 .bf16) (x10 : Vec F S4096x128 .bf16) (x11 : Vec F S4096x128 .bf16) (x12 : Vec F S2x256x768 .f32) (x13 : Vec F S4096x128 .f32) (x14 : Vec F S4096x128 .f32) (K : PUnit → sProp 𝕄) (h1 : first i) (h2 : ¬ start i) (h3 : ¬ k0_cond3 i = 1#1) (P : sProp 𝕄) (hP : iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (dqTile i (loadsOf i x3 x4 x5 x6 x7 x8))
          ∗ owns (c : Thread nD τ) arg10 fullShare (if k0_cond3 i = 1#1 then truncf .bf16 (dkAcc i (loadsOf i x3 x4 x5 x6 x7 x8) x13) bitsLt_bf16_f32 else x10)
          ∗ owns (c : Thread nD τ) arg11 fullShare (if k0_cond3 i = 1#1 then truncf .bf16 (dvAcc i (loadsOf i x3 x4 x5 x6 x7 x8) x14) bitsLt_bf16_f32 else x11)
          ∗ owns (c : Thread nD τ) arg12 fullShare (dbAcc i (loadsOf i x3 x4 x5 x6 x7 x8) x12)
          ∗ owns (c : Thread nD τ) arg13 fullShare (dkAcc i (loadsOf i x3 x4 x5 x6 x7 x8) x13)
          ∗ owns (c : Thread nD τ) arg14 fullShare (dvAcc i (loadsOf i x3 x4 x5 x6 x7 x8) x14)) ⊢ P) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (P -∗ K ⟨⟩))
      ⊢ wp frame (wpE (defs₀ (F := F)) Variants.none c none) Set.univ
        (cc0_ca_bwd i arg3 harg3 arg4 harg4 arg5 harg5 arg6 harg6 arg7 harg7 arg8 harg8 arg9 harg9 arg10 harg10 arg11 harg11 arg12 harg12 arg13 harg13 arg14 harg14) K := by
  rw [cc0_ca_bwd_eq_skeleton]
  unfold cc0_ca_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf3 hf4 hf5 hf6 hf7 hf8 hf9 hf10 hf11 hf12 hf13 hf14
  sl_exec
  sl_step
  iapply Hk
  iapply hP
  unfold owns
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_pos h1, if_neg h2, View.readAt_eq_ld, read_writes_lay, View.writes_nil, lay_full2, lay_full3, Scalar.ofBits]
    rfl
  isplitl [H10]
  · iexists f10; isplitr; · ipureintro; rw [if_neg h3]
    iexact H10
  isplitl [H11]
  · iexists f11; isplitr; · ipureintro; rw [if_neg h3]
    iexact H11
  isplitl [H12]
  · iexists _; isplitr
    swap; · iexact H12
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_pos h1, if_neg h2, readCov_full30 arg12.view f12, readCov_full31 arg12.view f12, readCov_full32 arg12.view f12, readCov_full33 arg12.view f12, readCov_full34 arg12.view f12, readCov_full35 arg12.view f12, View.readAt_eq_ld, read_writes_lay, View.writes_nil, lay_full2, lay_full3, Scalar.ofBits]
    rfl
  isplitl [H13]
  · iexists _; isplitr
    swap; · iexact H13
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_pos h1, if_neg h2, readCov_hit0 arg13.view f13, readCov_hit1 arg13.view f13, readCov_hit2 arg13.view f13, readCov_full20 arg13.view f13, readCov_full21 arg13.view f13, readCov_full22 arg13.view f13, View.readAt_eq_ld, read_writes_lay, View.writes_nil, lay_full2, lay_full3, Scalar.ofBits]
    rfl
  iexists _; isplitr
  swap; · iexact H14
  ipureintro
  sl_unfold_run_names
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_pos h1, if_neg h2, readCov_hit0 arg14.view f14, readCov_hit1 arg14.view f14, readCov_hit2 arg14.view f14, readCov_full20 arg14.view f14, readCov_full21 arg14.view f14, readCov_full22 arg14.view f14, View.readAt_eq_ld, read_writes_lay, View.writes_nil, lay_full2, lay_full3, Scalar.ofBits]
  rfl

end Cert.KernelIdeal.Hand

end
-- ==== Proof.BodyStart.lean ====
module

public import proofs.«01_k».proof.Proof.BodyBase
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
set_option maxRecDepth 65536 in

/-- The body at the first query tile of the first sequence. -/
theorem kernel_start (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x256x768 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S2x256x768 .f32) (harg12 : arg12.IsWhole) (arg13 : Memref sig .tc .vmem S4096x128 .f32) (harg13 : arg13.IsWhole) (arg14 : Memref sig .tc .vmem S4096x128 .f32) (harg14 : arg14.IsWhole)
    (x3 : Vec F S256x128 .bf16) (x4 : Vec F S4096x128 .bf16) (x5 : Vec F S4096x128 .bf16) (x6 : Vec F S2x256x768 .f32) (x7 : Vec F S256x128 .f32) (x8 : Vec F S256x128 .bf16) (x9 : Vec F S256x128 .bf16) (x10 : Vec F S4096x128 .bf16) (x11 : Vec F S4096x128 .bf16) (x12 : Vec F S2x256x768 .f32) (x13 : Vec F S4096x128 .f32) (x14 : Vec F S4096x128 .f32) (K : PUnit → sProp 𝕄) (h1 : first i) (h2 : start i) (h3 : ¬ k0_cond3 i = 1#1) (P : sProp 𝕄) (hP : iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (dqTile i (loadsOf i x3 x4 x5 x6 x7 x8))
          ∗ owns (c : Thread nD τ) arg10 fullShare (if k0_cond3 i = 1#1 then truncf .bf16 (dkAcc i (loadsOf i x3 x4 x5 x6 x7 x8) x13) bitsLt_bf16_f32 else x10)
          ∗ owns (c : Thread nD τ) arg11 fullShare (if k0_cond3 i = 1#1 then truncf .bf16 (dvAcc i (loadsOf i x3 x4 x5 x6 x7 x8) x14) bitsLt_bf16_f32 else x11)
          ∗ owns (c : Thread nD τ) arg12 fullShare (dbAcc i (loadsOf i x3 x4 x5 x6 x7 x8) x12)
          ∗ owns (c : Thread nD τ) arg13 fullShare (dkAcc i (loadsOf i x3 x4 x5 x6 x7 x8) x13)
          ∗ owns (c : Thread nD τ) arg14 fullShare (dvAcc i (loadsOf i x3 x4 x5 x6 x7 x8) x14)) ⊢ P) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (P -∗ K ⟨⟩))
      ⊢ wp frame (wpE (defs₀ (F := F)) Variants.none c none) Set.univ
        (cc0_ca_bwd i arg3 harg3 arg4 harg4 arg5 harg5 arg6 harg6 arg7 harg7 arg8 harg8 arg9 harg9 arg10 harg10 arg11 harg11 arg12 harg12 arg13 harg13 arg14 harg14) K := by
  rw [cc0_ca_bwd_eq_skeleton]
  unfold cc0_ca_bwd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf3 hf4 hf5 hf6 hf7 hf8 hf9 hf10 hf11 hf12 hf13 hf14
  sl_exec
  sl_step
  iapply Hk
  iapply hP
  unfold owns
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_pos h1, if_pos h2, View.readAt_eq_ld, read_writes_lay, View.writes_nil, lay_full2, lay_full3, Scalar.ofBits]
    rfl
  isplitl [H10]
  · iexists f10; isplitr; · ipureintro; rw [if_neg h3]
    iexact H10
  isplitl [H11]
  · iexists f11; isplitr; · ipureintro; rw [if_neg h3]
    iexact H11
  isplitl [H12]
  · iexists _; isplitr
    swap; · iexact H12
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_pos h1, if_pos h2, readCov_full30 arg12.view f12, readCov_full31 arg12.view f12, readCov_full32 arg12.view f12, readCov_full33 arg12.view f12, readCov_full34 arg12.view f12, readCov_full35 arg12.view f12, View.readAt_eq_ld, read_writes_lay, View.writes_nil, lay_full2, lay_full3, Scalar.ofBits]
    rfl
  isplitl [H13]
  · iexists _; isplitr
    swap; · iexact H13
    ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_pos h1, if_pos h2, readCov_hit0 arg13.view f13, readCov_hit1 arg13.view f13, readCov_hit2 arg13.view f13, readCov_full20 arg13.view f13, readCov_full21 arg13.view f13, readCov_full22 arg13.view f13, View.readAt_eq_ld, read_writes_lay, View.writes_nil, lay_full2, lay_full3, Scalar.ofBits]
    rfl
  iexists _; isplitr
  swap; · iexact H14
  ipureintro
  sl_unfold_run_names
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, dqTile, dqHead, dlogit, dscore, prob, delta, inv, ex, top, score, ahead, half, lane0, lanes, wide, zeroB, zeroF, eighth, mulNN, mulNT, mulTN, dkAcc, dvAcc, dbAcc, dkPart, dvPart, bumps, bump_fold0, bump_fold1, bump_fold2, dbAll, dbChain, dbStep, zeroAcc, zeroTab, loadsOf, cols, if_pos h1, if_pos h2, readCov_hit0 arg14.view f14, readCov_hit1 arg14.view f14, readCov_hit2 arg14.view f14, readCov_full20 arg14.view f14, readCov_full21 arg14.view f14, readCov_full22 arg14.view f14, View.readAt_eq_ld, read_writes_lay, View.writes_nil, lay_full2, lay_full3, Scalar.ofBits]
  rfl

end Cert.KernelIdeal.Hand

end
-- ==== Proof.BodyAll.lean ====
module

public import proofs.«01_k».proof.Proof.BodyMid
public import proofs.«01_k».proof.Proof.BodyLast
public import proofs.«01_k».proof.Proof.BodyFirst
public import proofs.«01_k».proof.Proof.BodyStart
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem not_start (i : grid0.Coords) (h1 : ¬ first i) : ¬ start i := by
  have key : ∀ (a : Fin 16) (b : Fin 2), ¬ Scalar.cmpi .ne (Scalar.extui (Scalar.cmpi .eq (BitVec.ofNat 32 a.val) 0#32)) (0#32 : BitVec 32) = 1#1 →
      ¬ Scalar.cmpi .ne (Scalar.extui (Scalar.andi (Scalar.cmpi .eq (BitVec.ofNat 32 a.val) 0#32) (Scalar.cmpi .eq (BitVec.ofNat 32 b.val) 0#32))) (0#32 : BitVec 32) = 1#1 := by
    decide +kernel
  exact key (i 2) (i 1) h1

theorem not_last (i : grid0.Coords) (h1 : first i) : ¬ k0_cond3 i = 1#1 := by
  have key : ∀ (a : Fin 16), Scalar.cmpi .ne (Scalar.extui (Scalar.cmpi .eq (BitVec.ofNat 32 a.val) 0#32)) (0#32 : BitVec 32) = 1#1 →
      ¬ Scalar.cmpi .ne (Scalar.extui (Scalar.cmpi .eq (BitVec.ofNat 32 a.val) 15#32)) (0#32 : BitVec 32) = 1#1 := by
    decide +kernel
  exact key (i 2) h1

/-- The body at a point, on whole staging memrefs. -/
theorem sound_kernel (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x256x768 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S2x256x768 .f32) (harg12 : arg12.IsWhole) (arg13 : Memref sig .tc .vmem S4096x128 .f32) (harg13 : arg13.IsWhole) (arg14 : Memref sig .tc .vmem S4096x128 .f32) (harg14 : arg14.IsWhole)
    (x3 : Vec F S256x128 .bf16) (x4 : Vec F S4096x128 .bf16) (x5 : Vec F S4096x128 .bf16) (x6 : Vec F S2x256x768 .f32) (x7 : Vec F S256x128 .f32) (x8 : Vec F S256x128 .bf16) (x9 : Vec F S256x128 .bf16) (x10 : Vec F S4096x128 .bf16) (x11 : Vec F S4096x128 .bf16) (x12 : Vec F S2x256x768 .f32) (x13 : Vec F S4096x128 .f32) (x14 : Vec F S4096x128 .f32) (K : PUnit → sProp 𝕄) (P : sProp 𝕄) (hP : iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (dqTile i (loadsOf i x3 x4 x5 x6 x7 x8))
          ∗ owns (c : Thread nD τ) arg10 fullShare (if k0_cond3 i = 1#1 then truncf .bf16 (dkAcc i (loadsOf i x3 x4 x5 x6 x7 x8) x13) bitsLt_bf16_f32 else x10)
          ∗ owns (c : Thread nD τ) arg11 fullShare (if k0_cond3 i = 1#1 then truncf .bf16 (dvAcc i (loadsOf i x3 x4 x5 x6 x7 x8) x14) bitsLt_bf16_f32 else x11)
          ∗ owns (c : Thread nD τ) arg12 fullShare (dbAcc i (loadsOf i x3 x4 x5 x6 x7 x8) x12)
          ∗ owns (c : Thread nD τ) arg13 fullShare (dkAcc i (loadsOf i x3 x4 x5 x6 x7 x8) x13)
          ∗ owns (c : Thread nD τ) arg14 fullShare (dvAcc i (loadsOf i x3 x4 x5 x6 x7 x8) x14)) ⊢ P) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (P -∗ K ⟨⟩))
      ⊢ wp frame (wpE (defs₀ (F := F)) Variants.none c none) Set.univ
        (cc0_ca_bwd i arg3 harg3 arg4 harg4 arg5 harg5 arg6 harg6 arg7 harg7 arg8 harg8 arg9 harg9 arg10 harg10 arg11 harg11 arg12 harg12 arg13 harg13 arg14 harg14) K := by
  by_cases h1 : first i
  · by_cases h2 : start i
    · exact kernel_start c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 K h1 h2 (not_last i h1) P hP
    · exact kernel_first c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 K h1 h2 (not_last i h1) P hP
  · by_cases h3 : k0_cond3 i = 1#1
    · exact kernel_last c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 K h1 (not_start i h1) h3 P hP
    · exact kernel_mid c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 K h1 (not_start i h1) h3 P hP

end Cert.KernelIdeal.Hand

end
-- ==== Proof.Launch.lean ====
module

public import proofs.«01_k».proof.Proof.BodyAll
public import proofs.«01_k».proof.Proof.Gen.KernelIdeal.Frame
public import Idealize.ShloMosaic.Lib.Claim

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

/-- What point `t` loads off its blocks. -/
def lds (c : Dev nD) (t : Fin cfg0.N) : Loads F :=
  loadsOf (grid0.coords t) (iblk m c 0 t) (iblk m c 1 t) (iblk m c 2 t) (iblk m c 3 t) (iblk m c 4 t) (iblk m c 5 t)

/-- A state stepped through the first `n` points. -/
def steps {α : Type} (f : Fin cfg0.N → α → α) (z : α) : ℕ → α
  | 0 => z
  | n + 1 => if h : n < cfg0.N then f ⟨n, h⟩ (steps f z n) else steps f z n

theorem steps_succ {α : Type} (f : Fin cfg0.N → α → α) (z : α) (t : Fin cfg0.N) : steps f z (t.val + 1) = f t (steps f z t.val) := by
  show (if h : t.val < cfg0.N then f ⟨t.val, h⟩ (steps f z t.val) else steps f z t.val) = _
  rw [dif_pos t.isLt]

/-- The key gradient's accumulator after `n` points, the value gradient's, the bias gradient's block. -/
def dkTab (c : Dev nD) : ℕ → Vec F S4096x128 .f32 := steps (fun t X => dkAcc (grid0.coords t) (lds m c t) X) zeroAcc
def dvTab (c : Dev nD) : ℕ → Vec F S4096x128 .f32 := steps (fun t X => dvAcc (grid0.coords t) (lds m c t) X) zeroAcc
def dbTab (c : Dev nD) : ℕ → Vec F S2x256x768 .f32 := steps (fun t X => dbAcc (grid0.coords t) (lds m c t) X) zeroTab

theorem first_iff : ∀ t : Fin cfg0.N, first (grid0.coords t) ↔ t.val % 16 = 0 :=
  (by decide +kernel : ∀ t : Fin grid0.N, first (grid0.coords t) ↔ t.val % 16 = 0)
theorem start_iff : ∀ t : Fin cfg0.N, start (grid0.coords t) ↔ t.val % 32 = 0 :=
  (by decide +kernel : ∀ t : Fin grid0.N, start (grid0.coords t) ↔ t.val % 32 = 0)
theorem last_iff : ∀ t : Fin cfg0.N, k0_cond3 (grid0.coords t) = 1#1 ↔ t.val % 16 = 15 :=
  (by decide +kernel : ∀ t : Fin grid0.N, k0_cond3 (grid0.coords t) = 1#1 ↔ t.val % 16 = 15)

theorem dkTab_step (c : Dev nD) (t : Fin cfg0.N) (X : Vec F S4096x128 .f32) (h : t.val ≠ 0 → X = dkTab m c t.val) :
    dkAcc (grid0.coords t) (lds m c t) X = dkTab m c (t.val + 1) := by
  unfold dkTab; rw [steps_succ]
  by_cases ht : t.val = 0
  · have h1 : first (grid0.coords t) := (first_iff t).2 (by rw [ht])
    unfold dkAcc; rw [if_pos h1, if_pos h1]
  · rw [h ht]; rfl
theorem dvTab_step (c : Dev nD) (t : Fin cfg0.N) (X : Vec F S4096x128 .f32) (h : t.val ≠ 0 → X = dvTab m c t.val) :
    dvAcc (grid0.coords t) (lds m c t) X = dvTab m c (t.val + 1) := by
  unfold dvTab; rw [steps_succ]
  by_cases ht : t.val = 0
  · have h1 : first (grid0.coords t) := (first_iff t).2 (by rw [ht])
    unfold dvAcc; rw [if_pos h1, if_pos h1]
  · rw [h ht]; rfl
theorem dbTab_step (c : Dev nD) (t : Fin cfg0.N) (X : Vec F S2x256x768 .f32) (h : t.val % 32 ≠ 0 → X = dbTab m c t.val) :
    dbAcc (grid0.coords t) (lds m c t) X = dbTab m c (t.val + 1) := by
  unfold dbTab; rw [steps_succ]
  by_cases ht : t.val % 32 = 0
  · have h1 : start (grid0.coords t) := (start_iff t).2 ht
    unfold dbAcc; rw [if_pos h1, if_pos h1]
  · rw [h ht]; rfl

/-! ## The pipeline's proof data -/

/-- The invariant before point `n`: past the first point the two accumulators hold what the points so far left. -/
def PhiS (c : Dev nD) (n : ℕ) (_ : n ≤ cfg0.N) : sProp 𝕄 :=
  iprop(∃ (f : Vec F S4096x128 .f32) (g : Vec F S4096x128 .f32), ⌜(n ≠ 0 → f = dkTab m c n) ∧ (n ≠ 0 → g = dvTab m c n)⌝
    ∗ owns (c : Thread nD τ) (Memref.whole cc0_scratch0) fullShare f ∗ owns (c : Thread nD τ) (Memref.whole cc0_scratch1) fullShare g
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqTile (grid0.coords t) (lds m c t)
    | ⟨7, _⟩ => truncf .bf16 (dkTab m c (t.val + 1)) bitsLt_bf16_f32
    | ⟨8, _⟩ => truncf .bf16 (dvTab m c (t.val + 1)) bitsLt_bf16_f32
    | ⟨9, _⟩ => dbTab m c (t.val + 1)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqTile (grid0.coords t) (lds m c t) := by dsimp only [dats]
theorem after0_7 (c : Dev nD) (t : Fin cfg0.N) : (dats m 0 c).after 7 t = truncf .bf16 (dkTab m c (t.val + 1)) bitsLt_bf16_f32 := by dsimp only [dats]
theorem after0_8 (c : Dev nD) (t : Fin cfg0.N) : (dats m 0 c).after 8 t = truncf .bf16 (dvTab m c (t.val + 1)) bitsLt_bf16_f32 := by dsimp only [dats]
theorem after0_9 (c : Dev nD) (t : Fin cfg0.N) : (dats m 0 c).after 9 t = dbTab m c (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The bias gradient's block, at a point that does not begin a pair of heads: what the point before left. -/
theorem before0_9 (c : Dev nD) (t : Fin cfg0.N) (h : t.val % 32 ≠ 0) (d) : (dats m 0 c).before 9 t d = dbTab m c t.val := by
  have ht : t.val ≠ 0 := fun h0 => h (by rw [h0])
  have hf : (cfg0.win 9).flush ⟨t.val - 1, Nat.lt_of_le_of_lt (Nat.sub_le _ _) t.isLt⟩ = false := by
    rw [← Bool.not_eq_true, flush0_9]; show ¬ (t.val - 1) % 32 = 31; omega
  rw [(dats m 0 c).before_out_kept 9 rfl t ht hf (fun _ => rfl) (fun _ _ => rfl), after0_9]
  show dbTab m c (t.val - 1 + 1) = _
  rw [Nat.sub_add_cancel (Nat.pos_of_ne_zero ht)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What window `w` is left with: at an idle point what it held. -/
abbrev leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ leaves m c 7 t
    ∗ leaves m c 8 t
    ∗ owns (c : Thread nD τ) (st0_9 t) fullShare ((dats m 0 c).after 9 t))

theorem leaves_7 (c : Dev nD) (t : Fin cfg0.N) (d) :
    owns (c : Thread nD τ) (st0_7 t) fullShare (if k0_cond3 (grid0.coords t) = 1#1 then (dats m 0 c).after 7 t else (dats m 0 c).before 7 t d) ⊢ leaves m c 7 t := by
  unfold leaves
  by_cases h : k0_cond3 (grid0.coords t) = 1#1
  · have hi : cfg0.idle 7 (cfg0.grid.coords t) = false := by show (!(k0_cond3 (grid0.coords t) == 1#1)) = false; rw [h]; rfl
    rw [hi, if_pos h]
  · have hi : cfg0.idle 7 (cfg0.grid.coords t) = true := by show (!(k0_cond3 (grid0.coords t) == 1#1)) = true; rw [beq_eq_false_iff_ne.2 h]; rfl
    have hf : (cfg0.win 7).flush t = false := by rw [← Bool.not_eq_true, flush0_7, ← last_iff]; exact h
    rw [hi, hf, if_neg h]
    iintro H; iexists d; iexact H
theorem leaves_8 (c : Dev nD) (t : Fin cfg0.N) (d) :
    owns (c : Thread nD τ) (st0_8 t) fullShare (if k0_cond3 (grid0.coords t) = 1#1 then (dats m 0 c).after 8 t else (dats m 0 c).before 8 t d) ⊢ leaves m c 8 t := by
  unfold leaves
  by_cases h : k0_cond3 (grid0.coords t) = 1#1
  · have hi : cfg0.idle 8 (cfg0.grid.coords t) = false := by show (!(k0_cond3 (grid0.coords t) == 1#1)) = false; rw [h]; rfl
    rw [hi, if_pos h]
  · have hi : cfg0.idle 8 (cfg0.grid.coords t) = true := by show (!(k0_cond3 (grid0.coords t) == 1#1)) = true; rw [beq_eq_false_iff_ne.2 h]; rfl
    have hf : (cfg0.win 8).flush t = false := by rw [← Bool.not_eq_true, flush0_8, ← last_iff]; exact h
    rw [hi, hf, if_neg h]
    iintro H; iexists d; iexact H

theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [Phi_castSucc, Phi_succ, show (dats m 0 c).owesAt () t.succ = (dats m 0 c).owesAt () t.castSucc from rfl,
    after0_0, after0_1, after0_2, after0_3, after0_4, after0_5, after0_6, after0_9]
  unfold PhiS
  iintro ⟨⟨%f, %g, %hfg, Hf, Hg, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) _ _ _ _ _ _ _ _ _ _ _ _ _ _ _ _ _ _ _ _ _ _ _ _
    (iblk m c 0 t) (iblk m c 1 t) (iblk m c 2 t) (iblk m c 3 t) (iblk m c 4 t) (iblk m c 5 t) _ _ _ _ f g _ _ .rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hf]; · iexact Hf
  isplitl [Hg]; · iexact Hg
  have ek := dkTab_step m c t f hfg.1
  have ev := dvTab_step m c t g hfg.2
  have eb := dbTab_step m c t ((dats m 0 c).before 9 t d9) (fun h => before0_9 m c t h d9)
  unfold lds at ek ev eb
  rw [ek, ev, eb]
  iintro ⟨H0, H1, H2, H3, H4, H5, H6, H7, H8, H9, Hf, Hg⟩
  isplitl [Hf Hg Hr]
  · iexists _, _; isplitr
    swap
    · isplitl [Hf]; · iexact Hf
      isplitl [Hg]; · iexact Hg
      iexact Hr
    ipureintro; exact ⟨fun _ => rfl, fun _ => rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_7 m c t d7); rw [after0_7]; iexact H7
  isplitl [H8]; · iapply (leaves_8 m c t d8); rw [after0_8]; iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem Phi_in (c : Dev nD) : (Pipeline.ΦA spec0 c : sProp 𝕄) ⊢ (dats m 0 c).Φ 0 := by
  rw [show (dats m 0 c).Φ 0 = PhiS m c 0 (Nat.zero_le _) by dsimp only [dats]; rfl]
  unfold Pipeline.ΦA PhiS
  rw [scopedRest0_eq]
  simp only [owns_whole]
  iintro ⟨⟨⟨%f, Hf⟩, ⟨%g, Hg⟩⟩, Hr⟩
  iexists f, g; isplitr
  · ipureintro; exact ⟨fun h => absurd rfl h, fun h => absurd rfl h⟩
  isplitl [Hf]; · iexact Hf
  isplitl [Hg]; · iexact Hg
  iexact Hr

theorem Phi_out (c : Dev nD) : (dats m 0 c).Φ (Fin.last cfg0.N) ⊢ (Pipeline.ΦA spec0 c : sProp 𝕄) := by
  rw [show (dats m 0 c).Φ (Fin.last cfg0.N) = PhiS m c cfg0.N le_rfl by dsimp only [dats]; rfl]
  unfold Pipeline.ΦA PhiS
  rw [scopedRest0_eq]
  simp only [owns_whole]
  iintro ⟨%f, %g, -, Hf, Hg, Hr⟩
  isplitl [Hf Hg]
  · isplitl [Hf]; · iexists f; iexact Hf
    iexists g; iexact Hg
  iexact Hr

set_option backward.isDefEq.respectTransparency.types false in
/-- The run: every array of the pipeline ends at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => by dsimp only [dats])
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged and every counter at zero, for any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Plain.BodyAll.lean ====
module

public import proofs.«01_k».proof.Proof.Plain.BodyMid
public import proofs.«01_k».proof.Proof.Plain.BodyLast
public import proofs.«01_k».proof.Proof.Plain.BodyFirst
public import proofs.«01_k».proof.Proof.Plain.BodyStart
public import Idealize.ShloMosaic.Lib.Tactic

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem not_start (i : grid0.Coords) (h1 : ¬ first i) : ¬ start i := by
  have key : ∀ (a : Fin 16) (b : Fin 2), ¬ Scalar.cmpi .ne (Scalar.extui (Scalar.cmpi .eq (BitVec.ofNat 32 a.val) 0#32)) (0#32 : BitVec 32) = 1#1 →
      ¬ Scalar.cmpi .ne (Scalar.extui (Scalar.andi (Scalar.cmpi .eq (BitVec.ofNat 32 a.val) 0#32) (Scalar.cmpi .eq (BitVec.ofNat 32 b.val) 0#32))) (0#32 : BitVec 32) = 1#1 := by
    decide +kernel
  exact key (i 2) (i 1) h1

theorem not_last (i : grid0.Coords) (h1 : first i) : ¬ k0_cond3 i = 1#1 := by
  have key : ∀ (a : Fin 16), Scalar.cmpi .ne (Scalar.extui (Scalar.cmpi .eq (BitVec.ofNat 32 a.val) 0#32)) (0#32 : BitVec 32) = 1#1 →
      ¬ Scalar.cmpi .ne (Scalar.extui (Scalar.cmpi .eq (BitVec.ofNat 32 a.val) 15#32)) (0#32 : BitVec 32) = 1#1 := by
    decide +kernel
  exact key (i 2) h1

/-- The body at a point, on whole staging memrefs. -/
theorem sound_kernel (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x256x768 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S2x256x768 .f32) (harg12 : arg12.IsWhole) (arg13 : Memref sig .tc .vmem S4096x128 .f32) (harg13 : arg13.IsWhole) (arg14 : Memref sig .tc .vmem S4096x128 .f32) (harg14 : arg14.IsWhole)
    (x3 : Vec F S256x128 .bf16) (x4 : Vec F S4096x128 .bf16) (x5 : Vec F S4096x128 .bf16) (x6 : Vec F S2x256x768 .f32) (x7 : Vec F S256x128 .f32) (x8 : Vec F S256x128 .bf16) (x9 : Vec F S256x128 .bf16) (x10 : Vec F S4096x128 .bf16) (x11 : Vec F S4096x128 .bf16) (x12 : Vec F S2x256x768 .f32) (x13 : Vec F S4096x128 .f32) (x14 : Vec F S4096x128 .f32) (K : PUnit → sProp 𝕄) (P : sProp 𝕄) (hP : iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (dqTile i (loadsOf i x3 x4 x5 x6 x7 x8))
          ∗ owns (c : Thread nD τ) arg10 fullShare (if k0_cond3 i = 1#1 then truncf .bf16 (dkAcc i (loadsOf i x3 x4 x5 x6 x7 x8) x13) bitsLt_bf16_f32 else x10)
          ∗ owns (c : Thread nD τ) arg11 fullShare (if k0_cond3 i = 1#1 then truncf .bf16 (dvAcc i (loadsOf i x3 x4 x5 x6 x7 x8) x14) bitsLt_bf16_f32 else x11)
          ∗ owns (c : Thread nD τ) arg12 fullShare (dbAcc i (loadsOf i x3 x4 x5 x6 x7 x8) x12)
          ∗ owns (c : Thread nD τ) arg13 fullShare (dkAcc i (loadsOf i x3 x4 x5 x6 x7 x8) x13)
          ∗ owns (c : Thread nD τ) arg14 fullShare (dvAcc i (loadsOf i x3 x4 x5 x6 x7 x8) x14)) ⊢ P) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (P -∗ K ⟨⟩))
      ⊢ wp frame (wpE (defs₀ (F := F)) Variants.none c none) Set.univ
        (cc0_ca_bwd i arg3 harg3 arg4 harg4 arg5 harg5 arg6 harg6 arg7 harg7 arg8 harg8 arg9 harg9 arg10 harg10 arg11 harg11 arg12 harg12 arg13 harg13 arg14 harg14) K := by
  by_cases h1 : first i
  · by_cases h2 : start i
    · exact kernel_start c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 K h1 h2 (not_last i h1) P hP
    · exact kernel_first c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 K h1 h2 (not_last i h1) P hP
  · by_cases h3 : k0_cond3 i = 1#1
    · exact kernel_last c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 K h1 (not_start i h1) h3 P hP
    · exact kernel_mid c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 K h1 (not_start i h1) h3 P hP

end Cert.Kernel.Hand

end
-- ==== Proof.RefRead.lean ====
module

public import proofs.«01_k».proof.Proof.Gen.ReferenceIdeal.Read

@[expose] public section

end
-- ==== Proof.Math.lean ====
module

public import Mathlib.Data.EReal.Operations
public import Mathlib.Analysis.SpecialFunctions.Exp
public import Idealize.ShloMosaic.PureOps.Ideal
public import Mathlib.Tactic.FieldSimp
public import Mathlib.Tactic.Ring
public import Mathlib.Tactic.Linarith

@[expose] public section

noncomputable section

namespace Cert.Attn

open Idealize.ShloMosaic

/-! # The attention's gradient of one head of one sequence, over the reals -/

/-- A head's queries, keys, values, output gradients and biases. -/
structure Head where
  q : Fin 4096 → Fin 64 → ℝ
  k : Fin 4096 → Fin 64 → ℝ
  v : Fin 4096 → Fin 64 → ℝ
  g : Fin 4096 → Fin 64 → ℝ
  r : Fin 257 → ℝ

/-- Frame `t` attends to tileRow `s`: the chunk of `s` is the chunk of `t` or one of the eight before it. -/
def valid (t s : Fin 4096) : Prop := s.val / 64 ≤ t.val / 64 ∧ t.val / 64 ≤ s.val / 64 + 8

instance (t s : Fin 4096) : Decidable (valid t s) := by unfold valid; infer_instance

/-- The bias's index for the distance `t - s`. -/
def rel (t s : ℕ) : Fin 257 := ⟨min (t + 128 - s) 256, by omega⟩

namespace Head

variable (A : Head)

def z (t s : Fin 4096) : ℝ := (∑ d, A.q t d * A.k s d) * (1 / 8) + A.r (rel t.val s.val)
def w (t s : Fin 4096) : ℝ := if valid t s then Real.exp (A.z t s) else 0
def P (t s : Fin 4096) : ℝ := A.w t s / ∑ s', A.w t s'
def dp (t s : Fin 4096) : ℝ := ∑ d, A.g t d * A.v s d
def del (t : Fin 4096) : ℝ := ∑ s, A.P t s * A.dp t s
def dz (t s : Fin 4096) : ℝ := A.P t s * (A.dp t s - A.del t)
def ds (t s : Fin 4096) : ℝ := A.dz t s * (1 / 8)
def out (t : Fin 4096) (d : Fin 64) : ℝ := ∑ s, A.P t s * A.v s d
def dq (t : Fin 4096) (d : Fin 64) : ℝ := ∑ s, A.ds t s * A.k s d
def dk (s : Fin 4096) (d : Fin 64) : ℝ := ∑ t, A.ds t s * A.q t d
def dv (s : Fin 4096) (d : Fin 64) : ℝ := ∑ t, A.P t s * A.g t d

theorem valid_self (t : Fin 4096) : valid t t := by unfold valid; omega

theorem w_nonneg (t s : Fin 4096) : 0 ≤ A.w t s := by
  unfold w; split
  · exact (Real.exp_pos _).le
  · exact le_rfl

theorem w_sum_pos (t : Fin 4096) : 0 < ∑ s, A.w t s :=
  Finset.sum_pos' (fun s _ => A.w_nonneg t s) ⟨t, Finset.mem_univ _, by unfold w; rw [if_pos (valid_self t)]; exact Real.exp_pos _⟩

theorem P_eq_zero {t s : Fin 4096} (h : ¬ valid t s) : A.P t s = 0 := by unfold P w; rw [if_neg h, zero_div]
theorem ds_eq_zero {t s : Fin 4096} (h : ¬ valid t s) : A.ds t s = 0 := by unfold ds dz; rw [A.P_eq_zero h]; ring

/-- The weights with a real number taken off the scores. -/
def e (mx : ℝ) (t s : Fin 4096) : ℝ := if valid t s then Real.exp (A.z t s - mx) else 0

theorem e_eq (mx : ℝ) (t s : Fin 4096) : A.e mx t s = A.w t s * Real.exp (-mx) := by
  unfold e w; split
  · rw [sub_eq_add_neg, Real.exp_add]
  · rw [zero_mul]

theorem e_sum (mx : ℝ) (t : Fin 4096) : ∑ s, A.e mx t s = (∑ s, A.w t s) * Real.exp (-mx) := by
  rw [Finset.sum_mul]; exact Finset.sum_congr rfl fun s _ => A.e_eq mx t s

theorem e_sum_pos (mx : ℝ) (t : Fin 4096) : 0 < ∑ s, A.e mx t s := by
  rw [e_sum]; exact mul_pos (A.w_sum_pos t) (Real.exp_pos _)

theorem e_div (mx : ℝ) (t s : Fin 4096) : A.e mx t s / ∑ s', A.e mx t s' = A.P t s := by
  rw [e_sum, e_eq]; unfold P
  have h1 := (A.w_sum_pos t).ne'; have h2 := (Real.exp_pos (-mx)).ne'
  field_simp

/-- The gradient of the scores as reverse differentiation of the quotient states it. -/
theorem vjp_eq (mx : ℝ) (t s : Fin 4096) :
    (A.dp t s / (∑ s', A.e mx t s')
      + -(∑ s', A.dp t s' * (1 / ((∑ s', A.e mx t s') * (∑ s', A.e mx t s'))) * A.e mx t s')) * A.e mx t s = A.dz t s := by
  unfold dz
  have h1 := (A.e_sum_pos mx t).ne'
  rw [← A.e_div mx t s]
  have h3 : (∑ s', A.dp t s' * (1 / ((∑ s', A.e mx t s') * (∑ s', A.e mx t s'))) * A.e mx t s') = A.del t / ∑ s', A.e mx t s' := by
    unfold del; rw [Finset.sum_div]
    refine Finset.sum_congr rfl fun s' _ => ?_
    rw [← A.e_div mx t s']; field_simp
  rw [h3]; field_simp; ring

/-- The rows' products of output gradient and output are the weighted sums of the products of output gradient and values. -/
theorem del_eq (t : Fin 4096) : ∑ d, A.g t d * A.out t d = A.del t := by
  unfold del out dp
  simp only [Finset.mul_sum]
  rw [Finset.sum_comm]
  exact Finset.sum_congr rfl fun s _ => Finset.sum_congr rfl fun d _ => by ring

end Head

/-! ## Sums over tiles -/

/-- A tileRow as tile and row. -/
def tileRow (i : ℕ) (r : Fin 256) (h : i < 16) : Fin 4096 := ⟨256 * i + r.val, by omega⟩

theorem sum_tiles (f : Fin 4096 → ℝ) : ∑ s, f s = ∑ j : Fin 16, ∑ c : Fin 256, f (tileRow j.val c j.isLt) := by
  rw [← Fintype.sum_prod_type' (f := fun (j : Fin 16) (c : Fin 256) => f (tileRow j.val c j.isLt))]
  exact (Equiv.sum_comp (finProdFinEquiv (m := 16) (n := 256)) f).symm.trans
    (Finset.sum_congr rfl fun x _ => congrArg f (Fin.ext (by simp [finProdFinEquiv, tileRow]; omega)))

/-- A row's sum over all frames is the sum over the three key tiles that reach it. -/
theorem sum_row (i : ℕ) (hi : i < 16) (f : Fin 4096 → ℝ) (hf : ∀ s : Fin 4096, ¬ (i ≤ s.val / 256 + 2 ∧ s.val / 256 ≤ i) → f s = 0) :
    ∑ s, f s = ∑ kb : Fin 3, if h : 2 ≤ i + kb.val then ∑ c : Fin 256, f (tileRow (i + kb.val - 2) c (by omega)) else 0 := by
  rw [sum_tiles]
  have key : ∀ j : Fin 16, (∑ c : Fin 256, f (tileRow j.val c j.isLt))
      = ∑ kb : Fin 3, if i + kb.val = j.val + 2 then ∑ c : Fin 256, f (tileRow j.val c j.isLt) else 0 := by
    intro j
    by_cases hj : i ≤ j.val + 2 ∧ j.val ≤ i
    · rw [Finset.sum_eq_single (⟨j.val + 2 - i, by omega⟩ : Fin 3)]
      · rw [if_pos (by show i + (j.val + 2 - i) = _; omega)]
      · intro kb _ hk
        rw [if_neg]; intro h; exact hk (Fin.ext (by show kb.val = j.val + 2 - i; omega))
      · intro h; exact absurd (Finset.mem_univ _) h
    · rw [Finset.sum_eq_zero (s := (Finset.univ : Finset (Fin 3)))]
      · refine Finset.sum_eq_zero fun c _ => hf _ ?_
        have : (tileRow j.val c j.isLt).val / 256 = j.val := by show (256 * j.val + c.val) / 256 = _; omega
        rw [this]; exact hj
      · intro kb _; rw [if_neg]; omega
  rw [Finset.sum_congr rfl fun j _ => key j, Finset.sum_comm]
  refine Finset.sum_congr rfl fun kb _ => ?_
  by_cases h : 2 ≤ i + kb.val
  · rw [dif_pos h, Finset.sum_eq_single (⟨i + kb.val - 2, by omega⟩ : Fin 16)]
    · rw [if_pos (by show i + kb.val = i + kb.val - 2 + 2; omega)]
    · intro j _ hj; rw [if_neg]; intro h'; exact hj (Fin.ext (by show j.val = i + kb.val - 2; omega))
    · intro h'; exact absurd (Finset.mem_univ _) h'
  · rw [dif_neg h]
    refine Finset.sum_eq_zero fun j _ => ?_
    rw [if_neg]; omega

/-! ## Extended reals that are real -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_real {ι : Type*} (s : Finset ι) (f : ι → EReal) (h1 : ∀ i ∈ s, f i ≠ ⊤) (h2 : ∃ i ∈ s, f i ≠ ⊥) :
    ∃ mx : ℝ, s.fold max ⊥ f = (mx : EReal) := by
  have ht : s.fold max ⊥ f < ⊤ := by
    rw [Finset.fold_max_lt]; exact ⟨bot_lt_top, fun i hi => lt_top_iff_ne_top.2 (h1 i hi)⟩
  have hb : ⊥ < s.fold max ⊥ f := by
    rw [Finset.lt_fold_max]; obtain ⟨i, hi, h⟩ := h2; exact .inr ⟨i, hi, bot_lt_iff_ne_bot.2 h⟩
  exact ⟨(s.fold max ⊥ f).toReal, (EReal.coe_toReal ht.ne hb.ne').symm⟩

theorem div_real (x : ℝ) {y : ℝ} (h : y ≠ 0) : Ideal.div (x : EReal) (y : EReal) = ((x / y : ℝ) : EReal) := by
  rw [Ideal.div_coe h, ← EReal.coe_mul]; congr 1; ring

/-- A masked score less a real, exponentiated. -/
theorem exp_masked {p : Prop} [Decidable p] (z mx : ℝ) :
    Ideal.exp ((if p then (z : EReal) else ⊥) - (mx : EReal)) = ((if p then Real.exp (z - mx) else 0 : ℝ) : EReal) := by
  split
  · rw [← EReal.coe_sub]; rfl
  · rw [EReal.bot_sub]; rfl

end Cert.Attn

end
-- ==== Proof.Heads.lean ====
module

public import proofs.«01_k».proof.Proof.Math
public import Idealize.ShloMosaic.Lib.ValueIdx

@[expose] public section

noncomputable section

namespace Cert.Attn

open Idealize.ShloMosaic Idealize.ShloMosaic.ValueIdx

/-! # The heads as they lie in the program's arguments -/

/-- The row of frame `t` of sequence `b`. -/
def row (b : Fin 2) (t : Fin 4096) : Fin 8192 := ⟨4096 * b.val + t.val, by omega⟩
/-- The column of component `d` of head `h`. -/
def col (h : Fin 8) (d : Fin 64) : Fin 512 := ⟨64 * h.val + d.val, by omega⟩
/-- The same column of the wide argument, past `o` columns. -/
def colw (o : ℕ) (ho : o + 512 ≤ 3072) (h : Fin 8) (d : Fin 64) : Fin 3072 := ⟨o + (64 * h.val + d.val), by omega⟩

abbrev A0 := (⟨2, ![8192, 3072]⟩ : Shape).Idx → EReal
abbrev A1 := (⟨2, ![8, 257]⟩ : Shape).Idx → EReal
abbrev A2 := (⟨2, ![8192, 512]⟩ : Shape).Idx → EReal

/-- The entries the attention reads are real numbers. -/
structure Real3 (x0 : A0) (x1 : A1) (x2 : A2) : Prop where
  h0 : ∀ r (c : Fin 3072), 1536 ≤ c.val → x0 (ix2 r c) = ((x0 (ix2 r c)).toReal : EReal)
  h1 : ∀ i, x1 i = ((x1 i).toReal : EReal)
  h2 : ∀ i, x2 i = ((x2 i).toReal : EReal)

/-- Head `h` of sequence `b`. -/
def head (x0 : A0) (x1 : A1) (x2 : A2) (b : Fin 2) (h : Fin 8) : Head where
  q t d := (x0 (ix2 (row b t) (colw 1536 (by omega) h d))).toReal
  k t d := (x0 (ix2 (row b t) (colw 2048 (by omega) h d))).toReal
  v t d := (x0 (ix2 (row b t) (colw 2560 (by omega) h d))).toReal
  g t d := (x2 (ix2 (row b t) (col h d))).toReal
  r j := (x1 (ix2 h j)).toReal

end Cert.Attn

end
-- ==== Proof.TileOps.lean ====
module

public import proofs.«01_k».proof.Proof.BodyBase
public import proofs.«01_k».proof.Proof.Heads
public import Idealize.ShloMosaic.PureOps.Ideal.Laws
public import Idealize.ShloMosaic.Lib.MatmulPlain
public import Idealize.ShloMosaic.Lib.ValueLayout
public import Idealize.ShloMosaic.Lib.ValueIdx

@[expose] public section

noncomputable section

namespace Cert.KernelIdeal.Hand

open Cert.KernelIdeal Cert.KernelIdeal.Gen
open Idealize.ShloMosaic Idealize.ShloMosaic.ValueIdx Cert.Attn

/-! # A tile's operations read at a row and a lane, over the extended reals -/

/-- The lane of component `d` of head `h` of the pair. -/
def lane (h : Fin 2) (d : Fin 64) : Fin 128 := ⟨64 * h.val + d.val, by omega⟩

theorem sum_lanes (f : Fin 128 → EReal) : ∑ l, f l = ∑ h : Fin 2, ∑ d : Fin 64, f (lane h d) := by
  rw [← Fintype.sum_prod_type' (f := fun (h : Fin 2) (d : Fin 64) => f (lane h d))]
  exact (Equiv.sum_comp (finProdFinEquiv (m := 2) (n := 64)) f).symm.trans
    (Finset.sum_congr rfl fun x _ => congrArg f (Fin.ext (by simp [finProdFinEquiv, lane]; omega)))

theorem lane_eq (l : Fin 128) : ∃ h d, l = lane h d :=
  ⟨⟨l.val / 64, by omega⟩, ⟨l.val % 64, by omega⟩, Fin.ext (by show l.val = 64 * (l.val / 64) + l.val % 64; omega)⟩

theorem lane0_at : ∀ h d, lane0 (ix2 (0 : Fin 1) (lane h d)) = if h = 0 then 1#1 else 0#1 := by decide +kernel
theorem lanes_at : ∀ h' h d, lanes h' (ix2 (0 : Fin 1) (lane h d)) = if h = h' then 1#1 else 0#1 := by decide +kernel

theorem wide_at (u : IVec S1x128 1) (r : Fin 256) (l : Fin 128) : wide u (ix2 r l) = u (ix2 (0 : Fin 1) l) := by
  unfold wide; rw [shapeCast_self]; exact broadcastTo_1b_ab_apply _ _ _ _

theorem half_at {φ : FTy} (h h' : Fin 2) (x z : FVec Ideal S256x128 φ) (r : Fin 256) (d : Fin 64) :
    half h x z (ix2 r (lane h' d)) = if h' = h then x (ix2 r (lane h' d)) else z (ix2 r (lane h' d)) := by
  match h, h' with
  | 0, 0 => show Scalar.select (wide lane0 (ix2 r (lane 0 d))) _ _ = _; rw [wide_at, lane0_at]; rfl
  | 0, 1 => show Scalar.select (wide lane0 (ix2 r (lane 1 d))) _ _ = _; rw [wide_at, lane0_at]; rfl
  | 1, 0 => show Scalar.select (wide lane0 (ix2 r (lane 0 d))) _ _ = _; rw [wide_at, lane0_at]; rfl
  | 1, 1 => show Scalar.select (wide lane0 (ix2 r (lane 1 d))) _ _ = _; rw [wide_at, lane0_at]; rfl

theorem lit0 : (Ideal.ofBits .f32 0x00000000#32 : EReal) = 0 := Ideal.ofBits_zero_f32
theorem lit0b : (Ideal.ofBits .bf16 0x0000#16 : EReal) = 0 := by simp [Ideal.ofBits, Ideal.ieee]
theorem lit8 : (Ideal.ofBits .f32 0x3E000000#32 : EReal) = ((1 / 8 : ℝ) : EReal) := by
  simp [Ideal.ofBits, Ideal.ieee, -EReal.coe_mul]; norm_num
theorem lit1 : (Ideal.ofBits .f32 0x3F800000#32 : EReal) = ((1 : ℝ) : EReal) := by
  simp [Ideal.ofBits, Ideal.ieee, -EReal.coe_mul]; norm_num
theorem litBot : (Ideal.ofBits .f32 0xFF800000#32 : EReal) = ⊥ := by
  simp [Ideal.ofBits, Ideal.ieee]

theorem mulNT_at (x y : FVec Ideal S256x128 .bf16) (r c : Fin 256) :
    mulNT x y (ix2 r c) = ∑ l : Fin 128, (x (ix2 r l) * y (ix2 c l) : EReal) := by
  refine (Ideal.matmul_transposedRhs_apply (M := 256) (K := 128) (N := 256) none x y (constant S256x256 .f32 0x00000000#32) r c).trans ?_
  show (Ideal.ofBits .f32 0x00000000#32 : EReal) + _ = _
  rw [lit0, zero_add]

theorem mulNN_at (x : FVec Ideal S256x256 .bf16) (y : FVec Ideal S256x128 .bf16) (r : Fin 256) (l : Fin 128) :
    mulNN x y (ix2 r l) = ∑ c : Fin 256, (x (ix2 r c) * y (ix2 c l) : EReal) := by
  refine (Ideal.matmul_plain_apply (M := 256) (K := 256) (N := 128) none x y (constant S256x128 .f32 0x00000000#32) r l).trans ?_
  show (Ideal.ofBits .f32 0x00000000#32 : EReal) + _ = _
  rw [lit0, zero_add]

theorem mulTN_at (x : FVec Ideal S256x256 .bf16) (y : FVec Ideal S256x128 .bf16) (c : Fin 256) (l : Fin 128) :
    mulTN x y (ix2 c l) = ∑ r : Fin 256, (x (ix2 r c) * y (ix2 r l) : EReal) := by
  let D := dot_S256x256_S256x128_S256x128_0_0_1_1_n_n
  refine (Ideal.matmul_apply D none x y (constant S256x128 .f32 0x00000000#32) (ix2 c l)).trans ?_
  rw [← Equiv.sum_comp (contrEquiv1 D 256 rfl rfl).symm]
  show (Ideal.ofBits .f32 0x00000000#32 : EReal) + _ = _
  rw [lit0, zero_add]
  refine Finset.sum_congr rfl fun r _ => ?_
  have hk := contrEquiv1_symm_val D 256 rfl rfl r
  have el : D.lhsIdx (ix2 c l) ((contrEquiv1 D 256 rfl rfl).symm r) = ix2 r c := by
    funext a; apply Fin.ext
    match a with
    | ⟨0, _⟩ => exact hk
    | ⟨1, _⟩ => rfl
  have er : D.rhsIdx (ix2 c l) ((contrEquiv1 D 256 rfl rfl).symm r) = ix2 r l := by
    funext a; apply Fin.ext
    match a with
    | ⟨0, _⟩ => exact hk
    | ⟨1, _⟩ => rfl
  rw [el, er]

/-- A column read across its rows. -/
theorem spread_at (x : FVec Ideal S256x1 .f32) (r c : Fin 256) :
    broadcastTo S256x256 x broadcasts_S256x1_S256x256 (ix2 r c) = x (ix2 r (0 : Fin 1)) :=
  broadcastTo_apply _ _ _ _ (fun a => by
    match a with
    | ⟨0, _⟩ => rfl
    | ⟨1, _⟩ => rfl)

theorem column_at (x : FVec Ideal S256 .f32) (r : Fin 256) :
    shapeCast S256x1 x shapeCasts_S256_S256x1 (ix2 r (0 : Fin 1)) = x (ix1 r) :=
  shapeCast_apply x _ _ _ (by
    rw [Shape.rowMajor_val_two, Shape.rowMajor_val_one]
    show r.val = r.val * 1 + 0
    rw [Nat.mul_one, Nat.add_zero])

theorem sumW_at (x : FVec Ideal S256x256 .f32) (r : Fin 256) :
    multiReduction .add [1] S256 x 0x00000000#32 reduces_S256x256_S256 (.inl rfl) rfl (ix1 r) = ∑ c : Fin 256, (x (ix2 r c) : EReal) := by
  refine (Ideal.multiReduction_add_single x _ _ _ _ (ix1 r)).trans ?_
  refine Finset.sum_congr rfl fun c _ => congrArg x ?_
  funext a; apply Fin.ext
  match a with
  | ⟨0, _⟩ => rfl
  | ⟨1, _⟩ => rfl

theorem sumL_at (x : FVec Ideal S256x128 .f32) (r : Fin 256) :
    multiReduction .add [1] S256 x 0x00000000#32 reduces_S256x128_S256 (.inl rfl) rfl (ix1 r) = ∑ l : Fin 128, (x (ix2 r l) : EReal) := by
  refine (Ideal.multiReduction_add_single x _ _ _ _ (ix1 r)).trans ?_
  refine Finset.sum_congr rfl fun c _ => congrArg x ?_
  funext a; apply Fin.ext
  match a with
  | ⟨0, _⟩ => rfl
  | ⟨1, _⟩ => rfl

theorem maxW_at (x : FVec Ideal S256x256 .f32) (r : Fin 256) :
    multiReduction .maximumf [1] S256 x 0xFF800000#32 reduces_S256x256_S256 (.inl rfl) rfl (ix1 r)
      = (Finset.univ : Finset (Fin 256)).fold max (⊥ : EReal) (fun c => x (ix2 r c)) := by
  refine (Ideal.multiReduction_maximumf_single x _ _ _ _ (ix1 r)).trans ?_
  have e : x ∘ (reduces_S256x256_S256).lift (ix1 r) = fun c : Fin 256 => x (ix2 r c) := by
    funext c
    refine congrArg x ?_
    funext a; apply Fin.ext
    match a with
    | ⟨0, _⟩ => rfl
    | ⟨1, _⟩ => rfl
  rw [e]
  show (Finset.univ : Finset (Fin 256)).fold max (Ideal.ofBits .f32 0xFF800000#32 : EReal) _ = _
  rw [litBot]

theorem ahead_ge (i : grid0.Coords) (kb : Fin 3) : Scalar.cmpi .sge (ahead i kb) 0#32 = if 2 ≤ (i 2).val + kb.val then 1#1 else 0#1 := by
  have key : ∀ (n : Fin 16) (k : Fin 3),
      Scalar.cmpi .sge (Scalar.addi (Scalar.subi (BitVec.ofNat 32 n.val) 2#32) (BitVec.ofNat 32 k.val)) 0#32 = if 2 ≤ n.val + k.val then 1#1 else 0#1 := by
    decide +kernel
  match kb with
  | 0 => exact key (i 2) 0
  | 1 => exact key (i 2) 1
  | 2 => exact key (i 2) 2

end Cert.KernelIdeal.Hand

end
-- ==== Proof.TileVal.lean ====
module

public import proofs.«01_k».proof.Proof.TileOps

@[expose] public section

noncomputable section

namespace Cert.KernelIdeal.Hand

open Cert.KernelIdeal Cert.KernelIdeal.Gen
open Idealize.ShloMosaic Idealize.ShloMosaic.ValueIdx Cert.Attn

/-! # What a point's tiles hold, over the reals -/

theorem qt_lt (i : grid0.Coords) : (i 2).val < 16 := (i 2).isLt

/-- The frame of a point's query row. -/
def qrow (i : grid0.Coords) (r : Fin 256) : Fin 4096 := tileRow (i 2).val r (qt_lt i)
/-- The frame of row `c` of key tile `kb`. -/
def krow (i : grid0.Coords) (kb : Fin 3) (c : Fin 256) : Fin 4096 :=
  tileRow ((i 2).val + kb.val - 2) c (by have := qt_lt i; omega)

/-- The point's loads are the pair of heads `N`'s. -/
structure Holds (i : grid0.Coords) (L : Loads Ideal) (N : Fin 2 → Head) : Prop where
  q : ∀ h r d, L.q (ix2 r (lane h d)) = (((N h).q (qrow i r) d : ℝ) : EReal)
  d : ∀ h r d, L.d (ix2 r (lane h d)) = (((N h).g (qrow i r) d : ℝ) : EReal)
  o : ∀ h r d, L.o (ix2 r (lane h d)) = (((N h).out (qrow i r) d : ℝ) : EReal)
  k : ∀ kb h c d, L.k kb (ix2 c (lane h d)) = (((N h).k (krow i kb c) d : ℝ) : EReal)
  v : ∀ kb h c d, L.v kb (ix2 c (lane h d)) = (((N h).v (krow i kb c) d : ℝ) : EReal)
  b : ∀ h kb, 2 ≤ (i 2).val + kb.val → ∀ r c, L.b h kb (ix3 (0 : Fin 1) r c)
    = if valid (qrow i r) (krow i kb c) then (((N h).r (rel (qrow i r).val (krow i kb c).val) : ℝ) : EReal) else ⊥

/-- A frame's quantity on key tile `kb`, where the tile lies in the sequence. -/
def on (i : grid0.Coords) (F : Fin 4096 → ℝ) (kb : Fin 3) (c : Fin 256) : ℝ :=
  if 2 ≤ (i 2).val + kb.val then F (krow i kb c) else 0

/-- A row's sum over its three key tiles is its sum over all frames. -/
theorem sum_on (i : grid0.Coords) (r : Fin 256) (F : Fin 4096 → ℝ) (hF : ∀ s, ¬ valid (qrow i r) s → F s = 0) :
    ∑ kb : Fin 3, ∑ c : Fin 256, on i F kb c = ∑ s, F s := by
  rw [sum_row (i 2).val (qt_lt i) F]
  · refine Finset.sum_congr rfl fun kb _ => ?_
    unfold on
    by_cases h : 2 ≤ (i 2).val + kb.val
    · simp only [if_pos h, dif_pos h]; rfl
    · simp only [if_neg h, dif_neg h]; exact Finset.sum_const_zero
  · intro s hs
    refine hF s fun hv => hs ?_
    have h1 : s.val / 64 ≤ (256 * (i 2).val + r.val) / 64 := hv.1
    have h2 : (256 * (i 2).val + r.val) / 64 ≤ s.val / 64 + 8 := hv.2
    have := r.isLt
    omega

variable {i : grid0.Coords} {L : Loads Ideal} {N : Fin 2 → Head} (H : Holds i L N)

theorem sum_half (h : Fin 2) (f : Fin 2 → Fin 64 → ℝ) :
    ∑ h' : Fin 2, ∑ d : Fin 64, (if h' = h then (f h' d : EReal) else 0) = ((∑ d, f h d : ℝ) : EReal) := by
  rw [Finset.sum_eq_single h]
  · simp only [if_true]; exact (coe_sum _ _).symm
  · intro h' _ hne; simp only [if_neg hne]; exact Finset.sum_const_zero
  · intro hn; exact absurd (Finset.mem_univ _) hn

/-- A head's rows against a tile's rows. -/
theorem mulNT_half (h : Fin 2) (x y : FVec Ideal S256x128 .bf16) (X Y : Fin 2 → Fin 64 → ℝ) (r c : Fin 256)
    (hx : ∀ h d, x (ix2 r (lane h d)) = (X h d : EReal)) (hy : ∀ h d, y (ix2 c (lane h d)) = (Y h d : EReal)) :
    mulNT (half h x zeroB) y (ix2 r c) = ((∑ d, X h d * Y h d : ℝ) : EReal) := by
  rw [mulNT_at, sum_lanes, ← sum_half h (fun h d => X h d * Y h d)]
  refine Finset.sum_congr rfl fun h' _ => Finset.sum_congr rfl fun d _ => ?_
  rw [half_at, hx, hy]
  by_cases hh : h' = h
  · rw [if_pos hh, if_pos hh, EReal.coe_mul]
  · rw [if_neg hh, if_neg hh]
    show (Ideal.ofBits .bf16 0x0000#16 : EReal) * _ = 0
    rw [lit0b, zero_mul]

include H in
theorem score_at (h : Fin 2) (kb : Fin 3) (r c : Fin 256) :
    score i L h kb (ix2 r c) = if 2 ≤ (i 2).val + kb.val ∧ valid (qrow i r) (krow i kb c) then (((N h).z (qrow i r) (krow i kb c) : ℝ) : EReal) else ⊥ := by
  unfold score
  rw [ahead_ge]
  by_cases ha : 2 ≤ (i 2).val + kb.val
  · rw [if_pos ha]
    show (mulNT (F := Ideal) (half h L.q zeroB) (L.k kb) (ix2 r c) * (Ideal.ofBits .f32 0x3E000000#32 : EReal)
      + shapeCast S256x256 (L.b h kb) shapeCasts_S1x256x256_S256x256 (ix2 r c) : EReal) = _
    rw [mulNT_half h L.q (L.k kb) (fun h d => (N h).q (qrow i r) d) (fun h d => (N h).k (krow i kb c) d) r c (fun h d => H.q h r d) (fun h d => H.k kb h c d),
      lit8, ← EReal.coe_mul]
    rw [show shapeCast S256x256 (L.b h kb) shapeCasts_S1x256x256_S256x256 (ix2 r c) = L.b h kb (ix3 (0 : Fin 1) r c) from shapeCast_1ab_ab_apply _ _ _ _,
      H.b h kb ha]
    by_cases hv : valid (qrow i r) (krow i kb c)
    · rw [if_pos hv, if_pos ⟨ha, hv⟩, ← EReal.coe_add]; rfl
    · rw [if_neg hv, if_neg (fun x => hv x.2), EReal.add_bot]
  · rw [if_neg ha, if_neg (fun x => ha x.1)]
    exact IdealRules.named_const.ideal_named_scalar _ _ _ _ rfl

include H in
theorem top_at (h : Fin 2) (r : Fin 256) : ∃ mx : ℝ, top i L h (ix2 r (0 : Fin 1)) = (mx : EReal) := by
  unfold top
  rw [column_at, maxW_at]
  refine fold_max_real _ _ (fun c _ => ?_) ⟨r, Finset.mem_univ _, ?_⟩
  · show max (max (score i L h 0 (ix2 r c) : EReal) (score i L h 1 (ix2 r c))) (score i L h 2 (ix2 r c)) ≠ ⊤
    have key : ∀ kb, (score i L h kb (ix2 r c) : EReal) ≠ ⊤ := fun kb => by
      rw [score_at H]; split
      · exact EReal.coe_ne_top _
      · exact bot_ne_top
    exact (max_lt (max_lt (lt_top_iff_ne_top.2 (key 0)) (lt_top_iff_ne_top.2 (key 1))) (lt_top_iff_ne_top.2 (key 2))).ne
  · show max (max (score i L h 0 (ix2 r r) : EReal) (score i L h 1 (ix2 r r))) (score i L h 2 (ix2 r r)) ≠ ⊥
    have e : krow i 2 r = qrow i r := Fin.ext (by show 256 * ((i 2).val + 2 - 2) + r.val = 256 * (i 2).val + r.val; omega)
    have key : (score i L h 2 (ix2 r r) : EReal) ≠ ⊥ := by
      rw [score_at H, if_pos ⟨Nat.le_add_left _ _, by rw [e]; exact Head.valid_self _⟩]
      exact EReal.coe_ne_bot _
    exact (lt_of_lt_of_le (bot_lt_iff_ne_bot.2 key) (le_max_right _ _)).ne'

include H in
/-- The weights. -/
theorem prob_at (h : Fin 2) (kb : Fin 3) (r c : Fin 256) :
    prob i L h kb (ix2 r c) = ((on i ((N h).P (qrow i r)) kb c : ℝ) : EReal) := by
  obtain ⟨mx, hmx⟩ := top_at H h r
  have hex : ∀ kb c, ex i L h kb (ix2 r c) = ((on i ((N h).e mx (qrow i r)) kb c : ℝ) : EReal) := by
    intro kb c
    show Ideal.exp ((score i L h kb (ix2 r c) : EReal) - broadcastTo S256x256 (top i L h) broadcasts_S256x1_S256x256 (ix2 r c)) = _
    rw [spread_at, hmx, score_at H, exp_masked]
    unfold on Head.e
    by_cases ha : 2 ≤ (i 2).val + kb.val
    · simp only [ha, true_and, if_true]
    · simp only [ha, false_and, if_false]
  have hinv : inv i L h (ix2 r (0 : Fin 1)) = ((1 / ∑ s, (N h).e mx (qrow i r) s : ℝ) : EReal) := by
    show Ideal.div (Ideal.ofBits .f32 0x3F800000#32 : EReal)
      (shapeCast S256x1 (multiReduction .add [1] S256 (addf (addf (ex i L h 0) (ex i L h 1)) (ex i L h 2))
        0x00000000#32 reduces_S256x256_S256 (.inl rfl) rfl) shapeCasts_S256_S256x1 (ix2 r (0 : Fin 1))) = _
    rw [column_at, sumW_at, lit1]
    have hs : (∑ c : Fin 256, (addf (addf (ex i L h 0) (ex i L h 1)) (ex i L h 2) (ix2 r c) : EReal)) = ((∑ s, (N h).e mx (qrow i r) s : ℝ) : EReal) := by
      rw [← sum_on i r _ (fun s hv => by unfold Head.e; rw [if_neg hv]), Finset.sum_comm, coe_sum]
      refine Finset.sum_congr rfl fun c _ => ?_
      show ((ex i L h 0 (ix2 r c) : EReal) + ex i L h 1 (ix2 r c)) + ex i L h 2 (ix2 r c) = _
      rw [hex, hex, hex, Fin.sum_univ_three, EReal.coe_add, EReal.coe_add]
    rw [hs, div_real _ ((N h).e_sum_pos mx (qrow i r)).ne']
  show (ex i L h kb (ix2 r c) : EReal) * broadcastTo S256x256 (inv i L h) broadcasts_S256x1_S256x256 (ix2 r c) = _
  rw [spread_at, hinv, hex, ← EReal.coe_mul]
  refine congrArg _ ?_
  unfold on
  by_cases ha : 2 ≤ (i 2).val + kb.val
  · rw [if_pos ha, if_pos ha, ← (N h).e_div mx]; ring
  · rw [if_neg ha, if_neg ha, zero_mul]

include H in
theorem delta_at (h : Fin 2) (r : Fin 256) : delta L h (ix2 r (0 : Fin 1)) = (((N h).del (qrow i r) : ℝ) : EReal) := by
  unfold delta
  rw [column_at, sumL_at, sum_lanes, ← (N h).del_eq, ← sum_half h (fun h d => (N h).g (qrow i r) d * (N h).out (qrow i r) d)]
  refine Finset.sum_congr rfl fun h' _ => Finset.sum_congr rfl fun d _ => ?_
  rw [half_at, shapeCast_self]
  by_cases hh : h' = h
  · rw [if_pos hh, if_pos hh, EReal.coe_mul, ← H.d, ← H.o]; rfl
  · rw [if_neg hh, if_neg hh]; exact lit0

include H in
theorem dlogit_at (h : Fin 2) (kb : Fin 3) (r c : Fin 256) :
    dlogit i L h kb (ix2 r c) = ((on i ((N h).ds (qrow i r)) kb c : ℝ) : EReal) := by
  show ((prob i L h kb (ix2 r c) : EReal) * ((mulNT (F := Ideal) (half h L.d zeroB) (L.v kb) (ix2 r c) : EReal)
    - broadcastTo S256x256 (delta L h) broadcasts_S256x1_S256x256 (ix2 r c))) * (Ideal.ofBits .f32 0x3E000000#32 : EReal) = _
  rw [spread_at, delta_at H, prob_at H, lit8,
    mulNT_half h L.d (L.v kb) (fun h d => (N h).g (qrow i r) d) (fun h d => (N h).v (krow i kb c) d) r c (fun h d => H.d h r d) (fun h d => H.v kb h c d),
    ← EReal.coe_sub, ← EReal.coe_mul, ← EReal.coe_mul]
  refine congrArg _ ?_
  unfold on
  by_cases ha : 2 ≤ (i 2).val + kb.val
  · rw [if_pos ha, if_pos ha]; rfl
  · rw [if_neg ha, if_neg ha, zero_mul, zero_mul]

include H in
theorem dqHead_at (h : Fin 2) (r : Fin 256) (d : Fin 64) :
    dqHead i L h (ix2 r (lane h d)) = (((N h).dq (qrow i r) d : ℝ) : EReal) := by
  have key : ∀ kb, mulNN (dlogit i L h kb) (L.k kb) (ix2 r (lane h d))
      = ((∑ c, on i (fun s => (N h).ds (qrow i r) s * (N h).k s d) kb c : ℝ) : EReal) := by
    intro kb
    rw [mulNN_at, coe_sum]
    refine Finset.sum_congr rfl fun c _ => ?_
    rw [dlogit_at H, H.k, ← EReal.coe_mul]
    refine congrArg _ ?_
    unfold on
    by_cases ha : 2 ≤ (i 2).val + kb.val
    · rw [if_pos ha, if_pos ha]
    · rw [if_neg ha, if_neg ha, zero_mul]
  show ((mulNN (dlogit i L h 0) (L.k 0) (ix2 r (lane h d)) : EReal) + mulNN (dlogit i L h 1) (L.k 1) (ix2 r (lane h d)))
    + mulNN (dlogit i L h 2) (L.k 2) (ix2 r (lane h d)) = _
  rw [key, key, key, ← EReal.coe_add, ← EReal.coe_add, ← Fin.sum_univ_three (f := fun kb => ∑ c, on i (fun s => (N h).ds (qrow i r) s * (N h).k s d) kb c),
    sum_on i r _ (fun s hv => by rw [(N h).ds_eq_zero hv, zero_mul])]
  rfl

include H in
/-- The point's query gradient. -/
theorem dqTile_at (h : Fin 2) (r : Fin 256) (d : Fin 64) :
    dqTile i L (ix2 r (lane h d)) = (((N h).dq (qrow i r) d : ℝ) : EReal) := by
  show Scalar.select (wide lane0 (ix2 r (lane h d))) (dqHead i L 0 (ix2 r (lane h d))) (dqHead i L 1 (ix2 r (lane h d))) = _
  rw [wide_at, lane0_at]
  match h with
  | 0 => exact dqHead_at H 0 r d
  | 1 => exact dqHead_at H 1 r d

/-! ## What the point adds to the key and value gradients -/

/-- A part's rows: the point's query rows' share. -/
theorem mulTN_on (x : FVec Ideal S256x256 .bf16) (y : FVec Ideal S256x128 .bf16) (F : Fin 256 → Fin 4096 → ℝ) (G : Fin 256 → ℝ)
    (kb : Fin 3) (c : Fin 256) (l : Fin 128) (hx : ∀ r, x (ix2 r c) = ((on i (F r) kb c : ℝ) : EReal)) (hy : ∀ r, y (ix2 r l) = (G r : EReal)) :
    mulTN x y (ix2 c l) = ((on i (fun s => ∑ r, F r s * G r) kb c : ℝ) : EReal) := by
  rw [mulTN_at]
  have e : (on i (fun s => ∑ r, F r s * G r) kb c : ℝ) = ∑ r, on i (F r) kb c * G r := by
    unfold on
    by_cases ha : 2 ≤ (i 2).val + kb.val
    · simp only [if_pos ha]
    · simp only [if_neg ha, zero_mul]; exact Finset.sum_const_zero.symm
  rw [e, coe_sum]
  refine Finset.sum_congr rfl fun r _ => ?_
  rw [hx, hy, EReal.coe_mul]

/-- The point's share of frame `s`'s key gradient, and of its value gradient. -/
def dkShare (i : grid0.Coords) (A : Head) (d : Fin 64) (s : Fin 4096) : ℝ := ∑ r : Fin 256, A.ds (qrow i r) s * A.q (qrow i r) d
def dvShare (i : grid0.Coords) (A : Head) (d : Fin 64) (s : Fin 4096) : ℝ := ∑ r : Fin 256, A.P (qrow i r) s * A.g (qrow i r) d

include H in
theorem dkPart_at (h h' : Fin 2) (kb : Fin 3) (c : Fin 256) (d : Fin 64) :
    dkPart i L h kb (ix2 c (lane h' d)) = if h' = h then ((on i (dkShare i (N h') d) kb c : ℝ) : EReal) else 0 := by
  show Scalar.select (wide (lanes h) (ix2 c (lane h' d))) (mulTN (dlogit i L h kb) L.q (ix2 c (lane h' d))) (Ideal.ofBits .f32 0x00000000#32 : EReal) = _
  rw [wide_at, lanes_at]
  by_cases hh : h' = h
  · subst hh
    rw [if_pos rfl, if_pos rfl]
    exact mulTN_on _ _ (fun r => (N h').ds (qrow i r)) (fun r => (N h').q (qrow i r) d) kb c _ (fun r => dlogit_at H h' kb r c) (fun r => H.q h' r d)
  · rw [if_neg hh, if_neg hh]; exact lit0

include H in
theorem dvPart_at (h h' : Fin 2) (kb : Fin 3) (c : Fin 256) (d : Fin 64) :
    dvPart i L h kb (ix2 c (lane h' d)) = if h' = h then ((on i (dvShare i (N h') d) kb c : ℝ) : EReal) else 0 := by
  show Scalar.select (wide (lanes h) (ix2 c (lane h' d))) (mulTN (truncf .bf16 (prob i L h kb) bitsLt_bf16_f32) L.d (ix2 c (lane h' d))) (Ideal.ofBits .f32 0x00000000#32 : EReal) = _
  rw [wide_at, lanes_at]
  by_cases hh : h' = h
  · subst hh
    rw [if_pos rfl, if_pos rfl]
    exact mulTN_on _ _ (fun r => (N h').P (qrow i r)) (fun r => (N h').g (qrow i r) d) kb c _ (fun r => prob_at H h' kb r c) (fun r => H.d h' r d)
  · rw [if_neg hh, if_neg hh]; exact lit0

/-- An accumulator after one tile is added. -/
theorem bump_at (i : grid0.Coords) (kb : Fin 3) (w : FVec Ideal S256x128 .f32) (X : Vec Ideal S4096x128 .f32) (s : Fin 4096) (l : Fin 128) :
    bump i kb w X (ix2 s l) = (X (ix2 s l) : EReal)
      + (if s.val / 256 = (i 2).val + kb.val - 2 then (w (ix2 (⟨s.val % 256, by omega⟩ : Fin 256) l) : EReal) else 0) := by
  have e0 : ∀ x : (rows i kb).shape.Idx, ((rows i kb).emb x 0).val = 256 * ((i 2).val + kb.val - 2) + (x 0).val := fun x => by
    have h1 : ((rows i kb).emb x 0).val = k0_off1 i (BitVec.ofNat 32 kb.val) 0 + 1 * (x 0).val := rfl
    rw [h1, off_eq, Nat.one_mul]
    show tileOff i kb.val + _ = _
    rw [tileOff_eq]
  have e1 : ∀ x : (rows i kb).shape.Idx, ((rows i kb).emb x 1).val = (x 1).val := fun x => by
    have h1 : ((rows i kb).emb x 1).val = k0_off1 i (BitVec.ofNat 32 kb.val) 1 + 1 * (x 1).val := rfl
    rw [h1, off_eq, Nat.one_mul]
    exact Nat.zero_add _
  unfold bump
  by_cases hs : s.val / 256 = (i 2).val + kb.val - 2
  · rw [if_pos hs]
    let x : (rows i kb).shape.Idx := ix2 (⟨s.val % 256, by omega⟩ : Fin 256) l
    have ex : (rows i kb).emb x = ix2 s l := by
      funext a; apply Fin.ext
      match a with
      | ⟨0, _⟩ =>
        refine (e0 x).trans ?_
        show 256 * ((i 2).val + kb.val - 2) + s.val % 256 = s.val
        rw [← hs]; exact Nat.div_add_mod _ _
      | ⟨1, _⟩ => exact e1 x
    rw [← ex, lay_emb]
    exact congrFun (shapeCast_self (addf (View.ld (Val := Elt Ideal) (e' := .f32) X (rows i kb)) w) shapeCasts_S256x128_S256x128) x
  · rw [if_neg hs, add_zero]
    refine lay_of_not _ _ _ _ fun ⟨x, hx⟩ => hs ?_
    have h1 : ((rows i kb).emb x 0).val = s.val := by rw [hx]
    have h2 : (x 0).val < 256 := (x 0).isLt
    rw [e0] at h1
    omega

/-- All six tiles added: the share of the head whose lane it is. -/
theorem bumps_at (i : grid0.Coords) (w : Fin 2 → Fin 3 → FVec Ideal S256x128 .f32) (X : Vec Ideal S4096x128 .f32) (T : Fin 4096 → ℝ) (h : Fin 2) (d : Fin 64)
    (hw : ∀ h' kb c, w h' kb (ix2 c (lane h d)) = if h = h' then ((on i T kb c : ℝ) : EReal) else 0)
    (hT : ∀ s : Fin 4096, ¬ ((i 2).val ≤ s.val / 256 + 2 ∧ s.val / 256 ≤ (i 2).val) → T s = 0) (s : Fin 4096) :
    bumps i w X (ix2 s (lane h d)) = (X (ix2 s (lane h d)) : EReal) + ((T s : ℝ) : EReal) := by
  have key : ∀ h' kb, (if s.val / 256 = (i 2).val + kb.val - 2 then (w h' kb (ix2 (⟨s.val % 256, by omega⟩ : Fin 256) (lane h d)) : EReal) else 0)
      = ((if h = h' ∧ s.val / 256 + 2 = (i 2).val + kb.val then T s else 0 : ℝ) : EReal) := by
    intro h' kb
    by_cases hh : h = h'
    · by_cases hs : s.val / 256 = (i 2).val + kb.val - 2
      · rw [if_pos hs, hw, if_pos hh]
        refine congrArg _ ?_
        unfold on
        by_cases ha : 2 ≤ (i 2).val + kb.val
        · rw [if_pos ha, if_pos ⟨hh, by omega⟩]
          refine congrArg T (Fin.ext ?_)
          show 256 * ((i 2).val + kb.val - 2) + s.val % 256 = s.val
          rw [← hs]; exact Nat.div_add_mod _ _
        · rw [if_neg ha, if_neg (by omega)]
      · rw [if_neg hs, if_neg (by omega)]; rfl
    · rw [if_neg (c := h = h' ∧ s.val / 256 + 2 = (i 2).val + kb.val) (fun x => hh x.1), hw, if_neg hh, ite_self]; rfl
  unfold bumps
  simp only [bump_at, key]
  simp only [add_assoc, ← EReal.coe_add]
  refine congrArg (fun y : ℝ => (X (ix2 s (lane h d)) : EReal) + (y : EReal)) ?_
  have h0 : ((0 : Fin 3) : ℕ) = 0 := rfl
  have h1 : ((1 : Fin 3) : ℕ) = 1 := rfl
  have h2 : ((2 : Fin 3) : ℕ) = 2 := rfl
  by_cases hs : (i 2).val ≤ s.val / 256 + 2 ∧ s.val / 256 ≤ (i 2).val
  · have hc : s.val / 256 + 2 = (i 2).val ∨ s.val / 256 + 2 = (i 2).val + 1 ∨ s.val / 256 + 2 = (i 2).val + 2 := by omega
    match h with
    | 0 => rcases hc with hc | hc | hc <;> simp [hc]
    | 1 => rcases hc with hc | hc | hc <;> simp [hc]
  · rw [hT s hs]; simp

theorem share_zero (f : Fin 256 → ℝ) (g : Fin 256 → ℝ) (i : grid0.Coords) (s : Fin 4096) (hf : ∀ r, ¬ valid (qrow i r) s → f r = 0)
    (hs : ¬ ((i 2).val ≤ s.val / 256 + 2 ∧ s.val / 256 ≤ (i 2).val)) : ∑ r, f r * g r = 0 := by
  refine Finset.sum_eq_zero fun r _ => ?_
  rw [hf r, zero_mul]
  intro hv
  refine hs ?_
  have h1 : s.val / 64 ≤ (256 * (i 2).val + r.val) / 64 := hv.1
  have h2 : (256 * (i 2).val + r.val) / 64 ≤ s.val / 64 + 8 := hv.2
  have := r.isLt
  omega

include H in
theorem dkAcc_at (X : Vec Ideal S4096x128 .f32) (h : Fin 2) (d : Fin 64) (s : Fin 4096) :
    bumps i (dkPart i L) X (ix2 s (lane h d)) = (X (ix2 s (lane h d)) : EReal) + ((dkShare i (N h) d s : ℝ) : EReal) :=
  bumps_at i _ X (dkShare i (N h) d) h d (fun h' kb c => dkPart_at H h' h kb c d)
    (fun s hs => share_zero _ _ i s (fun r hv => (N h).ds_eq_zero hv) hs) s

include H in
theorem dvAcc_at (X : Vec Ideal S4096x128 .f32) (h : Fin 2) (d : Fin 64) (s : Fin 4096) :
    bumps i (dvPart i L) X (ix2 s (lane h d)) = (X (ix2 s (lane h d)) : EReal) + ((dvShare i (N h) d s : ℝ) : EReal) :=
  bumps_at i _ X (dvShare i (N h) d) h d (fun h' kb c => dvPart_at H h' h kb c d)
    (fun s hs => share_zero _ _ i s (fun r hv => (N h).P_eq_zero hv) hs) s

end Cert.KernelIdeal.Hand

end
-- ==== Proof.HostRead.lean ====
module

public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

noncomputable section

/-! What the operations before the launch compute: `val_b` is what the operation writing `b` leaves, of the arguments. -/

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

def val_main_v0 (x0 : (⟨S8192x3072, .bf16⟩ : BufTy).Contents (Elt F)) : (⟨S8192x512, .bf16⟩ : BufTy).Contents (Elt F) :=
  extractStridedSlice S8192x512 ![0, 1536] (x0) slices_S8192x3072_S8192x512_0_1536
def val_main_v1 (x0 : (⟨S8192x3072, .bf16⟩ : BufTy).Contents (Elt F)) : (⟨S8192x512, .f32⟩ : BufTy).Contents (Elt F) :=
  extf .f32 (val_main_v0 (F := F) x0) bitsLt_bf16_f32
def val_main_v2 (x0 : (⟨S8192x3072, .bf16⟩ : BufTy).Contents (Elt F)) : (⟨S2x4096x8x64, .f32⟩ : BufTy).Contents (Elt F) :=
  shapeCast _ (val_main_v1 (F := F) x0) shapeCasts_S8192x512_S2x4096x8x64
def val_main_v3 (x0 : (⟨S8192x3072, .bf16⟩ : BufTy).Contents (Elt F)) : (⟨S8192x512, .bf16⟩ : BufTy).Contents (Elt F) :=
  extractStridedSlice S8192x512 ![0, 2048] (x0) slices_S8192x3072_S8192x512_0_2048
def val_main_v4 (x0 : (⟨S8192x3072, .bf16⟩ : BufTy).Contents (Elt F)) : (⟨S8192x512, .f32⟩ : BufTy).Contents (Elt F) :=
  extf .f32 (val_main_v3 (F := F) x0) bitsLt_bf16_f32
def val_main_v5 (x0 : (⟨S8192x3072, .bf16⟩ : BufTy).Contents (Elt F)) : (⟨S2x4096x8x64, .f32⟩ : BufTy).Contents (Elt F) :=
  shapeCast _ (val_main_v4 (F := F) x0) shapeCasts_S8192x512_S2x4096x8x64
def val_main_v6 (x0 : (⟨S8192x3072, .bf16⟩ : BufTy).Contents (Elt F)) : (⟨S8192x512, .bf16⟩ : BufTy).Contents (Elt F) :=
  extractStridedSlice S8192x512 ![0, 2560] (x0) slices_S8192x3072_S8192x512_0_2560
def val_main_v7 (x0 : (⟨S8192x3072, .bf16⟩ : BufTy).Contents (Elt F)) : (⟨S8192x512, .f32⟩ : BufTy).Contents (Elt F) :=
  extf .f32 (val_main_v6 (F := F) x0) bitsLt_bf16_f32
def val_main_v8 (x0 : (⟨S8192x3072, .bf16⟩ : BufTy).Contents (Elt F)) : (⟨S2x4096x8x64, .f32⟩ : BufTy).Contents (Elt F) :=
  shapeCast _ (val_main_v7 (F := F) x0) shapeCasts_S8192x512_S2x4096x8x64
def val_main_v9 : (⟨S4096, .i32⟩ : BufTy).Contents (Elt F) :=
  iotaInDim S4096 32 0
def val_main_v10 : (⟨S4096x1, .i32⟩ : BufTy).Contents (Elt F) :=
  broadcastInDim S4096x1 ![0] bcast_S4096_S4096x1_0 (val_main_v9 (F := F))
def val_main_v11 : (⟨S1x4096, .i32⟩ : BufTy).Contents (Elt F) :=
  broadcastInDim S1x4096 ![1] bcast_S4096_S1x4096_1 (val_main_v9 (F := F))
def val_main_v12 : (⟨S4096x4096, .i32⟩ : BufTy).Contents (Elt F) :=
  broadcastInDim S4096x4096 ![0, 1] bcast_S4096x1_S4096x4096_0_1 (val_main_v10 (F := F))
def val_main_v13 : (⟨S4096x4096, .i32⟩ : BufTy).Contents (Elt F) :=
  broadcastInDim S4096x4096 ![0, 1] bcast_S1x4096_S4096x4096_0_1 (val_main_v11 (F := F))
def val_main_v14 : (⟨S4096x4096, .i32⟩ : BufTy).Contents (Elt F) :=
  subi (val_main_v12 (F := F)) (val_main_v13 (F := F))
def val_main_c : (⟨S_, .i32⟩ : BufTy).Contents (Elt F) :=
  constantI S_ 32 4294967168#32
def val_main_c_0 : (⟨S_, .i32⟩ : BufTy).Contents (Elt F) :=
  constantI S_ 32 128#32
def val_main_call0_v0 : (⟨S_, .i32⟩ : BufTy).Contents (Elt F) :=
  id (val_main_c (F := F))
def val_main_call0_v1 : (⟨S4096x4096, .i32⟩ : BufTy).Contents (Elt F) :=
  broadcastInDim S4096x4096 ![] bcast_S_S4096x4096 (val_main_call0_v0 (F := F))
def val_main_call0_v2 : (⟨S4096x4096, .i32⟩ : BufTy).Contents (Elt F) :=
  maxsi (val_main_call0_v1 (F := F)) (val_main_v14 (F := F))
def val_main_call0_v3 : (⟨S_, .i32⟩ : BufTy).Contents (Elt F) :=
  id (val_main_c_0 (F := F))
def val_main_call0_v4 : (⟨S4096x4096, .i32⟩ : BufTy).Contents (Elt F) :=
  broadcastInDim S4096x4096 ![] bcast_S_S4096x4096 (val_main_call0_v3 (F := F))
def val_main_v15 : (⟨S4096x4096, .i32⟩ : BufTy).Contents (Elt F) :=
  minsi (val_main_call0_v4 (F := F)) (val_main_call0_v2 (F := F))
def val_main_c_1 : (⟨S_, .i32⟩ : BufTy).Contents (Elt F) :=
  constantI S_ 32 128#32
def val_main_v16 : (⟨S4096x4096, .i32⟩ : BufTy).Contents (Elt F) :=
  broadcastInDim S4096x4096 ![] bcast_S_S4096x4096 (val_main_c_1 (F := F))
def val_main_v17 : (⟨S4096x4096, .i32⟩ : BufTy).Contents (Elt F) :=
  addi (val_main_v15 (F := F)) (val_main_v16 (F := F))
def val_main_c_2 : (⟨S_, .i32⟩ : BufTy).Contents (Elt F) :=
  constantI S_ 32 0#32
def val_main_v18 : (⟨S4096x4096, .i32⟩ : BufTy).Contents (Elt F) :=
  broadcastInDim S4096x4096 ![] bcast_S_S4096x4096 (val_main_c_2 (F := F))
def val_main_v19 : (⟨S4096x4096, .i1⟩ : BufTy).Contents (Elt F) :=
  cmpi .slt (val_main_v17 (F := F)) (val_main_v18 (F := F))
def val_main_c_3 : (⟨S_, .i32⟩ : BufTy).Contents (Elt F) :=
  constantI S_ 32 257#32
def val_main_v20 : (⟨S4096x4096, .i32⟩ : BufTy).Contents (Elt F) :=
  broadcastInDim S4096x4096 ![] bcast_S_S4096x4096 (val_main_c_3 (F := F))
def val_main_v21 : (⟨S4096x4096, .i32⟩ : BufTy).Contents (Elt F) :=
  addi (val_main_v17 (F := F)) (val_main_v20 (F := F))
def val_main_v22 : (⟨S4096x4096, .i32⟩ : BufTy).Contents (Elt F) :=
  select (val_main_v19 (F := F)) (val_main_v21 (F := F)) (val_main_v17 (F := F))
def val_main_v23 : (⟨S4096x4096x1, .i32⟩ : BufTy).Contents (Elt F) :=
  broadcastInDim S4096x4096x1 ![0, 1] bcast_S4096x4096_S4096x4096x1_0_1 (val_main_v22 (F := F))
def val_main_v24 (x1 : (⟨S8x257, .f32⟩ : BufTy).Contents (Elt F)) : (⟨S8x4096x4096, .f32⟩ : BufTy).Contents (Elt F) :=
  Host.gather gather_S8x257_S4096x4096x1_S8x4096x4096_0_1_n_n_1_2_81 (x1) (val_main_v23 (F := F))

def val_main_v25 (x0 : (⟨S8192x3072, .bf16⟩ : BufTy).Contents (Elt F)) : (⟨S2x8x4096x4096, .f32⟩ : BufTy).Contents (Elt F) :=
  Host.dotGeneral dot_S2x4096x8x64_S2x4096x8x64_S2x8x4096x4096_3_3_1_1_02_02 none (val_main_v2 (F := F) x0) (val_main_v5 (F := F) x0)
def val_main_cst : (⟨S_, .f32⟩ : BufTy).Contents (Elt F) :=
  constant S_ .f32 0x3E000000#32
def val_main_v26 : (⟨S2x8x4096x4096, .f32⟩ : BufTy).Contents (Elt F) :=
  broadcastInDim S2x8x4096x4096 ![] bcast_S_S2x8x4096x4096 (val_main_cst (F := F))
def val_main_v27 (x0 : (⟨S8192x3072, .bf16⟩ : BufTy).Contents (Elt F)) : (⟨S2x8x4096x4096, .f32⟩ : BufTy).Contents (Elt F) :=
  mulf (val_main_v25 (F := F) x0) (val_main_v26 (F := F))
def val_main_v28 (x1 : (⟨S8x257, .f32⟩ : BufTy).Contents (Elt F)) : (⟨S1x8x4096x4096, .f32⟩ : BufTy).Contents (Elt F) :=
  broadcastInDim S1x8x4096x4096 ![1, 2, 3] bcast_S8x4096x4096_S1x8x4096x4096_1_2_3 (val_main_v24 (F := F) x1)
def val_main_v29 (x1 : (⟨S8x257, .f32⟩ : BufTy).Contents (Elt F)) : (⟨S2x8x4096x4096, .f32⟩ : BufTy).Contents (Elt F) :=
  broadcastInDim S2x8x4096x4096 ![0, 1, 2, 3] bcast_S1x8x4096x4096_S2x8x4096x4096_0_1_2_3 (val_main_v28 (F := F) x1)
def val_main_v30 (x0 : (⟨S8192x3072, .bf16⟩ : BufTy).Contents (Elt F)) (x1 : (⟨S8x257, .f32⟩ : BufTy).Contents (Elt F)) : (⟨S2x8x4096x4096, .f32⟩ : BufTy).Contents (Elt F) :=
  addf (val_main_v27 (F := F) x0) (val_main_v29 (F := F) x1)
def val_main_c_4 : (⟨S_, .i32⟩ : BufTy).Contents (Elt F) :=
  constantI S_ 32 64#32
def val_main_v31 : (⟨S4096, .i32⟩ : BufTy).Contents (Elt F) :=
  broadcastInDim S4096 ![] bcast_S_S4096 (val_main_c_4 (F := F))
def val_main_v32 : (⟨S4096, .i32⟩ : BufTy).Contents (Elt F) :=
  Host.divsi (val_main_v9 (F := F)) (val_main_v31 (F := F))
def val_main_v33 : (⟨S1x4096, .i32⟩ : BufTy).Contents (Elt F) :=
  broadcastInDim S1x4096 ![1] bcast_S4096_S1x4096_1 (val_main_v32 (F := F))
def val_main_v34 : (⟨S4096x1, .i32⟩ : BufTy).Contents (Elt F) :=
  broadcastInDim S4096x1 ![0] bcast_S4096_S4096x1_0 (val_main_v32 (F := F))
def val_main_v35 : (⟨S4096x4096, .i32⟩ : BufTy).Contents (Elt F) :=
  broadcastInDim S4096x4096 ![0, 1] bcast_S1x4096_S4096x4096_0_1 (val_main_v33 (F := F))
def val_main_v36 : (⟨S4096x4096, .i32⟩ : BufTy).Contents (Elt F) :=
  broadcastInDim S4096x4096 ![0, 1] bcast_S4096x1_S4096x4096_0_1 (val_main_v34 (F := F))
def val_main_v37 : (⟨S4096x4096, .i1⟩ : BufTy).Contents (Elt F) :=
  cmpi .sle (val_main_v35 (F := F)) (val_main_v36 (F := F))
def val_main_v38 : (⟨S1x4096, .i32⟩ : BufTy).Contents (Elt F) :=
  broadcastInDim S1x4096 ![1] bcast_S4096_S1x4096_1 (val_main_v32 (F := F))
def val_main_v39 : (⟨S4096x1, .i32⟩ : BufTy).Contents (Elt F) :=
  broadcastInDim S4096x1 ![0] bcast_S4096_S4096x1_0 (val_main_v32 (F := F))
def val_main_c_5 : (⟨S_, .i32⟩ : BufTy).Contents (Elt F) :=
  constantI S_ 32 8#32
def val_main_v40 : (⟨S4096x1, .i32⟩ : BufTy).Contents (Elt F) :=
  broadcastInDim S4096x1 ![] bcast_S_S4096x1 (val_main_c_5 (F := F))
def val_main_v41 : (⟨S4096x1, .i32⟩ : BufTy).Contents (Elt F) :=
  subi (val_main_v39 (F := F)) (val_main_v40 (F := F))
def val_main_v42 : (⟨S4096x4096, .i32⟩ : BufTy).Contents (Elt F) :=
  broadcastInDim S4096x4096 ![0, 1] bcast_S1x4096_S4096x4096_0_1 (val_main_v38 (F := F))
def val_main_v43 : (⟨S4096x4096, .i32⟩ : BufTy).Contents (Elt F) :=
  broadcastInDim S4096x4096 ![0, 1] bcast_S4096x1_S4096x4096_0_1 (val_main_v41 (F := F))
def val_main_v44 : (⟨S4096x4096, .i1⟩ : BufTy).Contents (Elt F) :=
  cmpi .sge (val_main_v42 (F := F)) (val_main_v43 (F := F))
def val_main_v45 : (⟨S4096x4096, .i1⟩ : BufTy).Contents (Elt F) :=
  andi (val_main_v37 (F := F)) (val_main_v44 (F := F))
def val_main_cst_6 : (⟨S_, .f32⟩ : BufTy).Contents (Elt F) :=
  constant S_ .f32 0xFF800000#32
def val_main_call1_v0 : (⟨S_, .f32⟩ : BufTy).Contents (Elt F) :=
  id (val_main_cst_6 (F := F))
def val_main_call1_v1 : (⟨S2x8x4096x4096, .i1⟩ : BufTy).Contents (Elt F) :=
  broadcastInDim S2x8x4096x4096 ![2, 3] bcast_S4096x4096_S2x8x4096x4096_2_3 (val_main_v45 (F := F))
def val_main_call1_v2 : (⟨S2x8x4096x4096, .f32⟩ : BufTy).Contents (Elt F) :=
  broadcastInDim S2x8x4096x4096 ![] bcast_S_S2x8x4096x4096 (val_main_call1_v0 (F := F))
def val_main_v46 (x0 : (⟨S8192x3072, .bf16⟩ : BufTy).Contents (Elt F)) (x1 : (⟨S8x257, .f32⟩ : BufTy).Contents (Elt F)) : (⟨S2x8x4096x4096, .f32⟩ : BufTy).Contents (Elt F) :=
  select (val_main_call1_v1 (F := F)) (val_main_v30 (F := F) x0 x1) (val_main_call1_v2 (F := F))
def val_main_cst_7 : (⟨S_, .f32⟩ : BufTy).Contents (Elt F) :=
  constant S_ .f32 0xFF800000#32
def val_main_v47 (x0 : (⟨S8192x3072, .bf16⟩ : BufTy).Contents (Elt F)) (x1 : (⟨S8x257, .f32⟩ : BufTy).Contents (Elt F)) : (⟨S2x8x4096, .f32⟩ : BufTy).Contents (Elt F) :=
  Host.reduce FloatOps.maximumf (val_main_v46 (F := F) x0 x1) (val_main_cst_7 (F := F)) reducesTo_S2x8x4096x4096_S2x8x4096_d3 h_S_

def val_main_cst_8 : (⟨S_, .f32⟩ : BufTy).Contents (Elt F) :=
  constant S_ .f32 0xFF800000#32
def val_main_v48 : (⟨S2x8x4096, .f32⟩ : BufTy).Contents (Elt F) :=
  broadcastInDim S2x8x4096 ![] bcast_S_S2x8x4096 (val_main_cst_8 (F := F))
def val_main_v49 (x0 : (⟨S8192x3072, .bf16⟩ : BufTy).Contents (Elt F)) (x1 : (⟨S8x257, .f32⟩ : BufTy).Contents (Elt F)) : (⟨S2x8x4096, .f32⟩ : BufTy).Contents (Elt F) :=
  maximumf (val_main_v48 (F := F)) (val_main_v47 (F := F) x0 x1)
def val_main_v50 (x0 : (⟨S8192x3072, .bf16⟩ : BufTy).Contents (Elt F)) (x1 : (⟨S8x257, .f32⟩ : BufTy).Contents (Elt F)) : (⟨S2x8x4096x1, .f32⟩ : BufTy).Contents (Elt F) :=
  broadcastInDim S2x8x4096x1 ![0, 1, 2] bcast_S2x8x4096_S2x8x4096x1_0_1_2 (val_main_v49 (F := F) x0 x1)
def val_main_v51 (x0 : (⟨S8192x3072, .bf16⟩ : BufTy).Contents (Elt F)) (x1 : (⟨S8x257, .f32⟩ : BufTy).Contents (Elt F)) : (⟨S2x8x4096x4096, .f32⟩ : BufTy).Contents (Elt F) :=
  broadcastInDim S2x8x4096x4096 ![0, 1, 2, 3] bcast_S2x8x4096x1_S2x8x4096x4096_0_1_2_3 (val_main_v50 (F := F) x0 x1)
def val_main_v52 (x0 : (⟨S8192x3072, .bf16⟩ : BufTy).Contents (Elt F)) (x1 : (⟨S8x257, .f32⟩ : BufTy).Contents (Elt F)) : (⟨S2x8x4096x4096, .f32⟩ : BufTy).Contents (Elt F) :=
  subf (val_main_v46 (F := F) x0 x1) (val_main_v51 (F := F) x0 x1)
def val_main_v53 (x0 : (⟨S8192x3072, .bf16⟩ : BufTy).Contents (Elt F)) (x1 : (⟨S8x257, .f32⟩ : BufTy).Contents (Elt F)) : (⟨S2x8x4096x4096, .f32⟩ : BufTy).Contents (Elt F) :=
  Host.exp (val_main_v52 (F := F) x0 x1)
def val_main_cst_9 : (⟨S_, .f32⟩ : BufTy).Contents (Elt F) :=
  constant S_ .f32 0x00000000#32
def val_main_v54 (x0 : (⟨S8192x3072, .bf16⟩ : BufTy).Contents (Elt F)) (x1 : (⟨S8x257, .f32⟩ : BufTy).Contents (Elt F)) : (⟨S2x8x4096, .f32⟩ : BufTy).Contents (Elt F) :=
  Host.reduceAdd (val_main_v53 (F := F) x0 x1) (val_main_cst_9 (F := F)) reducesTo_S2x8x4096x4096_S2x8x4096_d3 h_S_
def val_main_v55 (x0 : (⟨S8192x3072, .bf16⟩ : BufTy).Contents (Elt F)) (x1 : (⟨S8x257, .f32⟩ : BufTy).Contents (Elt F)) : (⟨S2x8x4096x1, .f32⟩ : BufTy).Contents (Elt F) :=
  broadcastInDim S2x8x4096x1 ![0, 1, 2] bcast_S2x8x4096_S2x8x4096x1_0_1_2 (val_main_v54 (F := F) x0 x1)
def val_main_v56 (x0 : (⟨S8192x3072, .bf16⟩ : BufTy).Contents (Elt F)) (x1 : (⟨S8x257, .f32⟩ : BufTy).Contents (Elt F)) : (⟨S2x8x4096x4096, .f32⟩ : BufTy).Contents (Elt F) :=
  broadcastInDim S2x8x4096x4096 ![0, 1, 2, 3] bcast_S2x8x4096x1_S2x8x4096x4096_0_1_2_3 (val_main_v55 (F := F) x0 x1)
def val_main_v57 (x0 : (⟨S8192x3072, .bf16⟩ : BufTy).Contents (Elt F)) (x1 : (⟨S8x257, .f32⟩ : BufTy).Contents (Elt F)) : (⟨S2x8x4096x4096, .f32⟩ : BufTy).Contents (Elt F) :=
  Host.divf (val_main_v53 (F := F) x0 x1) (val_main_v56 (F := F) x0 x1)
def val_main_v58 (x0 : (⟨S8192x3072, .bf16⟩ : BufTy).Contents (Elt F)) (x1 : (⟨S8x257, .f32⟩ : BufTy).Contents (Elt F)) : (⟨S2x8x64x4096, .f32⟩ : BufTy).Contents (Elt F) :=
  Host.dotGeneral dot_S2x4096x8x64_S2x8x4096x4096_S2x8x64x4096_1_3_3_2_02_01 none (val_main_v8 (F := F) x0) (val_main_v57 (F := F) x0 x1)
theorem lhs_main_v58_0 (i : S2x8x64x4096.Idx) (q : dot_S2x4096x8x64_S2x8x4096x4096_S2x8x64x4096_1_3_3_2_02_01.contr.Idx) :
    (dot_S2x4096x8x64_S2x8x4096x4096_S2x8x64x4096_1_3_3_2_02_01.lhsIdx i q 0).val = (i 0).val := by
  unfold DotDims.lhsIdx
  rw [dif_pos (show (0 : Fin S2x4096x8x64.rank) ∈ dot_S2x4096x8x64_S2x8x4096x4096_S2x8x64x4096_1_3_3_2_02_01.lhsBatch by decide)]
  rfl
theorem lhs_main_v58_1 (i : S2x8x64x4096.Idx) (q : dot_S2x4096x8x64_S2x8x4096x4096_S2x8x64x4096_1_3_3_2_02_01.contr.Idx) :
    (dot_S2x4096x8x64_S2x8x4096x4096_S2x8x64x4096_1_3_3_2_02_01.lhsIdx i q 1).val = (q ⟨0, by decide⟩).val :=
  dot_S2x4096x8x64_S2x8x4096x4096_S2x8x64x4096_1_3_3_2_02_01.lhsIdx_val_of_single rfl i q
theorem lhs_main_v58_2 (i : S2x8x64x4096.Idx) (q : dot_S2x4096x8x64_S2x8x4096x4096_S2x8x64x4096_1_3_3_2_02_01.contr.Idx) :
    (dot_S2x4096x8x64_S2x8x4096x4096_S2x8x64x4096_1_3_3_2_02_01.lhsIdx i q 2).val = (i 1).val := by
  unfold DotDims.lhsIdx
  rw [dif_pos (show (2 : Fin S2x4096x8x64.rank) ∈ dot_S2x4096x8x64_S2x8x4096x4096_S2x8x64x4096_1_3_3_2_02_01.lhsBatch by decide)]
  rfl
theorem lhs_main_v58_3 (i : S2x8x64x4096.Idx) (q : dot_S2x4096x8x64_S2x8x4096x4096_S2x8x64x4096_1_3_3_2_02_01.contr.Idx) :
    (dot_S2x4096x8x64_S2x8x4096x4096_S2x8x64x4096_1_3_3_2_02_01.lhsIdx i q 3).val = (i 2).val := by
  unfold DotDims.lhsIdx
  rw [dif_neg (show ¬(3 : Fin S2x4096x8x64.rank) ∈ dot_S2x4096x8x64_S2x8x4096x4096_S2x8x64x4096_1_3_3_2_02_01.lhsBatch by decide), dif_pos (show (3 : Fin S2x4096x8x64.rank) ∈ dot_S2x4096x8x64_S2x8x4096x4096_S2x8x64x4096_1_3_3_2_02_01.lhsNonContracting by decide)]
  rfl
theorem rhs_main_v58_0 (i : S2x8x64x4096.Idx) (q : dot_S2x4096x8x64_S2x8x4096x4096_S2x8x64x4096_1_3_3_2_02_01.contr.Idx) :
    (dot_S2x4096x8x64_S2x8x4096x4096_S2x8x64x4096_1_3_3_2_02_01.rhsIdx i q 0).val = (i 0).val := by
  unfold DotDims.rhsIdx
  rw [dif_pos (show (0 : Fin S2x8x4096x4096.rank) ∈ dot_S2x4096x8x64_S2x8x4096x4096_S2x8x64x4096_1_3_3_2_02_01.rhsBatch by decide)]
  rfl
theorem rhs_main_v58_1 (i : S2x8x64x4096.Idx) (q : dot_S2x4096x8x64_S2x8x4096x4096_S2x8x64x4096_1_3_3_2_02_01.contr.Idx) :
    (dot_S2x4096x8x64_S2x8x4096x4096_S2x8x64x4096_1_3_3_2_02_01.rhsIdx i q 1).val = (i 1).val := by
  unfold DotDims.rhsIdx
  rw [dif_pos (show (1 : Fin S2x8x4096x4096.rank) ∈ dot_S2x4096x8x64_S2x8x4096x4096_S2x8x64x4096_1_3_3_2_02_01.rhsBatch by decide)]
  rfl
theorem rhs_main_v58_2 (i : S2x8x64x4096.Idx) (q : dot_S2x4096x8x64_S2x8x4096x4096_S2x8x64x4096_1_3_3_2_02_01.contr.Idx) :
    (dot_S2x4096x8x64_S2x8x4096x4096_S2x8x64x4096_1_3_3_2_02_01.rhsIdx i q 2).val = (i 3).val := by
  unfold DotDims.rhsIdx
  rw [dif_neg (show ¬(2 : Fin S2x8x4096x4096.rank) ∈ dot_S2x4096x8x64_S2x8x4096x4096_S2x8x64x4096_1_3_3_2_02_01.rhsBatch by decide), dif_pos (show (2 : Fin S2x8x4096x4096.rank) ∈ dot_S2x4096x8x64_S2x8x4096x4096_S2x8x64x4096_1_3_3_2_02_01.rhsNonContracting by decide)]
  rfl
theorem rhs_main_v58_3 (i : S2x8x64x4096.Idx) (q : dot_S2x4096x8x64_S2x8x4096x4096_S2x8x64x4096_1_3_3_2_02_01.contr.Idx) :
    (dot_S2x4096x8x64_S2x8x4096x4096_S2x8x64x4096_1_3_3_2_02_01.rhsIdx i q 3).val = (q ⟨0, by decide⟩).val :=
  dot_S2x4096x8x64_S2x8x4096x4096_S2x8x64x4096_1_3_3_2_02_01.rhsIdx_val_of_single rfl i q
abbrev lidx_main_v58 (i : S2x8x64x4096.Idx) (k : Fin 4096) : S2x4096x8x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩
abbrev ridx_main_v58 (i : S2x8x64x4096.Idx) (k : Fin 4096) : S2x8x4096x4096.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v58_apply (x0 : (⟨S8192x3072, .bf16⟩ : BufTy).Contents (Elt Ideal)) (x1 : (⟨S8x257, .f32⟩ : BufTy).Contents (Elt Ideal)) (i : S2x8x64x4096.Idx) :
    val_main_v58 (F := Ideal) x0 x1 i = ∑ k : Fin 4096, (val_main_v8 (F := Ideal) x0) (lidx_main_v58 i k) * (val_main_v57 (F := Ideal) x0 x1) (ridx_main_v58 i k) := by
  unfold val_main_v58
  generalize val_main_v8 (F := Ideal) x0 = y0
  generalize val_main_v57 (F := Ideal) x0 x1 = y1
  simp only [Host.dotGeneral]
  rw [Ideal.dotGeneral_apply, ← Equiv.sum_comp (ValueIdx.contrEquiv1 dot_S2x4096x8x64_S2x8x4096x4096_S2x8x64x4096_1_3_3_2_02_01 4096 rfl rfl).symm]
  refine Finset.sum_congr rfl fun k _ => ?_
  have hk := ValueIdx.contrEquiv1_symm_val dot_S2x4096x8x64_S2x8x4096x4096_S2x8x64x4096_1_3_3_2_02_01 4096 rfl rfl k
  have el : dot_S2x4096x8x64_S2x8x4096x4096_S2x8x64x4096_1_3_3_2_02_01.lhsIdx i ((ValueIdx.contrEquiv1 dot_S2x4096x8x64_S2x8x4096x4096_S2x8x64x4096_1_3_3_2_02_01 4096 rfl rfl).symm k) = lidx_main_v58 i k := funext fun a => Fin.ext (by
    match a with
    | ⟨0, _⟩ => exact lhs_main_v58_0 _ _
    | ⟨1, _⟩ => exact (lhs_main_v58_1 _ _).trans hk
    | ⟨2, _⟩ => exact lhs_main_v58_2 _ _
    | ⟨3, _⟩ => exact lhs_main_v58_3 _ _)
  have er : dot_S2x4096x8x64_S2x8x4096x4096_S2x8x64x4096_1_3_3_2_02_01.rhsIdx i ((ValueIdx.contrEquiv1 dot_S2x4096x8x64_S2x8x4096x4096_S2x8x64x4096_1_3_3_2_02_01 4096 rfl rfl).symm k) = ridx_main_v58 i k := funext fun a => Fin.ext (by
    match a with
    | ⟨0, _⟩ => exact rhs_main_v58_0 _ _
    | ⟨1, _⟩ => exact rhs_main_v58_1 _ _
    | ⟨2, _⟩ => exact rhs_main_v58_2 _ _
    | ⟨3, _⟩ => exact (rhs_main_v58_3 _ _).trans hk)
  rw [el, er]

def val_main_v59 (x0 : (⟨S8192x3072, .bf16⟩ : BufTy).Contents (Elt F)) (x1 : (⟨S8x257, .f32⟩ : BufTy).Contents (Elt F)) : (⟨S2x4096x8x64, .f32⟩ : BufTy).Contents (Elt F) :=
  transpose S2x4096x8x64 [0, 3, 1, 2] (val_main_v58 (F := F) x0 x1) transposes_S2x8x64x4096_S2x4096x8x64_0_3_1_2
abbrev idx_main_v59 (i : S2x4096x8x64.Idx) : S2x8x64x4096.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
theorem val_main_v59_apply (x0 : (⟨S8192x3072, .bf16⟩ : BufTy).Contents (Elt F)) (x1 : (⟨S8x257, .f32⟩ : BufTy).Contents (Elt F)) (i : S2x4096x8x64.Idx) :
    val_main_v59 (F := F) x0 x1 i = val_main_v58 (F := F) x0 x1 (idx_main_v59 i) := by
  unfold val_main_v59
  generalize val_main_v58 (F := F) x0 x1 = y
  exact transpose_apply [0, 3, 1, 2] y transposes_S2x8x64x4096_S2x4096x8x64_0_3_1_2 i (idx_main_v59 i) (fun b => match b with
    | ⟨0, _⟩ => rfl
    | ⟨1, _⟩ => rfl
    | ⟨2, _⟩ => rfl
    | ⟨3, _⟩ => rfl)

def val_main_v60 (x0 : (⟨S8192x3072, .bf16⟩ : BufTy).Contents (Elt F)) (x1 : (⟨S8x257, .f32⟩ : BufTy).Contents (Elt F)) : (⟨S8192x512, .f32⟩ : BufTy).Contents (Elt F) :=
  shapeCast _ (val_main_v59 (F := F) x0 x1) shapeCasts_S2x4096x8x64_S8192x512
set_option backward.proofsInPublic true in
abbrev idx_main_v60 (i : S8192x512.Idx) : S2x4096x8x64.Idx := fun a => match a with
  | ⟨0, _⟩ => ⟨((i 0).val * 512 + (i 1).val) / 2097152, by have h0 : (i 0).val < 8192 := (i 0).isLt; have h1 : (i 1).val < 512 := (i 1).isLt; show ((i 0).val * 512 + (i 1).val) / 2097152 < 2; omega⟩
  | ⟨1, _⟩ => ⟨((i 0).val * 512 + (i 1).val) / 512 % 4096, by have h0 : (i 0).val < 8192 := (i 0).isLt; have h1 : (i 1).val < 512 := (i 1).isLt; show ((i 0).val * 512 + (i 1).val) / 512 % 4096 < 4096; omega⟩
  | ⟨2, _⟩ => ⟨((i 0).val * 512 + (i 1).val) / 64 % 8, by have h0 : (i 0).val < 8192 := (i 0).isLt; have h1 : (i 1).val < 512 := (i 1).isLt; show ((i 0).val * 512 + (i 1).val) / 64 % 8 < 8; omega⟩
  | ⟨3, _⟩ => ⟨((i 0).val * 512 + (i 1).val) % 64, by have h0 : (i 0).val < 8192 := (i 0).isLt; have h1 : (i 1).val < 512 := (i 1).isLt; show ((i 0).val * 512 + (i 1).val) % 64 < 64; omega⟩
theorem val_main_v60_apply (x0 : (⟨S8192x3072, .bf16⟩ : BufTy).Contents (Elt F)) (x1 : (⟨S8x257, .f32⟩ : BufTy).Contents (Elt F)) (i : S8192x512.Idx) :
    val_main_v60 (F := F) x0 x1 i = val_main_v59 (F := F) x0 x1 (idx_main_v60 i) := by
  unfold val_main_v60
  generalize val_main_v59 (F := F) x0 x1 = y
  exact shapeCast_apply y shapeCasts_S2x4096x8x64_S8192x512 i (idx_main_v60 i)
    (by rewrite [Shape.rowMajor_val_four, Shape.rowMajor_val_two]; have h0 : (i 0).val < 8192 := (i 0).isLt; have h1 : (i 1).val < 512 := (i 1).isLt; show ((((i 0).val * 512 + (i 1).val) / 2097152 * 4096 + ((i 0).val * 512 + (i 1).val) / 512 % 4096) * 8 + ((i 0).val * 512 + (i 1).val) / 64 % 8) * 64 + ((i 0).val * 512 + (i 1).val) % 64 = (i 0).val * 512 + (i 1).val; omega)

def val_main_v61 (x1 : (⟨S8x257, .f32⟩ : BufTy).Contents (Elt F)) : (⟨S8x191, .f32⟩ : BufTy).Contents (Elt F) :=
  extractStridedSlice S8x191 ![0, 65] (x1) slices_S8x257_S8x191_0_65
set_option backward.proofsInPublic true in
abbrev idx_main_v61 (i : S8x191.Idx) : S8x257.Idx := fun a => match a with
  | ⟨0, _⟩ => ⟨(i 0).val, (i 0).isLt⟩
  | ⟨1, _⟩ => ⟨65 + (i 1).val, by have h1 : (i 1).val < 191 := (i 1).isLt; show 65 + (i 1).val < 257; omega⟩
theorem val_main_v61_apply (x1 : (⟨S8x257, .f32⟩ : BufTy).Contents (Elt F)) (i : S8x191.Idx) :
    val_main_v61 (F := F) x1 i = x1 (idx_main_v61 i) := by
  unfold val_main_v61
  exact extractStridedSlice_apply ![0, 65] x1 slices_S8x257_S8x191_0_65 i (idx_main_v61 i) (fun a => match a with
    | ⟨0, _⟩ => by show (i 0).val = 0 + (i 0).val; omega
    | ⟨1, _⟩ => by show 65 + (i 1).val = 65 + (i 1).val; omega)

def val_main_v62 (x1 : (⟨S8x257, .f32⟩ : BufTy).Contents (Elt F)) : (⟨S8x1, .f32⟩ : BufTy).Contents (Elt F) :=
  extractStridedSlice S8x1 ![0, 256] (x1) slices_S8x257_S8x1_0_256
set_option backward.proofsInPublic true in
abbrev idx_main_v62 (i : S8x1.Idx) : S8x257.Idx := fun a => match a with
  | ⟨0, _⟩ => ⟨(i 0).val, (i 0).isLt⟩
  | ⟨1, _⟩ => ⟨256 + (i 1).val, by have h1 : (i 1).val < 1 := (i 1).isLt; show 256 + (i 1).val < 257; omega⟩
theorem val_main_v62_apply (x1 : (⟨S8x257, .f32⟩ : BufTy).Contents (Elt F)) (i : S8x1.Idx) :
    val_main_v62 (F := F) x1 i = x1 (idx_main_v62 i) := by
  unfold val_main_v62
  exact extractStridedSlice_apply ![0, 256] x1 slices_S8x257_S8x1_0_256 i (idx_main_v62 i) (fun a => match a with
    | ⟨0, _⟩ => by show (i 0).val = 0 + (i 0).val; omega
    | ⟨1, _⟩ => by show 256 + (i 1).val = 256 + (i 1).val; omega)

def val_main_v63 (x1 : (⟨S8x257, .f32⟩ : BufTy).Contents (Elt F)) : (⟨S8x448, .f32⟩ : BufTy).Contents (Elt F) :=
  broadcastInDim S8x448 ![0, 1] bcast_S8x1_S8x448_0_1 (val_main_v62 (F := F) x1)
abbrev idx_main_v63 (i : S8x448.Idx) : S8x1.Idx := fun a => match a with
  | ⟨0, _⟩ => ⟨(i 0).val, (i 0).isLt⟩
  | ⟨1, _⟩ => ⟨0, Nat.one_pos⟩
theorem val_main_v63_apply (x1 : (⟨S8x257, .f32⟩ : BufTy).Contents (Elt F)) (i : S8x448.Idx) :
    val_main_v63 (F := F) x1 i = val_main_v62 (F := F) x1 (idx_main_v63 i) := by
  unfold val_main_v63
  generalize val_main_v62 (F := F) x1 = y
  exact broadcastInDim_apply _ bcast_S8x1_S8x448_0_1 y i (idx_main_v63 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl])

def val_main_v64 (x1 : (⟨S8x257, .f32⟩ : BufTy).Contents (Elt F)) : (⟨S8x639, .f32⟩ : BufTy).Contents (Elt F) :=
  concatenate S8x639 1 [⟨S8x191, (val_main_v61 (F := F) x1)⟩, ⟨S8x448, (val_main_v63 (F := F) x1)⟩] concatenates_S8x191_S8x448_S8x639_d1

def val_main_v65 (x1 : (⟨S8x257, .f32⟩ : BufTy).Contents (Elt F)) : (⟨S8x639, .f32⟩ : BufTy).Contents (Elt F) :=
  Host.reverse [1] (val_main_v64 (F := F) x1)

def val_main_v66 (x1 : (⟨S8x257, .f32⟩ : BufTy).Contents (Elt F)) : (⟨S8x1x639, .f32⟩ : BufTy).Contents (Elt F) :=
  broadcastInDim S8x1x639 ![0, 2] bcast_S8x639_S8x1x639_0_2 (val_main_v65 (F := F) x1)
abbrev idx_main_v66 (i : S8x1x639.Idx) : S8x639.Idx := fun a => match a with
  | ⟨0, _⟩ => ⟨(i 0).val, (i 0).isLt⟩
  | ⟨1, _⟩ => ⟨(i 2).val, (i 2).isLt⟩
theorem val_main_v66_apply (x1 : (⟨S8x257, .f32⟩ : BufTy).Contents (Elt F)) (i : S8x1x639.Idx) :
    val_main_v66 (F := F) x1 i = val_main_v65 (F := F) x1 (idx_main_v66 i) := by
  unfold val_main_v66
  generalize val_main_v65 (F := F) x1 = y
  exact broadcastInDim_apply _ bcast_S8x639_S8x1x639_0_2 y i (idx_main_v66 i) (fun a => match a with
    | ⟨0, _⟩ => by show (i 0).val = if (8 : Nat) = 1 then 0 else (i 0).val; rw [if_neg (by decide)]
    | ⟨1, _⟩ => by show (i 2).val = if (639 : Nat) = 1 then 0 else (i 2).val; rw [if_neg (by decide)])

def val_main_v67 (x1 : (⟨S8x257, .f32⟩ : BufTy).Contents (Elt F)) : (⟨S8x64x639, .f32⟩ : BufTy).Contents (Elt F) :=
  broadcastInDim S8x64x639 ![0, 1, 2] bcast_S8x1x639_S8x64x639_0_1_2 (val_main_v66 (F := F) x1)
abbrev idx_main_v67 (i : S8x64x639.Idx) : S8x1x639.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v67_apply (x1 : (⟨S8x257, .f32⟩ : BufTy).Contents (Elt F)) (i : S8x64x639.Idx) :
    val_main_v67 (F := F) x1 i = val_main_v66 (F := F) x1 (idx_main_v67 i) := by
  unfold val_main_v67
  generalize val_main_v66 (F := F) x1 = y
  exact broadcastInDim_apply _ bcast_S8x1x639_S8x64x639_0_1_2 y i (idx_main_v67 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (639 : Nat) = 1 then 0 else (i 2).val; rw [if_neg (by decide)])

def val_main_c_10 : (⟨S_, .i32⟩ : BufTy).Contents (Elt F) :=
  constantI S_ 32 0#32
theorem val_main_c_10_apply (i : S_.Idx) :
    val_main_c_10 (F := F) i = 0#32 := rfl

def val_main_call2_v0 : (⟨S_, .f32⟩ : BufTy).Contents (Elt F) :=
  sitofp .f32 (val_main_c_10 (F := F))
theorem val_main_call2_v0_apply (i : S_.Idx) :
    val_main_call2_v0 (F := F) i = FloatOps.sitofp .f32 (val_main_c_10 (F := F) i) := rfl

def val_main_v68 (x1 : (⟨S8x257, .f32⟩ : BufTy).Contents (Elt F)) : (⟨S8x64x640, .f32⟩ : BufTy).Contents (Elt F) :=
  pad S8x64x640 ![0, 0, 0] ![0, 0, 1] ![0, 0, 0] (val_main_v67 (F := F) x1) (val_main_call2_v0 (F := F)) pads_S8x64x639_S8x64x640_000_000_010 h_S_

def val_main_v69 (x1 : (⟨S8x257, .f32⟩ : BufTy).Contents (Elt F)) : (⟨S8x40960, .f32⟩ : BufTy).Contents (Elt F) :=
  shapeCast _ (val_main_v68 (F := F) x1) shapeCasts_S8x64x640_S8x40960
set_option backward.proofsInPublic true in
abbrev idx_main_v69 (i : S8x40960.Idx) : S8x64x640.Idx := fun a => match a with
  | ⟨0, _⟩ => ⟨((i 0).val * 40960 + (i 1).val) / 40960, by have h0 : (i 0).val < 8 := (i 0).isLt; have h1 : (i 1).val < 40960 := (i 1).isLt; show ((i 0).val * 40960 + (i 1).val) / 40960 < 8; omega⟩
  | ⟨1, _⟩ => ⟨((i 0).val * 40960 + (i 1).val) / 640 % 64, by have h0 : (i 0).val < 8 := (i 0).isLt; have h1 : (i 1).val < 40960 := (i 1).isLt; show ((i 0).val * 40960 + (i 1).val) / 640 % 64 < 64; omega⟩
  | ⟨2, _⟩ => ⟨((i 0).val * 40960 + (i 1).val) % 640, by have h0 : (i 0).val < 8 := (i 0).isLt; have h1 : (i 1).val < 40960 := (i 1).isLt; show ((i 0).val * 40960 + (i 1).val) % 640 < 640; omega⟩
theorem val_main_v69_apply (x1 : (⟨S8x257, .f32⟩ : BufTy).Contents (Elt F)) (i : S8x40960.Idx) :
    val_main_v69 (F := F) x1 i = val_main_v68 (F := F) x1 (idx_main_v69 i) := by
  unfold val_main_v69
  generalize val_main_v68 (F := F) x1 = y
  exact shapeCast_apply y shapeCasts_S8x64x640_S8x40960 i (idx_main_v69 i)
    (by rewrite [Shape.rowMajor_val_three, Shape.rowMajor_val_two]; have h0 : (i 0).val < 8 := (i 0).isLt; have h1 : (i 1).val < 40960 := (i 1).isLt; show (((i 0).val * 40960 + (i 1).val) / 40960 * 64 + ((i 0).val * 40960 + (i 1).val) / 640 % 64) * 640 + ((i 0).val * 40960 + (i 1).val) % 640 = (i 0).val * 40960 + (i 1).val; omega)

def val_main_v70 (x1 : (⟨S8x257, .f32⟩ : BufTy).Contents (Elt F)) : (⟨S8x40896, .f32⟩ : BufTy).Contents (Elt F) :=
  extractStridedSlice S8x40896 ![0, 0] (val_main_v69 (F := F) x1) slices_S8x40960_S8x40896_0_0
set_option backward.proofsInPublic true in
abbrev idx_main_v70 (i : S8x40896.Idx) : S8x40960.Idx := fun a => match a with
  | ⟨0, _⟩ => ⟨(i 0).val, (i 0).isLt⟩
  | ⟨1, _⟩ => ⟨(i 1).val, by have h1 : (i 1).val < 40896 := (i 1).isLt; show (i 1).val < 40960; omega⟩
theorem val_main_v70_apply (x1 : (⟨S8x257, .f32⟩ : BufTy).Contents (Elt F)) (i : S8x40896.Idx) :
    val_main_v70 (F := F) x1 i = val_main_v69 (F := F) x1 (idx_main_v70 i) := by
  unfold val_main_v70
  generalize val_main_v69 (F := F) x1 = y
  exact extractStridedSlice_apply ![0, 0] y slices_S8x40960_S8x40896_0_0 i (idx_main_v70 i) (fun a => match a with
    | ⟨0, _⟩ => by show (i 0).val = 0 + (i 0).val; omega
    | ⟨1, _⟩ => by show (i 1).val = 0 + (i 1).val; omega)

def val_main_v71 (x1 : (⟨S8x257, .f32⟩ : BufTy).Contents (Elt F)) : (⟨S8x64x639, .f32⟩ : BufTy).Contents (Elt F) :=
  shapeCast _ (val_main_v70 (F := F) x1) shapeCasts_S8x40896_S8x64x639
set_option backward.proofsInPublic true in
abbrev idx_main_v71 (i : S8x64x639.Idx) : S8x40896.Idx := fun a => match a with
  | ⟨0, _⟩ => ⟨(((i 0).val * 64 + (i 1).val) * 639 + (i 2).val) / 40896, by have h0 : (i 0).val < 8 := (i 0).isLt; have h1 : (i 1).val < 64 := (i 1).isLt; have h2 : (i 2).val < 639 := (i 2).isLt; show (((i 0).val * 64 + (i 1).val) * 639 + (i 2).val) / 40896 < 8; omega⟩
  | ⟨1, _⟩ => ⟨(((i 0).val * 64 + (i 1).val) * 639 + (i 2).val) % 40896, by have h0 : (i 0).val < 8 := (i 0).isLt; have h1 : (i 1).val < 64 := (i 1).isLt; have h2 : (i 2).val < 639 := (i 2).isLt; show (((i 0).val * 64 + (i 1).val) * 639 + (i 2).val) % 40896 < 40896; omega⟩
theorem val_main_v71_apply (x1 : (⟨S8x257, .f32⟩ : BufTy).Contents (Elt F)) (i : S8x64x639.Idx) :
    val_main_v71 (F := F) x1 i = val_main_v70 (F := F) x1 (idx_main_v71 i) := by
  unfold val_main_v71
  generalize val_main_v70 (F := F) x1 = y
  exact shapeCast_apply y shapeCasts_S8x40896_S8x64x639 i (idx_main_v71 i)
    (by rewrite [Shape.rowMajor_val_two, Shape.rowMajor_val_three]; have h0 : (i 0).val < 8 := (i 0).isLt; have h1 : (i 1).val < 64 := (i 1).isLt; have h2 : (i 2).val < 639 := (i 2).isLt; show (((i 0).val * 64 + (i 1).val) * 639 + (i 2).val) / 40896 * 40896 + (((i 0).val * 64 + (i 1).val) * 639 + (i 2).val) % 40896 = ((i 0).val * 64 + (i 1).val) * 639 + (i 2).val; omega)

def val_main_v72 (x1 : (⟨S8x257, .f32⟩ : BufTy).Contents (Elt F)) : (⟨S8x64x576, .f32⟩ : BufTy).Contents (Elt F) :=
  extractStridedSlice S8x64x576 ![0, 0, 63] (val_main_v71 (F := F) x1) slices_S8x64x639_S8x64x576_0_0_63
set_option backward.proofsInPublic true in
abbrev idx_main_v72 (i : S8x64x576.Idx) : S8x64x639.Idx := fun a => match a with
  | ⟨0, _⟩ => ⟨(i 0).val, (i 0).isLt⟩
  | ⟨1, _⟩ => ⟨(i 1).val, (i 1).isLt⟩
  | ⟨2, _⟩ => ⟨63 + (i 2).val, by have h2 : (i 2).val < 576 := (i 2).isLt; show 63 + (i 2).val < 639; omega⟩
theorem val_main_v72_apply (x1 : (⟨S8x257, .f32⟩ : BufTy).Contents (Elt F)) (i : S8x64x576.Idx) :
    val_main_v72 (F := F) x1 i = val_main_v71 (F := F) x1 (idx_main_v72 i) := by
  unfold val_main_v72
  generalize val_main_v71 (F := F) x1 = y
  exact extractStridedSlice_apply ![0, 0, 63] y slices_S8x64x639_S8x64x576_0_0_63 i (idx_main_v72 i) (fun a => match a with
    | ⟨0, _⟩ => by show (i 0).val = 0 + (i 0).val; omega
    | ⟨1, _⟩ => by show (i 1).val = 0 + (i 1).val; omega
    | ⟨2, _⟩ => by show 63 + (i 2).val = 63 + (i 2).val; omega)

def val_main_cst_11 : (⟨S_, .f32⟩ : BufTy).Contents (Elt F) :=
  constant S_ .f32 0xFF800000#32
theorem val_main_cst_11_apply (i : S_.Idx) :
    val_main_cst_11 (F := F) i = FloatOps.ofBits .f32 0xFF800000#32 := rfl

def val_main_call3_v0 : (⟨S_, .f32⟩ : BufTy).Contents (Elt F) :=
  id (val_main_cst_11 (F := F))
theorem val_main_call3_v0_apply (i : S_.Idx) :
    val_main_call3_v0 (F := F) i = (val_main_cst_11 (F := F) i) := rfl

def val_main_v73 (x1 : (⟨S8x257, .f32⟩ : BufTy).Contents (Elt F)) : (⟨S8x64x768, .f32⟩ : BufTy).Contents (Elt F) :=
  pad S8x64x768 ![0, 0, 0] ![0, 0, 192] ![0, 0, 0] (val_main_v72 (F := F) x1) (val_main_call3_v0 (F := F)) pads_S8x64x576_S8x64x768_000_000_01920 h_S_

def val_main_cst_12 : (⟨S_, .f32⟩ : BufTy).Contents (Elt F) :=
  constant S_ .f32 0xFF800000#32
theorem val_main_cst_12_apply (i : S_.Idx) :
    val_main_cst_12 (F := F) i = FloatOps.ofBits .f32 0xFF800000#32 := rfl

def val_main_call4_v0 : (⟨S_, .f32⟩ : BufTy).Contents (Elt F) :=
  id (val_main_cst_12 (F := F))
theorem val_main_call4_v0_apply (i : S_.Idx) :
    val_main_call4_v0 (F := F) i = (val_main_cst_12 (F := F) i) := rfl

def val_main_v74 (x1 : (⟨S8x257, .f32⟩ : BufTy).Contents (Elt F)) : (⟨S8x64x768, .f32⟩ : BufTy).Contents (Elt F) :=
  pad S8x64x768 ![0, 0, 64] ![0, 0, 128] ![0, 0, 0] (val_main_v72 (F := F) x1) (val_main_call4_v0 (F := F)) pads_S8x64x576_S8x64x768_000_000_641280 h_S_

def val_main_cst_13 : (⟨S_, .f32⟩ : BufTy).Contents (Elt F) :=
  constant S_ .f32 0xFF800000#32
theorem val_main_cst_13_apply (i : S_.Idx) :
    val_main_cst_13 (F := F) i = FloatOps.ofBits .f32 0xFF800000#32 := rfl

def val_main_call5_v0 : (⟨S_, .f32⟩ : BufTy).Contents (Elt F) :=
  id (val_main_cst_13 (F := F))
theorem val_main_call5_v0_apply (i : S_.Idx) :
    val_main_call5_v0 (F := F) i = (val_main_cst_13 (F := F) i) := rfl

def val_main_v75 (x1 : (⟨S8x257, .f32⟩ : BufTy).Contents (Elt F)) : (⟨S8x64x768, .f32⟩ : BufTy).Contents (Elt F) :=
  pad S8x64x768 ![0, 0, 128] ![0, 0, 64] ![0, 0, 0] (val_main_v72 (F := F) x1) (val_main_call5_v0 (F := F)) pads_S8x64x576_S8x64x768_000_000_128640 h_S_

def val_main_cst_14 : (⟨S_, .f32⟩ : BufTy).Contents (Elt F) :=
  constant S_ .f32 0xFF800000#32
theorem val_main_cst_14_apply (i : S_.Idx) :
    val_main_cst_14 (F := F) i = FloatOps.ofBits .f32 0xFF800000#32 := rfl

def val_main_call6_v0 : (⟨S_, .f32⟩ : BufTy).Contents (Elt F) :=
  id (val_main_cst_14 (F := F))
theorem val_main_call6_v0_apply (i : S_.Idx) :
    val_main_call6_v0 (F := F) i = (val_main_cst_14 (F := F) i) := rfl

def val_main_v76 (x1 : (⟨S8x257, .f32⟩ : BufTy).Contents (Elt F)) : (⟨S8x64x768, .f32⟩ : BufTy).Contents (Elt F) :=
  pad S8x64x768 ![0, 0, 192] ![0, 0, 0] ![0, 0, 0] (val_main_v72 (F := F) x1) (val_main_call6_v0 (F := F)) pads_S8x64x576_S8x64x768_000_000_19200 h_S_

def val_main_v77 (x1 : (⟨S8x257, .f32⟩ : BufTy).Contents (Elt F)) : (⟨S8x256x768, .f32⟩ : BufTy).Contents (Elt F) :=
  (concatenate S8x256x768 1 [⟨S8x64x768, ((val_main_v73 (F := F) x1) : (⟨S8x64x768, .f32⟩ : BufTy).Contents (Elt F))⟩, ⟨S8x64x768, ((val_main_v74 (F := F) x1) : (⟨S8x64x768, .f32⟩ : BufTy).Contents (Elt F))⟩, ⟨S8x64x768, ((val_main_v75 (F := F) x1) : (⟨S8x64x768, .f32⟩ : BufTy).Contents (Elt F))⟩, ⟨S8x64x768, ((val_main_v76 (F := F) x1) : (⟨S8x64x768, .f32⟩ : BufTy).Contents (Elt F))⟩] concatenates_S8x64x768_S8x64x768_S8x64x768_S8x64x768_S8x256x768_d1 : (⟨S8x256x768, .f32⟩ : BufTy).Contents (Elt F))

end Cert.KernelIdeal.HostRead

end
-- ==== Proof.HostV.lean ====
module

public import proofs.«01_k».proof.Proof.HostRead
public import proofs.«01_k».proof.Proof.Gen.ReferenceIdeal.Read

@[expose] public section

noncomputable section

namespace Cert.KernelIdeal.Hand

open Cert.KernelIdeal Cert.KernelIdeal.Gen Cert.KernelIdeal.HostRead
open Idealize.ShloMosaic Idealize.ShloMosaic.TcCoe Idealize.ShloMosaic.StableHlo

variable {F : FTy → Type} [FloatOps F] [Named F]
variable (m : (ℓ : Loc nD τ sig) → Buf (Elt F) ℓ)

set_option maxRecDepth 8192 in
set_option maxHeartbeats 20000000 in
/-- The expanded bias the kernel is given. -/
theorem V_bias (c : Dev nD) : V m c main_v77 = val_main_v77 (F := F) (m ((c.tc : Thread nD τ).loc main_arg1)) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil, List.cons_append, List.nil_append,
    List.append_nil, TRef.binary, TRef.nullary, TRef.ternary, TRef.unary, TRef.toBuf, TRef.ofBuf, cast_eq]
  after_results_simp <;> rfl

set_option maxRecDepth 8192 in
set_option maxHeartbeats 20000000 in
/-- The forward output the kernel is given. -/
theorem V_out (c : Dev nD) : V m c main_v60 = val_main_v60 (F := F) (m ((c.tc : Thread nD τ).loc main_arg0)) (m ((c.tc : Thread nD τ).loc main_arg1)) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil, List.cons_append, List.nil_append,
    List.append_nil, TRef.binary, TRef.nullary, TRef.ternary, TRef.unary, TRef.toBuf, TRef.ofBuf, cast_eq]
  after_results_simp <;> rfl

end Cert.KernelIdeal.Hand

end
-- ==== Proof.HostTie.lean ====
module

public import proofs.«01_k».proof.Proof.HostRead
public import proofs.«01_k».proof.Proof.Gen.ReferenceIdeal.Read

@[expose] public section

noncomputable section

namespace Cert.KernelIdeal.Hand

open Idealize.ShloMosaic Idealize.ShloMosaic.TcCoe Idealize.ShloMosaic.StableHlo

/-- The kernel's forward weights are the reference's. -/
theorem host_weights (x0 : (⟨KernelIdeal.S8192x3072, .bf16⟩ : BufTy).Contents (Elt Ideal)) (x1 : (⟨KernelIdeal.S8x257, .f32⟩ : BufTy).Contents (Elt Ideal)) :
    HostRead.val_main_v57 (F := Ideal) x0 x1 = Cert.ReferenceIdeal.Read.val_main_v71 (F := Ideal) x0 x1 := rfl
theorem host_values (x0 : (⟨KernelIdeal.S8192x3072, .bf16⟩ : BufTy).Contents (Elt Ideal)) :
    HostRead.val_main_v8 (F := Ideal) x0 = Cert.ReferenceIdeal.Read.val_main_v8 (F := Ideal) x0 := rfl
theorem host_out (x0 : (⟨KernelIdeal.S8192x3072, .bf16⟩ : BufTy).Contents (Elt Ideal)) (x1 : (⟨KernelIdeal.S8x257, .f32⟩ : BufTy).Contents (Elt Ideal)) :
    HostRead.val_main_v59 (F := Ideal) x0 x1 = Cert.ReferenceIdeal.Read.val_main_v76 (F := Ideal) x0 x1 := rfl

end Cert.KernelIdeal.Hand

end
-- ==== Proof.RefIdx.lean ====
module

public import proofs.«01_k».proof.Proof.Gen.ReferenceIdeal.Read
public import proofs.«01_k».proof.Proof.Math
public import Idealize.ShloMosaic.Lib.WordCmp

@[expose] public section

noncomputable section

namespace Cert.ReferenceIdeal.Hand

open Cert.ReferenceIdeal Cert.ReferenceIdeal.Gen Cert.ReferenceIdeal.Read Idealize.ShloMosaic Idealize.ShloMosaic.ValueIdx Cert.Attn

/-! # The reference's integers: distances and the band -/

theorem ext4 {n : Fin 4 → ℕ} {i j : (⟨4, n⟩ : Shape).Idx} (h0 : (i 0).val = (j 0).val) (h1 : (i 1).val = (j 1).val)
    (h2 : (i 2).val = (j 2).val) (h3 : (i 3).val = (j 3).val) : i = j :=
  funext fun a => Fin.ext (match a with | ⟨0, _⟩ => h0 | ⟨1, _⟩ => h1 | ⟨2, _⟩ => h2 | ⟨3, _⟩ => h3)
theorem ext3 {n : Fin 3 → ℕ} {i j : (⟨3, n⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)
theorem ext2 {n : Fin 2 → ℕ} {i j : (⟨2, n⟩ : Shape).Idx} (h0 : (i 0).val = (j 0).val) (h1 : (i 1).val = (j 1).val) : i = j :=
  funext fun a => Fin.ext (match a with | ⟨0, _⟩ => h0 | ⟨1, _⟩ => h1)

theorem toInt_small {n : ℕ} (h : n < 4096) : (BitVec.ofNat 32 n).toInt = n := by
  rw [BitVec.toInt_ofNat']; exact Int.bmod_eq_of_le (by omega) (by omega)

theorem toInt_sub_small {a b : BitVec 32} (h : -100000 ≤ a.toInt - b.toInt ∧ a.toInt - b.toInt ≤ 100000) :
    (a - b).toInt = a.toInt - b.toInt := by
  rw [BitVec.toInt_sub]; exact Int.bmod_eq_of_le (by omega) (by omega)
theorem toInt_add_small {a b : BitVec 32} (h : -100000 ≤ a.toInt + b.toInt ∧ a.toInt + b.toInt ≤ 100000) :
    (a + b).toInt = a.toInt + b.toInt := by
  rw [BitVec.toInt_add]; exact Int.bmod_eq_of_le (by omega) (by omega)
theorem toInt_max (a b : BitVec 32) : (IntOp.maxsi a b).toInt = max a.toInt b.toInt := by
  unfold IntOp.maxsi
  simp only [BitVec.slt_iff_toInt_lt]
  split <;> omega
theorem toInt_min (a b : BitVec 32) : (IntOp.minsi a b).toInt = min a.toInt b.toInt := by
  unfold IntOp.minsi
  simp only [BitVec.slt_iff_toInt_lt]
  split <;> omega

theorem dist_toInt (t s : Fin 4096) :
    (val_main_v17 (F := Ideal) (ix2 t s)).toInt = min 128 (max (-128) ((t.val : ℤ) - s.val)) + 128 := by
  have ht := t.isLt; have hs := s.isLt
  have h14 : (val_main_v14 (F := Ideal) (ix2 t s)).toInt = (t.val : ℤ) - s.val := by
    have e1 : val_main_v14 (F := Ideal) (ix2 t s) = BitVec.ofNat 32 t.val - BitVec.ofNat 32 s.val := by
      rw [val_main_v14_apply, val_main_v12_apply, val_main_v13_apply, val_main_v10_apply, val_main_v11_apply, val_main_v9_apply, val_main_v9_apply]; rfl
    rw [e1, toInt_sub_small, toInt_small ht, toInt_small hs]
    rw [toInt_small ht, toInt_small hs]; omega
  have h15 : (val_main_v15 (F := Ideal) (ix2 t s)).toInt = min 128 (max (-128) ((t.val : ℤ) - s.val)) := by
    rw [val_main_v15_apply, toInt_min, val_main_call0_v2_apply, toInt_max, h14, val_main_call0_v4_apply, val_main_call0_v3_apply,
      val_main_call0_v1_apply, val_main_call0_v0_apply, val_main_c_apply, val_main_c_0_apply]
    rfl
  have h16 : (val_main_v16 (F := Ideal) (ix2 t s)).toInt = 128 := by
    rw [val_main_v16_apply, val_main_c_1_apply]; rfl
  rw [val_main_v17_apply]
  show (_ + _ : BitVec 32).toInt = _
  rw [toInt_add_small, h15, h16]
  rw [h15, h16]; omega

theorem dist_nat (t s : Fin 4096) :
    min (val_main_v22 (F := Ideal) (ix2 t s)).toInt.toNat 256 = min (t.val + 128 - s.val) 256 := by
  have h17 := dist_toInt t s
  have h19 : val_main_v19 (F := Ideal) (ix2 t s) = 0#1 := by
    rw [val_main_v19_apply, WordCmp.cmpi_slt_eq, h17, val_main_v18_apply, val_main_c_2_apply]
    have : ¬ (min 128 (max (-128) ((t.val : ℤ) - s.val)) + 128 < (0#32).toInt) := by
      show ¬ (_ < (0 : ℤ)); omega
    simp only [this, decide_false]; rfl
  rw [val_main_v22_apply, h19]
  show min (val_main_v17 (F := Ideal) (ix2 t s)).toInt.toNat 256 = _
  rw [h17]; omega

theorem gather_at (x : S8x257.Idx → Elt Ideal .f32) (idx : IVec S4096x4096x1 32) (h : Fin 8) (t s : Fin 4096) :
    Host.gather gather_S8x257_S4096x4096x1_S8x4096x4096_0_1_n_n_1_2_81 x idx (ix3 h t s)
      = x (ix2 h ⟨min (idx (ix3 t s 0)).toInt.toNat 256, by omega⟩) := by
  unfold Host.gather
  congr 1
  have h01 : ∀ a : Fin 2, a = 0 ∨ a = 1 := by decide
  funext a
  refine Fin.ext ?_
  show gather_S8x257_S4096x4096x1_S8x4096x4096_0_1_n_n_1_2_81.start _ idx a + gather_S8x257_S4096x4096x1_S8x4096x4096_0_1_n_n_1_2_81.batchCoord _ a
    + gather_S8x257_S4096x4096x1_S8x4096x4096_0_1_n_n_1_2_81.offCoord _ a = _
  rw [GatherDims.batchCoord_eq_zero _ _ _ List.not_mem_nil]
  rcases h01 a with rfl | rfl
  · unfold GatherDims.start GatherDims.offCoord
    rw [dif_neg (by decide), dif_pos (by decide)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ gather_S8x257_S4096x4096x1_S8x4096x4096_0_1_n_n_1_2_81.startIndexMap from List.mem_singleton.mpr rfl)]
    have hsi : gather_S8x257_S4096x4096x1_S8x4096x4096_0_1_n_n_1_2_81.siIdx (ix3 h t s) ⟨List.idxOf (1 : Fin 2) gather_S8x257_S4096x4096x1_S8x4096x4096_0_1_n_n_1_2_81.startIndexMap,
        List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi]
    rfl

theorem bias_at (x1 : (⟨S8x257, .f32⟩ : BufTy).Contents (Elt Ideal)) (h : Fin 8) (t s : Fin 4096) :
    val_main_v24 (F := Ideal) x1 (ix3 h t s) = x1 (ix2 h (rel t.val s.val)) := by
  unfold val_main_v24
  rw [gather_at]
  have e : val_main_v23 (F := Ideal) (ix3 t s 0) = val_main_v22 (F := Ideal) (ix2 t s) := by
    rw [val_main_v23_apply]; exact congrArg _ (ext2 rfl rfl)
  have e2 : min (val_main_v23 (F := Ideal) (ix3 t s 0)).toInt.toNat 256 = min (t.val + 128 - s.val) 256 :=
    (congrArg (fun b : BitVec 32 => min b.toInt.toNat 256) e).trans (dist_nat t s)
  exact congrArg x1 (congrArg (ix2 h) (Fin.ext e2))

theorem chunk_at (t : Fin 4096) (i : S4096.Idx) (hi : (i 0).val = t.val) : (val_main_v32 (F := Ideal) i).toInt = (t.val / 64 : ℕ) := by
  have ht := t.isLt
  have e : val_main_v32 (F := Ideal) i = IntOp.divsi .host (BitVec.ofNat 32 t.val) 64#32 := by
    rw [val_main_v32_apply, val_main_v9_apply, hi, val_main_v31_apply, val_main_c_4_apply]
  rw [e]
  unfold IntOp.divsi
  rw [if_neg (by rintro (h | ⟨_, h⟩) <;> exact absurd h (by decide)), BitVec.toInt_sdiv_of_ne_or_ne _ _ (.inr (by decide)), toInt_small ht]
  show Int.tdiv (t.val : ℤ) 64 = _
  rw [Int.tdiv_eq_ediv_of_nonneg (by omega)]
  omega

theorem band_at (t s : Fin 4096) : val_main_v45 (F := Ideal) (ix2 t s) = BitVec.ofBool (decide (valid t s)) := by
  have ht := t.isLt; have hs := s.isLt
  have h37 : val_main_v37 (F := Ideal) (ix2 t s) = BitVec.ofBool (decide (s.val / 64 ≤ t.val / 64)) := by
    rw [val_main_v37_apply, WordCmp.cmpi_sle_eq, val_main_v35_apply, val_main_v36_apply, val_main_v33_apply, val_main_v34_apply,
      chunk_at s _ rfl, chunk_at t _ rfl]
    congr 1; exact decide_eq_decide.2 (by omega)
  have h41 : (val_main_v43 (F := Ideal) (ix2 t s)).toInt = (t.val / 64 : ℕ) - (8 : ℤ) := by
    rw [val_main_v43_apply, val_main_v41_apply, val_main_v39_apply, val_main_v40_apply, val_main_c_5_apply]
    show (_ - _ : BitVec 32).toInt = _
    have h8 : (8#32 : BitVec 32).toInt = 8 := rfl
    rw [toInt_sub_small, chunk_at t _ rfl, h8]
    rw [chunk_at t _ rfl, h8]; omega
  have h44 : val_main_v44 (F := Ideal) (ix2 t s) = BitVec.ofBool (decide (t.val / 64 ≤ s.val / 64 + 8)) := by
    rw [val_main_v44_apply, WordCmp.cmpi_sge_eq, h41, val_main_v42_apply, val_main_v38_apply, chunk_at s _ rfl]
    congr 1; exact decide_eq_decide.2 (by omega)
  rw [val_main_v45_apply, h37, h44]
  unfold valid
  by_cases h1 : s.val / 64 ≤ t.val / 64 <;> by_cases h2 : t.val / 64 ≤ s.val / 64 + 8 <;> simp [h1, h2, IntOp.andi]

end Cert.ReferenceIdeal.Hand

end
-- ==== Proof.Ref.lean ====
module

public import proofs.«01_k».proof.Proof.RefIdx
public import proofs.«01_k».proof.Proof.Heads

@[expose] public section

noncomputable section

namespace Cert.ReferenceIdeal.Hand

open Cert.ReferenceIdeal Cert.ReferenceIdeal.Gen Cert.ReferenceIdeal.Read Idealize.ShloMosaic Idealize.ShloMosaic.ValueIdx Cert.Attn

/-! # The reference's values, head by head -/

variable (x0 : A0) (x1 : A1) (x2 : A2) (H : Real3 x0 x1 x2)
variable (b : Fin 2) (h : Fin 8)

theorem lit_zero : (Ideal.ofBits .f32 0x00000000#32 : EReal) = 0 := Ideal.ofBits_zero_f32
theorem lit_eighth : (Ideal.ofBits .f32 0x3E000000#32 : EReal) = ((1 / 8 : ℝ) : EReal) := by
  simp [Ideal.ofBits, Ideal.ieee, -EReal.coe_mul]; norm_num
theorem lit_one : (Ideal.ofBits .f32 0x3F800000#32 : EReal) = ((1 : ℝ) : EReal) := by
  simp [Ideal.ofBits, Ideal.ieee, -EReal.coe_mul]; norm_num
theorem lit_bot : (Ideal.ofBits .f32 0xFF800000#32 : EReal) = ⊥ := by
  simp [Ideal.ofBits, Ideal.ieee]

include H in
theorem q_at (t : Fin 4096) (d : Fin 64) : val_main_v2 (F := Ideal) x0 (ix4 b t h d) = (((head x0 x1 x2 b h).q t d : ℝ) : EReal) := by
  have hb := b.isLt; have ht := t.isLt; have hh := h.isLt; have hd := d.isLt
  have e : idx_main_v0 (idx_main_v2 (ix4 b t h d)) = ix2 (row b t) (colw 1536 (by omega) h d) :=
    ext2 (by show (((b.val * 4096 + t.val) * 8 + h.val) * 64 + d.val) / 512 = 4096 * b.val + t.val; omega)
      (by show 1536 + (((b.val * 4096 + t.val) * 8 + h.val) * 64 + d.val) % 512 = 1536 + (64 * h.val + d.val); omega)
  rw [val_main_v2_apply, val_main_v1_apply, val_main_v0_apply, e]
  exact H.h0 _ _ (Nat.le_add_right _ _)

include H in
theorem k_at (t : Fin 4096) (d : Fin 64) : val_main_v5 (F := Ideal) x0 (ix4 b t h d) = (((head x0 x1 x2 b h).k t d : ℝ) : EReal) := by
  have hb := b.isLt; have ht := t.isLt; have hh := h.isLt; have hd := d.isLt
  have e : idx_main_v3 (idx_main_v5 (ix4 b t h d)) = ix2 (row b t) (colw 2048 (by omega) h d) :=
    ext2 (by show (((b.val * 4096 + t.val) * 8 + h.val) * 64 + d.val) / 512 = 4096 * b.val + t.val; omega)
      (by show 2048 + (((b.val * 4096 + t.val) * 8 + h.val) * 64 + d.val) % 512 = 2048 + (64 * h.val + d.val); omega)
  rw [val_main_v5_apply, val_main_v4_apply, val_main_v3_apply, e]
  exact H.h0 _ _ (by show 1536 ≤ 2048 + _; omega)

include H in
theorem v_at (t : Fin 4096) (d : Fin 64) : val_main_v8 (F := Ideal) x0 (ix4 b t h d) = (((head x0 x1 x2 b h).v t d : ℝ) : EReal) := by
  have hb := b.isLt; have ht := t.isLt; have hh := h.isLt; have hd := d.isLt
  have e : idx_main_v6 (idx_main_v8 (ix4 b t h d)) = ix2 (row b t) (colw 2560 (by omega) h d) :=
    ext2 (by show (((b.val * 4096 + t.val) * 8 + h.val) * 64 + d.val) / 512 = 4096 * b.val + t.val; omega)
      (by show 2560 + (((b.val * 4096 + t.val) * 8 + h.val) * 64 + d.val) % 512 = 2560 + (64 * h.val + d.val); omega)
  rw [val_main_v8_apply, val_main_v7_apply, val_main_v6_apply, e]
  exact H.h0 _ _ (by show 1536 ≤ 2560 + _; omega)

include H in
theorem g_at (t : Fin 4096) (d : Fin 64) : val_main_v79 (F := Ideal) x2 (ix4 b h d t) = (((head x0 x1 x2 b h).g t d : ℝ) : EReal) := by
  have hb := b.isLt; have ht := t.isLt; have hh := h.isLt; have hd := d.isLt
  have e : idx_main_v78 (idx_main_v79 (ix4 b h d t)) = ix2 (row b t) (col h d) :=
    ext2 (by show (((b.val * 4096 + t.val) * 8 + h.val) * 64 + d.val) / 512 = 4096 * b.val + t.val; omega)
      (by show (((b.val * 4096 + t.val) * 8 + h.val) * 64 + d.val) % 512 = 64 * h.val + d.val; omega)
  rw [val_main_v79_apply, val_main_v78_apply, val_main_v77_apply, e]
  exact H.h2 _

include H in
theorem z_at (t s : Fin 4096) : val_main_v30 (F := Ideal) x0 x1 (ix4 b h t s) = (((head x0 x1 x2 b h).z t s : ℝ) : EReal) := by
  have e25 : val_main_v25 (F := Ideal) x0 (ix4 b h t s) = ((∑ d, (head x0 x1 x2 b h).q t d * (head x0 x1 x2 b h).k s d : ℝ) : EReal) := by
    rw [val_main_v25_apply, coe_sum]
    refine Finset.sum_congr rfl fun d _ => ?_
    have e1 : lidx_main_v25 (ix4 b h t s) d = ix4 b t h d := ext4 rfl rfl rfl rfl
    have e2 : ridx_main_v25 (ix4 b h t s) d = ix4 b s h d := ext4 rfl rfl rfl rfl
    rw [e1, e2, q_at x0 x1 x2 H, k_at x0 x1 x2 H, EReal.coe_mul]
  have e29 : val_main_v29 (F := Ideal) x1 (ix4 b h t s) = (((head x0 x1 x2 b h).r (rel t.val s.val) : ℝ) : EReal) := by
    have e1 : idx_main_v28 (idx_main_v29 (ix4 b h t s)) = ix3 h t s := ext3 rfl rfl rfl
    rw [val_main_v29_apply, val_main_v28_apply, e1, bias_at]
    exact H.h1 _
  rw [val_main_v30_apply, val_main_v27_apply, e25, e29, val_main_v26_apply, val_main_cst_apply]
  show _ * (Ideal.ofBits .f32 0x3E000000#32 : EReal) + _ = _
  rw [lit_eighth, ← EReal.coe_mul, ← EReal.coe_add]
  rfl

theorem band4_at (t s : Fin 4096) : val_main_v46_1 (F := Ideal) (ix4 b h t s) = BitVec.ofBool (decide (valid t s)) := by
  rw [val_main_v46_1_apply]
  exact (congrArg _ (ext2 rfl rfl)).trans (band_at t s)

include H in
theorem masked_at (t s : Fin 4096) : val_main_v46_0 (F := Ideal) x0 x1 (ix4 b h t s)
    = if valid t s then (((head x0 x1 x2 b h).z t s : ℝ) : EReal) else ⊥ := by
  rw [val_main_v46_0_apply, band4_at, z_at x0 x1 x2 H, val_main_call1_v2_apply, val_main_call1_v0_apply, val_main_cst_6_apply]
  by_cases hv : valid t s
  · rw [if_pos hv, decide_eq_true hv]; rfl
  · rw [if_neg hv, decide_eq_false hv]; exact lit_bot

/-- The row's largest score. -/
def mx (t : Fin 4096) : ℝ := (val_main_v54 (F := Ideal) x0 x1 (ix3 b h t)).toReal

include H in
theorem mx_at (t : Fin 4096) : val_main_v54 (F := Ideal) x0 x1 (ix3 b h t) = ((mx x0 x1 b h t : ℝ) : EReal) := by
  have key : ∃ y : ℝ, val_main_v47 (F := Ideal) x0 x1 (ix3 b h t) = (y : EReal) := by
    unfold val_main_v47
    have hc : Std.Commutative (FloatOps.maximumf (F := Ideal) (φ := .f32)) := ⟨fun x y => max_comm (α := EReal) x y⟩
    have ha : Std.Associative (FloatOps.maximumf (F := Ideal) (φ := .f32)) := ⟨fun x y z => max_assoc (α := EReal) x y z⟩
    rw [Host.reduce_eq_fold]
    have hi : (val_main_cst_7 (F := Ideal)) (Shape.Idx.first h_S_) = (⊥ : EReal) := by rw [val_main_cst_7_apply]; exact lit_bot
    rw [hi]
    refine fold_max_real _ _ (fun i _ => ?_) ⟨ix4 b h t t, ?_, ?_⟩
    · obtain ⟨a0, a1, a2, a3, rfl⟩ : ∃ a0 a1 a2 a3, i = ix4 a0 a1 a2 a3 := ⟨_, _, _, _, eq_ix4 i⟩
      rw [masked_at x0 x1 x2 H]; split
      · exact EReal.coe_ne_top _
      · exact bot_ne_top
    · rw [Finset.mem_filter]; refine ⟨Finset.mem_univ _, ext3 ?_ ?_ ?_⟩ <;> rfl
    · rw [masked_at x0 x1 x2 H, if_pos (Head.valid_self t)]; exact EReal.coe_ne_bot _
  obtain ⟨y, hy⟩ := key
  have e : val_main_v54 (F := Ideal) x0 x1 (ix3 b h t) = (y : EReal) := by
    rw [val_main_v54_apply, hy, val_main_v53_apply, val_main_cst_9_apply]
    show max (Ideal.ofBits .f32 0xFF800000#32 : EReal) _ = _
    rw [lit_bot]; exact max_eq_right bot_le
  unfold mx; rw [e, EReal.toReal_coe]

include H in
theorem e_at (t s : Fin 4096) : val_main_v67 (F := Ideal) x0 x1 (ix4 b h t s) = (((head x0 x1 x2 b h).e (mx x0 x1 b h t) t s : ℝ) : EReal) := by
  have e1 : idx_main_v64 (idx_main_v65 (ix4 b h t s)) = ix3 b h t := ext3 rfl rfl rfl
  rw [val_main_v67_apply, val_main_v66_apply, masked_at x0 x1 x2 H, val_main_v65_apply, val_main_v64_apply, e1, mx_at x0 x1 x2 H]
  exact exp_masked _ _

include H in
theorem den_at (t : Fin 4096) : val_main_v69 (F := Ideal) x0 x1 (ix4 b h t 0)
    = ((∑ s, (head x0 x1 x2 b h).e (mx x0 x1 b h t) t s : ℝ) : EReal) := by
  have e1 : idx_main_v69 (ix4 b h t 0) = ix3 b h t := ext3 rfl rfl rfl
  rw [val_main_v69_apply, e1, val_main_v68_apply, val_main_cst_15_apply, coe_sum]
  show (Ideal.ofBits .f32 0x00000000#32 : EReal) + _ = _
  rw [lit_zero, zero_add]
  refine Finset.sum_congr rfl fun s _ => ?_
  have e2 : idx_main_v68 (ix3 b h t) s = ix4 b h t s := ext4 rfl rfl rfl rfl
  rw [e2, e_at x0 x1 x2 H]

include H in
theorem P_at (t s : Fin 4096) : val_main_v71 (F := Ideal) x0 x1 (ix4 b h t s) = (((head x0 x1 x2 b h).P t s : ℝ) : EReal) := by
  have e1 : idx_main_v70 (ix4 b h t s) = ix4 b h t 0 := ext4 rfl rfl rfl rfl
  rw [val_main_v71_apply, val_main_v70_apply, e1, e_at x0 x1 x2 H, den_at x0 x1 x2 H]
  show Ideal.div _ _ = _
  rw [div_real _ (Head.e_sum_pos _ _ _).ne', Head.e_div]

include H in
theorem out_at (t : Fin 4096) (d : Fin 64) : val_main_v76 (F := Ideal) x0 x1 (ix4 b t h d) = (((head x0 x1 x2 b h).out t d : ℝ) : EReal) := by
  have e1 : idx_main_v76 (ix4 b t h d) = ix4 b h d t := ext4 rfl rfl rfl rfl
  rw [val_main_v76_apply, e1, val_main_v75_apply]
  unfold Head.out; rw [coe_sum]
  refine Finset.sum_congr rfl fun s _ => ?_
  have e2 : lidx_main_v75 (ix4 b h d t) s = ix4 b s h d := ext4 rfl rfl rfl rfl
  have e3 : ridx_main_v75 (ix4 b h d t) s = ix4 b h t s := ext4 rfl rfl rfl rfl
  rw [e2, e3, v_at x0 x1 x2 H, P_at x0 x1 x2 H, EReal.coe_mul, mul_comm]

include H in
theorem dp_at (t s : Fin 4096) : val_main_v80 (F := Ideal) x0 x2 (ix4 b h t s) = (((head x0 x1 x2 b h).dp t s : ℝ) : EReal) := by
  rw [val_main_v80_apply]
  unfold Head.dp; rw [coe_sum]
  refine Finset.sum_congr rfl fun d _ => ?_
  have e2 : lidx_main_v80 (ix4 b h t s) d = ix4 b h d t := ext4 rfl rfl rfl rfl
  have e3 : ridx_main_v80 (ix4 b h t s) d = ix4 b s h d := ext4 rfl rfl rfl rfl
  rw [e2, e3, g_at x0 x1 x2 H, v_at x0 x1 x2 H, EReal.coe_mul]

include H in
theorem dv_at (s : Fin 4096) (d : Fin 64) : val_main_v82 (F := Ideal) x0 x1 x2 (ix4 b s h d) = (((head x0 x1 x2 b h).dv s d : ℝ) : EReal) := by
  have e1 : idx_main_v82 (ix4 b s h d) = ix4 b h d s := ext4 rfl rfl rfl rfl
  rw [val_main_v82_apply, e1, val_main_v81_apply]
  unfold Head.dv; rw [coe_sum]
  refine Finset.sum_congr rfl fun t _ => ?_
  have e2 : lidx_main_v81 (ix4 b h d s) t = ix4 b h d t := ext4 rfl rfl rfl rfl
  have e3 : ridx_main_v81 (ix4 b h d s) t = ix4 b h t s := ext4 rfl rfl rfl rfl
  rw [e2, e3, g_at x0 x1 x2 H, P_at x0 x1 x2 H, EReal.coe_mul, mul_comm]

include H in
theorem dz_at (t s : Fin 4096) : val_main_v94 (F := Ideal) x0 x1 x2 (ix4 b h t s) = (((head x0 x1 x2 b h).dz t s : ℝ) : EReal) := by
  have hD := (Head.e_sum_pos (head x0 x1 x2 b h) (mx x0 x1 b h t) t).ne'
  have e74 : val_main_v74 (F := Ideal) x0 x1 (ix4 b h t 0) = ((1 / ((∑ s, (head x0 x1 x2 b h).e (mx x0 x1 b h t) t s)
      * (∑ s, (head x0 x1 x2 b h).e (mx x0 x1 b h t) t s)) : ℝ) : EReal) := by
    rw [val_main_v74_apply, val_main_v72_apply, den_at x0 x1 x2 H, val_main_v73_apply, val_main_cst_16_apply]
    show Ideal.div (Ideal.ofBits .f32 0x3F800000#32 : EReal) (_ * _) = _
    rw [lit_one, ← EReal.coe_mul, div_real _ (mul_ne_zero hD hD)]
  have e85 : ∀ s', val_main_v85 (F := Ideal) x0 x1 x2 (ix4 b h t s') = (((head x0 x1 x2 b h).dp t s'
      * (1 / ((∑ s, (head x0 x1 x2 b h).e (mx x0 x1 b h t) t s) * (∑ s, (head x0 x1 x2 b h).e (mx x0 x1 b h t) t s)))
      * (head x0 x1 x2 b h).e (mx x0 x1 b h t) t s' : ℝ) : EReal) := by
    intro s'
    have e1 : idx_main_v83 (ix4 b h t s') = ix4 b h t 0 := ext4 rfl rfl rfl rfl
    rw [val_main_v85_apply, val_main_v84_apply, val_main_v83_apply, e1, e74, dp_at x0 x1 x2 H, e_at x0 x1 x2 H]
    show _ * _ * _ = _
    rw [← EReal.coe_mul, ← EReal.coe_mul]
  have e88 : val_main_v88 (F := Ideal) x0 x1 x2 (ix4 b h t 0) = ((-(∑ s', (head x0 x1 x2 b h).dp t s'
      * (1 / ((∑ s, (head x0 x1 x2 b h).e (mx x0 x1 b h t) t s) * (∑ s, (head x0 x1 x2 b h).e (mx x0 x1 b h t) t s)))
      * (head x0 x1 x2 b h).e (mx x0 x1 b h t) t s') : ℝ) : EReal) := by
    have e1 : idx_main_v87 (ix4 b h t 0) = ix3 b h t := by
      have hb := b.isLt; have ht := t.isLt; have hh := h.isLt
      refine ext3 ?_ ?_ ?_
      · show (((b.val * 8 + h.val) * 4096 + t.val) * 1 + 0) / 32768 = b.val; omega
      · show (((b.val * 8 + h.val) * 4096 + t.val) * 1 + 0) / 4096 % 8 = h.val; omega
      · show (((b.val * 8 + h.val) * 4096 + t.val) * 1 + 0) % 4096 = t.val; omega
    rw [val_main_v88_apply, val_main_v87_apply, e1, val_main_v86_apply, val_main_cst_17_apply, EReal.coe_neg, coe_sum]
    show -((Ideal.ofBits .f32 0x00000000#32 : EReal) + _) = _
    rw [lit_zero, zero_add]
    refine congrArg (fun y : EReal => -y) (Finset.sum_congr rfl fun s' _ => ?_)
    have e2 : idx_main_v86 (ix3 b h t) s' = ix4 b h t s' := ext4 rfl rfl rfl rfl
    rw [e2, e85]
  have e92 : val_main_v92 (F := Ideal) x0 x1 x2 (ix4 b h t s) = val_main_v88 (F := Ideal) x0 x1 x2 (ix4 b h t 0) := by
    have e1 : idx_main_v92 (ix4 b h t s) = ix3 b h t := ext3 rfl rfl rfl
    rw [val_main_v92_apply, e1, val_main_v91_apply, val_main_cst_18_apply]
    show (Ideal.ofBits .f32 0x00000000#32 : EReal) + _ = _
    rw [lit_zero, zero_add, Fin.sum_univ_one]
    exact congrArg _ (ext4 rfl rfl rfl rfl)
  have e90 : val_main_v90 (F := Ideal) x0 x1 x2 (ix4 b h t s)
      = (((head x0 x1 x2 b h).dp t s / (∑ s, (head x0 x1 x2 b h).e (mx x0 x1 b h t) t s) : ℝ) : EReal) := by
    have e1 : idx_main_v89 (ix4 b h t s) = ix4 b h t 0 := ext4 rfl rfl rfl rfl
    rw [val_main_v90_apply, val_main_v89_apply, e1, den_at x0 x1 x2 H, dp_at x0 x1 x2 H]
    exact div_real _ hD
  rw [val_main_v94_apply, val_main_v93_apply, e90, e92, e88, e_at x0 x1 x2 H]
  show (_ + _) * _ = _
  rw [← EReal.coe_add, ← EReal.coe_mul, Head.vjp_eq]

include H in
theorem ds_at (t s : Fin 4096) : val_main_v97 (F := Ideal) x0 x1 x2 (ix4 b h t s) = (((head x0 x1 x2 b h).ds t s : ℝ) : EReal) := by
  rw [val_main_v97_apply, val_main_v95_apply, band4_at, dz_at x0 x1 x2 H, val_main_v96_apply, val_main_cst_19_apply]
  show _ * (Ideal.ofBits .f32 0x3E000000#32 : EReal) = _
  rw [lit_eighth]
  by_cases hv : valid t s
  · rw [decide_eq_true hv]
    show (((head x0 x1 x2 b h).dz t s : ℝ) : EReal) * _ = _
    rw [← EReal.coe_mul]; rfl
  · rw [decide_eq_false hv, Head.ds_eq_zero _ hv, val_main_call2_v0_apply]
    show (Ideal.ofBits .f32 0x00000000#32 : EReal) * _ = _
    rw [lit_zero, zero_mul, EReal.coe_zero]

include H in
theorem dk_at (s : Fin 4096) (d : Fin 64) : val_main_v99 (F := Ideal) x0 x1 x2 (ix4 b s h d) = (((head x0 x1 x2 b h).dk s d : ℝ) : EReal) := by
  have e1 : idx_main_v99 (ix4 b s h d) = ix4 b h s d := ext4 rfl rfl rfl rfl
  rw [val_main_v99_apply, e1, val_main_v98_apply]
  unfold Head.dk; rw [coe_sum]
  refine Finset.sum_congr rfl fun t _ => ?_
  have e2 : lidx_main_v98 (ix4 b h s d) t = ix4 b h t s := ext4 rfl rfl rfl rfl
  have e3 : ridx_main_v98 (ix4 b h s d) t = ix4 b t h d := ext4 rfl rfl rfl rfl
  rw [e2, e3, ds_at x0 x1 x2 H, q_at x0 x1 x2 H, EReal.coe_mul]

include H in
theorem dq_at (t : Fin 4096) (d : Fin 64) : val_main_v101 (F := Ideal) x0 x1 x2 (ix4 b t h d) = (((head x0 x1 x2 b h).dq t d : ℝ) : EReal) := by
  have e1 : idx_main_v101 (ix4 b t h d) = ix4 b h t d := ext4 rfl rfl rfl rfl
  rw [val_main_v101_apply, e1, val_main_v100_apply]
  unfold Head.dq; rw [coe_sum]
  refine Finset.sum_congr rfl fun s _ => ?_
  have e2 : lidx_main_v100 (ix4 b h t d) s = ix4 b h t s := ext4 rfl rfl rfl rfl
  have e3 : ridx_main_v100 (ix4 b h t d) s = ix4 b s h d := ext4 rfl rfl rfl rfl
  rw [e2, e3, ds_at x0 x1 x2 H, k_at x0 x1 x2 H, EReal.coe_mul]

theorem split_at (b : Fin 2) (h : Fin 8) (t : Fin 4096) (d : Fin 64) :
    idx_main_v102 (ix2 (row b t) (col h d)) = ix4 b t h d := by
  have hb := b.isLt; have ht := t.isLt; have hh := h.isLt; have hd := d.isLt
  refine ext4 ?_ ?_ ?_ ?_
  · show ((4096 * b.val + t.val) * 512 + (64 * h.val + d.val)) / 2097152 = b.val; omega
  · show ((4096 * b.val + t.val) * 512 + (64 * h.val + d.val)) / 512 % 4096 = t.val; omega
  · show ((4096 * b.val + t.val) * 512 + (64 * h.val + d.val)) / 64 % 8 = h.val; omega
  · show ((4096 * b.val + t.val) * 512 + (64 * h.val + d.val)) % 64 = d.val; omega

include H in
/-- The reference's gradient of the queries. -/
theorem ref_dq (t : Fin 4096) (d : Fin 64) :
    val_main_v103 (F := Ideal) x0 x1 x2 (ix2 (row b t) (col h d)) = (((head x0 x1 x2 b h).dq t d : ℝ) : EReal) := by
  rw [val_main_v103_apply, val_main_v102_apply, split_at, dq_at x0 x1 x2 H]; rfl

include H in
/-- The reference's gradient of the keys. -/
theorem ref_dk (t : Fin 4096) (d : Fin 64) :
    val_main_v105 (F := Ideal) x0 x1 x2 (ix2 (row b t) (col h d)) = (((head x0 x1 x2 b h).dk t d : ℝ) : EReal) := by
  rw [val_main_v105_apply, val_main_v104_apply, show idx_main_v104 (ix2 (row b t) (col h d)) = ix4 b t h d from split_at b h t d, dk_at x0 x1 x2 H]; rfl

include H in
/-- The reference's gradient of the values. -/
theorem ref_dv (t : Fin 4096) (d : Fin 64) :
    val_main_v107 (F := Ideal) x0 x1 x2 (ix2 (row b t) (col h d)) = (((head x0 x1 x2 b h).dv t d : ℝ) : EReal) := by
  rw [val_main_v107_apply, val_main_v106_apply, show idx_main_v106 (ix2 (row b t) (col h d)) = ix4 b t h d from split_at b h t d, dv_at x0 x1 x2 H]; rfl

end Cert.ReferenceIdeal.Hand

end
-- ==== Proof.HostBias.lean ====
module

public import proofs.«01_k».proof.Proof.HostTie
public import proofs.«01_k».proof.Proof.Ref
public import Idealize.ShloMosaic.Lib.KernelVsHost

@[expose] public section

noncomputable section

namespace Cert.KernelIdeal.HostRead

open Cert.KernelIdeal Cert.KernelIdeal.Gen Idealize.ShloMosaic Idealize.ShloMosaic.ValueIdx Cert.Attn
open Cert.ReferenceIdeal.Hand (ext2 ext3 ext4 lit_bot)

/-! # What the kernel is given: the expanded bias and the forward output -/

variable (x0 : A0) (x1 : A1) (x2 : A2)

theorem line_at (h : Fin 8) (n : Fin 639) : val_main_v64 (F := Ideal) x1 (ix2 h n) = x1 (ix2 h ⟨min (65 + n.val) 256, by omega⟩) := by
  unfold val_main_v64
  by_cases hn : n.val < 191
  · refine (concatenate_pair_apply_left (s₁ := S8x191) (s₂ := S8x448) 1 _ _ _ (ix2 h n) rfl (show S8x191.Idx from ix2 h ⟨n.val, hn⟩) (fun b => match b with | ⟨0, _⟩ => rfl | ⟨1, _⟩ => rfl)).trans ?_
    rw [val_main_v61_apply]
    exact congrArg x1 (ext2 rfl (by show 65 + n.val = min (65 + n.val) 256; omega))
  · have hlt : n.val - 191 < 448 := by omega
    refine (concatenate_pair_apply_right (s₁ := S8x191) (s₂ := S8x448) 1 _ _ _ (ix2 h n) rfl rfl (show S8x448.Idx from ix2 h ⟨n.val - 191, hlt⟩)
      (fun b => match b with | ⟨0, _⟩ => fun _ => rfl | ⟨1, _⟩ => fun hb => absurd rfl hb) (by show n.val - 191 + 191 = n.val; omega)).trans ?_
    rw [val_main_v63_apply, val_main_v62_apply]
    exact congrArg x1 (ext2 rfl (by show 256 + 0 = min (65 + n.val) 256; omega))

theorem rev_at (h : Fin 8) (n : Fin 639) : val_main_v65 (F := Ideal) x1 (ix2 h n) = x1 (ix2 h ⟨min (703 - n.val) 256, by omega⟩) := by
  have hlt : 638 - n.val < 639 := by omega
  have e : val_main_v65 (F := Ideal) x1 (ix2 h n) = val_main_v64 (F := Ideal) x1 (ix2 h ⟨638 - n.val, hlt⟩) := by
    unfold val_main_v65
    exact congrArg (val_main_v64 (F := Ideal) x1) (ext2 rfl (by rw [if_pos (List.mem_singleton.mpr rfl)]; show 639 - (n.val + 1) = 638 - n.val; omega))
  have hn := n.isLt
  rw [e, line_at]
  exact congrArg x1 (ext2 rfl (by show min (65 + (638 - n.val)) 256 = min (703 - n.val) 256; omega))

theorem skew_at (h : Fin 8) (r : Fin 64) (c : Fin 576) : val_main_v72 (F := Ideal) x1 (ix3 h r c)
    = x1 (ix2 h ⟨min (640 + r.val - c.val) 256, by omega⟩) := by
  have hh := h.isLt; have hr := r.isLt; have hc := c.isLt
  have hlt : 63 + c.val - r.val < 640 := by omega
  have hlt' : 63 + c.val - r.val < 639 := by omega
  have e : idx_main_v69 (idx_main_v70 (idx_main_v71 (idx_main_v72 (ix3 h r c)))) = ix3 h r ⟨63 + c.val - r.val, hlt⟩ := by
    have k1 : ((h.val * 64 + r.val) * 639 + (63 + c.val)) / 40896 = h.val := by omega
    have k2 : ((h.val * 64 + r.val) * 639 + (63 + c.val)) % 40896 = 640 * r.val + (63 + c.val - r.val) := by omega
    refine ext3 ?_ ?_ ?_
    · show (((h.val * 64 + r.val) * 639 + (63 + c.val)) / 40896 * 40960 + ((h.val * 64 + r.val) * 639 + (63 + c.val)) % 40896) / 40960 = h.val; rw [k1, k2]; omega
    · show (((h.val * 64 + r.val) * 639 + (63 + c.val)) / 40896 * 40960 + ((h.val * 64 + r.val) * 639 + (63 + c.val)) % 40896) / 640 % 64 = r.val; rw [k1, k2]; generalize 63 + c.val - r.val = w at hlt; clear k1 k2; omega
    · show (((h.val * 64 + r.val) * 639 + (63 + c.val)) / 40896 * 40960 + ((h.val * 64 + r.val) * 639 + (63 + c.val)) % 40896) % 640 = 63 + c.val - r.val; rw [k1, k2]; omega
  rw [val_main_v72_apply, val_main_v71_apply, val_main_v70_apply, val_main_v69_apply, e]
  unfold val_main_v68
  refine (pad_apply_of_inside _ _ _ _ _ _ _ _ (ix3 h r ⟨63 + c.val - r.val, hlt'⟩) (fun a => match a with
    | ⟨0, _⟩ => by show h.val = 0 + h.val * 1; omega
    | ⟨1, _⟩ => by show r.val = 0 + r.val * 1; omega
    | ⟨2, _⟩ => by show 63 + c.val - r.val = 0 + (63 + c.val - r.val) * 1; omega)).trans ?_
  rw [val_main_v67_apply, val_main_v66_apply]
  have e2 : idx_main_v66 (idx_main_v67 (ix3 h r ⟨63 + c.val - r.val, hlt'⟩)) = ix2 h ⟨63 + c.val - r.val, hlt'⟩ := ext2 rfl rfl
  rw [e2, rev_at]
  exact congrArg x1 (ext2 rfl (by show min (703 - (63 + c.val - r.val)) 256 = min (640 + r.val - c.val) 256; omega))

/-- The bias of row `r` and column `C` of a window, over the extended reals. -/
def biasAt (h : Fin 8) (r C : ℕ) : EReal :=
  if 64 * (r / 64) ≤ C ∧ C < 64 * (r / 64) + 576 then x1 (ix2 h ⟨min (640 + r - C) 256, by omega⟩) else ⊥

theorem pad_at (j : ℕ) (hj : j < 4) (hi : ℕ) (v : S_.Idx → Elt Ideal .f32) (hv : ∀ i, v i = (⊥ : EReal))
    (hp : S8x64x576.Pads ![0, 0, 64 * j] ![0, 0, hi] ![0, 0, 0] S8x64x768) (h : Fin 8) (r : Fin 64) (C : Fin 768) :
    pad S8x64x768 ![0, 0, 64 * j] ![0, 0, hi] ![0, 0, 0] (val_main_v72 (F := Ideal) x1) v hp h_S_ (ix3 h r C)
      = biasAt x1 h (64 * j + r.val) C.val := by
  have hr := r.isLt; have hC := C.isLt
  unfold biasAt
  have hd : (64 * j + r.val) / 64 = j := by omega
  rw [hd]
  by_cases hc : 64 * j ≤ C.val ∧ C.val < 64 * j + 576
  · have hlt : C.val - 64 * j < 576 := by omega
    rw [if_pos hc]
    refine (pad_apply_of_inside _ _ _ _ _ _ _ _ (ix3 h r ⟨C.val - 64 * j, hlt⟩) (fun a => match a with
      | ⟨0, _⟩ => by show h.val = 0 + h.val * 1; omega
      | ⟨1, _⟩ => by show r.val = 0 + r.val * 1; omega
      | ⟨2, _⟩ => by show C.val = 64 * j + (C.val - 64 * j) * 1; omega)).trans ?_
    rw [skew_at]
    exact congrArg x1 (ext2 rfl (by show min (640 + r.val - (C.val - 64 * j)) 256 = min (640 + (64 * j + r.val) - C.val) 256; omega))
  · rw [if_neg hc]
    refine (pad_apply_of_not_inside _ _ _ _ _ _ _ _ 2 ?_).trans (hv _)
    show ¬ (64 * j ≤ C.val ∧ (C.val - 64 * j) % 1 = 0 ∧ (C.val - 64 * j) / 1 < 576)
    omega

theorem bias_at (h : Fin 8) (r : Fin 256) (C : Fin 768) : val_main_v77 (F := Ideal) x1 (ix3 h r C) = biasAt x1 h r.val C.val := by
  have hr := r.isLt
  unfold val_main_v77
  have hlt : r.val % 64 < 64 := by omega
  have hm : ∀ j : ℕ, r.val / 64 = j → 64 * j + r.val % 64 = r.val := by omega
  have hj : r.val / 64 = 0 ∨ r.val / 64 = 1 ∨ r.val / 64 = 2 ∨ r.val / 64 = 3 := by omega
  rcases hj with hj | hj | hj | hj
  · refine (concatenate_apply_piece 1 _ _ (ix3 h r C) 0 (by show 0 < 4; decide) S8x64x768 (val_main_v73 (F := Ideal) x1) rfl rfl 0 rfl
      (ix3 h ⟨r.val % 64, hlt⟩ C) (fun b => match b with | ⟨0, _⟩ => fun _ => rfl | ⟨1, _⟩ => fun hb => absurd rfl hb | ⟨2, _⟩ => fun _ => rfl)
      (by show 0 + r.val % 64 = r.val; omega)).trans ?_
    exact (pad_at x1 0 (by omega) 192 _ (fun _ => lit_bot) _ h _ C).trans (by rw [hm 0 hj])
  · refine (concatenate_apply_piece 1 _ _ (ix3 h r C) 1 (by show 1 < 4; decide) S8x64x768 (val_main_v74 (F := Ideal) x1) rfl rfl 64 rfl
      (ix3 h ⟨r.val % 64, hlt⟩ C) (fun b => match b with | ⟨0, _⟩ => fun _ => rfl | ⟨1, _⟩ => fun hb => absurd rfl hb | ⟨2, _⟩ => fun _ => rfl)
      (by show 64 + r.val % 64 = r.val; omega)).trans ?_
    exact (pad_at x1 1 (by omega) 128 _ (fun _ => lit_bot) _ h _ C).trans (by rw [hm 1 hj])
  · refine (concatenate_apply_piece 1 _ _ (ix3 h r C) 2 (by show 2 < 4; decide) S8x64x768 (val_main_v75 (F := Ideal) x1) rfl rfl 128 rfl
      (ix3 h ⟨r.val % 64, hlt⟩ C) (fun b => match b with | ⟨0, _⟩ => fun _ => rfl | ⟨1, _⟩ => fun hb => absurd rfl hb | ⟨2, _⟩ => fun _ => rfl)
      (by show 128 + r.val % 64 = r.val; omega)).trans ?_
    exact (pad_at x1 2 (by omega) 64 _ (fun _ => lit_bot) _ h _ C).trans (by rw [hm 2 hj])
  · refine (concatenate_apply_piece 1 _ _ (ix3 h r C) 3 (by show 3 < 4; decide) S8x64x768 (val_main_v76 (F := Ideal) x1) rfl rfl 192 rfl
      (ix3 h ⟨r.val % 64, hlt⟩ C) (fun b => match b with | ⟨0, _⟩ => fun _ => rfl | ⟨1, _⟩ => fun hb => absurd rfl hb | ⟨2, _⟩ => fun _ => rfl)
      (by show 192 + r.val % 64 = r.val; omega)).trans ?_
    exact (pad_at x1 3 (by omega) 0 _ (fun _ => lit_bot) _ h _ C).trans (by rw [hm 3 hj])

/-- The window's bias, for query tile `i` and the key tile `i + kb - 2`: the band and the distance. -/
theorem biasAt_eq (H : Real3 x0 x1 x2) (b : Fin 2) (h : Fin 8) (i kb : ℕ) (hi : i < 16) (hkb : 2 ≤ i + kb) (hk : kb < 3) (r c : Fin 256) :
    biasAt x1 h r.val (256 * kb + c.val) = if valid (tileRow i r hi) (tileRow (i + kb - 2) c (by omega))
      then (((head x0 x1 x2 b h).r (rel (tileRow i r hi).val (tileRow (i + kb - 2) c (by omega)).val) : ℝ) : EReal) else ⊥ := by
  have hr := r.isLt; have hc := c.isLt
  unfold biasAt
  have hiff : (64 * (r.val / 64) ≤ 256 * kb + c.val ∧ 256 * kb + c.val < 64 * (r.val / 64) + 576) ↔ valid (tileRow i r hi) (tileRow (i + kb - 2) c (by omega)) := by
    unfold valid tileRow
    show _ ↔ (256 * (i + kb - 2) + c.val) / 64 ≤ (256 * i + r.val) / 64 ∧ (256 * i + r.val) / 64 ≤ (256 * (i + kb - 2) + c.val) / 64 + 8
    omega
  by_cases hv : valid (tileRow i r hi) (tileRow (i + kb - 2) c (by omega))
  · rw [if_pos hv, if_pos (hiff.2 hv)]
    refine Eq.trans (congrArg x1 (?_ : _ = ix2 h (rel (tileRow i r hi).val (tileRow (i + kb - 2) c (by omega)).val))) (H.h1 _)
    refine ext2 rfl ?_
    show min (640 + r.val - (256 * kb + c.val)) 256 = min (256 * i + r.val + 128 - (256 * (i + kb - 2) + c.val)) 256
    omega
  · rw [if_neg hv, if_neg (fun hx => hv (hiff.1 hx))]

/-- The forward output the kernel is given. -/
theorem out_at (H : Real3 x0 x1 x2) (b : Fin 2) (h : Fin 8) (t : Fin 4096) (d : Fin 64) :
    val_main_v60 (F := Ideal) x0 x1 (ix2 (row b t) (col h d)) = (((head x0 x1 x2 b h).out t d : ℝ) : EReal) := by
  rw [val_main_v60_apply, Cert.KernelIdeal.Hand.host_out]
  exact (congrArg _ (Cert.ReferenceIdeal.Hand.split_at b h t d)).trans (Cert.ReferenceIdeal.Hand.out_at x0 x1 x2 H b h t d)

end Cert.KernelIdeal.HostRead

end
-- ==== Proof.Blk.lean ====
module

public import proofs.«01_k».proof.Proof.TileVal
public import proofs.«01_k».proof.Proof.Launch
public import proofs.«01_k».proof.Proof.HostV
public import proofs.«01_k».proof.Proof.HostBias

@[expose] public section

noncomputable section

namespace Cert.KernelIdeal.Hand

open Cert.KernelIdeal Cert.KernelIdeal.Gen
open Idealize.ShloMosaic Idealize.ShloMosaic.ValueIdx Idealize.ShloMosaic.TcCoe Cert.Attn

/-! # The blocks a point is handed, read off the program's arguments -/

variable (m : (ℓ : Loc nD τ sig) → Buf (Elt Ideal) ℓ) (c : Dev nD) (t : Fin cfg0.N)

/-- The program's arguments. -/
abbrev arg0 : A0 := m ((c.tc : Thread nD τ).loc main_arg0)
abbrev arg1 : A1 := m ((c.tc : Thread nD τ).loc main_arg1)
abbrev arg2 : A2 := m ((c.tc : Thread nD τ).loc main_arg2)

theorem p_lt (i : grid0.Coords) : (i 0).val < 4 := (i 0).isLt
theorem b_lt (i : grid0.Coords) : (i 1).val < 2 := (i 1).isLt
/-- A point's sequence, and its pair's heads. -/
def seqOf (i : grid0.Coords) : Fin 2 := ⟨(i 1).val, b_lt i⟩
def headOf (i : grid0.Coords) (h : Fin 2) : Fin 8 := ⟨2 * (i 0).val + h.val, by have := p_lt i; omega⟩

theorem tr0 (i : grid0.Coords) : cc0_transform_0 i = ![16 * (i 1).val + (i 2).val, 12 + (i 0).val] := by
  have key : ∀ (p : Fin 4) (b : Fin 2) (n : Fin 16),
      (Scalar.addi (Scalar.muli (BitVec.ofNat 32 b.val) 16#32) (BitVec.ofNat 32 n.val)).toNat = 16 * b.val + n.val
        ∧ (Scalar.addi 12#32 (BitVec.ofNat 32 p.val)).toNat = 12 + p.val := by decide +kernel
  have h := key (i 0) (i 1) (i 2)
  funext a
  match a with
  | ⟨0, _⟩ => exact h.1
  | ⟨1, _⟩ => exact h.2

theorem tr1 (i : grid0.Coords) : cc0_transform_1 i = ![(i 1).val, 16 + (i 0).val] := by
  have key : ∀ (p : Fin 4) (b : Fin 2), (BitVec.ofNat 32 b.val).toNat = b.val ∧ (Scalar.addi 16#32 (BitVec.ofNat 32 p.val)).toNat = 16 + p.val := by decide +kernel
  have h := key (i 0) (i 1)
  funext a
  match a with
  | ⟨0, _⟩ => exact h.1
  | ⟨1, _⟩ => exact h.2

theorem tr2 (i : grid0.Coords) : cc0_transform_2 i = ![(i 1).val, 20 + (i 0).val] := by
  have key : ∀ (p : Fin 4) (b : Fin 2), (BitVec.ofNat 32 b.val).toNat = b.val ∧ (Scalar.addi 20#32 (BitVec.ofNat 32 p.val)).toNat = 20 + p.val := by decide +kernel
  have h := key (i 0) (i 1)
  funext a
  match a with
  | ⟨0, _⟩ => exact h.1
  | ⟨1, _⟩ => exact h.2

theorem tr3 (i : grid0.Coords) : cc0_transform_3 i = ![(i 0).val, 0, 0] := by
  have key : ∀ (p : Fin 4), (BitVec.ofNat 32 p.val).toNat = p.val := by decide +kernel
  have h := key (i 0)
  funext a
  match a with
  | ⟨0, _⟩ => exact h
  | ⟨1, _⟩ => rfl
  | ⟨2, _⟩ => rfl

theorem tr4 (i : grid0.Coords) : cc0_transform_4 i = ![16 * (i 1).val + (i 2).val, (i 0).val] := by
  have key : ∀ (p : Fin 4) (b : Fin 2) (n : Fin 16),
      (Scalar.addi (Scalar.muli (BitVec.ofNat 32 b.val) 16#32) (BitVec.ofNat 32 n.val)).toNat = 16 * b.val + n.val
        ∧ (BitVec.ofNat 32 p.val).toNat = p.val := by decide +kernel
  have h := key (i 0) (i 1) (i 2)
  funext a
  match a with
  | ⟨0, _⟩ => exact h.1
  | ⟨1, _⟩ => exact h.2

theorem tr5 (i : grid0.Coords) : cc0_transform_5 i = ![16 * (i 1).val + (i 2).val, (i 0).val] := tr4 i
theorem tr6 (i : grid0.Coords) : cc0_transform_6 i = ![16 * (i 1).val + (i 2).val, (i 0).val] := tr4 i
theorem tr7 (i : grid0.Coords) : cc0_transform_7 i = ![(i 1).val, (i 0).val] := by
  have key : ∀ (p : Fin 4) (b : Fin 2), (BitVec.ofNat 32 b.val).toNat = b.val ∧ (BitVec.ofNat 32 p.val).toNat = p.val := by decide +kernel
  have h := key (i 0) (i 1)
  funext a
  match a with
  | ⟨0, _⟩ => exact h.1
  | ⟨1, _⟩ => exact h.2
theorem tr8 (i : grid0.Coords) : cc0_transform_8 i = ![(i 1).val, (i 0).val] := tr7 i

local notation "ii" => grid0.coords t

theorem blk_q (h : Fin 2) (r : Fin 256) (d : Fin 64) : (iblk m c 0 t : Vec Ideal S256x128 .bf16) (ix2 r (lane h d))
    = arg0 m c (ix2 (row (seqOf ii) (qrow ii r)) (colw 1536 (by omega) (headOf ii h) d)) := by
  unfold iblk
  rw [View.read_apply]
  show V m c main_arg0 _ = arg0 m c _
  rw [V_main_arg0]
  refine congrArg (arg0 m c) ?_
  funext a; apply Fin.ext
  match a with
  | ⟨0, _⟩ =>
    show cc0_transform_0 ii 0 * 256 + 1 * r.val = 4096 * (ii 1).val + (256 * (ii 2).val + r.val)
    rw [tr0]
    show (16 * (ii 1).val + (ii 2).val) * 256 + 1 * r.val = _
    omega
  | ⟨1, _⟩ =>
    show cc0_transform_0 ii 1 * 128 + 1 * (64 * h.val + d.val) = 1536 + (64 * (2 * (ii 0).val + h.val) + d.val)
    rw [tr0]
    show (12 + (ii 0).val) * 128 + 1 * (64 * h.val + d.val) = _
    omega

theorem blk_k (h : Fin 2) (s : Fin 4096) (d : Fin 64) : (iblk m c 1 t : Vec Ideal S4096x128 .bf16) (ix2 s (lane h d))
    = arg0 m c (ix2 (row (seqOf ii) s) (colw 2048 (by omega) (headOf ii h) d)) := by
  unfold iblk
  rw [View.read_apply]
  show V m c main_arg0 _ = arg0 m c _
  rw [V_main_arg0]
  refine congrArg (arg0 m c) ?_
  funext a; apply Fin.ext
  match a with
  | ⟨0, _⟩ =>
    show cc0_transform_1 ii 0 * 4096 + 1 * s.val = 4096 * (ii 1).val + s.val
    rw [tr1]
    show (ii 1).val * 4096 + 1 * s.val = _
    omega
  | ⟨1, _⟩ =>
    show cc0_transform_1 ii 1 * 128 + 1 * (64 * h.val + d.val) = 2048 + (64 * (2 * (ii 0).val + h.val) + d.val)
    rw [tr1]
    show (16 + (ii 0).val) * 128 + 1 * (64 * h.val + d.val) = _
    omega

theorem blk_v (h : Fin 2) (s : Fin 4096) (d : Fin 64) : (iblk m c 2 t : Vec Ideal S4096x128 .bf16) (ix2 s (lane h d))
    = arg0 m c (ix2 (row (seqOf ii) s) (colw 2560 (by omega) (headOf ii h) d)) := by
  unfold iblk
  rw [View.read_apply]
  show V m c main_arg0 _ = arg0 m c _
  rw [V_main_arg0]
  refine congrArg (arg0 m c) ?_
  funext a; apply Fin.ext
  match a with
  | ⟨0, _⟩ =>
    show cc0_transform_2 ii 0 * 4096 + 1 * s.val = 4096 * (ii 1).val + s.val
    rw [tr2]
    show (ii 1).val * 4096 + 1 * s.val = _
    omega
  | ⟨1, _⟩ =>
    show cc0_transform_2 ii 1 * 128 + 1 * (64 * h.val + d.val) = 2560 + (64 * (2 * (ii 0).val + h.val) + d.val)
    rw [tr2]
    show (20 + (ii 0).val) * 128 + 1 * (64 * h.val + d.val) = _
    omega

theorem blk_b (h : Fin 2) (r : Fin 256) (C : Fin 768) : (iblk m c 3 t : Vec Ideal S2x256x768 .f32) (ix3 h r C)
    = HostRead.val_main_v77 (F := Ideal) (arg1 m c) (ix3 (headOf ii h) r C) := by
  unfold iblk
  rw [View.read_apply]
  show V m c main_v77 _ = _
  rw [V_bias]
  refine congrArg (HostRead.val_main_v77 (F := Ideal) (arg1 m c)) ?_
  funext a; apply Fin.ext
  match a with
  | ⟨0, _⟩ =>
    show cc0_transform_3 ii 0 * 2 + 1 * h.val = 2 * (ii 0).val + h.val
    rw [tr3]
    show (ii 0).val * 2 + 1 * h.val = _
    omega
  | ⟨1, _⟩ =>
    show cc0_transform_3 ii 1 * 256 + 1 * r.val = r.val
    rw [tr3]
    show 0 * 256 + 1 * r.val = _
    omega
  | ⟨2, _⟩ =>
    show cc0_transform_3 ii 2 * 768 + 1 * C.val = C.val
    rw [tr3]
    show 0 * 768 + 1 * C.val = _
    omega

theorem blk_o (h : Fin 2) (r : Fin 256) (d : Fin 64) : (iblk m c 4 t : Vec Ideal S256x128 .f32) (ix2 r (lane h d))
    = HostRead.val_main_v60 (F := Ideal) (arg0 m c) (arg1 m c) (ix2 (row (seqOf ii) (qrow ii r)) (col (headOf ii h) d)) := by
  unfold iblk
  rw [View.read_apply]
  show V m c main_v60 _ = _
  rw [V_out]
  refine congrArg (HostRead.val_main_v60 (F := Ideal) (arg0 m c) (arg1 m c)) ?_
  funext a; apply Fin.ext
  match a with
  | ⟨0, _⟩ =>
    show cc0_transform_4 ii 0 * 256 + 1 * r.val = 4096 * (ii 1).val + (256 * (ii 2).val + r.val)
    rw [tr4]
    show (16 * (ii 1).val + (ii 2).val) * 256 + 1 * r.val = _
    omega
  | ⟨1, _⟩ =>
    show cc0_transform_4 ii 1 * 128 + 1 * (64 * h.val + d.val) = 64 * (2 * (ii 0).val + h.val) + d.val
    rw [tr4]
    show (ii 0).val * 128 + 1 * (64 * h.val + d.val) = _
    omega

theorem blk_d (h : Fin 2) (r : Fin 256) (d : Fin 64) : (iblk m c 5 t : Vec Ideal S256x128 .bf16) (ix2 r (lane h d))
    = arg2 m c (ix2 (row (seqOf ii) (qrow ii r)) (col (headOf ii h) d)) := by
  unfold iblk
  rw [View.read_apply]
  show V m c main_arg2 _ = arg2 m c _
  rw [V_main_arg2]
  refine congrArg (arg2 m c) ?_
  funext a; apply Fin.ext
  match a with
  | ⟨0, _⟩ =>
    show cc0_transform_5 ii 0 * 256 + 1 * r.val = 4096 * (ii 1).val + (256 * (ii 2).val + r.val)
    rw [tr5]
    show (16 * (ii 1).val + (ii 2).val) * 256 + 1 * r.val = _
    omega
  | ⟨1, _⟩ =>
    show cc0_transform_5 ii 1 * 128 + 1 * (64 * h.val + d.val) = 64 * (2 * (ii 0).val + h.val) + d.val
    rw [tr5]
    show (ii 0).val * 128 + 1 * (64 * h.val + d.val) = _
    omega

theorem full_emb (r : Fin 256) (l : Fin 128) :
    (Rect.unit (s := S256x128) ![0, 0] S256x128.size inb_S256x128_S256x128_0_0).emb (ix2 r l) = ix2 r l := by
  funext a; apply Fin.ext
  match a with
  | ⟨0, _⟩ => show 0 + 1 * r.val = r.val; omega
  | ⟨1, _⟩ => show 0 + 1 * l.val = l.val; omega

theorem rows_emb (i : grid0.Coords) (kb : Fin 3) (s : Fin 256) (l : Fin 128) :
    (rows i kb).emb (ix2 s l : S256x128.Idx) = ix2 (krow i kb s) l := by
  have h0 : k0_off1 i (BitVec.ofNat 32 kb.val) 0 = 256 * ((i 2).val + kb.val - 2) := by
    rw [off_eq]; exact tileOff_eq i kb.val
  have h1 : k0_off1 i (BitVec.ofNat 32 kb.val) 1 = 0 := by rw [off_eq]; rfl
  funext a; apply Fin.ext
  match a with
  | ⟨0, _⟩ =>
    show k0_off1 i (BitVec.ofNat 32 kb.val) 0 + 1 * s.val = 256 * ((i 2).val + kb.val - 2) + s.val
    rw [h0, Nat.one_mul]
  | ⟨1, _⟩ =>
    show k0_off1 i (BitVec.ofNat 32 kb.val) 1 + 1 * l.val = l.val
    rw [h1]; omega

section Loads

variable (i : grid0.Coords) (x3 : Vec Ideal S256x128 .bf16) (x4 x5 : Vec Ideal S4096x128 .bf16) (x6 : Vec Ideal S2x256x768 .f32)
    (x7 : Vec Ideal S256x128 .f32) (x8 : Vec Ideal S256x128 .bf16)

theorem loads_q (r : Fin 256) (l : Fin 128) : (loadsOf i x3 x4 x5 x6 x7 x8).q (ix2 r l) = x3 (ix2 r l) := congrArg x3 (full_emb r l)
theorem loads_d (r : Fin 256) (l : Fin 128) : (loadsOf i x3 x4 x5 x6 x7 x8).d (ix2 r l) = x8 (ix2 r l) := congrArg x8 (full_emb r l)
theorem loads_o (r : Fin 256) (l : Fin 128) : (loadsOf i x3 x4 x5 x6 x7 x8).o (ix2 r l) = x7 (ix2 r l) := congrArg x7 (full_emb r l)
theorem loads_k (kb : Fin 3) (s : Fin 256) (l : Fin 128) : (loadsOf i x3 x4 x5 x6 x7 x8).k kb (ix2 s l) = x4 (ix2 (krow i kb s) l) :=
  congrArg x4 (rows_emb i kb s l)
theorem loads_v (kb : Fin 3) (s : Fin 256) (l : Fin 128) : (loadsOf i x3 x4 x5 x6 x7 x8).v kb (ix2 s l) = x5 (ix2 (krow i kb s) l) :=
  congrArg x5 (rows_emb i kb s l)

theorem cols_emb (a k : ℕ) (ha : a < 2) (hk : k < 3) (inb : ∀ x, (![a, 0, 256 * k] : Fin 3 → ℕ) x + S1x256x256.size x ≤ S2x256x768.size x) (r s : Fin 256) :
    (Rect.unit (s := S2x256x768) ![a, 0, 256 * k] S1x256x256.size inb).emb (ix3 (0 : Fin 1) r s : S1x256x256.Idx)
      = ix3 (⟨a, ha⟩ : Fin 2) r (⟨256 * k + s.val, by omega⟩ : Fin 768) := by
  funext x; apply Fin.ext
  match x with
  | ⟨0, _⟩ => show a + 1 * 0 = a; omega
  | ⟨1, _⟩ => show 0 + 1 * r.val = r.val; omega
  | ⟨2, _⟩ => show 256 * k + 1 * s.val = 256 * k + s.val; omega

theorem loads_b (h : Fin 2) (kb : Fin 3) (r s : Fin 256) : (loadsOf i x3 x4 x5 x6 x7 x8).b h kb (ix3 (0 : Fin 1) r s)
    = x6 (ix3 h r (⟨256 * kb.val + s.val, by omega⟩ : Fin 768)) := by
  match h, kb with
  | 0, 0 => exact congrArg x6 (cols_emb 0 0 (by omega) (by omega) inb_S2x256x768_S1x256x256_0_0_0 r s)
  | 0, 1 => exact congrArg x6 (cols_emb 0 1 (by omega) (by omega) inb_S2x256x768_S1x256x256_0_0_256 r s)
  | 0, 2 => exact congrArg x6 (cols_emb 0 2 (by omega) (by omega) inb_S2x256x768_S1x256x256_0_0_512 r s)
  | 1, 0 => exact congrArg x6 (cols_emb 1 0 (by omega) (by omega) inb_S2x256x768_S1x256x256_1_0_0 r s)
  | 1, 1 => exact congrArg x6 (cols_emb 1 1 (by omega) (by omega) inb_S2x256x768_S1x256x256_1_0_256 r s)
  | 1, 2 => exact congrArg x6 (cols_emb 1 2 (by omega) (by omega) inb_S2x256x768_S1x256x256_1_0_512 r s)

end Loads

/-- The pair of heads a point handles. -/
def pair (i : grid0.Coords) (h : Fin 2) : Head := head (arg0 m c) (arg1 m c) (arg2 m c) (seqOf i) (headOf i h)

/-- A point's loads are its pair of heads'. -/
theorem holds_at (H : Real3 (arg0 m c) (arg1 m c) (arg2 m c)) : Holds ii (lds m c t) (pair m c ii) := by
  unfold lds
  refine ⟨fun h r d => ?_, fun h r d => ?_, fun h r d => ?_, fun kb h s d => ?_, fun kb h s d => ?_, fun h kb ha r s => ?_⟩
  · rw [loads_q, blk_q]; exact H.h0 _ _ (Nat.le_add_right _ _)
  · rw [loads_d, blk_d]; exact H.h2 _
  · rw [loads_o, blk_o]; exact HostRead.out_at _ _ _ H _ _ _ _
  · rw [loads_k, blk_k]; exact H.h0 _ _ (by show 1536 ≤ 2048 + _; omega)
  · rw [loads_v, blk_v]; exact H.h0 _ _ (by show 1536 ≤ 2560 + _; omega)
  · rw [loads_b, blk_b, HostRead.bias_at]
    exact HostRead.biasAt_eq _ _ _ H _ _ _ _ (qt_lt ii) ha kb.isLt r s

end Cert.KernelIdeal.Hand

end
-- ==== Proof.Fold.lean ====
module

public import proofs.«01_k».proof.Proof.Blk
public import proofs.«01_k».proof.Proof.Ref

@[expose] public section

noncomputable section

namespace Cert.KernelIdeal.Hand

open Cert.KernelIdeal Cert.KernelIdeal.Gen
open Idealize.ShloMosaic Idealize.ShloMosaic.ValueIdx Idealize.ShloMosaic.TcCoe Cert.Attn

/-! # The accumulators at the end of a sequence, and the arrays the launch leaves -/

variable (m : (ℓ : Loc nD τ sig) → Buf (Elt Ideal) ℓ) (c : Dev nD)

theorem co0 (t : Fin cfg0.N) : (grid0.coords t 0).val = t.val / 32 % 4 := Pipeline.Grid.coords_val (G := grid0) t 0 (by decide) (by decide)
theorem co1 (t : Fin cfg0.N) : (grid0.coords t 1).val = t.val / 16 % 2 := Pipeline.Grid.coords_val (G := grid0) t 1 (by decide) (by decide)
theorem co2 (t : Fin cfg0.N) : (grid0.coords t 2).val = t.val % 16 := by
  have h := Pipeline.Grid.coords_val (G := grid0) t 2 (S := 1) (B := 16) (by decide) (by decide)
  rw [Nat.div_one] at h; exact h

/-- One query tile's share of a sum over the frames. -/
def tileSum (f : Fin 4096 → ℝ) (j : ℕ) : ℝ := if h : j < 16 then ∑ r : Fin 256, f (tileRow j r h) else 0

theorem tileSum_all (f : Fin 4096 → ℝ) : ∑ j ∈ Finset.range 16, tileSum f j = ∑ u, f u := by
  rw [sum_tiles, Finset.sum_range]
  refine Finset.sum_congr rfl fun j _ => ?_
  unfold tileSum; rw [dif_pos j.isLt]

theorem pair_prev (t t' : Fin cfg0.N) (h1 : t.val = t'.val + 1) (h2 : t.val % 16 ≠ 0) (h : Fin 2) : pair m c (grid0.coords t) h = pair m c (grid0.coords t') h := by
  have e0 : (grid0.coords t 0).val = (grid0.coords t' 0).val := by rw [co0, co0]; omega
  have e1 : (grid0.coords t 1).val = (grid0.coords t' 1).val := by rw [co1, co1]; omega
  unfold pair
  rw [show seqOf (grid0.coords t) = seqOf (grid0.coords t') from Fin.ext e1,
    show headOf (grid0.coords t) h = headOf (grid0.coords t') h from Fin.ext (by show 2 * _ + h.val = 2 * _ + h.val; rw [e0])]

/-- An accumulator reset at a sequence's first query tile and added to at each holds the sum of the tiles so far. -/
theorem fold_at (tab : ℕ → Vec Ideal S4096x128 .f32) (f : Head → Fin 64 → Fin 4096 → Fin 4096 → ℝ)
    (step : Fin cfg0.N → Vec Ideal S4096x128 .f32 → Vec Ideal S4096x128 .f32)
    (htab : ∀ t : Fin cfg0.N, tab (t.val + 1) = step t (if first (grid0.coords t) then zeroAcc else tab t.val))
    (hstep : ∀ (t : Fin cfg0.N) (X : Vec Ideal S4096x128 .f32) (h : Fin 2) (d : Fin 64) (s : Fin 4096),
      step t X (ix2 s (lane h d)) = (X (ix2 s (lane h d)) : EReal)
        + ((∑ r : Fin 256, f (pair m c (grid0.coords t) h) d s (qrow (grid0.coords t) r) : ℝ) : EReal))
    (h : Fin 2) (d : Fin 64) (s : Fin 4096) : ∀ (k : ℕ) (t : Fin cfg0.N), t.val % 16 = k →
      tab (t.val + 1) (ix2 s (lane h d)) = ((∑ j ∈ Finset.range (k + 1), tileSum (f (pair m c (grid0.coords t) h) d s) j : ℝ) : EReal)
  | 0, t, ht => by
    rw [htab, if_pos ((first_iff t).2 ht), hstep]
    rw [show (zeroAcc (F := Ideal) (ix2 s (lane h d)) : EReal) = 0 from lit0, zero_add, Finset.sum_range_one]
    refine congrArg _ ?_
    unfold tileSum
    rw [dif_pos (by omega)]
    refine Finset.sum_congr rfl fun r _ => congrArg _ (Fin.ext ?_)
    show 256 * (grid0.coords t 2).val + r.val = 256 * 0 + r.val
    rw [co2, ht]
  | k + 1, t, ht => by
    have ht0 : t.val % 16 ≠ 0 := by omega
    have hlt := t.isLt
    have ih := fold_at tab f step htab hstep h d s k ⟨t.val - 1, by omega⟩ (by show (t.val - 1) % 16 = k; omega)
    have e : t.val - 1 + 1 = t.val := by omega
    simp only [e] at ih
    rw [htab, if_neg (fun hf => ht0 ((first_iff t).1 hf)), hstep, ih,
      ← pair_prev m c t ⟨t.val - 1, by omega⟩ (by show t.val = t.val - 1 + 1; omega) ht0, ← EReal.coe_add, Finset.sum_range_succ _ (k + 1)]
    refine congrArg _ (congrArg _ ?_)
    unfold tileSum
    rw [dif_pos (by omega)]
    refine Finset.sum_congr rfl fun r _ => congrArg _ (Fin.ext ?_)
    show 256 * (grid0.coords t 2).val + r.val = 256 * (k + 1) + r.val
    rw [co2, ht]

variable (H : Real3 (arg0 m c) (arg1 m c) (arg2 m c))

include H in
theorem dkTab_at (t : Fin cfg0.N) (ht : t.val % 16 = 15) (h : Fin 2) (d : Fin 64) (s : Fin 4096) :
    dkTab m c (t.val + 1) (ix2 s (lane h d)) = (((pair m c (grid0.coords t) h).dk s d : ℝ) : EReal) := by
  rw [fold_at m c (dkTab m c) (fun A d s u => A.ds u s * A.q u d)
    (fun t X => bumps (grid0.coords t) (dkPart (grid0.coords t) (lds m c t)) X)
    (fun t => by unfold dkTab; rw [steps_succ]; rfl) (fun t X h d s => dkAcc_at (holds_at m c t H) X h d s) h d s 15 t ht, tileSum_all]
  rfl

include H in
theorem dvTab_at (t : Fin cfg0.N) (ht : t.val % 16 = 15) (h : Fin 2) (d : Fin 64) (s : Fin 4096) :
    dvTab m c (t.val + 1) (ix2 s (lane h d)) = (((pair m c (grid0.coords t) h).dv s d : ℝ) : EReal) := by
  rw [fold_at m c (dvTab m c) (fun A d s u => A.P u s * A.g u d)
    (fun t X => bumps (grid0.coords t) (dvPart (grid0.coords t) (lds m c t)) X)
    (fun t => by unfold dvTab; rw [steps_succ]; rfl) (fun t X h d s => dvAcc_at (holds_at m c t H) X h d s) h d s 15 t ht, tileSum_all]
  rfl

/-! ## The arrays -/

theorem emb6 (t : Fin cfg0.N) (r : Fin 256) (h : Fin 2) (d : Fin 64) :
    ((cfg0.win 6).blk t).view.emb (ix2 r (lane h d) : S256x128.Idx) = ix2 (row (seqOf (grid0.coords t)) (qrow (grid0.coords t) r)) (col (headOf (grid0.coords t) h) d) := by
  funext a; apply Fin.ext
  match a with
  | ⟨0, _⟩ =>
    show cc0_transform_6 (grid0.coords t) 0 * 256 + 1 * r.val = 4096 * (grid0.coords t 1).val + (256 * (grid0.coords t 2).val + r.val)
    rw [tr6]
    show (16 * (grid0.coords t 1).val + (grid0.coords t 2).val) * 256 + 1 * r.val = _
    omega
  | ⟨1, _⟩ =>
    show cc0_transform_6 (grid0.coords t) 1 * 128 + 1 * (64 * h.val + d.val) = 64 * (2 * (grid0.coords t 0).val + h.val) + d.val
    rw [tr6]
    show (grid0.coords t 0).val * 128 + 1 * (64 * h.val + d.val) = _
    omega

theorem emb7 (t : Fin cfg0.N) (s : Fin 4096) (h : Fin 2) (d : Fin 64) :
    ((cfg0.win 7).blk t).view.emb (ix2 s (lane h d) : S4096x128.Idx) = ix2 (row (seqOf (grid0.coords t)) s) (col (headOf (grid0.coords t) h) d) := by
  funext a; apply Fin.ext
  match a with
  | ⟨0, _⟩ =>
    show cc0_transform_7 (grid0.coords t) 0 * 4096 + 1 * s.val = 4096 * (grid0.coords t 1).val + s.val
    rw [tr7]
    show (grid0.coords t 1).val * 4096 + 1 * s.val = _
    omega
  | ⟨1, _⟩ =>
    show cc0_transform_7 (grid0.coords t) 1 * 128 + 1 * (64 * h.val + d.val) = 64 * (2 * (grid0.coords t 0).val + h.val) + d.val
    rw [tr7]
    show (grid0.coords t 0).val * 128 + 1 * (64 * h.val + d.val) = _
    omega

theorem emb8 (t : Fin cfg0.N) (s : Fin 4096) (h : Fin 2) (d : Fin 64) :
    ((cfg0.win 8).blk t).view.emb (ix2 s (lane h d) : S4096x128.Idx) = ix2 (row (seqOf (grid0.coords t)) s) (col (headOf (grid0.coords t) h) d) := by
  funext a; apply Fin.ext
  match a with
  | ⟨0, _⟩ =>
    show cc0_transform_8 (grid0.coords t) 0 * 4096 + 1 * s.val = 4096 * (grid0.coords t 1).val + s.val
    rw [tr8]
    show (grid0.coords t 1).val * 4096 + 1 * s.val = _
    omega
  | ⟨1, _⟩ =>
    show cc0_transform_8 (grid0.coords t) 1 * 128 + 1 * (64 * h.val + d.val) = 64 * (2 * (grid0.coords t 0).val + h.val) + d.val
    rw [tr8]
    show (grid0.coords t 0).val * 128 + 1 * (64 * h.val + d.val) = _
    omega

/-- Some point handles a given pair of heads, sequence and query tile. -/
theorem point_of (p b n : ℕ) (hp : p < 4) (hb : b < 2) (hn : n < 16) :
    ∃ t : Fin cfg0.N, t.val % 16 = n ∧ (grid0.coords t 0).val = p ∧ (grid0.coords t 1).val = b ∧ (grid0.coords t 2).val = n := by
  have hN : cfg0.N = 128 := N_0
  let t : Fin cfg0.N := ⟨p * 32 + b * 16 + n, by rw [hN]; omega⟩
  have hv : t.val = p * 32 + b * 16 + n := rfl
  exact ⟨t, by omega, by rw [co0]; omega, by rw [co1]; omega, by rw [co2]; omega⟩

theorem idx_eq (j : (⟨2, ![8192, 512]⟩ : Shape).Idx) : ∃ (b : Fin 2) (u : Fin 4096) (hd : Fin 8) (d : Fin 64), j = ix2 (row b u) (col hd d) := by
  have h0 : (j 0).val < 8192 := (j 0).isLt
  have h1 : (j 1).val < 512 := (j 1).isLt
  refine ⟨⟨(j 0).val / 4096, by omega⟩, ⟨(j 0).val % 4096, by omega⟩, ⟨(j 1).val / 64, by omega⟩, ⟨(j 1).val % 64, by omega⟩, ?_⟩
  funext a; apply Fin.ext
  match a with
  | ⟨0, _⟩ => show (j 0).val = 4096 * ((j 0).val / 4096) + (j 0).val % 4096; omega
  | ⟨1, _⟩ => show (j 1).val = 64 * ((j 1).val / 64) + (j 1).val % 64; omega

theorem cover6 (j : S8192x512.Idx) : ∃ (t : Fin cfg0.N) (y : S256x128.Idx), ((cfg0.win 6).blk t).view.emb y = j := by
  obtain ⟨b, u, hd, d, rfl⟩ := idx_eq j
  obtain ⟨t, -, e0, e1, e2⟩ := point_of (hd.val / 2) b.val (u.val / 256) (by omega) b.isLt (by omega)
  refine ⟨t, ix2 (⟨u.val % 256, by omega⟩ : Fin 256) (lane ⟨hd.val % 2, by omega⟩ d), (emb6 t _ _ _).trans ?_⟩
  rw [show seqOf (grid0.coords t) = b from Fin.ext e1,
    show qrow (grid0.coords t) ⟨u.val % 256, by omega⟩ = u from Fin.ext (by show 256 * (grid0.coords t 2).val + u.val % 256 = u.val; rw [e2]; omega),
    show headOf (grid0.coords t) ⟨hd.val % 2, by omega⟩ = hd from Fin.ext (by show 2 * (grid0.coords t 0).val + hd.val % 2 = hd.val; rw [e0]; omega)]

theorem cover7 (j : S8192x512.Idx) : ∃ (t : Fin cfg0.N) (y : S4096x128.Idx), t.val % 16 = 15 ∧ ((cfg0.win 7).blk t).view.emb y = j := by
  obtain ⟨b, u, hd, d, rfl⟩ := idx_eq j
  obtain ⟨t, ht, e0, e1, e2⟩ := point_of (hd.val / 2) b.val 15 (by omega) b.isLt (by omega)
  refine ⟨t, ix2 u (lane ⟨hd.val % 2, by omega⟩ d), ht, (emb7 t _ _ _).trans ?_⟩
  rw [show seqOf (grid0.coords t) = b from Fin.ext e1,
    show headOf (grid0.coords t) ⟨hd.val % 2, by omega⟩ = hd from Fin.ext (by show 2 * (grid0.coords t 0).val + hd.val % 2 = hd.val; rw [e0]; omega)]

theorem cover8 (j : S8192x512.Idx) : ∃ (t : Fin cfg0.N) (y : S4096x128.Idx), t.val % 16 = 15 ∧ ((cfg0.win 8).blk t).view.emb y = j := by
  obtain ⟨b, u, hd, d, rfl⟩ := idx_eq j
  obtain ⟨t, ht, e0, e1, e2⟩ := point_of (hd.val / 2) b.val 15 (by omega) b.isLt (by omega)
  refine ⟨t, ix2 u (lane ⟨hd.val % 2, by omega⟩ d), ht, (emb8 t _ _ _).trans ?_⟩
  rw [show seqOf (grid0.coords t) = b from Fin.ext e1,
    show headOf (grid0.coords t) ⟨hd.val % 2, by omega⟩ = hd from Fin.ext (by show 2 * (grid0.coords t 0).val + hd.val % 2 = hd.val; rw [e0]; omega)]

theorem tile_idx (y : S256x128.Idx) : ∃ r h d, y = ix2 r (lane h d) := by
  obtain ⟨h, d, e⟩ := lane_eq (y 1)
  exact ⟨y 0, h, d, by rw [← e]; exact eq_ix2 y⟩
theorem acc_idx (y : S4096x128.Idx) : ∃ s h d, y = ix2 s (lane h d) := by
  obtain ⟨h, d, e⟩ := lane_eq (y 1)
  exact ⟨y 0, h, d, by rw [← e]; exact eq_ix2 y⟩

include H in
/-- The query gradients the launch leaves are the reference's. -/
theorem final_dq : (dats m 0 c).arrAt 6 cfg0.N = Cert.ReferenceIdeal.Read.val_main_v103 (F := Ideal) (arg0 m c) (arg1 m c) (arg2 m c) := by
  refine (dats m 0 c).arrAt_eq_of_cover 6 _ (fun t _ => ?_) (fun j => ?_)
  · show (cfg0.win 6).cut (grid0.coords t) ((dats m 0 c).after 6 t) = _
    rw [after0_6]
    funext y
    rw [View.read_apply]
    obtain ⟨r, h, d, rfl⟩ := tile_idx y
    refine (dqTile_at (holds_at m c t H) h r d).trans ?_
    refine (Cert.ReferenceIdeal.Hand.ref_dq (arg0 m c) (arg1 m c) (arg2 m c) H (seqOf (grid0.coords t)) (headOf (grid0.coords t) h) (qrow (grid0.coords t) r) d).symm.trans ?_
    exact congrArg (Cert.ReferenceIdeal.Read.val_main_v103 (F := Ideal) (arg0 m c) (arg1 m c) (arg2 m c)) (emb6 t r h d).symm
  · obtain ⟨t, y, e⟩ := cover6 j
    exact ⟨t, flush0_6 t, by rw [← e]; exact View.emb_mem_set _ _⟩

include H in
/-- The key gradients. -/
theorem final_dk : (dats m 0 c).arrAt 7 cfg0.N = Cert.ReferenceIdeal.Read.val_main_v105 (F := Ideal) (arg0 m c) (arg1 m c) (arg2 m c) := by
  refine (dats m 0 c).arrAt_eq_of_cover 7 _ (fun t hf => ?_) (fun j => ?_)
  · show (cfg0.win 7).cut (grid0.coords t) ((dats m 0 c).after 7 t) = _
    rw [after0_7]
    funext y
    rw [View.read_apply]
    obtain ⟨s, h, d, rfl⟩ := acc_idx y
    refine (dkTab_at m c H t ((flush0_7 t).1 hf) h d s).trans ?_
    refine (Cert.ReferenceIdeal.Hand.ref_dk (arg0 m c) (arg1 m c) (arg2 m c) H (seqOf (grid0.coords t)) (headOf (grid0.coords t) h) s d).symm.trans ?_
    exact congrArg (Cert.ReferenceIdeal.Read.val_main_v105 (F := Ideal) (arg0 m c) (arg1 m c) (arg2 m c)) (emb7 t s h d).symm
  · obtain ⟨t, y, ht, e⟩ := cover7 j
    exact ⟨t, (flush0_7 t).2 ht, by rw [← e]; exact View.emb_mem_set _ _⟩

include H in
/-- The value gradients. -/
theorem final_dv : (dats m 0 c).arrAt 8 cfg0.N = Cert.ReferenceIdeal.Read.val_main_v107 (F := Ideal) (arg0 m c) (arg1 m c) (arg2 m c) := by
  refine (dats m 0 c).arrAt_eq_of_cover 8 _ (fun t hf => ?_) (fun j => ?_)
  · show (cfg0.win 8).cut (grid0.coords t) ((dats m 0 c).after 8 t) = _
    rw [after0_8]
    funext y
    rw [View.read_apply]
    obtain ⟨s, h, d, rfl⟩ := acc_idx y
    refine (dvTab_at m c H t ((flush0_8 t).1 hf) h d s).trans ?_
    refine (Cert.ReferenceIdeal.Hand.ref_dv (arg0 m c) (arg1 m c) (arg2 m c) H (seqOf (grid0.coords t)) (headOf (grid0.coords t) h) s d).symm.trans ?_
    exact congrArg (Cert.ReferenceIdeal.Read.val_main_v107 (F := Ideal) (arg0 m c) (arg1 m c) (arg2 m c)) (emb8 t s h d).symm
  · obtain ⟨t, y, ht, e⟩ := cover8 j
    exact ⟨t, (flush0_8 t).2 ht, by rw [← e]; exact View.emb_mem_set _ _⟩

end Cert.KernelIdeal.Hand

end
-- ==== Proof.Pre.lean ====
module

public import proofs.«01_k».proof.Pre_finite
public import proofs.«01_k».proof.Proof.Heads
public import Idealize.ShloMosaic.PureOps.Reduce

@[expose] public section

noncomputable section

namespace Cert.Pre_finite.Hand

open Cert.Pre_finite Idealize.ShloMosaic Idealize.ShloMosaic.ValueIdx Cert.Attn

/-! # The precondition: every argument the results read is a real number -/

instance facts : Cert.Pre_finite.Facts where
  slices_S8192x3072_S8192x1536_0_1536 := by decide
  bitsLt_bf16_f32 := by decide
  bcast_S_S8192x1536 := by decide
  reducesTo_S8192x1536_S_d0_1 := by decide
  h_S_ := by decide
  bcast_S_S8x257 := by decide
  reducesTo_S8x257_S_d0_1 := by decide
  bcast_S_S8192x512 := by decide
  reducesTo_S8192x512_S_d0_1 := by decide

theorem foldl_one {ι : Type} (x : ι → BitVec 1) : ∀ (l : List ι) (a : BitVec 1),
    l.foldl (fun r i => IntOp.andi r (x i)) a = 1#1 → a = 1#1 ∧ ∀ i ∈ l, x i = 1#1
  | [], a, h => ⟨h, fun i hi => absurd hi (List.not_mem_nil)⟩
  | i :: l, a, h => by
    obtain ⟨h1, h2⟩ := foldl_one x l _ h
    have h3 : ∀ p q : BitVec 1, IntOp.andi p q = 1#1 → p = 1#1 ∧ q = 1#1 := by decide
    obtain ⟨ha, hi⟩ := h3 _ _ h1
    exact ⟨ha, fun j hj => by
      rcases List.mem_cons.1 hj with rfl | hj
      · exact hi
      · exact h2 j hj⟩

/-- An `and` over a whole array that comes out one had only ones. -/
theorem all_one {s : Shape} {axes : List (Fin s.rank)} (x : IVec s 1) (v : IVec S_ 1) (h : s.ReducesTo axes S_) (hu : 0 < S_.numel) (j : S_.Idx)
    (e : Host.reduce IntOp.andi x v h hu j = 1#1) (i : s.Idx) : x i = 1#1 := by
  rw [Idealize.ShloMosaic.Host.reduce_eq_foldl] at e
  refine (foldl_one x _ _ e).2 i (List.mem_filter.2 ⟨List.mem_map.2 ⟨s.rowMajor i, List.mem_finRange _, Equiv.symm_apply_apply _ _⟩, ?_⟩)
  exact decide_eq_true (funext fun a => a.elim0)

theorem real_of (x : EReal) (h : Ideal.cmp .olt (max x (-x)) (Ideal.ofBits .f32 0x7F800000#32) = 1#1) : x = (x.toReal : EReal) := by
  have hb : max x (-x) < Ideal.ofBits .f32 0x7F800000#32 := by
    by_contra hn
    have : Ideal.cmp .olt (max x (-x)) (Ideal.ofBits .f32 0x7F800000#32) = 0#1 := by unfold Ideal.cmp; simp [hn]
    rw [this] at h; exact absurd h (by decide)
  rw [show (Ideal.ofBits .f32 0x7F800000#32 : EReal) = ⊤ by simp [Ideal.ofBits, Ideal.ieee]] at hb
  obtain ⟨h1, h2⟩ := max_lt_iff.1 hb
  refine (EReal.coe_toReal h1.ne fun hbot => ?_).symm
  rw [hbot] at h2; exact absurd h2 (by simp)

theorem real3 (x0 : A0) (x1 : A1) (x2 : A2) (e : Cert.Pre_finite.fn (F := Ideal) x0 x1 x2 = fun _ => 1#1) : Real3 x0 x1 x2 := by
  have h3 : ∀ p q : BitVec 1, IntOp.andi p q = 1#1 → p = 1#1 ∧ q = 1#1 := by decide
  have e' := congrFun e (Shape.Idx.first facts.h_S_)
  unfold Cert.Pre_finite.fn at e'
  obtain ⟨e12, e3⟩ := h3 _ _ e'
  obtain ⟨e1, e2⟩ := h3 _ _ e12
  have f1 := all_one _ _ _ _ _ e1
  have f2 := all_one _ _ _ _ _ e2
  have f3 := all_one _ _ _ _ _ e3
  refine ⟨fun r cc hc => ?_, fun i => real_of _ (f2 i), fun i => real_of _ (f3 i)⟩
  have g := real_of _ (f1 (ix2 r (⟨cc.val - 1536, by omega⟩ : Fin 1536)))
  rw [show x0 (ix2 r cc) = extractStridedSlice S8192x1536 ![0, 1536] x0 facts.slices_S8192x3072_S8192x1536_0_1536 (ix2 r (⟨cc.val - 1536, by omega⟩ : Fin 1536)) from
    congrArg x0 (funext fun a => Fin.ext (match a with
      | ⟨0, _⟩ => by show r.val = 0 + r.val; omega
      | ⟨1, _⟩ => by show cc.val = 1536 + (cc.val - 1536); omega))]
  exact g

end Cert.Pre_finite.Hand

end
-- ==== Proof.Agree.lean ====
module

public import proofs.«01_k».proof.Defs
public import proofs.«01_k».proof.Proof.Fold
public import proofs.«01_k».proof.Proof.Pre

@[expose] public section

noncomputable section

namespace Cert.Proof

open Idealize.ShloMosaic Idealize.ShloMosaic.TcCoe Idealize.SL.Sem

/-! # Over the reals the kernel's three results are the reference's -/

section Kernel
open Cert.KernelIdeal Cert.KernelIdeal.Gen Cert.KernelIdeal.Hand Cert.ReferenceIdeal.Read

/-- What the kernel leaves, as the reference's functions of the arguments. -/
theorem kernel_results (m : (ℓ : Loc nD τ sig) → Buf (Elt Ideal) ℓ) (ρ : Dev nD → PrngReg)
    (H : ∀ c : Dev nD, Cert.Attn.Real3 (arg0 m c) (arg1 m c) (arg2 m c)) :
    θ_run (defs (F := Ideal)) (onTc (τ := τ) (main (F := Ideal))) ⟨m, fun _ => 0, ρ⟩ (fun r => ∀ c : Dev nD,
      r.2.mem ((c.tc : Thread nD τ).loc main_v78_0) = val_main_v103 (F := Ideal) (arg0 m c) (arg1 m c) (arg2 m c)
      ∧ r.2.mem ((c.tc : Thread nD τ).loc main_v78_1) = val_main_v105 (F := Ideal) (arg0 m c) (arg1 m c) (arg2 m c)
      ∧ r.2.mem ((c.tc : Thread nD τ).loc main_v78_2) = val_main_v107 (F := Ideal) (arg0 m c) (arg1 m c) (arg2 m c)) :=
  (θ_run defs _ _).mono (fun _ h c => ⟨((h c).1 6).trans (final_dq m c (H c)), ((h c).1 7).trans (final_dk m c (H c)), ((h c).1 8).trans (final_dv m c (H c))⟩)
    (run_main m ρ)

end Kernel

theorem agree : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hpre hargs
  refine ⟨fun c => Cert.ReferenceIdeal.Read.val_main_v103 (F := Ideal) (Cert.KernelIdeal.Hand.arg0 m c) (Cert.KernelIdeal.Hand.arg1 m c) (Cert.KernelIdeal.Hand.arg2 m c),
    fun c => Cert.ReferenceIdeal.Read.val_main_v105 (F := Ideal) (Cert.KernelIdeal.Hand.arg0 m c) (Cert.KernelIdeal.Hand.arg1 m c) (Cert.KernelIdeal.Hand.arg2 m c),
    fun c => Cert.ReferenceIdeal.Read.val_main_v107 (F := Ideal) (Cert.KernelIdeal.Hand.arg0 m c) (Cert.KernelIdeal.Hand.arg1 m c) (Cert.KernelIdeal.Hand.arg2 m c), ?_, ?_⟩
  · refine (θ_run Cert.KernelIdeal.defs _ _).mono (fun _ h c => ⟨(h.1 c).1, (h.1 c).2.1, (h.1 c).2.2, h.2 c⟩)
      (θ_run_and (kernel_results m g fun c => Cert.Pre_finite.Hand.real3 _ _ _ (hpre c)) (Cert.KernelIdeal.Hand.unchanged m g))
  · refine (θ_run Cert.ReferenceIdeal.defs _ _).mono (fun r h c => ?_) (Cert.ReferenceIdeal.Value.run (F := Ideal) m' g')
    obtain ⟨h0, h1, h2, ha⟩ := h c
    obtain ⟨e0, e1, e2⟩ := hargs c
    refine ⟨h0.trans ((Cert.ReferenceIdeal.Read.val_main_v103_eq m' c).trans ?_), h1.trans ((Cert.ReferenceIdeal.Read.val_main_v105_eq m' c).trans ?_),
      h2.trans ((Cert.ReferenceIdeal.Read.val_main_v107_eq m' c).trans ?_), ha⟩
    · rw [e0, e1, e2]
    · rw [e0, e1, e2]
    · rw [e0, e1, e2]

end Cert.Proof

end
-- ==== Proof.WUp.lean ====
module

public import proofs.«01_k».proof.Proof.Gen.UpIdeal.Value
public import proofs.«01_k».proof.Proof.Gen.UpReferenceIdeal.Run
public import Idealize.ShloMosaic.Lib.Tactic
public import Idealize.ShloMosaic.PureOps.Ideal.Laws
public import Idealize.ShloMosaic.Lib.MatmulPlain
public import Idealize.ShloMosaic.Lib.ValueLayout
public import Idealize.ShloMosaic.Lib.ValueIdx
public import Idealize.ShloMosaic.Lib.Pipeline.CanonAppend

@[expose] public section

noncomputable section

namespace Cert.UpIdeal.Hand

open Cert.UpIdeal Cert.UpIdeal.Gen Idealize.ShloMosaic Idealize.ShloMosaic.ValueIdx Idealize.ShloMosaic.TcCoe Idealize.SL.Sem

/-! # The weight gradient of the up projection: what a block of frames adds, and the sum over the blocks -/

abbrev XBlk := Vec Ideal S1024x1024 .f32
abbrev HBlk := Vec Ideal S4x1024x704 .bf16
abbrev Acc := Vec Ideal S4x1024x704 .f32

theorem mulTN_at (x : FVec Ideal S1024x1024 .bf16) (y : FVec Ideal S1024x704 .bf16) (i : Fin 1024) (j : Fin 704) :
    matmul dot_S1024x1024_S1024x704_S1024x704_0_0_1_1_n_n none x y (constant S1024x704 .f32 0x00000000#32) (ix2 i j)
      = ∑ r : Fin 1024, (x (ix2 r i) * y (ix2 r j) : EReal) := by
  let D := dot_S1024x1024_S1024x704_S1024x704_0_0_1_1_n_n
  refine (Ideal.matmul_apply D none x y (constant S1024x704 .f32 0x00000000#32) (ix2 i j)).trans ?_
  rw [← Equiv.sum_comp (contrEquiv1 D 1024 rfl rfl).symm]
  show (Ideal.ofBits .f32 0x00000000#32 : EReal) + _ = _
  rw [Ideal.ofBits_zero_f32, zero_add]
  refine Finset.sum_congr rfl fun r _ => ?_
  have hk := contrEquiv1_symm_val D 1024 rfl rfl r
  have el : D.lhsIdx (ix2 i j) ((contrEquiv1 D 1024 rfl rfl).symm r) = ix2 r i := by
    funext a; apply Fin.ext
    match a with
    | ⟨0, _⟩ => exact hk
    | ⟨1, _⟩ => rfl
  have er : D.rhsIdx (ix2 i j) ((contrEquiv1 D 1024 rfl rfl).symm r) = ix2 r j := by
    funext a; apply Fin.ext
    match a with
    | ⟨0, _⟩ => exact hk
    | ⟨1, _⟩ => rfl
  rw [el, er]

/-- One shard's store: the accumulator's part plus the block's product. -/
def part (z : Vec Ideal S1x1024x704 .f32) (X : XBlk) (D : Vec Ideal S1x1024x704 .bf16) : Vec Ideal S1x1024x704 .f32 :=
  k0_pay5 (F := Ideal) z X D

theorem part_at (z : Vec Ideal S1x1024x704 .f32) (X : XBlk) (D : Vec Ideal S1x1024x704 .bf16) (i : Fin 1024) (j : Fin 704) :
    part z X D (ix3 0 i j) = (z (ix3 0 i j) + ∑ r : Fin 1024, (X (ix2 r i) * D (ix3 0 r j) : EReal) : EReal) := by
  unfold part k0_pay5
  rw [ValueIdx.shapeCast_ab_1ab_apply]
  refine congrArg₂ (· + · : EReal → EReal → EReal) (ValueIdx.shapeCast_1ab_ab_apply z _ i j) ((mulTN_at _ _ i j).trans ?_)
  refine Finset.sum_congr rfl fun r _ => ?_
  exact congrArg (fun e : EReal => (X (ix2 r i) : EReal) * e) (ValueIdx.shapeCast_1ab_ab_apply D _ r j)

theorem pay5_eq (z : Vec Ideal S1x1024x704 .f32) (X : XBlk) (D : Vec Ideal S1x1024x704 .bf16) : k0_pay5 (F := Ideal) z X D = part z X D := rfl
theorem pay6_eq (z : Vec Ideal S1x1024x704 .f32) (X : XBlk) (D : Vec Ideal S1x1024x704 .bf16) : k0_pay6 (F := Ideal) z X D = part z X D := rfl
theorem pay1_eq (z : Vec Ideal S1x1024x704 .f32) (X : XBlk) (D : Vec Ideal S1x1024x704 .bf16) : k0_pay1 (F := Ideal) (k0_pay7 z) X D = part z X D := rfl
theorem pay2_eq (z : Vec Ideal S1x1024x704 .f32) (X : XBlk) (D : Vec Ideal S1x1024x704 .bf16) : k0_pay2 (F := Ideal) z X D = part z X D := rfl

/-- What a block of frames adds at an entry. -/
def blockSum (X : XBlk) (D : HBlk) (s : Fin 4) (i : Fin 1024) (j : Fin 704) : EReal := ∑ r : Fin 1024, (X (ix2 r i) * D (ix3 s r j) : EReal)

/-- A block of frames added to an accumulator. -/
def addBlock (X : XBlk) (D : HBlk) (A : Acc) : Acc := fun y => (A y + blockSum X D (y 0) (y 1) (y 2) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- A shard's store is that shard of the accumulator with the block added. -/
theorem part_eq (o : ℕ) (inb : ∀ a, (![o, 0, 0] : Fin 3 → Nat) a + S1x1024x704.size a ≤ S4x1024x704.size a)
    (X : XBlk) (D : HBlk) (A : Acc) (z : Vec Ideal S1x1024x704 .f32)
    (hzA : ∀ x : S1x1024x704.Idx, z x = A ((Rect.unit (s := S4x1024x704) ![o, 0, 0] S1x1024x704.size inb).emb x)) (x : S1x1024x704.Idx) :
    part z X (View.ld D (Rect.unit (s := S4x1024x704) ![o, 0, 0] S1x1024x704.size inb)) x
      = addBlock X D A ((Rect.unit (s := S4x1024x704) ![o, 0, 0] S1x1024x704.size inb).emb x) := by
  have ho : o < 4 := by have := inb 0; change o + 1 ≤ 4 at this; omega
  have key : ∀ (r : Fin 1024) (j : Fin 704),
      (Rect.unit (s := S4x1024x704) ![o, 0, 0] S1x1024x704.size inb).emb (ix3 0 r j) = ix3 ⟨o, ho⟩ r j := by
    intro r j
    funext a; apply Fin.ext
    match a with
    | ⟨0, _⟩ => show o + 1 * 0 = o; omega
    | ⟨1, _⟩ => show 0 + 1 * r.val = r.val; omega
    | ⟨2, _⟩ => show 0 + 1 * j.val = j.val; omega
  obtain ⟨i, j, rfl⟩ : ∃ (i : Fin 1024) (j : Fin 704), x = ix3 0 i j := by
    refine ⟨x 1, x 2, ?_⟩
    funext a; apply Fin.ext
    match a with
    | ⟨0, _⟩ => have h : (x 0).val < 1 := (x 0).isLt
                show (x 0).val = 0; omega
    | ⟨1, _⟩ => rfl
    | ⟨2, _⟩ => rfl
  rw [part_at, hzA, key]
  refine congrArg (fun e : EReal => (A (ix3 ⟨o, ho⟩ i j) : EReal) + e) (Finset.sum_congr rfl fun r _ => ?_)
  exact congrArg (fun e : EReal => (X (ix2 r i) : EReal) * e) (congrArg D (key r j))

theorem soutB_eq (c : Dev nD) (i : grid0.Coords) (a1 : Memref sig .tc .vmem S1024x1024 .f32) (h1 : a1.IsWhole) (a2 : Memref sig .tc .vmem S4x1024x704 .bf16) (h2 : a2.IsWhole) (a3 : Memref sig .tc .vmem S4x1024x704 .bf16) (h3 : a3.IsWhole) (a4 : Memref sig .tc .vmem S4x1024x704 .f32) (h4 : a4.IsWhole) (hc0 : ¬cond0_0 i) (hc1 : ¬cond0_1 i)
    (X : XBlk) (D : HBlk) (A : Acc) :
    sout0_B_0 c i a1 h1 a2 h2 a3 h3 a4 h4 hc0 hc1 X D A = addBlock X D A := by
  have hcov := scover0_B_0 c i a1 h1 a2 h2 a3 h3 a4 h4 hc0 hc1 X D A
  unfold sout0_B_0
  rw [View.read_writes_eq_canon _ _ _ hcov]
  funext y
  refine View.canon_apply_of_pieces (addBlock X D A) _ ?_ y (hcov y)
  clear hcov
  unfold kernelRun0_B
  dsimp only
  sl_unfold_words
  simp only [View.readAt_eq_ld, h1.read_unread, h2.read_unread, h4.read_unread, View.ld_unit_zero (S := S1024x1024) hz2]
  simp only [pay1_eq, pay2_eq, pay5_eq, pay6_eq]
  refine List.forall_mem_cons.2 ⟨part_eq 3 _ X D A _ (fun _ => rfl), List.forall_mem_cons.2 ⟨part_eq 2 _ X D A _ (fun _ => rfl),
    List.forall_mem_cons.2 ⟨part_eq 1 _ X D A _ (fun _ => rfl), List.forall_mem_cons.2 ⟨part_eq 0 _ X D A _ (fun _ => rfl), ?_⟩⟩⟩⟩
  exact fun p hp => absurd hp List.not_mem_nil

/-- An accumulator's store list outside the shards already stored: the zeros of the reset. -/
def zeros : Acc := fun _ => (0 : EReal)

theorem clear_base (o : ℕ) (inb0) (inb : ∀ a, (![o, 0, 0] : Fin 3 → Nat) a + S1x1024x704.size a ≤ S4x1024x704.size a) (x : S1x1024x704.Idx) :
    View.canon (Val := Elt Ideal) (s := S4x1024x704) (e := .f32) [⟨Rect.unit (s := S4x1024x704) ![0, 0, 0] S4x1024x704.size inb0, k0_pay4 (F := Ideal)⟩]
      ((Rect.unit (s := S4x1024x704) ![o, 0, 0] S1x1024x704.size inb).emb x) = zeros ((Rect.unit (s := S4x1024x704) ![o, 0, 0] S1x1024x704.size inb).emb x) := by
  rw [View.canon_unit_zero (S := S4x1024x704) hz3]
  unfold k0_pay4
  rw [shapeCast_self]
  exact Ideal.ofBits_zero_f32

theorem clear_cons (o o' : ℕ) (h : o' < o) (inb' : ∀ a, (![o', 0, 0] : Fin 3 → Nat) a + S1x1024x704.size a ≤ S4x1024x704.size a)
    (inb : ∀ a, (![o, 0, 0] : Fin 3 → Nat) a + S1x1024x704.size a ≤ S4x1024x704.size a) (w : Vec Ideal S1x1024x704 .f32)
    (L : List (View.Piece (Elt Ideal) S4x1024x704 .f32)) (x : S1x1024x704.Idx)
    (hL : View.canon L ((Rect.unit (s := S4x1024x704) ![o, 0, 0] S1x1024x704.size inb).emb x) = zeros ((Rect.unit (s := S4x1024x704) ![o, 0, 0] S1x1024x704.size inb).emb x)) :
    View.canon ((⟨Rect.unit (s := S4x1024x704) ![o', 0, 0] S1x1024x704.size inb', w⟩ : View.Piece (Elt Ideal) S4x1024x704 .f32) :: L)
      ((Rect.unit (s := S4x1024x704) ![o, 0, 0] S1x1024x704.size inb).emb x) = zeros ((Rect.unit (s := S4x1024x704) ![o, 0, 0] S1x1024x704.size inb).emb x) := by
  rw [View.canon_cons_of_not_mem _ _ (by
    rw [Rect.mem_set_unit]
    intro hall
    have h2 : o + 1 * (x 0).val < o' + 1 := (hall 0).2
    omega), hL]

theorem soutA_eq (c : Dev nD) (i : grid0.Coords) (a1 : Memref sig .tc .vmem S1024x1024 .f32) (h1 : a1.IsWhole) (a2 : Memref sig .tc .vmem S4x1024x704 .bf16) (h2 : a2.IsWhole) (a3 : Memref sig .tc .vmem S4x1024x704 .bf16) (h3 : a3.IsWhole) (a4 : Memref sig .tc .vmem S4x1024x704 .f32) (h4 : a4.IsWhole) (hc0 : cond0_0 i) (hc1 : ¬cond0_1 i)
    (X : XBlk) (D : HBlk) :
    sout0_A_0 c i a1 h1 a2 h2 a3 h3 a4 h4 hc0 hc1 X D = addBlock X D zeros := by
  unfold sout0_A_0
  rw [View.read_writes_junk_eq_canon]
  funext y
  unfold kernelRun0_A
  dsimp only
  sl_unfold_words
  simp only [View.readAt_eq_ld, h1.read_unread, h2.read_unread, View.ld_unit_zero (S := S1024x1024) hz2]
  simp only [pay1_eq, pay2_eq, pay5_eq, pay6_eq]
  refine View.canon_append_of_pieces (addBlock X D zeros) [_] [_, _, _, _] ?_ y ?_
  · refine List.forall_mem_cons.2 ⟨part_eq 3 _ X D zeros _ ?_, List.forall_mem_cons.2 ⟨part_eq 2 _ X D zeros _ ?_,
      List.forall_mem_cons.2 ⟨part_eq 1 _ X D zeros _ ?_, List.forall_mem_cons.2 ⟨part_eq 0 _ X D zeros _ ?_, ?_⟩⟩⟩⟩
    · intro x; rw [View.readCov_eq_canon']
      exact clear_cons 3 2 (by decide) _ _ _ _ x (clear_cons 3 1 (by decide) _ _ _ _ x (clear_cons 3 0 (by decide) _ _ _ _ x (clear_base 3 _ _ x)))
    · intro x; rw [View.readCov_eq_canon']
      exact clear_cons 2 1 (by decide) _ _ _ _ x (clear_cons 2 0 (by decide) _ _ _ _ x (clear_base 2 _ _ x))
    · intro x; rw [View.readCov_eq_canon']
      exact clear_cons 1 0 (by decide) _ _ _ _ x (clear_base 1 _ _ x)
    · intro x; rw [View.readCov_eq_canon']
      exact clear_base 0 _ _ x
    · exact fun p hp => absurd hp List.not_mem_nil
  · exact View.cover_of_tiledL (s := S4x1024x704) _ S1x1024x704.size (by rfl) y

theorem outC_eq (c : Dev nD) (i : grid0.Coords) (a1 : Memref sig .tc .vmem S1024x1024 .f32) (h1 : a1.IsWhole) (a2 : Memref sig .tc .vmem S4x1024x704 .bf16) (h2 : a2.IsWhole) (a3 : Memref sig .tc .vmem S4x1024x704 .bf16) (h3 : a3.IsWhole) (a4 : Memref sig .tc .vmem S4x1024x704 .f32) (h4 : a4.IsWhole) (hc0 : ¬cond0_0 i) (hc1 : cond0_1 i)
    (X : XBlk) (D : HBlk) (A : Acc) (y : S4x1024x704.Idx) :
    (out0_C_2 c i a1 h1 a2 h2 a3 h3 a4 h4 hc0 hc1 X D A y : EReal) = addBlock X D A y := by
  unfold out0_C_2
  rw [View.read_writes_junk_eq_canon]
  unfold kernelRun0_C
  dsimp only
  sl_unfold_words
  rw [View.canon_unit_zero (S := S4x1024x704) hz3]
  unfold k0_pay3
  rw [View.readCov_eq_canon']
  simp only [View.readAt_eq_ld, h1.read_unread, h2.read_unread, h4.read_unread, View.ld_unit_zero (S := S1024x1024) hz2]
  simp only [pay1_eq, pay2_eq, pay5_eq, pay6_eq]
  have e : ∀ B : Acc, B = addBlock X D A → (truncf (F := Ideal) .bf16 B bitsLt_bf16_f32 y : EReal) = addBlock X D A y := by
    rintro _ rfl; rfl
  refine e _ ?_
  clear e y
  funext y
  refine (View.canon_apply_of_pieces (addBlock X D A) _ ?_ _ ?_).trans (congrArg (addBlock X D A) ?_)
  · refine List.forall_mem_cons.2 ⟨part_eq 3 _ X D A _ (fun _ => rfl), List.forall_mem_cons.2 ⟨part_eq 2 _ X D A _ (fun _ => rfl),
      List.forall_mem_cons.2 ⟨part_eq 1 _ X D A _ (fun _ => rfl), List.forall_mem_cons.2 ⟨part_eq 0 _ X D A _ (fun _ => rfl), ?_⟩⟩⟩⟩
    exact fun p hp => absurd hp List.not_mem_nil
  · exact View.cover_of_tiledL (s := S4x1024x704) _ S1x1024x704.size (by rfl) _
  · funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega

/-! ## The sum over the eight blocks of frames -/

variable (m : (ℓ : Loc nD τ sig) → Buf (Elt Ideal) ℓ) (c : Dev nD)

abbrev xs : Vec Ideal S8192x1024 .f32 := m ((c.tc : Thread nD τ).loc main_arg0)
abbrev dh : Vec Ideal S4x8192x704 .bf16 := m ((c.tc : Thread nD τ).loc main_arg1)

/-- Frame `r` of block `k`. -/
def frame (k : Fin 8) (r : Fin 1024) : Fin 8192 := ⟨1024 * k.val + r.val, by omega⟩

theorem sum_blocks (f : Fin 8192 → EReal) : ∑ t, f t = ∑ k : Fin 8, ∑ r : Fin 1024, f (frame k r) := by
  rw [← Fintype.sum_prod_type' (f := fun (k : Fin 8) (r : Fin 1024) => f (frame k r))]
  exact (Equiv.sum_comp (finProdFinEquiv (m := 8) (n := 1024)) f).symm.trans
    (Finset.sum_congr rfl fun x _ => congrArg f (Fin.ext (by simp [finProdFinEquiv, frame]; omega)))

/-- A frame's term of the gradient. -/
def term (s : Fin 4) (i : Fin 1024) (j : Fin 704) (t : Fin 8192) : EReal := (xs m c (ix2 t i) * dh m c (ix3 s t j) : EReal)

/-- A block's terms. -/
def blockTerm (s : Fin 4) (i : Fin 1024) (j : Fin 704) (k : ℕ) : EReal := if h : k < 8 then ∑ r : Fin 1024, term m c s i j (frame ⟨k, h⟩ r) else 0

theorem co0 (t : Fin cfg0.N) : (grid0.coords t 0).val = t.val := by
  have h := Pipeline.Grid.coords_val (G := grid0) t 0 (S := 1) (B := 8) (by decide) (by decide)
  have hN := lt_of_lt_of_eq t.isLt (show cfg0.N = 8 from N_0)
  rw [Nat.div_one, Nat.mod_eq_of_lt hN] at h; exact h

theorem tr (i : grid0.Coords) : (BitVec.ofNat 32 (i 0).val).toNat = (i 0).val := by
  have key : ∀ (p : Fin 8), (BitVec.ofNat 32 p.val).toNat = p.val := by decide +kernel
  exact key (i 0)

theorem iblk_x (t : Fin cfg0.N) (k : Fin 8) (hk : t.val = k.val) (r i : Fin 1024) :
    (iblk m c 0 t : XBlk) (ix2 r i) = xs m c (ix2 (frame k r) i) := by
  unfold iblk
  rw [View.read_apply]
  show V m c main_arg0 _ = xs m c _
  rw [V_main_arg0]
  refine congrArg (xs m c) ?_
  funext a; apply Fin.ext
  match a with
  | ⟨0, _⟩ => show (BitVec.ofNat 32 (grid0.coords t 0).val).toNat * 1024 + 1 * r.val = 1024 * k.val + r.val
              rw [tr, co0]; omega
  | ⟨1, _⟩ => show 0 * 1024 + 1 * i.val = i.val; omega

theorem iblk_h (t : Fin cfg0.N) (k : Fin 8) (hk : t.val = k.val) (s : Fin 4) (r : Fin 1024) (j : Fin 704) :
    (iblk m c 1 t : HBlk) (ix3 s r j) = dh m c (ix3 s (frame k r) j) := by
  unfold iblk
  rw [View.read_apply]
  show V m c main_arg1 _ = dh m c _
  rw [V_main_arg1]
  refine congrArg (dh m c) ?_
  funext a; apply Fin.ext
  match a with
  | ⟨0, _⟩ => show 0 * 4 + 1 * s.val = s.val; omega
  | ⟨1, _⟩ => show (BitVec.ofNat 32 (grid0.coords t 0).val).toNat * 1024 + 1 * r.val = 1024 * k.val + r.val
              rw [tr, co0]; omega
  | ⟨2, _⟩ => show 0 * 704 + 1 * j.val = j.val; omega

theorem blockSum_eq (t : Fin cfg0.N) (s : Fin 4) (i : Fin 1024) (j : Fin 704) :
    blockSum (iblk m c 0 t) (iblk m c 1 t) s i j = blockTerm m c s i j t.val := by
  have hN := lt_of_lt_of_eq t.isLt (show cfg0.N = 8 from N_0)
  unfold blockSum blockTerm term
  rw [dif_pos hN]
  refine Finset.sum_congr rfl fun r _ => ?_
  rw [iblk_x m c t ⟨t.val, hN⟩ rfl, iblk_h m c t ⟨t.val, hN⟩ rfl]

theorem first_eq (t : Fin cfg0.N) (h0 : t.val % 8 = 0) (h1 : ¬t.val % 8 = 7) :
    (outsAt0 m c t.val t.isLt).2 = addBlock (iblk m c 0 t) (iblk m c 1 t) zeros := by
  rw [outsAt0_A m c t h0 h1]
  dsimp only
  exact soutA_eq c _ _ _ _ _ _ _ _ _ _ _ (iblk m c 0 t) (iblk m c 1 t)

theorem next_eq (t : Fin cfg0.N) (h0 : ¬t.val % 8 = 0) (h1 : ¬t.val % 8 = 7) :
    (outsAt0 m c t.val t.isLt).2 = addBlock (iblk m c 0 t) (iblk m c 1 t) (outsAt0 m c (t.val - 1) (Nat.lt_of_le_of_lt (Nat.sub_le _ _) t.isLt)).2 := by
  rw [outsAt0_B m c t h0 h1]
  dsimp only
  exact soutB_eq c _ _ _ _ _ _ _ _ _ _ _ (iblk m c 0 t) (iblk m c 1 t) _

theorem last_eq (t : Fin cfg0.N) (h0 : ¬t.val % 8 = 0) (h1 : t.val % 8 = 7) (y : S4x1024x704.Idx) :
    ((outsAt0 m c t.val t.isLt).1 y : EReal) = addBlock (iblk m c 0 t) (iblk m c 1 t) (outsAt0 m c (t.val - 1) (Nat.lt_of_le_of_lt (Nat.sub_le _ _) t.isLt)).2 y := by
  rw [outsAt0_C m c t h0 h1]
  dsimp only
  exact outC_eq c _ _ _ _ _ _ _ _ _ _ _ (iblk m c 0 t) (iblk m c 1 t) _ y

/-- Before the last block the scratch holds the sum of the blocks so far. -/
theorem scratch_at : ∀ (n : ℕ) (hn : n < cfg0.N), n < 7 → ∀ y : S4x1024x704.Idx,
    ((outsAt0 m c n hn).2 y : EReal) = ∑ k ∈ Finset.range (n + 1), blockTerm m c (y 0) (y 1) (y 2) k
  | 0, hn, _, y => by
    have e : (outsAt0 m c 0 hn).2 = addBlock (iblk m c 0 ⟨0, hn⟩) (iblk m c 1 ⟨0, hn⟩) zeros :=
      first_eq m c ⟨0, hn⟩ rfl (show ¬0 % 8 = 7 by decide)
    rw [e, Finset.sum_range_one]
    show (0 + blockSum _ _ _ _ _ : EReal) = _
    rw [zero_add]; exact blockSum_eq m c ⟨0, hn⟩ _ _ _
  | n + 1, hn, h7, y => by
    have e : (outsAt0 m c (n + 1) hn).2 = addBlock (iblk m c 0 ⟨n + 1, hn⟩) (iblk m c 1 ⟨n + 1, hn⟩) (outsAt0 m c n (Nat.lt_of_succ_lt hn)).2 :=
      next_eq m c ⟨n + 1, hn⟩ (by dsimp only; omega) (by dsimp only; omega)
    rw [e, Finset.sum_range_succ, ← scratch_at n (Nat.lt_of_succ_lt hn) (by omega) y]
    exact congrArg (fun e : EReal => ((outsAt0 m c n (Nat.lt_of_succ_lt hn)).2 y : EReal) + e) (blockSum_eq m c ⟨n + 1, hn⟩ _ _ _)

/-- The gradient of an entry of the weights: the sum over the frames. -/
def wgrad (x : Vec Ideal S8192x1024 .f32) (d : Vec Ideal S4x8192x704 .bf16) : Vec Ideal S4x1024x704 .bf16 := fun y => (∑ t : Fin 8192, (x (ix2 t (y 1)) * d (ix3 (y 0) t (y 2)) : EReal) : EReal)

theorem out_eq (hn : 7 < cfg0.N) : (outsAt0 m c 7 hn).1 = wgrad (xs m c) (dh m c) := by
  funext y
  have e : ((outsAt0 m c 7 hn).1 y : EReal) = addBlock (iblk m c 0 ⟨7, hn⟩) (iblk m c 1 ⟨7, hn⟩) (outsAt0 m c 6 (Nat.lt_of_succ_lt hn)).2 y :=
    last_eq m c ⟨7, hn⟩ (show ¬7 % 8 = 0 by decide) rfl y
  refine e.trans ?_
  show ((outsAt0 m c 6 _).2 y + blockSum _ _ _ _ _ : EReal) = _
  rw [scratch_at m c 6 _ (by decide) y, blockSum_eq m c ⟨7, hn⟩ (y 0) (y 1) (y 2)]
  refine (Finset.sum_range_succ (fun k => blockTerm m c (y 0) (y 1) (y 2) k) 7).symm.trans ?_
  refine (Finset.sum_range (fun k => blockTerm m c (y 0) (y 1) (y 2) k)).trans ?_
  refine Eq.trans ?_ (sum_blocks (term m c (y 0) (y 1) (y 2))).symm
  refine Finset.sum_congr rfl fun k _ => ?_
  unfold blockTerm
  rw [dif_pos k.isLt]

theorem result_eq : Cert.UpIdeal.Value.G2 m c = wgrad (xs m c) (dh m c) := by
  rw [Cert.UpIdeal.Value.G2_last, ← Cert.UpIdeal.Value.outsAt0_sweep m c 7 (lt_of_lt_of_eq (by decide) N_0.symm)]
  exact out_eq m c _

end Cert.UpIdeal.Hand

namespace Cert.UpReferenceIdeal.Hand

open Cert.UpReferenceIdeal Cert.UpReferenceIdeal.Gen Idealize.ShloMosaic Idealize.ShloMosaic.ValueIdx Idealize.ShloMosaic.TcCoe Idealize.SL.Sem

theorem dot_at (d : FVec Ideal S4x704x8192 .f32) (x : FVec Ideal S8192x1024 .f32) (s : Fin 4) (j : Fin 704) (i : Fin 1024) :
    Host.dotGeneral dot_S4x704x8192_S8192x1024_S4x704x1024_2_0_01_1_n_n none d x (ix3 s j i) = ∑ t : Fin 8192, (d (ix3 s j t) * x (ix2 t i) : EReal) := by
  let D := dot_S4x704x8192_S8192x1024_S4x704x1024_2_0_01_1_n_n
  simp only [Host.dotGeneral]
  refine (Ideal.dotGeneral_apply D none _ d x (ix3 s j i)).trans ?_
  rw [← Equiv.sum_comp (contrEquiv1 D 8192 rfl rfl).symm]
  refine Finset.sum_congr rfl fun r _ => ?_
  have hk := contrEquiv1_symm_val D 8192 rfl rfl r
  have el : D.lhsIdx (ix3 s j i) ((contrEquiv1 D 8192 rfl rfl).symm r) = ix3 s j r := by
    funext a; apply Fin.ext
    match a with
    | ⟨0, _⟩ => rfl
    | ⟨1, _⟩ => rfl
    | ⟨2, _⟩ => exact hk
  have er : D.rhsIdx (ix3 s j i) ((contrEquiv1 D 8192 rfl rfl).symm r) = ix2 r i := by
    funext a; apply Fin.ext
    match a with
    | ⟨0, _⟩ => exact hk
    | ⟨1, _⟩ => rfl
  rw [el, er]

theorem outer_at (G : FVec Ideal S4x704x1024 .f32) (s : Fin 4) (i : Fin 1024) (j : Fin 704) :
    (truncf (F := Ideal) .bf16 (transpose S4x1024x704 [0, 2, 1] G transposes_S4x704x1024_S4x1024x704_0_2_1) bitsLt_bf16_f32 (ix3 s i j) : EReal) = G (ix3 s j i) :=
  transpose_apply (s := S4x704x1024) _ G _ _ _ fun a => match a with | ⟨0, _⟩ => rfl | ⟨1, _⟩ => rfl | ⟨2, _⟩ => rfl

theorem inner_at (d : FVec Ideal S4x8192x704 .bf16) (s : Fin 4) (j : Fin 704) (t : Fin 8192) :
    (transpose S4x704x8192 [0, 2, 1] (extf (F := Ideal) .f32 d bitsLt_bf16_f32) transposes_S4x8192x704_S4x704x8192_0_2_1 (ix3 s j t) : EReal) = d (ix3 s t j) :=
  transpose_apply (s := S4x8192x704) _ (extf (F := Ideal) .f32 d bitsLt_bf16_f32) _ _ _ fun a => match a with | ⟨0, _⟩ => rfl | ⟨1, _⟩ => rfl | ⟨2, _⟩ => rfl

theorem term_eq (x : FVec Ideal S8192x1024 .f32) (d : FVec Ideal S4x8192x704 .bf16) :
    truncf .bf16 (transpose S4x1024x704 [0, 2, 1] (Host.dotGeneral dot_S4x704x8192_S8192x1024_S4x704x1024_2_0_01_1_n_n none (transpose S4x704x8192 [0, 2, 1] (extf .f32 d bitsLt_bf16_f32) transposes_S4x8192x704_S4x704x8192_0_2_1) x) transposes_S4x704x1024_S4x1024x704_0_2_1) bitsLt_bf16_f32
      = Cert.UpIdeal.Hand.wgrad x d := by
  funext y
  obtain ⟨s, i, j, rfl⟩ : ∃ (s : Fin 4) (i : Fin 1024) (j : Fin 704), y = ix3 s i j := ⟨y 0, y 1, y 2, eq_ix3 y⟩
  refine Eq.trans (outer_at _ s i j) ?_
  refine (dot_at _ x s j i).trans (Finset.sum_congr rfl fun t _ => ?_)
  refine (congrArg (fun e : EReal => e * (x (ix2 t i) : EReal)) (inner_at d s j t)).trans ?_
  exact mul_comm (d (ix3 s t j) : EReal) (x (ix2 t i) : EReal)

end Cert.UpReferenceIdeal.Hand
end
-- ==== Proof.WDown.lean ====
module

public import proofs.«01_k».proof.Proof.Gen.DownIdeal.Value
public import proofs.«01_k».proof.Proof.Gen.DownReferenceIdeal.Run
public import Idealize.ShloMosaic.Lib.Tactic
public import Idealize.ShloMosaic.PureOps.Ideal.Laws
public import Idealize.ShloMosaic.Lib.MatmulPlain
public import Idealize.ShloMosaic.Lib.ValueLayout
public import Idealize.ShloMosaic.Lib.ValueIdx
public import Idealize.ShloMosaic.Lib.Pipeline.CanonAppend

@[expose] public section

noncomputable section

namespace Cert.DownIdeal.Hand

open Cert.DownIdeal Cert.DownIdeal.Gen Idealize.ShloMosaic Idealize.ShloMosaic.ValueIdx Idealize.ShloMosaic.TcCoe Idealize.SL.Sem

/-! # The weight gradient of the down projection: what a block of frames adds, and the sum over the blocks -/

abbrev HBlk := Vec Ideal S4x1024x704 .bf16
abbrev YBlk := Vec Ideal S1024x1024 .bf16
abbrev Acc := Vec Ideal S4x704x1024 .f32

theorem mulTN_at (x : FVec Ideal S1024x704 .bf16) (y : FVec Ideal S1024x1024 .bf16) (i : Fin 704) (j : Fin 1024) :
    matmul dot_S1024x704_S1024x1024_S704x1024_0_0_1_1_n_n none x y (constant S704x1024 .f32 0x00000000#32) (ix2 i j)
      = ∑ r : Fin 1024, (x (ix2 r i) * y (ix2 r j) : EReal) := by
  let D := dot_S1024x704_S1024x1024_S704x1024_0_0_1_1_n_n
  refine (Ideal.matmul_apply D none x y (constant S704x1024 .f32 0x00000000#32) (ix2 i j)).trans ?_
  rw [← Equiv.sum_comp (contrEquiv1 D 1024 rfl rfl).symm]
  show (Ideal.ofBits .f32 0x00000000#32 : EReal) + _ = _
  rw [Ideal.ofBits_zero_f32, zero_add]
  refine Finset.sum_congr rfl fun r _ => ?_
  have hk := contrEquiv1_symm_val D 1024 rfl rfl r
  have el : D.lhsIdx (ix2 i j) ((contrEquiv1 D 1024 rfl rfl).symm r) = ix2 r i := by
    funext a; apply Fin.ext
    match a with
    | ⟨0, _⟩ => exact hk
    | ⟨1, _⟩ => rfl
  have er : D.rhsIdx (ix2 i j) ((contrEquiv1 D 1024 rfl rfl).symm r) = ix2 r j := by
    funext a; apply Fin.ext
    match a with
    | ⟨0, _⟩ => exact hk
    | ⟨1, _⟩ => rfl
  rw [el, er]

/-- One shard's store: the accumulator's part plus the block's product. -/
def part (z : Vec Ideal S1x704x1024 .f32) (H : Vec Ideal S1x1024x704 .bf16) (Y : YBlk) : Vec Ideal S1x704x1024 .f32 :=
  k0_pay5 (F := Ideal) z H Y

theorem part_at (z : Vec Ideal S1x704x1024 .f32) (H : Vec Ideal S1x1024x704 .bf16) (Y : YBlk) (i : Fin 704) (j : Fin 1024) :
    part z H Y (ix3 0 i j) = (z (ix3 0 i j) + ∑ r : Fin 1024, (H (ix3 0 r i) * Y (ix2 r j) : EReal) : EReal) := by
  unfold part k0_pay5
  rw [ValueIdx.shapeCast_ab_1ab_apply]
  refine congrArg₂ (· + · : EReal → EReal → EReal) (ValueIdx.shapeCast_1ab_ab_apply z _ i j) ((mulTN_at _ _ i j).trans ?_)
  refine Finset.sum_congr rfl fun r _ => ?_
  exact congrArg (fun e : EReal => e * (Y (ix2 r j) : EReal)) (ValueIdx.shapeCast_1ab_ab_apply H _ r i)

theorem pay5_eq (z : Vec Ideal S1x704x1024 .f32) (H : Vec Ideal S1x1024x704 .bf16) (Y : YBlk) : k0_pay5 (F := Ideal) z H Y = part z H Y := rfl
theorem pay6_eq (z : Vec Ideal S1x704x1024 .f32) (H : Vec Ideal S1x1024x704 .bf16) (Y : YBlk) : k0_pay6 (F := Ideal) z H Y = part z H Y := rfl
theorem pay1_eq (z : Vec Ideal S1x704x1024 .f32) (H : Vec Ideal S1x1024x704 .bf16) (Y : YBlk) : k0_pay1 (F := Ideal) (k0_pay7 z) H Y = part z H Y := rfl
theorem pay2_eq (z : Vec Ideal S1x704x1024 .f32) (H : Vec Ideal S1x1024x704 .bf16) (Y : YBlk) : k0_pay2 (F := Ideal) z H Y = part z H Y := rfl

/-- What a block of frames adds at an entry. -/
def blockSum (H : HBlk) (Y : YBlk) (s : Fin 4) (i : Fin 704) (j : Fin 1024) : EReal := ∑ r : Fin 1024, (H (ix3 s r i) * Y (ix2 r j) : EReal)

/-- A block of frames added to an accumulator. -/
def addBlock (H : HBlk) (Y : YBlk) (A : Acc) : Acc := fun y => (A y + blockSum H Y (y 0) (y 1) (y 2) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- A shard's store is that shard of the accumulator with the block added. -/
theorem part_eq (o : ℕ) (inbH : ∀ a, (![o, 0, 0] : Fin 3 → Nat) a + S1x1024x704.size a ≤ S4x1024x704.size a)
    (inb : ∀ a, (![o, 0, 0] : Fin 3 → Nat) a + S1x704x1024.size a ≤ S4x704x1024.size a)
    (H : HBlk) (Y : YBlk) (A : Acc) (z : Vec Ideal S1x704x1024 .f32)
    (hzA : ∀ x : S1x704x1024.Idx, z x = A ((Rect.unit (s := S4x704x1024) ![o, 0, 0] S1x704x1024.size inb).emb x)) (x : S1x704x1024.Idx) :
    part z (View.ld H (Rect.unit (s := S4x1024x704) ![o, 0, 0] S1x1024x704.size inbH)) Y x
      = addBlock H Y A ((Rect.unit (s := S4x704x1024) ![o, 0, 0] S1x704x1024.size inb).emb x) := by
  have ho : o < 4 := by have := inb 0; change o + 1 ≤ 4 at this; omega
  have key : ∀ (r : Fin 704) (j : Fin 1024),
      (Rect.unit (s := S4x704x1024) ![o, 0, 0] S1x704x1024.size inb).emb (ix3 0 r j) = ix3 ⟨o, ho⟩ r j := by
    intro r j
    funext a; apply Fin.ext
    match a with
    | ⟨0, _⟩ => show o + 1 * 0 = o; omega
    | ⟨1, _⟩ => show 0 + 1 * r.val = r.val; omega
    | ⟨2, _⟩ => show 0 + 1 * j.val = j.val; omega
  have keyH : ∀ (r : Fin 1024) (j : Fin 704),
      (Rect.unit (s := S4x1024x704) ![o, 0, 0] S1x1024x704.size inbH).idx (ix3 0 r j) = ix3 ⟨o, ho⟩ r j := by
    intro r j
    funext a; apply Fin.ext
    match a with
    | ⟨0, _⟩ => show o + 1 * 0 = o; omega
    | ⟨1, _⟩ => show 0 + 1 * r.val = r.val; omega
    | ⟨2, _⟩ => show 0 + 1 * j.val = j.val; omega
  obtain ⟨i, j, rfl⟩ : ∃ (i : Fin 704) (j : Fin 1024), x = ix3 0 i j := by
    refine ⟨x 1, x 2, ?_⟩
    funext a; apply Fin.ext
    match a with
    | ⟨0, _⟩ => have h : (x 0).val < 1 := (x 0).isLt
                show (x 0).val = 0; omega
    | ⟨1, _⟩ => rfl
    | ⟨2, _⟩ => rfl
  rw [part_at, hzA, key]
  refine congrArg (fun e : EReal => (A (ix3 ⟨o, ho⟩ i j) : EReal) + e) (Finset.sum_congr rfl fun r _ => ?_)
  exact congrArg (fun e : EReal => e * (Y (ix2 r j) : EReal)) (congrArg H (keyH r i))

theorem soutB_eq (c : Dev nD) (i : grid0.Coords) (a1 : Memref sig .tc .vmem S4x1024x704 .bf16) (h1 : a1.IsWhole) (a2 : Memref sig .tc .vmem S1024x1024 .bf16) (h2 : a2.IsWhole) (a3 : Memref sig .tc .vmem S4x704x1024 .bf16) (h3 : a3.IsWhole) (a4 : Memref sig .tc .vmem S4x704x1024 .f32) (h4 : a4.IsWhole) (hc0 : ¬cond0_0 i) (hc1 : ¬cond0_1 i)
    (H : HBlk) (Y : YBlk) (A : Acc) :
    sout0_B_0 c i a1 h1 a2 h2 a3 h3 a4 h4 hc0 hc1 H Y A = addBlock H Y A := by
  have hcov := scover0_B_0 c i a1 h1 a2 h2 a3 h3 a4 h4 hc0 hc1 H Y A
  unfold sout0_B_0
  rw [View.read_writes_eq_canon _ _ _ hcov]
  funext y
  refine View.canon_apply_of_pieces (addBlock H Y A) _ ?_ y (hcov y)
  clear hcov
  unfold kernelRun0_B
  dsimp only
  sl_unfold_words
  simp only [View.readAt_eq_ld, h1.read_unread, h2.read_unread, h4.read_unread, View.ld_unit_zero (S := S1024x1024) hz2]
  simp only [pay1_eq, pay2_eq, pay5_eq, pay6_eq]
  refine List.forall_mem_cons.2 ⟨part_eq 3 _ _ H Y A _ (fun _ => rfl), List.forall_mem_cons.2 ⟨part_eq 2 _ _ H Y A _ (fun _ => rfl),
    List.forall_mem_cons.2 ⟨part_eq 1 _ _ H Y A _ (fun _ => rfl), List.forall_mem_cons.2 ⟨part_eq 0 _ _ H Y A _ (fun _ => rfl), ?_⟩⟩⟩⟩
  exact fun p hp => absurd hp List.not_mem_nil

/-- An accumulator's store list outside the shards already stored: the zeros of the reset. -/
def zeros : Acc := fun _ => (0 : EReal)

theorem clear_base (o : ℕ) (inb0) (inb : ∀ a, (![o, 0, 0] : Fin 3 → Nat) a + S1x704x1024.size a ≤ S4x704x1024.size a) (x : S1x704x1024.Idx) :
    View.canon (Val := Elt Ideal) (s := S4x704x1024) (e := .f32) [⟨Rect.unit (s := S4x704x1024) ![0, 0, 0] S4x704x1024.size inb0, k0_pay4 (F := Ideal)⟩]
      ((Rect.unit (s := S4x704x1024) ![o, 0, 0] S1x704x1024.size inb).emb x) = zeros ((Rect.unit (s := S4x704x1024) ![o, 0, 0] S1x704x1024.size inb).emb x) := by
  rw [View.canon_unit_zero (S := S4x704x1024) hz3]
  unfold k0_pay4
  rw [shapeCast_self]
  exact Ideal.ofBits_zero_f32

theorem clear_cons (o o' : ℕ) (h : o' < o) (inb' : ∀ a, (![o', 0, 0] : Fin 3 → Nat) a + S1x704x1024.size a ≤ S4x704x1024.size a)
    (inb : ∀ a, (![o, 0, 0] : Fin 3 → Nat) a + S1x704x1024.size a ≤ S4x704x1024.size a) (w : Vec Ideal S1x704x1024 .f32)
    (L : List (View.Piece (Elt Ideal) S4x704x1024 .f32)) (x : S1x704x1024.Idx)
    (hL : View.canon L ((Rect.unit (s := S4x704x1024) ![o, 0, 0] S1x704x1024.size inb).emb x) = zeros ((Rect.unit (s := S4x704x1024) ![o, 0, 0] S1x704x1024.size inb).emb x)) :
    View.canon ((⟨Rect.unit (s := S4x704x1024) ![o', 0, 0] S1x704x1024.size inb', w⟩ : View.Piece (Elt Ideal) S4x704x1024 .f32) :: L)
      ((Rect.unit (s := S4x704x1024) ![o, 0, 0] S1x704x1024.size inb).emb x) = zeros ((Rect.unit (s := S4x704x1024) ![o, 0, 0] S1x704x1024.size inb).emb x) := by
  rw [View.canon_cons_of_not_mem _ _ (by
    rw [Rect.mem_set_unit]
    intro hall
    have h2 : o + 1 * (x 0).val < o' + 1 := (hall 0).2
    omega), hL]

theorem inb4 (o : ℕ) (h : o < 4) : ∀ a, (![o, 0, 0] : Fin 3 → Nat) a + S1x704x1024.size a ≤ S4x704x1024.size a
  | ⟨0, _⟩ => h
  | ⟨1, _⟩ => Nat.le_refl 704
  | ⟨2, _⟩ => Nat.le_refl 1024

theorem soutA_eq (c : Dev nD) (i : grid0.Coords) (a1 : Memref sig .tc .vmem S4x1024x704 .bf16) (h1 : a1.IsWhole) (a2 : Memref sig .tc .vmem S1024x1024 .bf16) (h2 : a2.IsWhole) (a3 : Memref sig .tc .vmem S4x704x1024 .bf16) (h3 : a3.IsWhole) (a4 : Memref sig .tc .vmem S4x704x1024 .f32) (h4 : a4.IsWhole) (hc0 : cond0_0 i) (hc1 : ¬cond0_1 i)
    (H : HBlk) (Y : YBlk) :
    sout0_A_0 c i a1 h1 a2 h2 a3 h3 a4 h4 hc0 hc1 H Y = addBlock H Y zeros := by
  unfold sout0_A_0
  rw [View.read_writes_junk_eq_canon]
  funext y
  unfold kernelRun0_A
  dsimp only
  sl_unfold_words
  simp only [View.readAt_eq_ld, h1.read_unread, h2.read_unread, View.ld_unit_zero (S := S1024x1024) hz2]
  simp only [pay1_eq, pay2_eq, pay5_eq, pay6_eq]
  refine View.canon_append_of_pieces (addBlock H Y zeros) [_] [_, _, _, _] ?_ y ?_
  · refine List.forall_mem_cons.2 ⟨part_eq 3 _ (inb4 3 (by decide)) H Y zeros _ ?_, List.forall_mem_cons.2 ⟨part_eq 2 _ (inb4 2 (by decide)) H Y zeros _ ?_,
      List.forall_mem_cons.2 ⟨part_eq 1 _ (inb4 1 (by decide)) H Y zeros _ ?_, List.forall_mem_cons.2 ⟨part_eq 0 _ (inb4 0 (by decide)) H Y zeros _ ?_, ?_⟩⟩⟩⟩
    · intro x; rw [View.readCov_eq_canon']
      exact clear_cons 3 2 (by decide) _ _ _ _ x (clear_cons 3 1 (by decide) _ _ _ _ x (clear_cons 3 0 (by decide) _ _ _ _ x (clear_base 3 _ _ x)))
    · intro x; rw [View.readCov_eq_canon']
      exact clear_cons 2 1 (by decide) _ _ _ _ x (clear_cons 2 0 (by decide) _ _ _ _ x (clear_base 2 _ _ x))
    · intro x; rw [View.readCov_eq_canon']
      exact clear_cons 1 0 (by decide) _ _ _ _ x (clear_base 1 _ _ x)
    · intro x; rw [View.readCov_eq_canon']
      exact clear_base 0 _ _ x
    · exact fun p hp => absurd hp List.not_mem_nil
  · exact View.cover_of_tiledL (s := S4x704x1024) _ S1x704x1024.size (by rfl) y

theorem outC_eq (c : Dev nD) (i : grid0.Coords) (a1 : Memref sig .tc .vmem S4x1024x704 .bf16) (h1 : a1.IsWhole) (a2 : Memref sig .tc .vmem S1024x1024 .bf16) (h2 : a2.IsWhole) (a3 : Memref sig .tc .vmem S4x704x1024 .bf16) (h3 : a3.IsWhole) (a4 : Memref sig .tc .vmem S4x704x1024 .f32) (h4 : a4.IsWhole) (hc0 : ¬cond0_0 i) (hc1 : cond0_1 i)
    (H : HBlk) (Y : YBlk) (A : Acc) (y : S4x704x1024.Idx) :
    (out0_C_2 c i a1 h1 a2 h2 a3 h3 a4 h4 hc0 hc1 H Y A y : EReal) = addBlock H Y A y := by
  unfold out0_C_2
  rw [View.read_writes_junk_eq_canon]
  unfold kernelRun0_C
  dsimp only
  sl_unfold_words
  rw [View.canon_unit_zero (S := S4x704x1024) hz3]
  unfold k0_pay3
  rw [View.readCov_eq_canon']
  simp only [View.readAt_eq_ld, h1.read_unread, h2.read_unread, h4.read_unread, View.ld_unit_zero (S := S1024x1024) hz2]
  simp only [pay1_eq, pay2_eq, pay5_eq, pay6_eq]
  have e : ∀ B : Acc, B = addBlock H Y A → (truncf (F := Ideal) .bf16 B bitsLt_bf16_f32 y : EReal) = addBlock H Y A y := by
    rintro _ rfl; rfl
  refine e _ ?_
  clear e y
  funext y
  refine (View.canon_apply_of_pieces (addBlock H Y A) _ ?_ _ ?_).trans (congrArg (addBlock H Y A) ?_)
  · refine List.forall_mem_cons.2 ⟨part_eq 3 _ _ H Y A _ (fun _ => rfl), List.forall_mem_cons.2 ⟨part_eq 2 _ _ H Y A _ (fun _ => rfl),
      List.forall_mem_cons.2 ⟨part_eq 1 _ _ H Y A _ (fun _ => rfl), List.forall_mem_cons.2 ⟨part_eq 0 _ _ H Y A _ (fun _ => rfl), ?_⟩⟩⟩⟩
    exact fun p hp => absurd hp List.not_mem_nil
  · exact View.cover_of_tiledL (s := S4x704x1024) _ S1x704x1024.size (by rfl) _
  · funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega

/-! ## The sum over the eight blocks of frames -/

variable (m : (ℓ : Loc nD τ sig) → Buf (Elt Ideal) ℓ) (c : Dev nD)

abbrev hs : Vec Ideal S4x8192x704 .bf16 := m ((c.tc : Thread nD τ).loc main_arg0)
abbrev dy : Vec Ideal S8192x1024 .bf16 := m ((c.tc : Thread nD τ).loc main_arg1)

/-- Frame `r` of block `k`. -/
def frame (k : Fin 8) (r : Fin 1024) : Fin 8192 := ⟨1024 * k.val + r.val, by omega⟩

theorem sum_blocks (f : Fin 8192 → EReal) : ∑ t, f t = ∑ k : Fin 8, ∑ r : Fin 1024, f (frame k r) := by
  rw [← Fintype.sum_prod_type' (f := fun (k : Fin 8) (r : Fin 1024) => f (frame k r))]
  exact (Equiv.sum_comp (finProdFinEquiv (m := 8) (n := 1024)) f).symm.trans
    (Finset.sum_congr rfl fun x _ => congrArg f (Fin.ext (by simp [finProdFinEquiv, frame]; omega)))

/-- A frame's term of the gradient. -/
def term (s : Fin 4) (i : Fin 704) (j : Fin 1024) (t : Fin 8192) : EReal := (hs m c (ix3 s t i) * dy m c (ix2 t j) : EReal)

/-- A block's terms. -/
def blockTerm (s : Fin 4) (i : Fin 704) (j : Fin 1024) (k : ℕ) : EReal := if h : k < 8 then ∑ r : Fin 1024, term m c s i j (frame ⟨k, h⟩ r) else 0

theorem co0 (t : Fin cfg0.N) : (grid0.coords t 0).val = t.val := by
  have h := Pipeline.Grid.coords_val (G := grid0) t 0 (S := 1) (B := 8) (by decide) (by decide)
  have hN := lt_of_lt_of_eq t.isLt (show cfg0.N = 8 from N_0)
  rw [Nat.div_one, Nat.mod_eq_of_lt hN] at h; exact h

theorem tr (i : grid0.Coords) : (BitVec.ofNat 32 (i 0).val).toNat = (i 0).val := by
  have key : ∀ (p : Fin 8), (BitVec.ofNat 32 p.val).toNat = p.val := by decide +kernel
  exact key (i 0)

theorem iblk_h (t : Fin cfg0.N) (k : Fin 8) (hk : t.val = k.val) (s : Fin 4) (r : Fin 1024) (j : Fin 704) :
    (iblk m c 0 t : HBlk) (ix3 s r j) = hs m c (ix3 s (frame k r) j) := by
  unfold iblk
  rw [View.read_apply]
  show V m c main_arg0 _ = hs m c _
  rw [V_main_arg0]
  refine congrArg (hs m c) ?_
  funext a; apply Fin.ext
  match a with
  | ⟨0, _⟩ => show 0 * 4 + 1 * s.val = s.val; omega
  | ⟨1, _⟩ => show (BitVec.ofNat 32 (grid0.coords t 0).val).toNat * 1024 + 1 * r.val = 1024 * k.val + r.val
              rw [tr, co0]; omega
  | ⟨2, _⟩ => show 0 * 704 + 1 * j.val = j.val; omega

theorem iblk_y (t : Fin cfg0.N) (k : Fin 8) (hk : t.val = k.val) (r i : Fin 1024) :
    (iblk m c 1 t : YBlk) (ix2 r i) = dy m c (ix2 (frame k r) i) := by
  unfold iblk
  rw [View.read_apply]
  show V m c main_arg1 _ = dy m c _
  rw [V_main_arg1]
  refine congrArg (dy m c) ?_
  funext a; apply Fin.ext
  match a with
  | ⟨0, _⟩ => show (BitVec.ofNat 32 (grid0.coords t 0).val).toNat * 1024 + 1 * r.val = 1024 * k.val + r.val
              rw [tr, co0]; omega
  | ⟨1, _⟩ => show 0 * 1024 + 1 * i.val = i.val; omega

theorem blockSum_eq (t : Fin cfg0.N) (s : Fin 4) (i : Fin 704) (j : Fin 1024) :
    blockSum (iblk m c 0 t) (iblk m c 1 t) s i j = blockTerm m c s i j t.val := by
  have hN := lt_of_lt_of_eq t.isLt (show cfg0.N = 8 from N_0)
  unfold blockSum blockTerm term
  rw [dif_pos hN]
  refine Finset.sum_congr rfl fun r _ => ?_
  rw [iblk_h m c t ⟨t.val, hN⟩ rfl, iblk_y m c t ⟨t.val, hN⟩ rfl]

theorem first_eq (t : Fin cfg0.N) (h0 : t.val % 8 = 0) (h1 : ¬t.val % 8 = 7) :
    (outsAt0 m c t.val t.isLt).2 = addBlock (iblk m c 0 t) (iblk m c 1 t) zeros := by
  rw [outsAt0_A m c t h0 h1]
  dsimp only
  exact soutA_eq c _ _ _ _ _ _ _ _ _ _ _ (iblk m c 0 t) (iblk m c 1 t)

theorem next_eq (t : Fin cfg0.N) (h0 : ¬t.val % 8 = 0) (h1 : ¬t.val % 8 = 7) :
    (outsAt0 m c t.val t.isLt).2 = addBlock (iblk m c 0 t) (iblk m c 1 t) (outsAt0 m c (t.val - 1) (Nat.lt_of_le_of_lt (Nat.sub_le _ _) t.isLt)).2 := by
  rw [outsAt0_B m c t h0 h1]
  dsimp only
  exact soutB_eq c _ _ _ _ _ _ _ _ _ _ _ (iblk m c 0 t) (iblk m c 1 t) _

theorem last_eq (t : Fin cfg0.N) (h0 : ¬t.val % 8 = 0) (h1 : t.val % 8 = 7) (y : S4x704x1024.Idx) :
    ((outsAt0 m c t.val t.isLt).1 y : EReal) = addBlock (iblk m c 0 t) (iblk m c 1 t) (outsAt0 m c (t.val - 1) (Nat.lt_of_le_of_lt (Nat.sub_le _ _) t.isLt)).2 y := by
  rw [outsAt0_C m c t h0 h1]
  dsimp only
  exact outC_eq c _ _ _ _ _ _ _ _ _ _ _ (iblk m c 0 t) (iblk m c 1 t) _ y

/-- Before the last block the scratch holds the sum of the blocks so far. -/
theorem scratch_at : ∀ (n : ℕ) (hn : n < cfg0.N), n < 7 → ∀ y : S4x704x1024.Idx,
    ((outsAt0 m c n hn).2 y : EReal) = ∑ k ∈ Finset.range (n + 1), blockTerm m c (y 0) (y 1) (y 2) k
  | 0, hn, _, y => by
    have e : (outsAt0 m c 0 hn).2 = addBlock (iblk m c 0 ⟨0, hn⟩) (iblk m c 1 ⟨0, hn⟩) zeros :=
      first_eq m c ⟨0, hn⟩ rfl (show ¬0 % 8 = 7 by decide)
    rw [e, Finset.sum_range_one]
    show (0 + blockSum _ _ _ _ _ : EReal) = _
    rw [zero_add]; exact blockSum_eq m c ⟨0, hn⟩ _ _ _
  | n + 1, hn, h7, y => by
    have e : (outsAt0 m c (n + 1) hn).2 = addBlock (iblk m c 0 ⟨n + 1, hn⟩) (iblk m c 1 ⟨n + 1, hn⟩) (outsAt0 m c n (Nat.lt_of_succ_lt hn)).2 :=
      next_eq m c ⟨n + 1, hn⟩ (by dsimp only; omega) (by dsimp only; omega)
    rw [e, Finset.sum_range_succ, ← scratch_at n (Nat.lt_of_succ_lt hn) (by omega) y]
    exact congrArg (fun e : EReal => ((outsAt0 m c n (Nat.lt_of_succ_lt hn)).2 y : EReal) + e) (blockSum_eq m c ⟨n + 1, hn⟩ _ _ _)

/-- The gradient of an entry of the weights: the sum over the frames. -/
def wgrad (h : Vec Ideal S4x8192x704 .bf16) (g : Vec Ideal S8192x1024 .bf16) : Vec Ideal S4x704x1024 .bf16 := fun y => (∑ t : Fin 8192, (h (ix3 (y 0) t (y 1)) * g (ix2 t (y 2)) : EReal) : EReal)

theorem out_eq (hn : 7 < cfg0.N) : (outsAt0 m c 7 hn).1 = wgrad (hs m c) (dy m c) := by
  funext y
  have e : ((outsAt0 m c 7 hn).1 y : EReal) = addBlock (iblk m c 0 ⟨7, hn⟩) (iblk m c 1 ⟨7, hn⟩) (outsAt0 m c 6 (Nat.lt_of_succ_lt hn)).2 y :=
    last_eq m c ⟨7, hn⟩ (show ¬7 % 8 = 0 by decide) rfl y
  refine e.trans ?_
  show ((outsAt0 m c 6 _).2 y + blockSum _ _ _ _ _ : EReal) = _
  rw [scratch_at m c 6 _ (by decide) y, blockSum_eq m c ⟨7, hn⟩ (y 0) (y 1) (y 2)]
  refine (Finset.sum_range_succ (fun k => blockTerm m c (y 0) (y 1) (y 2) k) 7).symm.trans ?_
  refine (Finset.sum_range (fun k => blockTerm m c (y 0) (y 1) (y 2) k)).trans ?_
  refine Eq.trans ?_ (sum_blocks (term m c (y 0) (y 1) (y 2))).symm
  refine Finset.sum_congr rfl fun k _ => ?_
  unfold blockTerm
  rw [dif_pos k.isLt]

theorem result_eq : Cert.DownIdeal.Value.G2 m c = wgrad (hs m c) (dy m c) := by
  rw [Cert.DownIdeal.Value.G2_last, ← Cert.DownIdeal.Value.outsAt0_sweep m c 7 (lt_of_lt_of_eq (by decide) N_0.symm)]
  exact out_eq m c _

end Cert.DownIdeal.Hand

namespace Cert.DownReferenceIdeal.Hand

open Cert.DownReferenceIdeal Cert.DownReferenceIdeal.Gen Idealize.ShloMosaic Idealize.ShloMosaic.ValueIdx Idealize.ShloMosaic.TcCoe Idealize.SL.Sem

theorem dot_at (g : FVec Ideal S8192x1024 .f32) (h : FVec Ideal S4x8192x704 .f32) (j : Fin 1024) (s : Fin 4) (i : Fin 704) :
    Host.dotGeneral dot_S8192x1024_S4x8192x704_S1024x4x704_0_1_1_02_n_n none g h (ix3 j s i) = ∑ t : Fin 8192, (g (ix2 t j) * h (ix3 s t i) : EReal) := by
  let D := dot_S8192x1024_S4x8192x704_S1024x4x704_0_1_1_02_n_n
  simp only [Host.dotGeneral]
  refine (Ideal.dotGeneral_apply D none _ g h (ix3 j s i)).trans ?_
  rw [← Equiv.sum_comp (contrEquiv1 D 8192 rfl rfl).symm]
  refine Finset.sum_congr rfl fun r _ => ?_
  have hk := contrEquiv1_symm_val D 8192 rfl rfl r
  have el : D.lhsIdx (ix3 j s i) ((contrEquiv1 D 8192 rfl rfl).symm r) = ix2 r j := by
    funext a; apply Fin.ext
    match a with
    | ⟨0, _⟩ => exact hk
    | ⟨1, _⟩ => rfl
  have er : D.rhsIdx (ix3 j s i) ((contrEquiv1 D 8192 rfl rfl).symm r) = ix3 s r i := by
    funext a; apply Fin.ext
    match a with
    | ⟨0, _⟩ => rfl
    | ⟨1, _⟩ => exact hk
    | ⟨2, _⟩ => rfl
  rw [el, er]

theorem outer_at (G : FVec Ideal S1024x4x704 .f32) (s : Fin 4) (i : Fin 704) (j : Fin 1024) :
    (truncf (F := Ideal) .bf16 (transpose S4x704x1024 [1, 2, 0] G transposes_S1024x4x704_S4x704x1024_1_2_0) bitsLt_bf16_f32 (ix3 s i j) : EReal) = G (ix3 j s i) :=
  transpose_apply (s := S1024x4x704) _ G _ _ _ fun a => match a with | ⟨0, _⟩ => rfl | ⟨1, _⟩ => rfl | ⟨2, _⟩ => rfl

theorem term_eq (h : FVec Ideal S4x8192x704 .bf16) (g : FVec Ideal S8192x1024 .bf16) :
    truncf .bf16 (transpose S4x704x1024 [1, 2, 0] (Host.dotGeneral dot_S8192x1024_S4x8192x704_S1024x4x704_0_1_1_02_n_n none (extf .f32 g bitsLt_bf16_f32) (extf .f32 h bitsLt_bf16_f32)) transposes_S1024x4x704_S4x704x1024_1_2_0) bitsLt_bf16_f32
      = Cert.DownIdeal.Hand.wgrad h g := by
  funext y
  obtain ⟨s, i, j, rfl⟩ : ∃ (s : Fin 4) (i : Fin 704) (j : Fin 1024), y = ix3 s i j := ⟨y 0, y 1, y 2, eq_ix3 y⟩
  refine Eq.trans (outer_at _ s i j) ?_
  refine (dot_at _ _ j s i).trans (Finset.sum_congr rfl fun t _ => ?_)
  exact mul_comm (g (ix2 t j) : EReal) (h (ix3 s t i) : EReal)

end Cert.DownReferenceIdeal.Hand
end
-- ==== Proof.WGate.lean ====
module

public import proofs.«01_k».proof.Proof.Gen.GateIdeal.Value
public import proofs.«01_k».proof.Proof.Gen.GateReferenceIdeal.Run
public import proofs.«01_k».proof.Pre_finite_gate
public import proofs.«01_k».proof.Proof.Pre
public import Idealize.ShloMosaic.Lib.Tactic
public import Idealize.ShloMosaic.PureOps.Ideal.Laws
public import Idealize.ShloMosaic.Lib.MatmulPlain
public import Idealize.ShloMosaic.Lib.ValueLayout
public import Idealize.ShloMosaic.Lib.ValueIdx

@[expose] public section

noncomputable section

namespace Cert.GateIdeal.Hand

open Cert.GateIdeal Cert.GateIdeal.Gen Idealize.ShloMosaic Idealize.ShloMosaic.ValueIdx Idealize.ShloMosaic.TcCoe Idealize.SL.Sem

/-! # The gate's gradient: what a block of frames leaves, and the two arrays -/

abbrev YBlk := Vec Ideal S512x1024 .bf16
abbrev HBlk := Vec Ideal S4x512x704 .bf16
abbrev WBlk := Vec Ideal S1x4x704x1024 .bf16
abbrev Tile := Vec Ideal S1x128x704 .bf16

theorem mul_at (x : FVec Ideal S512x1024 .bf16) (w : FVec Ideal S704x1024 .bf16) (i : Fin 512) (j : Fin 704) :
    matmul dot_S512x1024_S704x1024_S512x704_1_1_0_0_n_n none x w (constant S512x704 .f32 0x00000000#32) (ix2 i j)
      = ∑ r : Fin 1024, (x (ix2 i r) * w (ix2 j r) : EReal) := by
  let D := dot_S512x1024_S704x1024_S512x704_1_1_0_0_n_n
  refine (Ideal.matmul_apply D none x w (constant S512x704 .f32 0x00000000#32) (ix2 i j)).trans ?_
  rw [← Equiv.sum_comp (contrEquiv1 D 1024 rfl rfl).symm]
  show (Ideal.ofBits .f32 0x00000000#32 : EReal) + _ = _
  rw [Ideal.ofBits_zero_f32, zero_add]
  refine Finset.sum_congr rfl fun r _ => ?_
  have hk := contrEquiv1_symm_val D 1024 rfl rfl r
  have el : D.lhsIdx (ix2 i j) ((contrEquiv1 D 1024 rfl rfl).symm r) = ix2 i r := by
    funext a; apply Fin.ext
    match a with
    | ⟨0, _⟩ => rfl
    | ⟨1, _⟩ => exact hk
  have er : D.rhsIdx (ix2 i j) ((contrEquiv1 D 1024 rfl rfl).symm r) = ix2 j r := by
    funext a; apply Fin.ext
    match a with
    | ⟨0, _⟩ => rfl
    | ⟨1, _⟩ => exact hk
  rw [el, er]

/-- A shard's slice of the weights, its two unit axes dropped. -/
theorem shard_at (w : Vec Ideal S1x1x704x1024 .bf16) (h : S1x1x704x1024.ShapeCasts S704x1024) (i : Fin 704) (j : Fin 1024) :
    (shapeCast S704x1024 w h (ix2 i j) : EReal) = w (ix4 0 0 i j) := by
  refine shapeCast_apply w h (ix2 i j) (ix4 0 0 i j) ?_
  rw [Shape.rowMajor_val_four, Shape.rowMajor_val_two]
  show ((0 * 1 + 0) * 704 + i.val) * 1024 + j.val = i.val * 1024 + j.val
  omega

/-- The cotangent of a shard's hidden layer for a block of frames. -/
def prod (X : YBlk) (w : Vec Ideal S1x1x704x1024 .bf16) : FVec Ideal S512x704 .f32 := k0_pay2 (F := Ideal) X w

theorem prod_at (X : YBlk) (w : Vec Ideal S1x1x704x1024 .bf16) (i : Fin 512) (j : Fin 704) :
    prod X w (ix2 i j) = (∑ r : Fin 1024, (X (ix2 i r) * w (ix4 0 0 j r) : EReal) : EReal) := by
  unfold prod k0_pay2
  refine (mul_at _ _ i j).trans (Finset.sum_congr rfl fun r _ => ?_)
  exact congrArg (fun e : EReal => (X (ix2 i r) : EReal) * e) (shard_at w _ j r)

theorem lit1 : (Ideal.ofBits .f32 0x3F800000#32 : EReal) = 1 := by
  simp [Ideal.ofBits, Ideal.ieee, -EReal.coe_mul]; norm_num

/-- The gradient of the gate's projection from the hidden layer's cotangent `a`, the other projection `u` and the gate's own `g`. -/
def gradG (a u g : EReal) : EReal := a * u * (Ideal.logistic g + g * Ideal.logistic g * (1 - Ideal.logistic g))

/-- The gradient of the other projection. -/
def gradU (a g : EReal) : EReal := a * (g * Ideal.logistic g)

/-- The logistic function of a tile of the gate's projection, in the kernel's operations. -/
def sgm (G : FVec Ideal S128x704 .f32) : FVec Ideal S128x704 .f32 :=
  reciprocal true (addf (broadcast S128x704 (Scalar.ofBits .f32 0x3F800000#32)) (exp (subf (broadcast S128x704 (Scalar.ofBits .f32 0x00000000#32)) G)))

theorem sgm_at (G : FVec Ideal S128x704 .f32) (y : S128x704.Idx) : (sgm G y : EReal) = Ideal.logistic (G y) := by
  show Ideal.div 1 ((Ideal.ofBits .f32 0x3F800000#32 : EReal) + Ideal.exp ((Ideal.ofBits .f32 0x00000000#32 : EReal) - G y)) = _
  rw [Ideal.ofBits_zero_f32, lit1, zero_sub]
  rfl

/-- A tile read as numbers. -/
def wide (G : Tile) : FVec Ideal S128x704 .f32 := extf .f32 (shapeCast S128x704 G shapeCasts_S1x128x704_S128x704) bitsLt_bf16_f32

theorem wide_at (G : Tile) (i : Fin 128) (j : Fin 704) : (wide G (ix2 i j) : EReal) = G (ix3 0 i j) :=
  ValueIdx.shapeCast_1ab_ab_apply G _ i j

theorem rows_ok (q : ℕ) (hq : q + 128 ≤ 512) : S512x704.Slices ![q, 0] S128x704 :=
  ⟨rfl, fun a => match a with
    | ⟨0, _⟩ => hq
    | ⟨1, _⟩ => (by decide : 0 + 704 ≤ 704)⟩

/-- 128 of the block's frames. -/
def rows (q : ℕ) (hq : q + 128 ≤ 512) (P : FVec Ideal S512x704 .f32) : FVec Ideal S128x704 .f32 := extractStridedSlice S128x704 ![q, 0] P (rows_ok q hq)

theorem rows_at (q : ℕ) (hq : q + 128 ≤ 512) (P : FVec Ideal S512x704 .f32) (i : Fin 128) (j : Fin 704) :
    (rows q hq P (ix2 i j) : EReal) = P (ix2 ⟨q + i.val, by omega⟩ j) :=
  extractStridedSlice_apply _ P _ _ _ fun a => match a with
    | ⟨0, _⟩ => rfl
    | ⟨1, _⟩ => (Nat.zero_add _).symm

/-- One store of the gate's gradient. -/
def tileG (q : ℕ) (hq : q + 128 ≤ 512) (P : FVec Ideal S512x704 .f32) (G U : Tile) : Tile :=
  shapeCast S1x128x704 (truncf .bf16 (mulf (mulf (rows q hq P) (wide U))
    (addf (sgm (wide G)) (mulf (mulf (wide G) (sgm (wide G))) (subf (broadcast S128x704 (Scalar.ofBits .f32 0x3F800000#32)) (sgm (wide G)))))) bitsLt_bf16_f32) shapeCasts_S128x704_S1x128x704

/-- One store of the other projection's gradient. -/
def tileU (q : ℕ) (hq : q + 128 ≤ 512) (P : FVec Ideal S512x704 .f32) (G : Tile) : Tile :=
  shapeCast S1x128x704 (truncf .bf16 (mulf (rows q hq P) (mulf (wide G) (sgm (wide G)))) bitsLt_bf16_f32) shapeCasts_S128x704_S1x128x704

theorem tileG_at (q : ℕ) (hq : q + 128 ≤ 512) (P : FVec Ideal S512x704 .f32) (G U : Tile) (i : Fin 128) (j : Fin 704) :
    (tileG q hq P G U (ix3 0 i j) : EReal) = gradG (P (ix2 ⟨q + i.val, by omega⟩ j)) (U (ix3 0 i j)) (G (ix3 0 i j)) := by
  refine (ValueIdx.shapeCast_ab_1ab_apply _ _ 0 i j).trans ?_
  show ((rows q hq P (ix2 i j) : EReal) * wide U (ix2 i j)) * (sgm (wide G) (ix2 i j)
    + (wide G (ix2 i j) * sgm (wide G) (ix2 i j)) * ((Ideal.ofBits .f32 0x3F800000#32 : EReal) - sgm (wide G) (ix2 i j))) = _
  rw [sgm_at, wide_at, wide_at, rows_at, lit1]
  rfl

theorem tileU_at (q : ℕ) (hq : q + 128 ≤ 512) (P : FVec Ideal S512x704 .f32) (G : Tile) (i : Fin 128) (j : Fin 704) :
    (tileU q hq P G (ix3 0 i j) : EReal) = gradU (P (ix2 ⟨q + i.val, by omega⟩ j)) (G (ix3 0 i j)) := by
  refine (ValueIdx.shapeCast_ab_1ab_apply _ _ 0 i j).trans ?_
  show (rows q hq P (ix2 i j) : EReal) * (wide G (ix2 i j) * sgm (wide G) (ix2 i j)) = _
  rw [sgm_at, wide_at, rows_at]
  rfl

/-- The hidden layer's cotangent for a block of frames, over the shards. -/
def back (X : YBlk) (W : WBlk) (y : S4x512x704.Idx) : EReal := ∑ r : Fin 1024, (X (ix2 (y 1) r) * W (ix4 0 (y 0) (y 2) r) : EReal)

/-- What a block of frames leaves of the two gradients. -/
def blockG (X : YBlk) (G U : HBlk) (W : WBlk) : HBlk := fun y => gradG (back X W y) (U y) (G y)
def blockU (X : YBlk) (G : HBlk) (W : WBlk) : HBlk := fun y => gradU (back X W y) (G y)

theorem inb3 (o q : ℕ) (ho : o < 4) (hq : q + 128 ≤ 512) : ∀ a, (![o, q, 0] : Fin 3 → Nat) a + S1x128x704.size a ≤ S4x512x704.size a
  | ⟨0, _⟩ => by show o + 1 ≤ 4; omega
  | ⟨1, _⟩ => hq
  | ⟨2, _⟩ => by show 0 + 704 ≤ 704; omega

theorem inb4 (o : ℕ) (ho : o < 4) : ∀ a, (![0, o, 0, 0] : Fin 4 → Nat) a + S1x1x704x1024.size a ≤ S1x4x704x1024.size a
  | ⟨0, _⟩ => by show 0 + 1 ≤ 1; omega
  | ⟨1, _⟩ => by show o + 1 ≤ 4; omega
  | ⟨2, _⟩ => by show 0 + 704 ≤ 704; omega
  | ⟨3, _⟩ => by show 0 + 1024 ≤ 1024; omega

/-- The tile of shard `o` whose frames start at `q`. -/
abbrev tileAt (o q : ℕ) (ho : o < 4) (hq : q + 128 ≤ 512) : Rect S4x512x704 := Rect.unit (s := S4x512x704) ![o, q, 0] S1x128x704.size (inb3 o q ho hq)

/-- Shard `o` of the weights. -/
def sh (W : WBlk) (o : ℕ) (ho : o < 4) : Vec Ideal S1x1x704x1024 .bf16 := View.ld W (Rect.unit (s := S1x4x704x1024) ![0, o, 0, 0] S1x1x704x1024.size (inb4 o ho))

theorem prod_eq (o : ℕ) (ho : o < 4) (X : YBlk) (W : WBlk) (i : Fin 512) (j : Fin 704) :
    (prod X (sh W o ho) (ix2 i j) : EReal) = back X W (ix3 ⟨o, ho⟩ i j) := by
  refine (prod_at X _ i j).trans (Finset.sum_congr rfl fun r _ => ?_)
  refine congrArg (fun e : EReal => (X (ix2 i r) : EReal) * e) (congrArg W ?_)
  funext a; apply Fin.ext
  match a with
  | ⟨0, _⟩ => rfl
  | ⟨1, _⟩ => show o + 1 * 0 = o; omega
  | ⟨2, _⟩ => show 0 + 1 * j.val = j.val; omega
  | ⟨3, _⟩ => show 0 + 1 * r.val = r.val; omega

theorem emb_eq (o q : ℕ) (ho : o < 4) (hq : q + 128 ≤ 512) (i : Fin 128) (j : Fin 704) :
    (tileAt o q ho hq).emb (ix3 0 i j) = ix3 ⟨o, ho⟩ ⟨q + i.val, by omega⟩ j := by
  funext a; apply Fin.ext
  match a with
  | ⟨0, _⟩ => show o + 1 * 0 = o; omega
  | ⟨1, _⟩ => show q + 1 * i.val = q + i.val; omega
  | ⟨2, _⟩ => show 0 + 1 * j.val = j.val; omega

theorem tile_idx (x : S1x128x704.Idx) : ∃ (i : Fin 128) (j : Fin 704), x = ix3 0 i j := by
  refine ⟨x 1, x 2, ?_⟩
  funext a; apply Fin.ext
  match a with
  | ⟨0, _⟩ => have h : (x 0).val < 1 := (x 0).isLt
              show (x 0).val = 0; omega
  | ⟨1, _⟩ => rfl
  | ⟨2, _⟩ => rfl

theorem pieceG (o q : ℕ) (ho : o < 4) (hq : q + 128 ≤ 512) (X : YBlk) (G U : HBlk) (W : WBlk) (p : Tile)
    (hp : p = tileG q hq (prod X (sh W o ho)) (View.ld G (tileAt o q ho hq)) (View.ld U (tileAt o q ho hq))) (x : S1x128x704.Idx) :
    p x = blockG X G U W ((tileAt o q ho hq).emb x) := by
  obtain ⟨i, j, rfl⟩ := tile_idx x
  subst hp
  refine (tileG_at q hq _ _ _ i j).trans ?_
  show gradG _ (U ((tileAt o q ho hq).emb (ix3 0 i j))) (G ((tileAt o q ho hq).emb (ix3 0 i j))) = _
  rw [emb_eq, prod_eq]
  rfl

theorem pieceU (o q : ℕ) (ho : o < 4) (hq : q + 128 ≤ 512) (X : YBlk) (G : HBlk) (W : WBlk) (p : Tile)
    (hp : p = tileU q hq (prod X (sh W o ho)) (View.ld G (tileAt o q ho hq))) (x : S1x128x704.Idx) :
    p x = blockU X G W ((tileAt o q ho hq).emb x) := by
  obtain ⟨i, j, rfl⟩ := tile_idx x
  subst hp
  refine (tileU_at q hq _ _ i j).trans ?_
  show gradU _ (G ((tileAt o q ho hq).emb (ix3 0 i j))) = _
  rw [emb_eq, prod_eq]
  rfl

theorem hz2 : (![0, 0] : Fin 2 → Nat) = fun _ => 0 := funext fun a => by fin_cases a <;> rfl

theorem ldx (X : YBlk) : View.ld X r0_0 = X := View.ld_unit_zero (S := S512x1024) hz2 _ X

theorem out4_eq (X : YBlk) (G U : HBlk) (W : WBlk) : out0_4 (F := Ideal) X G U W = blockG X G U W := by
  funext y
  unfold out0_4
  refine View.canon_apply_of_pieces (blockG X G U W) _ ?_ y (cover0_4 _ _ _ _ _ _ _ _ _ _ _ _ _ _ _ _ y)
  unfold k0_pay131 k0_pay130 k0_pay129 k0_pay128 k0_pay127 k0_pay126 k0_pay125 k0_pay124 k0_pay123 k0_pay122 k0_pay121 k0_pay120 k0_pay119 k0_pay118 k0_pay117 k0_pay116 k0_pay115 k0_pay114
  rw [ldx]
  repeat refine List.forall_mem_cons.2 ⟨pieceG _ _ (by decide) (by decide) X G U W _ (by rfl), ?_⟩
  exact fun p hp => absurd hp List.not_mem_nil

theorem out5_eq (X : YBlk) (G U : HBlk) (W : WBlk) : out0_5 (F := Ideal) X G U W = blockU X G W := by
  funext y
  unfold out0_5
  refine View.canon_apply_of_pieces (blockU X G W) _ ?_ y (cover0_5 _ _ _ _ _ _ _ _ _ _ _ _ _ _ _ _ y)
  unfold k0_pay131 k0_pay130 k0_pay129 k0_pay128 k0_pay127 k0_pay126 k0_pay125 k0_pay124 k0_pay123 k0_pay122 k0_pay121 k0_pay120 k0_pay119 k0_pay118 k0_pay117 k0_pay116 k0_pay115 k0_pay114
  rw [ldx]
  repeat refine List.forall_mem_cons.2 ⟨pieceU _ _ (by decide) (by decide) X G W _ (by rfl), ?_⟩
  exact fun p hp => absurd hp List.not_mem_nil

/-! ## The arrays -/

/-- The hidden layer's cotangent. -/
def backAll (d : Vec Ideal S8192x1024 .bf16) (w : Vec Ideal S4x4x704x1024 .bf16) (y : S4x8192x704.Idx) : EReal := ∑ r : Fin 1024, (d (ix2 (y 1) r) * w (ix4 3 (y 0) (y 2) r) : EReal)

/-- The two gradients. -/
def allG (d : Vec Ideal S8192x1024 .bf16) (w : Vec Ideal S4x4x704x1024 .bf16) (g u : Vec Ideal S4x8192x704 .bf16) : Vec Ideal S4x8192x704 .bf16 := fun y => gradG (backAll d w y) (u y) (g y)
def allU (d : Vec Ideal S8192x1024 .bf16) (w : Vec Ideal S4x4x704x1024 .bf16) (g : Vec Ideal S4x8192x704 .bf16) : Vec Ideal S4x8192x704 .bf16 := fun y => gradU (backAll d w y) (g y)

variable (m : (ℓ : Loc nD τ sig) → Buf (Elt Ideal) ℓ) (c : Dev nD)

abbrev dy : Vec Ideal S8192x1024 .bf16 := m ((c.tc : Thread nD τ).loc main_arg0)
abbrev wd : Vec Ideal S4x4x704x1024 .bf16 := m ((c.tc : Thread nD τ).loc main_arg1)
abbrev gs : Vec Ideal S4x8192x704 .bf16 := m ((c.tc : Thread nD τ).loc main_arg2)
abbrev us : Vec Ideal S4x8192x704 .bf16 := m ((c.tc : Thread nD τ).loc main_arg3)

/-- Frame `r` of block `k`. -/
def frame (k : Fin 16) (r : Fin 512) : Fin 8192 := ⟨512 * k.val + r.val, by omega⟩

theorem co0 (t : Fin cfg0.N) : (grid0.coords t 0).val = t.val := by
  have h := Pipeline.Grid.coords_val (G := grid0) t 0 (S := 1) (B := 16) (by decide) (by decide)
  have hN := lt_of_lt_of_eq t.isLt (show cfg0.N = 16 from N_0)
  rw [Nat.div_one, Nat.mod_eq_of_lt hN] at h; exact h

theorem tr (i : grid0.Coords) : (BitVec.ofNat 32 (i 0).val).toNat = (i 0).val := by
  have key : ∀ (p : Fin 16), (BitVec.ofNat 32 p.val).toNat = p.val := by decide +kernel
  exact key (i 0)

theorem lt16 (t : Fin cfg0.N) : t.val < 16 := lt_of_lt_of_eq t.isLt (show cfg0.N = 16 from N_0)

/-- The place in an array of a place in point `t`'s block. -/
def place (t : Fin cfg0.N) (y : S4x512x704.Idx) : S4x8192x704.Idx := ix3 (y 0) (frame ⟨t.val, lt_of_lt_of_eq t.isLt (show cfg0.N = 16 from N_0)⟩ (y 1)) (y 2)

/-- Every place of an array is a place of some point's block. -/
theorem place_onto (i : S4x8192x704.Idx) : ∃ t y, place t y = i := by
  have h : (i 1).val < 8192 := (i 1).isLt
  refine ⟨⟨(i 1).val / 512, lt_of_lt_of_eq (by omega) (show cfg0.N = 16 from N_0).symm⟩, ix3 (i 0) ⟨(i 1).val % 512, by omega⟩ (i 2), ?_⟩
  funext a; apply Fin.ext
  match a with
  | ⟨0, _⟩ => rfl
  | ⟨1, _⟩ => show 512 * ((i 1).val / 512) + (i 1).val % 512 = (i 1).val; omega
  | ⟨2, _⟩ => rfl

theorem place_eq (t : Fin cfg0.N) (y : S4x512x704.Idx) (z : S4x8192x704.Idx) (h0 : (z 0).val = 0 * 4 + 1 * (y 0).val)
    (h1 : (z 1).val = (BitVec.ofNat 32 (grid0.coords t 0).val).toNat * 512 + 1 * (y 1).val) (h2 : (z 2).val = 0 * 704 + 1 * (y 2).val) : z = place t y := by
  rw [tr, co0] at h1
  funext a; apply Fin.ext
  match a with
  | ⟨0, _⟩ => show (z 0).val = (y 0).val; omega
  | ⟨1, _⟩ => show (z 1).val = 512 * t.val + (y 1).val; omega
  | ⟨2, _⟩ => show (z 2).val = (y 2).val; omega

theorem emb1 (t : Fin cfg0.N) (y : S4x512x704.Idx) : ((cfg0.win 1).blk t).view.emb y = place t y := place_eq t y _ rfl rfl rfl
theorem emb2 (t : Fin cfg0.N) (y : S4x512x704.Idx) : ((cfg0.win 2).blk t).view.emb y = place t y := place_eq t y _ rfl rfl rfl
theorem emb4 (t : Fin cfg0.N) (y : S4x512x704.Idx) : ((cfg0.win 4).blk t).view.emb y = place t y := place_eq t y _ rfl rfl rfl
theorem emb5 (t : Fin cfg0.N) (y : S4x512x704.Idx) : ((cfg0.win 5).blk t).view.emb y = place t y := place_eq t y _ rfl rfl rfl

theorem iblk_d (t : Fin cfg0.N) (r : Fin 512) (i : Fin 1024) :
    (iblk m c 0 t : YBlk) (ix2 r i) = dy m c (ix2 (frame ⟨t.val, lt16 t⟩ r) i) := by
  unfold iblk
  rw [View.read_apply]
  show V m c main_arg0 _ = dy m c _
  rw [V_main_arg0]
  refine congrArg (dy m c) ?_
  funext a; apply Fin.ext
  match a with
  | ⟨0, _⟩ => show (BitVec.ofNat 32 (grid0.coords t 0).val).toNat * 512 + 1 * r.val = 512 * t.val + r.val
              rw [tr, co0]; omega
  | ⟨1, _⟩ => show 0 * 1024 + 1 * i.val = i.val; omega

theorem iblk_w (t : Fin cfg0.N) (s : Fin 4) (i : Fin 704) (j : Fin 1024) :
    (iblk m c 3 t : WBlk) (ix4 0 s i j) = wd m c (ix4 3 s i j) := by
  unfold iblk
  rw [View.read_apply]
  show V m c main_arg1 _ = wd m c _
  rw [V_main_arg1]
  refine congrArg (wd m c) ?_
  funext a; apply Fin.ext
  match a with
  | ⟨0, _⟩ => rfl
  | ⟨1, _⟩ => show 0 * 4 + 1 * s.val = s.val; omega
  | ⟨2, _⟩ => show 0 * 704 + 1 * i.val = i.val; omega
  | ⟨3, _⟩ => show 0 * 1024 + 1 * j.val = j.val; omega

theorem iblk_g (t : Fin cfg0.N) (y : S4x512x704.Idx) : (iblk m c 1 t : HBlk) y = gs m c (place t y) := by
  unfold iblk
  rw [View.read_apply]
  show V m c main_arg2 _ = gs m c _
  rw [V_main_arg2]
  exact congrArg (gs m c) (emb1 t y)

theorem iblk_u (t : Fin cfg0.N) (y : S4x512x704.Idx) : (iblk m c 2 t : HBlk) y = us m c (place t y) := by
  unfold iblk
  rw [View.read_apply]
  show V m c main_arg3 _ = us m c _
  rw [V_main_arg3]
  exact congrArg (us m c) (emb2 t y)

theorem back_eq (t : Fin cfg0.N) (y : S4x512x704.Idx) : back (iblk m c 0 t) (iblk m c 3 t) y = backAll (dy m c) (wd m c) (place t y) :=
  Finset.sum_congr rfl fun q _ => congrArg₂ (· * · : EReal → EReal → EReal) (iblk_d m c t (y 1) q) (iblk_w m c t (y 0) (y 2) q)

theorem blockG_at (t : Fin cfg0.N) (y : S4x512x704.Idx) :
    blockG (iblk m c 0 t) (iblk m c 1 t) (iblk m c 2 t) (iblk m c 3 t) y = allG (dy m c) (wd m c) (gs m c) (us m c) (place t y) := by
  show gradG _ _ _ = gradG _ _ _
  rw [back_eq, iblk_g, iblk_u]

theorem blockU_at (t : Fin cfg0.N) (y : S4x512x704.Idx) :
    blockU (iblk m c 0 t) (iblk m c 1 t) (iblk m c 3 t) y = allU (dy m c) (wd m c) (gs m c) (place t y) := by
  show gradU _ _ = gradU _ _
  rw [back_eq, iblk_g]

theorem arr4 : (dats m 0 c).arrAt 4 cfg0.N = allG (dy m c) (wd m c) (gs m c) (us m c) := by
  refine (dats m 0 c).arrAt_eq_of_cover 4 _ (fun t hf => ?_) (fun i => ?_)
  · rw [Cert.GateIdeal.Value.flushed4, out4_eq]
    funext y
    rw [View.read_apply]
    exact (blockG_at m c t y).trans (congrArg (allG (dy m c) (wd m c) (gs m c) (us m c)) (emb4 t y).symm)
  · obtain ⟨t, y, e⟩ := place_onto i
    exact ⟨t, flush0_4 t, by rw [← e, ← emb4]; exact View.emb_mem_set _ _⟩

theorem arr5 : (dats m 0 c).arrAt 5 cfg0.N = allU (dy m c) (wd m c) (gs m c) := by
  refine (dats m 0 c).arrAt_eq_of_cover 5 _ (fun t hf => ?_) (fun i => ?_)
  · rw [Cert.GateIdeal.Value.flushed5, out5_eq]
    funext y
    rw [View.read_apply]
    exact (blockU_at m c t y).trans (congrArg (allU (dy m c) (wd m c) (gs m c)) (emb5 t y).symm)
  · obtain ⟨t, y, e⟩ := place_onto i
    exact ⟨t, flush0_5 t, by rw [← e, ← emb5]; exact View.emb_mem_set _ _⟩

end Cert.GateIdeal.Hand

namespace Cert.Pre_finite_gate.Hand

open Cert.Pre_finite_gate Idealize.ShloMosaic Idealize.ShloMosaic.ValueIdx
open Cert.Pre_finite.Hand (all_one real_of)

instance facts : Cert.Pre_finite_gate.Facts where
  bitsLt_bf16_f32 := by decide
  bcast_S_S8192x1024 := by decide
  reducesTo_S8192x1024_S_d0_1 := by decide
  h_S_ := by decide
  slices_S4x4x704x1024_S1x4x704x1024_3_0_0_0 := by decide
  shapeCasts_S1x4x704x1024_S4x704x1024 := by decide
  bcast_S_S4x704x1024 := by decide
  reducesTo_S4x704x1024_S_d0_1_2 := by decide
  bcast_S_S4x8192x704 := by decide
  reducesTo_S4x8192x704_S_d0_1_2 := by decide

/-- The layer's weight, cut from the stack of layers. -/
theorem layer_at (w : FVec Ideal S4x4x704x1024 .bf16) (h : S4x4x704x1024.Slices ![3, 0, 0, 0] S1x4x704x1024) (h' : S1x4x704x1024.ShapeCasts S4x704x1024)
    (s : Fin 4) (i : Fin 704) (j : Fin 1024) :
    (shapeCast S4x704x1024 (extractStridedSlice S1x4x704x1024 ![3, 0, 0, 0] w h) h' (ix3 s i j) : EReal) = w (ix4 3 s i j) := by
  refine (ValueIdx.shapeCast_1abc_abc_apply (extractStridedSlice S1x4x704x1024 ![3, 0, 0, 0] w h) _ s i j).trans ?_
  exact extractStridedSlice_apply _ w _ _ _ fun a => match a with
    | ⟨0, _⟩ => rfl
    | ⟨1, _⟩ => (Nat.zero_add _).symm
    | ⟨2, _⟩ => (Nat.zero_add _).symm
    | ⟨3, _⟩ => (Nat.zero_add _).symm

/-- The cotangent, the layer's weight and the up projection are real numbers. -/
theorem reals (d : FVec Ideal S8192x1024 .bf16) (w : FVec Ideal S4x4x704x1024 .bf16) (g u : FVec Ideal S4x8192x704 .bf16)
    (e : Cert.Pre_finite_gate.fn (F := Ideal) d w g u = fun _ => 1#1) :
    (∀ i, (d i : EReal) = ((d i : EReal).toReal : EReal)) ∧ (∀ (s : Fin 4) (i : Fin 704) (j : Fin 1024), (w (ix4 3 s i j) : EReal) = ((w (ix4 3 s i j) : EReal).toReal : EReal))
      ∧ ∀ i, (u i : EReal) = ((u i : EReal).toReal : EReal) := by
  have h3 : ∀ p q : BitVec 1, IntOp.andi p q = 1#1 → p = 1#1 ∧ q = 1#1 := by decide
  have e' := congrFun e (Shape.Idx.first facts.h_S_)
  unfold Cert.Pre_finite_gate.fn Cert.Pre_finite_gate.fn_part1 at e'
  obtain ⟨e12, e3⟩ := h3 _ _ e'
  obtain ⟨e1, e2⟩ := h3 _ _ e12
  have f1 := all_one _ _ _ _ _ e1
  have f2 := all_one _ _ _ _ _ e2
  have f3 := all_one _ _ _ _ _ e3
  refine ⟨fun i => real_of _ (f1 i), fun s i j => ?_, fun i => real_of _ (f3 i)⟩
  have g := real_of _ (f2 (ix3 s i j))
  rw [← layer_at w facts.slices_S4x4x704x1024_S1x4x704x1024_3_0_0_0 facts.shapeCasts_S1x4x704x1024_S4x704x1024 s i j]
  exact g

end Cert.Pre_finite_gate.Hand

namespace Cert.GateReferenceIdeal.Hand

open Cert.GateReferenceIdeal Cert.GateReferenceIdeal.Gen Idealize.ShloMosaic Idealize.ShloMosaic.ValueIdx Idealize.ShloMosaic.TcCoe Idealize.SL.Sem
open Cert.GateIdeal.Hand (backAll gradG gradU allG allU lit1)

theorem dot_at (d : FVec Ideal S8192x1024 .f32) (w : FVec Ideal S4x704x1024 .f32) (t : Fin 8192) (s : Fin 4) (j : Fin 704) :
    Host.dotGeneral dot_S8192x1024_S4x704x1024_S8192x4x704_1_2_0_01_n_n none d w (ix3 t s j) = ∑ r : Fin 1024, (d (ix2 t r) * w (ix3 s j r) : EReal) := by
  let D := dot_S8192x1024_S4x704x1024_S8192x4x704_1_2_0_01_n_n
  simp only [Host.dotGeneral]
  refine (Ideal.dotGeneral_apply D none _ d w (ix3 t s j)).trans ?_
  rw [← Equiv.sum_comp (contrEquiv1 D 1024 rfl rfl).symm]
  refine Finset.sum_congr rfl fun r _ => ?_
  have hk := contrEquiv1_symm_val D 1024 rfl rfl r
  have el : D.lhsIdx (ix3 t s j) ((contrEquiv1 D 1024 rfl rfl).symm r) = ix2 t r := by
    funext a; apply Fin.ext
    match a with
    | ⟨0, _⟩ => rfl
    | ⟨1, _⟩ => exact hk
  have er : D.rhsIdx (ix3 t s j) ((contrEquiv1 D 1024 rfl rfl).symm r) = ix3 s j r := by
    funext a; apply Fin.ext
    match a with
    | ⟨0, _⟩ => rfl
    | ⟨1, _⟩ => rfl
    | ⟨2, _⟩ => exact hk
  rw [el, er]

theorem outer_at (G : FVec Ideal S8192x4x704 .f32) (s : Fin 4) (t : Fin 8192) (j : Fin 704) :
    (transpose S4x8192x704 [1, 0, 2] G transposes_S8192x4x704_S4x8192x704_1_0_2 (ix3 s t j) : EReal) = G (ix3 t s j) :=
  transpose_apply (s := S8192x4x704) _ G _ _ _ fun a => match a with | ⟨0, _⟩ => rfl | ⟨1, _⟩ => rfl | ⟨2, _⟩ => rfl

/-- The hidden layer's cotangent in the reference's operations. -/
def refBack (d : FVec Ideal S8192x1024 .bf16) (w : FVec Ideal S4x4x704x1024 .bf16) : FVec Ideal S4x8192x704 .f32 :=
  transpose S4x8192x704 [1, 0, 2] (Host.dotGeneral dot_S8192x1024_S4x704x1024_S8192x4x704_1_2_0_01_n_n none (extf .f32 d bitsLt_bf16_f32) (extf .f32 (shapeCast S4x704x1024 (extractStridedSlice S1x4x704x1024 ![3, 0, 0, 0] w slices_S4x4x704x1024_S1x4x704x1024_3_0_0_0) shapeCasts_S1x4x704x1024_S4x704x1024) bitsLt_bf16_f32)) transposes_S8192x4x704_S4x8192x704_1_0_2

theorem refBack_at (d : FVec Ideal S8192x1024 .bf16) (w : FVec Ideal S4x4x704x1024 .bf16) (y : S4x8192x704.Idx) : (refBack d w y : EReal) = backAll d w y := by
  obtain ⟨s, t, j, rfl⟩ : ∃ (s : Fin 4) (t : Fin 8192) (j : Fin 704), y = ix3 s t j := ⟨y 0, y 1, y 2, eq_ix3 y⟩
  refine (outer_at _ s t j).trans ((dot_at _ _ t s j).trans (Finset.sum_congr rfl fun r _ => ?_))
  exact congrArg (fun e : EReal => (d (ix2 t r) : EReal) * e) (Cert.Pre_finite_gate.Hand.layer_at w slices_S4x4x704x1024_S1x4x704x1024_3_0_0_0 shapeCasts_S1x4x704x1024_S4x704x1024 s j r)

/-- The logistic function in the reference's operations. -/
def refSig (g : FVec Ideal S4x8192x704 .f32) : FVec Ideal S4x8192x704 .f32 :=
  Host.divf (broadcastInDim S4x8192x704 ![] bcast_S_S4x8192x704 (constant S_ .f32 0x3F800000#32)) (addf (broadcastInDim S4x8192x704 ![] bcast_S_S4x8192x704 (constant S_ .f32 0x3F800000#32)) (Host.exp (Host.negf g)))

theorem refSig_at (g : FVec Ideal S4x8192x704 .f32) (y : S4x8192x704.Idx) : (refSig g y : EReal) = Ideal.logistic (g y) := by
  show Ideal.div (Ideal.ofBits .f32 0x3F800000#32 : EReal) ((Ideal.ofBits .f32 0x3F800000#32 : EReal) + Ideal.exp (-(g y : EReal))) = _
  rw [lit1]
  rfl

/-- The reference's gradient of the gate's projection. -/
def refG (a : FVec Ideal S4x8192x704 .f32) (u g : FVec Ideal S4x8192x704 .f32) : FVec Ideal S4x8192x704 .f32 :=
  addf (mulf (mulf a u) (refSig g)) (mulf (mulf g (mulf a u)) (mulf (refSig g) (subf (broadcastInDim S4x8192x704 ![] bcast_S_S4x8192x704 (constant S_ .f32 0x3F800000#32)) (refSig g))))

theorem refG_at (a u g : FVec Ideal S4x8192x704 .f32) (y : S4x8192x704.Idx) :
    (refG a u g y : EReal) = (a y * u y) * Ideal.logistic (g y) + (g y * (a y * u y)) * (Ideal.logistic (g y) * (1 - Ideal.logistic (g y))) := by
  show ((a y : EReal) * u y) * refSig g y + (g y * (a y * u y)) * (refSig g y * ((Ideal.ofBits .f32 0x3F800000#32 : EReal) - refSig g y)) = _
  rw [refSig_at, lit1]

theorem one_sub_one : (1 : EReal) - 1 = 0 := by
  rw [← EReal.coe_one, ← EReal.coe_sub, sub_self, EReal.coe_zero]

theorem logistic_bot : Ideal.logistic ⊥ = 0 := by
  show Ideal.div 1 (((1 : ℝ) : EReal) + ⊤) = 0
  rw [EReal.coe_add_top]
  simp [Ideal.div]

theorem logistic_top : Ideal.logistic ⊤ = 1 := by
  show Ideal.div 1 (1 + 0) = 1
  simp [Ideal.div]

theorem logistic_coe (x : ℝ) : Ideal.logistic (x : EReal) = (((1 + Real.exp (-x))⁻¹ : ℝ) : EReal) := by
  show Ideal.div 1 (1 + ((Real.exp (-x) : ℝ) : EReal)) = _
  have h : (1 + ((Real.exp (-x) : ℝ) : EReal)) = ((1 + Real.exp (-x) : ℝ) : EReal) := by push_cast; rfl
  have hp : (0 : ℝ) < 1 + Real.exp (-x) := by positivity
  rw [h]
  unfold Ideal.div
  rw [if_neg (by exact_mod_cast hp.ne'), one_mul, EReal.coe_inv]

/-- With a real cotangent and a real up projection, the reference's gradient is the kernel's, whatever the gate's projection. -/
theorem grad_eq (a u : ℝ) (g : EReal) :
    ((a : EReal) * u) * Ideal.logistic g + (g * ((a : EReal) * u)) * (Ideal.logistic g * (1 - Ideal.logistic g)) = gradG a u g := by
  unfold gradG
  induction g using EReal.rec with
  | bot => rw [logistic_bot]; simp
  | top => rw [logistic_top]; rw [one_sub_one]; simp
  | coe x =>
    rw [logistic_coe]
    generalize (1 + Real.exp (-x))⁻¹ = l
    norm_cast
    ring

/-- The hidden layer's cotangent of real arguments is real. -/
theorem back_real (d : FVec Ideal S8192x1024 .bf16) (w : FVec Ideal S4x4x704x1024 .bf16) (hd : ∀ i, (d i : EReal) = ((d i : EReal).toReal : EReal))
    (hw : ∀ (s : Fin 4) (i : Fin 704) (j : Fin 1024), (w (ix4 3 s i j) : EReal) = ((w (ix4 3 s i j) : EReal).toReal : EReal)) (y : S4x8192x704.Idx) :
    ∃ a : ℝ, backAll d w y = (a : EReal) := by
  refine ⟨∑ r : Fin 1024, (d (ix2 (y 1) r) : EReal).toReal * (w (ix4 3 (y 0) (y 2) r) : EReal).toReal, ?_⟩
  rw [Cert.Attn.coe_sum]
  refine Finset.sum_congr rfl fun r _ => ?_
  exact (congrArg₂ (· * · : EReal → EReal → EReal) (hd (ix2 (y 1) r)) (hw (y 0) (y 2) r)).trans (EReal.coe_mul _ _).symm

theorem allG_eq (d : FVec Ideal S8192x1024 .bf16) (w : FVec Ideal S4x4x704x1024 .bf16) (g u : FVec Ideal S4x8192x704 .bf16)
    (e : Cert.Pre_finite_gate.fn (F := Ideal) d w g u = fun _ => 1#1) :
    truncf .bf16 (refG (refBack d w) (extf .f32 u bitsLt_bf16_f32) (extf .f32 g bitsLt_bf16_f32)) bitsLt_bf16_f32 = allG d w g u := by
  obtain ⟨hd, hw, hu⟩ := Cert.Pre_finite_gate.Hand.reals d w g u e
  funext y
  refine (refG_at _ _ _ y).trans ?_
  obtain ⟨a, ha⟩ := back_real d w hd hw y
  show ((refBack d w y : EReal) * u y) * Ideal.logistic (g y) + (g y * (refBack d w y * u y)) * (Ideal.logistic (g y) * (1 - Ideal.logistic (g y))) = gradG (backAll d w y) (u y) (g y)
  rw [refBack_at, ha, hu y]
  exact grad_eq a _ _

theorem allU_eq (d : FVec Ideal S8192x1024 .bf16) (w : FVec Ideal S4x4x704x1024 .bf16) (g : FVec Ideal S4x8192x704 .bf16) :
    truncf .bf16 (mulf (mulf (extf .f32 g bitsLt_bf16_f32) (refSig (extf .f32 g bitsLt_bf16_f32))) (refBack d w)) bitsLt_bf16_f32 = allU d w g := by
  funext y
  show ((g y : EReal) * refSig (extf .f32 g bitsLt_bf16_f32) y) * refBack d w y = gradU (backAll d w y) (g y)
  rw [refSig_at, refBack_at]
  exact mul_comm _ _

/-- The two results from arguments that are the kernel's. -/
theorem allG_of (d d' : FVec Ideal S8192x1024 .bf16) (w w' : FVec Ideal S4x4x704x1024 .bf16) (g g' u u' : FVec Ideal S4x8192x704 .bf16)
    (h : d' = d ∧ w' = w ∧ g' = g ∧ u' = u) (e : Cert.Pre_finite_gate.fn (F := Ideal) d w g u = fun _ => 1#1) :
    truncf .bf16 (refG (refBack d' w') (extf .f32 u' bitsLt_bf16_f32) (extf .f32 g' bitsLt_bf16_f32)) bitsLt_bf16_f32 = allG d w g u := by
  obtain ⟨rfl, rfl, rfl, rfl⟩ := h
  exact allG_eq _ _ _ _ e

theorem allU_of (d d' : FVec Ideal S8192x1024 .bf16) (w w' : FVec Ideal S4x4x704x1024 .bf16) (g g' u u' : FVec Ideal S4x8192x704 .bf16)
    (h : d' = d ∧ w' = w ∧ g' = g ∧ u' = u) :
    truncf .bf16 (mulf (mulf (extf .f32 g' bitsLt_bf16_f32) (refSig (extf .f32 g' bitsLt_bf16_f32))) (refBack d' w')) bitsLt_bf16_f32 = allU d w g := by
  obtain ⟨rfl, rfl, rfl, rfl⟩ := h
  exact allU_eq _ _ _

end Cert.GateReferenceIdeal.Hand
end
-- ==== Proof.WDx.lean ====
module

public import proofs.«01_k».proof.Proof.Gen.DxIdeal.Value
public import proofs.«01_k».proof.Proof.Gen.DxReferenceIdeal.Run
public import proofs.«01_k».proof.Proof.Gen.Dx.Frame
public import Idealize.ShloMosaic.Lib.Tactic
public import Idealize.ShloMosaic.PureOps.Ideal.Laws
public import Idealize.ShloMosaic.Lib.MatmulPlain
public import Idealize.ShloMosaic.Lib.TwoAxisContraction
public import Idealize.ShloMosaic.Lib.ValueLayout
public import Idealize.ShloMosaic.Lib.ValueIdx

@[expose] public section

noncomputable section

namespace Cert.DxIdeal.Hand

open Cert.DxIdeal Cert.DxIdeal.Gen Idealize.ShloMosaic Idealize.ShloMosaic.ValueIdx Idealize.ShloMosaic.TcCoe Idealize.SL.Sem

/-! # The gradient at the gated layer's input: what a block of frames leaves, and the array -/

abbrev GBlk := Vec Ideal S4x512x704 .bf16
abbrev RBlk := Vec Ideal S512x1024 .f32
abbrev WBlk := Vec Ideal S1x4x1024x704 .bf16

theorem mul_at (x : FVec Ideal S512x704 .bf16) (w : FVec Ideal S1024x704 .bf16) (i : Fin 512) (j : Fin 1024) :
    matmul dot_S512x704_S1024x704_S512x1024_1_1_0_0_n_n none x w (constant S512x1024 .f32 0x00000000#32) (ix2 i j)
      = ∑ r : Fin 704, (x (ix2 i r) * w (ix2 j r) : EReal) := by
  let D := dot_S512x704_S1024x704_S512x1024_1_1_0_0_n_n
  refine (Ideal.matmul_apply D none x w (constant S512x1024 .f32 0x00000000#32) (ix2 i j)).trans ?_
  rw [← Equiv.sum_comp (contrEquiv1 D 704 rfl rfl).symm]
  show (Ideal.ofBits .f32 0x00000000#32 : EReal) + _ = _
  rw [Ideal.ofBits_zero_f32, zero_add]
  refine Finset.sum_congr rfl fun r _ => ?_
  have hk := contrEquiv1_symm_val D 704 rfl rfl r
  have el : D.lhsIdx (ix2 i j) ((contrEquiv1 D 704 rfl rfl).symm r) = ix2 i r := by
    funext a; apply Fin.ext
    match a with
    | ⟨0, _⟩ => rfl
    | ⟨1, _⟩ => exact hk
  have er : D.rhsIdx (ix2 i j) ((contrEquiv1 D 704 rfl rfl).symm r) = ix2 j r := by
    funext a; apply Fin.ext
    match a with
    | ⟨0, _⟩ => rfl
    | ⟨1, _⟩ => exact hk
  rw [el, er]

/-- A shard's slice of the weights, its two unit axes dropped. -/
theorem shard_at (w : Vec Ideal S1x1x1024x704 .bf16) (h : S1x1x1024x704.ShapeCasts S1024x704) (i : Fin 1024) (j : Fin 704) :
    (shapeCast S1024x704 w h (ix2 i j) : EReal) = w (ix4 0 0 i j) := by
  refine shapeCast_apply w h (ix2 i j) (ix4 0 0 i j) ?_
  rw [Shape.rowMajor_val_four, Shape.rowMajor_val_two]
  show ((0 * 1 + 0) * 1024 + i.val) * 704 + j.val = i.val * 704 + j.val
  omega

/-- A shard's slice of the frames' rows, its unit axis dropped. -/
theorem rows_at (x : Vec Ideal S1x512x704 .bf16) (h : S1x512x704.ShapeCasts S512x704) (i : Fin 512) (j : Fin 704) :
    (shapeCast S512x704 x h (ix2 i j) : EReal) = x (ix3 0 i j) := by
  refine shapeCast_apply x h (ix2 i j) (ix3 0 i j) ?_
  rw [Shape.rowMajor_val_three, Shape.rowMajor_val_two]
  show (0 * 512 + i.val) * 704 + j.val = i.val * 704 + j.val
  omega

/-- A shard's product. -/
def prod (x : Vec Ideal S1x512x704 .bf16) (w : Vec Ideal S1x1x1024x704 .bf16) : FVec Ideal S512x1024 .f32 :=
  matmul dot_S512x704_S1024x704_S512x1024_1_1_0_0_n_n none (shapeCast S512x704 x shapeCasts_S1x512x704_S512x704 : FVec Ideal S512x704 .bf16)
    (shapeCast S1024x704 w shapeCasts_S1x1x1024x704_S1024x704 : FVec Ideal S1024x704 .bf16) (constant S512x1024 .f32 0x00000000#32)

theorem inb3 (o : Fin 4) : ∀ a, (![o.val, 0, 0] : Fin 3 → Nat) a + S1x512x704.size a ≤ S4x512x704.size a
  | ⟨0, _⟩ => by show o.val + 1 ≤ 4; omega
  | ⟨1, _⟩ => by show 0 + 512 ≤ 512; omega
  | ⟨2, _⟩ => by show 0 + 704 ≤ 704; omega

theorem inb4 (o : Fin 4) : ∀ a, (![0, o.val, 0, 0] : Fin 4 → Nat) a + S1x1x1024x704.size a ≤ S1x4x1024x704.size a
  | ⟨0, _⟩ => by show 0 + 1 ≤ 1; omega
  | ⟨1, _⟩ => by show o.val + 1 ≤ 4; omega
  | ⟨2, _⟩ => by show 0 + 1024 ≤ 1024; omega
  | ⟨3, _⟩ => by show 0 + 704 ≤ 704; omega

/-- Shard `o` of the rows, and of the weights. -/
def sx (X : GBlk) (o : Fin 4) : Vec Ideal S1x512x704 .bf16 := View.ld X (Rect.unit (s := S4x512x704) ![o.val, 0, 0] S1x512x704.size (inb3 o))
def sh (W : WBlk) (o : Fin 4) : Vec Ideal S1x1x1024x704 .bf16 := View.ld W (Rect.unit (s := S1x4x1024x704) ![0, o.val, 0, 0] S1x1x1024x704.size (inb4 o))

theorem prod_at (X : GBlk) (W : WBlk) (o : Fin 4) (i : Fin 512) (j : Fin 1024) :
    (prod (sx X o) (sh W o) (ix2 i j) : EReal) = ∑ r : Fin 704, (X (ix3 o i r) * W (ix4 0 o j r) : EReal) := by
  refine (mul_at _ _ i j).trans (Finset.sum_congr rfl fun r _ => ?_)
  refine congrArg₂ (· * · : EReal → EReal → EReal) ((rows_at _ _ i r).trans (congrArg X ?_)) ((shard_at _ _ j r).trans (congrArg W ?_))
  · funext a; apply Fin.ext
    match a with
    | ⟨0, _⟩ => show o.val + 1 * 0 = o.val; omega
    | ⟨1, _⟩ => show 0 + 1 * i.val = i.val; omega
    | ⟨2, _⟩ => show 0 + 1 * r.val = r.val; omega
  · funext a; apply Fin.ext
    match a with
    | ⟨0, _⟩ => rfl
    | ⟨1, _⟩ => show o.val + 1 * 0 = o.val; omega
    | ⟨2, _⟩ => show 0 + 1 * j.val = j.val; omega
    | ⟨3, _⟩ => show 0 + 1 * r.val = r.val; omega

/-- The residual branch's factor. -/
abbrev al : EReal := Ideal.ofBits .f32 0x3FD744FD#32

/-- What a block of frames leaves. -/
def lin (G U : GBlk) (R : RBlk) (W W' : WBlk) : RBlk := fun y =>
  (al * R y + ∑ s : Fin 4, ∑ r : Fin 704, (U (ix3 s (y 0) r) * W' (ix4 0 s (y 1) r) : EReal)
    + ∑ s : Fin 4, ∑ r : Fin 704, (G (ix3 s (y 0) r) * W (ix4 0 s (y 1) r) : EReal) : EReal)

/-- The sum in the order the kernel takes it. -/
theorem order (p0 p1 p2 p3 q0 q1 q2 q3 a : EReal) :
    ((((((((p0 + p1) + p2) + p3) + q0) + q1) + q2) + q3) + a) = a + (((q0 + q1) + q2) + q3) + (((p0 + p1) + p2) + p3) := by
  simp only [add_assoc, add_left_comm, add_comm]

theorem pay_at (G U : GBlk) (R : RBlk) (W W' : WBlk) (y : S512x1024.Idx) :
    (k0_pay2 (F := Ideal) (k0_pay1 (F := Ideal) (sx G 0) (sh W 0) (sx G 1) (sh W 1) (sx G 2) (sh W 2) (sx G 3) (sh W 3)) (sx U 0) (sh W' 0) (sx U 1) (sh W' 1) (sx U 2) (sh W' 2) (sx U 3) (sh W' 3) R y : EReal)
      = lin G U R W W' y := by
  obtain ⟨i, j, rfl⟩ : ∃ (i : Fin 512) (j : Fin 1024), y = ix2 i j := ⟨y 0, y 1, eq_ix2 y⟩
  unfold k0_pay2 k0_pay1
  show (((((((((prod (sx G 0) (sh W 0) (ix2 i j) : EReal) + prod (sx G 1) (sh W 1) (ix2 i j)) + prod (sx G 2) (sh W 2) (ix2 i j)) + prod (sx G 3) (sh W 3) (ix2 i j))
    + prod (sx U 0) (sh W' 0) (ix2 i j)) + prod (sx U 1) (sh W' 1) (ix2 i j)) + prod (sx U 2) (sh W' 2) (ix2 i j)) + prod (sx U 3) (sh W' 3) (ix2 i j)) + al * R (ix2 i j) : EReal) = _
  rw [order]
  simp only [prod_at]
  unfold lin
  rw [Fin.sum_univ_four, Fin.sum_univ_four]

theorem hz2 : (![0, 0] : Fin 2 → Nat) = fun _ => 0 := funext fun a => by fin_cases a <;> rfl

theorem ldr (R : RBlk) : View.ld R r0_8 = R := View.ld_unit_zero (S := S512x1024) hz2 _ R

theorem emb_all (x : S512x1024.Idx) : r0_8.emb x = x := by
  funext a; apply Fin.ext
  match a with
  | ⟨0, _⟩ => show 0 + 1 * (x 0).val = (x 0).val; omega
  | ⟨1, _⟩ => show 0 + 1 * (x 1).val = (x 1).val; omega

theorem out5_eq (G U : GBlk) (R : RBlk) (W W' : WBlk) : out0_5 (F := Ideal) G U R W W' = lin G U R W W' := by
  funext y
  unfold out0_5
  refine View.canon_apply_of_pieces (lin G U R W W') _ ?_ y (cover0_5 _ y)
  rw [ldr]
  exact List.forall_mem_cons.2 ⟨fun x => (pay_at G U R W W' x).trans (congrArg (lin G U R W W') (emb_all x).symm), fun p hp => absurd hp List.not_mem_nil⟩

/-! ## The array -/

/-- The gradient at the input: the residual branch's, and the two projections' transposed. -/
def back (g u : Vec Ideal S4x8192x704 .bf16) (w w' : Vec Ideal S4x4x1024x704 .bf16) (d : Vec Ideal S8192x1024 .f32) : Vec Ideal S8192x1024 .f32 := fun y =>
  (al * d y + ∑ s : Fin 4, ∑ r : Fin 704, (u (ix3 s (y 0) r) * w' (ix4 0 s (y 1) r) : EReal)
    + ∑ s : Fin 4, ∑ r : Fin 704, (g (ix3 s (y 0) r) * w (ix4 0 s (y 1) r) : EReal) : EReal)

variable (m : (ℓ : Loc nD τ sig) → Buf (Elt Ideal) ℓ) (c : Dev nD)

abbrev gs : Vec Ideal S4x8192x704 .bf16 := m ((c.tc : Thread nD τ).loc main_arg0)
abbrev us : Vec Ideal S4x8192x704 .bf16 := m ((c.tc : Thread nD τ).loc main_arg1)
abbrev wg : Vec Ideal S4x4x1024x704 .bf16 := m ((c.tc : Thread nD τ).loc main_arg2)
abbrev wu : Vec Ideal S4x4x1024x704 .bf16 := m ((c.tc : Thread nD τ).loc main_arg3)
abbrev rs : Vec Ideal S8192x1024 .f32 := m ((c.tc : Thread nD τ).loc main_arg4)

/-- Frame `r` of block `k`. -/
def frame (k : Fin 16) (r : Fin 512) : Fin 8192 := ⟨512 * k.val + r.val, by omega⟩

theorem co0 (t : Fin cfg0.N) : (grid0.coords t 0).val = t.val := by
  have h := Pipeline.Grid.coords_val (G := grid0) t 0 (S := 1) (B := 16) (by decide) (by decide)
  have hN := lt_of_lt_of_eq t.isLt (show cfg0.N = 16 from N_0)
  rw [Nat.div_one, Nat.mod_eq_of_lt hN] at h; exact h

theorem tr (i : grid0.Coords) : (BitVec.ofNat 32 (i 0).val).toNat = (i 0).val := by
  have key : ∀ (p : Fin 16), (BitVec.ofNat 32 p.val).toNat = p.val := by decide +kernel
  exact key (i 0)

theorem lt16 (t : Fin cfg0.N) : t.val < 16 := lt_of_lt_of_eq t.isLt (show cfg0.N = 16 from N_0)

theorem iblk_g (t : Fin cfg0.N) (s : Fin 4) (r : Fin 512) (i : Fin 704) :
    (iblk m c 0 t : GBlk) (ix3 s r i) = gs m c (ix3 s (frame ⟨t.val, lt16 t⟩ r) i) := by
  unfold iblk
  rw [View.read_apply]
  show V m c main_arg0 _ = gs m c _
  rw [V_main_arg0]
  refine congrArg (gs m c) ?_
  funext a; apply Fin.ext
  match a with
  | ⟨0, _⟩ => show 0 * 4 + 1 * s.val = s.val; omega
  | ⟨1, _⟩ => show (BitVec.ofNat 32 (grid0.coords t 0).val).toNat * 512 + 1 * r.val = 512 * t.val + r.val
              rw [tr, co0]; omega
  | ⟨2, _⟩ => show 0 * 704 + 1 * i.val = i.val; omega

theorem iblk_u (t : Fin cfg0.N) (s : Fin 4) (r : Fin 512) (i : Fin 704) :
    (iblk m c 1 t : GBlk) (ix3 s r i) = us m c (ix3 s (frame ⟨t.val, lt16 t⟩ r) i) := by
  unfold iblk
  rw [View.read_apply]
  show V m c main_arg1 _ = us m c _
  rw [V_main_arg1]
  refine congrArg (us m c) ?_
  funext a; apply Fin.ext
  match a with
  | ⟨0, _⟩ => show 0 * 4 + 1 * s.val = s.val; omega
  | ⟨1, _⟩ => show (BitVec.ofNat 32 (grid0.coords t 0).val).toNat * 512 + 1 * r.val = 512 * t.val + r.val
              rw [tr, co0]; omega
  | ⟨2, _⟩ => show 0 * 704 + 1 * i.val = i.val; omega

theorem iblk_wg (t : Fin cfg0.N) (s : Fin 4) (i : Fin 1024) (j : Fin 704) :
    (iblk m c 3 t : WBlk) (ix4 0 s i j) = wg m c (ix4 0 s i j) := by
  unfold iblk
  rw [View.read_apply]
  show V m c main_arg2 _ = wg m c _
  rw [V_main_arg2]
  refine congrArg (wg m c) ?_
  funext a; apply Fin.ext
  match a with
  | ⟨0, _⟩ => rfl
  | ⟨1, _⟩ => show 0 * 4 + 1 * s.val = s.val; omega
  | ⟨2, _⟩ => show 0 * 1024 + 1 * i.val = i.val; omega
  | ⟨3, _⟩ => show 0 * 704 + 1 * j.val = j.val; omega

theorem iblk_wu (t : Fin cfg0.N) (s : Fin 4) (i : Fin 1024) (j : Fin 704) :
    (iblk m c 4 t : WBlk) (ix4 0 s i j) = wu m c (ix4 0 s i j) := by
  unfold iblk
  rw [View.read_apply]
  show V m c main_arg3 _ = wu m c _
  rw [V_main_arg3]
  refine congrArg (wu m c) ?_
  funext a; apply Fin.ext
  match a with
  | ⟨0, _⟩ => rfl
  | ⟨1, _⟩ => show 0 * 4 + 1 * s.val = s.val; omega
  | ⟨2, _⟩ => show 0 * 1024 + 1 * i.val = i.val; omega
  | ⟨3, _⟩ => show 0 * 704 + 1 * j.val = j.val; omega

/-- The place in the array of a place in point `t`'s block. -/
def place (t : Fin cfg0.N) (y : S512x1024.Idx) : S8192x1024.Idx := ix2 (frame ⟨t.val, lt16 t⟩ (y 0)) (y 1)

theorem place_eq (t : Fin cfg0.N) (y : S512x1024.Idx) (z : S8192x1024.Idx)
    (h0 : (z 0).val = (BitVec.ofNat 32 (grid0.coords t 0).val).toNat * 512 + 1 * (y 0).val) (h1 : (z 1).val = 0 * 1024 + 1 * (y 1).val) : z = place t y := by
  rw [tr, co0] at h0
  funext a; apply Fin.ext
  match a with
  | ⟨0, _⟩ => show (z 0).val = 512 * t.val + (y 0).val; omega
  | ⟨1, _⟩ => show (z 1).val = (y 1).val; omega

theorem iblk_r (t : Fin cfg0.N) (y : S512x1024.Idx) : (iblk m c 2 t : RBlk) y = rs m c (place t y) := by
  unfold iblk
  rw [View.read_apply]
  show V m c main_arg4 _ = rs m c _
  rw [V_main_arg4]
  exact congrArg (rs m c) (place_eq t y _ rfl rfl)

/-- Every place of the array is a place of some point's block. -/
theorem place_onto (i : S8192x1024.Idx) : ∃ t y, place t y = i := by
  have h : (i 0).val < 8192 := (i 0).isLt
  refine ⟨⟨(i 0).val / 512, lt_of_lt_of_eq (by omega) (show cfg0.N = 16 from N_0).symm⟩, ix2 ⟨(i 0).val % 512, by omega⟩ (i 1), ?_⟩
  funext a; apply Fin.ext
  match a with
  | ⟨0, _⟩ => show 512 * ((i 0).val / 512) + (i 0).val % 512 = (i 0).val; omega
  | ⟨1, _⟩ => rfl

theorem emb5 (t : Fin cfg0.N) (y : S512x1024.Idx) : ((cfg0.win 5).blk t).view.emb y = place t y := place_eq t y _ rfl rfl

theorem lin_at (t : Fin cfg0.N) (y : S512x1024.Idx) :
    lin (iblk m c 0 t) (iblk m c 1 t) (iblk m c 2 t) (iblk m c 3 t) (iblk m c 4 t) y = back (gs m c) (us m c) (wg m c) (wu m c) (rs m c) (place t y) := by
  refine congrArg₂ (· + · : EReal → EReal → EReal) (congrArg₂ (· + · : EReal → EReal → EReal) (congrArg (fun e : EReal => al * e) (iblk_r m c t y)) ?_) ?_
  · exact Finset.sum_congr rfl fun s _ => Finset.sum_congr rfl fun r _ => congrArg₂ (· * · : EReal → EReal → EReal) (iblk_u m c t s (y 0) r) (iblk_wu m c t s (y 1) r)
  · exact Finset.sum_congr rfl fun s _ => Finset.sum_congr rfl fun r _ => congrArg₂ (· * · : EReal → EReal → EReal) (iblk_g m c t s (y 0) r) (iblk_wg m c t s (y 1) r)

theorem arr5 : (dats m 0 c).arrAt 5 cfg0.N = back (gs m c) (us m c) (wg m c) (wu m c) (rs m c) := by
  refine (dats m 0 c).arrAt_eq_of_cover 5 _ (fun t hf => ?_) (fun i => ?_)
  · rw [Cert.DxIdeal.Value.flushed5, out5_eq]
    funext y
    rw [View.read_apply]
    exact (lin_at m c t y).trans (congrArg (back (gs m c) (us m c) (wg m c) (wu m c) (rs m c)) (emb5 t y).symm)
  · obtain ⟨t, y, e⟩ := place_onto i
    exact ⟨t, flush0_5 t, by rw [← e, ← emb5]; exact View.emb_mem_set _ _⟩

end Cert.DxIdeal.Hand

namespace Cert.DxReferenceIdeal.Hand

open Cert.DxReferenceIdeal Cert.DxReferenceIdeal.Gen Idealize.ShloMosaic Idealize.ShloMosaic.ValueIdx Idealize.ShloMosaic.TcCoe Idealize.SL.Sem
open Cert.DxIdeal.Hand (back al)

theorem dot_at (x : FVec Ideal S4x704x8192 .f32) (w : FVec Ideal S4x1024x704 .f32) (t : Fin 8192) (j : Fin 1024) :
    Host.dotGeneral dot_S4x704x8192_S4x1024x704_S8192x1024_01_02_2_1_n_n none x w (ix2 t j) = ∑ s : Fin 4, ∑ r : Fin 704, (x (ix3 s r t) * w (ix3 s j r) : EReal) := by
  let D := dot_S4x704x8192_S4x1024x704_S8192x1024_01_02_2_1_n_n
  simp only [Host.dotGeneral]
  refine (Ideal.dotGeneral_apply D none _ x w (ix2 t j)).trans ?_
  rw [sum_contr2 D 4 704 rfl rfl rfl]
  refine Finset.sum_congr rfl fun s _ => Finset.sum_congr rfl fun r _ => ?_
  have h0 := contrEquiv2_symm_val0 D 4 704 rfl rfl rfl (s, r)
  have h1 := contrEquiv2_symm_val1 D 4 704 rfl rfl rfl (s, r)
  have el : D.lhsIdx (ix2 t j) ((contrEquiv2 D 4 704 rfl rfl rfl).symm (s, r)) = ix3 s r t := by
    funext a; apply Fin.ext
    match a with
    | ⟨0, _⟩ => exact h0
    | ⟨1, _⟩ => exact h1
    | ⟨2, _⟩ => rfl
  have er : D.rhsIdx (ix2 t j) ((contrEquiv2 D 4 704 rfl rfl rfl).symm (s, r)) = ix3 s j r := by
    funext a; apply Fin.ext
    match a with
    | ⟨0, _⟩ => exact h0
    | ⟨1, _⟩ => rfl
    | ⟨2, _⟩ => exact h1
  rw [el, er]

/-- The layer's weight, cut from the stack of layers. -/
theorem layer_at (w : FVec Ideal S4x4x1024x704 .bf16) (s : Fin 4) (r : Fin 1024) (j : Fin 704) :
    (extf (F := Ideal) .f32 (shapeCast S4x1024x704 (extractStridedSlice S1x4x1024x704 ![0, 0, 0, 0] w slices_S4x4x1024x704_S1x4x1024x704_0_0_0_0) shapeCasts_S1x4x1024x704_S4x1024x704) bitsLt_bf16_f32 (ix3 s r j) : EReal)
      = w (ix4 0 s r j) := by
  refine (ValueIdx.shapeCast_1abc_abc_apply (extractStridedSlice S1x4x1024x704 ![0, 0, 0, 0] w slices_S4x4x1024x704_S1x4x1024x704_0_0_0_0) _ s r j).trans ?_
  exact extractStridedSlice_apply _ w _ _ _ fun a => match a with
    | ⟨0, _⟩ => rfl
    | ⟨1, _⟩ => (Nat.zero_add _).symm
    | ⟨2, _⟩ => (Nat.zero_add _).symm
    | ⟨3, _⟩ => (Nat.zero_add _).symm

theorem turn_at (G : FVec Ideal S4x8192x704 .f32) (s : Fin 4) (r : Fin 704) (t : Fin 8192) :
    (transpose S4x704x8192 [0, 2, 1] G transposes_S4x8192x704_S4x704x8192_0_2_1 (ix3 s r t) : EReal) = G (ix3 s t r) :=
  transpose_apply (s := S4x8192x704) _ G _ _ _ fun a => match a with | ⟨0, _⟩ => rfl | ⟨1, _⟩ => rfl | ⟨2, _⟩ => rfl

/-- A projection's share of the gradient, in the reference's operations. -/
def refBack (g : FVec Ideal S4x8192x704 .bf16) (w : FVec Ideal S4x4x1024x704 .bf16) : FVec Ideal S8192x1024 .f32 :=
  Host.dotGeneral dot_S4x704x8192_S4x1024x704_S8192x1024_01_02_2_1_n_n none (transpose S4x704x8192 [0, 2, 1] (extf .f32 g bitsLt_bf16_f32) transposes_S4x8192x704_S4x704x8192_0_2_1)
    (extf .f32 (shapeCast S4x1024x704 (extractStridedSlice S1x4x1024x704 ![0, 0, 0, 0] w slices_S4x4x1024x704_S1x4x1024x704_0_0_0_0) shapeCasts_S1x4x1024x704_S4x1024x704) bitsLt_bf16_f32)

theorem refBack_at (g : FVec Ideal S4x8192x704 .bf16) (w : FVec Ideal S4x4x1024x704 .bf16) (t : Fin 8192) (j : Fin 1024) :
    (refBack g w (ix2 t j) : EReal) = ∑ s : Fin 4, ∑ r : Fin 704, (g (ix3 s t r) * w (ix4 0 s j r) : EReal) := by
  refine (dot_at _ _ t j).trans (Finset.sum_congr rfl fun s _ => Finset.sum_congr rfl fun r _ => ?_)
  exact congrArg₂ (· * · : EReal → EReal → EReal) (turn_at (extf .f32 g bitsLt_bf16_f32) s r t) (layer_at w s j r)

theorem back_eq (g u : FVec Ideal S4x8192x704 .bf16) (w w' : FVec Ideal S4x4x1024x704 .bf16) (d : FVec Ideal S8192x1024 .f32) :
    addf (addf (mulf (broadcastInDim S8192x1024 ![] bcast_S_S8192x1024 (constant S_ .f32 0x3FD744FD#32)) d) (refBack u w')) (refBack g w) = back g u w w' d := by
  funext y
  obtain ⟨t, j, rfl⟩ : ∃ (t : Fin 8192) (j : Fin 1024), y = ix2 t j := ⟨y 0, y 1, eq_ix2 y⟩
  show (al * d (ix2 t j) + refBack u w' (ix2 t j) + refBack g w (ix2 t j) : EReal) = _
  rw [refBack_at, refBack_at]
  rfl

/-- The result from arguments that are the kernel's. -/
theorem back_of (m' : (ℓ : Loc nD τ sig) → Buf (Elt Ideal) ℓ) (c : Dev nD) (g u : FVec Ideal S4x8192x704 .bf16) (w w' : FVec Ideal S4x4x1024x704 .bf16) (d : FVec Ideal S8192x1024 .f32)
    (H : m' ((c.tc : Thread nD τ).loc main_arg0) = g ∧ m' ((c.tc : Thread nD τ).loc main_arg1) = u ∧ m' ((c.tc : Thread nD τ).loc main_arg2) = w ∧ m' ((c.tc : Thread nD τ).loc main_arg3) = w' ∧ m' ((c.tc : Thread nD τ).loc main_arg4) = d) :
    addf (addf (mulf (broadcastInDim S8192x1024 ![] bcast_S_S8192x1024 (constant S_ .f32 0x3FD744FD#32)) (m' ((c.tc : Thread nD τ).loc main_arg4))) (refBack (m' ((c.tc : Thread nD τ).loc main_arg1)) (m' ((c.tc : Thread nD τ).loc main_arg3)))) (refBack (m' ((c.tc : Thread nD τ).loc main_arg0)) (m' ((c.tc : Thread nD τ).loc main_arg2))) = back g u w w' d := by
  obtain ⟨rfl, rfl, rfl, rfl, rfl⟩ := H
  exact back_eq _ _ _ _ _

end Cert.DxReferenceIdeal.Hand
end
-- ==== Proof.WNorm.lean ====
module

public import proofs.«01_k».proof.Proof.Gen.NormIdeal.Value
public import proofs.«01_k».proof.Proof.Gen.NormReferenceIdeal.Run
public import proofs.«01_k».proof.Proof.Gen.Norm.Frame
public import Idealize.ShloMosaic.Lib.Tactic
public import Idealize.ShloMosaic.PureOps.Ideal.Laws
public import Idealize.ShloMosaic.Lib.MatmulPlain
public import Idealize.ShloMosaic.Lib.TwoAxisContraction
public import Idealize.ShloMosaic.Lib.ValueLayout
public import Idealize.ShloMosaic.Lib.ValueIdx

@[expose] public section

noncomputable section

namespace Cert.Norm.Row

open Idealize.ShloMosaic

/-! # The layer norm of one row -/

/-- The residual branch's factor, the feed-forward branch's, the row's length and the norm's epsilon. -/
abbrev al : EReal := Ideal.ofBits .f32 0x3FD744FD#32
abbrev hf : EReal := Ideal.ofBits .f32 0x3F000000#32
abbrev len : EReal := Ideal.ofBits .f32 0x44800000#32
abbrev eps : EReal := Ideal.ofBits .f32 0x3727C5AC#32

def mean (f : Fin 1024 → EReal) : EReal := Ideal.div (∑ j, f j) len
def cen (f : Fin 1024 → EReal) (j : Fin 1024) : EReal := f j - mean f
def rst (f : Fin 1024 → EReal) : EReal := Ideal.rsqrt (mean (fun j => cen f j * cen f j) + eps)
def hat (f : Fin 1024 → EReal) (j : Fin 1024) : EReal := cen f j * rst f

end Cert.Norm.Row

namespace Cert.NormIdeal.Hand

open Cert.NormIdeal Cert.NormIdeal.Gen Idealize.ShloMosaic Idealize.ShloMosaic.ValueIdx Idealize.ShloMosaic.TcCoe Idealize.SL.Sem Cert.Norm.Row

/-! # The down projection with its norm: what a block of frames leaves, and the three arrays -/

abbrev HBlk := Vec Ideal S4x512x704 .bf16
abbrev XBlk := Vec Ideal S512x1024 .f32
abbrev WBlk := Vec Ideal S1x4x704x1024 .bf16
abbrev VBlk := Vec Ideal S1x1024 .f32

theorem mul_at (x : FVec Ideal S512x704 .bf16) (w : FVec Ideal S704x1024 .bf16) (i : Fin 512) (j : Fin 1024) :
    matmul dot_S512x704_S704x1024_S512x1024_1_0_0_1_n_n none x w (constant S512x1024 .f32 0x00000000#32) (ix2 i j)
      = ∑ r : Fin 704, (x (ix2 i r) * w (ix2 r j) : EReal) := by
  let D := dot_S512x704_S704x1024_S512x1024_1_0_0_1_n_n
  refine (Ideal.matmul_apply D none x w (constant S512x1024 .f32 0x00000000#32) (ix2 i j)).trans ?_
  rw [← Equiv.sum_comp (contrEquiv1 D 704 rfl rfl).symm]
  show (Ideal.ofBits .f32 0x00000000#32 : EReal) + _ = _
  rw [Ideal.ofBits_zero_f32, zero_add]
  refine Finset.sum_congr rfl fun r _ => ?_
  have hk := contrEquiv1_symm_val D 704 rfl rfl r
  have el : D.lhsIdx (ix2 i j) ((contrEquiv1 D 704 rfl rfl).symm r) = ix2 i r := by
    funext a; apply Fin.ext
    match a with
    | ⟨0, _⟩ => rfl
    | ⟨1, _⟩ => exact hk
  have er : D.rhsIdx (ix2 i j) ((contrEquiv1 D 704 rfl rfl).symm r) = ix2 r j := by
    funext a; apply Fin.ext
    match a with
    | ⟨0, _⟩ => exact hk
    | ⟨1, _⟩ => rfl
  rw [el, er]

/-- A shard's slice of the weights, its two unit axes dropped. -/
theorem shard_at (w : Vec Ideal S1x1x704x1024 .bf16) (h : S1x1x704x1024.ShapeCasts S704x1024) (i : Fin 704) (j : Fin 1024) :
    (shapeCast S704x1024 w h (ix2 i j) : EReal) = w (ix4 0 0 i j) := by
  refine shapeCast_apply w h (ix2 i j) (ix4 0 0 i j) ?_
  rw [Shape.rowMajor_val_four, Shape.rowMajor_val_two]
  show ((0 * 1 + 0) * 704 + i.val) * 1024 + j.val = i.val * 1024 + j.val
  omega

/-- A shard's slice of the frames' rows, its unit axis dropped. -/
theorem rows_at (x : Vec Ideal S1x512x704 .bf16) (h : S1x512x704.ShapeCasts S512x704) (i : Fin 512) (j : Fin 704) :
    (shapeCast S512x704 x h (ix2 i j) : EReal) = x (ix3 0 i j) := by
  refine shapeCast_apply x h (ix2 i j) (ix3 0 i j) ?_
  rw [Shape.rowMajor_val_three, Shape.rowMajor_val_two]
  show (0 * 512 + i.val) * 704 + j.val = i.val * 704 + j.val
  omega

/-- A shard's product. -/
def prod (x : Vec Ideal S1x512x704 .bf16) (w : Vec Ideal S1x1x704x1024 .bf16) : FVec Ideal S512x1024 .f32 :=
  matmul dot_S512x704_S704x1024_S512x1024_1_0_0_1_n_n none (shapeCast S512x704 x shapeCasts_S1x512x704_S512x704 : FVec Ideal S512x704 .bf16)
    (shapeCast S704x1024 w shapeCasts_S1x1x704x1024_S704x1024 : FVec Ideal S704x1024 .bf16) (constant S512x1024 .f32 0x00000000#32)

theorem inb3 (o : Fin 4) : ∀ a, (![o.val, 0, 0] : Fin 3 → Nat) a + S1x512x704.size a ≤ S4x512x704.size a
  | ⟨0, _⟩ => by show o.val + 1 ≤ 4; omega
  | ⟨1, _⟩ => by show 0 + 512 ≤ 512; omega
  | ⟨2, _⟩ => by show 0 + 704 ≤ 704; omega

theorem inb4 (o : Fin 4) : ∀ a, (![0, o.val, 0, 0] : Fin 4 → Nat) a + S1x1x704x1024.size a ≤ S1x4x704x1024.size a
  | ⟨0, _⟩ => by show 0 + 1 ≤ 1; omega
  | ⟨1, _⟩ => by show o.val + 1 ≤ 4; omega
  | ⟨2, _⟩ => by show 0 + 704 ≤ 704; omega
  | ⟨3, _⟩ => by show 0 + 1024 ≤ 1024; omega

/-- Shard `o` of the hidden rows, and of the weights. -/
def sx (X : HBlk) (o : Fin 4) : Vec Ideal S1x512x704 .bf16 := View.ld X (Rect.unit (s := S4x512x704) ![o.val, 0, 0] S1x512x704.size (inb3 o))
def sh (W : WBlk) (o : Fin 4) : Vec Ideal S1x1x704x1024 .bf16 := View.ld W (Rect.unit (s := S1x4x704x1024) ![0, o.val, 0, 0] S1x1x704x1024.size (inb4 o))

theorem prod_at (X : HBlk) (W : WBlk) (o : Fin 4) (i : Fin 512) (j : Fin 1024) :
    (prod (sx X o) (sh W o) (ix2 i j) : EReal) = ∑ r : Fin 704, (X (ix3 o i r) * W (ix4 0 o r j) : EReal) := by
  refine (mul_at _ _ i j).trans (Finset.sum_congr rfl fun r _ => ?_)
  refine congrArg₂ (· * · : EReal → EReal → EReal) ((rows_at _ _ i r).trans (congrArg X ?_)) ((shard_at _ _ r j).trans (congrArg W ?_))
  · funext a; apply Fin.ext
    match a with
    | ⟨0, _⟩ => show o.val + 1 * 0 = o.val; omega
    | ⟨1, _⟩ => show 0 + 1 * i.val = i.val; omega
    | ⟨2, _⟩ => show 0 + 1 * r.val = r.val; omega
  · funext a; apply Fin.ext
    match a with
    | ⟨0, _⟩ => rfl
    | ⟨1, _⟩ => show o.val + 1 * 0 = o.val; omega
    | ⟨2, _⟩ => show 0 + 1 * r.val = r.val; omega
    | ⟨3, _⟩ => show 0 + 1 * j.val = j.val; omega

/-- The block's rows that are normalised. -/
def res (H : HBlk) (X : XBlk) (W : WBlk) (i : Fin 512) (j : Fin 1024) : EReal :=
  al * X (ix2 i j) + hf * ∑ s : Fin 4, ∑ r : Fin 704, (H (ix3 s i r) * W (ix4 0 s r j) : EReal)

/-- The down projection, halved. -/
def down (H : HBlk) (W : WBlk) : FVec Ideal S512x1024 .f32 :=
  k0_pay5 (F := Ideal) (sx H 0) (sh W 0) (sx H 1) (sh W 1) (sx H 2) (sh W 2) (sx H 3) (sh W 3)

theorem down_at (H : HBlk) (W : WBlk) (i : Fin 512) (j : Fin 1024) :
    (down H W (ix2 i j) : EReal) = hf * ∑ s : Fin 4, ∑ r : Fin 704, (H (ix3 s i r) * W (ix4 0 s r j) : EReal) := by
  unfold down k0_pay5
  show (hf * (((prod (sx H 0) (sh W 0) (ix2 i j) + prod (sx H 1) (sh W 1) (ix2 i j)) + prod (sx H 2) (sh W 2) (ix2 i j)) + prod (sx H 3) (sh W 3) (ix2 i j)) : EReal) = _
  rw [Fin.sum_univ_four]
  simp only [prod_at]

/-! ## The row's operations -/

theorem spread_at (x : FVec Ideal S512x1 .f32) (r : Fin 512) (c : Fin 1024) :
    broadcastTo S512x1024 x broadcasts_S512x1_S512x1024 (ix2 r c) = x (ix2 r (0 : Fin 1)) :=
  broadcastTo_apply _ _ _ _ (fun a => by
    match a with
    | ⟨0, _⟩ => rfl
    | ⟨1, _⟩ => rfl)

theorem column_at (x : FVec Ideal S512 .f32) (r : Fin 512) :
    shapeCast S512x1 x shapeCasts_S512_S512x1 (ix2 r (0 : Fin 1)) = x (ix1 r) :=
  shapeCast_apply x _ _ _ (by
    rw [Shape.rowMajor_val_two, Shape.rowMajor_val_one]
    show r.val = r.val * 1 + 0
    rw [Nat.mul_one, Nat.add_zero])

theorem sum_at (x : FVec Ideal S512x1024 .f32) (r : Fin 512) :
    multiReduction .add [1] S512 x 0x00000000#32 reduces_S512x1024_S512 (.inl rfl) rfl (ix1 r) = ∑ c : Fin 1024, (x (ix2 r c) : EReal) := by
  refine (Ideal.multiReduction_add_single x _ _ _ _ (ix1 r)).trans ?_
  refine Finset.sum_congr rfl fun c _ => congrArg x ?_
  funext a; apply Fin.ext
  match a with
  | ⟨0, _⟩ => rfl
  | ⟨1, _⟩ => rfl

/-- The rows' means, as a column. -/
def meanCol (x : FVec Ideal S512x1024 .f32) : FVec Ideal S512x1 .f32 :=
  divf (shapeCast S512x1 (multiReduction .add [1] S512 x 0x00000000#32 reduces_S512x1024_S512 (.inl rfl) rfl) shapeCasts_S512_S512x1) (broadcast S512x1 (Scalar.ofBits .f32 0x44800000#32))

theorem meanCol_at (x : FVec Ideal S512x1024 .f32) (f : Fin 1024 → EReal) (i : Fin 512) (hx : ∀ j, (x (ix2 i j) : EReal) = f j) :
    (meanCol x (ix2 i (0 : Fin 1)) : EReal) = mean f := by
  refine congrArg (fun e : EReal => Ideal.div e len) ?_
  exact (column_at _ i).trans ((sum_at x i).trans (Finset.sum_congr rfl fun j _ => hx j))

variable (P : FVec Ideal S512x1024 .f32) (X : XBlk) (f : Fin 1024 → EReal) (i : Fin 512)

theorem pay1_at (hf : ∀ j, (al * X (ix2 i j) + P (ix2 i j) : EReal) = f j) (j : Fin 1024) : (k0_pay1 (F := Ideal) P X (ix2 i j) : EReal) = cen f j := by
  unfold k0_pay1
  exact congrArg₂ (· - · : EReal → EReal → EReal) (hf j) ((spread_at _ i j).trans (meanCol_at _ f i hf))

theorem pay2_at (hf : ∀ j, (al * X (ix2 i j) + P (ix2 i j) : EReal) = f j) : (k0_pay2 (F := Ideal) P X (ix2 i (0 : Fin 1)) : EReal) = rst f := by
  unfold k0_pay2
  refine congrArg (fun e : EReal => Ideal.rsqrt (e + eps)) (meanCol_at _ _ i fun j => ?_)
  exact congrArg₂ (· * · : EReal → EReal → EReal) (pay1_at P X f i hf j) (pay1_at P X f i hf j)

theorem pay3_at (hf : ∀ j, (al * X (ix2 i j) + P (ix2 i j) : EReal) = f j) (j : Fin 1024) : (k0_pay3 (F := Ideal) P X (ix2 i j) : EReal) = hat f j := by
  unfold k0_pay3
  exact congrArg₂ (· * · : EReal → EReal → EReal) (pay1_at P X f i hf j) ((spread_at _ i j).trans (pay2_at P X f i hf))

theorem pay4_at (g b : VBlk) (hf : ∀ j, (al * X (ix2 i j) + P (ix2 i j) : EReal) = f j) (j : Fin 1024) :
    (k0_pay4 (F := Ideal) P X g b (ix2 i j) : EReal) = hat f j * g (ix2 0 j) + b (ix2 0 j) := by
  unfold k0_pay4
  exact congrArg₂ (· + · : EReal → EReal → EReal) (congrArg₂ (· * · : EReal → EReal → EReal) (pay3_at P X f i hf j) (broadcastTo_1b_ab_apply _ _ _ _)) (broadcastTo_1b_ab_apply _ _ _ _)

/-! ## A block -/

def outY (H : HBlk) (X : XBlk) (W : WBlk) (g b : VBlk) : XBlk := fun y => (hat (res H X W (y 0)) (y 1) * g (ix2 0 (y 1)) + b (ix2 0 (y 1)) : EReal)
def outH (H : HBlk) (X : XBlk) (W : WBlk) : XBlk := fun y => hat (res H X W (y 0)) (y 1)
def outR (H : HBlk) (X : XBlk) (W : WBlk) : Vec Ideal S512x1 .f32 := fun y => rst (res H X W (y 0))

theorem hz2 : (![0, 0] : Fin 2 → Nat) = fun _ => 0 := funext fun a => by fin_cases a <;> rfl

theorem ldx (X : XBlk) : View.ld X r0_8 = X := View.ld_unit_zero (S := S512x1024) hz2 _ X
theorem ldv (g : VBlk) : View.ld g r0_9 = g := View.ld_unit_zero (S := S1x1024) hz2 _ g

theorem emb_all (x : S512x1024.Idx) : r0_8.emb x = x := by
  funext a; apply Fin.ext
  match a with
  | ⟨0, _⟩ => show 0 + 1 * (x 0).val = (x 0).val; omega
  | ⟨1, _⟩ => show 0 + 1 * (x 1).val = (x 1).val; omega

theorem emb_col (x : S512x1.Idx) : r0_10.emb x = x := by
  funext a; apply Fin.ext
  match a with
  | ⟨0, _⟩ => show 0 + 1 * (x 0).val = (x 0).val; omega
  | ⟨1, _⟩ => show 0 + 1 * (x 1).val = (x 1).val; omega

theorem row_at (H : HBlk) (X : XBlk) (W : WBlk) (i : Fin 512) (j : Fin 1024) : (al * X (ix2 i j) + down H W (ix2 i j) : EReal) = res H X W i j :=
  congrArg (fun e : EReal => (al * X (ix2 i j) : EReal) + e) (down_at H W i j)

theorem pay6_eq (H : HBlk) (X : XBlk) (W : WBlk) (g b : VBlk) : k0_pay6 (F := Ideal) H X W g b = down H W := rfl

theorem out5_eq (H : HBlk) (X : XBlk) (W : WBlk) (g b : VBlk) : out0_5 (F := Ideal) H X W g b = outY H X W g b := by
  funext y
  unfold out0_5
  refine View.canon_apply_of_pieces (outY H X W g b) _ ?_ y (cover0_5 _ y)
  rw [ldx, ldv, ldv, pay6_eq]
  refine List.forall_mem_cons.2 ⟨fun x => ?_, fun p hp => absurd hp List.not_mem_nil⟩
  refine Eq.trans ?_ (congrArg (outY H X W g b) (emb_all x).symm)
  obtain ⟨i, j, rfl⟩ : ∃ (i : Fin 512) (j : Fin 1024), x = ix2 i j := ⟨x 0, x 1, eq_ix2 x⟩
  exact pay4_at (down H W) X _ i g b (row_at H X W i) j

theorem out6_eq (H : HBlk) (X : XBlk) (W : WBlk) (g b : VBlk) : out0_6 (F := Ideal) H X W g b = outH H X W := by
  funext y
  unfold out0_6
  refine View.canon_apply_of_pieces (outH H X W) _ ?_ y (cover0_6 _ y)
  rw [ldx, pay6_eq]
  refine List.forall_mem_cons.2 ⟨fun x => ?_, fun p hp => absurd hp List.not_mem_nil⟩
  refine Eq.trans ?_ (congrArg (outH H X W) (emb_all x).symm)
  obtain ⟨i, j, rfl⟩ : ∃ (i : Fin 512) (j : Fin 1024), x = ix2 i j := ⟨x 0, x 1, eq_ix2 x⟩
  exact pay3_at (down H W) X _ i (row_at H X W i) j

theorem out7_eq (H : HBlk) (X : XBlk) (W : WBlk) (g b : VBlk) : out0_7 (F := Ideal) H X W g b = outR H X W := by
  funext y
  unfold out0_7
  refine View.canon_apply_of_pieces (outR H X W) _ ?_ y (cover0_7 _ y)
  rw [ldx, pay6_eq]
  refine List.forall_mem_cons.2 ⟨fun x => ?_, fun p hp => absurd hp List.not_mem_nil⟩
  refine Eq.trans ?_ (congrArg (outR H X W) (emb_col x).symm)
  obtain ⟨i, rfl⟩ : ∃ i : Fin 512, x = ix2 i (0 : Fin 1) := ⟨x 0, (eq_ix2 x).trans (congrArg (ix2 (x 0)) (Fin.ext (Nat.lt_one_iff.mp (x 1).isLt) : x 1 = (0 : Fin 1)))⟩
  exact pay2_at (down H W) X _ i (row_at H X W i)

/-! ## The arrays -/

/-- The rows that are normalised: the residual branch's and the down projection's. -/
def rowOf (h : Vec Ideal S4x8192x704 .bf16) (x : Vec Ideal S8192x1024 .f32) (w : Vec Ideal S4x4x704x1024 .bf16) (t : Fin 8192) (j : Fin 1024) : EReal :=
  al * x (ix2 t j) + hf * ∑ s : Fin 4, ∑ r : Fin 704, (h (ix3 s t r) * w (ix4 3 s r j) : EReal)

def allY (h : Vec Ideal S4x8192x704 .bf16) (x : Vec Ideal S8192x1024 .f32) (w : Vec Ideal S4x4x704x1024 .bf16) (g b : VBlk) : Vec Ideal S8192x1024 .f32 :=
  fun y => (hat (rowOf h x w (y 0)) (y 1) * g (ix2 0 (y 1)) + b (ix2 0 (y 1)) : EReal)
def allH (h : Vec Ideal S4x8192x704 .bf16) (x : Vec Ideal S8192x1024 .f32) (w : Vec Ideal S4x4x704x1024 .bf16) : Vec Ideal S8192x1024 .f32 :=
  fun y => hat (rowOf h x w (y 0)) (y 1)
def allR (h : Vec Ideal S4x8192x704 .bf16) (x : Vec Ideal S8192x1024 .f32) (w : Vec Ideal S4x4x704x1024 .bf16) : Vec Ideal S8192x1 .f32 :=
  fun y => rst (rowOf h x w (y 0))

variable (m : (ℓ : Loc nD τ sig) → Buf (Elt Ideal) ℓ) (c : Dev nD)

abbrev hs : Vec Ideal S4x8192x704 .bf16 := m ((c.tc : Thread nD τ).loc main_arg0)
abbrev xs : Vec Ideal S8192x1024 .f32 := m ((c.tc : Thread nD τ).loc main_arg1)
abbrev ws : Vec Ideal S4x4x704x1024 .bf16 := m ((c.tc : Thread nD τ).loc main_arg2)
abbrev gn : VBlk := m ((c.tc : Thread nD τ).loc main_arg3)
abbrev bs : VBlk := m ((c.tc : Thread nD τ).loc main_arg4)

/-- Frame `r` of block `k`. -/
def frame (k : Fin 16) (r : Fin 512) : Fin 8192 := ⟨512 * k.val + r.val, by omega⟩

theorem co0 (t : Fin cfg0.N) : (grid0.coords t 0).val = t.val := by
  have h := Pipeline.Grid.coords_val (G := grid0) t 0 (S := 1) (B := 16) (by decide) (by decide)
  have hN := lt_of_lt_of_eq t.isLt (show cfg0.N = 16 from N_0)
  rw [Nat.div_one, Nat.mod_eq_of_lt hN] at h; exact h

theorem tr (i : grid0.Coords) : (BitVec.ofNat 32 (i 0).val).toNat = (i 0).val := by
  have key : ∀ (p : Fin 16), (BitVec.ofNat 32 p.val).toNat = p.val := by decide +kernel
  exact key (i 0)

theorem lt16 (t : Fin cfg0.N) : t.val < 16 := lt_of_lt_of_eq t.isLt (show cfg0.N = 16 from N_0)

theorem iblk_h (t : Fin cfg0.N) (s : Fin 4) (r : Fin 512) (i : Fin 704) :
    (iblk m c 0 t : HBlk) (ix3 s r i) = hs m c (ix3 s (frame ⟨t.val, lt16 t⟩ r) i) := by
  unfold iblk
  rw [View.read_apply]
  show V m c main_arg0 _ = hs m c _
  rw [V_main_arg0]
  refine congrArg (hs m c) ?_
  funext a; apply Fin.ext
  match a with
  | ⟨0, _⟩ => show 0 * 4 + 1 * s.val = s.val; omega
  | ⟨1, _⟩ => show (BitVec.ofNat 32 (grid0.coords t 0).val).toNat * 512 + 1 * r.val = 512 * t.val + r.val
              rw [tr, co0]; omega
  | ⟨2, _⟩ => show 0 * 704 + 1 * i.val = i.val; omega

theorem iblk_w (t : Fin cfg0.N) (s : Fin 4) (i : Fin 704) (j : Fin 1024) :
    (iblk m c 2 t : WBlk) (ix4 0 s i j) = ws m c (ix4 3 s i j) := by
  unfold iblk
  rw [View.read_apply]
  show V m c main_arg2 _ = ws m c _
  rw [V_main_arg2]
  refine congrArg (ws m c) ?_
  funext a; apply Fin.ext
  match a with
  | ⟨0, _⟩ => rfl
  | ⟨1, _⟩ => show 0 * 4 + 1 * s.val = s.val; omega
  | ⟨2, _⟩ => show 0 * 704 + 1 * i.val = i.val; omega
  | ⟨3, _⟩ => show 0 * 1024 + 1 * j.val = j.val; omega

theorem vec_eq (y z : S1x1024.Idx) (h0 : (z 0).val = 0 * 1 + 1 * (y 0).val) (h1 : (z 1).val = 0 * 1024 + 1 * (y 1).val) : z = y := by
  funext a; apply Fin.ext
  match a with
  | ⟨0, _⟩ => show (z 0).val = (y 0).val; omega
  | ⟨1, _⟩ => show (z 1).val = (y 1).val; omega

theorem iblk_g (t : Fin cfg0.N) (y : S1x1024.Idx) : (iblk m c 3 t : VBlk) y = gn m c y := by
  unfold iblk
  rw [View.read_apply]
  show V m c main_arg3 _ = gn m c _
  rw [V_main_arg3]
  exact congrArg (gn m c) (vec_eq y _ rfl rfl)

theorem iblk_b (t : Fin cfg0.N) (y : S1x1024.Idx) : (iblk m c 4 t : VBlk) y = bs m c y := by
  unfold iblk
  rw [View.read_apply]
  show V m c main_arg4 _ = bs m c _
  rw [V_main_arg4]
  exact congrArg (bs m c) (vec_eq y _ rfl rfl)

/-- The place in the array of a place in point `t`'s block. -/
def place (t : Fin cfg0.N) (y : S512x1024.Idx) : S8192x1024.Idx := ix2 (frame ⟨t.val, lt16 t⟩ (y 0)) (y 1)

theorem place_eq (t : Fin cfg0.N) (y : S512x1024.Idx) (z : S8192x1024.Idx)
    (h0 : (z 0).val = (BitVec.ofNat 32 (grid0.coords t 0).val).toNat * 512 + 1 * (y 0).val) (h1 : (z 1).val = 0 * 1024 + 1 * (y 1).val) : z = place t y := by
  rw [tr, co0] at h0
  funext a; apply Fin.ext
  match a with
  | ⟨0, _⟩ => show (z 0).val = 512 * t.val + (y 0).val; omega
  | ⟨1, _⟩ => show (z 1).val = (y 1).val; omega

theorem iblk_x (t : Fin cfg0.N) (y : S512x1024.Idx) : (iblk m c 1 t : XBlk) y = xs m c (place t y) := by
  unfold iblk
  rw [View.read_apply]
  show V m c main_arg1 _ = xs m c _
  rw [V_main_arg1]
  exact congrArg (xs m c) (place_eq t y _ rfl rfl)

/-- Every place of the array is a place of some point's block. -/
theorem place_onto (i : S8192x1024.Idx) : ∃ t y, place t y = i := by
  have h : (i 0).val < 8192 := (i 0).isLt
  refine ⟨⟨(i 0).val / 512, lt_of_lt_of_eq (by omega) (show cfg0.N = 16 from N_0).symm⟩, ix2 ⟨(i 0).val % 512, by omega⟩ (i 1), ?_⟩
  funext a; apply Fin.ext
  match a with
  | ⟨0, _⟩ => show 512 * ((i 0).val / 512) + (i 0).val % 512 = (i 0).val; omega
  | ⟨1, _⟩ => rfl

/-- The place in the column of a place in point `t`'s block. -/
def placeC (t : Fin cfg0.N) (y : S512x1.Idx) : S8192x1.Idx := ix2 (frame ⟨t.val, lt16 t⟩ (y 0)) (y 1)

theorem placeC_eq (t : Fin cfg0.N) (y : S512x1.Idx) (z : S8192x1.Idx)
    (h0 : (z 0).val = (BitVec.ofNat 32 (grid0.coords t 0).val).toNat * 512 + 1 * (y 0).val) (h1 : (z 1).val = 0 * 1 + 1 * (y 1).val) : z = placeC t y := by
  rw [tr, co0] at h0
  funext a; apply Fin.ext
  match a with
  | ⟨0, _⟩ => show (z 0).val = 512 * t.val + (y 0).val; omega
  | ⟨1, _⟩ => show (z 1).val = (y 1).val; omega

theorem placeC_onto (i : S8192x1.Idx) : ∃ t y, placeC t y = i := by
  have h : (i 0).val < 8192 := (i 0).isLt
  refine ⟨⟨(i 0).val / 512, lt_of_lt_of_eq (by omega) (show cfg0.N = 16 from N_0).symm⟩, ix2 ⟨(i 0).val % 512, by omega⟩ (i 1), ?_⟩
  funext a; apply Fin.ext
  match a with
  | ⟨0, _⟩ => show 512 * ((i 0).val / 512) + (i 0).val % 512 = (i 0).val; omega
  | ⟨1, _⟩ => rfl

theorem emb5 (t : Fin cfg0.N) (y : S512x1024.Idx) : ((cfg0.win 5).blk t).view.emb y = place t y := place_eq t y _ rfl rfl
theorem emb6 (t : Fin cfg0.N) (y : S512x1024.Idx) : ((cfg0.win 6).blk t).view.emb y = place t y := place_eq t y _ rfl rfl
theorem emb7 (t : Fin cfg0.N) (y : S512x1.Idx) : ((cfg0.win 7).blk t).view.emb y = placeC t y := placeC_eq t y _ rfl rfl

theorem res_at (t : Fin cfg0.N) (i : Fin 512) : res (iblk m c 0 t) (iblk m c 1 t) (iblk m c 2 t) i = rowOf (hs m c) (xs m c) (ws m c) (frame ⟨t.val, lt16 t⟩ i) := by
  funext j
  refine congrArg₂ (· + · : EReal → EReal → EReal) (congrArg (fun e : EReal => al * e) (iblk_x m c t (ix2 i j))) (congrArg (fun e : EReal => hf * e) ?_)
  exact Finset.sum_congr rfl fun s _ => Finset.sum_congr rfl fun r _ => congrArg₂ (· * · : EReal → EReal → EReal) (iblk_h m c t s i r) (iblk_w m c t s r j)

theorem outH_at (t : Fin cfg0.N) (y : S512x1024.Idx) :
    outH (iblk m c 0 t) (iblk m c 1 t) (iblk m c 2 t) y = allH (hs m c) (xs m c) (ws m c) (place t y) :=
  congrArg (fun f => hat f (y 1)) (res_at m c t (y 0))

theorem outY_at (t : Fin cfg0.N) (y : S512x1024.Idx) :
    outY (iblk m c 0 t) (iblk m c 1 t) (iblk m c 2 t) (iblk m c 3 t) (iblk m c 4 t) y = allY (hs m c) (xs m c) (ws m c) (gn m c) (bs m c) (place t y) :=
  congrArg₂ (· + · : EReal → EReal → EReal) (congrArg₂ (· * · : EReal → EReal → EReal) (congrArg (fun f => hat f (y 1)) (res_at m c t (y 0))) (iblk_g m c t (ix2 0 (y 1)))) (iblk_b m c t (ix2 0 (y 1)))

theorem outR_at (t : Fin cfg0.N) (y : S512x1.Idx) :
    outR (iblk m c 0 t) (iblk m c 1 t) (iblk m c 2 t) y = allR (hs m c) (xs m c) (ws m c) (placeC t y) :=
  congrArg rst (res_at m c t (y 0))

theorem arr5 : (dats m 0 c).arrAt 5 cfg0.N = allY (hs m c) (xs m c) (ws m c) (gn m c) (bs m c) := by
  refine (dats m 0 c).arrAt_eq_of_cover 5 _ (fun t hf => ?_) (fun i => ?_)
  · rw [Cert.NormIdeal.Value.flushed5, out5_eq]
    funext y
    rw [View.read_apply]
    exact (outY_at m c t y).trans (congrArg (allY (hs m c) (xs m c) (ws m c) (gn m c) (bs m c)) (emb5 t y).symm)
  · obtain ⟨t, y, e⟩ := place_onto i
    exact ⟨t, flush0_5 t, by rw [← e, ← emb5]; exact View.emb_mem_set _ _⟩

theorem arr6 : (dats m 0 c).arrAt 6 cfg0.N = allH (hs m c) (xs m c) (ws m c) := by
  refine (dats m 0 c).arrAt_eq_of_cover 6 _ (fun t hf => ?_) (fun i => ?_)
  · rw [Cert.NormIdeal.Value.flushed6, out6_eq]
    funext y
    rw [View.read_apply]
    exact (outH_at m c t y).trans (congrArg (allH (hs m c) (xs m c) (ws m c)) (emb6 t y).symm)
  · obtain ⟨t, y, e⟩ := place_onto i
    exact ⟨t, flush0_6 t, by rw [← e, ← emb6]; exact View.emb_mem_set _ _⟩

theorem arr7 : (dats m 0 c).arrAt 7 cfg0.N = allR (hs m c) (xs m c) (ws m c) := by
  refine (dats m 0 c).arrAt_eq_of_cover 7 _ (fun t hf => ?_) (fun i => ?_)
  · rw [Cert.NormIdeal.Value.flushed7, out7_eq]
    funext y
    rw [View.read_apply]
    exact (outR_at m c t y).trans (congrArg (allR (hs m c) (xs m c) (ws m c)) (emb7 t y).symm)
  · obtain ⟨t, y, e⟩ := placeC_onto i
    exact ⟨t, flush0_7 t, by rw [← e, ← emb7]; exact View.emb_mem_set _ _⟩

end Cert.NormIdeal.Hand

namespace Cert.NormReferenceIdeal.Hand

open Cert.NormReferenceIdeal Cert.NormReferenceIdeal.Gen Idealize.ShloMosaic Idealize.ShloMosaic.ValueIdx Idealize.ShloMosaic.TcCoe Idealize.SL.Sem Cert.Norm.Row
open Cert.NormIdeal.Hand (rowOf allY allH allR)

theorem dot_at (x : FVec Ideal S4x8192x704 .f32) (w : FVec Ideal S4x704x1024 .f32) (t : Fin 8192) (j : Fin 1024) :
    Host.dotGeneral dot_S4x8192x704_S4x704x1024_S8192x1024_20_10_1_2_n_n none x w (ix2 t j) = ∑ s : Fin 4, ∑ r : Fin 704, (x (ix3 s t r) * w (ix3 s r j) : EReal) := by
  let D := dot_S4x8192x704_S4x704x1024_S8192x1024_20_10_1_2_n_n
  simp only [Host.dotGeneral]
  refine (Ideal.dotGeneral_apply D none _ x w (ix2 t j)).trans ?_
  rw [sum_contr2 D 704 4 rfl rfl rfl, Finset.sum_comm]
  refine Finset.sum_congr rfl fun s _ => Finset.sum_congr rfl fun r _ => ?_
  have h0 := contrEquiv2_symm_val0 D 704 4 rfl rfl rfl (r, s)
  have h1 := contrEquiv2_symm_val1 D 704 4 rfl rfl rfl (r, s)
  have el : D.lhsIdx (ix2 t j) ((contrEquiv2 D 704 4 rfl rfl rfl).symm (r, s)) = ix3 s t r := by
    funext a; apply Fin.ext
    match a with
    | ⟨0, _⟩ => exact h1
    | ⟨1, _⟩ => rfl
    | ⟨2, _⟩ => exact h0
  have er : D.rhsIdx (ix2 t j) ((contrEquiv2 D 704 4 rfl rfl rfl).symm (r, s)) = ix3 s r j := by
    funext a; apply Fin.ext
    match a with
    | ⟨0, _⟩ => exact h1
    | ⟨1, _⟩ => exact h0
    | ⟨2, _⟩ => rfl
  rw [el, er]

/-- The layer's weight, cut from the stack of layers. -/
theorem layer_at (w : FVec Ideal S4x4x704x1024 .bf16) (s : Fin 4) (r : Fin 704) (j : Fin 1024) :
    (extf (F := Ideal) .f32 (shapeCast S4x704x1024 (extractStridedSlice S1x4x704x1024 ![3, 0, 0, 0] w slices_S4x4x704x1024_S1x4x704x1024_3_0_0_0) shapeCasts_S1x4x704x1024_S4x704x1024) bitsLt_bf16_f32 (ix3 s r j) : EReal)
      = w (ix4 3 s r j) := by
  refine (ValueIdx.shapeCast_1abc_abc_apply (extractStridedSlice S1x4x704x1024 ![3, 0, 0, 0] w slices_S4x4x704x1024_S1x4x704x1024_3_0_0_0) _ s r j).trans ?_
  exact extractStridedSlice_apply _ w _ _ _ fun a => match a with
    | ⟨0, _⟩ => rfl
    | ⟨1, _⟩ => (Nat.zero_add _).symm
    | ⟨2, _⟩ => (Nat.zero_add _).symm
    | ⟨3, _⟩ => (Nat.zero_add _).symm

theorem across_at (x : FVec Ideal S8192x1 .f32) (t : Fin 8192) (j : Fin 1024) :
    broadcastInDim S8192x1024 ![0, 1] bcast_S8192x1_S8192x1024_0_1 x (ix2 t j) = x (ix2 t (0 : Fin 1)) :=
  broadcastInDim_apply _ _ x _ _ (fun a => by
    match a with
    | ⟨0, _⟩ => rfl
    | ⟨1, _⟩ => rfl)

theorem below_at (x : FVec Ideal S1x1024 .f32) (t : Fin 8192) (j : Fin 1024) :
    broadcastInDim S8192x1024 ![0, 1] bcast_S1x1024_S8192x1024_0_1 x (ix2 t j) = x (ix2 (0 : Fin 1) j) :=
  broadcastInDim_apply _ _ x _ _ (fun a => by
    match a with
    | ⟨0, _⟩ => rfl
    | ⟨1, _⟩ => rfl)

theorem column_at (x : FVec Ideal S8192 .f32) (t : Fin 8192) :
    broadcastInDim S8192x1 ![0] bcast_S8192_S8192x1_0 x (ix2 t (0 : Fin 1)) = x (ix1 t) :=
  broadcastInDim_apply _ _ x _ _ (fun a => by
    match a with
    | ⟨0, _⟩ => rfl)

theorem reduces_rows : S8192x1024.Reduces [1] S8192 := by decide

theorem sum_at (x : FVec Ideal S8192x1024 .f32) (t : Fin 8192) :
    (Host.reduceAdd x (constant S_ .f32 0x00000000#32) reducesTo_S8192x1024_S8192_d1 h_S_ (ix1 t) : EReal) = ∑ j : Fin 1024, (x (ix2 t j) : EReal) := by
  refine (Ideal.hostReduceAdd_single reducesTo_S8192x1024_S8192_d1 reduces_rows x (Ideal.ofBits .f32 0x00000000#32) (ix1 t)).trans ?_
  rw [Ideal.ofBits_zero_f32, zero_add]
  refine Finset.sum_congr rfl fun c _ => congrArg x ?_
  funext a; apply Fin.ext
  match a with
  | ⟨0, _⟩ => rfl
  | ⟨1, _⟩ => rfl

/-- The rows' means, as a column. -/
def meanCol (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_)) (broadcastInDim S8192x1 ![] bcast_S_S8192x1 (constant S_ .f32 0x44800000#32))

theorem meanCol_at (x : FVec Ideal S8192x1024 .f32) (f : Fin 1024 → EReal) (t : Fin 8192) (hx : ∀ j, (x (ix2 t j) : EReal) = f j) :
    (meanCol x (ix2 t (0 : Fin 1)) : EReal) = mean f := by
  refine congrArg (fun e : EReal => Ideal.div e len) ?_
  exact (column_at _ t).trans ((sum_at x t).trans (Finset.sum_congr rfl fun j _ => hx j))

/-- The rows that are normalised, in the reference's operations. -/
def refRow (h : FVec Ideal S4x8192x704 .bf16) (x : FVec Ideal S8192x1024 .f32) (w : FVec Ideal S4x4x704x1024 .bf16) : FVec Ideal S8192x1024 .f32 :=
  addf (mulf (broadcastInDim S8192x1024 ![] bcast_S_S8192x1024 (constant S_ .f32 0x3FD744FD#32)) x) (mulf (broadcastInDim S8192x1024 ![] bcast_S_S8192x1024 (constant S_ .f32 0x3F000000#32))
    (Host.dotGeneral dot_S4x8192x704_S4x704x1024_S8192x1024_20_10_1_2_n_n none (extf .f32 h bitsLt_bf16_f32) (extf .f32 (shapeCast S4x704x1024 (extractStridedSlice S1x4x704x1024 ![3, 0, 0, 0] w slices_S4x4x704x1024_S1x4x704x1024_3_0_0_0) shapeCasts_S1x4x704x1024_S4x704x1024) bitsLt_bf16_f32)))

theorem refRow_at (h : FVec Ideal S4x8192x704 .bf16) (x : FVec Ideal S8192x1024 .f32) (w : FVec Ideal S4x4x704x1024 .bf16) (t : Fin 8192) (j : Fin 1024) :
    (refRow h x w (ix2 t j) : EReal) = rowOf h x w t j := by
  refine congrArg (fun e : EReal => (al * x (ix2 t j) : EReal) + hf * e) ((dot_at _ _ t j).trans ?_)
  exact Finset.sum_congr rfl fun s _ => Finset.sum_congr rfl fun r _ => congrArg (fun e : EReal => (h (ix3 s t r) : EReal) * e) (layer_at w s r j)

/-- The rows less their means, the inverse deviations, the normalised rows and the result, in the reference's operations. -/
def refCen (x : FVec Ideal S8192x1024 .f32) : FVec Ideal S8192x1024 .f32 := subf x (broadcastInDim S8192x1024 ![0, 1] bcast_S8192x1_S8192x1024_0_1 (meanCol x))
def refRst (x : FVec Ideal S8192x1024 .f32) : FVec Ideal S8192x1 .f32 :=
  Host.rsqrt (addf (meanCol (mulf (refCen x) (refCen x))) (broadcastInDim S8192x1 ![] bcast_S_S8192x1 (constant S_ .f32 0x3727C5AC#32)))
def refHat (x : FVec Ideal S8192x1024 .f32) : FVec Ideal S8192x1024 .f32 := mulf (refCen x) (broadcastInDim S8192x1024 ![0, 1] bcast_S8192x1_S8192x1024_0_1 (refRst x))
def refY (x : FVec Ideal S8192x1024 .f32) (g b : FVec Ideal S1x1024 .f32) : FVec Ideal S8192x1024 .f32 :=
  addf (mulf (refHat x) (broadcastInDim S8192x1024 ![0, 1] bcast_S1x1024_S8192x1024_0_1 g)) (broadcastInDim S8192x1024 ![0, 1] bcast_S1x1024_S8192x1024_0_1 b)

section
variable (x : FVec Ideal S8192x1024 .f32) (f : Fin 1024 → EReal) (t : Fin 8192)

theorem refCen_at (hx : ∀ j, (x (ix2 t j) : EReal) = f j) (j : Fin 1024) : (refCen x (ix2 t j) : EReal) = cen f j :=
  congrArg₂ (· - · : EReal → EReal → EReal) (hx j) ((across_at _ t j).trans (meanCol_at x f t hx))

theorem refRst_at (hx : ∀ j, (x (ix2 t j) : EReal) = f j) : (refRst x (ix2 t (0 : Fin 1)) : EReal) = rst f :=
  congrArg (fun e : EReal => Ideal.rsqrt (e + eps)) (meanCol_at _ _ t fun j =>
    congrArg₂ (· * · : EReal → EReal → EReal) (refCen_at x f t hx j) (refCen_at x f t hx j))

theorem refHat_at (hx : ∀ j, (x (ix2 t j) : EReal) = f j) (j : Fin 1024) : (refHat x (ix2 t j) : EReal) = hat f j :=
  congrArg₂ (· * · : EReal → EReal → EReal) (refCen_at x f t hx j) ((across_at _ t j).trans (refRst_at x f t hx))

theorem refY_at (g b : FVec Ideal S1x1024 .f32) (hx : ∀ j, (x (ix2 t j) : EReal) = f j) (j : Fin 1024) :
    (refY x g b (ix2 t j) : EReal) = hat f j * g (ix2 0 j) + b (ix2 0 j) :=
  congrArg₂ (· + · : EReal → EReal → EReal) (congrArg₂ (· * · : EReal → EReal → EReal) (refHat_at x f t hx j) (below_at g t j)) (below_at b t j)
end

variable (h : FVec Ideal S4x8192x704 .bf16) (x : FVec Ideal S8192x1024 .f32) (w : FVec Ideal S4x4x704x1024 .bf16)

theorem y_eq (g b : FVec Ideal S1x1024 .f32) : refY (refRow h x w) g b = allY h x w g b := by
  funext y
  obtain ⟨t, j, rfl⟩ : ∃ (t : Fin 8192) (j : Fin 1024), y = ix2 t j := ⟨y 0, y 1, eq_ix2 y⟩
  exact refY_at _ _ t g b (refRow_at h x w t) j

theorem hat_eq : refHat (refRow h x w) = allH h x w := by
  funext y
  obtain ⟨t, j, rfl⟩ : ∃ (t : Fin 8192) (j : Fin 1024), y = ix2 t j := ⟨y 0, y 1, eq_ix2 y⟩
  exact refHat_at _ _ t (refRow_at h x w t) j

theorem rst_eq : refRst (refRow h x w) = allR h x w := by
  funext y
  obtain ⟨t, rfl⟩ : ∃ t : Fin 8192, y = ix2 t (0 : Fin 1) := ⟨y 0, (eq_ix2 y).trans (congrArg (ix2 (y 0)) (Fin.ext (Nat.lt_one_iff.mp (y 1).isLt) : y 1 = (0 : Fin 1)))⟩
  exact refRst_at _ _ t (refRow_at h x w t)

/-! ## The results from arguments that are the kernel's -/

section
variable (m' : (ℓ : Loc nD τ sig) → Buf (Elt Ideal) ℓ) (c : Dev nD) (g b : FVec Ideal S1x1024 .f32)

theorem y_of (H : m' ((c.tc : Thread nD τ).loc main_arg0) = h ∧ m' ((c.tc : Thread nD τ).loc main_arg1) = x ∧ m' ((c.tc : Thread nD τ).loc main_arg2) = w ∧ m' ((c.tc : Thread nD τ).loc main_arg3) = g ∧ m' ((c.tc : Thread nD τ).loc main_arg4) = b) : Cert.NormReferenceIdeal.Value.res_out0 m' c = allY h x w g b := by
  obtain ⟨rfl, rfl, rfl, rfl, rfl⟩ := H
  exact y_eq _ _ _ _ _

theorem hat_of (H : m' ((c.tc : Thread nD τ).loc main_arg0) = h ∧ m' ((c.tc : Thread nD τ).loc main_arg1) = x ∧ m' ((c.tc : Thread nD τ).loc main_arg2) = w ∧ m' ((c.tc : Thread nD τ).loc main_arg3) = g ∧ m' ((c.tc : Thread nD τ).loc main_arg4) = b) : Cert.NormReferenceIdeal.Value.res_out1 m' c = allH h x w := by
  obtain ⟨rfl, rfl, rfl, _, _⟩ := H
  exact hat_eq _ _ _

theorem rst_of (H : m' ((c.tc : Thread nD τ).loc main_arg0) = h ∧ m' ((c.tc : Thread nD τ).loc main_arg1) = x ∧ m' ((c.tc : Thread nD τ).loc main_arg2) = w ∧ m' ((c.tc : Thread nD τ).loc main_arg3) = g ∧ m' ((c.tc : Thread nD τ).loc main_arg4) = b) : refRst (refRow (m' ((c.tc : Thread nD τ).loc main_arg0)) (m' ((c.tc : Thread nD τ).loc main_arg1)) (m' ((c.tc : Thread nD τ).loc main_arg2))) = allR h x w := by
  obtain ⟨rfl, rfl, rfl, _, _⟩ := H
  exact rst_eq _ _ _
end

end Cert.NormReferenceIdeal.Hand
end
-- ==== Proof.RowBack.lean ====
module

public import proofs.«01_k».proof.Proof.WNorm
public import proofs.«01_k».proof.Proof.Math

@[expose] public section

noncomputable section

namespace Cert.Norm.Row

open Idealize.ShloMosaic

/-! # The gradient of the layer norm of one row -/

abbrev mh : EReal := Ideal.ofBits .f32 0xBF000000#32

theorem len_eq : len = ((1024 : ℝ) : EReal) := by
  unfold len
  simp [Ideal.ofBits, Ideal.ieee, -EReal.coe_mul]; norm_num

theorem mh_eq : mh = ((-(1 / 2) : ℝ) : EReal) := by
  unfold mh
  simp [Ideal.ofBits, Ideal.ieee, -EReal.coe_mul]; norm_num

theorem al_real : ∃ a : ℝ, al = (a : EReal) := by
  unfold al
  simp [Ideal.ofBits, Ideal.ieee, -EReal.coe_mul]

theorem eps_real : ∃ e : ℝ, 0 < e ∧ eps = (e : EReal) := by
  refine ⟨(10995116 : ℝ) * 2 ^ (-40 : ℤ), by positivity, ?_⟩
  unfold eps
  simp [Ideal.ofBits, Ideal.ieee, -EReal.coe_mul]

/-- The gradient as the kernel takes it: from the normalised row's cotangent `d`. -/
def back (f d : Fin 1024 → EReal) (j : Fin 1024) : EReal :=
  rst f * ((d j - mean d) - hat f j * mean (fun k => d k * hat f k))

/-- The share of an entry's gradient that comes through the variance, before its factor. -/
def viaVar (f d : Fin 1024 → EReal) : EReal :=
  Ideal.div ((∑ k, cen f k * d k) * (mh * Ideal.div (rst f) (mean (fun k => cen f k * cen f k) + eps))) len

/-- The gradient of the row less its mean. -/
def atCen (f d : Fin 1024 → EReal) (j : Fin 1024) : EReal := (d j * rst f + cen f j * viaVar f d) + viaVar f d * cen f j

/-- The gradient by the chain rule: through the row less its mean, and through the mean. -/
def chain (f d : Fin 1024 → EReal) (j : Fin 1024) : EReal := atCen f d j + mean (fun k => - atCen f d k)

theorem mean_coe (a : Fin 1024 → ℝ) : mean (fun k => ((a k : ℝ) : EReal)) = (((∑ k, a k) / 1024 : ℝ) : EReal) := by
  unfold mean
  rw [len_eq, ← Cert.Attn.coe_sum, Cert.Attn.div_real _ (by norm_num)]

theorem rsqrt_pos (v : ℝ) (h : 0 < v) : Ideal.rsqrt (v : EReal) = (((Real.sqrt v)⁻¹ : ℝ) : EReal) := by
  show (if v < 0 then (⊥ : EReal) else if v = 0 then ⊤ else (((Real.sqrt v)⁻¹ : ℝ) : EReal)) = _
  rw [if_neg (not_lt.2 h.le), if_neg h.ne']

/-- The two orders of the gradient agree over the real numbers. -/
theorem real_eq (c d : Fin 1024 → ℝ) (r v : ℝ) (hc : ∑ k, c k = 0) (hr : r / v = r * r * r) (j : Fin 1024) :
    r * ((d j - (∑ k, d k) / 1024) - c j * r * ((∑ k, d k * (c k * r)) / 1024))
      = ((d j * r + c j * (((∑ k, c k * d k) * (-(1 / 2) * (r / v))) / 1024)) + (((∑ k, c k * d k) * (-(1 / 2) * (r / v))) / 1024) * c j)
        + (∑ i, -((d i * r + c i * (((∑ k, c k * d k) * (-(1 / 2) * (r / v))) / 1024)) + (((∑ k, c k * d k) * (-(1 / 2) * (r / v))) / 1024) * c i)) / 1024 := by
  rw [hr]
  generalize hq : ((∑ k, c k * d k) * (-(1 / 2) * (r * r * r))) / 1024 = q
  have h1 : ∑ i, -((d i * r + c i * q) + q * c i) = -((∑ i, d i) * r) := by
    rw [Finset.sum_neg_distrib, Finset.sum_add_distrib, Finset.sum_add_distrib, ← Finset.sum_mul, ← Finset.sum_mul, ← Finset.mul_sum, hc]
    ring
  have h2 : ∑ k, d k * (c k * r) = (∑ k, c k * d k) * r := by
    rw [Finset.sum_mul]
    exact Finset.sum_congr rfl fun k _ => by ring
  rw [h1, h2, ← hq]
  ring

/-- With a real row and a real cotangent, the chain rule's gradient is the kernel's. -/
theorem chain_eq (f d : Fin 1024 → EReal) (F D : Fin 1024 → ℝ) (hf : ∀ k, f k = (F k : EReal)) (hd : ∀ k, d k = (D k : EReal)) (j : Fin 1024) :
    chain f d j = back f d j := by
  obtain rfl : f = fun k => (F k : EReal) := funext hf
  obtain rfl : d = fun k => (D k : EReal) := funext hd
  obtain ⟨e, he, hE⟩ := eps_real
  let M : ℝ := (∑ k, F k) / 1024
  let C : Fin 1024 → ℝ := fun k => F k - M
  let W : ℝ := (∑ k, C k * C k) / 1024 + e
  let R : ℝ := (Real.sqrt W)⁻¹
  have hW : 0 < W := add_pos_of_nonneg_of_pos (div_nonneg (Finset.sum_nonneg fun k _ => mul_self_nonneg _) (by norm_num)) he
  have hC : ∑ k, C k = 0 := by
    show ∑ k, (F k - (∑ k, F k) / 1024) = 0
    rw [Finset.sum_sub_distrib, Finset.sum_const, Finset.card_univ, Fintype.card_fin]
    simp only [nsmul_eq_mul]
    push_cast
    ring
  have hR : R / W = R * R * R := by
    have hs : Real.sqrt W * Real.sqrt W = W := Real.mul_self_sqrt hW.le
    have hs0 : Real.sqrt W ≠ 0 := (Real.sqrt_pos.2 hW).ne'
    show (Real.sqrt W)⁻¹ / W = (Real.sqrt W)⁻¹ * (Real.sqrt W)⁻¹ * (Real.sqrt W)⁻¹
    rw [← mul_inv, hs, div_eq_mul_inv, mul_comm]
  have cC : ∀ k, cen (fun k => (F k : EReal)) k = ((C k : ℝ) : EReal) := fun k => by
    unfold cen; rw [mean_coe, ← EReal.coe_sub]
  have cW : mean (fun k => cen (fun k => (F k : EReal)) k * cen (fun k => (F k : EReal)) k) + eps = ((W : ℝ) : EReal) := by
    simp only [cC, ← EReal.coe_mul]
    rw [mean_coe, hE, ← EReal.coe_add]
  have cR : rst (fun k => (F k : EReal)) = ((R : ℝ) : EReal) := by
    unfold rst; rw [cW]; exact rsqrt_pos W hW
  have cH : ∀ k, hat (fun k => (F k : EReal)) k = ((C k * R : ℝ) : EReal) := fun k => by
    unfold hat; rw [cC, cR, ← EReal.coe_mul]
  have cQ : viaVar (fun k => (F k : EReal)) (fun k => (D k : EReal)) = ((((∑ k, C k * D k) * (-(1 / 2) * (R / W))) / 1024 : ℝ) : EReal) := by
    unfold viaVar
    rw [cW, cR, Cert.Attn.div_real _ hW.ne', mh_eq, len_eq]
    simp only [cC, ← EReal.coe_mul]
    rw [← Cert.Attn.coe_sum, ← EReal.coe_mul, Cert.Attn.div_real _ (by norm_num)]
  have cZ : ∀ k, atCen (fun k => (F k : EReal)) (fun k => (D k : EReal)) k
      = (((D k * R + C k * (((∑ k, C k * D k) * (-(1 / 2) * (R / W))) / 1024)) + (((∑ k, C k * D k) * (-(1 / 2) * (R / W))) / 1024) * C k : ℝ) : EReal) := fun k => by
    unfold atCen
    rw [cQ, cR, cC, ← EReal.coe_mul, ← EReal.coe_mul, ← EReal.coe_mul, ← EReal.coe_add, ← EReal.coe_add]
  unfold chain back
  simp only [cZ, cR, cH, ← EReal.coe_mul, ← EReal.coe_neg]
  rw [mean_coe, mean_coe, mean_coe, ← EReal.coe_add, ← EReal.coe_sub, ← EReal.coe_mul, ← EReal.coe_sub, ← EReal.coe_mul]
  exact congrArg _ (real_eq C D R W hC hR j).symm

/-! ## Rows with an infinity -/

theorem add_inf (a b : EReal) (h : a = ⊤ ∨ a = ⊥) : a + b = ⊤ ∨ a + b = ⊥ := by
  rcases h with rfl | rfl
  · by_cases hb : b = ⊥
    · right; rw [hb, EReal.add_bot]
    · left; exact EReal.top_add_of_ne_bot hb
  · right; exact EReal.bot_add b

theorem sum_inf (f : Fin 1024 → EReal) (k : Fin 1024) (h : f k = ⊤ ∨ f k = ⊥) : ∑ i, f i = ⊤ ∨ ∑ i, f i = ⊥ := by
  rw [← Finset.add_sum_erase Finset.univ f (Finset.mem_univ k)]
  exact add_inf _ _ h

theorem div_len (x : EReal) : Ideal.div x len = x * ((1024 : ℝ)⁻¹ : ℝ) := by
  rw [len_eq]
  show (if ((1024 : ℝ) : EReal) = 0 then _ else x * ((1024 : ℝ) : EReal)⁻¹) = _
  rw [if_neg (by norm_num), EReal.coe_inv]

theorem div_inf (x : EReal) (h : x = ⊤ ∨ x = ⊥) : Ideal.div x len = x := by
  rw [div_len]
  have p : (0 : ℝ) < (1024 : ℝ)⁻¹ := by norm_num
  rcases h with rfl | rfl
  · exact EReal.top_mul_coe_of_pos p
  · exact EReal.bot_mul_coe_of_pos p

theorem mul_self_inf (a : EReal) (h : a = ⊤ ∨ a = ⊥) : a * a = ⊤ := by
  rcases h with rfl | rfl
  · exact EReal.top_mul_top
  · exact EReal.bot_mul_bot

/-- In a row with an infinity the inverse deviation is zero, and so is the variance's share. -/
theorem rst_inf (f : Fin 1024 → EReal) (k : Fin 1024) (h : f k = ⊤ ∨ f k = ⊥) : mean (fun i => cen f i * cen f i) + eps = ⊤ ∧ rst f = 0 := by
  have hm : mean f = ⊤ ∨ mean f = ⊥ := by
    have := sum_inf f k h
    unfold mean
    rw [div_inf _ this]; exact this
  have hc : ∀ i, cen f i = ⊤ ∨ cen f i = ⊥ := fun i => by
    show f i + -mean f = ⊤ ∨ f i + -mean f = ⊥
    rw [add_comm]
    refine add_inf _ _ ?_
    rcases hm with e | e
    · right; rw [e, EReal.neg_top]
    · left; rw [e, EReal.neg_bot]
  have hs : ∀ i, cen f i * cen f i = ⊤ := fun i => mul_self_inf _ (hc i)
  have ht : ∑ i, cen f i * cen f i = ⊤ := by
    rcases sum_inf (fun i => cen f i * cen f i) k (Or.inl (hs k)) with e | e
    · exact e
    · have p : (0 : EReal) ≤ ∑ i, cen f i * cen f i := Finset.sum_nonneg fun i _ => by rw [hs i]; exact le_top
      exact absurd (e ▸ p) (by simp)
  obtain ⟨e, _, hE⟩ := eps_real
  have hv : mean (fun i => cen f i * cen f i) + eps = ⊤ := by
    unfold mean
    rw [ht, div_inf _ (Or.inl rfl), hE]
    exact EReal.top_add_of_ne_bot (EReal.coe_ne_bot e)
  refine ⟨hv, ?_⟩
  unfold rst
  rw [hv]
  rfl

/-- There both gradients are zero. -/
theorem chain_inf (f d : Fin 1024 → EReal) (k : Fin 1024) (h : f k = ⊤ ∨ f k = ⊥) (j : Fin 1024) : chain f d j = back f d j := by
  obtain ⟨hv, hr⟩ := rst_inf f k h
  have hd : Ideal.div (0 : EReal) ⊤ = 0 := by
    show (if (⊤ : EReal) = 0 then _ else (0 : EReal) * (⊤ : EReal)⁻¹) = 0
    rw [if_neg EReal.top_ne_zero, zero_mul]
  have hq : viaVar f d = 0 := by
    unfold viaVar
    rw [hv, hr, hd, mul_zero, mul_zero, div_len, zero_mul]
  have ha : ∀ i, atCen f d i = 0 := fun i => by
    unfold atCen
    rw [hq, hr, mul_zero, mul_zero, zero_mul, add_zero, add_zero]
  unfold chain back mean
  simp only [ha, hr, neg_zero, Finset.sum_const_zero, div_len, zero_mul, add_zero]

/-- With a real cotangent the chain rule's gradient is the kernel's, whatever the row. -/
theorem chain_row (f d : Fin 1024 → EReal) (D : Fin 1024 → ℝ) (hd : ∀ k, d k = (D k : EReal)) (j : Fin 1024) : chain f d j = back f d j := by
  by_cases h : ∃ k, f k = ⊤ ∨ f k = ⊥
  · obtain ⟨k, hk⟩ := h
    exact chain_inf f d k hk j
  · refine chain_eq f d (fun k => (f k).toReal) D (fun k => ?_) hd j
    exact (EReal.coe_toReal (fun e => h ⟨k, Or.inl e⟩) (fun e => h ⟨k, Or.inr e⟩)).symm

end Cert.Norm.Row

end
-- ==== Proof.WBack.lean ====
module

public import proofs.«01_k».proof.Proof.Gen.BackIdeal.Value
public import proofs.«01_k».proof.Proof.Gen.BackReferenceIdeal.Run
public import proofs.«01_k».proof.Pre_finite_back
public import proofs.«01_k».proof.Proof.Pre
public import proofs.«01_k».proof.Proof.WDx
public import proofs.«01_k».proof.Proof.RowBack
public import Idealize.ShloMosaic.Lib.Tactic
public import Idealize.ShloMosaic.PureOps.Ideal.Laws
public import Idealize.ShloMosaic.Lib.ValueLayout
public import Idealize.ShloMosaic.Lib.ValueIdx

@[expose] public section

noncomputable section

namespace Cert.BackIdeal.Hand

open Cert.BackIdeal Cert.BackIdeal.Gen Idealize.ShloMosaic Idealize.ShloMosaic.ValueIdx Idealize.ShloMosaic.TcCoe Idealize.SL.Sem
open Cert.DxIdeal.Hand (GBlk RBlk WBlk sx sh lin)
open Cert.Norm.Row (mean back hat rst)

/-! # The gradient at the layer norm's input: what a block of frames leaves, and the arrays -/

abbrev CBlk := Vec Ideal S512x1 .f32
abbrev VBlk := Vec Ideal S1x1024 .f32

/-- The gradient of a block's rows from their cotangents `D`, their normalised rows `H`, the inverse deviations `s` and the gain `g`. -/
def rowsBack (D H : RBlk) (s : CBlk) (g : VBlk) : RBlk := fun y =>
  (s (ix2 (y 0) 0) * ((D (ix2 (y 0) (y 1)) * g (ix2 0 (y 1)) - mean (fun k => D (ix2 (y 0) k) * g (ix2 0 k)))
    - H (ix2 (y 0) (y 1)) * mean (fun k => (D (ix2 (y 0) k) * g (ix2 0 k)) * H (ix2 (y 0) k))) : EReal)

theorem same {s : Shape} {e : EltTy} (x : Vec Ideal s e) (h : s.ShapeCasts s) : shapeCast s x h = x := funext fun i => shapeCast_apply x h i i rfl

theorem pay5_eq (H : RBlk) : k0_pay5 (F := Ideal) H = H := same _ _

theorem pay6_at (D : FVec Ideal S512x1024 .f32) (H : RBlk) (g : VBlk) (s : CBlk) (y : S512x1024.Idx) : (k0_pay6 (F := Ideal) D H g s y : EReal) = rowsBack D H s g y := by
  obtain ⟨i, j, rfl⟩ : ∃ (i : Fin 512) (j : Fin 1024), y = ix2 i j := ⟨y 0, y 1, eq_ix2 y⟩
  have e : ∀ k : Fin 1024, (mulf D (broadcastTo S512x1024 g broadcasts_S1x1024_S512x1024) (ix2 i k) : EReal) = D (ix2 i k) * g (ix2 0 k) := fun k =>
    congrArg (fun e : EReal => (D (ix2 i k) : EReal) * e) (broadcastTo_1b_ab_apply _ _ _ _)
  unfold k0_pay6
  rw [pay5_eq]
  refine congrArg₂ (· * · : EReal → EReal → EReal) ((Cert.NormIdeal.Hand.spread_at _ i j).trans ?_) (congrArg₂ (· - · : EReal → EReal → EReal)
    (congrArg₂ (· - · : EReal → EReal → EReal) (e j) ((Cert.NormIdeal.Hand.spread_at _ i j).trans (Cert.NormIdeal.Hand.meanCol_at _ _ i e)))
    (congrArg (fun e : EReal => (H (ix2 i j) : EReal) * e) ((Cert.NormIdeal.Hand.spread_at _ i j).trans (Cert.NormIdeal.Hand.meanCol_at _ _ i fun k => congrArg (fun e' : EReal => e' * (H (ix2 i k) : EReal)) (e k)))))
  exact congrFun (same _ _) _

theorem lit1 : (Ideal.ofBits .f32 0x3F800000#32 : EReal) = 1 := by
  simp [Ideal.ofBits, Ideal.ieee, -EReal.coe_mul]; norm_num

theorem pay7_at (D : FVec Ideal S512x1024 .f32) (H : RBlk) (g : VBlk) (s : CBlk) (y : S512x1024.Idx) : (k0_pay7 (F := Ideal) D H g s y : EReal) = rowsBack D H s g y := by
  unfold k0_pay7
  show ((Ideal.ofBits .f32 0x3F800000#32 : EReal) * k0_pay6 (F := Ideal) D H g s y) = _
  rw [lit1, one_mul, pay6_at]

/-- The cotangent of the block's rows. -/
theorem lin_eq (G U : GBlk) (R : RBlk) (W W' : WBlk) :
    (k0_pay4 (F := Ideal) (k0_pay3 (F := Ideal) (sx G 0) (sh W 0) (sx G 1) (sh W 1) (sx G 2) (sh W 2) (sx G 3) (sh W 3)) (sx U 0) (sh W' 0) (sx U 1) (sh W' 1) (sx U 2) (sh W' 2) (sx U 3) (sh W' 3) R : RBlk)
      = lin G U R W W' :=
  funext fun y => Cert.DxIdeal.Hand.pay_at G U R W W' y

theorem hz2 : (![0, 0] : Fin 2 → Nat) = fun _ => 0 := funext fun a => by fin_cases a <;> rfl

section
variable (c : Dev nD) (i : grid0.Coords) (a1 : Memref sig .tc .vmem S4x512x704 .bf16) (h1 : a1.IsWhole) (a2 : Memref sig .tc .vmem S4x512x704 .bf16) (h2 : a2.IsWhole) (a3 : Memref sig .tc .vmem S512x1024 .f32) (h3 : a3.IsWhole) (a4 : Memref sig .tc .vmem S512x1024 .f32) (h4 : a4.IsWhole) (a5 : Memref sig .tc .vmem S512x1 .f32) (h5 : a5.IsWhole) (a6 : Memref sig .tc .vmem S1x4x1024x704 .bf16) (h6 : a6.IsWhole) (a7 : Memref sig .tc .vmem S1x4x1024x704 .bf16) (h7 : a7.IsWhole) (a8 : Memref sig .tc .vmem S1x1024 .f32) (h8 : a8.IsWhole) (a9 : Memref sig .tc .vmem S512x1024 .f32) (h9 : a9.IsWhole) (a10 : Memref sig .tc .vmem S512x1024 .bf16) (h10 : a10.IsWhole) (a11 : Memref sig .tc .vmem S8x1024 .f32) (h11 : a11.IsWhole) (a12 : Memref sig .tc .vmem S8x1024 .f32) (h12 : a12.IsWhole)
  (G U : GBlk) (R H : RBlk) (s : CBlk) (W W' : WBlk) (g : VBlk)

theorem outA8 (hc0 : cond0_0 i) (hc1 : ¬cond0_1 i) (hc2 : cond0_2 i) (hc3 : ¬cond0_3 i) (y : S512x1024.Idx) :
    (out0_A_8 c i a1 h1 a2 h2 a3 h3 a4 h4 a5 h5 a6 h6 a7 h7 a8 h8 a9 h9 a10 h10 a11 h11 a12 h12 hc0 hc1 hc2 hc3 G U R H s W W' g y : EReal) = rowsBack (lin G U R W W') H s g y := by
  unfold out0_A_8
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread,
    View.ld_unit_zero (S := S512x1024) hz2, View.ld_unit_zero (S := S512x1) hz2, View.ld_unit_zero (S := S1x1024) hz2]
  rw [View.canon_unit_zero (S := S512x1024) hz2]
  exact (congrArg (fun D : RBlk => (k0_pay6 (F := Ideal) D H g s y : EReal)) (lin_eq G U R W W')).trans (pay6_at _ H g s y)

theorem outA9 (hc0 : cond0_0 i) (hc1 : ¬cond0_1 i) (hc2 : cond0_2 i) (hc3 : ¬cond0_3 i) (y : S512x1024.Idx) :
    (out0_A_9 c i a1 h1 a2 h2 a3 h3 a4 h4 a5 h5 a6 h6 a7 h7 a8 h8 a9 h9 a10 h10 a11 h11 a12 h12 hc0 hc1 hc2 hc3 G U R H s W W' g y : EReal) = rowsBack (lin G U R W W') H s g y := by
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread,
    View.ld_unit_zero (S := S512x1024) hz2, View.ld_unit_zero (S := S512x1) hz2, View.ld_unit_zero (S := S1x1024) hz2]
  rw [View.canon_unit_zero (S := S512x1024) hz2]
  exact (congrArg (fun D : RBlk => (k0_pay7 (F := Ideal) D H g s y : EReal)) (lin_eq G U R W W')).trans (pay7_at _ H g s y)

theorem outB8 (p q : Vec Ideal S8x1024 .f32) (hc0 : ¬cond0_0 i) (hc1 : cond0_1 i) (hc2 : ¬cond0_2 i) (hc3 : cond0_3 i) (y : S512x1024.Idx) :
    (out0_B_8 c i a1 h1 a2 h2 a3 h3 a4 h4 a5 h5 a6 h6 a7 h7 a8 h8 a9 h9 a10 h10 a11 h11 a12 h12 hc0 hc1 hc2 hc3 G U R H s W W' g p q y : EReal) = rowsBack (lin G U R W W') H s g y := by
  unfold out0_B_8
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread,
    View.ld_unit_zero (S := S512x1024) hz2, View.ld_unit_zero (S := S512x1) hz2, View.ld_unit_zero (S := S1x1024) hz2]
  rw [View.canon_unit_zero (S := S512x1024) hz2]
  exact (congrArg (fun D : RBlk => (k0_pay6 (F := Ideal) D H g s y : EReal)) (lin_eq G U R W W')).trans (pay6_at _ H g s y)

theorem outB9 (p q : Vec Ideal S8x1024 .f32) (hc0 : ¬cond0_0 i) (hc1 : cond0_1 i) (hc2 : ¬cond0_2 i) (hc3 : cond0_3 i) (y : S512x1024.Idx) :
    (out0_B_9 c i a1 h1 a2 h2 a3 h3 a4 h4 a5 h5 a6 h6 a7 h7 a8 h8 a9 h9 a10 h10 a11 h11 a12 h12 hc0 hc1 hc2 hc3 G U R H s W W' g p q y : EReal) = rowsBack (lin G U R W W') H s g y := by
  unfold out0_B_9
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread,
    View.ld_unit_zero (S := S512x1024) hz2, View.ld_unit_zero (S := S512x1) hz2, View.ld_unit_zero (S := S1x1024) hz2]
  rw [View.canon_unit_zero (S := S512x1024) hz2]
  exact (congrArg (fun D : RBlk => (k0_pay7 (F := Ideal) D H g s y : EReal)) (lin_eq G U R W W')).trans (pay7_at _ H g s y)

end

/-! ## The arrays -/

/-- The cotangent of the normalised and scaled rows: the residual branch's, and the two projections' transposed. -/
def cot (g u : Vec Ideal S4x8192x704 .bf16) (w w' : Vec Ideal S4x4x1024x704 .bf16) (d : Vec Ideal S8192x1024 .f32) (t : Fin 8192) (j : Fin 1024) : EReal :=
  Cert.DxIdeal.Hand.al * d (ix2 t j) + ∑ s : Fin 4, ∑ r : Fin 704, (u (ix3 s t r) * w' (ix4 3 s j r) : EReal)
    + ∑ s : Fin 4, ∑ r : Fin 704, (g (ix3 s t r) * w (ix4 3 s j r) : EReal)

/-- The gradient at the layer norm's input. -/
def grad (g u : Vec Ideal S4x8192x704 .bf16) (w w' : Vec Ideal S4x4x1024x704 .bf16) (d x : Vec Ideal S8192x1024 .f32) (gn : Vec Ideal S1x1024 .f32) : Vec Ideal S8192x1024 .f32 := fun y =>
  back (fun k => x (ix2 (y 0) k)) (fun k => cot g u w w' d (y 0) k * gn (ix2 0 k)) (y 1)

variable (m : (ℓ : Loc nD τ sig) → Buf (Elt Ideal) ℓ) (c : Dev nD)

abbrev gs : Vec Ideal S4x8192x704 .bf16 := m ((c.tc : Thread nD τ).loc main_arg0)
abbrev us : Vec Ideal S4x8192x704 .bf16 := m ((c.tc : Thread nD τ).loc main_arg1)
abbrev wg : Vec Ideal S4x4x1024x704 .bf16 := m ((c.tc : Thread nD τ).loc main_arg2)
abbrev wu : Vec Ideal S4x4x1024x704 .bf16 := m ((c.tc : Thread nD τ).loc main_arg3)
abbrev ds : Vec Ideal S8192x1024 .f32 := m ((c.tc : Thread nD τ).loc main_arg4)
abbrev xs : Vec Ideal S8192x1024 .f32 := m ((c.tc : Thread nD τ).loc main_arg5)
abbrev gns : Vec Ideal S1x1024 .f32 := m ((c.tc : Thread nD τ).loc main_arg6)
abbrev all : Vec Ideal S8192x1024 .f32 := grad (gs m c) (us m c) (wg m c) (wu m c) (ds m c) (xs m c) (gns m c)

open StableHlo in
set_option maxRecDepth 8192 in
set_option maxHeartbeats 20000000 in
/-- The normalised rows the kernel is given. -/
theorem V_hat : V m c main_v15 = Cert.NormReferenceIdeal.Hand.refHat (xs m c) := by
  unfold V
  simp only [hostOps0, List.flatten_cons, List.flatten_nil, List.cons_append, List.nil_append, List.append_nil, TRef.binary, TRef.nullary, TRef.ternary, TRef.unary, TRef.toBuf, TRef.ofBuf, cast_eq]
  after_results_simp <;> rfl

open StableHlo in
set_option maxRecDepth 8192 in
set_option maxHeartbeats 20000000 in
/-- The inverse deviations the kernel is given. -/
theorem V_rst : V m c main_v13 = Cert.NormReferenceIdeal.Hand.refRst (xs m c) := by
  unfold V
  simp only [hostOps0, List.flatten_cons, List.flatten_nil, List.cons_append, List.nil_append, List.append_nil, TRef.binary, TRef.nullary, TRef.ternary, TRef.unary, TRef.toBuf, TRef.ofBuf, cast_eq]
  after_results_simp <;> rfl

/-- Frame `r` of block `k`. -/
def frame (k : Fin 16) (r : Fin 512) : Fin 8192 := ⟨512 * k.val + r.val, by omega⟩

theorem co0 (t : Fin cfg0.N) : (grid0.coords t 0).val = t.val := by
  have h := Pipeline.Grid.coords_val (G := grid0) t 0 (S := 1) (B := 16) (by decide) (by decide)
  have hN := lt_of_lt_of_eq t.isLt (show cfg0.N = 16 from N_0)
  rw [Nat.div_one, Nat.mod_eq_of_lt hN] at h; exact h

theorem tr (i : grid0.Coords) : (BitVec.ofNat 32 (i 0).val).toNat = (i 0).val := by
  have key : ∀ (p : Fin 16), (BitVec.ofNat 32 p.val).toNat = p.val := by decide +kernel
  exact key (i 0)

theorem lt16 (t : Fin cfg0.N) : t.val < 16 := lt_of_lt_of_eq t.isLt (show cfg0.N = 16 from N_0)

theorem iblk_g (t : Fin cfg0.N) (s : Fin 4) (r : Fin 512) (i : Fin 704) :
    (iblk m c 0 t : GBlk) (ix3 s r i) = gs m c (ix3 s (frame ⟨t.val, lt16 t⟩ r) i) := by
  unfold iblk
  rw [View.read_apply]
  show V m c main_arg0 _ = gs m c _
  rw [V_main_arg0]
  refine congrArg (gs m c) ?_
  funext a; apply Fin.ext
  match a with
  | ⟨0, _⟩ => show 0 * 4 + 1 * s.val = s.val; omega
  | ⟨1, _⟩ => show (BitVec.ofNat 32 (grid0.coords t 0).val).toNat * 512 + 1 * r.val = 512 * t.val + r.val
              rw [tr, co0]; omega
  | ⟨2, _⟩ => show 0 * 704 + 1 * i.val = i.val; omega

theorem iblk_u (t : Fin cfg0.N) (s : Fin 4) (r : Fin 512) (i : Fin 704) :
    (iblk m c 1 t : GBlk) (ix3 s r i) = us m c (ix3 s (frame ⟨t.val, lt16 t⟩ r) i) := by
  unfold iblk
  rw [View.read_apply]
  show V m c main_arg1 _ = us m c _
  rw [V_main_arg1]
  refine congrArg (us m c) ?_
  funext a; apply Fin.ext
  match a with
  | ⟨0, _⟩ => show 0 * 4 + 1 * s.val = s.val; omega
  | ⟨1, _⟩ => show (BitVec.ofNat 32 (grid0.coords t 0).val).toNat * 512 + 1 * r.val = 512 * t.val + r.val
              rw [tr, co0]; omega
  | ⟨2, _⟩ => show 0 * 704 + 1 * i.val = i.val; omega

theorem iblk_wg (t : Fin cfg0.N) (s : Fin 4) (i : Fin 1024) (j : Fin 704) :
    (iblk m c 5 t : WBlk) (ix4 0 s i j) = wg m c (ix4 3 s i j) := by
  unfold iblk
  rw [View.read_apply]
  show V m c main_arg2 _ = wg m c _
  rw [V_main_arg2]
  refine congrArg (wg m c) ?_
  funext a; apply Fin.ext
  match a with
  | ⟨0, _⟩ => rfl
  | ⟨1, _⟩ => show 0 * 4 + 1 * s.val = s.val; omega
  | ⟨2, _⟩ => show 0 * 1024 + 1 * i.val = i.val; omega
  | ⟨3, _⟩ => show 0 * 704 + 1 * j.val = j.val; omega

theorem iblk_wu (t : Fin cfg0.N) (s : Fin 4) (i : Fin 1024) (j : Fin 704) :
    (iblk m c 6 t : WBlk) (ix4 0 s i j) = wu m c (ix4 3 s i j) := by
  unfold iblk
  rw [View.read_apply]
  show V m c main_arg3 _ = wu m c _
  rw [V_main_arg3]
  refine congrArg (wu m c) ?_
  funext a; apply Fin.ext
  match a with
  | ⟨0, _⟩ => rfl
  | ⟨1, _⟩ => show 0 * 4 + 1 * s.val = s.val; omega
  | ⟨2, _⟩ => show 0 * 1024 + 1 * i.val = i.val; omega
  | ⟨3, _⟩ => show 0 * 704 + 1 * j.val = j.val; omega

/-- The place in the array of a place in point `t`'s block. -/
def place (t : Fin cfg0.N) (y : S512x1024.Idx) : S8192x1024.Idx := ix2 (frame ⟨t.val, lt16 t⟩ (y 0)) (y 1)

theorem place_eq (t : Fin cfg0.N) (y : S512x1024.Idx) (z : S8192x1024.Idx)
    (h0 : (z 0).val = (BitVec.ofNat 32 (grid0.coords t 0).val).toNat * 512 + 1 * (y 0).val) (h1 : (z 1).val = 0 * 1024 + 1 * (y 1).val) : z = place t y := by
  rw [tr, co0] at h0
  funext a; apply Fin.ext
  match a with
  | ⟨0, _⟩ => show (z 0).val = 512 * t.val + (y 0).val; omega
  | ⟨1, _⟩ => show (z 1).val = (y 1).val; omega

theorem iblk_r (t : Fin cfg0.N) (y : S512x1024.Idx) : (iblk m c 2 t : RBlk) y = ds m c (place t y) := by
  unfold iblk
  rw [View.read_apply]
  show V m c main_arg4 _ = ds m c _
  rw [V_main_arg4]
  exact congrArg (ds m c) (place_eq t y _ rfl rfl)

/-- Every place of the array is a place of some point's block. -/
theorem place_onto (i : S8192x1024.Idx) : ∃ t y, place t y = i := by
  have h : (i 0).val < 8192 := (i 0).isLt
  refine ⟨⟨(i 0).val / 512, lt_of_lt_of_eq (by omega) (show cfg0.N = 16 from N_0).symm⟩, ix2 ⟨(i 0).val % 512, by omega⟩ (i 1), ?_⟩
  funext a; apply Fin.ext
  match a with
  | ⟨0, _⟩ => show 512 * ((i 0).val / 512) + (i 0).val % 512 = (i 0).val; omega
  | ⟨1, _⟩ => rfl

theorem iblk_x (t : Fin cfg0.N) (y : S512x1024.Idx) : (iblk m c 3 t : RBlk) y = Cert.NormReferenceIdeal.Hand.refHat (xs m c) (place t y) := by
  unfold iblk
  rw [View.read_apply]
  show V m c main_v15 _ = _
  rw [V_hat]
  exact congrArg (Cert.NormReferenceIdeal.Hand.refHat (xs m c)) (place_eq t y _ rfl rfl)

theorem iblk_s (t : Fin cfg0.N) (r : Fin 512) : (iblk m c 4 t : CBlk) (ix2 r 0) = Cert.NormReferenceIdeal.Hand.refRst (xs m c) (ix2 (frame ⟨t.val, lt16 t⟩ r) (0 : Fin 1)) := by
  unfold iblk
  rw [View.read_apply]
  show V m c main_v13 _ = _
  rw [V_rst]
  refine congrArg (Cert.NormReferenceIdeal.Hand.refRst (xs m c)) ?_
  funext a; apply Fin.ext
  match a with
  | ⟨0, _⟩ => show (BitVec.ofNat 32 (grid0.coords t 0).val).toNat * 512 + 1 * r.val = 512 * t.val + r.val
              rw [tr, co0]; omega
  | ⟨1, _⟩ => rfl

theorem iblk_n (t : Fin cfg0.N) (k : Fin 1024) : (iblk m c 7 t : VBlk) (ix2 0 k) = gns m c (ix2 0 k) := by
  unfold iblk
  rw [View.read_apply]
  show V m c main_arg6 _ = gns m c _
  rw [V_main_arg6]
  refine congrArg (gns m c) ?_
  funext a; apply Fin.ext
  match a with
  | ⟨0, _⟩ => rfl
  | ⟨1, _⟩ => show 0 * 1024 + 1 * k.val = k.val; omega

theorem emb8 (t : Fin cfg0.N) (y : S512x1024.Idx) : ((cfg0.win 8).blk t).view.emb y = place t y := place_eq t y _ rfl rfl
theorem emb9 (t : Fin cfg0.N) (y : S512x1024.Idx) : ((cfg0.win 9).blk t).view.emb y = place t y := place_eq t y _ rfl rfl

theorem lin_at (t : Fin cfg0.N) (r : Fin 512) (k : Fin 1024) :
    (lin (iblk m c 0 t) (iblk m c 1 t) (iblk m c 2 t) (iblk m c 5 t) (iblk m c 6 t) (ix2 r k) : EReal) = cot (gs m c) (us m c) (wg m c) (wu m c) (ds m c) (frame ⟨t.val, lt16 t⟩ r) k := by
  refine congrArg₂ (· + · : EReal → EReal → EReal) (congrArg₂ (· + · : EReal → EReal → EReal) (congrArg (fun e : EReal => Cert.DxIdeal.Hand.al * e) (iblk_r m c t (ix2 r k))) ?_) ?_
  · exact Finset.sum_congr rfl fun s _ => Finset.sum_congr rfl fun i _ => congrArg₂ (· * · : EReal → EReal → EReal) (iblk_u m c t s r i) (iblk_wu m c t s k i)
  · exact Finset.sum_congr rfl fun s _ => Finset.sum_congr rfl fun i _ => congrArg₂ (· * · : EReal → EReal → EReal) (iblk_g m c t s r i) (iblk_wg m c t s k i)

/-- What point `t` leaves. -/
abbrev blockOut (t : Fin cfg0.N) : RBlk :=
  rowsBack (lin (iblk m c 0 t) (iblk m c 1 t) (iblk m c 2 t) (iblk m c 5 t) (iblk m c 6 t)) (iblk m c 3 t) (iblk m c 4 t) (iblk m c 7 t)

theorem block_at (t : Fin cfg0.N) (y : S512x1024.Idx) : (blockOut m c t y : EReal) = all m c (place t y) := by
  have e : ∀ k : Fin 1024, (lin (iblk m c 0 t) (iblk m c 1 t) (iblk m c 2 t) (iblk m c 5 t) (iblk m c 6 t) (ix2 (y 0) k) * (iblk m c 7 t : VBlk) (ix2 0 k) : EReal)
      = cot (gs m c) (us m c) (wg m c) (wu m c) (ds m c) (frame ⟨t.val, lt16 t⟩ (y 0)) k * gns m c (ix2 0 k) := fun k =>
    congrArg₂ (· * · : EReal → EReal → EReal) (lin_at m c t (y 0) k) (iblk_n m c t k)
  have h : ∀ k : Fin 1024, ((iblk m c 3 t : RBlk) (ix2 (y 0) k) : EReal) = hat (fun k => xs m c (ix2 (frame ⟨t.val, lt16 t⟩ (y 0)) k)) k := fun k =>
    (iblk_x m c t (ix2 (y 0) k)).trans (Cert.NormReferenceIdeal.Hand.refHat_at _ _ _ (fun _ => rfl) k)
  exact congrArg₂ (· * · : EReal → EReal → EReal) ((iblk_s m c t (y 0)).trans (Cert.NormReferenceIdeal.Hand.refRst_at _ _ _ fun _ => rfl))
    (congrArg₂ (· - · : EReal → EReal → EReal) (congrArg₂ (· - · : EReal → EReal → EReal) (e (y 1)) (congrArg mean (funext e)))
      (congrArg₂ (· * · : EReal → EReal → EReal) (h (y 1)) (congrArg mean (funext fun k => congrArg₂ (· * · : EReal → EReal → EReal) (e k) (h k)))))

theorem point8 (t : Fin cfg0.N) (y : S512x1024.Idx) : ((outsAt0 m c t.val t.isLt).1 y : EReal) = all m c (place t y) := by
  have hN := lt16 t
  refine Eq.trans ?_ (block_at m c t y)
  by_cases h : t.val = 0
  · rw [outsAt0_A m c t (by omega) (by omega) (by omega) (by omega)]
    dsimp only
    exact outA8 c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ y
  · rw [outsAt0_B m c t (by omega) (by omega) (by omega) (by omega)]
    dsimp only
    exact outB8 c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ _ _ y

theorem arr8 : (dats m 0 c).arrAt 8 cfg0.N = all m c := by
  refine (dats m 0 c).arrAt_eq_of_cover 8 _ (fun t hf => ?_) (fun i => ?_)
  · rw [Cert.BackIdeal.Value.flushed8]
    funext y
    rw [View.read_apply]
    exact (point8 m c t y).trans (congrArg (all m c) (emb8 t y).symm)
  · obtain ⟨t, y, e⟩ := place_onto i
    exact ⟨t, flush0_8 t, by rw [← e, ← emb8]; exact View.emb_mem_set _ _⟩

theorem point9 (t : Fin cfg0.N) (y : S512x1024.Idx) : ((outsAt0 m c t.val t.isLt).2.1 y : EReal) = all m c (place t y) := by
  have hN := lt16 t
  refine Eq.trans ?_ (block_at m c t y)
  by_cases h : t.val = 0
  · rw [outsAt0_A m c t (by omega) (by omega) (by omega) (by omega)]
    dsimp only
    exact outA9 c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ y
  · rw [outsAt0_B m c t (by omega) (by omega) (by omega) (by omega)]
    dsimp only
    exact outB9 c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ _ _ y

theorem arr9 : (dats m 0 c).arrAt 9 cfg0.N = all m c := by
  refine (dats m 0 c).arrAt_eq_of_cover 9 _ (fun t hf => ?_) (fun i => ?_)
  · rw [Cert.BackIdeal.Value.flushed9]
    funext y
    rw [View.read_apply]
    exact (point9 m c t y).trans (congrArg (all m c) (emb9 t y).symm)
  · obtain ⟨t, y, e⟩ := place_onto i
    exact ⟨t, flush0_9 t, by rw [← e, ← emb9]; exact View.emb_mem_set _ _⟩

end Cert.BackIdeal.Hand

namespace Cert.Pre_finite_back.Hand

open Cert.Pre_finite_back Idealize.ShloMosaic Idealize.ShloMosaic.ValueIdx
open Cert.Pre_finite.Hand (all_one real_of)

instance facts : Cert.Pre_finite_back.Facts where
  bitsLt_bf16_f32 := by decide
  bcast_S_S4x8192x704 := by decide
  reducesTo_S4x8192x704_S_d0_1_2 := by decide
  h_S_ := by decide
  slices_S4x4x1024x704_S1x4x1024x704_3_0_0_0 := by decide
  shapeCasts_S1x4x1024x704_S4x1024x704 := by decide
  bcast_S_S4x1024x704 := by decide
  reducesTo_S4x1024x704_S_d0_1_2 := by decide
  bcast_S_S8192x1024 := by decide
  reducesTo_S8192x1024_S_d0_1 := by decide
  bcast_S_S1x1024 := by decide
  reducesTo_S1x1024_S_d0_1 := by decide

/-- The layer's weight, cut from the stack of layers. -/
theorem layer_at (w : FVec Ideal S4x4x1024x704 .bf16) (h : S4x4x1024x704.Slices ![3, 0, 0, 0] S1x4x1024x704) (h' : S1x4x1024x704.ShapeCasts S4x1024x704)
    (s : Fin 4) (i : Fin 1024) (j : Fin 704) :
    (shapeCast S4x1024x704 (extractStridedSlice S1x4x1024x704 ![3, 0, 0, 0] w h) h' (ix3 s i j) : EReal) = w (ix4 3 s i j) := by
  refine (ValueIdx.shapeCast_1abc_abc_apply (extractStridedSlice S1x4x1024x704 ![3, 0, 0, 0] w h) _ s i j).trans ?_
  exact extractStridedSlice_apply _ w _ _ _ fun a => match a with
    | ⟨0, _⟩ => rfl
    | ⟨1, _⟩ => (Nat.zero_add _).symm
    | ⟨2, _⟩ => (Nat.zero_add _).symm
    | ⟨3, _⟩ => (Nat.zero_add _).symm

/-- The cotangents, the layer's weights and the gain are real numbers. -/
theorem reals (g u : FVec Ideal S4x8192x704 .bf16) (w w' : FVec Ideal S4x4x1024x704 .bf16) (d x : FVec Ideal S8192x1024 .f32) (gn : FVec Ideal S1x1024 .f32)
    (e : Cert.Pre_finite_back.fn (F := Ideal) g u w w' d x gn = fun _ => 1#1) :
    (∀ i, (g i : EReal) = ((g i : EReal).toReal : EReal)) ∧ (∀ i, (u i : EReal) = ((u i : EReal).toReal : EReal))
      ∧ (∀ (s : Fin 4) (i : Fin 1024) (j : Fin 704), (w (ix4 3 s i j) : EReal) = ((w (ix4 3 s i j) : EReal).toReal : EReal))
      ∧ (∀ (s : Fin 4) (i : Fin 1024) (j : Fin 704), (w' (ix4 3 s i j) : EReal) = ((w' (ix4 3 s i j) : EReal).toReal : EReal))
      ∧ (∀ i, (d i : EReal) = ((d i : EReal).toReal : EReal))
      ∧ ∀ i, (gn i : EReal) = ((gn i : EReal).toReal : EReal) := by
  have h3 : ∀ p q : BitVec 1, IntOp.andi p q = 1#1 → p = 1#1 ∧ q = 1#1 := by decide
  have e' := congrFun e (Shape.Idx.first facts.h_S_)
  unfold Cert.Pre_finite_back.fn Cert.Pre_finite_back.fn_part1 Cert.Pre_finite_back.fn_part2 at e'
  obtain ⟨e5, q6⟩ := h3 _ _ e'
  obtain ⟨e4, q5⟩ := h3 _ _ e5
  obtain ⟨e3, q4⟩ := h3 _ _ e4
  obtain ⟨e2, q3⟩ := h3 _ _ e3
  obtain ⟨q1, q2⟩ := h3 _ _ e2
  have f1 := all_one _ _ _ _ _ q1
  have f2 := all_one _ _ _ _ _ q2
  have f3 := all_one _ _ _ _ _ q3
  have f4 := all_one _ _ _ _ _ q4
  have f5 := all_one _ _ _ _ _ q5
  have f6 := all_one _ _ _ _ _ q6
  refine ⟨fun i => real_of _ (f1 i), fun i => real_of _ (f2 i), fun s i j => ?_, fun s i j => ?_, fun i => real_of _ (f5 i), fun i => real_of _ (f6 i)⟩
  · have r := real_of _ (f3 (ix3 s i j))
    rw [← layer_at w facts.slices_S4x4x1024x704_S1x4x1024x704_3_0_0_0 facts.shapeCasts_S1x4x1024x704_S4x1024x704 s i j]
    exact r
  · have r := real_of _ (f4 (ix3 s i j))
    rw [← layer_at w' facts.slices_S4x4x1024x704_S1x4x1024x704_3_0_0_0 facts.shapeCasts_S1x4x1024x704_S4x1024x704 s i j]
    exact r

end Cert.Pre_finite_back.Hand

namespace Cert.BackReferenceIdeal.Hand

open Cert.BackReferenceIdeal Cert.BackReferenceIdeal.Gen Idealize.ShloMosaic Idealize.ShloMosaic.ValueIdx Idealize.ShloMosaic.TcCoe Idealize.SL.Sem
open Cert.BackIdeal.Hand (cot grad)
open Cert.NormReferenceIdeal.Hand (refCen refCen_at refRst refRst_at meanCol meanCol_at across_at below_at sum_at)
open Cert.Norm.Row (mean cen rst mh eps len viaVar atCen chain chain_row al_real)

/-! # The reference's gradient at the layer norm's input -/

/-- A projection's share of the cotangent, in the reference's operations. -/
def refBack (g : FVec Ideal S4x8192x704 .bf16) (w : FVec Ideal S4x4x1024x704 .bf16) : FVec Ideal S8192x1024 .f32 :=
  Host.dotGeneral dot_S4x704x8192_S4x1024x704_S8192x1024_01_02_2_1_n_n none (transpose S4x704x8192 [0, 2, 1] (extf .f32 g bitsLt_bf16_f32) transposes_S4x8192x704_S4x704x8192_0_2_1)
    (extf .f32 (shapeCast S4x1024x704 (extractStridedSlice S1x4x1024x704 ![3, 0, 0, 0] w slices_S4x4x1024x704_S1x4x1024x704_3_0_0_0) shapeCasts_S1x4x1024x704_S4x1024x704) bitsLt_bf16_f32)

theorem refBack_at (g : FVec Ideal S4x8192x704 .bf16) (w : FVec Ideal S4x4x1024x704 .bf16) (t : Fin 8192) (j : Fin 1024) :
    (refBack g w (ix2 t j) : EReal) = ∑ s : Fin 4, ∑ r : Fin 704, (g (ix3 s t r) * w (ix4 3 s j r) : EReal) := by
  refine (Cert.DxReferenceIdeal.Hand.dot_at _ _ t j).trans (Finset.sum_congr rfl fun s _ => Finset.sum_congr rfl fun r _ => ?_)
  exact congrArg₂ (· * · : EReal → EReal → EReal) (Cert.DxReferenceIdeal.Hand.turn_at (extf .f32 g bitsLt_bf16_f32) s r t) (Cert.Pre_finite_back.Hand.layer_at w slices_S4x4x1024x704_S1x4x1024x704_3_0_0_0 shapeCasts_S1x4x1024x704_S4x1024x704 s j r)

/-- The normalised rows' cotangent. -/
def refD (g u : FVec Ideal S4x8192x704 .bf16) (w w' : FVec Ideal S4x4x1024x704 .bf16) (d : FVec Ideal S8192x1024 .f32) (gn : FVec Ideal S1x1024 .f32) : FVec Ideal S8192x1024 .f32 :=
  mulf (addf (addf (mulf (broadcastInDim S8192x1024 ![] bcast_S_S8192x1024 (constant S_ .f32 0x3FD744FD#32)) d) (refBack u w')) (refBack g w)) (broadcastInDim S8192x1024 ![0, 1] bcast_S1x1024_S8192x1024_0_1 gn)

theorem refD_at (g u : FVec Ideal S4x8192x704 .bf16) (w w' : FVec Ideal S4x4x1024x704 .bf16) (d : FVec Ideal S8192x1024 .f32) (gn : FVec Ideal S1x1024 .f32) (t : Fin 8192) (j : Fin 1024) :
    (refD g u w w' d gn (ix2 t j) : EReal) = cot g u w w' d t j * gn (ix2 0 j) :=
  congrArg₂ (· * · : EReal → EReal → EReal)
    (congrArg₂ (· + · : EReal → EReal → EReal) (congrArg (fun e : EReal => Cert.DxIdeal.Hand.al * d (ix2 t j) + e) (refBack_at u w' t j)) (refBack_at g w t j)) (below_at gn t j)

theorem cast_at (x : FVec Ideal S8192 .f32) (t : Fin 8192) : (shapeCast S8192x1 x shapeCasts_S8192_S8192x1 (ix2 t (0 : Fin 1)) : EReal) = x (ix1 t) := by
  refine shapeCast_apply x _ (ix2 t (0 : Fin 1)) (ix1 t) ?_
  rw [Shape.rowMajor_val_two, Shape.rowMajor_val_one]
  show t.val = t.val * 1 + 0
  omega

theorem reduces_one : S8192x1.Reduces [1] S8192 := by decide

theorem one_at (x : FVec Ideal S8192x1 .f32) (t : Fin 8192) :
    (Host.reduceAdd x (constant S_ .f32 0x00000000#32) reducesTo_S8192x1_S8192_d1 h_S_ (ix1 t) : EReal) = x (ix2 t (0 : Fin 1)) := by
  refine (Ideal.hostReduceAdd_single reducesTo_S8192x1_S8192_d1 reduces_one x (Ideal.ofBits .f32 0x00000000#32) (ix1 t)).trans ?_
  rw [Ideal.ofBits_zero_f32, zero_add]
  refine (Fin.sum_univ_one _).trans (congrArg x ?_)
  funext a; apply Fin.ext
  match a with
  | ⟨0, _⟩ => rfl
  | ⟨1, _⟩ => rfl

theorem row_at (x : FVec Ideal S8192 .f32) (t : Fin 8192) (j : Fin 1024) : broadcastInDim S8192x1024 ![0] bcast_S8192_S8192x1024_0 x (ix2 t j) = x (ix1 t) :=
  broadcastInDim_apply _ _ x _ _ (fun a => by
    match a with
    | ⟨0, _⟩ => rfl)

/-- The share through the variance, spread along the rows. -/
def refVia (x D : FVec Ideal S8192x1024 .f32) : FVec Ideal S8192x1024 .f32 :=
  broadcastInDim S8192x1024 ![0] bcast_S8192_S8192x1024_0 (Host.reduceAdd (Host.divf (mulf (shapeCast S8192x1 (Host.reduceAdd (mulf (refCen x) D) (constant S_ .f32 0x00000000#32) reducesTo_S8192x1024_S8192_d1 h_S_) shapeCasts_S8192_S8192x1)
    (mulf (broadcastInDim S8192x1 ![] bcast_S_S8192x1 (constant S_ .f32 0xBF000000#32)) (Host.divf (refRst x) (addf (meanCol (mulf (refCen x) (refCen x))) (broadcastInDim S8192x1 ![] bcast_S_S8192x1 (constant S_ .f32 0x3727C5AC#32))))))
    (broadcastInDim S8192x1 ![] bcast_S_S8192x1 (constant S_ .f32 0x44800000#32))) (constant S_ .f32 0x00000000#32) reducesTo_S8192x1_S8192_d1 h_S_)

/-- The gradient of the rows less their means. -/
def refAt (x D : FVec Ideal S8192x1024 .f32) : FVec Ideal S8192x1024 .f32 :=
  addf (addf (mulf D (broadcastInDim S8192x1024 ![0, 1] bcast_S8192x1_S8192x1024_0_1 (refRst x))) (mulf (refCen x) (refVia x D))) (mulf (refVia x D) (refCen x))

/-- The gradient of the rows. -/
def refGrad (x D : FVec Ideal S8192x1024 .f32) : FVec Ideal S8192x1024 .f32 :=
  addf (refAt x D) (broadcastInDim S8192x1024 ![0] bcast_S8192_S8192x1024_0 (Host.reduceAdd (Host.divf (shapeCast S8192x1 (Host.reduceAdd (Host.negf (refAt x D)) (constant S_ .f32 0x00000000#32) reducesTo_S8192x1024_S8192_d1 h_S_) shapeCasts_S8192_S8192x1)
    (broadcastInDim S8192x1 ![] bcast_S_S8192x1 (constant S_ .f32 0x44800000#32))) (constant S_ .f32 0x00000000#32) reducesTo_S8192x1_S8192_d1 h_S_))

section
variable (x D : FVec Ideal S8192x1024 .f32) (f d : Fin 1024 → EReal) (t : Fin 8192) (hx : ∀ j, (x (ix2 t j) : EReal) = f j) (hd : ∀ j, (D (ix2 t j) : EReal) = d j)
include hx hd

theorem refVia_at (j : Fin 1024) : (refVia x D (ix2 t j) : EReal) = viaVar f d := by
  refine (row_at _ t j).trans ((one_at _ t).trans (congrArg (fun e : EReal => Ideal.div e len) ?_))
  refine congrArg₂ (· * · : EReal → EReal → EReal) ((cast_at _ t).trans ((sum_at _ t).trans (Finset.sum_congr rfl fun k _ => congrArg₂ (· * · : EReal → EReal → EReal) (refCen_at x f t hx k) (hd k)))) ?_
  refine congrArg (fun e : EReal => mh * e) (congrArg₂ Ideal.div (refRst_at x f t hx) (congrArg (fun e : EReal => e + eps) ?_))
  exact meanCol_at _ _ t fun k => congrArg₂ (· * · : EReal → EReal → EReal) (refCen_at x f t hx k) (refCen_at x f t hx k)

theorem refAt_at (j : Fin 1024) : (refAt x D (ix2 t j) : EReal) = atCen f d j :=
  congrArg₂ (· + · : EReal → EReal → EReal) (congrArg₂ (· + · : EReal → EReal → EReal)
    (congrArg₂ (· * · : EReal → EReal → EReal) (hd j) ((across_at _ t j).trans (refRst_at x f t hx)))
    (congrArg₂ (· * · : EReal → EReal → EReal) (refCen_at x f t hx j) (refVia_at x D f d t hx hd j)))
    (congrArg₂ (· * · : EReal → EReal → EReal) (refVia_at x D f d t hx hd j) (refCen_at x f t hx j))

theorem refGrad_at (j : Fin 1024) : (refGrad x D (ix2 t j) : EReal) = chain f d j := by
  refine congrArg₂ (· + · : EReal → EReal → EReal) (refAt_at x D f d t hx hd j) ((row_at _ t j).trans ((one_at _ t).trans (congrArg (fun e : EReal => Ideal.div e len) ?_)))
  exact (cast_at _ t).trans ((sum_at _ t).trans (Finset.sum_congr rfl fun k _ => congrArg (fun e : EReal => -e) (refAt_at x D f d t hx hd k)))
end

/-- A sum of products of real numbers is real. -/
theorem sum_real (p q : Fin 4 → Fin 704 → EReal) (hp : ∀ s r, p s r = ((p s r).toReal : EReal)) (hq : ∀ s r, q s r = ((q s r).toReal : EReal)) :
    ∃ a : ℝ, ∑ s : Fin 4, ∑ r : Fin 704, p s r * q s r = (a : EReal) := by
  refine ⟨∑ s : Fin 4, ∑ r : Fin 704, (p s r).toReal * (q s r).toReal, ?_⟩
  rw [Cert.Attn.coe_sum]
  refine Finset.sum_congr rfl fun s _ => ?_
  rw [Cert.Attn.coe_sum]
  exact Finset.sum_congr rfl fun r _ => (congrArg₂ (· * · : EReal → EReal → EReal) (hp s r) (hq s r)).trans (EReal.coe_mul _ _).symm

variable (g u : FVec Ideal S4x8192x704 .bf16) (w w' : FVec Ideal S4x4x1024x704 .bf16) (d x : FVec Ideal S8192x1024 .f32) (gn : FVec Ideal S1x1024 .f32)

theorem grad_eq (e : Cert.Pre_finite_back.fn (F := Ideal) g u w w' d x gn = fun _ => 1#1) : refGrad x (refD g u w w' d gn) = grad g u w w' d x gn := by
  obtain ⟨hg, hu, hw, hw', hd, hn⟩ := Cert.Pre_finite_back.Hand.reals g u w w' d x gn e
  funext y
  obtain ⟨t, j, rfl⟩ : ∃ (t : Fin 8192) (j : Fin 1024), y = ix2 t j := ⟨y 0, y 1, eq_ix2 y⟩
  refine (refGrad_at _ _ _ _ t (fun _ => rfl) (refD_at g u w w' d gn t) j).trans ?_
  have hc : ∀ k : Fin 1024, ∃ a : ℝ, (cot g u w w' d t k * gn (ix2 0 k) : EReal) = (a : EReal) := fun k => by
    obtain ⟨a, ha⟩ := al_real
    obtain ⟨p, hp⟩ := sum_real (fun s r => u (ix3 s t r)) (fun s r => w' (ix4 3 s k r)) (fun s r => hu _) (fun s r => hw' s k r)
    obtain ⟨q, hq⟩ := sum_real (fun s r => g (ix3 s t r)) (fun s r => w (ix4 3 s k r)) (fun s r => hg _) (fun s r => hw s k r)
    refine ⟨(a * (d (ix2 t k) : EReal).toReal + p + q) * (gn (ix2 0 k) : EReal).toReal, ?_⟩
    rw [EReal.coe_mul, EReal.coe_add, EReal.coe_add, EReal.coe_mul]
    exact congrArg₂ (· * · : EReal → EReal → EReal) (congrArg₂ (· + · : EReal → EReal → EReal) (congrArg₂ (· + · : EReal → EReal → EReal)
      (congrArg₂ (· * · : EReal → EReal → EReal) ha (hd (ix2 t k))) hp) hq) (hn (ix2 0 k))
  exact chain_row _ _ (fun k => (hc k).choose) (fun k => (hc k).choose_spec) j

/-- The result from arguments that are the kernel's. -/
theorem grad_of (m' : (ℓ : Loc nD τ sig) → Buf (Elt Ideal) ℓ) (c : Dev nD)
    (h : m' ((c.tc : Thread nD τ).loc main_arg0) = g ∧ m' ((c.tc : Thread nD τ).loc main_arg1) = u ∧ m' ((c.tc : Thread nD τ).loc main_arg2) = w ∧ m' ((c.tc : Thread nD τ).loc main_arg3) = w' ∧ m' ((c.tc : Thread nD τ).loc main_arg4) = d ∧ m' ((c.tc : Thread nD τ).loc main_arg5) = x ∧ m' ((c.tc : Thread nD τ).loc main_arg6) = gn)
    (e : Cert.Pre_finite_back.fn (F := Ideal) g u w w' d x gn = fun _ => 1#1) : Cert.BackReferenceIdeal.Value.res_out0 m' c = grad g u w w' d x gn := by
  obtain ⟨rfl, rfl, rfl, rfl, rfl, rfl, rfl⟩ := h
  exact grad_eq _ _ _ _ _ _ _ e

theorem low_of (m' : (ℓ : Loc nD τ sig) → Buf (Elt Ideal) ℓ) (c : Dev nD)
    (h : m' ((c.tc : Thread nD τ).loc main_arg0) = g ∧ m' ((c.tc : Thread nD τ).loc main_arg1) = u ∧ m' ((c.tc : Thread nD τ).loc main_arg2) = w ∧ m' ((c.tc : Thread nD τ).loc main_arg3) = w' ∧ m' ((c.tc : Thread nD τ).loc main_arg4) = d ∧ m' ((c.tc : Thread nD τ).loc main_arg5) = x ∧ m' ((c.tc : Thread nD τ).loc main_arg6) = gn)
    (e : Cert.Pre_finite_back.fn (F := Ideal) g u w w' d x gn = fun _ => 1#1) : Cert.BackReferenceIdeal.Value.res_out1 m' c = grad g u w w' d x gn := by
  obtain ⟨rfl, rfl, rfl, rfl, rfl, rfl, rfl⟩ := h
  exact grad_eq _ _ _ _ _ _ _ e

end Cert.BackReferenceIdeal.Hand
end
-- ==== Proof.WFfn.lean ====
module

public import proofs.«01_k».proof.Proof.Gen.FfnIdeal.Value
public import proofs.«01_k».proof.Proof.Gen.FfnReferenceIdeal.Run
public import Idealize.ShloMosaic.Lib.Tactic
public import Idealize.ShloMosaic.PureOps.Ideal.Laws
public import Idealize.ShloMosaic.Lib.MatmulPlain
public import Idealize.ShloMosaic.Lib.ValueLayout
public import Idealize.ShloMosaic.Lib.ValueIdx

@[expose] public section

noncomputable section

namespace Cert.FfnIdeal.Hand

open Cert.FfnIdeal Cert.FfnIdeal.Gen Idealize.ShloMosaic Idealize.ShloMosaic.ValueIdx Idealize.ShloMosaic.TcCoe Idealize.SL.Sem

/-! # The gated layer's forward pass: what a block of frames leaves, and the three arrays -/

abbrev XBlk := Vec Ideal S512x1024 .f32
abbrev WBlk := Vec Ideal S1x4x1024x704 .bf16
abbrev Out := Vec Ideal S4x512x704 .bf16

theorem mul_at (x : FVec Ideal S512x1024 .bf16) (w : FVec Ideal S1024x704 .bf16) (i : Fin 512) (j : Fin 704) :
    matmul dot_S512x1024_S1024x704_S512x704_1_0_0_1_n_n none x w (constant S512x704 .f32 0x00000000#32) (ix2 i j)
      = ∑ r : Fin 1024, (x (ix2 i r) * w (ix2 r j) : EReal) := by
  let D := dot_S512x1024_S1024x704_S512x704_1_0_0_1_n_n
  refine (Ideal.matmul_apply D none x w (constant S512x704 .f32 0x00000000#32) (ix2 i j)).trans ?_
  rw [← Equiv.sum_comp (contrEquiv1 D 1024 rfl rfl).symm]
  show (Ideal.ofBits .f32 0x00000000#32 : EReal) + _ = _
  rw [Ideal.ofBits_zero_f32, zero_add]
  refine Finset.sum_congr rfl fun r _ => ?_
  have hk := contrEquiv1_symm_val D 1024 rfl rfl r
  have el : D.lhsIdx (ix2 i j) ((contrEquiv1 D 1024 rfl rfl).symm r) = ix2 i r := by
    funext a; apply Fin.ext
    match a with
    | ⟨0, _⟩ => rfl
    | ⟨1, _⟩ => exact hk
  have er : D.rhsIdx (ix2 i j) ((contrEquiv1 D 1024 rfl rfl).symm r) = ix2 r j := by
    funext a; apply Fin.ext
    match a with
    | ⟨0, _⟩ => exact hk
    | ⟨1, _⟩ => rfl
  rw [el, er]

/-- A shard's slice of the weights, its two unit axes dropped. -/
theorem shard_at (w : Vec Ideal S1x1x1024x704 .bf16) (h : S1x1x1024x704.ShapeCasts S1024x704) (i : Fin 1024) (j : Fin 704) :
    (shapeCast S1024x704 w h (ix2 i j) : EReal) = w (ix4 0 0 i j) := by
  refine shapeCast_apply w h (ix2 i j) (ix4 0 0 i j) ?_
  rw [Shape.rowMajor_val_four, Shape.rowMajor_val_two]
  show ((0 * 1 + 0) * 1024 + i.val) * 704 + j.val = i.val * 704 + j.val
  omega

/-- A shard's product with a block of frames. -/
def prod (X : XBlk) (w : Vec Ideal S1x1x1024x704 .bf16) : FVec Ideal S512x704 .f32 := k0_pay4 (F := Ideal) X w

theorem prod_at (X : XBlk) (w : Vec Ideal S1x1x1024x704 .bf16) (i : Fin 512) (j : Fin 704) :
    prod X w (ix2 i j) = (∑ r : Fin 1024, (X (ix2 i r) * w (ix4 0 0 r j) : EReal) : EReal) := by
  unfold prod k0_pay4
  refine (mul_at _ _ i j).trans (Finset.sum_congr rfl fun r _ => ?_)
  exact congrArg (fun e : EReal => (X (ix2 i r) : EReal) * e) (shard_at w _ r j)

/-- The gate's unit times the other projection. -/
def act (a b : EReal) : EReal := a * Ideal.logistic a * b

theorem lit1 : (Ideal.ofBits .f32 0x3F800000#32 : EReal) = 1 := by
  simp [Ideal.ofBits, Ideal.ieee, -EReal.coe_mul]; norm_num

theorem pay6_at (X : XBlk) (w : Vec Ideal S1x1x1024x704 .bf16) (i : Fin 512) (j : Fin 704) :
    (k0_pay6 (F := Ideal) X w (ix3 0 i j) : EReal) = prod X w (ix2 i j) := by
  unfold k0_pay6
  exact ValueIdx.shapeCast_ab_1ab_apply _ _ 0 i j

theorem pay8_at (X : XBlk) (w w' : Vec Ideal S1x1x1024x704 .bf16) (i : Fin 512) (j : Fin 704) :
    (k0_pay8 (F := Ideal) X w w' (ix3 0 i j) : EReal) = act (prod X w (ix2 i j)) (prod X w' (ix2 i j)) := by
  unfold k0_pay8
  refine (ValueIdx.shapeCast_ab_1ab_apply _ _ 0 i j).trans ?_
  show ((prod X w (ix2 i j) : EReal) * Ideal.div 1 ((Ideal.ofBits .f32 0x3F800000#32 : EReal) + Ideal.exp ((Ideal.ofBits .f32 0x00000000#32 : EReal) - prod X w (ix2 i j)))) * prod X w' (ix2 i j) = _
  rw [Ideal.ofBits_zero_f32, lit1, zero_sub]
  rfl

/-- What a block of frames leaves of a projection. -/
def lin (X : XBlk) (W : WBlk) : Out := fun y => (∑ r : Fin 1024, (X (ix2 (y 1) r) * W (ix4 0 (y 0) r (y 2)) : EReal) : EReal)

/-- What it leaves of the gated product. -/
def gated (X : XBlk) (W W' : WBlk) : Out := fun y => act (lin X W y) (lin X W' y)

theorem prod_eq (o : Fin 4) (inb : ∀ a, (![0, o.val, 0, 0] : Fin 4 → Nat) a + S1x1x1024x704.size a ≤ S1x4x1024x704.size a)
    (X : XBlk) (W : WBlk) (i : Fin 512) (j : Fin 704) :
    (prod X (View.ld W (Rect.unit (s := S1x4x1024x704) ![0, o.val, 0, 0] S1x1x1024x704.size inb)) (ix2 i j) : EReal) = lin X W (ix3 o i j) := by
  refine (prod_at X _ i j).trans (Finset.sum_congr rfl fun r _ => ?_)
  refine congrArg (fun e : EReal => (X (ix2 i r) : EReal) * e) (congrArg W ?_)
  funext a; apply Fin.ext
  match a with
  | ⟨0, _⟩ => rfl
  | ⟨1, _⟩ => show o.val + 1 * 0 = o.val; omega
  | ⟨2, _⟩ => show 0 + 1 * r.val = r.val; omega
  | ⟨3, _⟩ => show 0 + 1 * j.val = j.val; omega

/-- A store of shard `o` that holds `G` at each place holds that shard of `G`. -/
theorem piece_eq (o : Fin 4) (inb : ∀ a, (![o.val, 0, 0] : Fin 3 → Nat) a + S1x512x704.size a ≤ S4x512x704.size a) (p : Vec Ideal S1x512x704 .bf16) (G : Out)
    (h : ∀ (i : Fin 512) (j : Fin 704), p (ix3 0 i j) = G (ix3 o i j)) (x : S1x512x704.Idx) :
    p x = G ((Rect.unit (s := S4x512x704) ![o.val, 0, 0] S1x512x704.size inb).emb x) := by
  obtain ⟨i, j, rfl⟩ : ∃ (i : Fin 512) (j : Fin 704), x = ix3 0 i j := by
    refine ⟨x 1, x 2, ?_⟩
    funext a; apply Fin.ext
    match a with
    | ⟨0, _⟩ => have h : (x 0).val < 1 := (x 0).isLt
                show (x 0).val = 0; omega
    | ⟨1, _⟩ => rfl
    | ⟨2, _⟩ => rfl
  refine (h i j).trans (congrArg G ?_)
  funext a; apply Fin.ext
  match a with
  | ⟨0, _⟩ => show o.val = o.val + 1 * 0; omega
  | ⟨1, _⟩ => show i.val = 0 + 1 * i.val; omega
  | ⟨2, _⟩ => show j.val = 0 + 1 * j.val; omega

theorem hz2 : (![0, 0] : Fin 2 → Nat) = fun _ => 0 := funext fun a => by fin_cases a <;> rfl

theorem inb3 (o : Fin 4) : ∀ a, (![o.val, 0, 0] : Fin 3 → Nat) a + S1x512x704.size a ≤ S4x512x704.size a
  | ⟨0, _⟩ => by show o.val + 1 ≤ 4; omega
  | ⟨1, _⟩ => by show 0 + 512 ≤ 512; omega
  | ⟨2, _⟩ => by show 0 + 704 ≤ 704; omega

theorem inb4 (o : Fin 4) : ∀ a, (![0, o.val, 0, 0] : Fin 4 → Nat) a + S1x1x1024x704.size a ≤ S1x4x1024x704.size a
  | ⟨0, _⟩ => by show 0 + 1 ≤ 1; omega
  | ⟨1, _⟩ => by show o.val + 1 ≤ 4; omega
  | ⟨2, _⟩ => by show 0 + 1024 ≤ 1024; omega
  | ⟨3, _⟩ => by show 0 + 704 ≤ 704; omega

/-- Shard `o` of the weights. -/
def sh (W : WBlk) (o : Fin 4) : Vec Ideal S1x1x1024x704 .bf16 := View.ld W (Rect.unit (s := S1x4x1024x704) ![0, o.val, 0, 0] S1x1x1024x704.size (inb4 o))

theorem lin_piece (o : Fin 4) (X : XBlk) (W : WBlk) (p : Vec Ideal S1x512x704 .bf16) (hp : p = k0_pay6 (F := Ideal) X (sh W o)) (x : S1x512x704.Idx) :
    p x = lin X W ((Rect.unit (s := S4x512x704) ![o.val, 0, 0] S1x512x704.size (inb3 o)).emb x) :=
  piece_eq o _ p _ (fun i j => by subst hp; exact (pay6_at X _ i j).trans (prod_eq o _ X W i j)) x

theorem gated_piece (o : Fin 4) (X : XBlk) (W W' : WBlk) (p : Vec Ideal S1x512x704 .bf16) (hp : p = k0_pay8 (F := Ideal) X (sh W o) (sh W' o)) (x : S1x512x704.Idx) :
    p x = gated X W W' ((Rect.unit (s := S4x512x704) ![o.val, 0, 0] S1x512x704.size (inb3 o)).emb x) :=
  piece_eq o _ p _ (fun i j => by
    subst hp; exact (pay8_at X _ _ i j).trans (congrArg₂ act (prod_eq o _ X W i j) (prod_eq o _ X W' i j))) x

theorem ldx (X : XBlk) : View.ld X r0_0 = X := View.ld_unit_zero (S := S512x1024) hz2 _ X

theorem out3_eq (X : XBlk) (W W' : WBlk) : out0_3 (F := Ideal) X W W' = lin X W := by
  funext y
  unfold out0_3
  refine View.canon_apply_of_pieces (lin X W) _ ?_ y (cover0_3 _ _ _ _ y)
  unfold k0_pay26 k0_pay24
  rw [ldx]
  exact List.forall_mem_cons.2 ⟨lin_piece 3 X W _ rfl, List.forall_mem_cons.2 ⟨lin_piece 2 X W _ rfl,
    List.forall_mem_cons.2 ⟨lin_piece 1 X W _ rfl, List.forall_mem_cons.2 ⟨lin_piece 0 X W _ rfl, fun p hp => absurd hp List.not_mem_nil⟩⟩⟩⟩

theorem out4_eq (X : XBlk) (W W' : WBlk) : out0_4 (F := Ideal) X W W' = lin X W' := by
  funext y
  unfold out0_4
  refine View.canon_apply_of_pieces (lin X W') _ ?_ y (cover0_4 _ _ _ _ y)
  unfold k0_pay27 k0_pay25 k0_pay24
  rw [ldx]
  exact List.forall_mem_cons.2 ⟨lin_piece 3 X W' _ rfl, List.forall_mem_cons.2 ⟨lin_piece 2 X W' _ rfl,
    List.forall_mem_cons.2 ⟨lin_piece 1 X W' _ rfl, List.forall_mem_cons.2 ⟨lin_piece 0 X W' _ rfl, fun p hp => absurd hp List.not_mem_nil⟩⟩⟩⟩

theorem out5_eq (X : XBlk) (W W' : WBlk) : out0_5 (F := Ideal) X W W' = gated X W W' := by
  funext y
  unfold out0_5
  refine View.canon_apply_of_pieces (gated X W W') _ ?_ y (cover0_5 _ _ _ _ y)
  unfold k0_pay27 k0_pay26 k0_pay25 k0_pay24
  rw [ldx]
  exact List.forall_mem_cons.2 ⟨gated_piece 3 X W W' _ rfl, List.forall_mem_cons.2 ⟨gated_piece 2 X W W' _ rfl,
    List.forall_mem_cons.2 ⟨gated_piece 1 X W W' _ rfl, List.forall_mem_cons.2 ⟨gated_piece 0 X W W' _ rfl, fun p hp => absurd hp List.not_mem_nil⟩⟩⟩⟩

/-! ## The arrays -/

/-- A projection of the frames by the layer's weight. -/
def proj (x : Vec Ideal S8192x1024 .f32) (w : Vec Ideal S4x4x1024x704 .bf16) : Vec Ideal S4x8192x704 .bf16 := fun y => (∑ r : Fin 1024, (x (ix2 (y 1) r) * w (ix4 3 (y 0) r (y 2)) : EReal) : EReal)

/-- The gated product of the two projections. -/
def hid (x : Vec Ideal S8192x1024 .f32) (w w' : Vec Ideal S4x4x1024x704 .bf16) : Vec Ideal S4x8192x704 .bf16 := fun y => act (proj x w y) (proj x w' y)

variable (m : (ℓ : Loc nD τ sig) → Buf (Elt Ideal) ℓ) (c : Dev nD)

abbrev xs : Vec Ideal S8192x1024 .f32 := m ((c.tc : Thread nD τ).loc main_arg0)
abbrev wg : Vec Ideal S4x4x1024x704 .bf16 := m ((c.tc : Thread nD τ).loc main_arg1)
abbrev wu : Vec Ideal S4x4x1024x704 .bf16 := m ((c.tc : Thread nD τ).loc main_arg2)

/-- Frame `r` of block `k`. -/
def frame (k : Fin 16) (r : Fin 512) : Fin 8192 := ⟨512 * k.val + r.val, by omega⟩

theorem co0 (t : Fin cfg0.N) : (grid0.coords t 0).val = t.val := by
  have h := Pipeline.Grid.coords_val (G := grid0) t 0 (S := 1) (B := 16) (by decide) (by decide)
  have hN := lt_of_lt_of_eq t.isLt (show cfg0.N = 16 from N_0)
  rw [Nat.div_one, Nat.mod_eq_of_lt hN] at h; exact h

theorem tr (i : grid0.Coords) : (BitVec.ofNat 32 (i 0).val).toNat = (i 0).val := by
  have key : ∀ (p : Fin 16), (BitVec.ofNat 32 p.val).toNat = p.val := by decide +kernel
  exact key (i 0)

theorem iblk_x (t : Fin cfg0.N) (k : Fin 16) (hk : t.val = k.val) (r : Fin 512) (i : Fin 1024) :
    (iblk m c 0 t : XBlk) (ix2 r i) = xs m c (ix2 (frame k r) i) := by
  unfold iblk
  rw [View.read_apply]
  show V m c main_arg0 _ = xs m c _
  rw [V_main_arg0]
  refine congrArg (xs m c) ?_
  funext a; apply Fin.ext
  match a with
  | ⟨0, _⟩ => show (BitVec.ofNat 32 (grid0.coords t 0).val).toNat * 512 + 1 * r.val = 512 * k.val + r.val
              rw [tr, co0]; omega
  | ⟨1, _⟩ => show 0 * 1024 + 1 * i.val = i.val; omega

theorem iblk_g (t : Fin cfg0.N) (s : Fin 4) (i : Fin 1024) (j : Fin 704) :
    (iblk m c 1 t : WBlk) (ix4 0 s i j) = wg m c (ix4 3 s i j) := by
  unfold iblk
  rw [View.read_apply]
  show V m c main_arg1 _ = wg m c _
  rw [V_main_arg1]
  refine congrArg (wg m c) ?_
  funext a; apply Fin.ext
  match a with
  | ⟨0, _⟩ => rfl
  | ⟨1, _⟩ => show 0 * 4 + 1 * s.val = s.val; omega
  | ⟨2, _⟩ => show 0 * 1024 + 1 * i.val = i.val; omega
  | ⟨3, _⟩ => show 0 * 704 + 1 * j.val = j.val; omega

theorem iblk_u (t : Fin cfg0.N) (s : Fin 4) (i : Fin 1024) (j : Fin 704) :
    (iblk m c 2 t : WBlk) (ix4 0 s i j) = wu m c (ix4 3 s i j) := by
  unfold iblk
  rw [View.read_apply]
  show V m c main_arg2 _ = wu m c _
  rw [V_main_arg2]
  refine congrArg (wu m c) ?_
  funext a; apply Fin.ext
  match a with
  | ⟨0, _⟩ => rfl
  | ⟨1, _⟩ => show 0 * 4 + 1 * s.val = s.val; omega
  | ⟨2, _⟩ => show 0 * 1024 + 1 * i.val = i.val; omega
  | ⟨3, _⟩ => show 0 * 704 + 1 * j.val = j.val; omega

theorem lin_g (t : Fin cfg0.N) (k : Fin 16) (hk : t.val = k.val) (s : Fin 4) (r : Fin 512) (j : Fin 704) :
    (lin (iblk m c 0 t) (iblk m c 1 t) (ix3 s r j) : EReal) = proj (xs m c) (wg m c) (ix3 s (frame k r) j) :=
  Finset.sum_congr rfl fun q _ => congrArg₂ (· * · : EReal → EReal → EReal) (iblk_x m c t k hk r q) (iblk_g m c t s q j)

theorem lin_u (t : Fin cfg0.N) (k : Fin 16) (hk : t.val = k.val) (s : Fin 4) (r : Fin 512) (j : Fin 704) :
    (lin (iblk m c 0 t) (iblk m c 2 t) (ix3 s r j) : EReal) = proj (xs m c) (wu m c) (ix3 s (frame k r) j) :=
  Finset.sum_congr rfl fun q _ => congrArg₂ (· * · : EReal → EReal → EReal) (iblk_x m c t k hk r q) (iblk_u m c t s q j)

theorem gated_at (t : Fin cfg0.N) (k : Fin 16) (hk : t.val = k.val) (s : Fin 4) (r : Fin 512) (j : Fin 704) :
    (gated (iblk m c 0 t) (iblk m c 1 t) (iblk m c 2 t) (ix3 s r j) : EReal) = hid (xs m c) (wg m c) (wu m c) (ix3 s (frame k r) j) :=
  congrArg₂ act (lin_g m c t k hk s r j) (lin_u m c t k hk s r j)

/-- The place in an array of a place in point `t`'s block. -/
def place (t : Fin cfg0.N) (y : S4x512x704.Idx) : S4x8192x704.Idx := ix3 (y 0) (frame ⟨t.val, lt_of_lt_of_eq t.isLt (show cfg0.N = 16 from N_0)⟩ (y 1)) (y 2)

/-- Every place of an array is a place of some point's block. -/
theorem place_onto (i : S4x8192x704.Idx) : ∃ t y, place t y = i := by
  have h : (i 1).val < 8192 := (i 1).isLt
  refine ⟨⟨(i 1).val / 512, lt_of_lt_of_eq (by omega) (show cfg0.N = 16 from N_0).symm⟩, ix3 (i 0) ⟨(i 1).val % 512, by omega⟩ (i 2), ?_⟩
  funext a; apply Fin.ext
  match a with
  | ⟨0, _⟩ => rfl
  | ⟨1, _⟩ => show 512 * ((i 1).val / 512) + (i 1).val % 512 = (i 1).val; omega
  | ⟨2, _⟩ => rfl

theorem place_eq (t : Fin cfg0.N) (y : S4x512x704.Idx) (z : S4x8192x704.Idx) (h0 : (z 0).val = 0 * 4 + 1 * (y 0).val)
    (h1 : (z 1).val = (BitVec.ofNat 32 (grid0.coords t 0).val).toNat * 512 + 1 * (y 1).val) (h2 : (z 2).val = 0 * 704 + 1 * (y 2).val) : z = place t y := by
  rw [tr, co0] at h1
  funext a; apply Fin.ext
  match a with
  | ⟨0, _⟩ => show (z 0).val = (y 0).val; omega
  | ⟨1, _⟩ => show (z 1).val = 512 * t.val + (y 1).val; omega
  | ⟨2, _⟩ => show (z 2).val = (y 2).val; omega

theorem emb3 (t : Fin cfg0.N) (y : S4x512x704.Idx) : ((cfg0.win 3).blk t).view.emb y = place t y := place_eq t y _ rfl rfl rfl
theorem emb4 (t : Fin cfg0.N) (y : S4x512x704.Idx) : ((cfg0.win 4).blk t).view.emb y = place t y := place_eq t y _ rfl rfl rfl
theorem emb5 (t : Fin cfg0.N) (y : S4x512x704.Idx) : ((cfg0.win 5).blk t).view.emb y = place t y := place_eq t y _ rfl rfl rfl

theorem lt16 (t : Fin cfg0.N) : t.val < 16 := lt_of_lt_of_eq t.isLt (show cfg0.N = 16 from N_0)

theorem arr3 : (dats m 0 c).arrAt 3 cfg0.N = proj (xs m c) (wg m c) := by
  refine (dats m 0 c).arrAt_eq_of_cover 3 _ (fun t hf => ?_) (fun i => ?_)
  · rw [Cert.FfnIdeal.Value.flushed3, out3_eq]
    funext y
    rw [View.read_apply]
    exact (lin_g m c t ⟨t.val, lt16 t⟩ rfl (y 0) (y 1) (y 2)).trans (congrArg (proj (xs m c) (wg m c)) (emb3 t y).symm)
  · obtain ⟨t, y, e⟩ := place_onto i
    exact ⟨t, flush0_3 t, by rw [← e, ← emb3]; exact View.emb_mem_set _ _⟩

theorem arr4 : (dats m 0 c).arrAt 4 cfg0.N = proj (xs m c) (wu m c) := by
  refine (dats m 0 c).arrAt_eq_of_cover 4 _ (fun t hf => ?_) (fun i => ?_)
  · rw [Cert.FfnIdeal.Value.flushed4, out4_eq]
    funext y
    rw [View.read_apply]
    exact (lin_u m c t ⟨t.val, lt16 t⟩ rfl (y 0) (y 1) (y 2)).trans (congrArg (proj (xs m c) (wu m c)) (emb4 t y).symm)
  · obtain ⟨t, y, e⟩ := place_onto i
    exact ⟨t, flush0_4 t, by rw [← e, ← emb4]; exact View.emb_mem_set _ _⟩

theorem arr5 : (dats m 0 c).arrAt 5 cfg0.N = hid (xs m c) (wg m c) (wu m c) := by
  refine (dats m 0 c).arrAt_eq_of_cover 5 _ (fun t hf => ?_) (fun i => ?_)
  · rw [Cert.FfnIdeal.Value.flushed5, out5_eq]
    funext y
    rw [View.read_apply]
    exact (gated_at m c t ⟨t.val, lt16 t⟩ rfl (y 0) (y 1) (y 2)).trans (congrArg (hid (xs m c) (wg m c) (wu m c)) (emb5 t y).symm)
  · obtain ⟨t, y, e⟩ := place_onto i
    exact ⟨t, flush0_5 t, by rw [← e, ← emb5]; exact View.emb_mem_set _ _⟩

end Cert.FfnIdeal.Hand

namespace Cert.FfnReferenceIdeal.Hand

open Cert.FfnReferenceIdeal Cert.FfnReferenceIdeal.Gen Idealize.ShloMosaic Idealize.ShloMosaic.ValueIdx Idealize.ShloMosaic.TcCoe Idealize.SL.Sem
open Cert.FfnIdeal.Hand (proj hid act lit1)

theorem dot_at (w : FVec Ideal S4x1024x704 .f32) (x : FVec Ideal S8192x1024 .f32) (s : Fin 4) (j : Fin 704) (t : Fin 8192) :
    Host.dotGeneral dot_S4x1024x704_S8192x1024_S4x704x8192_1_1_02_0_n_n none w x (ix3 s j t) = ∑ r : Fin 1024, (w (ix3 s r j) * x (ix2 t r) : EReal) := by
  let D := dot_S4x1024x704_S8192x1024_S4x704x8192_1_1_02_0_n_n
  simp only [Host.dotGeneral]
  refine (Ideal.dotGeneral_apply D none _ w x (ix3 s j t)).trans ?_
  rw [← Equiv.sum_comp (contrEquiv1 D 1024 rfl rfl).symm]
  refine Finset.sum_congr rfl fun r _ => ?_
  have hk := contrEquiv1_symm_val D 1024 rfl rfl r
  have el : D.lhsIdx (ix3 s j t) ((contrEquiv1 D 1024 rfl rfl).symm r) = ix3 s r j := by
    funext a; apply Fin.ext
    match a with
    | ⟨0, _⟩ => rfl
    | ⟨1, _⟩ => exact hk
    | ⟨2, _⟩ => rfl
  have er : D.rhsIdx (ix3 s j t) ((contrEquiv1 D 1024 rfl rfl).symm r) = ix2 t r := by
    funext a; apply Fin.ext
    match a with
    | ⟨0, _⟩ => rfl
    | ⟨1, _⟩ => exact hk
  rw [el, er]

/-- The layer's weight, cut from the stack of layers. -/
theorem layer_at (w : FVec Ideal S4x4x1024x704 .bf16) (s : Fin 4) (r : Fin 1024) (j : Fin 704) :
    (extf (F := Ideal) .f32 (shapeCast S4x1024x704 (extractStridedSlice S1x4x1024x704 ![3, 0, 0, 0] w slices_S4x4x1024x704_S1x4x1024x704_3_0_0_0) shapeCasts_S1x4x1024x704_S4x1024x704) bitsLt_bf16_f32 (ix3 s r j) : EReal)
      = w (ix4 3 s r j) := by
  refine (ValueIdx.shapeCast_1abc_abc_apply (extractStridedSlice S1x4x1024x704 ![3, 0, 0, 0] w slices_S4x4x1024x704_S1x4x1024x704_3_0_0_0) _ s r j).trans ?_
  exact extractStridedSlice_apply _ w _ _ _ fun a => match a with
    | ⟨0, _⟩ => rfl
    | ⟨1, _⟩ => (Nat.zero_add _).symm
    | ⟨2, _⟩ => (Nat.zero_add _).symm
    | ⟨3, _⟩ => (Nat.zero_add _).symm

theorem outer_at (G : FVec Ideal S4x704x8192 .f32) (s : Fin 4) (t : Fin 8192) (j : Fin 704) :
    (transpose S4x8192x704 [0, 2, 1] G transposes_S4x704x8192_S4x8192x704_0_2_1 (ix3 s t j) : EReal) = G (ix3 s j t) :=
  transpose_apply (s := S4x704x8192) _ G _ _ _ fun a => match a with | ⟨0, _⟩ => rfl | ⟨1, _⟩ => rfl | ⟨2, _⟩ => rfl

/-- The reference's projection, in its own operations. -/
def refProj (x : FVec Ideal S8192x1024 .f32) (w : FVec Ideal S4x4x1024x704 .bf16) : FVec Ideal S4x8192x704 .f32 :=
  transpose S4x8192x704 [0, 2, 1] (Host.dotGeneral dot_S4x1024x704_S8192x1024_S4x704x8192_1_1_02_0_n_n none (extf .f32 (shapeCast S4x1024x704 (extractStridedSlice S1x4x1024x704 ![3, 0, 0, 0] w slices_S4x4x1024x704_S1x4x1024x704_3_0_0_0) shapeCasts_S1x4x1024x704_S4x1024x704) bitsLt_bf16_f32) x) transposes_S4x704x8192_S4x8192x704_0_2_1

theorem refProj_at (x : FVec Ideal S8192x1024 .f32) (w : FVec Ideal S4x4x1024x704 .bf16) (y : S4x8192x704.Idx) : (refProj x w y : EReal) = proj x w y := by
  obtain ⟨s, t, j, rfl⟩ : ∃ (s : Fin 4) (t : Fin 8192) (j : Fin 704), y = ix3 s t j := ⟨y 0, y 1, y 2, eq_ix3 y⟩
  refine (outer_at _ s t j).trans ((dot_at _ x s j t).trans (Finset.sum_congr rfl fun r _ => ?_))
  refine (congrArg (fun e : EReal => e * (x (ix2 t r) : EReal)) (layer_at w s r j)).trans ?_
  exact mul_comm (w (ix4 3 s r j) : EReal) (x (ix2 t r) : EReal)

theorem proj_eq (x : FVec Ideal S8192x1024 .f32) (w : FVec Ideal S4x4x1024x704 .bf16) : truncf .bf16 (refProj x w) bitsLt_bf16_f32 = proj x w :=
  funext fun y => refProj_at x w y

/-- The reference's gated product of two projections. -/
def refHid (a b : FVec Ideal S4x8192x704 .f32) : FVec Ideal S4x8192x704 .f32 :=
  mulf (mulf a (Host.divf (broadcastInDim S4x8192x704 ![] bcast_S_S4x8192x704 (constant S_ .f32 0x3F800000#32)) (addf (broadcastInDim S4x8192x704 ![] bcast_S_S4x8192x704 (constant S_ .f32 0x3F800000#32)) (Host.exp (Host.negf a))))) b

theorem refHid_at (a b : FVec Ideal S4x8192x704 .f32) (y : S4x8192x704.Idx) : (refHid a b y : EReal) = act (a y) (b y) := by
  show (a y : EReal) * Ideal.div (Ideal.ofBits .f32 0x3F800000#32 : EReal) ((Ideal.ofBits .f32 0x3F800000#32 : EReal) + Ideal.exp (-(a y : EReal))) * (b y : EReal) = _
  rw [lit1]
  rfl

theorem hid_eq (x : FVec Ideal S8192x1024 .f32) (w w' : FVec Ideal S4x4x1024x704 .bf16) :
    truncf .bf16 (refHid (refProj x w) (refProj x w')) bitsLt_bf16_f32 = hid x w w' :=
  funext fun y => (refHid_at _ _ y).trans (congrArg₂ act (refProj_at x w y) (refProj_at x w' y))

/-- The results from arguments that are the kernel's. -/
theorem hid_of (x x' : FVec Ideal S8192x1024 .f32) (w w' v v' : FVec Ideal S4x4x1024x704 .bf16) (h : x' = x ∧ w' = w ∧ v' = v) :
    truncf .bf16 (refHid (refProj x' w') (refProj x' v')) bitsLt_bf16_f32 = hid x w v := by
  obtain ⟨rfl, rfl, rfl⟩ := h
  exact hid_eq _ _ _

end Cert.FfnReferenceIdeal.Hand
end
-- ==== Proof.WQkv.lean ====
module

public import proofs.«01_k».proof.Proof.Gen.QkvIdeal.Value
public import proofs.«01_k».proof.Proof.Gen.QkvReferenceIdeal.Run
public import Idealize.ShloMosaic.Lib.Tactic
public import Idealize.ShloMosaic.PureOps.Ideal.Laws
public import Idealize.ShloMosaic.Lib.MatmulPlain
public import Idealize.ShloMosaic.Lib.ValueLayout
public import Idealize.ShloMosaic.Lib.ValueIdx

@[expose] public section

noncomputable section

namespace Cert.QkvIdeal.Hand

open Cert.QkvIdeal Cert.QkvIdeal.Gen Idealize.ShloMosaic Idealize.ShloMosaic.ValueIdx Idealize.ShloMosaic.TcCoe Idealize.SL.Sem

/-! # The attentions' projections: what a block of frames leaves, and the array -/

abbrev XBlk := Vec Ideal S512x1024 .f32
abbrev WBlk := Vec Ideal S1x4x1024x768 .bf16
abbrev Out := Vec Ideal S512x3072 .bf16

theorem mul_at (x : FVec Ideal S512x1024 .bf16) (w : FVec Ideal S1024x768 .bf16) (i : Fin 512) (j : Fin 768) :
    matmul dot_S512x1024_S1024x768_S512x768_1_0_0_1_n_n none x w (constant S512x768 .f32 0x00000000#32) (ix2 i j)
      = ∑ r : Fin 1024, (x (ix2 i r) * w (ix2 r j) : EReal) := by
  let D := dot_S512x1024_S1024x768_S512x768_1_0_0_1_n_n
  refine (Ideal.matmul_apply D none x w (constant S512x768 .f32 0x00000000#32) (ix2 i j)).trans ?_
  rw [← Equiv.sum_comp (contrEquiv1 D 1024 rfl rfl).symm]
  show (Ideal.ofBits .f32 0x00000000#32 : EReal) + _ = _
  rw [Ideal.ofBits_zero_f32, zero_add]
  refine Finset.sum_congr rfl fun r _ => ?_
  have hk := contrEquiv1_symm_val D 1024 rfl rfl r
  have el : D.lhsIdx (ix2 i j) ((contrEquiv1 D 1024 rfl rfl).symm r) = ix2 i r := by
    funext a; apply Fin.ext
    match a with
    | ⟨0, _⟩ => rfl
    | ⟨1, _⟩ => exact hk
  have er : D.rhsIdx (ix2 i j) ((contrEquiv1 D 1024 rfl rfl).symm r) = ix2 r j := by
    funext a; apply Fin.ext
    match a with
    | ⟨0, _⟩ => exact hk
    | ⟨1, _⟩ => rfl
  rw [el, er]

/-- A shard's slice of the weights, its two unit axes dropped. -/
theorem shard_at (w : Vec Ideal S1x1x1024x768 .bf16) (h : S1x1x1024x768.ShapeCasts S1024x768) (i : Fin 1024) (j : Fin 768) :
    (shapeCast S1024x768 w h (ix2 i j) : EReal) = w (ix4 0 0 i j) := by
  refine shapeCast_apply w h (ix2 i j) (ix4 0 0 i j) ?_
  rw [Shape.rowMajor_val_four, Shape.rowMajor_val_two]
  show ((0 * 1 + 0) * 1024 + i.val) * 768 + j.val = i.val * 768 + j.val
  omega

theorem pay_at (X : XBlk) (w : Vec Ideal S1x1x1024x768 .bf16) (i : Fin 512) (j : Fin 768) :
    (k0_pay2 (F := Ideal) X w (ix2 i j) : EReal) = ∑ r : Fin 1024, (X (ix2 i r) * w (ix4 0 0 r j) : EReal) := by
  unfold k0_pay2 k0_pay1
  refine (mul_at _ _ i j).trans (Finset.sum_congr rfl fun r _ => ?_)
  exact congrArg (fun e : EReal => (X (ix2 i r) : EReal) * e) (shard_at w _ r j)

/-- The shard of a column, and the column's place in it. -/
def shardOf (i : Fin 3072) : Fin 4 := ⟨i.val / 768, by omega⟩
def laneOf (i : Fin 3072) : Fin 768 := ⟨i.val % 768, by omega⟩

/-- What a block of frames leaves. -/
def lin (X : XBlk) (W : WBlk) : Out := fun y => (∑ r : Fin 1024, (X (ix2 (y 0) r) * W (ix4 0 (shardOf (y 1)) r (laneOf (y 1))) : EReal) : EReal)

theorem inb2 (q : ℕ) (hq : q + 768 ≤ 3072) : ∀ a, (![0, q] : Fin 2 → Nat) a + S512x768.size a ≤ S512x3072.size a
  | ⟨0, _⟩ => by show 0 + 512 ≤ 512; omega
  | ⟨1, _⟩ => hq

theorem inb4 (o : ℕ) (ho : o < 4) : ∀ a, (![0, o, 0, 0] : Fin 4 → Nat) a + S1x1x1024x768.size a ≤ S1x4x1024x768.size a
  | ⟨0, _⟩ => by show 0 + 1 ≤ 1; omega
  | ⟨1, _⟩ => by show o + 1 ≤ 4; omega
  | ⟨2, _⟩ => by show 0 + 1024 ≤ 1024; omega
  | ⟨3, _⟩ => by show 0 + 768 ≤ 768; omega

/-- Shard `o` of the weights. -/
def sh (W : WBlk) (o : ℕ) (ho : o < 4) : Vec Ideal S1x1x1024x768 .bf16 := View.ld W (Rect.unit (s := S1x4x1024x768) ![0, o, 0, 0] S1x1x1024x768.size (inb4 o ho))

/-- The store of shard `o` holds the shard's columns. -/
theorem piece (o q : ℕ) (ho : o < 4) (hq : q + 768 ≤ 3072) (hoq : q = 768 * o) (X : XBlk) (W : WBlk) (p : Vec Ideal S512x768 .bf16)
    (hp : p = k0_pay2 (F := Ideal) X (sh W o ho)) (x : S512x768.Idx) :
    p x = lin X W ((Rect.unit (s := S512x3072) ![0, q] S512x768.size (inb2 q hq)).emb x) := by
  obtain ⟨i, j, rfl⟩ : ∃ (i : Fin 512) (j : Fin 768), x = ix2 i j := ⟨x 0, x 1, eq_ix2 x⟩
  subst hp
  have e : (Rect.unit (s := S512x3072) ![0, q] S512x768.size (inb2 q hq)).emb (ix2 i j) = ix2 i ⟨q + j.val, by omega⟩ := by
    funext a; apply Fin.ext
    match a with
    | ⟨0, _⟩ => show 0 + 1 * i.val = i.val; omega
    | ⟨1, _⟩ => show q + 1 * j.val = q + j.val; omega
  rw [e]
  refine (pay_at X _ i j).trans (Finset.sum_congr rfl fun r _ => ?_)
  refine congrArg (fun e : EReal => (X (ix2 i r) : EReal) * e) (congrArg W ?_)
  funext a; apply Fin.ext
  match a with
  | ⟨0, _⟩ => rfl
  | ⟨1, _⟩ => show o + 1 * 0 = (q + j.val) / 768; omega
  | ⟨2, _⟩ => show 0 + 1 * r.val = r.val; omega
  | ⟨3, _⟩ => show 0 + 1 * j.val = (q + j.val) % 768; omega

theorem hz2 : (![0, 0] : Fin 2 → Nat) = fun _ => 0 := funext fun a => by fin_cases a <;> rfl

theorem ldx (X : XBlk) : View.ld X r0_0 = X := View.ld_unit_zero (S := S512x1024) hz2 _ X

theorem out2_eq (X : XBlk) (W : WBlk) : out0_2 (F := Ideal) X W = lin X W := by
  funext y
  unfold out0_2
  refine View.canon_apply_of_pieces (lin X W) _ ?_ y (cover0_2 _ _ _ _ y)
  rw [ldx]
  exact List.forall_mem_cons.2 ⟨piece 3 2304 (by decide) (by decide) rfl X W _ rfl, List.forall_mem_cons.2 ⟨piece 2 1536 (by decide) (by decide) rfl X W _ rfl,
    List.forall_mem_cons.2 ⟨piece 1 768 (by decide) (by decide) rfl X W _ rfl, List.forall_mem_cons.2 ⟨piece 0 0 (by decide) (by decide) rfl X W _ rfl,
    fun p hp => absurd hp List.not_mem_nil⟩⟩⟩⟩

/-! ## The array -/

/-- The frames times the layer's weight, its shards side by side. -/
def proj (x : Vec Ideal S8192x1024 .f32) (w : Vec Ideal S4x4x1024x768 .bf16) : Vec Ideal S8192x3072 .bf16 :=
  fun y => (∑ r : Fin 1024, (x (ix2 (y 0) r) * w (ix4 3 (shardOf (y 1)) r (laneOf (y 1))) : EReal) : EReal)

variable (m : (ℓ : Loc nD τ sig) → Buf (Elt Ideal) ℓ) (c : Dev nD)

abbrev xs : Vec Ideal S8192x1024 .f32 := m ((c.tc : Thread nD τ).loc main_arg0)
abbrev ws : Vec Ideal S4x4x1024x768 .bf16 := m ((c.tc : Thread nD τ).loc main_arg1)

/-- Frame `r` of block `k`. -/
def frame (k : Fin 16) (r : Fin 512) : Fin 8192 := ⟨512 * k.val + r.val, by omega⟩

theorem co0 (t : Fin cfg0.N) : (grid0.coords t 0).val = t.val := by
  have h := Pipeline.Grid.coords_val (G := grid0) t 0 (S := 1) (B := 16) (by decide) (by decide)
  have hN := lt_of_lt_of_eq t.isLt (show cfg0.N = 16 from N_0)
  rw [Nat.div_one, Nat.mod_eq_of_lt hN] at h; exact h

theorem tr (i : grid0.Coords) : (BitVec.ofNat 32 (i 0).val).toNat = (i 0).val := by
  have key : ∀ (p : Fin 16), (BitVec.ofNat 32 p.val).toNat = p.val := by decide +kernel
  exact key (i 0)

theorem lt16 (t : Fin cfg0.N) : t.val < 16 := lt_of_lt_of_eq t.isLt (show cfg0.N = 16 from N_0)

theorem iblk_x (t : Fin cfg0.N) (r : Fin 512) (i : Fin 1024) :
    (iblk m c 0 t : XBlk) (ix2 r i) = xs m c (ix2 (frame ⟨t.val, lt16 t⟩ r) i) := by
  unfold iblk
  rw [View.read_apply]
  show V m c main_arg0 _ = xs m c _
  rw [V_main_arg0]
  refine congrArg (xs m c) ?_
  funext a; apply Fin.ext
  match a with
  | ⟨0, _⟩ => show (BitVec.ofNat 32 (grid0.coords t 0).val).toNat * 512 + 1 * r.val = 512 * t.val + r.val
              rw [tr, co0]; omega
  | ⟨1, _⟩ => show 0 * 1024 + 1 * i.val = i.val; omega

theorem iblk_w (t : Fin cfg0.N) (s : Fin 4) (i : Fin 1024) (j : Fin 768) :
    (iblk m c 1 t : WBlk) (ix4 0 s i j) = ws m c (ix4 3 s i j) := by
  unfold iblk
  rw [View.read_apply]
  show V m c main_arg1 _ = ws m c _
  rw [V_main_arg1]
  refine congrArg (ws m c) ?_
  funext a; apply Fin.ext
  match a with
  | ⟨0, _⟩ => rfl
  | ⟨1, _⟩ => show 0 * 4 + 1 * s.val = s.val; omega
  | ⟨2, _⟩ => show 0 * 1024 + 1 * i.val = i.val; omega
  | ⟨3, _⟩ => show 0 * 768 + 1 * j.val = j.val; omega

/-- The place in the array of a place in point `t`'s block. -/
def place (t : Fin cfg0.N) (y : S512x3072.Idx) : S8192x3072.Idx := ix2 (frame ⟨t.val, lt16 t⟩ (y 0)) (y 1)

/-- Every place of the array is a place of some point's block. -/
theorem place_onto (i : S8192x3072.Idx) : ∃ t y, place t y = i := by
  have h : (i 0).val < 8192 := (i 0).isLt
  refine ⟨⟨(i 0).val / 512, lt_of_lt_of_eq (by omega) (show cfg0.N = 16 from N_0).symm⟩, ix2 ⟨(i 0).val % 512, by omega⟩ (i 1), ?_⟩
  funext a; apply Fin.ext
  match a with
  | ⟨0, _⟩ => show 512 * ((i 0).val / 512) + (i 0).val % 512 = (i 0).val; omega
  | ⟨1, _⟩ => rfl

theorem place_eq (t : Fin cfg0.N) (y : S512x3072.Idx) (z : S8192x3072.Idx)
    (h0 : (z 0).val = (BitVec.ofNat 32 (grid0.coords t 0).val).toNat * 512 + 1 * (y 0).val) (h1 : (z 1).val = 0 * 3072 + 1 * (y 1).val) : z = place t y := by
  rw [tr, co0] at h0
  funext a; apply Fin.ext
  match a with
  | ⟨0, _⟩ => show (z 0).val = 512 * t.val + (y 0).val; omega
  | ⟨1, _⟩ => show (z 1).val = (y 1).val; omega

theorem emb2 (t : Fin cfg0.N) (y : S512x3072.Idx) : ((cfg0.win 2).blk t).view.emb y = place t y := place_eq t y _ rfl rfl

theorem lin_at (t : Fin cfg0.N) (y : S512x3072.Idx) : lin (iblk m c 0 t) (iblk m c 1 t) y = proj (xs m c) (ws m c) (place t y) :=
  Finset.sum_congr rfl fun q _ => congrArg₂ (· * · : EReal → EReal → EReal) (iblk_x m c t (y 0) q) (iblk_w m c t (shardOf (y 1)) q (laneOf (y 1)))

theorem arr2 : (dats m 0 c).arrAt 2 cfg0.N = proj (xs m c) (ws m c) := by
  refine (dats m 0 c).arrAt_eq_of_cover 2 _ (fun t hf => ?_) (fun i => ?_)
  · rw [Cert.QkvIdeal.Value.flushed2, out2_eq]
    funext y
    rw [View.read_apply]
    exact (lin_at m c t y).trans (congrArg (proj (xs m c) (ws m c)) (emb2 t y).symm)
  · obtain ⟨t, y, e⟩ := place_onto i
    exact ⟨t, flush0_2 t, by rw [← e, ← emb2]; exact View.emb_mem_set _ _⟩

end Cert.QkvIdeal.Hand

namespace Cert.QkvReferenceIdeal.Hand

open Cert.QkvReferenceIdeal Cert.QkvReferenceIdeal.Gen Idealize.ShloMosaic Idealize.ShloMosaic.ValueIdx Idealize.ShloMosaic.TcCoe Idealize.SL.Sem
open Cert.QkvIdeal.Hand (proj shardOf laneOf)

theorem dot_at (x : FVec Ideal S8192x1024 .f32) (w : FVec Ideal S4x1024x768 .f32) (t : Fin 8192) (s : Fin 4) (j : Fin 768) :
    Host.dotGeneral dot_S8192x1024_S4x1024x768_S8192x4x768_1_1_0_02_n_n none x w (ix3 t s j) = ∑ r : Fin 1024, (x (ix2 t r) * w (ix3 s r j) : EReal) := by
  let D := dot_S8192x1024_S4x1024x768_S8192x4x768_1_1_0_02_n_n
  simp only [Host.dotGeneral]
  refine (Ideal.dotGeneral_apply D none _ x w (ix3 t s j)).trans ?_
  rw [← Equiv.sum_comp (contrEquiv1 D 1024 rfl rfl).symm]
  refine Finset.sum_congr rfl fun r _ => ?_
  have hk := contrEquiv1_symm_val D 1024 rfl rfl r
  have el : D.lhsIdx (ix3 t s j) ((contrEquiv1 D 1024 rfl rfl).symm r) = ix2 t r := by
    funext a; apply Fin.ext
    match a with
    | ⟨0, _⟩ => rfl
    | ⟨1, _⟩ => exact hk
  have er : D.rhsIdx (ix3 t s j) ((contrEquiv1 D 1024 rfl rfl).symm r) = ix3 s r j := by
    funext a; apply Fin.ext
    match a with
    | ⟨0, _⟩ => rfl
    | ⟨1, _⟩ => exact hk
    | ⟨2, _⟩ => rfl
  rw [el, er]

/-- The layer's weight, cut from the stack of layers. -/
theorem layer_at (w : FVec Ideal S4x4x1024x768 .bf16) (s : Fin 4) (r : Fin 1024) (j : Fin 768) :
    (extf (F := Ideal) .f32 (shapeCast S4x1024x768 (extractStridedSlice S1x4x1024x768 ![3, 0, 0, 0] w slices_S4x4x1024x768_S1x4x1024x768_3_0_0_0) shapeCasts_S1x4x1024x768_S4x1024x768) bitsLt_bf16_f32 (ix3 s r j) : EReal)
      = w (ix4 3 s r j) := by
  refine (ValueIdx.shapeCast_1abc_abc_apply (extractStridedSlice S1x4x1024x768 ![3, 0, 0, 0] w slices_S4x4x1024x768_S1x4x1024x768_3_0_0_0) _ s r j).trans ?_
  exact extractStridedSlice_apply _ w _ _ _ fun a => match a with
    | ⟨0, _⟩ => rfl
    | ⟨1, _⟩ => (Nat.zero_add _).symm
    | ⟨2, _⟩ => (Nat.zero_add _).symm
    | ⟨3, _⟩ => (Nat.zero_add _).symm

/-- The shards side by side. -/
theorem flat_at (G : FVec Ideal S8192x4x768 .f32) (t : Fin 8192) (i : Fin 3072) :
    (shapeCast S8192x3072 G shapeCasts_S8192x4x768_S8192x3072 (ix2 t i) : EReal) = G (ix3 t (shardOf i) (laneOf i)) := by
  refine shapeCast_apply G _ (ix2 t i) (ix3 t (shardOf i) (laneOf i)) ?_
  rw [Shape.rowMajor_val_three, Shape.rowMajor_val_two]
  show (t.val * 4 + i.val / 768) * 768 + i.val % 768 = t.val * 3072 + i.val
  omega

theorem proj_eq (x : FVec Ideal S8192x1024 .f32) (w : FVec Ideal S4x4x1024x768 .bf16) :
    truncf .bf16 (shapeCast S8192x3072 (Host.dotGeneral dot_S8192x1024_S4x1024x768_S8192x4x768_1_1_0_02_n_n none x (extf .f32 (shapeCast S4x1024x768 (extractStridedSlice S1x4x1024x768 ![3, 0, 0, 0] w slices_S4x4x1024x768_S1x4x1024x768_3_0_0_0) shapeCasts_S1x4x1024x768_S4x1024x768) bitsLt_bf16_f32)) shapeCasts_S8192x4x768_S8192x3072) bitsLt_bf16_f32
      = proj x w := by
  funext y
  obtain ⟨t, i, rfl⟩ : ∃ (t : Fin 8192) (i : Fin 3072), y = ix2 t i := ⟨y 0, y 1, eq_ix2 y⟩
  refine (flat_at _ t i).trans ((dot_at x _ t _ _).trans (Finset.sum_congr rfl fun r _ => ?_))
  exact congrArg (fun e : EReal => (x (ix2 t r) : EReal) * e) (layer_at w (shardOf i) r (laneOf i))

end Cert.QkvReferenceIdeal.Hand
end
-- ==== Proof.WWIn.lean ====
module

public import proofs.«01_k».proof.Proof.Gen.WInIdeal.Value
public import proofs.«01_k».proof.Proof.Gen.WInReferenceIdeal.Run
public import Idealize.ShloMosaic.Lib.Tactic
public import Idealize.ShloMosaic.PureOps.Ideal.Laws
public import Idealize.ShloMosaic.Lib.MatmulPlain
public import Idealize.ShloMosaic.Lib.ValueLayout
public import Idealize.ShloMosaic.Lib.ValueIdx
public import Idealize.ShloMosaic.Lib.Pipeline.CanonAppend

@[expose] public section

noncomputable section

namespace Cert.WInIdeal.Hand

open Cert.WInIdeal Cert.WInIdeal.Gen Idealize.ShloMosaic Idealize.ShloMosaic.ValueIdx Idealize.ShloMosaic.TcCoe Idealize.SL.Sem

/-! # The weight gradient of the attentions' input projection: what a block of frames adds, and the sum over the blocks -/

abbrev HBlk := Vec Ideal S1024x512 .bf16
abbrev YBlk := Vec Ideal S1024x1024 .f32
abbrev Acc := Vec Ideal S4x1024x768 .f32

theorem mulTN_at (x : FVec Ideal S1024x1024 .bf16) (y : FVec Ideal S1024x768 .bf16) (i : Fin 1024) (j : Fin 768) :
    matmul dot_S1024x1024_S1024x768_S1024x768_0_0_1_1_n_n none x y (constant S1024x768 .f32 0x00000000#32) (ix2 i j)
      = ∑ r : Fin 1024, (x (ix2 r i) * y (ix2 r j) : EReal) := by
  let D := dot_S1024x1024_S1024x768_S1024x768_0_0_1_1_n_n
  refine (Ideal.matmul_apply D none x y (constant S1024x768 .f32 0x00000000#32) (ix2 i j)).trans ?_
  rw [← Equiv.sum_comp (contrEquiv1 D 1024 rfl rfl).symm]
  show (Ideal.ofBits .f32 0x00000000#32 : EReal) + _ = _
  rw [Ideal.ofBits_zero_f32, zero_add]
  refine Finset.sum_congr rfl fun r _ => ?_
  have hk := contrEquiv1_symm_val D 1024 rfl rfl r
  have el : D.lhsIdx (ix2 i j) ((contrEquiv1 D 1024 rfl rfl).symm r) = ix2 r i := by
    funext a; apply Fin.ext
    match a with
    | ⟨0, _⟩ => exact hk
    | ⟨1, _⟩ => rfl
  have er : D.rhsIdx (ix2 i j) ((contrEquiv1 D 1024 rfl rfl).symm r) = ix2 r j := by
    funext a; apply Fin.ext
    match a with
    | ⟨0, _⟩ => exact hk
    | ⟨1, _⟩ => rfl
  rw [el, er]

/-- One shard's store: the accumulator's part plus the block's product with the shard's columns. -/
def part (z : Vec Ideal S1x1024x768 .f32) (Y : YBlk) (H : FVec Ideal S1024x768 .bf16) : Vec Ideal S1x1024x768 .f32 :=
  shapeCast S1x1024x768 (addf (shapeCast S1024x768 z shapeCasts_S1x1024x768_S1024x768 : FVec Ideal S1024x768 .f32)
    (matmul dot_S1024x1024_S1024x768_S1024x768_0_0_1_1_n_n none (truncf .bf16 (Y : FVec Ideal S1024x1024 .f32) bitsLt_bf16_f32) H (constant S1024x768 .f32 0x00000000#32))) shapeCasts_S1024x768_S1x1024x768

theorem part_at (z : Vec Ideal S1x1024x768 .f32) (Y : YBlk) (H : FVec Ideal S1024x768 .bf16) (i : Fin 1024) (j : Fin 768) :
    part z Y H (ix3 0 i j) = (z (ix3 0 i j) + ∑ r : Fin 1024, (Y (ix2 r i) * H (ix2 r j) : EReal) : EReal) := by
  unfold part
  rw [ValueIdx.shapeCast_ab_1ab_apply]
  exact congrArg₂ (· + · : EReal → EReal → EReal) (ValueIdx.shapeCast_1ab_ab_apply z _ i j) (mulTN_at _ _ i j)

/-- A whole group's columns and then half of the next one's, and the other way round. -/
def catL (g : HBlk) (h : Vec Ideal S1024x256 .bf16) : FVec Ideal S1024x768 .bf16 :=
  concatenate S1024x768 1 [⟨S1024x512, g⟩, ⟨S1024x256, h⟩] concatenates_S1024x512_S1024x256_S1024x768_d1
def catR (h : Vec Ideal S1024x256 .bf16) (g : HBlk) : FVec Ideal S1024x768 .bf16 :=
  concatenate S1024x768 1 [⟨S1024x256, h⟩, ⟨S1024x512, g⟩] concatenates_S1024x256_S1024x512_S1024x768_d1

theorem pay5_eq (z : Vec Ideal S1x1024x768 .f32) (Y : YBlk) (g : HBlk) (h : Vec Ideal S1024x256 .bf16) : k0_pay5 (F := Ideal) z Y g h = part z Y (catL g h) := rfl
theorem pay1_eq (z : Vec Ideal S1x1024x768 .f32) (Y : YBlk) (g : HBlk) (h : Vec Ideal S1024x256 .bf16) : k0_pay1 (F := Ideal) z Y g h = part z Y (catL g h) := rfl
theorem pay6_eq (z : Vec Ideal S1x1024x768 .f32) (Y : YBlk) (g : HBlk) (h : Vec Ideal S1024x256 .bf16) : k0_pay6 (F := Ideal) z Y h g = part z Y (catR h g) := rfl
theorem pay2_eq (z : Vec Ideal S1x1024x768 .f32) (Y : YBlk) (g : HBlk) (h : Vec Ideal S1024x256 .bf16) : k0_pay2 (F := Ideal) z Y h g = part z Y (catR h g) := rfl

/-- The group of column `i` of shard `s`, and where the column lies in it. -/
def grp (s : Fin 4) (i : Fin 768) : Fin 6 := ⟨(768 * s.val + i.val) / 512, by omega⟩
def col (s : Fin 4) (i : Fin 768) : Fin 512 := ⟨(768 * s.val + i.val) % 512, by omega⟩

/-- The six groups of columns side by side, in shards of 768 columns. -/
def join {n : ℕ} (Gs : Fin 6 → (⟨2, ![n, 512]⟩ : Shape).Idx → EReal) (s : Fin 4) (r : Fin n) (i : Fin 768) : EReal := Gs (grp s i) (ix2 r (col s i))

theorem join_of {n : ℕ} (Gs : Fin 6 → (⟨2, ![n, 512]⟩ : Shape).Idx → EReal) (s : Fin 4) (r : Fin n) (i : Fin 768) (a : Fin 6) (k : Fin 512)
    (h : 768 * s.val + i.val = 512 * a.val + k.val) : join Gs s r i = Gs a (ix2 r k) := by
  have ha : grp s i = a := Fin.ext (by show (768 * s.val + i.val) / 512 = a.val; omega)
  have hk : col s i = k := Fin.ext (by show (768 * s.val + i.val) % 512 = k.val; omega)
  unfold join
  rw [ha, hk]

/-- Half of a group's columns. -/
theorem cols_at (M : HBlk) (o : ℕ) (inb : ∀ a, (![0, o] : Fin 2 → Nat) a + S1024x256.size a ≤ S1024x512.size a) (r : Fin 1024) (i : Fin 256) (k : Fin 512) (hk : o + i.val = k.val) :
    View.ld M (Rect.unit (s := S1024x512) ![0, o] S1024x256.size inb) (ix2 r i) = M (ix2 r k) := by
  refine congrArg M ?_
  funext a; apply Fin.ext
  match a with
  | ⟨0, _⟩ => show 0 + 1 * r.val = r.val; omega
  | ⟨1, _⟩ => show o + 1 * i.val = k.val; omega

/-- The blocks of the six groups. -/
abbrev Six := Fin 6 → HBlk

theorem catL_at (Gs : Six) (s : Fin 4) (a b : Fin 6) (ha : 768 * s.val = 512 * a.val) (hb : b.val = a.val + 1)
    (inb : ∀ a, (![0, 0] : Fin 2 → Nat) a + S1024x256.size a ≤ S1024x512.size a) (r : Fin 1024) (i : Fin 768) :
    (catL (Gs a) (View.ld (Gs b) (Rect.unit (s := S1024x512) ![0, 0] S1024x256.size inb)) (ix2 r i) : EReal) = join Gs s r i := by
  by_cases h : i.val < 512
  · rw [join_of Gs s r i a ⟨i.val, h⟩ (by show 768 * s.val + i.val = 512 * a.val + i.val; omega)]
    exact concatenate_apply_piece 1 _ _ (ix2 r i) 0 (by show 0 < 2; decide) S1024x512 (Gs a) rfl rfl 0 rfl
      (ix2 r (⟨i.val, h⟩ : Fin 512)) (fun b => match b with | ⟨0, _⟩ => fun _ => rfl | ⟨1, _⟩ => fun hb => absurd rfl hb) (by show 0 + i.val = i.val; omega)
  · rw [join_of Gs s r i b ⟨i.val - 512, by omega⟩ (by show 768 * s.val + i.val = 512 * b.val + (i.val - 512); omega)]
    refine (concatenate_apply_piece 1 _ _ (ix2 r i) 1 (by show 1 < 2; decide) S1024x256 _ rfl rfl 512 rfl
      (ix2 r (⟨i.val - 512, by omega⟩ : Fin 256)) (fun b => match b with | ⟨0, _⟩ => fun _ => rfl | ⟨1, _⟩ => fun hb => absurd rfl hb) (by show 512 + (i.val - 512) = i.val; omega)).trans ?_
    exact cols_at (Gs b) 0 inb r _ _ (by show 0 + (i.val - 512) = i.val - 512; omega)

theorem catR_at (Gs : Six) (s : Fin 4) (a b : Fin 6) (ha : 768 * s.val = 512 * a.val + 256) (hb : b.val = a.val + 1)
    (inb : ∀ a, (![0, 256] : Fin 2 → Nat) a + S1024x256.size a ≤ S1024x512.size a) (r : Fin 1024) (i : Fin 768) :
    (catR (View.ld (Gs a) (Rect.unit (s := S1024x512) ![0, 256] S1024x256.size inb)) (Gs b) (ix2 r i) : EReal) = join Gs s r i := by
  by_cases h : i.val < 256
  · rw [join_of Gs s r i a ⟨256 + i.val, by omega⟩ (by show 768 * s.val + i.val = 512 * a.val + (256 + i.val); omega)]
    refine (concatenate_apply_piece 1 _ _ (ix2 r i) 0 (by show 0 < 2; decide) S1024x256 _ rfl rfl 0 rfl
      (ix2 r (⟨i.val, h⟩ : Fin 256)) (fun b => match b with | ⟨0, _⟩ => fun _ => rfl | ⟨1, _⟩ => fun hb => absurd rfl hb) (by show 0 + i.val = i.val; omega)).trans ?_
    exact cols_at (Gs a) 256 inb r _ _ rfl
  · rw [join_of Gs s r i b ⟨i.val - 256, by omega⟩ (by show 768 * s.val + i.val = 512 * b.val + (i.val - 256); omega)]
    exact concatenate_apply_piece 1 _ _ (ix2 r i) 1 (by show 1 < 2; decide) S1024x512 (Gs b) rfl rfl 256 rfl
      (ix2 r (⟨i.val - 256, by omega⟩ : Fin 512)) (fun b => match b with | ⟨0, _⟩ => fun _ => rfl | ⟨1, _⟩ => fun hb => absurd rfl hb) (by show 256 + (i.val - 256) = i.val; omega)

theorem shard0 (Gs : Six) (inb) (h : 0 < 4) (r : Fin 1024) (i : Fin 768) : (catL (Gs 0) (View.ld (Gs 1) (Rect.unit (s := S1024x512) ![0, 0] S1024x256.size inb)) (ix2 r i) : EReal) = join Gs ⟨0, h⟩ r i :=
  catL_at Gs ⟨0, h⟩ 0 1 rfl rfl inb r i
theorem shard1 (Gs : Six) (inb) (h : 1 < 4) (r : Fin 1024) (i : Fin 768) : (catR (View.ld (Gs 1) (Rect.unit (s := S1024x512) ![0, 256] S1024x256.size inb)) (Gs 2) (ix2 r i) : EReal) = join Gs ⟨1, h⟩ r i :=
  catR_at Gs ⟨1, h⟩ 1 2 (by show 768 * 1 = 512 * 1 + 256; decide) (by decide) inb r i
theorem shard2 (Gs : Six) (inb) (h : 2 < 4) (r : Fin 1024) (i : Fin 768) : (catL (Gs 3) (View.ld (Gs 4) (Rect.unit (s := S1024x512) ![0, 0] S1024x256.size inb)) (ix2 r i) : EReal) = join Gs ⟨2, h⟩ r i :=
  catL_at Gs ⟨2, h⟩ 3 4 (by show 768 * 2 = 512 * 3; decide) (by decide) inb r i
theorem shard3 (Gs : Six) (inb) (h : 3 < 4) (r : Fin 1024) (i : Fin 768) : (catR (View.ld (Gs 4) (Rect.unit (s := S1024x512) ![0, 256] S1024x256.size inb)) (Gs 5) (ix2 r i) : EReal) = join Gs ⟨3, h⟩ r i :=
  catR_at Gs ⟨3, h⟩ 4 5 (by show 768 * 3 = 512 * 4 + 256; decide) (by decide) inb r i

/-- What a block of frames adds at an entry. -/
def blockSum (Y : YBlk) (Gs : Six) (s : Fin 4) (i : Fin 1024) (j : Fin 768) : EReal := ∑ r : Fin 1024, (Y (ix2 r i) * join Gs s r j : EReal)

/-- A block of frames added to an accumulator. -/
def addBlock (Y : YBlk) (Gs : Six) (A : Acc) : Acc := fun y => (A y + blockSum Y Gs (y 0) (y 1) (y 2) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- A shard's store is that shard of the accumulator with the block added. -/
theorem part_eq (o : ℕ) (inb : ∀ a, (![o, 0, 0] : Fin 3 → Nat) a + S1x1024x768.size a ≤ S4x1024x768.size a)
    (H : FVec Ideal S1024x768 .bf16) (Y : YBlk) (Gs : Six) (A : Acc) (z : Vec Ideal S1x1024x768 .f32)
    (hzA : ∀ x : S1x1024x768.Idx, z x = A ((Rect.unit (s := S4x1024x768) ![o, 0, 0] S1x1024x768.size inb).emb x)) (hH : ∀ (h : o < 4) (r : Fin 1024) (i : Fin 768), (H (ix2 r i) : EReal) = join Gs ⟨o, h⟩ r i) (x : S1x1024x768.Idx) :
    part z Y H x
      = addBlock Y Gs A ((Rect.unit (s := S4x1024x768) ![o, 0, 0] S1x1024x768.size inb).emb x) := by
  have ho : o < 4 := by have := inb 0; change o + 1 ≤ 4 at this; omega
  have key : ∀ (r : Fin 1024) (j : Fin 768),
      (Rect.unit (s := S4x1024x768) ![o, 0, 0] S1x1024x768.size inb).emb (ix3 0 r j) = ix3 ⟨o, ho⟩ r j := by
    intro r j
    funext a; apply Fin.ext
    match a with
    | ⟨0, _⟩ => show o + 1 * 0 = o; omega
    | ⟨1, _⟩ => show 0 + 1 * r.val = r.val; omega
    | ⟨2, _⟩ => show 0 + 1 * j.val = j.val; omega
  obtain ⟨i, j, rfl⟩ : ∃ (i : Fin 1024) (j : Fin 768), x = ix3 0 i j := by
    refine ⟨x 1, x 2, ?_⟩
    funext a; apply Fin.ext
    match a with
    | ⟨0, _⟩ => have h : (x 0).val < 1 := (x 0).isLt
                show (x 0).val = 0; omega
    | ⟨1, _⟩ => rfl
    | ⟨2, _⟩ => rfl
  rw [part_at, hzA, key]
  refine congrArg (fun e : EReal => (A (ix3 ⟨o, ho⟩ i j) : EReal) + e) (Finset.sum_congr rfl fun r _ => ?_)
  exact congrArg (fun e : EReal => (Y (ix2 r i) : EReal) * e) (hH ho r j)

theorem soutB_eq (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .bf16) (h7 : a7.IsWhole) (a8 : Memref sig .tc .vmem S4x1024x768 .bf16) (h8 : a8.IsWhole) (a9 : Memref sig .tc .vmem S4x1024x768 .f32) (h9 : a9.IsWhole) (hc0 : ¬cond0_0 i) (hc1 : ¬cond0_1 i)
    (Y : YBlk) (Gs : Six) (A : Acc) :
    sout0_B_0 c i a1 h1 a2 h2 a3 h3 a4 h4 a5 h5 a6 h6 a7 h7 a8 h8 a9 h9 hc0 hc1 Y (Gs 0) (Gs 1) (Gs 2) (Gs 3) (Gs 4) (Gs 5) A = addBlock Y Gs A := by
  have hcov := scover0_B_0 c i a1 h1 a2 h2 a3 h3 a4 h4 a5 h5 a6 h6 a7 h7 a8 h8 a9 h9 hc0 hc1 Y (Gs 0) (Gs 1) (Gs 2) (Gs 3) (Gs 4) (Gs 5) A
  unfold sout0_B_0
  rw [View.read_writes_eq_canon _ _ _ hcov]
  funext y
  refine View.canon_apply_of_pieces (addBlock Y Gs A) _ ?_ y (hcov y)
  clear hcov
  unfold kernelRun0_B
  dsimp only
  sl_unfold_words
  simp only [View.readAt_eq_ld, h1.read_unread, h2.read_unread, h3.read_unread, h4.read_unread, h5.read_unread, h6.read_unread, h7.read_unread, h9.read_unread, View.ld_unit_zero (S := S1024x1024) hz2, View.ld_unit_zero (S := S1024x512) hz2]
  simp only [pay1_eq, pay2_eq, pay5_eq, pay6_eq]
  refine List.forall_mem_cons.2 ⟨part_eq 3 _ _ Y Gs A _ (fun _ => rfl) (shard3 Gs _), List.forall_mem_cons.2 ⟨part_eq 2 _ _ Y Gs A _ (fun _ => rfl) (shard2 Gs _),
    List.forall_mem_cons.2 ⟨part_eq 1 _ _ Y Gs A _ (fun _ => rfl) (shard1 Gs _), List.forall_mem_cons.2 ⟨part_eq 0 _ _ Y Gs A _ (fun _ => rfl) (shard0 Gs _), ?_⟩⟩⟩⟩
  exact fun p hp => absurd hp List.not_mem_nil

/-- An accumulator's store list outside the shards already stored: the zeros of the reset. -/
def zeros : Acc := fun _ => (0 : EReal)

theorem clear_base (o : ℕ) (inb0) (inb : ∀ a, (![o, 0, 0] : Fin 3 → Nat) a + S1x1024x768.size a ≤ S4x1024x768.size a) (x : S1x1024x768.Idx) :
    View.canon (Val := Elt Ideal) (s := S4x1024x768) (e := .f32) [⟨Rect.unit (s := S4x1024x768) ![0, 0, 0] S4x1024x768.size inb0, k0_pay4 (F := Ideal)⟩]
      ((Rect.unit (s := S4x1024x768) ![o, 0, 0] S1x1024x768.size inb).emb x) = zeros ((Rect.unit (s := S4x1024x768) ![o, 0, 0] S1x1024x768.size inb).emb x) := by
  rw [View.canon_unit_zero (S := S4x1024x768) hz3]
  unfold k0_pay4
  rw [shapeCast_self]
  exact Ideal.ofBits_zero_f32

theorem clear_cons (o o' : ℕ) (h : o' < o) (inb' : ∀ a, (![o', 0, 0] : Fin 3 → Nat) a + S1x1024x768.size a ≤ S4x1024x768.size a)
    (inb : ∀ a, (![o, 0, 0] : Fin 3 → Nat) a + S1x1024x768.size a ≤ S4x1024x768.size a) (w : Vec Ideal S1x1024x768 .f32)
    (L : List (View.Piece (Elt Ideal) S4x1024x768 .f32)) (x : S1x1024x768.Idx)
    (hL : View.canon L ((Rect.unit (s := S4x1024x768) ![o, 0, 0] S1x1024x768.size inb).emb x) = zeros ((Rect.unit (s := S4x1024x768) ![o, 0, 0] S1x1024x768.size inb).emb x)) :
    View.canon ((⟨Rect.unit (s := S4x1024x768) ![o', 0, 0] S1x1024x768.size inb', w⟩ : View.Piece (Elt Ideal) S4x1024x768 .f32) :: L)
      ((Rect.unit (s := S4x1024x768) ![o, 0, 0] S1x1024x768.size inb).emb x) = zeros ((Rect.unit (s := S4x1024x768) ![o, 0, 0] S1x1024x768.size inb).emb x) := by
  rw [View.canon_cons_of_not_mem _ _ (by
    rw [Rect.mem_set_unit]
    intro hall
    have h2 : o + 1 * (x 0).val < o' + 1 := (hall 0).2
    omega), hL]

theorem inb4 (o : ℕ) (h : o < 4) : ∀ a, (![o, 0, 0] : Fin 3 → Nat) a + S1x1024x768.size a ≤ S4x1024x768.size a
  | ⟨0, _⟩ => h
  | ⟨1, _⟩ => Nat.le_refl 1024
  | ⟨2, _⟩ => Nat.le_refl 768

theorem soutA_eq (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .bf16) (h7 : a7.IsWhole) (a8 : Memref sig .tc .vmem S4x1024x768 .bf16) (h8 : a8.IsWhole) (a9 : Memref sig .tc .vmem S4x1024x768 .f32) (h9 : a9.IsWhole) (hc0 : cond0_0 i) (hc1 : ¬cond0_1 i)
    (Y : YBlk) (Gs : Six) :
    sout0_A_0 c i a1 h1 a2 h2 a3 h3 a4 h4 a5 h5 a6 h6 a7 h7 a8 h8 a9 h9 hc0 hc1 Y (Gs 0) (Gs 1) (Gs 2) (Gs 3) (Gs 4) (Gs 5) = addBlock Y Gs zeros := by
  unfold sout0_A_0
  rw [View.read_writes_junk_eq_canon]
  funext y
  unfold kernelRun0_A
  dsimp only
  sl_unfold_words
  simp only [View.readAt_eq_ld, h1.read_unread, h2.read_unread, h3.read_unread, h4.read_unread, h5.read_unread, h6.read_unread, h7.read_unread, View.ld_unit_zero (S := S1024x1024) hz2, View.ld_unit_zero (S := S1024x512) hz2]
  simp only [pay1_eq, pay2_eq, pay5_eq, pay6_eq]
  refine View.canon_append_of_pieces (addBlock Y Gs zeros) [_] [_, _, _, _] ?_ y ?_
  · refine List.forall_mem_cons.2 ⟨part_eq 3 (inb4 3 (by decide)) _ Y Gs zeros _ ?_ (shard3 Gs _), List.forall_mem_cons.2 ⟨part_eq 2 (inb4 2 (by decide)) _ Y Gs zeros _ ?_ (shard2 Gs _),
      List.forall_mem_cons.2 ⟨part_eq 1 (inb4 1 (by decide)) _ Y Gs zeros _ ?_ (shard1 Gs _), List.forall_mem_cons.2 ⟨part_eq 0 (inb4 0 (by decide)) _ Y Gs zeros _ ?_ (shard0 Gs _), ?_⟩⟩⟩⟩
    · intro x; rw [View.readCov_eq_canon']
      exact clear_cons 3 2 (by decide) _ _ _ _ x (clear_cons 3 1 (by decide) _ _ _ _ x (clear_cons 3 0 (by decide) _ _ _ _ x (clear_base 3 _ _ x)))
    · intro x; rw [View.readCov_eq_canon']
      exact clear_cons 2 1 (by decide) _ _ _ _ x (clear_cons 2 0 (by decide) _ _ _ _ x (clear_base 2 _ _ x))
    · intro x; rw [View.readCov_eq_canon']
      exact clear_cons 1 0 (by decide) _ _ _ _ x (clear_base 1 _ _ x)
    · intro x; rw [View.readCov_eq_canon']
      exact clear_base 0 _ _ x
    · exact fun p hp => absurd hp List.not_mem_nil
  · exact View.cover_of_tiledL (s := S4x1024x768) _ S1x1024x768.size (by rfl) y

theorem outC_eq (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .bf16) (h7 : a7.IsWhole) (a8 : Memref sig .tc .vmem S4x1024x768 .bf16) (h8 : a8.IsWhole) (a9 : Memref sig .tc .vmem S4x1024x768 .f32) (h9 : a9.IsWhole) (hc0 : ¬cond0_0 i) (hc1 : cond0_1 i)
    (Y : YBlk) (Gs : Six) (A : Acc) (y : S4x1024x768.Idx) :
    (out0_C_7 c i a1 h1 a2 h2 a3 h3 a4 h4 a5 h5 a6 h6 a7 h7 a8 h8 a9 h9 hc0 hc1 Y (Gs 0) (Gs 1) (Gs 2) (Gs 3) (Gs 4) (Gs 5) A y : EReal) = addBlock Y Gs A y := by
  unfold out0_C_7
  rw [View.read_writes_junk_eq_canon]
  unfold kernelRun0_C
  dsimp only
  sl_unfold_words
  rw [View.canon_unit_zero (S := S4x1024x768) hz3]
  unfold k0_pay3
  rw [View.readCov_eq_canon']
  simp only [View.readAt_eq_ld, h1.read_unread, h2.read_unread, h3.read_unread, h4.read_unread, h5.read_unread, h6.read_unread, h7.read_unread, h9.read_unread, View.ld_unit_zero (S := S1024x1024) hz2, View.ld_unit_zero (S := S1024x512) hz2]
  simp only [pay1_eq, pay2_eq, pay5_eq, pay6_eq]
  have e : ∀ B : Acc, B = addBlock Y Gs A → (truncf (F := Ideal) .bf16 B bitsLt_bf16_f32 y : EReal) = addBlock Y Gs A y := by
    rintro _ rfl; rfl
  refine e _ ?_
  clear e y
  funext y
  refine (View.canon_apply_of_pieces (addBlock Y Gs A) _ ?_ _ ?_).trans (congrArg (addBlock Y Gs A) ?_)
  · refine List.forall_mem_cons.2 ⟨part_eq 3 _ _ Y Gs A _ (fun _ => rfl) (shard3 Gs _), List.forall_mem_cons.2 ⟨part_eq 2 _ _ Y Gs A _ (fun _ => rfl) (shard2 Gs _),
      List.forall_mem_cons.2 ⟨part_eq 1 _ _ Y Gs A _ (fun _ => rfl) (shard1 Gs _), List.forall_mem_cons.2 ⟨part_eq 0 _ _ Y Gs A _ (fun _ => rfl) (shard0 Gs _), ?_⟩⟩⟩⟩
    exact fun p hp => absurd hp List.not_mem_nil
  · exact View.cover_of_tiledL (s := S4x1024x768) _ S1x1024x768.size (by rfl) _
  · funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega

/-! ## The sum over the eight blocks of frames -/

variable (m : (ℓ : Loc nD τ sig) → Buf (Elt Ideal) ℓ) (c : Dev nD)

abbrev xs : Vec Ideal S8192x1024 .f32 := m ((c.tc : Thread nD τ).loc main_arg0)

/-- The six groups' arrays. -/
abbrev gs : Fin 6 → Vec Ideal S8192x512 .bf16 :=
  ![m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6)]

/-- Frame `r` of block `k`. -/
def frame (k : Fin 8) (r : Fin 1024) : Fin 8192 := ⟨1024 * k.val + r.val, by omega⟩

theorem sum_blocks (f : Fin 8192 → EReal) : ∑ t, f t = ∑ k : Fin 8, ∑ r : Fin 1024, f (frame k r) := by
  rw [← Fintype.sum_prod_type' (f := fun (k : Fin 8) (r : Fin 1024) => f (frame k r))]
  exact (Equiv.sum_comp (finProdFinEquiv (m := 8) (n := 1024)) f).symm.trans
    (Finset.sum_congr rfl fun x _ => congrArg f (Fin.ext (by simp [finProdFinEquiv, frame]; omega)))

/-- A frame's term of the gradient. -/
def term (s : Fin 4) (i : Fin 1024) (j : Fin 768) (t : Fin 8192) : EReal := (xs m c (ix2 t i) * join (gs m c) s t j : EReal)

/-- A block's terms. -/
def blockTerm (s : Fin 4) (i : Fin 1024) (j : Fin 768) (k : ℕ) : EReal := if h : k < 8 then ∑ r : Fin 1024, term m c s i j (frame ⟨k, h⟩ r) else 0

theorem co0 (t : Fin cfg0.N) : (grid0.coords t 0).val = t.val := by
  have h := Pipeline.Grid.coords_val (G := grid0) t 0 (S := 1) (B := 8) (by decide) (by decide)
  have hN := lt_of_lt_of_eq t.isLt (show cfg0.N = 8 from N_0)
  rw [Nat.div_one, Nat.mod_eq_of_lt hN] at h; exact h

theorem tr (i : grid0.Coords) : (BitVec.ofNat 32 (i 0).val).toNat = (i 0).val := by
  have key : ∀ (p : Fin 8), (BitVec.ofNat 32 p.val).toNat = p.val := by decide +kernel
  exact key (i 0)

/-- The groups' blocks at a point. -/
abbrev gblk (t : Fin cfg0.N) : Six := ![(iblk m c 1 t : HBlk), (iblk m c 2 t : HBlk), (iblk m c 3 t : HBlk), (iblk m c 4 t : HBlk), (iblk m c 5 t : HBlk), (iblk m c 6 t : HBlk)]

theorem spot (t : Fin cfg0.N) (k : Fin 8) (hk : t.val = k.val) (r : Fin 1024) (j : Fin 512) (z : S8192x512.Idx)
    (h0 : (z 0).val = (BitVec.ofNat 32 (grid0.coords t 0).val).toNat * 1024 + 1 * r.val) (h1 : (z 1).val = 0 * 512 + 1 * j.val) : z = ix2 (frame k r) j := by
  rw [tr, co0] at h0
  funext a; apply Fin.ext
  match a with
  | ⟨0, _⟩ => show (z 0).val = 1024 * k.val + r.val; omega
  | ⟨1, _⟩ => show (z 1).val = j.val; omega

theorem gblk_at (t : Fin cfg0.N) (k : Fin 8) (hk : t.val = k.val) (r : Fin 1024) (j : Fin 512) : ∀ q : Fin 6, gblk m c t q (ix2 r j) = gs m c q (ix2 (frame k r) j)
  | ⟨0, _⟩ => by
    show (iblk m c 1 t : HBlk) (ix2 r j) = _
    unfold iblk
    rw [View.read_apply]
    show V m c main_arg1 _ = m ((c.tc : Thread nD τ).loc main_arg1) _
    rw [V_main_arg1]
    exact congrArg (m ((c.tc : Thread nD τ).loc main_arg1)) (spot t k hk r j _ rfl rfl)
  | ⟨1, _⟩ => by
    show (iblk m c 2 t : HBlk) (ix2 r j) = _
    unfold iblk
    rw [View.read_apply]
    show V m c main_arg2 _ = m ((c.tc : Thread nD τ).loc main_arg2) _
    rw [V_main_arg2]
    exact congrArg (m ((c.tc : Thread nD τ).loc main_arg2)) (spot t k hk r j _ rfl rfl)
  | ⟨2, _⟩ => by
    show (iblk m c 3 t : HBlk) (ix2 r j) = _
    unfold iblk
    rw [View.read_apply]
    show V m c main_arg3 _ = m ((c.tc : Thread nD τ).loc main_arg3) _
    rw [V_main_arg3]
    exact congrArg (m ((c.tc : Thread nD τ).loc main_arg3)) (spot t k hk r j _ rfl rfl)
  | ⟨3, _⟩ => by
    show (iblk m c 4 t : HBlk) (ix2 r j) = _
    unfold iblk
    rw [View.read_apply]
    show V m c main_arg4 _ = m ((c.tc : Thread nD τ).loc main_arg4) _
    rw [V_main_arg4]
    exact congrArg (m ((c.tc : Thread nD τ).loc main_arg4)) (spot t k hk r j _ rfl rfl)
  | ⟨4, _⟩ => by
    show (iblk m c 5 t : HBlk) (ix2 r j) = _
    unfold iblk
    rw [View.read_apply]
    show V m c main_arg5 _ = m ((c.tc : Thread nD τ).loc main_arg5) _
    rw [V_main_arg5]
    exact congrArg (m ((c.tc : Thread nD τ).loc main_arg5)) (spot t k hk r j _ rfl rfl)
  | ⟨5, _⟩ => by
    show (iblk m c 6 t : HBlk) (ix2 r j) = _
    unfold iblk
    rw [View.read_apply]
    show V m c main_arg6 _ = m ((c.tc : Thread nD τ).loc main_arg6) _
    rw [V_main_arg6]
    exact congrArg (m ((c.tc : Thread nD τ).loc main_arg6)) (spot t k hk r j _ rfl rfl)

theorem iblk_x (t : Fin cfg0.N) (k : Fin 8) (hk : t.val = k.val) (r i : Fin 1024) :
    (iblk m c 0 t : YBlk) (ix2 r i) = xs m c (ix2 (frame k r) i) := by
  unfold iblk
  rw [View.read_apply]
  show V m c main_arg0 _ = xs m c _
  rw [V_main_arg0]
  refine congrArg (xs m c) ?_
  funext a; apply Fin.ext
  match a with
  | ⟨0, _⟩ => show (BitVec.ofNat 32 (grid0.coords t 0).val).toNat * 1024 + 1 * r.val = 1024 * k.val + r.val
              rw [tr, co0]; omega
  | ⟨1, _⟩ => show 0 * 1024 + 1 * i.val = i.val; omega

theorem blockSum_eq (t : Fin cfg0.N) (s : Fin 4) (i : Fin 1024) (j : Fin 768) :
    blockSum (iblk m c 0 t) (gblk m c t) s i j = blockTerm m c s i j t.val := by
  have hN := lt_of_lt_of_eq t.isLt (show cfg0.N = 8 from N_0)
  unfold blockSum blockTerm term
  rw [dif_pos hN]
  refine Finset.sum_congr rfl fun r _ => ?_
  exact congrArg₂ (· * · : EReal → EReal → EReal) (iblk_x m c t ⟨t.val, hN⟩ rfl r i) (gblk_at m c t ⟨t.val, hN⟩ rfl r _ _)

theorem first_eq (t : Fin cfg0.N) (h0 : t.val % 8 = 0) (h1 : ¬t.val % 8 = 7) :
    (outsAt0 m c t.val t.isLt).2 = addBlock (iblk m c 0 t) (gblk m c t) zeros := by
  rw [outsAt0_A m c t h0 h1]
  dsimp only
  exact soutA_eq c _ _ _ _ _ _ _ _ _ _ _ _ _ _ _ _ _ _ _ _ _ (iblk m c 0 t) (gblk m c t)

theorem next_eq (t : Fin cfg0.N) (h0 : ¬t.val % 8 = 0) (h1 : ¬t.val % 8 = 7) :
    (outsAt0 m c t.val t.isLt).2 = addBlock (iblk m c 0 t) (gblk m c t) (outsAt0 m c (t.val - 1) (Nat.lt_of_le_of_lt (Nat.sub_le _ _) t.isLt)).2 := by
  rw [outsAt0_B m c t h0 h1]
  dsimp only
  exact soutB_eq c _ _ _ _ _ _ _ _ _ _ _ _ _ _ _ _ _ _ _ _ _ (iblk m c 0 t) (gblk m c t) _

theorem last_eq (t : Fin cfg0.N) (h0 : ¬t.val % 8 = 0) (h1 : t.val % 8 = 7) (y : S4x1024x768.Idx) :
    ((outsAt0 m c t.val t.isLt).1 y : EReal) = addBlock (iblk m c 0 t) (gblk m c t) (outsAt0 m c (t.val - 1) (Nat.lt_of_le_of_lt (Nat.sub_le _ _) t.isLt)).2 y := by
  rw [outsAt0_C m c t h0 h1]
  dsimp only
  exact outC_eq c _ _ _ _ _ _ _ _ _ _ _ _ _ _ _ _ _ _ _ _ _ (iblk m c 0 t) (gblk m c t) _ y

/-- Before the last block the scratch holds the sum of the blocks so far. -/
theorem scratch_at : ∀ (n : ℕ) (hn : n < cfg0.N), n < 7 → ∀ y : S4x1024x768.Idx,
    ((outsAt0 m c n hn).2 y : EReal) = ∑ k ∈ Finset.range (n + 1), blockTerm m c (y 0) (y 1) (y 2) k
  | 0, hn, _, y => by
    have e : (outsAt0 m c 0 hn).2 = addBlock (iblk m c 0 ⟨0, hn⟩) (gblk m c ⟨0, hn⟩) zeros :=
      first_eq m c ⟨0, hn⟩ rfl (show ¬0 % 8 = 7 by decide)
    rw [e, Finset.sum_range_one]
    show (0 + blockSum _ _ _ _ _ : EReal) = _
    rw [zero_add]; exact blockSum_eq m c ⟨0, hn⟩ _ _ _
  | n + 1, hn, h7, y => by
    have e : (outsAt0 m c (n + 1) hn).2 = addBlock (iblk m c 0 ⟨n + 1, hn⟩) (gblk m c ⟨n + 1, hn⟩) (outsAt0 m c n (Nat.lt_of_succ_lt hn)).2 :=
      next_eq m c ⟨n + 1, hn⟩ (by dsimp only; omega) (by dsimp only; omega)
    rw [e, Finset.sum_range_succ, ← scratch_at n (Nat.lt_of_succ_lt hn) (by omega) y]
    exact congrArg (fun e : EReal => ((outsAt0 m c n (Nat.lt_of_succ_lt hn)).2 y : EReal) + e) (blockSum_eq m c ⟨n + 1, hn⟩ _ _ _)

/-- The gradient of an entry of the weights: the sum over the frames. -/
def wgrad (x : Vec Ideal S8192x1024 .f32) (G : Fin 6 → Vec Ideal S8192x512 .bf16) : Vec Ideal S4x1024x768 .bf16 := fun y => (∑ t : Fin 8192, (x (ix2 t (y 1)) * join G (y 0) t (y 2) : EReal) : EReal)

theorem out_eq (hn : 7 < cfg0.N) : (outsAt0 m c 7 hn).1 = wgrad (xs m c) (gs m c) := by
  funext y
  have e : ((outsAt0 m c 7 hn).1 y : EReal) = addBlock (iblk m c 0 ⟨7, hn⟩) (gblk m c ⟨7, hn⟩) (outsAt0 m c 6 (Nat.lt_of_succ_lt hn)).2 y :=
    last_eq m c ⟨7, hn⟩ (show ¬7 % 8 = 0 by decide) rfl y
  refine e.trans ?_
  show ((outsAt0 m c 6 _).2 y + blockSum _ _ _ _ _ : EReal) = _
  rw [scratch_at m c 6 _ (by decide) y, blockSum_eq m c ⟨7, hn⟩ (y 0) (y 1) (y 2)]
  refine (Finset.sum_range_succ (fun k => blockTerm m c (y 0) (y 1) (y 2) k) 7).symm.trans ?_
  refine (Finset.sum_range (fun k => blockTerm m c (y 0) (y 1) (y 2) k)).trans ?_
  refine Eq.trans ?_ (sum_blocks (term m c (y 0) (y 1) (y 2))).symm
  refine Finset.sum_congr rfl fun k _ => ?_
  unfold blockTerm
  rw [dif_pos k.isLt]

theorem result_eq : Cert.WInIdeal.Value.G7 m c = wgrad (xs m c) (gs m c) := by
  rw [Cert.WInIdeal.Value.G7_last, ← Cert.WInIdeal.Value.outsAt0_sweep m c 7 (lt_of_lt_of_eq (by decide) N_0.symm)]
  exact out_eq m c _

end Cert.WInIdeal.Hand

namespace Cert.WInReferenceIdeal.Hand

open Cert.WInReferenceIdeal Cert.WInReferenceIdeal.Gen Idealize.ShloMosaic Idealize.ShloMosaic.ValueIdx Idealize.ShloMosaic.TcCoe Idealize.SL.Sem

theorem dot_at (h : FVec Ideal S8192x4x768 .f32) (x : FVec Ideal S8192x1024 .f32) (s : Fin 4) (j : Fin 768) (i : Fin 1024) :
    Host.dotGeneral dot_S8192x4x768_S8192x1024_S4x768x1024_0_0_12_1_n_n none h x (ix3 s j i) = ∑ t : Fin 8192, (h (ix3 t s j) * x (ix2 t i) : EReal) := by
  let D := dot_S8192x4x768_S8192x1024_S4x768x1024_0_0_12_1_n_n
  simp only [Host.dotGeneral]
  refine (Ideal.dotGeneral_apply D none _ h x (ix3 s j i)).trans ?_
  rw [← Equiv.sum_comp (contrEquiv1 D 8192 rfl rfl).symm]
  refine Finset.sum_congr rfl fun r _ => ?_
  have hk := contrEquiv1_symm_val D 8192 rfl rfl r
  have el : D.lhsIdx (ix3 s j i) ((contrEquiv1 D 8192 rfl rfl).symm r) = ix3 r s j := by
    funext a; apply Fin.ext
    match a with
    | ⟨0, _⟩ => exact hk
    | ⟨1, _⟩ => rfl
    | ⟨2, _⟩ => rfl
  have er : D.rhsIdx (ix3 s j i) ((contrEquiv1 D 8192 rfl rfl).symm r) = ix2 r i := by
    funext a; apply Fin.ext
    match a with
    | ⟨0, _⟩ => exact hk
    | ⟨1, _⟩ => rfl
  rw [el, er]

theorem outer_at (G : FVec Ideal S4x768x1024 .f32) (s : Fin 4) (i : Fin 1024) (j : Fin 768) :
    (truncf (F := Ideal) .bf16 (transpose S4x1024x768 [0, 2, 1] G transposes_S4x768x1024_S4x1024x768_0_2_1) bitsLt_bf16_f32 (ix3 s i j) : EReal) = G (ix3 s j i) :=
  transpose_apply (s := S4x768x1024) _ G _ _ _ fun a => match a with | ⟨0, _⟩ => rfl | ⟨1, _⟩ => rfl | ⟨2, _⟩ => rfl

/-- The six groups side by side. -/
def cat (P : Fin 6 → FVec Ideal S8192x512 .bf16) : FVec Ideal S8192x3072 .bf16 :=
  concatenate S8192x3072 1 [⟨S8192x512, P 0⟩, ⟨S8192x512, P 1⟩, ⟨S8192x512, P 2⟩, ⟨S8192x512, P 3⟩, ⟨S8192x512, P 4⟩, ⟨S8192x512, P 5⟩] concatenates_S8192x512_S8192x512_S8192x512_S8192x512_S8192x512_S8192x512_S8192x3072_d1

theorem cat_at (P : Fin 6 → FVec Ideal S8192x512 .bf16) (t : Fin 8192) (C : Fin 3072) (l : Fin 512) : ∀ k : Fin 6, C.val = 512 * k.val + l.val → cat P (ix2 t C) = P k (ix2 t l)
  | ⟨0, _⟩, h => concatenate_apply_piece 1 _ _ (ix2 t C) 0 (by show 0 < 6; decide) S8192x512 (P 0) rfl rfl 0 rfl
      (ix2 t l) (fun b => match b with | ⟨0, _⟩ => fun _ => rfl | ⟨1, _⟩ => fun hb => absurd rfl hb) (by show 0 + l.val = C.val; dsimp only at h; omega)
  | ⟨1, _⟩, h => concatenate_apply_piece 1 _ _ (ix2 t C) 1 (by show 1 < 6; decide) S8192x512 (P 1) rfl rfl 512 rfl
      (ix2 t l) (fun b => match b with | ⟨0, _⟩ => fun _ => rfl | ⟨1, _⟩ => fun hb => absurd rfl hb) (by show 512 + l.val = C.val; dsimp only at h; omega)
  | ⟨2, _⟩, h => concatenate_apply_piece 1 _ _ (ix2 t C) 2 (by show 2 < 6; decide) S8192x512 (P 2) rfl rfl 1024 rfl
      (ix2 t l) (fun b => match b with | ⟨0, _⟩ => fun _ => rfl | ⟨1, _⟩ => fun hb => absurd rfl hb) (by show 1024 + l.val = C.val; dsimp only at h; omega)
  | ⟨3, _⟩, h => concatenate_apply_piece 1 _ _ (ix2 t C) 3 (by show 3 < 6; decide) S8192x512 (P 3) rfl rfl 1536 rfl
      (ix2 t l) (fun b => match b with | ⟨0, _⟩ => fun _ => rfl | ⟨1, _⟩ => fun hb => absurd rfl hb) (by show 1536 + l.val = C.val; dsimp only at h; omega)
  | ⟨4, _⟩, h => concatenate_apply_piece 1 _ _ (ix2 t C) 4 (by show 4 < 6; decide) S8192x512 (P 4) rfl rfl 2048 rfl
      (ix2 t l) (fun b => match b with | ⟨0, _⟩ => fun _ => rfl | ⟨1, _⟩ => fun hb => absurd rfl hb) (by show 2048 + l.val = C.val; dsimp only at h; omega)
  | ⟨5, _⟩, h => concatenate_apply_piece 1 _ _ (ix2 t C) 5 (by show 5 < 6; decide) S8192x512 (P 5) rfl rfl 2560 rfl
      (ix2 t l) (fun b => match b with | ⟨0, _⟩ => fun _ => rfl | ⟨1, _⟩ => fun hb => absurd rfl hb) (by show 2560 + l.val = C.val; dsimp only at h; omega)

theorem join_at (P : Fin 6 → FVec Ideal S8192x512 .bf16) (t : Fin 8192) (s : Fin 4) (i : Fin 768) :
    (shapeCast S8192x4x768 (extf (F := Ideal) .f32 (cat P) bitsLt_bf16_f32) shapeCasts_S8192x3072_S8192x4x768 (ix3 t s i) : EReal) = Cert.WInIdeal.Hand.join P s t i := by
  have hlt : 768 * s.val + i.val < 3072 := by omega
  have e : (shapeCast S8192x4x768 (extf (F := Ideal) .f32 (cat P) bitsLt_bf16_f32) shapeCasts_S8192x3072_S8192x4x768 (ix3 t s i) : EReal) = cat P (ix2 t ⟨768 * s.val + i.val, hlt⟩) := by
    refine shapeCast_apply (extf (F := Ideal) .f32 (cat P) bitsLt_bf16_f32) _ (ix3 t s i) (ix2 t ⟨768 * s.val + i.val, hlt⟩) ?_
    rw [Shape.rowMajor_val_three, Shape.rowMajor_val_two]
    show t.val * 3072 + (768 * s.val + i.val) = (t.val * 4 + s.val) * 768 + i.val
    omega
  refine e.trans (cat_at P t _ (Cert.WInIdeal.Hand.col s i) (Cert.WInIdeal.Hand.grp s i) ?_)
  show 768 * s.val + i.val = 512 * ((768 * s.val + i.val) / 512) + (768 * s.val + i.val) % 512
  omega

theorem term_eq (x : FVec Ideal S8192x1024 .f32) (P : Fin 6 → FVec Ideal S8192x512 .bf16) :
    truncf .bf16 (transpose S4x1024x768 [0, 2, 1] (Host.dotGeneral dot_S8192x4x768_S8192x1024_S4x768x1024_0_0_12_1_n_n none (shapeCast S8192x4x768 (extf .f32 (cat P) bitsLt_bf16_f32) shapeCasts_S8192x3072_S8192x4x768) x) transposes_S4x768x1024_S4x1024x768_0_2_1) bitsLt_bf16_f32
      = Cert.WInIdeal.Hand.wgrad x P := by
  funext y
  obtain ⟨s, i, j, rfl⟩ : ∃ (s : Fin 4) (i : Fin 1024) (j : Fin 768), y = ix3 s i j := ⟨y 0, y 1, y 2, eq_ix3 y⟩
  refine Eq.trans (outer_at _ s i j) ?_
  refine (dot_at _ _ s j i).trans (Finset.sum_congr rfl fun t _ => ?_)
  rw [join_at]
  exact mul_comm (Cert.WInIdeal.Hand.join P s t j) (x (ix2 t i) : EReal)

theorem term_of (x x' : FVec Ideal S8192x1024 .f32) (p0 p1 p2 p3 p4 p5 q0 q1 q2 q3 q4 q5 : FVec Ideal S8192x512 .bf16)
    (H : x = x' ∧ p0 = q0 ∧ p1 = q1 ∧ p2 = q2 ∧ p3 = q3 ∧ p4 = q4 ∧ p5 = q5) :
    truncf .bf16 (transpose S4x1024x768 [0, 2, 1] (Host.dotGeneral dot_S8192x4x768_S8192x1024_S4x768x1024_0_0_12_1_n_n none (shapeCast S8192x4x768 (extf .f32 (concatenate S8192x3072 1 [⟨S8192x512, p0⟩, ⟨S8192x512, p1⟩, ⟨S8192x512, p2⟩, ⟨S8192x512, p3⟩, ⟨S8192x512, p4⟩, ⟨S8192x512, p5⟩] concatenates_S8192x512_S8192x512_S8192x512_S8192x512_S8192x512_S8192x512_S8192x3072_d1) bitsLt_bf16_f32) shapeCasts_S8192x3072_S8192x4x768) x) transposes_S4x768x1024_S4x1024x768_0_2_1) bitsLt_bf16_f32
      = Cert.WInIdeal.Hand.wgrad x' ![q0, q1, q2, q3, q4, q5] := by
  obtain ⟨rfl, rfl, rfl, rfl, rfl, rfl, rfl⟩ := H
  exact term_eq x ![p0, p1, p2, p3, p4, p5]

end Cert.WInReferenceIdeal.Hand
end
-- ==== Proof.WWOut.lean ====
module

public import proofs.«01_k».proof.Proof.Gen.WOutIdeal.Value
public import proofs.«01_k».proof.Proof.Gen.WOutReferenceIdeal.Run
public import Idealize.ShloMosaic.Lib.Tactic
public import Idealize.ShloMosaic.PureOps.Ideal.Laws
public import Idealize.ShloMosaic.Lib.MatmulPlain
public import Idealize.ShloMosaic.Lib.ValueLayout
public import Idealize.ShloMosaic.Lib.ValueIdx
public import Idealize.ShloMosaic.Lib.Pipeline.CanonAppend

@[expose] public section

noncomputable section

namespace Cert.WOutIdeal.Hand

open Cert.WOutIdeal Cert.WOutIdeal.Gen Idealize.ShloMosaic Idealize.ShloMosaic.ValueIdx Idealize.ShloMosaic.TcCoe Idealize.SL.Sem

/-! # The weight gradient of the attentions' output projection: what a block of frames adds, and the sum over the blocks -/

abbrev HBlk := Vec Ideal S1024x512 .bf16
abbrev YBlk := Vec Ideal S1024x1024 .bf16
abbrev Acc := Vec Ideal S4x256x1024 .f32

theorem mulTN_at (x : FVec Ideal S1024x256 .bf16) (y : FVec Ideal S1024x1024 .bf16) (i : Fin 256) (j : Fin 1024) :
    matmul dot_S1024x256_S1024x1024_S256x1024_0_0_1_1_n_n none x y (constant S256x1024 .f32 0x00000000#32) (ix2 i j)
      = ∑ r : Fin 1024, (x (ix2 r i) * y (ix2 r j) : EReal) := by
  let D := dot_S1024x256_S1024x1024_S256x1024_0_0_1_1_n_n
  refine (Ideal.matmul_apply D none x y (constant S256x1024 .f32 0x00000000#32) (ix2 i j)).trans ?_
  rw [← Equiv.sum_comp (contrEquiv1 D 1024 rfl rfl).symm]
  show (Ideal.ofBits .f32 0x00000000#32 : EReal) + _ = _
  rw [Ideal.ofBits_zero_f32, zero_add]
  refine Finset.sum_congr rfl fun r _ => ?_
  have hk := contrEquiv1_symm_val D 1024 rfl rfl r
  have el : D.lhsIdx (ix2 i j) ((contrEquiv1 D 1024 rfl rfl).symm r) = ix2 r i := by
    funext a; apply Fin.ext
    match a with
    | ⟨0, _⟩ => exact hk
    | ⟨1, _⟩ => rfl
  have er : D.rhsIdx (ix2 i j) ((contrEquiv1 D 1024 rfl rfl).symm r) = ix2 r j := by
    funext a; apply Fin.ext
    match a with
    | ⟨0, _⟩ => exact hk
    | ⟨1, _⟩ => rfl
  rw [el, er]

/-- One shard's store: the accumulator's part plus the block's product. -/
def part (z : Vec Ideal S1x256x1024 .f32) (H : Vec Ideal S1024x256 .bf16) (Y : YBlk) : Vec Ideal S1x256x1024 .f32 :=
  k0_pay5 (F := Ideal) z H Y

theorem part_at (z : Vec Ideal S1x256x1024 .f32) (H : Vec Ideal S1024x256 .bf16) (Y : YBlk) (i : Fin 256) (j : Fin 1024) :
    part z H Y (ix3 0 i j) = (z (ix3 0 i j) + ∑ r : Fin 1024, (H (ix2 r i) * Y (ix2 r j) : EReal) : EReal) := by
  unfold part k0_pay5
  rw [ValueIdx.shapeCast_ab_1ab_apply]
  exact congrArg₂ (· + · : EReal → EReal → EReal) (ValueIdx.shapeCast_1ab_ab_apply z _ i j) (mulTN_at _ _ i j)

theorem pay5_eq (z : Vec Ideal S1x256x1024 .f32) (H : Vec Ideal S1024x256 .bf16) (Y : YBlk) : k0_pay5 (F := Ideal) z H Y = part z H Y := rfl
theorem pay6_eq (z : Vec Ideal S1x256x1024 .f32) (H : Vec Ideal S1024x256 .bf16) (Y : YBlk) : k0_pay6 (F := Ideal) z H Y = part z H Y := rfl
theorem pay1_eq (z : Vec Ideal S1x256x1024 .f32) (H : Vec Ideal S1024x256 .bf16) (Y : YBlk) : k0_pay1 (F := Ideal) (k0_pay7 z) H Y = part z H Y := rfl
theorem pay2_eq (z : Vec Ideal S1x256x1024 .f32) (H : Vec Ideal S1024x256 .bf16) (Y : YBlk) : k0_pay2 (F := Ideal) z H Y = part z H Y := rfl

/-- Where column `i` of shard `s` lies among its group's columns. -/
def col (s : Fin 4) (i : Fin 256) : Fin 512 := ⟨s.val % 2 * 256 + i.val, by omega⟩

/-- The two groups of heads side by side, in shards of 256 columns. -/
def join {n : ℕ} (M0 M1 : (⟨2, ![n, 512]⟩ : Shape).Idx → EReal) (s : Fin 4) (r : Fin n) (i : Fin 256) : EReal :=
  if s.val < 2 then M0 (ix2 r (col s i)) else M1 (ix2 r (col s i))

/-- What a block of frames adds at an entry. -/
def blockSum (M0 M1 : HBlk) (Y : YBlk) (s : Fin 4) (i : Fin 256) (j : Fin 1024) : EReal := ∑ r : Fin 1024, (join M0 M1 s r i * Y (ix2 r j) : EReal)

/-- A block of frames added to an accumulator. -/
def addBlock (M0 M1 : HBlk) (Y : YBlk) (A : Acc) : Acc := fun y => (A y + blockSum M0 M1 Y (y 0) (y 1) (y 2) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- A shard's store is that shard of the accumulator with the block added. -/
theorem part_eq (o : ℕ) (inb : ∀ a, (![o, 0, 0] : Fin 3 → Nat) a + S1x256x1024.size a ≤ S4x256x1024.size a)
    (H : Vec Ideal S1024x256 .bf16) (M0 M1 : HBlk) (Y : YBlk) (A : Acc) (z : Vec Ideal S1x256x1024 .f32)
    (hzA : ∀ x : S1x256x1024.Idx, z x = A ((Rect.unit (s := S4x256x1024) ![o, 0, 0] S1x256x1024.size inb).emb x)) (hH : ∀ (h : o < 4) (r : Fin 1024) (i : Fin 256), (H (ix2 r i) : EReal) = join M0 M1 ⟨o, h⟩ r i) (x : S1x256x1024.Idx) :
    part z H Y x
      = addBlock M0 M1 Y A ((Rect.unit (s := S4x256x1024) ![o, 0, 0] S1x256x1024.size inb).emb x) := by
  have ho : o < 4 := by have := inb 0; change o + 1 ≤ 4 at this; omega
  have key : ∀ (r : Fin 256) (j : Fin 1024),
      (Rect.unit (s := S4x256x1024) ![o, 0, 0] S1x256x1024.size inb).emb (ix3 0 r j) = ix3 ⟨o, ho⟩ r j := by
    intro r j
    funext a; apply Fin.ext
    match a with
    | ⟨0, _⟩ => show o + 1 * 0 = o; omega
    | ⟨1, _⟩ => show 0 + 1 * r.val = r.val; omega
    | ⟨2, _⟩ => show 0 + 1 * j.val = j.val; omega
  obtain ⟨i, j, rfl⟩ : ∃ (i : Fin 256) (j : Fin 1024), x = ix3 0 i j := by
    refine ⟨x 1, x 2, ?_⟩
    funext a; apply Fin.ext
    match a with
    | ⟨0, _⟩ => have h : (x 0).val < 1 := (x 0).isLt
                show (x 0).val = 0; omega
    | ⟨1, _⟩ => rfl
    | ⟨2, _⟩ => rfl
  rw [part_at, hzA, key]
  refine congrArg (fun e : EReal => (A (ix3 ⟨o, ho⟩ i j) : EReal) + e) (Finset.sum_congr rfl fun r _ => ?_)
  exact congrArg (fun e : EReal => e * (Y (ix2 r j) : EReal)) (hH ho r i)

/-- A shard's columns of its group. -/
theorem cols_at (M : HBlk) (o : ℕ) (inb : ∀ a, (![0, o] : Fin 2 → Nat) a + S1024x256.size a ≤ S1024x512.size a) (s : Fin 4) (hs : s.val % 2 * 256 = o)
    (r : Fin 1024) (i : Fin 256) : View.ld M (Rect.unit (s := S1024x512) ![0, o] S1024x256.size inb) (ix2 r i) = M (ix2 r (col s i)) := by
  refine congrArg M ?_
  funext a; apply Fin.ext
  match a with
  | ⟨0, _⟩ => show 0 + 1 * r.val = r.val; omega
  | ⟨1, _⟩ => show o + 1 * i.val = s.val % 2 * 256 + i.val; omega

theorem shard0 (M0 M1 : HBlk) (inb) (h : 0 < 4) (r : Fin 1024) (i : Fin 256) : (View.ld M0 (Rect.unit (s := S1024x512) ![0, 0] S1024x256.size inb) (ix2 r i) : EReal) = join M0 M1 ⟨0, h⟩ r i :=
  (cols_at M0 0 inb ⟨0, h⟩ rfl r i).trans (if_pos (by show 0 < 2; decide)).symm
theorem shard1 (M0 M1 : HBlk) (inb) (h : 1 < 4) (r : Fin 1024) (i : Fin 256) : (View.ld M0 (Rect.unit (s := S1024x512) ![0, 256] S1024x256.size inb) (ix2 r i) : EReal) = join M0 M1 ⟨1, h⟩ r i :=
  (cols_at M0 256 inb ⟨1, h⟩ rfl r i).trans (if_pos (by show 1 < 2; decide)).symm
theorem shard2 (M0 M1 : HBlk) (inb) (h : 2 < 4) (r : Fin 1024) (i : Fin 256) : (View.ld M1 (Rect.unit (s := S1024x512) ![0, 0] S1024x256.size inb) (ix2 r i) : EReal) = join M0 M1 ⟨2, h⟩ r i :=
  (cols_at M1 0 inb ⟨2, h⟩ (by show 2 % 2 * 256 = 0; decide) r i).trans (if_neg (by show ¬2 < 2; decide)).symm
theorem shard3 (M0 M1 : HBlk) (inb) (h : 3 < 4) (r : Fin 1024) (i : Fin 256) : (View.ld M1 (Rect.unit (s := S1024x512) ![0, 256] S1024x256.size inb) (ix2 r i) : EReal) = join M0 M1 ⟨3, h⟩ r i :=
  (cols_at M1 256 inb ⟨3, h⟩ (by show 3 % 2 * 256 = 256; decide) r i).trans (if_neg (by show ¬3 < 2; decide)).symm

theorem soutB_eq (c : Dev nD) (i : grid0.Coords) (a1 : Memref sig .tc .vmem S1024x512 .bf16) (h1 : a1.IsWhole) (a2 : Memref sig .tc .vmem S1024x512 .bf16) (h2 : a2.IsWhole) (a3 : Memref sig .tc .vmem S1024x1024 .bf16) (h3 : a3.IsWhole) (a4 : Memref sig .tc .vmem S4x256x1024 .bf16) (h4 : a4.IsWhole) (a5 : Memref sig .tc .vmem S4x256x1024 .f32) (h5 : a5.IsWhole) (hc0 : ¬cond0_0 i) (hc1 : ¬cond0_1 i)
    (M0 M1 : HBlk) (Y : YBlk) (A : Acc) :
    sout0_B_0 c i a1 h1 a2 h2 a3 h3 a4 h4 a5 h5 hc0 hc1 M0 M1 Y A = addBlock M0 M1 Y A := by
  have hcov := scover0_B_0 c i a1 h1 a2 h2 a3 h3 a4 h4 a5 h5 hc0 hc1 M0 M1 Y A
  unfold sout0_B_0
  rw [View.read_writes_eq_canon _ _ _ hcov]
  funext y
  refine View.canon_apply_of_pieces (addBlock M0 M1 Y A) _ ?_ y (hcov y)
  clear hcov
  unfold kernelRun0_B
  dsimp only
  sl_unfold_words
  simp only [View.readAt_eq_ld, h1.read_unread, h2.read_unread, h3.read_unread, h5.read_unread, View.ld_unit_zero (S := S1024x1024) hz2]
  simp only [pay1_eq, pay2_eq, pay5_eq, pay6_eq]
  refine List.forall_mem_cons.2 ⟨part_eq 3 _ _ M0 M1 Y A _ (fun _ => rfl) (shard3 M0 M1 _), List.forall_mem_cons.2 ⟨part_eq 2 _ _ M0 M1 Y A _ (fun _ => rfl) (shard2 M0 M1 _),
    List.forall_mem_cons.2 ⟨part_eq 1 _ _ M0 M1 Y A _ (fun _ => rfl) (shard1 M0 M1 _), List.forall_mem_cons.2 ⟨part_eq 0 _ _ M0 M1 Y A _ (fun _ => rfl) (shard0 M0 M1 _), ?_⟩⟩⟩⟩
  exact fun p hp => absurd hp List.not_mem_nil

/-- An accumulator's store list outside the shards already stored: the zeros of the reset. -/
def zeros : Acc := fun _ => (0 : EReal)

theorem clear_base (o : ℕ) (inb0) (inb : ∀ a, (![o, 0, 0] : Fin 3 → Nat) a + S1x256x1024.size a ≤ S4x256x1024.size a) (x : S1x256x1024.Idx) :
    View.canon (Val := Elt Ideal) (s := S4x256x1024) (e := .f32) [⟨Rect.unit (s := S4x256x1024) ![0, 0, 0] S4x256x1024.size inb0, k0_pay4 (F := Ideal)⟩]
      ((Rect.unit (s := S4x256x1024) ![o, 0, 0] S1x256x1024.size inb).emb x) = zeros ((Rect.unit (s := S4x256x1024) ![o, 0, 0] S1x256x1024.size inb).emb x) := by
  rw [View.canon_unit_zero (S := S4x256x1024) hz3]
  unfold k0_pay4
  rw [shapeCast_self]
  exact Ideal.ofBits_zero_f32

theorem clear_cons (o o' : ℕ) (h : o' < o) (inb' : ∀ a, (![o', 0, 0] : Fin 3 → Nat) a + S1x256x1024.size a ≤ S4x256x1024.size a)
    (inb : ∀ a, (![o, 0, 0] : Fin 3 → Nat) a + S1x256x1024.size a ≤ S4x256x1024.size a) (w : Vec Ideal S1x256x1024 .f32)
    (L : List (View.Piece (Elt Ideal) S4x256x1024 .f32)) (x : S1x256x1024.Idx)
    (hL : View.canon L ((Rect.unit (s := S4x256x1024) ![o, 0, 0] S1x256x1024.size inb).emb x) = zeros ((Rect.unit (s := S4x256x1024) ![o, 0, 0] S1x256x1024.size inb).emb x)) :
    View.canon ((⟨Rect.unit (s := S4x256x1024) ![o', 0, 0] S1x256x1024.size inb', w⟩ : View.Piece (Elt Ideal) S4x256x1024 .f32) :: L)
      ((Rect.unit (s := S4x256x1024) ![o, 0, 0] S1x256x1024.size inb).emb x) = zeros ((Rect.unit (s := S4x256x1024) ![o, 0, 0] S1x256x1024.size inb).emb x) := by
  rw [View.canon_cons_of_not_mem _ _ (by
    rw [Rect.mem_set_unit]
    intro hall
    have h2 : o + 1 * (x 0).val < o' + 1 := (hall 0).2
    omega), hL]

theorem inb4 (o : ℕ) (h : o < 4) : ∀ a, (![o, 0, 0] : Fin 3 → Nat) a + S1x256x1024.size a ≤ S4x256x1024.size a
  | ⟨0, _⟩ => h
  | ⟨1, _⟩ => Nat.le_refl 256
  | ⟨2, _⟩ => Nat.le_refl 1024

theorem soutA_eq (c : Dev nD) (i : grid0.Coords) (a1 : Memref sig .tc .vmem S1024x512 .bf16) (h1 : a1.IsWhole) (a2 : Memref sig .tc .vmem S1024x512 .bf16) (h2 : a2.IsWhole) (a3 : Memref sig .tc .vmem S1024x1024 .bf16) (h3 : a3.IsWhole) (a4 : Memref sig .tc .vmem S4x256x1024 .bf16) (h4 : a4.IsWhole) (a5 : Memref sig .tc .vmem S4x256x1024 .f32) (h5 : a5.IsWhole) (hc0 : cond0_0 i) (hc1 : ¬cond0_1 i)
    (M0 M1 : HBlk) (Y : YBlk) :
    sout0_A_0 c i a1 h1 a2 h2 a3 h3 a4 h4 a5 h5 hc0 hc1 M0 M1 Y = addBlock M0 M1 Y zeros := by
  unfold sout0_A_0
  rw [View.read_writes_junk_eq_canon]
  funext y
  unfold kernelRun0_A
  dsimp only
  sl_unfold_words
  simp only [View.readAt_eq_ld, h1.read_unread, h2.read_unread, h3.read_unread, View.ld_unit_zero (S := S1024x1024) hz2]
  simp only [pay1_eq, pay2_eq, pay5_eq, pay6_eq]
  refine View.canon_append_of_pieces (addBlock M0 M1 Y zeros) [_] [_, _, _, _] ?_ y ?_
  · refine List.forall_mem_cons.2 ⟨part_eq 3 (inb4 3 (by decide)) _ M0 M1 Y zeros _ ?_ (shard3 M0 M1 _), List.forall_mem_cons.2 ⟨part_eq 2 (inb4 2 (by decide)) _ M0 M1 Y zeros _ ?_ (shard2 M0 M1 _),
      List.forall_mem_cons.2 ⟨part_eq 1 (inb4 1 (by decide)) _ M0 M1 Y zeros _ ?_ (shard1 M0 M1 _), List.forall_mem_cons.2 ⟨part_eq 0 (inb4 0 (by decide)) _ M0 M1 Y zeros _ ?_ (shard0 M0 M1 _), ?_⟩⟩⟩⟩
    · intro x; rw [View.readCov_eq_canon']
      exact clear_cons 3 2 (by decide) _ _ _ _ x (clear_cons 3 1 (by decide) _ _ _ _ x (clear_cons 3 0 (by decide) _ _ _ _ x (clear_base 3 _ _ x)))
    · intro x; rw [View.readCov_eq_canon']
      exact clear_cons 2 1 (by decide) _ _ _ _ x (clear_cons 2 0 (by decide) _ _ _ _ x (clear_base 2 _ _ x))
    · intro x; rw [View.readCov_eq_canon']
      exact clear_cons 1 0 (by decide) _ _ _ _ x (clear_base 1 _ _ x)
    · intro x; rw [View.readCov_eq_canon']
      exact clear_base 0 _ _ x
    · exact fun p hp => absurd hp List.not_mem_nil
  · exact View.cover_of_tiledL (s := S4x256x1024) _ S1x256x1024.size (by rfl) y

theorem outC_eq (c : Dev nD) (i : grid0.Coords) (a1 : Memref sig .tc .vmem S1024x512 .bf16) (h1 : a1.IsWhole) (a2 : Memref sig .tc .vmem S1024x512 .bf16) (h2 : a2.IsWhole) (a3 : Memref sig .tc .vmem S1024x1024 .bf16) (h3 : a3.IsWhole) (a4 : Memref sig .tc .vmem S4x256x1024 .bf16) (h4 : a4.IsWhole) (a5 : Memref sig .tc .vmem S4x256x1024 .f32) (h5 : a5.IsWhole) (hc0 : ¬cond0_0 i) (hc1 : cond0_1 i)
    (M0 M1 : HBlk) (Y : YBlk) (A : Acc) (y : S4x256x1024.Idx) :
    (out0_C_3 c i a1 h1 a2 h2 a3 h3 a4 h4 a5 h5 hc0 hc1 M0 M1 Y A y : EReal) = addBlock M0 M1 Y A y := by
  unfold out0_C_3
  rw [View.read_writes_junk_eq_canon]
  unfold kernelRun0_C
  dsimp only
  sl_unfold_words
  rw [View.canon_unit_zero (S := S4x256x1024) hz3]
  unfold k0_pay3
  rw [View.readCov_eq_canon']
  simp only [View.readAt_eq_ld, h1.read_unread, h2.read_unread, h3.read_unread, h5.read_unread, View.ld_unit_zero (S := S1024x1024) hz2]
  simp only [pay1_eq, pay2_eq, pay5_eq, pay6_eq]
  have e : ∀ B : Acc, B = addBlock M0 M1 Y A → (truncf (F := Ideal) .bf16 B bitsLt_bf16_f32 y : EReal) = addBlock M0 M1 Y A y := by
    rintro _ rfl; rfl
  refine e _ ?_
  clear e y
  funext y
  refine (View.canon_apply_of_pieces (addBlock M0 M1 Y A) _ ?_ _ ?_).trans (congrArg (addBlock M0 M1 Y A) ?_)
  · refine List.forall_mem_cons.2 ⟨part_eq 3 _ _ M0 M1 Y A _ (fun _ => rfl) (shard3 M0 M1 _), List.forall_mem_cons.2 ⟨part_eq 2 _ _ M0 M1 Y A _ (fun _ => rfl) (shard2 M0 M1 _),
      List.forall_mem_cons.2 ⟨part_eq 1 _ _ M0 M1 Y A _ (fun _ => rfl) (shard1 M0 M1 _), List.forall_mem_cons.2 ⟨part_eq 0 _ _ M0 M1 Y A _ (fun _ => rfl) (shard0 M0 M1 _), ?_⟩⟩⟩⟩
    exact fun p hp => absurd hp List.not_mem_nil
  · exact View.cover_of_tiledL (s := S4x256x1024) _ S1x256x1024.size (by rfl) _
  · funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega

/-! ## The sum over the eight blocks of frames -/

variable (m : (ℓ : Loc nD τ sig) → Buf (Elt Ideal) ℓ) (c : Dev nD)

abbrev m0 : Vec Ideal S8192x512 .bf16 := m ((c.tc : Thread nD τ).loc main_arg0)
abbrev m1 : Vec Ideal S8192x512 .bf16 := m ((c.tc : Thread nD τ).loc main_arg1)
abbrev dy : Vec Ideal S8192x1024 .bf16 := m ((c.tc : Thread nD τ).loc main_arg2)

/-- Frame `r` of block `k`. -/
def frame (k : Fin 8) (r : Fin 1024) : Fin 8192 := ⟨1024 * k.val + r.val, by omega⟩

theorem sum_blocks (f : Fin 8192 → EReal) : ∑ t, f t = ∑ k : Fin 8, ∑ r : Fin 1024, f (frame k r) := by
  rw [← Fintype.sum_prod_type' (f := fun (k : Fin 8) (r : Fin 1024) => f (frame k r))]
  exact (Equiv.sum_comp (finProdFinEquiv (m := 8) (n := 1024)) f).symm.trans
    (Finset.sum_congr rfl fun x _ => congrArg f (Fin.ext (by simp [finProdFinEquiv, frame]; omega)))

/-- A frame's term of the gradient. -/
def term (s : Fin 4) (i : Fin 256) (j : Fin 1024) (t : Fin 8192) : EReal := (join (m0 m c) (m1 m c) s t i * dy m c (ix2 t j) : EReal)

/-- A block's terms. -/
def blockTerm (s : Fin 4) (i : Fin 256) (j : Fin 1024) (k : ℕ) : EReal := if h : k < 8 then ∑ r : Fin 1024, term m c s i j (frame ⟨k, h⟩ r) else 0

theorem co0 (t : Fin cfg0.N) : (grid0.coords t 0).val = t.val := by
  have h := Pipeline.Grid.coords_val (G := grid0) t 0 (S := 1) (B := 8) (by decide) (by decide)
  have hN := lt_of_lt_of_eq t.isLt (show cfg0.N = 8 from N_0)
  rw [Nat.div_one, Nat.mod_eq_of_lt hN] at h; exact h

theorem tr (i : grid0.Coords) : (BitVec.ofNat 32 (i 0).val).toNat = (i 0).val := by
  have key : ∀ (p : Fin 8), (BitVec.ofNat 32 p.val).toNat = p.val := by decide +kernel
  exact key (i 0)

theorem iblk_m0 (t : Fin cfg0.N) (k : Fin 8) (hk : t.val = k.val) (r : Fin 1024) (j : Fin 512) :
    (iblk m c 0 t : HBlk) (ix2 r j) = m0 m c (ix2 (frame k r) j) := by
  unfold iblk
  rw [View.read_apply]
  show V m c main_arg0 _ = m0 m c _
  rw [V_main_arg0]
  refine congrArg (m0 m c) ?_
  funext a; apply Fin.ext
  match a with
  | ⟨0, _⟩ => show (BitVec.ofNat 32 (grid0.coords t 0).val).toNat * 1024 + 1 * r.val = 1024 * k.val + r.val
              rw [tr, co0]; omega
  | ⟨1, _⟩ => show 0 * 512 + 1 * j.val = j.val; omega

theorem iblk_m1 (t : Fin cfg0.N) (k : Fin 8) (hk : t.val = k.val) (r : Fin 1024) (j : Fin 512) :
    (iblk m c 1 t : HBlk) (ix2 r j) = m1 m c (ix2 (frame k r) j) := by
  unfold iblk
  rw [View.read_apply]
  show V m c main_arg1 _ = m1 m c _
  rw [V_main_arg1]
  refine congrArg (m1 m c) ?_
  funext a; apply Fin.ext
  match a with
  | ⟨0, _⟩ => show (BitVec.ofNat 32 (grid0.coords t 0).val).toNat * 1024 + 1 * r.val = 1024 * k.val + r.val
              rw [tr, co0]; omega
  | ⟨1, _⟩ => show 0 * 512 + 1 * j.val = j.val; omega

theorem iblk_y (t : Fin cfg0.N) (k : Fin 8) (hk : t.val = k.val) (r i : Fin 1024) :
    (iblk m c 2 t : YBlk) (ix2 r i) = dy m c (ix2 (frame k r) i) := by
  unfold iblk
  rw [View.read_apply]
  show V m c main_arg2 _ = dy m c _
  rw [V_main_arg2]
  refine congrArg (dy m c) ?_
  funext a; apply Fin.ext
  match a with
  | ⟨0, _⟩ => show (BitVec.ofNat 32 (grid0.coords t 0).val).toNat * 1024 + 1 * r.val = 1024 * k.val + r.val
              rw [tr, co0]; omega
  | ⟨1, _⟩ => show 0 * 1024 + 1 * i.val = i.val; omega

theorem blockSum_eq (t : Fin cfg0.N) (s : Fin 4) (i : Fin 256) (j : Fin 1024) :
    blockSum (iblk m c 0 t) (iblk m c 1 t) (iblk m c 2 t) s i j = blockTerm m c s i j t.val := by
  have hN := lt_of_lt_of_eq t.isLt (show cfg0.N = 8 from N_0)
  unfold blockSum blockTerm term
  rw [dif_pos hN]
  refine Finset.sum_congr rfl fun r _ => ?_
  rw [iblk_y m c t ⟨t.val, hN⟩ rfl]
  refine congrArg (fun e : EReal => e * (dy m c (ix2 (frame ⟨t.val, hN⟩ r) j) : EReal)) ?_
  unfold join
  exact if_congr Iff.rfl (iblk_m0 m c t ⟨t.val, hN⟩ rfl r _) (iblk_m1 m c t ⟨t.val, hN⟩ rfl r _)

theorem first_eq (t : Fin cfg0.N) (h0 : t.val % 8 = 0) (h1 : ¬t.val % 8 = 7) :
    (outsAt0 m c t.val t.isLt).2 = addBlock (iblk m c 0 t) (iblk m c 1 t) (iblk m c 2 t) zeros := by
  rw [outsAt0_A m c t h0 h1]
  dsimp only
  exact soutA_eq c _ _ _ _ _ _ _ _ _ _ _ _ _ (iblk m c 0 t) (iblk m c 1 t) (iblk m c 2 t)

theorem next_eq (t : Fin cfg0.N) (h0 : ¬t.val % 8 = 0) (h1 : ¬t.val % 8 = 7) :
    (outsAt0 m c t.val t.isLt).2 = addBlock (iblk m c 0 t) (iblk m c 1 t) (iblk m c 2 t) (outsAt0 m c (t.val - 1) (Nat.lt_of_le_of_lt (Nat.sub_le _ _) t.isLt)).2 := by
  rw [outsAt0_B m c t h0 h1]
  dsimp only
  exact soutB_eq c _ _ _ _ _ _ _ _ _ _ _ _ _ (iblk m c 0 t) (iblk m c 1 t) (iblk m c 2 t) _

theorem last_eq (t : Fin cfg0.N) (h0 : ¬t.val % 8 = 0) (h1 : t.val % 8 = 7) (y : S4x256x1024.Idx) :
    ((outsAt0 m c t.val t.isLt).1 y : EReal) = addBlock (iblk m c 0 t) (iblk m c 1 t) (iblk m c 2 t) (outsAt0 m c (t.val - 1) (Nat.lt_of_le_of_lt (Nat.sub_le _ _) t.isLt)).2 y := by
  rw [outsAt0_C m c t h0 h1]
  dsimp only
  exact outC_eq c _ _ _ _ _ _ _ _ _ _ _ _ _ (iblk m c 0 t) (iblk m c 1 t) (iblk m c 2 t) _ y

/-- Before the last block the scratch holds the sum of the blocks so far. -/
theorem scratch_at : ∀ (n : ℕ) (hn : n < cfg0.N), n < 7 → ∀ y : S4x256x1024.Idx,
    ((outsAt0 m c n hn).2 y : EReal) = ∑ k ∈ Finset.range (n + 1), blockTerm m c (y 0) (y 1) (y 2) k
  | 0, hn, _, y => by
    have e : (outsAt0 m c 0 hn).2 = addBlock (iblk m c 0 ⟨0, hn⟩) (iblk m c 1 ⟨0, hn⟩) (iblk m c 2 ⟨0, hn⟩) zeros :=
      first_eq m c ⟨0, hn⟩ rfl (show ¬0 % 8 = 7 by decide)
    rw [e, Finset.sum_range_one]
    show (0 + blockSum _ _ _ _ _ _ : EReal) = _
    rw [zero_add]; exact blockSum_eq m c ⟨0, hn⟩ _ _ _
  | n + 1, hn, h7, y => by
    have e : (outsAt0 m c (n + 1) hn).2 = addBlock (iblk m c 0 ⟨n + 1, hn⟩) (iblk m c 1 ⟨n + 1, hn⟩) (iblk m c 2 ⟨n + 1, hn⟩) (outsAt0 m c n (Nat.lt_of_succ_lt hn)).2 :=
      next_eq m c ⟨n + 1, hn⟩ (by dsimp only; omega) (by dsimp only; omega)
    rw [e, Finset.sum_range_succ, ← scratch_at n (Nat.lt_of_succ_lt hn) (by omega) y]
    exact congrArg (fun e : EReal => ((outsAt0 m c n (Nat.lt_of_succ_lt hn)).2 y : EReal) + e) (blockSum_eq m c ⟨n + 1, hn⟩ _ _ _)

/-- The gradient of an entry of the weights: the sum over the frames. -/
def wgrad (p q : Vec Ideal S8192x512 .bf16) (g : Vec Ideal S8192x1024 .bf16) : Vec Ideal S4x256x1024 .bf16 := fun y => (∑ t : Fin 8192, (join p q (y 0) t (y 1) * g (ix2 t (y 2)) : EReal) : EReal)

theorem out_eq (hn : 7 < cfg0.N) : (outsAt0 m c 7 hn).1 = wgrad (m0 m c) (m1 m c) (dy m c) := by
  funext y
  have e : ((outsAt0 m c 7 hn).1 y : EReal) = addBlock (iblk m c 0 ⟨7, hn⟩) (iblk m c 1 ⟨7, hn⟩) (iblk m c 2 ⟨7, hn⟩) (outsAt0 m c 6 (Nat.lt_of_succ_lt hn)).2 y :=
    last_eq m c ⟨7, hn⟩ (show ¬7 % 8 = 0 by decide) rfl y
  refine e.trans ?_
  show ((outsAt0 m c 6 _).2 y + blockSum _ _ _ _ _ _ : EReal) = _
  rw [scratch_at m c 6 _ (by decide) y, blockSum_eq m c ⟨7, hn⟩ (y 0) (y 1) (y 2)]
  refine (Finset.sum_range_succ (fun k => blockTerm m c (y 0) (y 1) (y 2) k) 7).symm.trans ?_
  refine (Finset.sum_range (fun k => blockTerm m c (y 0) (y 1) (y 2) k)).trans ?_
  refine Eq.trans ?_ (sum_blocks (term m c (y 0) (y 1) (y 2))).symm
  refine Finset.sum_congr rfl fun k _ => ?_
  unfold blockTerm
  rw [dif_pos k.isLt]

theorem result_eq : Cert.WOutIdeal.Value.G3 m c = wgrad (m0 m c) (m1 m c) (dy m c) := by
  rw [Cert.WOutIdeal.Value.G3_last, ← Cert.WOutIdeal.Value.outsAt0_sweep m c 7 (lt_of_lt_of_eq (by decide) N_0.symm)]
  exact out_eq m c _

end Cert.WOutIdeal.Hand

namespace Cert.WOutReferenceIdeal.Hand

open Cert.WOutReferenceIdeal Cert.WOutReferenceIdeal.Gen Idealize.ShloMosaic Idealize.ShloMosaic.ValueIdx Idealize.ShloMosaic.TcCoe Idealize.SL.Sem

theorem dot_at (g : FVec Ideal S8192x1024 .f32) (h : FVec Ideal S8192x4x256 .f32) (j : Fin 1024) (s : Fin 4) (i : Fin 256) :
    Host.dotGeneral dot_S8192x1024_S8192x4x256_S1024x4x256_0_0_1_12_n_n none g h (ix3 j s i) = ∑ t : Fin 8192, (g (ix2 t j) * h (ix3 t s i) : EReal) := by
  let D := dot_S8192x1024_S8192x4x256_S1024x4x256_0_0_1_12_n_n
  simp only [Host.dotGeneral]
  refine (Ideal.dotGeneral_apply D none _ g h (ix3 j s i)).trans ?_
  rw [← Equiv.sum_comp (contrEquiv1 D 8192 rfl rfl).symm]
  refine Finset.sum_congr rfl fun r _ => ?_
  have hk := contrEquiv1_symm_val D 8192 rfl rfl r
  have el : D.lhsIdx (ix3 j s i) ((contrEquiv1 D 8192 rfl rfl).symm r) = ix2 r j := by
    funext a; apply Fin.ext
    match a with
    | ⟨0, _⟩ => exact hk
    | ⟨1, _⟩ => rfl
  have er : D.rhsIdx (ix3 j s i) ((contrEquiv1 D 8192 rfl rfl).symm r) = ix3 r s i := by
    funext a; apply Fin.ext
    match a with
    | ⟨0, _⟩ => exact hk
    | ⟨1, _⟩ => rfl
    | ⟨2, _⟩ => rfl
  rw [el, er]

theorem outer_at (G : FVec Ideal S1024x4x256 .f32) (s : Fin 4) (i : Fin 256) (j : Fin 1024) :
    (truncf (F := Ideal) .bf16 (transpose S4x256x1024 [1, 2, 0] G transposes_S1024x4x256_S4x256x1024_1_2_0) bitsLt_bf16_f32 (ix3 s i j) : EReal) = G (ix3 j s i) :=
  transpose_apply (s := S1024x4x256) _ G _ _ _ fun a => match a with | ⟨0, _⟩ => rfl | ⟨1, _⟩ => rfl | ⟨2, _⟩ => rfl

theorem join_at (p q : FVec Ideal S8192x512 .bf16) (t : Fin 8192) (s : Fin 4) (i : Fin 256) :
    (shapeCast S8192x4x256 (extf (F := Ideal) .f32 (concatenate S8192x1024 1 [⟨S8192x512, p⟩, ⟨S8192x512, q⟩] concatenates_S8192x512_S8192x512_S8192x1024_d1) bitsLt_bf16_f32) shapeCasts_S8192x1024_S8192x4x256 (ix3 t s i) : EReal)
      = Cert.WOutIdeal.Hand.join p q s t i := by
  have hlt : s.val * 256 + i.val < 1024 := by omega
  let C : FVec Ideal S8192x1024 .bf16 := concatenate S8192x1024 1 [⟨S8192x512, p⟩, ⟨S8192x512, q⟩] concatenates_S8192x512_S8192x512_S8192x1024_d1
  have e : (shapeCast S8192x4x256 (extf (F := Ideal) .f32 C bitsLt_bf16_f32) shapeCasts_S8192x1024_S8192x4x256 (ix3 t s i) : EReal) = C (ix2 t ⟨s.val * 256 + i.val, hlt⟩) := by
    refine shapeCast_apply (extf (F := Ideal) .f32 C bitsLt_bf16_f32) _ (ix3 t s i) (ix2 t ⟨s.val * 256 + i.val, hlt⟩) ?_
    rw [Shape.rowMajor_val_three, Shape.rowMajor_val_two]
    show t.val * 1024 + (s.val * 256 + i.val) = (t.val * 4 + s.val) * 256 + i.val
    omega
  refine e.trans ?_
  unfold Cert.WOutIdeal.Hand.join
  by_cases hs : s.val < 2
  · rw [if_pos hs]
    exact concatenate_apply_piece 1 _ _ (ix2 t ⟨s.val * 256 + i.val, hlt⟩) 0 (by show 0 < 2; decide) S8192x512 p rfl rfl 0 rfl
      (ix2 t (Cert.WOutIdeal.Hand.col s i)) (fun b => match b with | ⟨0, _⟩ => fun _ => rfl | ⟨1, _⟩ => fun hb => absurd rfl hb)
      (by show 0 + (s.val % 2 * 256 + i.val) = s.val * 256 + i.val; omega)
  · rw [if_neg hs]
    exact concatenate_apply_piece 1 _ _ (ix2 t ⟨s.val * 256 + i.val, hlt⟩) 1 (by show 1 < 2; decide) S8192x512 q rfl rfl 512 rfl
      (ix2 t (Cert.WOutIdeal.Hand.col s i)) (fun b => match b with | ⟨0, _⟩ => fun _ => rfl | ⟨1, _⟩ => fun hb => absurd rfl hb)
      (by show 512 + (s.val % 2 * 256 + i.val) = s.val * 256 + i.val; omega)

theorem term_of (p q p' q' : FVec Ideal S8192x512 .bf16) (g g' : FVec Ideal S8192x1024 .bf16) (H : p = p' ∧ q = q' ∧ g = g') :
    truncf .bf16 (transpose S4x256x1024 [1, 2, 0] (Host.dotGeneral dot_S8192x1024_S8192x4x256_S1024x4x256_0_0_1_12_n_n none (extf .f32 g bitsLt_bf16_f32) (shapeCast S8192x4x256 (extf .f32 (concatenate S8192x1024 1 [⟨S8192x512, p⟩, ⟨S8192x512, q⟩] concatenates_S8192x512_S8192x512_S8192x1024_d1) bitsLt_bf16_f32) shapeCasts_S8192x1024_S8192x4x256)) transposes_S1024x4x256_S4x256x1024_1_2_0) bitsLt_bf16_f32
      = Cert.WOutIdeal.Hand.wgrad p' q' g' := by
  obtain ⟨rfl, rfl, rfl⟩ := H
  funext y
  obtain ⟨s, i, j, rfl⟩ : ∃ (s : Fin 4) (i : Fin 256) (j : Fin 1024), y = ix3 s i j := ⟨y 0, y 1, y 2, eq_ix3 y⟩
  refine Eq.trans (outer_at _ s i j) ?_
  refine (dot_at _ _ j s i).trans (Finset.sum_congr rfl fun t _ => ?_)
  rw [join_at]
  exact mul_comm (g (ix2 t j) : EReal) (Cert.WOutIdeal.Hand.join p q s t i)

end Cert.WOutReferenceIdeal.Hand
end
-- ==== Proof.WOutNorm.lean ====
module

public import proofs.«01_k».proof.Proof.Gen.OutIdeal.Value
public import proofs.«01_k».proof.Proof.Gen.OutReferenceIdeal.Run
public import proofs.«01_k».proof.Proof.WNorm
public import proofs.«01_k».proof.Proof.WWOut
public import Idealize.ShloMosaic.Lib.Tactic
public import Idealize.ShloMosaic.PureOps.Ideal.Laws
public import Idealize.ShloMosaic.Lib.MatmulPlain
public import Idealize.ShloMosaic.Lib.TwoAxisContraction
public import Idealize.ShloMosaic.Lib.ValueLayout
public import Idealize.ShloMosaic.Lib.ValueIdx

@[expose] public section

noncomputable section

namespace Cert.OutIdeal.Hand

open Cert.OutIdeal Cert.OutIdeal.Gen Idealize.ShloMosaic Idealize.ShloMosaic.ValueIdx Idealize.ShloMosaic.TcCoe Idealize.SL.Sem Cert.Norm.Row
open Cert.WOutIdeal.Hand (join col)

/-! # The attentions' output projection with its norm: what a block of frames leaves, and the three arrays

The norm of a row is the one that the down projection's rows get. -/

abbrev MBlk := Vec Ideal S512x512 .bf16
abbrev XBlk := Vec Ideal S512x1024 .f32
abbrev WBlk := Vec Ideal S1x4x256x1024 .bf16
abbrev VBlk := Vec Ideal S1x1024 .f32

theorem mul_at (x : FVec Ideal S512x256 .bf16) (w : FVec Ideal S256x1024 .bf16) (i : Fin 512) (j : Fin 1024) :
    matmul dot_S512x256_S256x1024_S512x1024_1_0_0_1_n_n none x w (constant S512x1024 .f32 0x00000000#32) (ix2 i j)
      = ∑ r : Fin 256, (x (ix2 i r) * w (ix2 r j) : EReal) := by
  let D := dot_S512x256_S256x1024_S512x1024_1_0_0_1_n_n
  refine (Ideal.matmul_apply D none x w (constant S512x1024 .f32 0x00000000#32) (ix2 i j)).trans ?_
  rw [← Equiv.sum_comp (contrEquiv1 D 256 rfl rfl).symm]
  show (Ideal.ofBits .f32 0x00000000#32 : EReal) + _ = _
  rw [Ideal.ofBits_zero_f32, zero_add]
  refine Finset.sum_congr rfl fun r _ => ?_
  have hk := contrEquiv1_symm_val D 256 rfl rfl r
  have el : D.lhsIdx (ix2 i j) ((contrEquiv1 D 256 rfl rfl).symm r) = ix2 i r := by
    funext a; apply Fin.ext
    match a with
    | ⟨0, _⟩ => rfl
    | ⟨1, _⟩ => exact hk
  have er : D.rhsIdx (ix2 i j) ((contrEquiv1 D 256 rfl rfl).symm r) = ix2 r j := by
    funext a; apply Fin.ext
    match a with
    | ⟨0, _⟩ => exact hk
    | ⟨1, _⟩ => rfl
  rw [el, er]

/-- A shard's slice of the weights, its two unit axes dropped. -/
theorem shard_at (w : Vec Ideal S1x1x256x1024 .bf16) (h : S1x1x256x1024.ShapeCasts S256x1024) (i : Fin 256) (j : Fin 1024) :
    (shapeCast S256x1024 w h (ix2 i j) : EReal) = w (ix4 0 0 i j) := by
  refine shapeCast_apply w h (ix2 i j) (ix4 0 0 i j) ?_
  rw [Shape.rowMajor_val_four, Shape.rowMajor_val_two]
  show ((0 * 1 + 0) * 256 + i.val) * 1024 + j.val = i.val * 1024 + j.val
  omega

/-- A shard's product. -/
def prod (x : FVec Ideal S512x256 .bf16) (w : Vec Ideal S1x1x256x1024 .bf16) : FVec Ideal S512x1024 .f32 :=
  matmul dot_S512x256_S256x1024_S512x1024_1_0_0_1_n_n none x
    (shapeCast S256x1024 w shapeCasts_S1x1x256x1024_S256x1024 : FVec Ideal S256x1024 .bf16) (constant S512x1024 .f32 0x00000000#32)

theorem inb2 (o : Fin 2) : ∀ a, (![0, o.val * 256] : Fin 2 → Nat) a + S512x256.size a ≤ S512x512.size a
  | ⟨0, _⟩ => by show 0 + 512 ≤ 512; omega
  | ⟨1, _⟩ => by show o.val * 256 + 256 ≤ 512; omega

theorem inb4 (o : Fin 4) : ∀ a, (![0, o.val, 0, 0] : Fin 4 → Nat) a + S1x1x256x1024.size a ≤ S1x4x256x1024.size a
  | ⟨0, _⟩ => by show 0 + 1 ≤ 1; omega
  | ⟨1, _⟩ => by show o.val + 1 ≤ 4; omega
  | ⟨2, _⟩ => by show 0 + 256 ≤ 256; omega
  | ⟨3, _⟩ => by show 0 + 1024 ≤ 1024; omega

/-- Half `o` of a group's columns, and shard `o` of the weights. -/
def sx (M : MBlk) (o : Fin 2) : Vec Ideal S512x256 .bf16 := View.ld M (Rect.unit (s := S512x512) ![0, o.val * 256] S512x256.size (inb2 o))
def sh (W : WBlk) (o : Fin 4) : Vec Ideal S1x1x256x1024 .bf16 := View.ld W (Rect.unit (s := S1x4x256x1024) ![0, o.val, 0, 0] S1x1x256x1024.size (inb4 o))

theorem sx_at (M : MBlk) (o : Fin 2) (s : Fin 4) (hs : s.val % 2 = o.val) (i : Fin 512) (r : Fin 256) : (sx M o (ix2 i r) : EReal) = M (ix2 i (col s r)) := by
  refine congrArg M ?_
  funext a; apply Fin.ext
  match a with
  | ⟨0, _⟩ => show 0 + 1 * i.val = i.val; omega
  | ⟨1, _⟩ => show o.val * 256 + 1 * r.val = s.val % 2 * 256 + r.val; omega

theorem prod_at (x : Vec Ideal S512x256 .bf16) (W : WBlk) (f : Fin 256 → EReal) (o : Fin 4) (i : Fin 512) (hx : ∀ r, (x (ix2 i r) : EReal) = f r) (j : Fin 1024) :
    (prod x (sh W o) (ix2 i j) : EReal) = ∑ r : Fin 256, (f r * W (ix4 0 o r j) : EReal) := by
  refine (mul_at _ _ i j).trans (Finset.sum_congr rfl fun r _ => ?_)
  refine congrArg₂ (· * · : EReal → EReal → EReal) (hx r) ((shard_at _ _ r j).trans (congrArg W ?_))
  funext a; apply Fin.ext
  match a with
  | ⟨0, _⟩ => rfl
  | ⟨1, _⟩ => show o.val + 1 * 0 = o.val; omega
  | ⟨2, _⟩ => show 0 + 1 * r.val = r.val; omega
  | ⟨3, _⟩ => show 0 + 1 * j.val = j.val; omega

/-- The projection of the block's rows. -/
def down (M0 M1 : MBlk) (W : WBlk) : FVec Ideal S512x1024 .f32 :=
  addf (addf (addf (prod (sx M0 0) (sh W 0)) (prod (sx M0 1) (sh W 1))) (prod (sx M1 0) (sh W 2))) (prod (sx M1 1) (sh W 3))

theorem down_at (M0 M1 : MBlk) (W : WBlk) (i : Fin 512) (j : Fin 1024) :
    (down M0 M1 W (ix2 i j) : EReal) = ∑ s : Fin 4, ∑ r : Fin 256, (join M0 M1 s i r * W (ix4 0 s r j) : EReal) := by
  unfold down
  show (((prod (sx M0 0) (sh W 0) (ix2 i j) + prod (sx M0 1) (sh W 1) (ix2 i j)) + prod (sx M1 0) (sh W 2) (ix2 i j)) + prod (sx M1 1) (sh W 3) (ix2 i j) : EReal) = _
  rw [Fin.sum_univ_four, prod_at _ W (join M0 M1 0 i) 0 i (fun r => (sx_at M0 0 0 rfl i r).trans (if_pos (by decide)).symm) j,
    prod_at _ W (join M0 M1 1 i) 1 i (fun r => (sx_at M0 1 1 rfl i r).trans (if_pos (by decide)).symm) j,
    prod_at _ W (join M0 M1 2 i) 2 i (fun r => (sx_at M1 0 2 rfl i r).trans (if_neg (by decide)).symm) j,
    prod_at _ W (join M0 M1 3 i) 3 i (fun r => (sx_at M1 1 3 rfl i r).trans (if_neg (by decide)).symm) j]

/-- The block's rows that are normalised. -/
def res (M0 M1 : MBlk) (X : XBlk) (W : WBlk) (i : Fin 512) (j : Fin 1024) : EReal :=
  al * X (ix2 i j) + ∑ s : Fin 4, ∑ r : Fin 256, (join M0 M1 s i r * W (ix4 0 s r j) : EReal)

/-! ## A block -/

def outY (M0 M1 : MBlk) (X : XBlk) (W : WBlk) (g b : VBlk) : XBlk := fun y => (hat (res M0 M1 X W (y 0)) (y 1) * g (ix2 0 (y 1)) + b (ix2 0 (y 1)) : EReal)
def outH (M0 M1 : MBlk) (X : XBlk) (W : WBlk) : XBlk := fun y => hat (res M0 M1 X W (y 0)) (y 1)
def outR (M0 M1 : MBlk) (X : XBlk) (W : WBlk) : Vec Ideal S512x1 .f32 := fun y => rst (res M0 M1 X W (y 0))

theorem hz2 : (![0, 0] : Fin 2 → Nat) = fun _ => 0 := funext fun a => by fin_cases a <;> rfl

theorem ldx (X : XBlk) : View.ld X r0_6 = X := View.ld_unit_zero (S := S512x1024) hz2 _ X
theorem ldv (g : VBlk) : View.ld g r0_7 = g := View.ld_unit_zero (S := S1x1024) hz2 _ g

theorem emb_all (x : S512x1024.Idx) : r0_6.emb x = x := by
  funext a; apply Fin.ext
  match a with
  | ⟨0, _⟩ => show 0 + 1 * (x 0).val = (x 0).val; omega
  | ⟨1, _⟩ => show 0 + 1 * (x 1).val = (x 1).val; omega

theorem emb_col (x : S512x1.Idx) : r0_8.emb x = x := by
  funext a; apply Fin.ext
  match a with
  | ⟨0, _⟩ => show 0 + 1 * (x 0).val = (x 0).val; omega
  | ⟨1, _⟩ => show 0 + 1 * (x 1).val = (x 1).val; omega

theorem row_at (M0 M1 : MBlk) (X : XBlk) (W : WBlk) (i : Fin 512) (j : Fin 1024) : (al * X (ix2 i j) + down M0 M1 W (ix2 i j) : EReal) = res M0 M1 X W i j :=
  congrArg (fun e : EReal => (al * X (ix2 i j) : EReal) + e) (down_at M0 M1 W i j)

theorem pay8_eq (M0 M1 : MBlk) (X : XBlk) (W : WBlk) (g b : VBlk) :
    k0_pay8 (F := Ideal) M0 M1 X W g b = addf (mulf (broadcast S512x1024 (Scalar.ofBits .f32 0x3FD744FD#32)) X) (down M0 M1 W) := by
  unfold k0_pay8
  rw [ldx]
  rfl

/-- The sums of a block's rows, as a column. -/
def sumCol (x : FVec Ideal S512x1024 .f32) : FVec Ideal S512x1 .f32 :=
  shapeCast S512x1 (multiReduction .add [1] S512 x 0x00000000#32 reduces_S512x1024_S512 (.inl rfl) rfl) shapeCasts_S512_S512x1

theorem pay9_eq (M0 M1 : MBlk) (X : XBlk) (W : WBlk) (g b : VBlk) :
    k0_pay9 (F := Ideal) M0 M1 X W g b = sumCol (addf (mulf (broadcast S512x1024 (Scalar.ofBits .f32 0x3FD744FD#32)) X) (down M0 M1 W)) :=
  congrArg sumCol (pay8_eq M0 M1 X W g b)

/-- The stored payloads are the down projection's, at this projection's rows. -/
theorem pay2_eq (P : FVec Ideal S512x1024 .f32) (X : XBlk) :
    k0_pay2 (F := Ideal) (addf (mulf (broadcast S512x1024 (Scalar.ofBits .f32 0x3FD744FD#32)) X) P) (sumCol (addf (mulf (broadcast S512x1024 (Scalar.ofBits .f32 0x3FD744FD#32)) X) P)) (k0_pay7 (F := Ideal))
      = Cert.NormIdeal.Gen.k0_pay2 (F := Ideal) P X := rfl
theorem pay3_eq (P : FVec Ideal S512x1024 .f32) (X : XBlk) :
    k0_pay3 (F := Ideal) (addf (mulf (broadcast S512x1024 (Scalar.ofBits .f32 0x3FD744FD#32)) X) P) (sumCol (addf (mulf (broadcast S512x1024 (Scalar.ofBits .f32 0x3FD744FD#32)) X) P)) (k0_pay7 (F := Ideal))
      = Cert.NormIdeal.Gen.k0_pay3 (F := Ideal) P X := rfl
theorem pay4_eq (P : FVec Ideal S512x1024 .f32) (X : XBlk) (g b : VBlk) :
    k0_pay4 (F := Ideal) (addf (mulf (broadcast S512x1024 (Scalar.ofBits .f32 0x3FD744FD#32)) X) P) (sumCol (addf (mulf (broadcast S512x1024 (Scalar.ofBits .f32 0x3FD744FD#32)) X) P)) (k0_pay7 (F := Ideal)) g b
      = Cert.NormIdeal.Gen.k0_pay4 (F := Ideal) P X g b := rfl
theorem pay10_eq (M0 M1 : MBlk) (X : XBlk) (W : WBlk) (g b : VBlk) : k0_pay10 (F := Ideal) M0 M1 X W g b = k0_pay7 (F := Ideal) := rfl

theorem out6_eq (M0 M1 : MBlk) (X : XBlk) (W : WBlk) (g b : VBlk) : out0_6 (F := Ideal) M0 M1 X W g b = outY M0 M1 X W g b := by
  funext y
  unfold out0_6
  refine View.canon_apply_of_pieces (outY M0 M1 X W g b) _ ?_ y (cover0_6 _ y)
  rw [ldv, ldv, pay9_eq, pay8_eq, pay10_eq, pay4_eq]
  refine List.forall_mem_cons.2 ⟨fun x => ?_, fun p hp => absurd hp List.not_mem_nil⟩
  refine Eq.trans ?_ (congrArg (outY M0 M1 X W g b) (emb_all x).symm)
  obtain ⟨i, j, rfl⟩ : ∃ (i : Fin 512) (j : Fin 1024), x = ix2 i j := ⟨x 0, x 1, eq_ix2 x⟩
  exact Cert.NormIdeal.Hand.pay4_at (down M0 M1 W) X _ i g b (row_at M0 M1 X W i) j

theorem out7_eq (M0 M1 : MBlk) (X : XBlk) (W : WBlk) (g b : VBlk) : out0_7 (F := Ideal) M0 M1 X W g b = outH M0 M1 X W := by
  funext y
  unfold out0_7
  refine View.canon_apply_of_pieces (outH M0 M1 X W) _ ?_ y (cover0_7 _ y)
  rw [pay9_eq, pay8_eq, pay10_eq, pay3_eq]
  refine List.forall_mem_cons.2 ⟨fun x => ?_, fun p hp => absurd hp List.not_mem_nil⟩
  refine Eq.trans ?_ (congrArg (outH M0 M1 X W) (emb_all x).symm)
  obtain ⟨i, j, rfl⟩ : ∃ (i : Fin 512) (j : Fin 1024), x = ix2 i j := ⟨x 0, x 1, eq_ix2 x⟩
  exact Cert.NormIdeal.Hand.pay3_at (down M0 M1 W) X _ i (row_at M0 M1 X W i) j

theorem out8_eq (M0 M1 : MBlk) (X : XBlk) (W : WBlk) (g b : VBlk) : out0_8 (F := Ideal) M0 M1 X W g b = outR M0 M1 X W := by
  funext y
  unfold out0_8
  refine View.canon_apply_of_pieces (outR M0 M1 X W) _ ?_ y (cover0_8 _ y)
  rw [pay9_eq, pay8_eq, pay10_eq, pay2_eq]
  refine List.forall_mem_cons.2 ⟨fun x => ?_, fun p hp => absurd hp List.not_mem_nil⟩
  refine Eq.trans ?_ (congrArg (outR M0 M1 X W) (emb_col x).symm)
  obtain ⟨i, rfl⟩ : ∃ i : Fin 512, x = ix2 i (0 : Fin 1) := ⟨x 0, (eq_ix2 x).trans (congrArg (ix2 (x 0)) (Fin.ext (Nat.lt_one_iff.mp (x 1).isLt) : x 1 = (0 : Fin 1)))⟩
  exact Cert.NormIdeal.Hand.pay2_at (down M0 M1 W) X _ i (row_at M0 M1 X W i)

/-! ## The arrays -/

/-- The rows that are normalised: the residual branch's and the projection's. -/
def rowOf (p q : Vec Ideal S8192x512 .bf16) (x : Vec Ideal S8192x1024 .f32) (w : Vec Ideal S4x4x256x1024 .bf16) (t : Fin 8192) (j : Fin 1024) : EReal :=
  al * x (ix2 t j) + ∑ s : Fin 4, ∑ r : Fin 256, (join p q s t r * w (ix4 3 s r j) : EReal)

def allY (p q : Vec Ideal S8192x512 .bf16) (x : Vec Ideal S8192x1024 .f32) (w : Vec Ideal S4x4x256x1024 .bf16) (g b : VBlk) : Vec Ideal S8192x1024 .f32 :=
  fun y => (hat (rowOf p q x w (y 0)) (y 1) * g (ix2 0 (y 1)) + b (ix2 0 (y 1)) : EReal)
def allH (p q : Vec Ideal S8192x512 .bf16) (x : Vec Ideal S8192x1024 .f32) (w : Vec Ideal S4x4x256x1024 .bf16) : Vec Ideal S8192x1024 .f32 :=
  fun y => hat (rowOf p q x w (y 0)) (y 1)
def allR (p q : Vec Ideal S8192x512 .bf16) (x : Vec Ideal S8192x1024 .f32) (w : Vec Ideal S4x4x256x1024 .bf16) : Vec Ideal S8192x1 .f32 :=
  fun y => rst (rowOf p q x w (y 0))

variable (m : (ℓ : Loc nD τ sig) → Buf (Elt Ideal) ℓ) (c : Dev nD)

abbrev m0 : Vec Ideal S8192x512 .bf16 := m ((c.tc : Thread nD τ).loc main_arg0)
abbrev m1 : Vec Ideal S8192x512 .bf16 := m ((c.tc : Thread nD τ).loc main_arg1)
abbrev xs : Vec Ideal S8192x1024 .f32 := m ((c.tc : Thread nD τ).loc main_arg2)
abbrev ws : Vec Ideal S4x4x256x1024 .bf16 := m ((c.tc : Thread nD τ).loc main_arg3)
abbrev gn : VBlk := m ((c.tc : Thread nD τ).loc main_arg4)
abbrev bs : VBlk := m ((c.tc : Thread nD τ).loc main_arg5)

/-- Frame `r` of block `k`. -/
def frame (k : Fin 16) (r : Fin 512) : Fin 8192 := ⟨512 * k.val + r.val, by omega⟩

theorem co0 (t : Fin cfg0.N) : (grid0.coords t 0).val = t.val := by
  have h := Pipeline.Grid.coords_val (G := grid0) t 0 (S := 1) (B := 16) (by decide) (by decide)
  have hN := lt_of_lt_of_eq t.isLt (show cfg0.N = 16 from N_0)
  rw [Nat.div_one, Nat.mod_eq_of_lt hN] at h; exact h

theorem tr (i : grid0.Coords) : (BitVec.ofNat 32 (i 0).val).toNat = (i 0).val := by
  have key : ∀ (p : Fin 16), (BitVec.ofNat 32 p.val).toNat = p.val := by decide +kernel
  exact key (i 0)

theorem lt16 (t : Fin cfg0.N) : t.val < 16 := lt_of_lt_of_eq t.isLt (show cfg0.N = 16 from N_0)

theorem iblk_m0 (t : Fin cfg0.N) (r j : Fin 512) : (iblk m c 0 t : MBlk) (ix2 r j) = m0 m c (ix2 (frame ⟨t.val, lt16 t⟩ r) j) := by
  unfold iblk
  rw [View.read_apply]
  show V m c main_arg0 _ = m0 m c _
  rw [V_main_arg0]
  refine congrArg (m0 m c) ?_
  funext a; apply Fin.ext
  match a with
  | ⟨0, _⟩ => show (BitVec.ofNat 32 (grid0.coords t 0).val).toNat * 512 + 1 * r.val = 512 * t.val + r.val
              rw [tr, co0]; omega
  | ⟨1, _⟩ => show 0 * 512 + 1 * j.val = j.val; omega

theorem iblk_m1 (t : Fin cfg0.N) (r j : Fin 512) : (iblk m c 1 t : MBlk) (ix2 r j) = m1 m c (ix2 (frame ⟨t.val, lt16 t⟩ r) j) := by
  unfold iblk
  rw [View.read_apply]
  show V m c main_arg1 _ = m1 m c _
  rw [V_main_arg1]
  refine congrArg (m1 m c) ?_
  funext a; apply Fin.ext
  match a with
  | ⟨0, _⟩ => show (BitVec.ofNat 32 (grid0.coords t 0).val).toNat * 512 + 1 * r.val = 512 * t.val + r.val
              rw [tr, co0]; omega
  | ⟨1, _⟩ => show 0 * 512 + 1 * j.val = j.val; omega

theorem iblk_w (t : Fin cfg0.N) (s : Fin 4) (i : Fin 256) (j : Fin 1024) :
    (iblk m c 3 t : WBlk) (ix4 0 s i j) = ws m c (ix4 3 s i j) := by
  unfold iblk
  rw [View.read_apply]
  show V m c main_arg3 _ = ws m c _
  rw [V_main_arg3]
  refine congrArg (ws m c) ?_
  funext a; apply Fin.ext
  match a with
  | ⟨0, _⟩ => rfl
  | ⟨1, _⟩ => show 0 * 4 + 1 * s.val = s.val; omega
  | ⟨2, _⟩ => show 0 * 256 + 1 * i.val = i.val; omega
  | ⟨3, _⟩ => show 0 * 1024 + 1 * j.val = j.val; omega

theorem vec_eq (y z : S1x1024.Idx) (h0 : (z 0).val = 0 * 1 + 1 * (y 0).val) (h1 : (z 1).val = 0 * 1024 + 1 * (y 1).val) : z = y := by
  funext a; apply Fin.ext
  match a with
  | ⟨0, _⟩ => show (z 0).val = (y 0).val; omega
  | ⟨1, _⟩ => show (z 1).val = (y 1).val; omega

theorem iblk_g (t : Fin cfg0.N) (y : S1x1024.Idx) : (iblk m c 4 t : VBlk) y = gn m c y := by
  unfold iblk
  rw [View.read_apply]
  show V m c main_arg4 _ = gn m c _
  rw [V_main_arg4]
  exact congrArg (gn m c) (vec_eq y _ rfl rfl)

theorem iblk_b (t : Fin cfg0.N) (y : S1x1024.Idx) : (iblk m c 5 t : VBlk) y = bs m c y := by
  unfold iblk
  rw [View.read_apply]
  show V m c main_arg5 _ = bs m c _
  rw [V_main_arg5]
  exact congrArg (bs m c) (vec_eq y _ rfl rfl)

/-- The place in the array of a place in point `t`'s block. -/
def place (t : Fin cfg0.N) (y : S512x1024.Idx) : S8192x1024.Idx := ix2 (frame ⟨t.val, lt16 t⟩ (y 0)) (y 1)

theorem place_eq (t : Fin cfg0.N) (y : S512x1024.Idx) (z : S8192x1024.Idx)
    (h0 : (z 0).val = (BitVec.ofNat 32 (grid0.coords t 0).val).toNat * 512 + 1 * (y 0).val) (h1 : (z 1).val = 0 * 1024 + 1 * (y 1).val) : z = place t y := by
  rw [tr, co0] at h0
  funext a; apply Fin.ext
  match a with
  | ⟨0, _⟩ => show (z 0).val = 512 * t.val + (y 0).val; omega
  | ⟨1, _⟩ => show (z 1).val = (y 1).val; omega

theorem iblk_x (t : Fin cfg0.N) (y : S512x1024.Idx) : (iblk m c 2 t : XBlk) y = xs m c (place t y) := by
  unfold iblk
  rw [View.read_apply]
  show V m c main_arg2 _ = xs m c _
  rw [V_main_arg2]
  exact congrArg (xs m c) (place_eq t y _ rfl rfl)

/-- Every place of the array is a place of some point's block. -/
theorem place_onto (i : S8192x1024.Idx) : ∃ t y, place t y = i := by
  have h : (i 0).val < 8192 := (i 0).isLt
  refine ⟨⟨(i 0).val / 512, lt_of_lt_of_eq (by omega) (show cfg0.N = 16 from N_0).symm⟩, ix2 ⟨(i 0).val % 512, by omega⟩ (i 1), ?_⟩
  funext a; apply Fin.ext
  match a with
  | ⟨0, _⟩ => show 512 * ((i 0).val / 512) + (i 0).val % 512 = (i 0).val; omega
  | ⟨1, _⟩ => rfl

/-- The place in the column of a place in point `t`'s block. -/
def placeC (t : Fin cfg0.N) (y : S512x1.Idx) : S8192x1.Idx := ix2 (frame ⟨t.val, lt16 t⟩ (y 0)) (y 1)

theorem placeC_eq (t : Fin cfg0.N) (y : S512x1.Idx) (z : S8192x1.Idx)
    (h0 : (z 0).val = (BitVec.ofNat 32 (grid0.coords t 0).val).toNat * 512 + 1 * (y 0).val) (h1 : (z 1).val = 0 * 1 + 1 * (y 1).val) : z = placeC t y := by
  rw [tr, co0] at h0
  funext a; apply Fin.ext
  match a with
  | ⟨0, _⟩ => show (z 0).val = 512 * t.val + (y 0).val; omega
  | ⟨1, _⟩ => show (z 1).val = (y 1).val; omega

theorem placeC_onto (i : S8192x1.Idx) : ∃ t y, placeC t y = i := by
  have h : (i 0).val < 8192 := (i 0).isLt
  refine ⟨⟨(i 0).val / 512, lt_of_lt_of_eq (by omega) (show cfg0.N = 16 from N_0).symm⟩, ix2 ⟨(i 0).val % 512, by omega⟩ (i 1), ?_⟩
  funext a; apply Fin.ext
  match a with
  | ⟨0, _⟩ => show 512 * ((i 0).val / 512) + (i 0).val % 512 = (i 0).val; omega
  | ⟨1, _⟩ => rfl

theorem emb6 (t : Fin cfg0.N) (y : S512x1024.Idx) : ((cfg0.win 6).blk t).view.emb y = place t y := place_eq t y _ rfl rfl
theorem emb7 (t : Fin cfg0.N) (y : S512x1024.Idx) : ((cfg0.win 7).blk t).view.emb y = place t y := place_eq t y _ rfl rfl
theorem emb8 (t : Fin cfg0.N) (y : S512x1.Idx) : ((cfg0.win 8).blk t).view.emb y = placeC t y := placeC_eq t y _ rfl rfl

theorem res_at (t : Fin cfg0.N) (i : Fin 512) : res (iblk m c 0 t) (iblk m c 1 t) (iblk m c 2 t) (iblk m c 3 t) i = rowOf (m0 m c) (m1 m c) (xs m c) (ws m c) (frame ⟨t.val, lt16 t⟩ i) := by
  funext j
  refine congrArg₂ (· + · : EReal → EReal → EReal) (congrArg (fun e : EReal => al * e) (iblk_x m c t (ix2 i j))) ?_
  refine Finset.sum_congr rfl fun s _ => Finset.sum_congr rfl fun r _ => congrArg₂ (· * · : EReal → EReal → EReal) ?_ (iblk_w m c t s r j)
  unfold join
  exact if_congr Iff.rfl (iblk_m0 m c t i _) (iblk_m1 m c t i _)

theorem outH_at (t : Fin cfg0.N) (y : S512x1024.Idx) :
    outH (iblk m c 0 t) (iblk m c 1 t) (iblk m c 2 t) (iblk m c 3 t) y = allH (m0 m c) (m1 m c) (xs m c) (ws m c) (place t y) :=
  congrArg (fun f => hat f (y 1)) (res_at m c t (y 0))

theorem outY_at (t : Fin cfg0.N) (y : S512x1024.Idx) :
    outY (iblk m c 0 t) (iblk m c 1 t) (iblk m c 2 t) (iblk m c 3 t) (iblk m c 4 t) (iblk m c 5 t) y = allY (m0 m c) (m1 m c) (xs m c) (ws m c) (gn m c) (bs m c) (place t y) :=
  congrArg₂ (· + · : EReal → EReal → EReal) (congrArg₂ (· * · : EReal → EReal → EReal) (congrArg (fun f => hat f (y 1)) (res_at m c t (y 0))) (iblk_g m c t (ix2 0 (y 1)))) (iblk_b m c t (ix2 0 (y 1)))

theorem outR_at (t : Fin cfg0.N) (y : S512x1.Idx) :
    outR (iblk m c 0 t) (iblk m c 1 t) (iblk m c 2 t) (iblk m c 3 t) y = allR (m0 m c) (m1 m c) (xs m c) (ws m c) (placeC t y) :=
  congrArg rst (res_at m c t (y 0))

theorem arr6 : (dats m 0 c).arrAt 6 cfg0.N = allY (m0 m c) (m1 m c) (xs m c) (ws m c) (gn m c) (bs m c) := by
  refine (dats m 0 c).arrAt_eq_of_cover 6 _ (fun t hf => ?_) (fun i => ?_)
  · rw [Cert.OutIdeal.Value.flushed6, out6_eq]
    funext y
    rw [View.read_apply]
    exact (outY_at m c t y).trans (congrArg (allY (m0 m c) (m1 m c) (xs m c) (ws m c) (gn m c) (bs m c)) (emb6 t y).symm)
  · obtain ⟨t, y, e⟩ := place_onto i
    exact ⟨t, flush0_6 t, by rw [← e, ← emb6]; exact View.emb_mem_set _ _⟩

theorem arr7 : (dats m 0 c).arrAt 7 cfg0.N = allH (m0 m c) (m1 m c) (xs m c) (ws m c) := by
  refine (dats m 0 c).arrAt_eq_of_cover 7 _ (fun t hf => ?_) (fun i => ?_)
  · rw [Cert.OutIdeal.Value.flushed7, out7_eq]
    funext y
    rw [View.read_apply]
    exact (outH_at m c t y).trans (congrArg (allH (m0 m c) (m1 m c) (xs m c) (ws m c)) (emb7 t y).symm)
  · obtain ⟨t, y, e⟩ := place_onto i
    exact ⟨t, flush0_7 t, by rw [← e, ← emb7]; exact View.emb_mem_set _ _⟩

theorem arr8 : (dats m 0 c).arrAt 8 cfg0.N = allR (m0 m c) (m1 m c) (xs m c) (ws m c) := by
  refine (dats m 0 c).arrAt_eq_of_cover 8 _ (fun t hf => ?_) (fun i => ?_)
  · rw [Cert.OutIdeal.Value.flushed8, out8_eq]
    funext y
    rw [View.read_apply]
    exact (outR_at m c t y).trans (congrArg (allR (m0 m c) (m1 m c) (xs m c) (ws m c)) (emb8 t y).symm)
  · obtain ⟨t, y, e⟩ := placeC_onto i
    exact ⟨t, flush0_8 t, by rw [← e, ← emb8]; exact View.emb_mem_set _ _⟩

end Cert.OutIdeal.Hand

namespace Cert.OutReferenceIdeal.Hand

open Cert.OutReferenceIdeal Cert.OutReferenceIdeal.Gen Idealize.ShloMosaic Idealize.ShloMosaic.ValueIdx Idealize.ShloMosaic.TcCoe Idealize.SL.Sem Cert.Norm.Row
open Cert.OutIdeal.Hand (rowOf allY allH allR)
open Cert.WOutIdeal.Hand (join)
open Cert.NormReferenceIdeal.Hand (refY refHat refRst refY_at refHat_at refRst_at)

theorem dot_at (x : FVec Ideal S8192x4x256 .f32) (w : FVec Ideal S4x256x1024 .f32) (t : Fin 8192) (j : Fin 1024) :
    Host.dotGeneral dot_S8192x4x256_S4x256x1024_S8192x1024_21_10_0_2_n_n none x w (ix2 t j) = ∑ s : Fin 4, ∑ r : Fin 256, (x (ix3 t s r) * w (ix3 s r j) : EReal) := by
  let D := dot_S8192x4x256_S4x256x1024_S8192x1024_21_10_0_2_n_n
  simp only [Host.dotGeneral]
  refine (Ideal.dotGeneral_apply D none _ x w (ix2 t j)).trans ?_
  rw [sum_contr2 D 256 4 rfl rfl rfl, Finset.sum_comm]
  refine Finset.sum_congr rfl fun s _ => Finset.sum_congr rfl fun r _ => ?_
  have h0 := contrEquiv2_symm_val0 D 256 4 rfl rfl rfl (r, s)
  have h1 := contrEquiv2_symm_val1 D 256 4 rfl rfl rfl (r, s)
  have el : D.lhsIdx (ix2 t j) ((contrEquiv2 D 256 4 rfl rfl rfl).symm (r, s)) = ix3 t s r := by
    funext a; apply Fin.ext
    match a with
    | ⟨0, _⟩ => rfl
    | ⟨1, _⟩ => exact h1
    | ⟨2, _⟩ => exact h0
  have er : D.rhsIdx (ix2 t j) ((contrEquiv2 D 256 4 rfl rfl rfl).symm (r, s)) = ix3 s r j := by
    funext a; apply Fin.ext
    match a with
    | ⟨0, _⟩ => exact h1
    | ⟨1, _⟩ => exact h0
    | ⟨2, _⟩ => rfl
  rw [el, er]

/-- The layer's weight, cut from the stack of layers. -/
theorem layer_at (w : FVec Ideal S4x4x256x1024 .bf16) (s : Fin 4) (r : Fin 256) (j : Fin 1024) :
    (extf (F := Ideal) .f32 (shapeCast S4x256x1024 (extractStridedSlice S1x4x256x1024 ![3, 0, 0, 0] w slices_S4x4x256x1024_S1x4x256x1024_3_0_0_0) shapeCasts_S1x4x256x1024_S4x256x1024) bitsLt_bf16_f32 (ix3 s r j) : EReal)
      = w (ix4 3 s r j) := by
  refine (ValueIdx.shapeCast_1abc_abc_apply (extractStridedSlice S1x4x256x1024 ![3, 0, 0, 0] w slices_S4x4x256x1024_S1x4x256x1024_3_0_0_0) _ s r j).trans ?_
  exact extractStridedSlice_apply _ w _ _ _ fun a => match a with
    | ⟨0, _⟩ => rfl
    | ⟨1, _⟩ => (Nat.zero_add _).symm
    | ⟨2, _⟩ => (Nat.zero_add _).symm
    | ⟨3, _⟩ => (Nat.zero_add _).symm

/-- The rows that are normalised, in the reference's operations. -/
def refRow (p q : FVec Ideal S8192x512 .bf16) (x : FVec Ideal S8192x1024 .f32) (w : FVec Ideal S4x4x256x1024 .bf16) : FVec Ideal S8192x1024 .f32 :=
  addf (mulf (broadcastInDim S8192x1024 ![] bcast_S_S8192x1024 (constant S_ .f32 0x3FD744FD#32)) x)
    (Host.dotGeneral dot_S8192x4x256_S4x256x1024_S8192x1024_21_10_0_2_n_n none (shapeCast S8192x4x256 (extf .f32 (concatenate S8192x1024 1 [⟨S8192x512, p⟩, ⟨S8192x512, q⟩] concatenates_S8192x512_S8192x512_S8192x1024_d1) bitsLt_bf16_f32) shapeCasts_S8192x1024_S8192x4x256) (extf .f32 (shapeCast S4x256x1024 (extractStridedSlice S1x4x256x1024 ![3, 0, 0, 0] w slices_S4x4x256x1024_S1x4x256x1024_3_0_0_0) shapeCasts_S1x4x256x1024_S4x256x1024) bitsLt_bf16_f32))

section
variable (p q : FVec Ideal S8192x512 .bf16) (x : FVec Ideal S8192x1024 .f32) (w : FVec Ideal S4x4x256x1024 .bf16)

theorem refRow_at (t : Fin 8192) (j : Fin 1024) : (refRow p q x w (ix2 t j) : EReal) = rowOf p q x w t j := by
  refine congrArg (fun e : EReal => (al * x (ix2 t j) : EReal) + e) ((dot_at _ _ t j).trans ?_)
  exact Finset.sum_congr rfl fun s _ => Finset.sum_congr rfl fun r _ => congrArg₂ (· * · : EReal → EReal → EReal) (Cert.WOutReferenceIdeal.Hand.join_at p q t s r) (layer_at w s r j)

theorem y_eq (g b : FVec Ideal S1x1024 .f32) : refY (refRow p q x w) g b = allY p q x w g b := by
  funext y
  obtain ⟨t, j, rfl⟩ : ∃ (t : Fin 8192) (j : Fin 1024), y = ix2 t j := ⟨y 0, y 1, eq_ix2 y⟩
  exact refY_at _ _ t g b (refRow_at p q x w t) j

theorem hat_eq : refHat (refRow p q x w) = allH p q x w := by
  funext y
  obtain ⟨t, j, rfl⟩ : ∃ (t : Fin 8192) (j : Fin 1024), y = ix2 t j := ⟨y 0, y 1, eq_ix2 y⟩
  exact refHat_at _ _ t (refRow_at p q x w t) j

theorem rst_eq : refRst (refRow p q x w) = allR p q x w := by
  funext y
  obtain ⟨t, rfl⟩ : ∃ t : Fin 8192, y = ix2 t (0 : Fin 1) := ⟨y 0, (eq_ix2 y).trans (congrArg (ix2 (y 0)) (Fin.ext (Nat.lt_one_iff.mp (y 1).isLt) : y 1 = (0 : Fin 1)))⟩
  exact refRst_at _ _ t (refRow_at p q x w t)

/-! ## The results from arguments that are the kernel's -/

variable (m' : (ℓ : Loc nD τ sig) → Buf (Elt Ideal) ℓ) (c : Dev nD) (g b : FVec Ideal S1x1024 .f32)

/-- The reference's arguments are the given ones. -/
def Args : Prop := m' ((c.tc : Thread nD τ).loc main_arg0) = p ∧ m' ((c.tc : Thread nD τ).loc main_arg1) = q ∧ m' ((c.tc : Thread nD τ).loc main_arg2) = x ∧ m' ((c.tc : Thread nD τ).loc main_arg3) = w ∧ m' ((c.tc : Thread nD τ).loc main_arg4) = g ∧ m' ((c.tc : Thread nD τ).loc main_arg5) = b

theorem y_of (H : Args p q x w m' c g b) : Cert.OutReferenceIdeal.Value.res_out0 m' c = allY p q x w g b := by
  obtain ⟨rfl, rfl, rfl, rfl, rfl, rfl⟩ := H
  exact y_eq _ _ _ _ _ _

theorem hat_of (H : Args p q x w m' c g b) : Cert.OutReferenceIdeal.Value.res_out1 m' c = allH p q x w := by
  obtain ⟨rfl, rfl, rfl, rfl, _, _⟩ := H
  exact hat_eq _ _ _ _

theorem rst_of (H : Args p q x w m' c g b) : refRst (refRow (m' ((c.tc : Thread nD τ).loc main_arg0)) (m' ((c.tc : Thread nD τ).loc main_arg1)) (m' ((c.tc : Thread nD τ).loc main_arg2)) (m' ((c.tc : Thread nD τ).loc main_arg3))) = allR p q x w := by
  obtain ⟨rfl, rfl, rfl, rfl, _, _⟩ := H
  exact rst_eq _ _ _ _
end

end Cert.OutReferenceIdeal.Hand
end
-- ==== Proof.lean ====
module

public import proofs.«01_k».proof.Defs
public import proofs.«01_k».proof.Proof.Launch
public import proofs.«01_k».proof.Proof.Plain.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RefRead
public import proofs.«01_k».proof.Proof.Agree
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Gate
public import proofs.«01_k».proof.Proof.Gen.Gate.Frame
public import proofs.«01_k».proof.Proof.Gen.GateIdeal
public import proofs.«01_k».proof.Proof.Gen.GateIdeal.Value
public import proofs.«01_k».proof.Proof.Gen.GateReferenceIdeal
public import proofs.«01_k».proof.Proof.Gen.GateReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.NormReferenceIdeal
public import proofs.«01_k».proof.Proof.Gen.NormReferenceIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Value
public import proofs.«01_k».proof.Proof.Gen.QkvReferenceIdeal
public import proofs.«01_k».proof.Proof.Gen.QkvReferenceIdeal.Run
public import proofs.«01_k».proof.Proof.Gen.Dx
public import proofs.«01_k».proof.Proof.Gen.Dx.Frame
public import proofs.«01_k».proof.Proof.Gen.DxIdeal
public import proofs.«01_k».proof.Proof.Gen.DxIdeal.Value
public import proofs.«01_k».proof.Proof.Gen.DxReferenceIdeal
public import proofs.«01_k».proof.Proof.Gen.DxReferenceIdeal.Run
public import proofs.«01_k».proof.Proof.Gen.WIn
public import proofs.«01_k».proof.Proof.Gen.WIn.Frame
public import proofs.«01_k».proof.Proof.Gen.WInIdeal
public import proofs.«01_k».proof.Proof.Gen.WInIdeal.Value
public import proofs.«01_k».proof.Proof.Gen.WInReferenceIdeal
public import proofs.«01_k».proof.Proof.Gen.WInReferenceIdeal.Run
public import proofs.«01_k».proof.Proof.Gen.WOut
public import proofs.«01_k».proof.Proof.Gen.WOut.Frame
public import proofs.«01_k».proof.Proof.Gen.WOutIdeal
public import proofs.«01_k».proof.Proof.Gen.WOutIdeal.Value
public import proofs.«01_k».proof.Proof.Gen.WOutReferenceIdeal
public import proofs.«01_k».proof.Proof.Gen.WOutReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Back
public import proofs.«01_k».proof.Proof.Gen.Back.Frame
public import proofs.«01_k».proof.Proof.Gen.BackIdeal
public import proofs.«01_k».proof.Proof.Gen.BackIdeal.Value
public import proofs.«01_k».proof.Proof.Gen.BackReferenceIdeal
public import proofs.«01_k».proof.Proof.Gen.BackReferenceIdeal.Run
public import proofs.«01_k».proof.Proof.WUp
public import proofs.«01_k».proof.Proof.WDown
public import proofs.«01_k».proof.Proof.WGate
public import proofs.«01_k».proof.Proof.WBack
public import proofs.«01_k».proof.Proof.WFfn
public import proofs.«01_k».proof.Proof.WNorm
public import proofs.«01_k».proof.Proof.WQkv
public import proofs.«01_k».proof.Proof.WDx
public import proofs.«01_k».proof.Proof.WWIn
public import proofs.«01_k».proof.Proof.WWOut
public import proofs.«01_k».proof.Proof.WOutNorm
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ =>
  Cert.Kernel.Hand.frame (F := Bits) m g

theorem frame_kernelIdeal : Cert.quiescent_KernelIdeal (hKernelIdeal := Cert.KernelIdeal.Gen.facts) := fun m g _ =>
  Cert.KernelIdeal.Hand.frame (F := Ideal) m g

/-- The reference declares no semaphore. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

theorem frame_kernelIdeal_pre : Cert.quiescent_KernelIdeal_pre_finite (hKernelIdeal := Cert.KernelIdeal.Gen.facts) (hPre_finite := Cert.Pre_finite.Hand.facts) :=
  fun m g _ => frame_kernelIdeal m g trivial

theorem frame_referenceIdeal_pre : Cert.quiescent_ReferenceIdeal_pre_finite (hReferenceIdeal := Cert.ReferenceIdeal.Gen.facts) (hPre_finite := Cert.Pre_finite.Hand.facts) :=
  fun m g _ => frame_referenceIdeal m g trivial

theorem frame_up : Cert.quiescent_Up (hUp := Cert.Up.Gen.facts) := fun m g _ =>
  Cert.Up.Gen.frame (F := Bits) m g

theorem frame_upIdeal : Cert.quiescent_UpIdeal (hUpIdeal := Cert.UpIdeal.Gen.facts) := fun m g _ =>
  Cert.UpIdeal.Gen.frame (F := Ideal) m g

theorem frame_upReferenceIdeal : Cert.quiescent_UpReferenceIdeal (hUpReferenceIdeal := Cert.UpReferenceIdeal.Gen.facts) := fun m g _ =>
  (θ_run Cert.UpReferenceIdeal.defs _ _).mono (fun r h => ⟨fun c => (h c).2,
      Idealize.ShloMosaic.sem_eq_zero_of_no_sems (by decide) r.2⟩)
    (Cert.UpReferenceIdeal.Value.run (F := Ideal) m g)

/-- Both programs end with the sum over all the frames, an entry at a time. -/
theorem agree_up : Cert.algebraic_UpIdeal_UpReferenceIdeal (hUpIdeal := Cert.UpIdeal.Gen.facts) (hUpReferenceIdeal := Cert.UpReferenceIdeal.Gen.facts) :=
  fun m g m' g' _ hargs =>
    ⟨fun c => Cert.UpIdeal.Hand.wgrad (Cert.UpIdeal.Hand.xs m c) (Cert.UpIdeal.Hand.dh m c),
      (θ_run Cert.UpIdeal.defs _ _).mono (fun _ h c => ⟨(h c).1.trans (Cert.UpIdeal.Hand.result_eq m c), (h c).2⟩) (Cert.UpIdeal.Value.run (F := Ideal) m g),
      (θ_run Cert.UpReferenceIdeal.defs _ _).mono (fun _ h c => ⟨(h c).1.trans ((Cert.UpReferenceIdeal.Hand.term_eq _ _).trans
          (congrArg₂ Cert.UpIdeal.Hand.wgrad (hargs c).1 (hargs c).2)), (h c).2⟩) (Cert.UpReferenceIdeal.Value.run (F := Ideal) m' g')⟩

theorem frame_down : Cert.quiescent_Down (hDown := Cert.Down.Gen.facts) := fun m g _ =>
  Cert.Down.Gen.frame (F := Bits) m g

theorem frame_downIdeal : Cert.quiescent_DownIdeal (hDownIdeal := Cert.DownIdeal.Gen.facts) := fun m g _ =>
  Cert.DownIdeal.Gen.frame (F := Ideal) m g

theorem frame_downReferenceIdeal : Cert.quiescent_DownReferenceIdeal (hDownReferenceIdeal := Cert.DownReferenceIdeal.Gen.facts) := fun m g _ =>
  (θ_run Cert.DownReferenceIdeal.defs _ _).mono (fun r h => ⟨fun c => (h c).2,
      Idealize.ShloMosaic.sem_eq_zero_of_no_sems (by decide) r.2⟩)
    (Cert.DownReferenceIdeal.Value.run (F := Ideal) m g)

/-- Both programs end with the sum over all the frames, an entry at a time. -/
theorem agree_down : Cert.algebraic_DownIdeal_DownReferenceIdeal (hDownIdeal := Cert.DownIdeal.Gen.facts) (hDownReferenceIdeal := Cert.DownReferenceIdeal.Gen.facts) :=
  fun m g m' g' _ hargs =>
    ⟨fun c => Cert.DownIdeal.Hand.wgrad (Cert.DownIdeal.Hand.hs m c) (Cert.DownIdeal.Hand.dy m c),
      (θ_run Cert.DownIdeal.defs _ _).mono (fun _ h c => ⟨(h c).1.trans (Cert.DownIdeal.Hand.result_eq m c), (h c).2⟩) (Cert.DownIdeal.Value.run (F := Ideal) m g),
      (θ_run Cert.DownReferenceIdeal.defs _ _).mono (fun _ h c => ⟨(h c).1.trans ((Cert.DownReferenceIdeal.Hand.term_eq _ _).trans
          (congrArg₂ Cert.DownIdeal.Hand.wgrad (hargs c).1 (hargs c).2)), (h c).2⟩) (Cert.DownReferenceIdeal.Value.run (F := Ideal) m' g')⟩

theorem frame_gate : Cert.quiescent_Gate (hGate := Cert.Gate.Gen.facts) := fun m g _ =>
  Cert.Gate.Gen.frame (F := Bits) m g

theorem frame_gateIdeal : Cert.quiescent_GateIdeal (hGateIdeal := Cert.GateIdeal.Gen.facts) := fun m g _ =>
  Cert.GateIdeal.Gen.frame (F := Ideal) m g

theorem frame_gateReferenceIdeal : Cert.quiescent_GateReferenceIdeal (hGateReferenceIdeal := Cert.GateReferenceIdeal.Gen.facts) := fun m g _ =>
  (θ_run Cert.GateReferenceIdeal.defs _ _).mono (fun r h => ⟨fun c => (h c).2.2,
      Idealize.ShloMosaic.sem_eq_zero_of_no_sems (by decide) r.2⟩)
    (Cert.GateReferenceIdeal.Value.run (F := Ideal) m g)

theorem frame_gateIdeal_pre : Cert.quiescent_GateIdeal_pre_finite_gate (hGateIdeal := Cert.GateIdeal.Gen.facts) (hPre_finite_gate := Cert.Pre_finite_gate.Hand.facts) :=
  fun m g _ => frame_gateIdeal m g trivial

theorem frame_gateReferenceIdeal_pre : Cert.quiescent_GateReferenceIdeal_pre_finite_gate (hGateReferenceIdeal := Cert.GateReferenceIdeal.Gen.facts) (hPre_finite_gate := Cert.Pre_finite_gate.Hand.facts) :=
  fun m g _ => frame_gateReferenceIdeal m g trivial

/-- Both programs end with the two gradients, an entry at a time. -/
theorem agree_gate : Cert.algebraic_GateIdeal_GateReferenceIdeal_pre_finite_gate (hGateIdeal := Cert.GateIdeal.Gen.facts) (hGateReferenceIdeal := Cert.GateReferenceIdeal.Gen.facts) (hPre_finite_gate := Cert.Pre_finite_gate.Hand.facts) :=
  fun m g m' g' hpre hargs =>
    ⟨fun c => Cert.GateIdeal.Hand.allG (Cert.GateIdeal.Hand.dy m c) (Cert.GateIdeal.Hand.wd m c) (Cert.GateIdeal.Hand.gs m c) (Cert.GateIdeal.Hand.us m c),
      fun c => Cert.GateIdeal.Hand.allU (Cert.GateIdeal.Hand.dy m c) (Cert.GateIdeal.Hand.wd m c) (Cert.GateIdeal.Hand.gs m c),
      (θ_run Cert.GateIdeal.defs _ _).mono (fun _ h c => ⟨(h c).1.trans (Cert.GateIdeal.Hand.arr4 m c), (h c).2.1.trans (Cert.GateIdeal.Hand.arr5 m c), (h c).2.2⟩)
        (Cert.GateIdeal.Value.run_blocks (F := Ideal) m g),
      (θ_run Cert.GateReferenceIdeal.defs _ _).mono (fun _ h c => ⟨(h c).1.trans (Cert.GateReferenceIdeal.Hand.allG_of _ _ _ _ _ _ _ _ (hargs c) (hpre c)),
          (h c).2.1.trans (Cert.GateReferenceIdeal.Hand.allU_of _ _ _ _ _ _ _ _ (hargs c)), (h c).2.2⟩)
        (Cert.GateReferenceIdeal.Value.run (F := Ideal) m' g')⟩

theorem frame_ffn : Cert.quiescent_Ffn (hFfn := Cert.Ffn.Gen.facts) := fun m g _ =>
  Cert.Ffn.Gen.frame (F := Bits) m g

theorem frame_ffnIdeal : Cert.quiescent_FfnIdeal (hFfnIdeal := Cert.FfnIdeal.Gen.facts) := fun m g _ =>
  Cert.FfnIdeal.Gen.frame (F := Ideal) m g

theorem frame_ffnReferenceIdeal : Cert.quiescent_FfnReferenceIdeal (hFfnReferenceIdeal := Cert.FfnReferenceIdeal.Gen.facts) := fun m g _ =>
  (θ_run Cert.FfnReferenceIdeal.defs _ _).mono (fun r h => ⟨fun c => (h c).2.2.2,
      Idealize.ShloMosaic.sem_eq_zero_of_no_sems (by decide) r.2⟩)
    (Cert.FfnReferenceIdeal.Value.run (F := Ideal) m g)

/-- Both programs end with the two projections and the gated product, an entry at a time. -/
theorem agree_ffn : Cert.algebraic_FfnIdeal_FfnReferenceIdeal (hFfnIdeal := Cert.FfnIdeal.Gen.facts) (hFfnReferenceIdeal := Cert.FfnReferenceIdeal.Gen.facts) :=
  fun m g m' g' _ hargs =>
    ⟨fun c => Cert.FfnIdeal.Hand.proj (Cert.FfnIdeal.Hand.xs m c) (Cert.FfnIdeal.Hand.wg m c),
      fun c => Cert.FfnIdeal.Hand.proj (Cert.FfnIdeal.Hand.xs m c) (Cert.FfnIdeal.Hand.wu m c),
      fun c => Cert.FfnIdeal.Hand.hid (Cert.FfnIdeal.Hand.xs m c) (Cert.FfnIdeal.Hand.wg m c) (Cert.FfnIdeal.Hand.wu m c),
      (θ_run Cert.FfnIdeal.defs _ _).mono (fun _ h c => ⟨(h c).1.trans (Cert.FfnIdeal.Hand.arr3 m c), (h c).2.1.trans (Cert.FfnIdeal.Hand.arr4 m c),
          (h c).2.2.1.trans (Cert.FfnIdeal.Hand.arr5 m c), (h c).2.2.2⟩) (Cert.FfnIdeal.Value.run_blocks (F := Ideal) m g),
      (θ_run Cert.FfnReferenceIdeal.defs _ _).mono (fun _ h c => ⟨(h c).1.trans ((Cert.FfnReferenceIdeal.Hand.proj_eq _ _).trans (congrArg₂ Cert.FfnIdeal.Hand.proj (hargs c).1 (hargs c).2.1)),
          (h c).2.1.trans ((Cert.FfnReferenceIdeal.Hand.proj_eq _ _).trans (congrArg₂ Cert.FfnIdeal.Hand.proj (hargs c).1 (hargs c).2.2)),
          (h c).2.2.1.trans (Cert.FfnReferenceIdeal.Hand.hid_of _ _ _ _ _ _ (hargs c)), (h c).2.2.2⟩) (Cert.FfnReferenceIdeal.Value.run (F := Ideal) m' g')⟩

theorem frame_norm : Cert.quiescent_Norm (hNorm := Cert.Norm.Gen.facts) := fun m g _ =>
  Cert.Norm.Gen.frame (F := Bits) m g

theorem frame_normIdeal : Cert.quiescent_NormIdeal (hNormIdeal := Cert.NormIdeal.Gen.facts) := fun m g _ =>
  Cert.NormIdeal.Gen.frame (F := Ideal) m g

theorem frame_normReferenceIdeal : Cert.quiescent_NormReferenceIdeal (hNormReferenceIdeal := Cert.NormReferenceIdeal.Gen.facts) := fun m g _ =>
  (θ_run Cert.NormReferenceIdeal.defs _ _).mono (fun r h => ⟨fun c => (h c).2.2.2,
      Idealize.ShloMosaic.sem_eq_zero_of_no_sems (by decide) r.2⟩)
    (Cert.NormReferenceIdeal.Value.run (F := Ideal) m g)

/-- Both programs end with the layer norm, the normalised rows and their inverse deviations, a row at a time. -/
theorem agree_norm : Cert.algebraic_NormIdeal_NormReferenceIdeal (hNormIdeal := Cert.NormIdeal.Gen.facts) (hNormReferenceIdeal := Cert.NormReferenceIdeal.Gen.facts) :=
  fun m g m' g' _ hargs =>
    ⟨fun c => Cert.NormIdeal.Hand.allY (Cert.NormIdeal.Hand.hs m c) (Cert.NormIdeal.Hand.xs m c) (Cert.NormIdeal.Hand.ws m c) (Cert.NormIdeal.Hand.gn m c) (Cert.NormIdeal.Hand.bs m c),
      fun c => Cert.NormIdeal.Hand.allH (Cert.NormIdeal.Hand.hs m c) (Cert.NormIdeal.Hand.xs m c) (Cert.NormIdeal.Hand.ws m c),
      fun c => Cert.NormIdeal.Hand.allR (Cert.NormIdeal.Hand.hs m c) (Cert.NormIdeal.Hand.xs m c) (Cert.NormIdeal.Hand.ws m c),
      (θ_run Cert.NormIdeal.defs _ _).mono (fun _ h c => ⟨(h c).1.trans (Cert.NormIdeal.Hand.arr5 m c), (h c).2.1.trans (Cert.NormIdeal.Hand.arr6 m c),
          (h c).2.2.1.trans (Cert.NormIdeal.Hand.arr7 m c), (h c).2.2.2⟩) (Cert.NormIdeal.Value.run_blocks (F := Ideal) m g),
      (θ_run Cert.NormReferenceIdeal.defs _ _).mono (fun _ h c => ⟨(h c).1.trans (Cert.NormReferenceIdeal.Hand.y_of _ _ _ m' c _ _ (hargs c)), (h c).2.1.trans (Cert.NormReferenceIdeal.Hand.hat_of _ _ _ m' c _ _ (hargs c)),
          (h c).2.2.1.trans (Cert.NormReferenceIdeal.Hand.rst_of _ _ _ m' c _ _ (hargs c)), (h c).2.2.2⟩) (Cert.NormReferenceIdeal.Value.run (F := Ideal) m' g')⟩

theorem frame_qkv : Cert.quiescent_Qkv (hQkv := Cert.Qkv.Gen.facts) := fun m g _ =>
  Cert.Qkv.Gen.frame (F := Bits) m g

theorem frame_qkvIdeal : Cert.quiescent_QkvIdeal (hQkvIdeal := Cert.QkvIdeal.Gen.facts) := fun m g _ =>
  Cert.QkvIdeal.Gen.frame (F := Ideal) m g

theorem frame_qkvReferenceIdeal : Cert.quiescent_QkvReferenceIdeal (hQkvReferenceIdeal := Cert.QkvReferenceIdeal.Gen.facts) := fun m g _ =>
  (θ_run Cert.QkvReferenceIdeal.defs _ _).mono (fun r h => ⟨fun c => (h c).2,
      Idealize.ShloMosaic.sem_eq_zero_of_no_sems (by decide) r.2⟩)
    (Cert.QkvReferenceIdeal.Value.run (F := Ideal) m g)

/-- Both programs end with the projection, an entry at a time. -/
theorem agree_qkv : Cert.algebraic_QkvIdeal_QkvReferenceIdeal (hQkvIdeal := Cert.QkvIdeal.Gen.facts) (hQkvReferenceIdeal := Cert.QkvReferenceIdeal.Gen.facts) :=
  fun m g m' g' _ hargs =>
    ⟨fun c => Cert.QkvIdeal.Hand.proj (Cert.QkvIdeal.Hand.xs m c) (Cert.QkvIdeal.Hand.ws m c),
      (θ_run Cert.QkvIdeal.defs _ _).mono (fun _ h c => ⟨(h c).1.trans (Cert.QkvIdeal.Hand.arr2 m c), (h c).2⟩) (Cert.QkvIdeal.Value.run_blocks (F := Ideal) m g),
      (θ_run Cert.QkvReferenceIdeal.defs _ _).mono (fun _ h c => ⟨(h c).1.trans ((Cert.QkvReferenceIdeal.Hand.proj_eq _ _).trans (congrArg₂ Cert.QkvIdeal.Hand.proj (hargs c).1 (hargs c).2)), (h c).2⟩) (Cert.QkvReferenceIdeal.Value.run (F := Ideal) m' g')⟩

theorem frame_dx : Cert.quiescent_Dx (hDx := Cert.Dx.Gen.facts) := fun m g _ =>
  Cert.Dx.Gen.frame (F := Bits) m g

theorem frame_dxIdeal : Cert.quiescent_DxIdeal (hDxIdeal := Cert.DxIdeal.Gen.facts) := fun m g _ =>
  Cert.DxIdeal.Gen.frame (F := Ideal) m g

theorem frame_dxReferenceIdeal : Cert.quiescent_DxReferenceIdeal (hDxReferenceIdeal := Cert.DxReferenceIdeal.Gen.facts) := fun m g _ =>
  (θ_run Cert.DxReferenceIdeal.defs _ _).mono (fun r h => ⟨fun c => (h c).2,
      Idealize.ShloMosaic.sem_eq_zero_of_no_sems (by decide) r.2⟩)
    (Cert.DxReferenceIdeal.Value.run (F := Ideal) m g)

/-- Both programs end with the gradient at the layer's input, an entry at a time. -/
theorem agree_dx : Cert.algebraic_DxIdeal_DxReferenceIdeal (hDxIdeal := Cert.DxIdeal.Gen.facts) (hDxReferenceIdeal := Cert.DxReferenceIdeal.Gen.facts) :=
  fun m g m' g' _ hargs =>
    ⟨fun c => Cert.DxIdeal.Hand.back (Cert.DxIdeal.Hand.gs m c) (Cert.DxIdeal.Hand.us m c) (Cert.DxIdeal.Hand.wg m c) (Cert.DxIdeal.Hand.wu m c) (Cert.DxIdeal.Hand.rs m c),
      (θ_run Cert.DxIdeal.defs _ _).mono (fun _ h c => ⟨(h c).1.trans (Cert.DxIdeal.Hand.arr5 m c), (h c).2⟩) (Cert.DxIdeal.Value.run_blocks (F := Ideal) m g),
      (θ_run Cert.DxReferenceIdeal.defs _ _).mono (fun _ h c => ⟨(h c).1.trans (Cert.DxReferenceIdeal.Hand.back_of m' c _ _ _ _ _ (hargs c)), (h c).2⟩) (Cert.DxReferenceIdeal.Value.run (F := Ideal) m' g')⟩

theorem frame_win : Cert.quiescent_WIn (hWIn := Cert.WIn.Gen.facts) := fun m g _ =>
  Cert.WIn.Gen.frame (F := Bits) m g

theorem frame_winIdeal : Cert.quiescent_WInIdeal (hWInIdeal := Cert.WInIdeal.Gen.facts) := fun m g _ =>
  Cert.WInIdeal.Gen.frame (F := Ideal) m g

theorem frame_winReferenceIdeal : Cert.quiescent_WInReferenceIdeal (hWInReferenceIdeal := Cert.WInReferenceIdeal.Gen.facts) := fun m g _ =>
  (θ_run Cert.WInReferenceIdeal.defs _ _).mono (fun r h => ⟨fun c => (h c).2,
      Idealize.ShloMosaic.sem_eq_zero_of_no_sems (by decide) r.2⟩)
    (Cert.WInReferenceIdeal.Value.run (F := Ideal) m g)

/-- Both programs end with the sum over all the frames, an entry at a time. -/
theorem agree_win : Cert.algebraic_WInIdeal_WInReferenceIdeal (hWInIdeal := Cert.WInIdeal.Gen.facts) (hWInReferenceIdeal := Cert.WInReferenceIdeal.Gen.facts) :=
  fun m g m' g' _ hargs =>
    ⟨fun c => Cert.WInIdeal.Hand.wgrad (Cert.WInIdeal.Hand.xs m c) (Cert.WInIdeal.Hand.gs m c),
      (θ_run Cert.WInIdeal.defs _ _).mono (fun _ h c => ⟨(h c).1.trans (Cert.WInIdeal.Hand.result_eq m c), (h c).2⟩) (Cert.WInIdeal.Value.run (F := Ideal) m g),
      (θ_run Cert.WInReferenceIdeal.defs _ _).mono (fun _ h c => ⟨(h c).1.trans (Cert.WInReferenceIdeal.Hand.term_of _ _ _ _ _ _ _ _ _ _ _ _ _ _ (hargs c)), (h c).2⟩) (Cert.WInReferenceIdeal.Value.run (F := Ideal) m' g')⟩

theorem frame_wout : Cert.quiescent_WOut (hWOut := Cert.WOut.Gen.facts) := fun m g _ =>
  Cert.WOut.Gen.frame (F := Bits) m g

theorem frame_woutIdeal : Cert.quiescent_WOutIdeal (hWOutIdeal := Cert.WOutIdeal.Gen.facts) := fun m g _ =>
  Cert.WOutIdeal.Gen.frame (F := Ideal) m g

theorem frame_woutReferenceIdeal : Cert.quiescent_WOutReferenceIdeal (hWOutReferenceIdeal := Cert.WOutReferenceIdeal.Gen.facts) := fun m g _ =>
  (θ_run Cert.WOutReferenceIdeal.defs _ _).mono (fun r h => ⟨fun c => (h c).2,
      Idealize.ShloMosaic.sem_eq_zero_of_no_sems (by decide) r.2⟩)
    (Cert.WOutReferenceIdeal.Value.run (F := Ideal) m g)

/-- Both programs end with the sum over all the frames, an entry at a time. -/
theorem agree_wout : Cert.algebraic_WOutIdeal_WOutReferenceIdeal (hWOutIdeal := Cert.WOutIdeal.Gen.facts) (hWOutReferenceIdeal := Cert.WOutReferenceIdeal.Gen.facts) :=
  fun m g m' g' _ hargs =>
    ⟨fun c => Cert.WOutIdeal.Hand.wgrad (Cert.WOutIdeal.Hand.m0 m c) (Cert.WOutIdeal.Hand.m1 m c) (Cert.WOutIdeal.Hand.dy m c),
      (θ_run Cert.WOutIdeal.defs _ _).mono (fun _ h c => ⟨(h c).1.trans (Cert.WOutIdeal.Hand.result_eq m c), (h c).2⟩) (Cert.WOutIdeal.Value.run (F := Ideal) m g),
      (θ_run Cert.WOutReferenceIdeal.defs _ _).mono (fun _ h c => ⟨(h c).1.trans (Cert.WOutReferenceIdeal.Hand.term_of _ _ _ _ _ _ (hargs c)), (h c).2⟩) (Cert.WOutReferenceIdeal.Value.run (F := Ideal) m' g')⟩

theorem frame_out : Cert.quiescent_Out (hOut := Cert.Out.Gen.facts) := fun m g _ =>
  Cert.Out.Gen.frame (F := Bits) m g

theorem frame_outIdeal : Cert.quiescent_OutIdeal (hOutIdeal := Cert.OutIdeal.Gen.facts) := fun m g _ =>
  Cert.OutIdeal.Gen.frame (F := Ideal) m g

theorem frame_outReferenceIdeal : Cert.quiescent_OutReferenceIdeal (hOutReferenceIdeal := Cert.OutReferenceIdeal.Gen.facts) := fun m g _ =>
  (θ_run Cert.OutReferenceIdeal.defs _ _).mono (fun r h => ⟨fun c => (h c).2.2.2,
      Idealize.ShloMosaic.sem_eq_zero_of_no_sems (by decide) r.2⟩)
    (Cert.OutReferenceIdeal.Value.run (F := Ideal) m g)

/-- Both programs end with the layer norm, the normalised rows and their inverse deviations, a row at a time. -/
theorem agree_out : Cert.algebraic_OutIdeal_OutReferenceIdeal (hOutIdeal := Cert.OutIdeal.Gen.facts) (hOutReferenceIdeal := Cert.OutReferenceIdeal.Gen.facts) :=
  fun m g m' g' _ hargs =>
    ⟨fun c => Cert.OutIdeal.Hand.allY (Cert.OutIdeal.Hand.m0 m c) (Cert.OutIdeal.Hand.m1 m c) (Cert.OutIdeal.Hand.xs m c) (Cert.OutIdeal.Hand.ws m c) (Cert.OutIdeal.Hand.gn m c) (Cert.OutIdeal.Hand.bs m c),
      fun c => Cert.OutIdeal.Hand.allH (Cert.OutIdeal.Hand.m0 m c) (Cert.OutIdeal.Hand.m1 m c) (Cert.OutIdeal.Hand.xs m c) (Cert.OutIdeal.Hand.ws m c),
      fun c => Cert.OutIdeal.Hand.allR (Cert.OutIdeal.Hand.m0 m c) (Cert.OutIdeal.Hand.m1 m c) (Cert.OutIdeal.Hand.xs m c) (Cert.OutIdeal.Hand.ws m c),
      (θ_run Cert.OutIdeal.defs _ _).mono (fun _ h c => ⟨(h c).1.trans (Cert.OutIdeal.Hand.arr6 m c), (h c).2.1.trans (Cert.OutIdeal.Hand.arr7 m c),
          (h c).2.2.1.trans (Cert.OutIdeal.Hand.arr8 m c), (h c).2.2.2⟩) (Cert.OutIdeal.Value.run_blocks (F := Ideal) m g),
      (θ_run Cert.OutReferenceIdeal.defs _ _).mono (fun _ h c => ⟨(h c).1.trans (Cert.OutReferenceIdeal.Hand.y_of _ _ _ _ m' c _ _ (hargs c)), (h c).2.1.trans (Cert.OutReferenceIdeal.Hand.hat_of _ _ _ _ m' c _ _ (hargs c)),
          (h c).2.2.1.trans (Cert.OutReferenceIdeal.Hand.rst_of _ _ _ _ m' c _ _ (hargs c)), (h c).2.2.2⟩) (Cert.OutReferenceIdeal.Value.run (F := Ideal) m' g')⟩

theorem frame_back : Cert.quiescent_Back (hBack := Cert.Back.Gen.facts) := fun m g _ =>
  Cert.Back.Gen.frame (F := Bits) m g

theorem frame_backIdeal : Cert.quiescent_BackIdeal (hBackIdeal := Cert.BackIdeal.Gen.facts) := fun m g _ =>
  Cert.BackIdeal.Gen.frame (F := Ideal) m g

theorem frame_backReferenceIdeal : Cert.quiescent_BackReferenceIdeal (hBackReferenceIdeal := Cert.BackReferenceIdeal.Gen.facts) := fun m g _ =>
  (θ_run Cert.BackReferenceIdeal.defs _ _).mono (fun r h => ⟨fun c => (h c).2.2,
      Idealize.ShloMosaic.sem_eq_zero_of_no_sems (by decide) r.2⟩)
    (Cert.BackReferenceIdeal.Value.run (F := Ideal) m g)

theorem frame_backIdeal_pre : Cert.quiescent_BackIdeal_pre_finite_back (hBackIdeal := Cert.BackIdeal.Gen.facts) (hPre_finite_back := Cert.Pre_finite_back.Hand.facts) :=
  fun m g _ => frame_backIdeal m g trivial

theorem frame_backReferenceIdeal_pre : Cert.quiescent_BackReferenceIdeal_pre_finite_back (hBackReferenceIdeal := Cert.BackReferenceIdeal.Gen.facts) (hPre_finite_back := Cert.Pre_finite_back.Hand.facts) :=
  fun m g _ => frame_backReferenceIdeal m g trivial

/-- Both programs end with the gradient at the layer norm's input, twice, an entry at a time. -/
theorem agree_back : Cert.algebraic_BackIdeal_BackReferenceIdeal_pre_finite_back (hBackIdeal := Cert.BackIdeal.Gen.facts) (hBackReferenceIdeal := Cert.BackReferenceIdeal.Gen.facts) (hPre_finite_back := Cert.Pre_finite_back.Hand.facts) :=
  fun m g m' g' hpre hargs =>
    ⟨fun c => Cert.BackIdeal.Hand.all m c, fun c => Cert.BackIdeal.Hand.all m c,
      (θ_run Cert.BackIdeal.defs _ _).mono (fun _ h c => ⟨(h c).1.trans (Cert.BackIdeal.Hand.arr8 m c), (h c).2.1.trans (Cert.BackIdeal.Hand.arr9 m c), (h c).2.2.2.2⟩)
        (Cert.BackIdeal.Value.run_blocks (F := Ideal) m g),
      (θ_run Cert.BackReferenceIdeal.defs _ _).mono (fun _ h c => ⟨(h c).1.trans (Cert.BackReferenceIdeal.Hand.grad_of _ _ _ _ _ _ _ m' c (hargs c) (hpre c)),
          (h c).2.1.trans (Cert.BackReferenceIdeal.Hand.low_of _ _ _ _ _ _ _ m' c (hargs c) (hpre c)), (h c).2.2⟩)
        (Cert.BackReferenceIdeal.Value.run (F := Ideal) m' g')⟩

theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Gate.Gen.facts, Cert.GateIdeal.Gen.facts, Cert.GateReferenceIdeal.Gen.facts,
    Cert.Ffn.Gen.facts, Cert.FfnIdeal.Gen.facts, Cert.FfnReferenceIdeal.Gen.facts,
    Cert.Norm.Gen.facts, Cert.NormIdeal.Gen.facts, Cert.NormReferenceIdeal.Gen.facts,
    Cert.Qkv.Gen.facts, Cert.QkvIdeal.Gen.facts, Cert.QkvReferenceIdeal.Gen.facts,
    Cert.Dx.Gen.facts, Cert.DxIdeal.Gen.facts, Cert.DxReferenceIdeal.Gen.facts,
    Cert.WIn.Gen.facts, Cert.WInIdeal.Gen.facts, Cert.WInReferenceIdeal.Gen.facts,
    Cert.WOut.Gen.facts, Cert.WOutIdeal.Gen.facts, Cert.WOutReferenceIdeal.Gen.facts,
    Cert.Out.Gen.facts, Cert.OutIdeal.Gen.facts, Cert.OutReferenceIdeal.Gen.facts,
    Cert.Back.Gen.facts, Cert.BackIdeal.Gen.facts, Cert.BackReferenceIdeal.Gen.facts,
    Cert.Pre_finite.Hand.facts, Cert.Pre_finite_gate.Hand.facts, Cert.Pre_finite_back.Hand.facts,
    frame_kernel, frame_kernelIdeal, frame_kernelIdeal_pre, frame_referenceIdeal, frame_referenceIdeal_pre,
    frame_up, frame_upIdeal, frame_upReferenceIdeal, frame_down, frame_downIdeal, frame_downReferenceIdeal,
    frame_gate, frame_gateIdeal, frame_gateIdeal_pre, frame_gateReferenceIdeal, frame_gateReferenceIdeal_pre, frame_ffn, frame_ffnIdeal, frame_ffnReferenceIdeal,
    frame_norm, frame_normIdeal, frame_normReferenceIdeal, frame_qkv, frame_qkvIdeal, frame_qkvReferenceIdeal, frame_dx, frame_dxIdeal, frame_dxReferenceIdeal,
    frame_win, frame_winIdeal, frame_winReferenceIdeal, frame_wout, frame_woutIdeal, frame_woutReferenceIdeal, frame_out, frame_outIdeal, frame_outReferenceIdeal,
    frame_back, frame_backIdeal, frame_backIdeal_pre, frame_backReferenceIdeal, frame_backReferenceIdeal_pre,
    IdealRules.named_const.statement Cert.KernelIdeal.κ "mask" .f32 0xF149F2CA#32 ⊥ rfl, agree,
    trivial, agree_up, trivial, agree_down, trivial, agree_gate, trivial, agree_ffn,
    trivial, agree_norm, trivial, agree_qkv, trivial, agree_dx,
    trivial, agree_win, trivial, agree_wout, trivial, agree_out, trivial, agree_back⟩

end Cert.Proof

end
